-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_and_scales_in_range [hPre_ids_and_scales_in_range : Cert.Pre_ids_and_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_scales_in_range [hPre_ids_and_scales_in_range : Cert.Pre_ids_and_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_and_scales_in_range [hKernelIdeal : Cert.KernelIdeal.Facts] [hPre_ids_and_scales_in_range : Cert.Pre_ids_and_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_and_scales_in_range [hReferenceIdeal : Cert.ReferenceIdeal.Facts] [hPre_ids_and_scales_in_range : Cert.Pre_ids_and_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_and_scales_in_range [hKernelIdeal : Cert.KernelIdeal.Facts] [hReferenceIdeal : Cert.ReferenceIdeal.Facts] [hPre_ids_and_scales_in_range : Cert.Pre_ids_and_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_and_scales_in_range : Cert.Pre_ids_and_scales_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_and_scales_in_range (hKernelIdeal := hKernelIdeal) (hPre_ids_and_scales_in_range := hPre_ids_and_scales_in_range)
    ∧ quiescent_ReferenceIdeal (hReferenceIdeal := hReferenceIdeal)
    ∧ quiescent_ReferenceIdeal_pre_ids_and_scales_in_range (hReferenceIdeal := hReferenceIdeal) (hPre_ids_and_scales_in_range := hPre_ids_and_scales_in_range)
    ∧ preserves_Kernel_KernelIdeal
    ∧ algebraic_KernelIdeal_ReferenceIdeal_pre_ids_and_scales_in_range (hKernelIdeal := hKernelIdeal) (hReferenceIdeal := hReferenceIdeal) (hPre_ids_and_scales_in_range := hPre_ids_and_scales_in_range)
-- ==== Pre_ids_and_scales_in_range.lean ====
abbrev S16x1x2048 : Shape := ⟨3, ![16, 1, 2048]⟩
abbrev S16x1x8 : Shape := ⟨3, ![16, 1, 8]⟩
abbrev S32x3072x64x16 : Shape := ⟨4, ![32, 3072, 64, 16]⟩
abbrev S32x3072x64 : Shape := ⟨3, ![32, 3072, 64]⟩
abbrev S32x2048x48x16 : Shape := ⟨4, ![32, 2048, 48, 16]⟩
abbrev S32x2048x48 : Shape := ⟨3, ![32, 2048, 48]⟩
abbrev S_ : Shape := ⟨0, ![]⟩

class Facts : Prop where
  natLt_8_32 : 8 < 32
  bcast_S_S16x1x8 : S_.BroadcastsInDim S16x1x8 (![] : Fin 0 → Fin S16x1x8.rank)
  reducesTo_S16x1x8_S_d0_1_2 : S16x1x8.ReducesTo [0, 1, 2] S_
  h_S_ : 0 < S_.numel
  bcast_S_S32x3072x64 : S_.BroadcastsInDim S32x3072x64 (![] : Fin 0 → Fin S32x3072x64.rank)
  reducesTo_S32x3072x64_S_d0_1_2 : S32x3072x64.ReducesTo [0, 1, 2] S_
  bcast_S_S32x2048x48 : S_.BroadcastsInDim S32x2048x48 (![] : Fin 0 → Fin S32x2048x48.rank)
  reducesTo_S32x2048x48_S_d0_1_2 : S32x2048x48.ReducesTo [0, 1, 2] S_

variable [Facts]

def fn_part1 {F : FTy → Type} [FloatOps F] (main_v1 : IVec S32x2048x48 32) (main_v14 : IVec S_ 1) (main_v16 : IVec S32x2048x48 1) : IVec S_ 1 :=
  let main_c_6 : IVec S_ 32 := constantI S_ 32 252#32
  let main_v17 : IVec S32x2048x48 32 := broadcastInDim S32x2048x48 ![] bcast_S_S32x2048x48 main_c_6
  let main_v18 : IVec S32x2048x48 1 := cmpi .sle main_v1 main_v17
  let main_v19 : IVec S32x2048x48 1 := andi main_v16 main_v18
  let main_c_7 : IVec S_ 1 := constantI S_ 1 1#1
  let main_v20 : IVec S_ 1 := (fun x v => Host.reduce IntOp.andi x v reducesTo_S32x2048x48_S_d0_1_2 h_S_) main_v19 main_c_7
  let main_v21 : IVec S_ 1 := andi main_v14 main_v20
  main_v21

def fn {F : FTy → Type} [FloatOps F] (main_arg0 : FVec F S16x1x2048 .bf16) (main_arg1 : IVec S16x1x8 32) (main_arg2 : FVec F S16x1x8 .f32) (main_arg3 : IVec S32x3072x64x16 8) (main_arg4 : IVec S32x3072x64 8) (main_arg5 : IVec S32x2048x48x16 8) (main_arg6 : IVec S32x2048x48 8) : IVec S_ 1 :=
  let main_v0 : IVec S32x3072x64 32 := (extui 32 · natLt_8_32) main_arg4
  let main_v1 : IVec S32x2048x48 32 := (extui 32 · natLt_8_32) main_arg6
  let main_c : IVec S_ 32 := constantI S_ 32 0#32
  let main_v2 : IVec S16x1x8 32 := broadcastInDim S16x1x8 ![] bcast_S_S16x1x8 main_c
  let main_v3 : IVec S16x1x8 1 := cmpi .sge main_arg1 main_v2
  let main_c_0 : IVec S_ 32 := constantI S_ 32 32#32
  let main_v4 : IVec S16x1x8 32 := broadcastInDim S16x1x8 ![] bcast_S_S16x1x8 main_c_0
  let main_v5 : IVec S16x1x8 1 := cmpi .slt main_arg1 main_v4
  let main_v6 : IVec S16x1x8 1 := andi main_v3 main_v5
  let main_c_1 : IVec S_ 1 := constantI S_ 1 1#1
  let main_v7 : IVec S_ 1 := (fun x v => Host.reduce IntOp.andi x v reducesTo_S16x1x8_S_d0_1_2 h_S_) main_v6 main_c_1
  let main_c_2 : IVec S_ 32 := constantI S_ 32 2#32
  let main_v8 : IVec S32x3072x64 32 := broadcastInDim S32x3072x64 ![] bcast_S_S32x3072x64 main_c_2
  let main_v9 : IVec S32x3072x64 1 := cmpi .sge main_v0 main_v8
  let main_c_3 : IVec S_ 32 := constantI S_ 32 252#32
  let main_v10 : IVec S32x3072x64 32 := broadcastInDim S32x3072x64 ![] bcast_S_S32x3072x64 main_c_3
  let main_v11 : IVec S32x3072x64 1 := cmpi .sle main_v0 main_v10
  let main_v12 : IVec S32x3072x64 1 := andi main_v9 main_v11
  let main_c_4 : IVec S_ 1 := constantI S_ 1 1#1
  let main_v13 : IVec S_ 1 := (fun x v => Host.reduce IntOp.andi x v reducesTo_S32x3072x64_S_d0_1_2 h_S_) main_v12 main_c_4
  let main_v14 : IVec S_ 1 := andi main_v7 main_v13
  let main_c_5 : IVec S_ 32 := constantI S_ 32 2#32
  let main_v15 : IVec S32x2048x48 32 := broadcastInDim S32x2048x48 ![] bcast_S_S32x2048x48 main_c_5
  let main_v16 : IVec S32x2048x48 1 := cmpi .sge main_v1 main_v15
  fn_part1 (F := F) main_v1 main_v14 main_v16
-- ==== Pre_ids_in_range.lean ====
abbrev S16x1x2048 : Shape := ⟨3, ![16, 1, 2048]⟩
abbrev S16x1x8 : Shape := ⟨3, ![16, 1, 8]⟩
abbrev S32x3072x64x16 : Shape := ⟨4, ![32, 3072, 64, 16]⟩
abbrev S32x3072x64 : Shape := ⟨3, ![32, 3072, 64]⟩
abbrev S32x2048x48x16 : Shape := ⟨4, ![32, 2048, 48, 16]⟩
abbrev S32x2048x48 : Shape := ⟨3, ![32, 2048, 48]⟩
abbrev S_ : Shape := ⟨0, ![]⟩

class Facts : Prop where
  bcast_S_S16x1x8 : S_.BroadcastsInDim S16x1x8 (![] : Fin 0 → Fin S16x1x8.rank)
  reducesTo_S16x1x8_S_d0_1_2 : S16x1x8.ReducesTo [0, 1, 2] S_
  h_S_ : 0 < S_.numel

variable [Facts]

def fn {F : FTy → Type} [FloatOps F] (main_arg0 : FVec F S16x1x2048 .bf16) (main_arg1 : IVec S16x1x8 32) (main_arg2 : FVec F S16x1x8 .f32) (main_arg3 : IVec S32x3072x64x16 8) (main_arg4 : IVec S32x3072x64 8) (main_arg5 : IVec S32x2048x48x16 8) (main_arg6 : IVec S32x2048x48 8) : IVec S_ 1 :=
  let main_c : IVec S_ 32 := constantI S_ 32 0#32
  let main_v0 : IVec S16x1x8 32 := broadcastInDim S16x1x8 ![] bcast_S_S16x1x8 main_c
  let main_v1 : IVec S16x1x8 1 := cmpi .sge main_arg1 main_v0
  let main_c_0 : IVec S_ 32 := constantI S_ 32 32#32
  let main_v2 : IVec S16x1x8 32 := broadcastInDim S16x1x8 ![] bcast_S_S16x1x8 main_c_0
  let main_v3 : IVec S16x1x8 1 := cmpi .slt main_arg1 main_v2
  let main_v4 : IVec S16x1x8 1 := andi main_v1 main_v3
  let main_c_1 : IVec S_ 1 := constantI S_ 1 1#1
  let main_v5 : IVec S_ 1 := (fun x v => Host.reduce IntOp.andi x v reducesTo_S16x1x8_S_d0_1_2 h_S_) main_v4 main_c_1
  main_v5
-- ==== Kernel.lean ====
abbrev S16x1x2048 : Shape := ⟨3, ![16, 1, 2048]⟩
abbrev S16x1x8 : Shape := ⟨3, ![16, 1, 8]⟩
abbrev S32x3072x64x16 : Shape := ⟨4, ![32, 3072, 64, 16]⟩
abbrev S32x3072x64 : Shape := ⟨3, ![32, 3072, 64]⟩
abbrev S32x2048x48x16 : Shape := ⟨4, ![32, 2048, 48, 16]⟩
abbrev S32x2048x48 : Shape := ⟨3, ![32, 2048, 48]⟩
abbrev S16x2048 : Shape := ⟨2, ![16, 2048]⟩
abbrev S16x8 : Shape := ⟨2, ![16, 8]⟩
abbrev S8x16 : Shape := ⟨2, ![8, 16]⟩
abbrev S32x64x16x3072 : Shape := ⟨4, ![32, 64, 16, 3072]⟩
abbrev S32x64x3072 : Shape := ⟨3, ![32, 64, 3072]⟩
abbrev S32x48x16x2048 : Shape := ⟨4, ![32, 48, 16, 2048]⟩
abbrev S32x48x2048 : Shape := ⟨3, ![32, 48, 2048]⟩
abbrev S2x24x64x16x128 : Shape := ⟨5, ![2, 24, 64, 16, 128]⟩
abbrev S2x64x3072 : Shape := ⟨3, ![2, 64, 3072]⟩
abbrev S2x16x48x16x128 : Shape := ⟨5, ![2, 16, 48, 16, 128]⟩
abbrev S2x48x2048 : Shape := ⟨3, ![2, 48, 2048]⟩
abbrev S64x3072 : Shape := ⟨2, ![64, 3072]⟩
abbrev S48x2048 : Shape := ⟨2, ![48, 2048]⟩
abbrev S33 : Shape := ⟨1, ![33]⟩
abbrev S4x2 : Shape := ⟨2, ![4, 2]⟩
abbrev S1x1 : Shape := ⟨2, ![1, 1]⟩
abbrev S_ : Shape := ⟨0, ![]⟩
abbrev S1x1x64x16x128 : Shape := ⟨5, ![1, 1, 64, 16, 128]⟩
abbrev S64x16x128 : Shape := ⟨3, ![64, 16, 128]⟩
abbrev S1x64x16x128 : Shape := ⟨4, ![1, 64, 16, 128]⟩
abbrev S1x64x3072 : Shape := ⟨3, ![1, 64, 3072]⟩
abbrev S1x1x48x16x128 : Shape := ⟨5, ![1, 1, 48, 16, 128]⟩
abbrev S48x16x128 : Shape := ⟨3, ![48, 16, 128]⟩
abbrev S1x48x16x128 : Shape := ⟨4, ![1, 48, 16, 128]⟩
abbrev S1x48x2048 : Shape := ⟨3, ![1, 48, 2048]⟩
abbrev S1 : Shape := ⟨1, ![1]⟩
abbrev S1x64x256 : Shape := ⟨3, ![1, 64, 256]⟩
abbrev S64x256 : Shape := ⟨2, ![64, 256]⟩
abbrev S1x48x256 : Shape := ⟨3, ![1, 48, 256]⟩
abbrev S48x256 : Shape := ⟨2, ![48, 256]⟩
abbrev S1024x128 : Shape := ⟨2, ![1024, 128]⟩
abbrev S1024x256 : Shape := ⟨2, ![1024, 256]⟩
abbrev S2048x256 : Shape := ⟨2, ![2048, 256]⟩
abbrev S64x1x256 : Shape := ⟨3, ![64, 1, 256]⟩
abbrev S64x16x256 : Shape := ⟨3, ![64, 16, 256]⟩
abbrev S16x256 : Shape := ⟨2, ![16, 256]⟩
abbrev S16x1536 : Shape := ⟨2, ![16, 1536]⟩
abbrev S16 : Shape := ⟨1, ![16]⟩
abbrev S16x1 : Shape := ⟨2, ![16, 1]⟩
abbrev S768x128 : Shape := ⟨2, ![768, 128]⟩
abbrev S768x256 : Shape := ⟨2, ![768, 256]⟩
abbrev S1536x256 : Shape := ⟨2, ![1536, 256]⟩
abbrev S48x1x256 : Shape := ⟨3, ![48, 1, 256]⟩
abbrev S48x16x256 : Shape := ⟨3, ![48, 16, 256]⟩

abbrev nBuf : Space → Nat
  | .hbm => 18
  | .vmem => 11
  | .smem => 2
  | _ => 0

abbrev bufTy : (tb : Table) → Fin (tcTables nBuf tb) → BufTy
  | .hbm, ⟨0, _⟩ => ⟨S16x1x2048, .bf16⟩
  | .hbm, ⟨1, _⟩ => ⟨S16x1x8, .i32⟩
  | .hbm, ⟨2, _⟩ => ⟨S16x1x8, .f32⟩
  | .hbm, ⟨3, _⟩ => ⟨S32x3072x64x16, .i8⟩
  | .hbm, ⟨4, _⟩ => ⟨S32x3072x64, .i8⟩
  | .hbm, ⟨5, _⟩ => ⟨S32x2048x48x16, .i8⟩
  | .hbm, ⟨6, _⟩ => ⟨S32x2048x48, .i8⟩
  | .hbm, ⟨7, _⟩ => ⟨S16x2048, .bf16⟩
  | .hbm, ⟨8, _⟩ => ⟨S16x8, .i32⟩
  | .hbm, ⟨9, _⟩ => ⟨S8x16, .i32⟩
  | .hbm, ⟨10, _⟩ => ⟨S16x8, .f32⟩
  | .hbm, ⟨11, _⟩ => ⟨S8x16, .f32⟩
  | .hbm, ⟨12, _⟩ => ⟨S32x64x16x3072, .i8⟩
  | .hbm, ⟨13, _⟩ => ⟨S32x64x3072, .i8⟩
  | .hbm, ⟨14, _⟩ => ⟨S32x48x16x2048, .i8⟩
  | .hbm, ⟨15, _⟩ => ⟨S32x48x2048, .i8⟩
  | .hbm, ⟨16, _⟩ => ⟨S16x2048, .bf16⟩
  | .hbm, ⟨17, _⟩ => ⟨S16x1x2048, .bf16⟩
  | .local _ .vmem, ⟨0, _⟩ => ⟨S16x2048, .bf16⟩
  | .local _ .vmem, ⟨1, _⟩ => ⟨S8x16, .i32⟩
  | .local _ .vmem, ⟨2, _⟩ => ⟨S8x16, .f32⟩
  | .local _ .vmem, ⟨3, _⟩ => ⟨S16x2048, .bf16⟩
  | .local _ .vmem, ⟨4, _⟩ => ⟨S2x24x64x16x128, .i8⟩
  | .local _ .vmem, ⟨5, _⟩ => ⟨S2x64x3072, .i8⟩
  | .local _ .vmem, ⟨6, _⟩ => ⟨S2x16x48x16x128, .i8⟩
  | .local _ .vmem, ⟨7, _⟩ => ⟨S2x48x2048, .i8⟩
  | .local _ .vmem, ⟨8, _⟩ => ⟨S64x3072, .i32⟩
  | .local _ .vmem, ⟨9, _⟩ => ⟨S48x2048, .i32⟩
  | .local _ .vmem, ⟨10, _⟩ => ⟨S16x2048, .f32⟩
  | .local _ .smem, ⟨0, _⟩ => ⟨S8x16, .i32⟩
  | .local _ .smem, ⟨1, _⟩ => ⟨S33, .i32⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_stg1_0 : Ref sig .tc := ⟨.smem, 0, rfl⟩
abbrev cc0_scratch7 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c24_i32 : BitVec 32 := 24#32
  let v1 : BitVec 32 := Scalar.addi c0_i32_2 c24_i32
  let c1_i32 : BitVec 32 := 1#32
  ⟨c0_i32_2, v1, c1_i32⟩
def k0_mult1 (k0_t1 : Fin k0_t1_loop.trips) : BitVec 32 :=
  let c0_i32_2 : BitVec 32 := 0#32
  let c1_i32 : BitVec 32 := 1#32
  let arg18 : BitVec 32 := Scf.iv c0_i32_2 c1_i32 k0_t1
  let c128_i32 : BitVec 32 := 128#32
  let v43 : BitVec 32 := Scalar.muli arg18 c128_i32
  v43
def k0_off1 (k0_t1 : Fin k0_t1_loop.trips) : Fin 5 → Nat :=
  let c0_i32_46 : BitVec 32 := 0#32
  let c0_i32_2 : BitVec 32 := 0#32
  let c1_i32 : BitVec 32 := 1#32
  let arg18 : BitVec 32 := Scf.iv c0_i32_2 c1_i32 k0_t1
  let c0_i32_47 : BitVec 32 := 0#32
  let c0_i32_48 : BitVec 32 := 0#32
  let c0_i32_49 : BitVec 32 := 0#32
  ![0, arg18.toNat, 0, 0, 0]
def k0_off2 (v0 : BitVec 32) (k0_t1 : Fin k0_t1_loop.trips) : Fin 4 → Nat :=
  let c0_i32_50 : BitVec 32 := 0#32
  let c0_i32_51 : BitVec 32 := 0#32
  let c0_i32_2 : BitVec 32 := 0#32
  let c1_i32 : BitVec 32 := 1#32
  let arg18 : BitVec 32 := Scf.iv c0_i32_2 c1_i32 k0_t1
  let c128_i32 : BitVec 32 := 128#32
  let v43 : BitVec 32 := Scalar.muli arg18 c128_i32
  let v44 : BitVec 32 := v43
  ![v0.toNat, 0, 0, v44.toNat]

def k0_off3 (v0 : BitVec 32) : Fin 3 → Nat :=
  let c0_i32_9 : BitVec 32 := 0#32
  let c0_i32_10 : BitVec 32 := 0#32
  ![v0.toNat, 0, 0]
@[reducible] def k0_t2_loop : Scf.Loop 32 :=
  let c0_i32_12 : BitVec 32 := 0#32
  let c16_i32 : BitVec 32 := 16#32
  let v8 : BitVec 32 := Scalar.addi c0_i32_12 c16_i32
  let c1_i32_13 : BitVec 32 := 1#32
  ⟨c0_i32_12, v8, c1_i32_13⟩
def k0_mult2 (k0_t2 : Fin k0_t2_loop.trips) : BitVec 32 :=
  let c0_i32_12 : BitVec 32 := 0#32
  let c1_i32_13 : BitVec 32 := 1#32
  let arg18 : BitVec 32 := Scf.iv c0_i32_12 c1_i32_13 k0_t2
  let c128_i32 : BitVec 32 := 128#32
  let v43 : BitVec 32 := Scalar.muli arg18 c128_i32
  v43
def k0_off4 (k0_t2 : Fin k0_t2_loop.trips) : Fin 5 → Nat :=
  let c0_i32_46 : BitVec 32 := 0#32
  let c0_i32_12 : BitVec 32 := 0#32
  let c1_i32_13 : BitVec 32 := 1#32
  let arg18 : BitVec 32 := Scf.iv c0_i32_12 c1_i32_13 k0_t2
  let c0_i32_47 : BitVec 32 := 0#32
  let c0_i32_48 : BitVec 32 := 0#32
  let c0_i32_49 : BitVec 32 := 0#32
  ![0, arg18.toNat, 0, 0, 0]
def k0_off5 (v0 : BitVec 32) (k0_t2 : Fin k0_t2_loop.trips) : Fin 4 → Nat :=
  let c0_i32_50 : BitVec 32 := 0#32
  let c0_i32_51 : BitVec 32 := 0#32
  let c0_i32_12 : BitVec 32 := 0#32
  let c1_i32_13 : BitVec 32 := 1#32
  let arg18 : BitVec 32 := Scf.iv c0_i32_12 c1_i32_13 k0_t2
  let c128_i32 : BitVec 32 := 128#32
  let v43 : BitVec 32 := Scalar.muli arg18 c128_i32
  let v44 : BitVec 32 := v43
  ![v0.toNat, 0, 0, v44.toNat]
def k0_off6 (v0 : BitVec 32) : Fin 3 → Nat :=
  let c0_i32_19 : BitVec 32 := 0#32
  let c0_i32_20 : BitVec 32 := 0#32
  ![v0.toNat, 0, 0]

def k0_chk1 (v0 : BitVec 32) : Prop :=
  (∀ k0_t1 : Fin k0_t1_loop.trips, ∀ a, (k0_off2 v0 k0_t1) a + S1x64x16x128.size a ≤ S32x64x16x3072.size a) ∧
  (∀ k0_t1 : Fin k0_t1_loop.trips, ∀ (hinb : ∀ a, (k0_off2 v0 k0_t1) a + S1x64x16x128.size a ≤ S32x64x16x3072.size a), (Rect.unit (s := S32x64x16x3072) (k0_off2 v0 k0_t1) S1x64x16x128.size hinb).WholeWords (EltTy.packing .i8)) ∧
  (∀ a, (k0_off3 v0) a + S1x64x3072.size a ≤ S32x64x3072.size a) ∧
  (∀ (hinb : ∀ a, (k0_off3 v0) a + S1x64x3072.size a ≤ S32x64x3072.size a), (Rect.unit (s := S32x64x3072) (k0_off3 v0) S1x64x3072.size hinb).WholeWords (EltTy.packing .i8)) ∧
  (∀ k0_t2 : Fin k0_t2_loop.trips, ∀ a, (k0_off5 v0 k0_t2) a + S1x48x16x128.size a ≤ S32x48x16x2048.size a) ∧
  (∀ k0_t2 : Fin k0_t2_loop.trips, ∀ (hinb : ∀ a, (k0_off5 v0 k0_t2) a + S1x48x16x128.size a ≤ S32x48x16x2048.size a), (Rect.unit (s := S32x48x16x2048) (k0_off5 v0 k0_t2) S1x48x16x128.size hinb).WholeWords (EltTy.packing .i8)) ∧
  (∀ a, (k0_off6 v0) a + S1x48x2048.size a ≤ S32x48x2048.size a) ∧
  (∀ (hinb : ∀ a, (k0_off6 v0) a + S1x48x2048.size a ≤ S32x48x2048.size a), (Rect.unit (s := S32x48x2048) (k0_off6 v0) S1x48x2048.size hinb).WholeWords (EltTy.packing .i8))
theorem k0_off2_inb : ∀ (v0 : BitVec 32) (k0_hw1 : k0_chk1 v0) (k0_t1 : Fin k0_t1_loop.trips), ∀ a, (k0_off2 v0 k0_t1) a + S1x64x16x128.size a ≤ S32x64x16x3072.size a := fun v0 k0_hw1 k0_t1 => k0_hw1.1 k0_t1
theorem k0_off2_wordsi8 : ∀ (v0 : BitVec 32) (k0_hw1 : k0_chk1 v0) (k0_t1 : Fin k0_t1_loop.trips), (Rect.unit (s := S32x64x16x3072) (k0_off2 v0 k0_t1) S1x64x16x128.size (k0_off2_inb v0 k0_hw1 k0_t1)).WholeWords (EltTy.packing .i8) := fun v0 k0_hw1 k0_t1 => k0_hw1.2.1 k0_t1 (k0_off2_inb v0 k0_hw1 k0_t1)
theorem k0_off3_inb : ∀ (v0 : BitVec 32) (k0_hw1 : k0_chk1 v0), ∀ a, (k0_off3 v0) a + S1x64x3072.size a ≤ S32x64x3072.size a := fun v0 k0_hw1 => k0_hw1.2.2.1
theorem k0_off3_wordsi8 : ∀ (v0 : BitVec 32) (k0_hw1 : k0_chk1 v0), (Rect.unit (s := S32x64x3072) (k0_off3 v0) S1x64x3072.size (k0_off3_inb v0 k0_hw1)).WholeWords (EltTy.packing .i8) := fun v0 k0_hw1 => k0_hw1.2.2.2.1 (k0_off3_inb v0 k0_hw1)
theorem k0_off5_inb : ∀ (v0 : BitVec 32) (k0_hw1 : k0_chk1 v0) (k0_t2 : Fin k0_t2_loop.trips), ∀ a, (k0_off5 v0 k0_t2) a + S1x48x16x128.size a ≤ S32x48x16x2048.size a := fun v0 k0_hw1 k0_t2 => k0_hw1.2.2.2.2.1 k0_t2
theorem k0_off5_wordsi8 : ∀ (v0 : BitVec 32) (k0_hw1 : k0_chk1 v0) (k0_t2 : Fin k0_t2_loop.trips), (Rect.unit (s := S32x48x16x2048) (k0_off5 v0 k0_t2) S1x48x16x128.size (k0_off5_inb v0 k0_hw1 k0_t2)).WholeWords (EltTy.packing .i8) := fun v0 k0_hw1 k0_t2 => k0_hw1.2.2.2.2.2.1 k0_t2 (k0_off5_inb v0 k0_hw1 k0_t2)
theorem k0_off6_inb : ∀ (v0 : BitVec 32) (k0_hw1 : k0_chk1 v0), ∀ a, (k0_off6 v0) a + S1x48x2048.size a ≤ S32x48x2048.size a := fun v0 k0_hw1 => k0_hw1.2.2.2.2.2.2.1
theorem k0_off6_wordsi8 : ∀ (v0 : BitVec 32) (k0_hw1 : k0_chk1 v0), (Rect.unit (s := S32x48x2048) (k0_off6 v0) S1x48x2048.size (k0_off6_inb v0 k0_hw1)).WholeWords (EltTy.packing .i8) := fun v0 k0_hw1 => k0_hw1.2.2.2.2.2.2.2 (k0_off6_inb v0 k0_hw1)

@[reducible] def k0_t3_loop : Scf.Loop 32 :=
  let c0_i32_22 : BitVec 32 := 0#32
  let c8_i32 : BitVec 32 := 8#32
  let v15 : BitVec 32 := Scalar.addi c0_i32_22 c8_i32
  let c1_i32_23 : BitVec 32 := 1#32
  ⟨c0_i32_22, v15, c1_i32_23⟩
@[reducible] def k0_t4_loop : Scf.Loop 32 :=
  let c0_i32_46 : BitVec 32 := 0#32
  let c16_i32_47 : BitVec 32 := 16#32
  let v43 : BitVec 32 := Scalar.addi c0_i32_46 c16_i32_47
  let c1_i32_48 : BitVec 32 := 1#32
  ⟨c0_i32_46, v43, c1_i32_48⟩
def k0_off7 (k0_t3 : Fin k0_t3_loop.trips) (k0_t4 : Fin k0_t4_loop.trips) : Fin 2 → Nat :=
  let c0_i32_22 : BitVec 32 := 0#32
  let c1_i32_23 : BitVec 32 := 1#32
  let arg18 : BitVec 32 := Scf.iv c0_i32_22 c1_i32_23 k0_t3
  let v45 : Index := Scalar.indexCast arg18
  let c0_i32_46 : BitVec 32 := 0#32
  let c1_i32_48 : BitVec 32 := 1#32
  let arg20 : BitVec 32 := Scf.iv c0_i32_46 c1_i32_48 k0_t4
  let v46 : Index := Scalar.indexCast arg20
  ![v45.toNat, v46.toNat]
@[reducible] def k0_t5_loop : Scf.Loop 32 :=
  let c0_i32_28 : BitVec 32 := 0#32
  let c32_i32 : BitVec 32 := 32#32
  let v21 : BitVec 32 := Scalar.addi c0_i32_28 c32_i32
  let c1_i32_29 : BitVec 32 := 1#32
  ⟨c0_i32_28, v21, c1_i32_29⟩
def k0_off8 (arg19 : BitVec 32) : Fin 1 → Nat :=
  let v43 : Index := Scalar.indexCast arg19
  ![v43.toNat]

def k0_chk2 (arg19 : BitVec 32) : Prop :=
  (∀ a, (k0_off8 arg19) a + S1.size a ≤ S33.size a)
theorem k0_off8_inb : ∀ (arg19 : BitVec 32) (k0_hw2 : k0_chk2 arg19), ∀ a, (k0_off8 arg19) a + S1.size a ≤ S33.size a := fun arg19 k0_hw2 => k0_hw2

@[reducible] def k0_t6_loop (v22 : BitVec 32) : Scf.Loop 32 :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_40 : BitVec 32 := 1#32
  ⟨c0_i32_37, v37, c1_i32_40⟩

def k0_off9 (v22 : BitVec 32) (k0_t6 : Fin (k0_t6_loop v22).trips) : Fin 1 → Nat :=
  let c0_i32_37 : BitVec 32 := 0#32
  let c1_i32_40 : BitVec 32 := 1#32
  let arg18 : BitVec 32 := Scf.iv c0_i32_37 c1_i32_40 k0_t6
  let v44 : Index := Scalar.indexCast arg18
  ![v44.toNat]
@[reducible] def k0_t7_loop : Scf.Loop 32 :=
  let c0_i32_48 : BitVec 32 := 0#32
  let c24_i32_49 : BitVec 32 := 24#32
  let v46 : BitVec 32 := Scalar.addi c0_i32_48 c24_i32_49
  let c1_i32_50 : BitVec 32 := 1#32
  ⟨c0_i32_48, v46, c1_i32_50⟩
def k0_mult3 (k0_t7 : Fin k0_t7_loop.trips) : BitVec 32 :=
  let c0_i32_48 : BitVec 32 := 0#32
  let c1_i32_50 : BitVec 32 := 1#32
  let arg20 : BitVec 32 := Scf.iv c0_i32_48 c1_i32_50 k0_t7
  let c128_i32 : BitVec 32 := 128#32
  let v1592 : BitVec 32 := Scalar.muli arg20 c128_i32
  v1592
def k0_off10 (v22 : BitVec 32) (k0_t6 : Fin (k0_t6_loop v22).trips) : Fin 2 → Nat :=
  let c0_i32_47 : BitVec 32 := 0#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  ![0, v43.toNat]
def k0_off11 (v22 : BitVec 32) (k0_t6 : Fin (k0_t6_loop v22).trips) (k0_t7 : Fin k0_t7_loop.trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let c0_i32_48 : BitVec 32 := 0#32
  let c1_i32_50 : BitVec 32 := 1#32
  let arg20 : BitVec 32 := Scf.iv c0_i32_48 c1_i32_50 k0_t7
  let c0_i32_757 : BitVec 32 := 0#32
  let c0_i32_758 : BitVec 32 := 0#32
  let c0_i32_759 : BitVec 32 := 0#32
  ![v43.toNat, arg20.toNat, 0, 0, 0]
def k0_off12 (v45 : BitVec 32) (k0_t7 : Fin k0_t7_loop.trips) : Fin 4 → Nat :=
  let c0_i32_760 : BitVec 32 := 0#32
  let c0_i32_761 : BitVec 32 := 0#32
  let c0_i32_48 : BitVec 32 := 0#32
  let c1_i32_50 : BitVec 32 := 1#32
  let arg20 : BitVec 32 := Scf.iv c0_i32_48 c1_i32_50 k0_t7
  let c128_i32 : BitVec 32 := 128#32
  let v1592 : BitVec 32 := Scalar.muli arg20 c128_i32
  let v1593 : BitVec 32 := v1592
  ![v45.toNat, 0, 0, v1593.toNat]

def k0_off13 (v22 : BitVec 32) (k0_t6 : Fin (k0_t6_loop v22).trips) : Fin 2 → Nat :=
  let c1_i32_52 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  ![1, v43.toNat]
def k0_off14 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let c0_i32_53 : BitVec 32 := 0#32
  let c0_i32_54 : BitVec 32 := 0#32
  ![v43.toNat, 0, 0]
def k0_off15 (v45 : BitVec 32) : Fin 3 → Nat :=
  let c0_i32_55 : BitVec 32 := 0#32
  let c0_i32_56 : BitVec 32 := 0#32
  ![v45.toNat, 0, 0]
@[reducible] def k0_t8_loop : Scf.Loop 32 :=
  let c0_i32_58 : BitVec 32 := 0#32
  let c16_i32_59 : BitVec 32 := 16#32
  let v53 : BitVec 32 := Scalar.addi c0_i32_58 c16_i32_59
  let c1_i32_60 : BitVec 32 := 1#32
  ⟨c0_i32_58, v53, c1_i32_60⟩
def k0_mult4 (k0_t8 : Fin k0_t8_loop.trips) : BitVec 32 :=
  let c0_i32_58 : BitVec 32 := 0#32
  let c1_i32_60 : BitVec 32 := 1#32
  let arg20 : BitVec 32 := Scf.iv c0_i32_58 c1_i32_60 k0_t8
  let c128_i32 : BitVec 32 := 128#32
  let v1592 : BitVec 32 := Scalar.muli arg20 c128_i32
  v1592
def k0_off16 (v22 : BitVec 32) (k0_t6 : Fin (k0_t6_loop v22).trips) : Fin 2 → Nat :=
  let c2_i32_57 : BitVec 32 := 2#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  ![2, v43.toNat]
def k0_off17 (v22 : BitVec 32) (k0_t6 : Fin (k0_t6_loop v22).trips) (k0_t8 : Fin k0_t8_loop.trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let c0_i32_58 : BitVec 32 := 0#32
  let c1_i32_60 : BitVec 32 := 1#32
  let arg20 : BitVec 32 := Scf.iv c0_i32_58 c1_i32_60 k0_t8
  let c0_i32_757 : BitVec 32 := 0#32
  let c0_i32_758 : BitVec 32 := 0#32
  let c0_i32_759 : BitVec 32 := 0#32
  ![v43.toNat, arg20.toNat, 0, 0, 0]
def k0_off18 (v45 : BitVec 32) (k0_t8 : Fin k0_t8_loop.trips) : Fin 4 → Nat :=
  let c0_i32_760 : BitVec 32 := 0#32
  let c0_i32_761 : BitVec 32 := 0#32
  let c0_i32_58 : BitVec 32 := 0#32
  let c1_i32_60 : BitVec 32 := 1#32
  let arg20 : BitVec 32 := Scf.iv c0_i32_58 c1_i32_60 k0_t8
  let c128_i32 : BitVec 32 := 128#32
  let v1592 : BitVec 32 := Scalar.muli arg20 c128_i32
  let v1593 : BitVec 32 := v1592
  ![v45.toNat, 0, 0, v1593.toNat]
def k0_off19 (v22 : BitVec 32) (k0_t6 : Fin (k0_t6_loop v22).trips) : Fin 2 → Nat :=
  let c3_i32_62 : BitVec 32 := 3#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  ![3, v43.toNat]
def k0_off20 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let c0_i32_63 : BitVec 32 := 0#32
  let c0_i32_64 : BitVec 32 := 0#32
  ![v43.toNat, 0, 0]
def k0_off21 (v45 : BitVec 32) : Fin 3 → Nat :=
  let c0_i32_65 : BitVec 32 := 0#32
  let c0_i32_66 : BitVec 32 := 0#32
  ![v45.toNat, 0, 0]

def k0_chk4 (v45 : BitVec 32) : Prop :=
  (∀ k0_t7 : Fin k0_t7_loop.trips, ∀ a, (k0_off12 v45 k0_t7) a + S1x64x16x128.size a ≤ S32x64x16x3072.size a) ∧
  (∀ k0_t7 : Fin k0_t7_loop.trips, ∀ (hinb : ∀ a, (k0_off12 v45 k0_t7) a + S1x64x16x128.size a ≤ S32x64x16x3072.size a), (Rect.unit (s := S32x64x16x3072) (k0_off12 v45 k0_t7) S1x64x16x128.size hinb).WholeWords (EltTy.packing .i8)) ∧
  (∀ a, (k0_off15 v45) a + S1x64x3072.size a ≤ S32x64x3072.size a) ∧
  (∀ (hinb : ∀ a, (k0_off15 v45) a + S1x64x3072.size a ≤ S32x64x3072.size a), (Rect.unit (s := S32x64x3072) (k0_off15 v45) S1x64x3072.size hinb).WholeWords (EltTy.packing .i8)) ∧
  (∀ k0_t8 : Fin k0_t8_loop.trips, ∀ a, (k0_off18 v45 k0_t8) a + S1x48x16x128.size a ≤ S32x48x16x2048.size a) ∧
  (∀ k0_t8 : Fin k0_t8_loop.trips, ∀ (hinb : ∀ a, (k0_off18 v45 k0_t8) a + S1x48x16x128.size a ≤ S32x48x16x2048.size a), (Rect.unit (s := S32x48x16x2048) (k0_off18 v45 k0_t8) S1x48x16x128.size hinb).WholeWords (EltTy.packing .i8)) ∧
  (∀ a, (k0_off21 v45) a + S1x48x2048.size a ≤ S32x48x2048.size a) ∧
  (∀ (hinb : ∀ a, (k0_off21 v45) a + S1x48x2048.size a ≤ S32x48x2048.size a), (Rect.unit (s := S32x48x2048) (k0_off21 v45) S1x48x2048.size hinb).WholeWords (EltTy.packing .i8))
theorem k0_off12_inb : ∀ (v45 : BitVec 32) (k0_hw4 : k0_chk4 v45) (k0_t7 : Fin k0_t7_loop.trips), ∀ a, (k0_off12 v45 k0_t7) a + S1x64x16x128.size a ≤ S32x64x16x3072.size a := fun v45 k0_hw4 k0_t7 => k0_hw4.1 k0_t7
theorem k0_off12_wordsi8 : ∀ (v45 : BitVec 32) (k0_hw4 : k0_chk4 v45) (k0_t7 : Fin k0_t7_loop.trips), (Rect.unit (s := S32x64x16x3072) (k0_off12 v45 k0_t7) S1x64x16x128.size (k0_off12_inb v45 k0_hw4 k0_t7)).WholeWords (EltTy.packing .i8) := fun v45 k0_hw4 k0_t7 => k0_hw4.2.1 k0_t7 (k0_off12_inb v45 k0_hw4 k0_t7)
theorem k0_off15_inb : ∀ (v45 : BitVec 32) (k0_hw4 : k0_chk4 v45), ∀ a, (k0_off15 v45) a + S1x64x3072.size a ≤ S32x64x3072.size a := fun v45 k0_hw4 => k0_hw4.2.2.1
theorem k0_off15_wordsi8 : ∀ (v45 : BitVec 32) (k0_hw4 : k0_chk4 v45), (Rect.unit (s := S32x64x3072) (k0_off15 v45) S1x64x3072.size (k0_off15_inb v45 k0_hw4)).WholeWords (EltTy.packing .i8) := fun v45 k0_hw4 => k0_hw4.2.2.2.1 (k0_off15_inb v45 k0_hw4)
theorem k0_off18_inb : ∀ (v45 : BitVec 32) (k0_hw4 : k0_chk4 v45) (k0_t8 : Fin k0_t8_loop.trips), ∀ a, (k0_off18 v45 k0_t8) a + S1x48x16x128.size a ≤ S32x48x16x2048.size a := fun v45 k0_hw4 k0_t8 => k0_hw4.2.2.2.2.1 k0_t8
theorem k0_off18_wordsi8 : ∀ (v45 : BitVec 32) (k0_hw4 : k0_chk4 v45) (k0_t8 : Fin k0_t8_loop.trips), (Rect.unit (s := S32x48x16x2048) (k0_off18 v45 k0_t8) S1x48x16x128.size (k0_off18_inb v45 k0_hw4 k0_t8)).WholeWords (EltTy.packing .i8) := fun v45 k0_hw4 k0_t8 => k0_hw4.2.2.2.2.2.1 k0_t8 (k0_off18_inb v45 k0_hw4 k0_t8)
theorem k0_off21_inb : ∀ (v45 : BitVec 32) (k0_hw4 : k0_chk4 v45), ∀ a, (k0_off21 v45) a + S1x48x2048.size a ≤ S32x48x2048.size a := fun v45 k0_hw4 => k0_hw4.2.2.2.2.2.2.1
theorem k0_off21_wordsi8 : ∀ (v45 : BitVec 32) (k0_hw4 : k0_chk4 v45), (Rect.unit (s := S32x48x2048) (k0_off21 v45) S1x48x2048.size (k0_off21_inb v45 k0_hw4)).WholeWords (EltTy.packing .i8) := fun v45 k0_hw4 => k0_hw4.2.2.2.2.2.2.2 (k0_off21_inb v45 k0_hw4)

def k0_off22 (v22 : BitVec 32) (k0_t6 : Fin (k0_t6_loop v22).trips) : Fin 1 → Nat :=
  let c0_i32_37 : BitVec 32 := 0#32
  let c1_i32_40 : BitVec 32 := 1#32
  let arg18 : BitVec 32 := Scf.iv c0_i32_37 c1_i32_40 k0_t6
  let c1_i32_757 : BitVec 32 := 1#32
  let v1592 : BitVec 32 := Scalar.addi arg18 c1_i32_757
  let v1593 : Index := Scalar.indexCast v1592
  ![v1593.toNat]
def k0_cond1 (v22 : BitVec 32) (k0_t6 : Fin (k0_t6_loop v22).trips) : BitVec 1 :=
  let c0_i32_37 : BitVec 32 := 0#32
  let c1_i32_40 : BitVec 32 := 1#32
  let arg18 : BitVec 32 := Scf.iv c0_i32_37 c1_i32_40 k0_t6
  let c1_i32_67 : BitVec 32 := 1#32
  let v60 : BitVec 32 := Scalar.addi arg18 c1_i32_67
  let v61 : BitVec 1 := Scalar.cmpi .slt v60 v22
  let v62 : BitVec 32 := Scalar.extui v61
  let c0_i32_68 : BitVec 32 := 0#32
  let v63 : BitVec 1 := Scalar.cmpi .ne v62 c0_i32_68
  v63

@[reducible] def k0_t9_loop : Scf.Loop 32 :=
  let c0_i32_760 : BitVec 32 := 0#32
  let c24_i32_761 : BitVec 32 := 24#32
  let v1596 : BitVec 32 := Scalar.addi c0_i32_760 c24_i32_761
  let c1_i32_762 : BitVec 32 := 1#32
  ⟨c0_i32_760, v1596, c1_i32_762⟩
def k0_mult5 (k0_t9 : Fin k0_t9_loop.trips) : BitVec 32 :=
  let c0_i32_760 : BitVec 32 := 0#32
  let c1_i32_762 : BitVec 32 := 1#32
  let arg20 : BitVec 32 := Scf.iv c0_i32_760 c1_i32_762 k0_t9
  let c128_i32 : BitVec 32 := 128#32
  let v1610 : BitVec 32 := Scalar.muli arg20 c128_i32
  v1610
def k0_off23 (v22 : BitVec 32) (k0_t6 : Fin (k0_t6_loop v22).trips) : Fin 2 → Nat :=
  let c0_i32_759 : BitVec 32 := 0#32
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  ![0, v1595.toNat]
def k0_off24 (v22 : BitVec 32) (k0_t6 : Fin (k0_t6_loop v22).trips) (k0_t9 : Fin k0_t9_loop.trips) : Fin 5 → Nat :=
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  let c0_i32_760 : BitVec 32 := 0#32
  let c1_i32_762 : BitVec 32 := 1#32
  let arg20 : BitVec 32 := Scf.iv c0_i32_760 c1_i32_762 k0_t9
  let c0_i32_779 : BitVec 32 := 0#32
  let c0_i32_780 : BitVec 32 := 0#32
  let c0_i32_781 : BitVec 32 := 0#32
  ![v1595.toNat, arg20.toNat, 0, 0, 0]
def k0_off25 (v1594 : BitVec 32) (k0_t9 : Fin k0_t9_loop.trips) : Fin 4 → Nat :=
  let c0_i32_782 : BitVec 32 := 0#32
  let c0_i32_783 : BitVec 32 := 0#32
  let c0_i32_760 : BitVec 32 := 0#32
  let c1_i32_762 : BitVec 32 := 1#32
  let arg20 : BitVec 32 := Scf.iv c0_i32_760 c1_i32_762 k0_t9
  let c128_i32 : BitVec 32 := 128#32
  let v1610 : BitVec 32 := Scalar.muli arg20 c128_i32
  let v1611 : BitVec 32 := v1610
  ![v1594.toNat, 0, 0, v1611.toNat]

def k0_off26 (v22 : BitVec 32) (k0_t6 : Fin (k0_t6_loop v22).trips) : Fin 2 → Nat :=
  let c1_i32_764 : BitVec 32 := 1#32
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  ![1, v1595.toNat]
def k0_off27 (v22 : BitVec 32) (k0_t6 : Fin (k0_t6_loop v22).trips) : Fin 3 → Nat :=
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  let c0_i32_765 : BitVec 32 := 0#32
  let c0_i32_766 : BitVec 32 := 0#32
  ![v1595.toNat, 0, 0]
def k0_off28 (v1594 : BitVec 32) : Fin 3 → Nat :=
  let c0_i32_767 : BitVec 32 := 0#32
  let c0_i32_768 : BitVec 32 := 0#32
  ![v1594.toNat, 0, 0]
@[reducible] def k0_t10_loop : Scf.Loop 32 :=
  let c0_i32_770 : BitVec 32 := 0#32
  let c16_i32_771 : BitVec 32 := 16#32
  let v1603 : BitVec 32 := Scalar.addi c0_i32_770 c16_i32_771
  let c1_i32_772 : BitVec 32 := 1#32
  ⟨c0_i32_770, v1603, c1_i32_772⟩
def k0_mult6 (k0_t10 : Fin k0_t10_loop.trips) : BitVec 32 :=
  let c0_i32_770 : BitVec 32 := 0#32
  let c1_i32_772 : BitVec 32 := 1#32
  let arg20 : BitVec 32 := Scf.iv c0_i32_770 c1_i32_772 k0_t10
  let c128_i32 : BitVec 32 := 128#32
  let v1610 : BitVec 32 := Scalar.muli arg20 c128_i32
  v1610
def k0_off29 (v22 : BitVec 32) (k0_t6 : Fin (k0_t6_loop v22).trips) : Fin 2 → Nat :=
  let c2_i32_769 : BitVec 32 := 2#32
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  ![2, v1595.toNat]
def k0_off30 (v22 : BitVec 32) (k0_t6 : Fin (k0_t6_loop v22).trips) (k0_t10 : Fin k0_t10_loop.trips) : Fin 5 → Nat :=
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  let c0_i32_770 : BitVec 32 := 0#32
  let c1_i32_772 : BitVec 32 := 1#32
  let arg20 : BitVec 32 := Scf.iv c0_i32_770 c1_i32_772 k0_t10
  let c0_i32_779 : BitVec 32 := 0#32
  let c0_i32_780 : BitVec 32 := 0#32
  let c0_i32_781 : BitVec 32 := 0#32
  ![v1595.toNat, arg20.toNat, 0, 0, 0]
def k0_off31 (v1594 : BitVec 32) (k0_t10 : Fin k0_t10_loop.trips) : Fin 4 → Nat :=
  let c0_i32_782 : BitVec 32 := 0#32
  let c0_i32_783 : BitVec 32 := 0#32
  let c0_i32_770 : BitVec 32 := 0#32
  let c1_i32_772 : BitVec 32 := 1#32
  let arg20 : BitVec 32 := Scf.iv c0_i32_770 c1_i32_772 k0_t10
  let c128_i32 : BitVec 32 := 128#32
  let v1610 : BitVec 32 := Scalar.muli arg20 c128_i32
  let v1611 : BitVec 32 := v1610
  ![v1594.toNat, 0, 0, v1611.toNat]
def k0_off32 (v22 : BitVec 32) (k0_t6 : Fin (k0_t6_loop v22).trips) : Fin 2 → Nat :=
  let c3_i32_774 : BitVec 32 := 3#32
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  ![3, v1595.toNat]
def k0_off33 (v22 : BitVec 32) (k0_t6 : Fin (k0_t6_loop v22).trips) : Fin 3 → Nat :=
  let c1_i32_758 : BitVec 32 := 1#32
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1595 : BitVec 32 := Scalar.subi c1_i32_758 v43
  let c0_i32_775 : BitVec 32 := 0#32
  let c0_i32_776 : BitVec 32 := 0#32
  ![v1595.toNat, 0, 0]
def k0_off34 (v1594 : BitVec 32) : Fin 3 → Nat :=
  let c0_i32_777 : BitVec 32 := 0#32
  let c0_i32_778 : BitVec 32 := 0#32
  ![v1594.toNat, 0, 0]

def k0_chk5 (v22 : BitVec 32) (k0_t6 : Fin (k0_t6_loop v22).trips) (v1594 : BitVec 32) : Prop :=
  (∀ k0_t9 : Fin k0_t9_loop.trips, ∀ (k0_h1 : k0_cond1 v22 k0_t6 = 1#1), ∀ a, (k0_off25 v1594 k0_t9) a + S1x64x16x128.size a ≤ S32x64x16x3072.size a) ∧
  (∀ k0_t9 : Fin k0_t9_loop.trips, ∀ (k0_h1 : k0_cond1 v22 k0_t6 = 1#1), ∀ (hinb : ∀ a, (k0_off25 v1594 k0_t9) a + S1x64x16x128.size a ≤ S32x64x16x3072.size a), (Rect.unit (s := S32x64x16x3072) (k0_off25 v1594 k0_t9) S1x64x16x128.size hinb).WholeWords (EltTy.packing .i8)) ∧
  (∀ (k0_h1 : k0_cond1 v22 k0_t6 = 1#1), ∀ a, (k0_off28 v1594) a + S1x64x3072.size a ≤ S32x64x3072.size a) ∧
  (∀ (k0_h1 : k0_cond1 v22 k0_t6 = 1#1), ∀ (hinb : ∀ a, (k0_off28 v1594) a + S1x64x3072.size a ≤ S32x64x3072.size a), (Rect.unit (s := S32x64x3072) (k0_off28 v1594) S1x64x3072.size hinb).WholeWords (EltTy.packing .i8)) ∧
  (∀ k0_t10 : Fin k0_t10_loop.trips, ∀ (k0_h1 : k0_cond1 v22 k0_t6 = 1#1), ∀ a, (k0_off31 v1594 k0_t10) a + S1x48x16x128.size a ≤ S32x48x16x2048.size a) ∧
  (∀ k0_t10 : Fin k0_t10_loop.trips, ∀ (k0_h1 : k0_cond1 v22 k0_t6 = 1#1), ∀ (hinb : ∀ a, (k0_off31 v1594 k0_t10) a + S1x48x16x128.size a ≤ S32x48x16x2048.size a), (Rect.unit (s := S32x48x16x2048) (k0_off31 v1594 k0_t10) S1x48x16x128.size hinb).WholeWords (EltTy.packing .i8)) ∧
  (∀ (k0_h1 : k0_cond1 v22 k0_t6 = 1#1), ∀ a, (k0_off34 v1594) a + S1x48x2048.size a ≤ S32x48x2048.size a) ∧
  (∀ (k0_h1 : k0_cond1 v22 k0_t6 = 1#1), ∀ (hinb : ∀ a, (k0_off34 v1594) a + S1x48x2048.size a ≤ S32x48x2048.size a), (Rect.unit (s := S32x48x2048) (k0_off34 v1594) S1x48x2048.size hinb).WholeWords (EltTy.packing .i8))
theorem k0_off25_inb : ∀ (v22 : BitVec 32) (k0_t6 : Fin (k0_t6_loop v22).trips) (v1594 : BitVec 32) (k0_hw5 : k0_chk5 v22 k0_t6 v1594) (k0_t9 : Fin k0_t9_loop.trips), ∀ (k0_h1 : k0_cond1 v22 k0_t6 = 1#1), ∀ a, (k0_off25 v1594 k0_t9) a + S1x64x16x128.size a ≤ S32x64x16x3072.size a := fun v22 k0_t6 v1594 k0_hw5 k0_t9 k0_h1 => k0_hw5.1 k0_t9 k0_h1
theorem k0_off25_wordsi8 : ∀ (v22 : BitVec 32) (k0_t6 : Fin (k0_t6_loop v22).trips) (v1594 : BitVec 32) (k0_hw5 : k0_chk5 v22 k0_t6 v1594) (k0_t9 : Fin k0_t9_loop.trips), ∀ (k0_h1 : k0_cond1 v22 k0_t6 = 1#1), (Rect.unit (s := S32x64x16x3072) (k0_off25 v1594 k0_t9) S1x64x16x128.size (k0_off25_inb v22 k0_t6 v1594 k0_hw5 k0_t9 k0_h1)).WholeWords (EltTy.packing .i8) := fun v22 k0_t6 v1594 k0_hw5 k0_t9 k0_h1 => k0_hw5.2.1 k0_t9 k0_h1 (k0_off25_inb v22 k0_t6 v1594 k0_hw5 k0_t9 k0_h1)
theorem k0_off28_inb : ∀ (v22 : BitVec 32) (k0_t6 : Fin (k0_t6_loop v22).trips) (v1594 : BitVec 32) (k0_hw5 : k0_chk5 v22 k0_t6 v1594), ∀ (k0_h1 : k0_cond1 v22 k0_t6 = 1#1), ∀ a, (k0_off28 v1594) a + S1x64x3072.size a ≤ S32x64x3072.size a := fun v22 k0_t6 v1594 k0_hw5 k0_h1 => k0_hw5.2.2.1 k0_h1
theorem k0_off28_wordsi8 : ∀ (v22 : BitVec 32) (k0_t6 : Fin (k0_t6_loop v22).trips) (v1594 : BitVec 32) (k0_hw5 : k0_chk5 v22 k0_t6 v1594), ∀ (k0_h1 : k0_cond1 v22 k0_t6 = 1#1), (Rect.unit (s := S32x64x3072) (k0_off28 v1594) S1x64x3072.size (k0_off28_inb v22 k0_t6 v1594 k0_hw5 k0_h1)).WholeWords (EltTy.packing .i8) := fun v22 k0_t6 v1594 k0_hw5 k0_h1 => k0_hw5.2.2.2.1 k0_h1 (k0_off28_inb v22 k0_t6 v1594 k0_hw5 k0_h1)
theorem k0_off31_inb : ∀ (v22 : BitVec 32) (k0_t6 : Fin (k0_t6_loop v22).trips) (v1594 : BitVec 32) (k0_hw5 : k0_chk5 v22 k0_t6 v1594) (k0_t10 : Fin k0_t10_loop.trips), ∀ (k0_h1 : k0_cond1 v22 k0_t6 = 1#1), ∀ a, (k0_off31 v1594 k0_t10) a + S1x48x16x128.size a ≤ S32x48x16x2048.size a := fun v22 k0_t6 v1594 k0_hw5 k0_t10 k0_h1 => k0_hw5.2.2.2.2.1 k0_t10 k0_h1
theorem k0_off31_wordsi8 : ∀ (v22 : BitVec 32) (k0_t6 : Fin (k0_t6_loop v22).trips) (v1594 : BitVec 32) (k0_hw5 : k0_chk5 v22 k0_t6 v1594) (k0_t10 : Fin k0_t10_loop.trips), ∀ (k0_h1 : k0_cond1 v22 k0_t6 = 1#1), (Rect.unit (s := S32x48x16x2048) (k0_off31 v1594 k0_t10) S1x48x16x128.size (k0_off31_inb v22 k0_t6 v1594 k0_hw5 k0_t10 k0_h1)).WholeWords (EltTy.packing .i8) := fun v22 k0_t6 v1594 k0_hw5 k0_t10 k0_h1 => k0_hw5.2.2.2.2.2.1 k0_t10 k0_h1 (k0_off31_inb v22 k0_t6 v1594 k0_hw5 k0_t10 k0_h1)
theorem k0_off34_inb : ∀ (v22 : BitVec 32) (k0_t6 : Fin (k0_t6_loop v22).trips) (v1594 : BitVec 32) (k0_hw5 : k0_chk5 v22 k0_t6 v1594), ∀ (k0_h1 : k0_cond1 v22 k0_t6 = 1#1), ∀ a, (k0_off34 v1594) a + S1x48x2048.size a ≤ S32x48x2048.size a := fun v22 k0_t6 v1594 k0_hw5 k0_h1 => k0_hw5.2.2.2.2.2.2.1 k0_h1
theorem k0_off34_wordsi8 : ∀ (v22 : BitVec 32) (k0_t6 : Fin (k0_t6_loop v22).trips) (v1594 : BitVec 32) (k0_hw5 : k0_chk5 v22 k0_t6 v1594), ∀ (k0_h1 : k0_cond1 v22 k0_t6 = 1#1), (Rect.unit (s := S32x48x2048) (k0_off34 v1594) S1x48x2048.size (k0_off34_inb v22 k0_t6 v1594 k0_hw5 k0_h1)).WholeWords (EltTy.packing .i8) := fun v22 k0_t6 v1594 k0_hw5 k0_h1 => k0_hw5.2.2.2.2.2.2.2 k0_h1 (k0_off34_inb v22 k0_t6 v1594 k0_hw5 k0_h1)

def k0_off35 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v64 : Index := Scalar.indexCast v43
  let c0_69 : Index := 0#32
  let c0_70 : Index := 0#32
  ![v64.toNat, 0, 0]
def k0_off36 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v76 : Index := Scalar.indexCast v43
  let c0_73 : Index := 0#32
  let c256 : Index := 256#32
  ![v76.toNat, 0, 256]
def k0_off37 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v88 : Index := Scalar.indexCast v43
  let c0_78 : Index := 0#32
  let c512 : Index := 512#32
  ![v88.toNat, 0, 512]
def k0_off38 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v100 : Index := Scalar.indexCast v43
  let c0_83 : Index := 0#32
  let c768 : Index := 768#32
  ![v100.toNat, 0, 768]
def k0_off39 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v112 : Index := Scalar.indexCast v43
  let c0_88 : Index := 0#32
  let c1024 : Index := 1024#32
  ![v112.toNat, 0, 1024]
def k0_off40 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v124 : Index := Scalar.indexCast v43
  let c0_93 : Index := 0#32
  let c1280 : Index := 1280#32
  ![v124.toNat, 0, 1280]
def k0_off41 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v136 : Index := Scalar.indexCast v43
  let c0_98 : Index := 0#32
  let c1536 : Index := 1536#32
  ![v136.toNat, 0, 1536]
def k0_off42 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v148 : Index := Scalar.indexCast v43
  let c0_103 : Index := 0#32
  let c1792 : Index := 1792#32
  ![v148.toNat, 0, 1792]
def k0_off43 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v160 : Index := Scalar.indexCast v43
  let c0_108 : Index := 0#32
  let c2048 : Index := 2048#32
  ![v160.toNat, 0, 2048]
def k0_off44 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v172 : Index := Scalar.indexCast v43
  let c0_113 : Index := 0#32
  let c2304 : Index := 2304#32
  ![v172.toNat, 0, 2304]
def k0_off45 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v184 : Index := Scalar.indexCast v43
  let c0_118 : Index := 0#32
  let c2560 : Index := 2560#32
  ![v184.toNat, 0, 2560]
def k0_off46 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v196 : Index := Scalar.indexCast v43
  let c0_123 : Index := 0#32
  let c2816 : Index := 2816#32
  ![v196.toNat, 0, 2816]
def k0_off47 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v208 : Index := Scalar.indexCast v43
  let c0_128 : Index := 0#32
  let c0_129 : Index := 0#32
  ![v208.toNat, 0, 0]
def k0_off48 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v220 : Index := Scalar.indexCast v43
  let c0_134 : Index := 0#32
  let c256_135 : Index := 256#32
  ![v220.toNat, 0, 256]
def k0_off49 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v232 : Index := Scalar.indexCast v43
  let c0_140 : Index := 0#32
  let c512_141 : Index := 512#32
  ![v232.toNat, 0, 512]
def k0_off50 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v244 : Index := Scalar.indexCast v43
  let c0_146 : Index := 0#32
  let c768_147 : Index := 768#32
  ![v244.toNat, 0, 768]
def k0_off51 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v256 : Index := Scalar.indexCast v43
  let c0_152 : Index := 0#32
  let c1024_153 : Index := 1024#32
  ![v256.toNat, 0, 1024]
def k0_off52 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v268 : Index := Scalar.indexCast v43
  let c0_158 : Index := 0#32
  let c1280_159 : Index := 1280#32
  ![v268.toNat, 0, 1280]
def k0_off53 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v280 : Index := Scalar.indexCast v43
  let c0_164 : Index := 0#32
  let c1536_165 : Index := 1536#32
  ![v280.toNat, 0, 1536]
def k0_off54 (v22 : BitVec 32) (k0_t6 : Fin (k0_t6_loop v22).trips) : Fin 3 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v292 : Index := Scalar.indexCast v43
  let c0_170 : Index := 0#32
  let c1792_171 : Index := 1792#32
  ![v292.toNat, 0, 1792]
def k0_off55 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v306 : Index := Scalar.indexCast v43
  let c0_178 : Index := 0#32
  let c0_179 : Index := 0#32
  let c0_180 : Index := 0#32
  let c0_181 : Index := 0#32
  ![v306.toNat, 0, 0, 0, 0]
def k0_off56 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v310 : Index := Scalar.indexCast v43
  let c1 : Index := 1#32
  let c0_182 : Index := 0#32
  let c0_183 : Index := 0#32
  let c0_184 : Index := 0#32
  ![v310.toNat, 1, 0, 0, 0]
def k0_off57 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v363 : Index := Scalar.indexCast v43
  let c12 : Index := 12#32
  let c0_199 : Index := 0#32
  let c0_200 : Index := 0#32
  let c0_201 : Index := 0#32
  ![v363.toNat, 12, 0, 0, 0]
def k0_off58 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v367 : Index := Scalar.indexCast v43
  let c13 : Index := 13#32
  let c0_202 : Index := 0#32
  let c0_203 : Index := 0#32
  let c0_204 : Index := 0#32
  ![v367.toNat, 13, 0, 0, 0]
def k0_off59 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v426 : Index := Scalar.indexCast v43
  let c2 : Index := 2#32
  let c0_226 : Index := 0#32
  let c0_227 : Index := 0#32
  let c0_228 : Index := 0#32
  ![v426.toNat, 2, 0, 0, 0]
def k0_off60 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v430 : Index := Scalar.indexCast v43
  let c3 : Index := 3#32
  let c0_229 : Index := 0#32
  let c0_230 : Index := 0#32
  let c0_231 : Index := 0#32
  ![v430.toNat, 3, 0, 0, 0]
def k0_off61 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v483 : Index := Scalar.indexCast v43
  let c14 : Index := 14#32
  let c0_251 : Index := 0#32
  let c0_252 : Index := 0#32
  let c0_253 : Index := 0#32
  ![v483.toNat, 14, 0, 0, 0]
def k0_off62 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v487 : Index := Scalar.indexCast v43
  let c15 : Index := 15#32
  let c0_254 : Index := 0#32
  let c0_255 : Index := 0#32
  let c0_256 : Index := 0#32
  ![v487.toNat, 15, 0, 0, 0]
def k0_off63 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v546 : Index := Scalar.indexCast v43
  let c4 : Index := 4#32
  let c0_278 : Index := 0#32
  let c0_279 : Index := 0#32
  let c0_280 : Index := 0#32
  ![v546.toNat, 4, 0, 0, 0]
def k0_off64 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v550 : Index := Scalar.indexCast v43
  let c5 : Index := 5#32
  let c0_281 : Index := 0#32
  let c0_282 : Index := 0#32
  let c0_283 : Index := 0#32
  ![v550.toNat, 5, 0, 0, 0]
def k0_off65 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v603 : Index := Scalar.indexCast v43
  let c16 : Index := 16#32
  let c0_303 : Index := 0#32
  let c0_304 : Index := 0#32
  let c0_305 : Index := 0#32
  ![v603.toNat, 16, 0, 0, 0]
def k0_off66 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v607 : Index := Scalar.indexCast v43
  let c17 : Index := 17#32
  let c0_306 : Index := 0#32
  let c0_307 : Index := 0#32
  let c0_308 : Index := 0#32
  ![v607.toNat, 17, 0, 0, 0]
def k0_off67 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v666 : Index := Scalar.indexCast v43
  let c6 : Index := 6#32
  let c0_330 : Index := 0#32
  let c0_331 : Index := 0#32
  let c0_332 : Index := 0#32
  ![v666.toNat, 6, 0, 0, 0]
def k0_off68 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v670 : Index := Scalar.indexCast v43
  let c7 : Index := 7#32
  let c0_333 : Index := 0#32
  let c0_334 : Index := 0#32
  let c0_335 : Index := 0#32
  ![v670.toNat, 7, 0, 0, 0]
def k0_off69 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v723 : Index := Scalar.indexCast v43
  let c18 : Index := 18#32
  let c0_355 : Index := 0#32
  let c0_356 : Index := 0#32
  let c0_357 : Index := 0#32
  ![v723.toNat, 18, 0, 0, 0]
def k0_off70 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v727 : Index := Scalar.indexCast v43
  let c19 : Index := 19#32
  let c0_358 : Index := 0#32
  let c0_359 : Index := 0#32
  let c0_360 : Index := 0#32
  ![v727.toNat, 19, 0, 0, 0]
def k0_off71 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v786 : Index := Scalar.indexCast v43
  let c8 : Index := 8#32
  let c0_382 : Index := 0#32
  let c0_383 : Index := 0#32
  let c0_384 : Index := 0#32
  ![v786.toNat, 8, 0, 0, 0]
def k0_off72 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v790 : Index := Scalar.indexCast v43
  let c9 : Index := 9#32
  let c0_385 : Index := 0#32
  let c0_386 : Index := 0#32
  let c0_387 : Index := 0#32
  ![v790.toNat, 9, 0, 0, 0]
def k0_off73 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v843 : Index := Scalar.indexCast v43
  let c20 : Index := 20#32
  let c0_407 : Index := 0#32
  let c0_408 : Index := 0#32
  let c0_409 : Index := 0#32
  ![v843.toNat, 20, 0, 0, 0]
def k0_off74 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v847 : Index := Scalar.indexCast v43
  let c21 : Index := 21#32
  let c0_410 : Index := 0#32
  let c0_411 : Index := 0#32
  let c0_412 : Index := 0#32
  ![v847.toNat, 21, 0, 0, 0]
def k0_off75 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v906 : Index := Scalar.indexCast v43
  let c10 : Index := 10#32
  let c0_434 : Index := 0#32
  let c0_435 : Index := 0#32
  let c0_436 : Index := 0#32
  ![v906.toNat, 10, 0, 0, 0]
def k0_off76 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v910 : Index := Scalar.indexCast v43
  let c11 : Index := 11#32
  let c0_437 : Index := 0#32
  let c0_438 : Index := 0#32
  let c0_439 : Index := 0#32
  ![v910.toNat, 11, 0, 0, 0]
def k0_off77 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v963 : Index := Scalar.indexCast v43
  let c22 : Index := 22#32
  let c0_459 : Index := 0#32
  let c0_460 : Index := 0#32
  let c0_461 : Index := 0#32
  ![v963.toNat, 22, 0, 0, 0]
def k0_off78 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v967 : Index := Scalar.indexCast v43
  let c23 : Index := 23#32
  let c0_462 : Index := 0#32
  let c0_463 : Index := 0#32
  let c0_464 : Index := 0#32
  ![v967.toNat, 23, 0, 0, 0]
def k0_off79 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1040 : Index := Scalar.indexCast v43
  let c0_492 : Index := 0#32
  let c0_493 : Index := 0#32
  let c0_494 : Index := 0#32
  let c0_495 : Index := 0#32
  ![v1040.toNat, 0, 0, 0, 0]
def k0_off80 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1044 : Index := Scalar.indexCast v43
  let c1_496 : Index := 1#32
  let c0_497 : Index := 0#32
  let c0_498 : Index := 0#32
  let c0_499 : Index := 0#32
  ![v1044.toNat, 1, 0, 0, 0]
def k0_off81 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1109 : Index := Scalar.indexCast v43
  let c2_525 : Index := 2#32
  let c0_526 : Index := 0#32
  let c0_527 : Index := 0#32
  let c0_528 : Index := 0#32
  ![v1109.toNat, 2, 0, 0, 0]
def k0_off82 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1113 : Index := Scalar.indexCast v43
  let c3_529 : Index := 3#32
  let c0_530 : Index := 0#32
  let c0_531 : Index := 0#32
  let c0_532 : Index := 0#32
  ![v1113.toNat, 3, 0, 0, 0]
def k0_off83 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1178 : Index := Scalar.indexCast v43
  let c4_558 : Index := 4#32
  let c0_559 : Index := 0#32
  let c0_560 : Index := 0#32
  let c0_561 : Index := 0#32
  ![v1178.toNat, 4, 0, 0, 0]
def k0_off84 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1182 : Index := Scalar.indexCast v43
  let c5_562 : Index := 5#32
  let c0_563 : Index := 0#32
  let c0_564 : Index := 0#32
  let c0_565 : Index := 0#32
  ![v1182.toNat, 5, 0, 0, 0]
def k0_off85 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1247 : Index := Scalar.indexCast v43
  let c6_591 : Index := 6#32
  let c0_592 : Index := 0#32
  let c0_593 : Index := 0#32
  let c0_594 : Index := 0#32
  ![v1247.toNat, 6, 0, 0, 0]
def k0_off86 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1251 : Index := Scalar.indexCast v43
  let c7_595 : Index := 7#32
  let c0_596 : Index := 0#32
  let c0_597 : Index := 0#32
  let c0_598 : Index := 0#32
  ![v1251.toNat, 7, 0, 0, 0]
def k0_off87 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1316 : Index := Scalar.indexCast v43
  let c8_624 : Index := 8#32
  let c0_625 : Index := 0#32
  let c0_626 : Index := 0#32
  let c0_627 : Index := 0#32
  ![v1316.toNat, 8, 0, 0, 0]
def k0_off88 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1320 : Index := Scalar.indexCast v43
  let c9_628 : Index := 9#32
  let c0_629 : Index := 0#32
  let c0_630 : Index := 0#32
  let c0_631 : Index := 0#32
  ![v1320.toNat, 9, 0, 0, 0]
def k0_off89 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1385 : Index := Scalar.indexCast v43
  let c10_657 : Index := 10#32
  let c0_658 : Index := 0#32
  let c0_659 : Index := 0#32
  let c0_660 : Index := 0#32
  ![v1385.toNat, 10, 0, 0, 0]
def k0_off90 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1389 : Index := Scalar.indexCast v43
  let c11_661 : Index := 11#32
  let c0_662 : Index := 0#32
  let c0_663 : Index := 0#32
  let c0_664 : Index := 0#32
  ![v1389.toNat, 11, 0, 0, 0]
def k0_off91 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1454 : Index := Scalar.indexCast v43
  let c12_690 : Index := 12#32
  let c0_691 : Index := 0#32
  let c0_692 : Index := 0#32
  let c0_693 : Index := 0#32
  ![v1454.toNat, 12, 0, 0, 0]
def k0_off92 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1458 : Index := Scalar.indexCast v43
  let c13_694 : Index := 13#32
  let c0_695 : Index := 0#32
  let c0_696 : Index := 0#32
  let c0_697 : Index := 0#32
  ![v1458.toNat, 13, 0, 0, 0]
def k0_off93 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1523 : Index := Scalar.indexCast v43
  let c14_723 : Index := 14#32
  let c0_724 : Index := 0#32
  let c0_725 : Index := 0#32
  let c0_726 : Index := 0#32
  ![v1523.toNat, 14, 0, 0, 0]
def k0_off94 (v22 : BitVec 32) (k0_t6 : Fin (k0_t6_loop v22).trips) : Fin 5 → Nat :=
  let c0_i32_37 : BitVec 32 := 0#32
  let c1_i32_40 : BitVec 32 := 1#32
  let arg18 : BitVec 32 := Scf.iv c0_i32_37 c1_i32_40 k0_t6
  let c1_i32_46 : BitVec 32 := 1#32
  let v43 : BitVec 32 := Scalar.andi arg18 c1_i32_46
  let v1527 : Index := Scalar.indexCast v43
  let c15_727 : Index := 15#32
  let c0_728 : Index := 0#32
  let c0_729 : Index := 0#32
  let c0_730 : Index := 0#32
  ![v1527.toNat, 15, 0, 0, 0]
@[reducible] def k0_t11_loop (v22 : BitVec 32) : Scf.Loop 32 :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let v34 : BitVec 32 := Scalar.addi c0_i32_37 v33
  let c1_i32_41 : BitVec 32 := 1#32
  ⟨v37, v34, c1_i32_41⟩
def k0_off95 (v22 : BitVec 32) (k0_t11 : Fin (k0_t11_loop v22).trips) : Fin 1 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let v44 : Index := Scalar.indexCast arg18
  ![v44.toNat]
@[reducible] def k0_t12_loop : Scf.Loop 32 :=
  let c0_i32_48 : BitVec 32 := 0#32
  let c24_i32_49 : BitVec 32 := 24#32
  let v46 : BitVec 32 := Scalar.addi c0_i32_48 c24_i32_49
  let c1_i32_50 : BitVec 32 := 1#32
  ⟨c0_i32_48, v46, c1_i32_50⟩
def k0_mult7 (k0_t12 : Fin k0_t12_loop.trips) : BitVec 32 :=
  let c0_i32_48 : BitVec 32 := 0#32
  let c1_i32_50 : BitVec 32 := 1#32
  let arg20 : BitVec 32 := Scf.iv c0_i32_48 c1_i32_50 k0_t12
  let c128_i32 : BitVec 32 := 128#32
  let v1592 : BitVec 32 := Scalar.muli arg20 c128_i32
  v1592
def k0_off96 (v22 : BitVec 32) (k0_t11 : Fin (k0_t11_loop v22).trips) : Fin 2 → Nat :=
  let c0_i32_47 : BitVec 32 := 0#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  ![0, v43.toNat]
def k0_off97 (v22 : BitVec 32) (k0_t11 : Fin (k0_t11_loop v22).trips) (k0_t12 : Fin k0_t12_loop.trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let c0_i32_48 : BitVec 32 := 0#32
  let c1_i32_50 : BitVec 32 := 1#32
  let arg20 : BitVec 32 := Scf.iv c0_i32_48 c1_i32_50 k0_t12
  let c0_i32_757 : BitVec 32 := 0#32
  let c0_i32_758 : BitVec 32 := 0#32
  let c0_i32_759 : BitVec 32 := 0#32
  ![v43.toNat, arg20.toNat, 0, 0, 0]
def k0_off98 (v45 : BitVec 32) (k0_t12 : Fin k0_t12_loop.trips) : Fin 4 → Nat :=
  let c0_i32_760 : BitVec 32 := 0#32
  let c0_i32_761 : BitVec 32 := 0#32
  let c0_i32_48 : BitVec 32 := 0#32
  let c1_i32_50 : BitVec 32 := 1#32
  let arg20 : BitVec 32 := Scf.iv c0_i32_48 c1_i32_50 k0_t12
  let c128_i32 : BitVec 32 := 128#32
  let v1592 : BitVec 32 := Scalar.muli arg20 c128_i32
  let v1593 : BitVec 32 := v1592
  ![v45.toNat, 0, 0, v1593.toNat]

def k0_off99 (v22 : BitVec 32) (k0_t11 : Fin (k0_t11_loop v22).trips) : Fin 2 → Nat :=
  let c1_i32_52 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  ![1, v43.toNat]
def k0_off100 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let c0_i32_53 : BitVec 32 := 0#32
  let c0_i32_54 : BitVec 32 := 0#32
  ![v43.toNat, 0, 0]
def k0_off101 (v45 : BitVec 32) : Fin 3 → Nat :=
  let c0_i32_55 : BitVec 32 := 0#32
  let c0_i32_56 : BitVec 32 := 0#32
  ![v45.toNat, 0, 0]
@[reducible] def k0_t13_loop : Scf.Loop 32 :=
  let c0_i32_58 : BitVec 32 := 0#32
  let c16_i32_59 : BitVec 32 := 16#32
  let v53 : BitVec 32 := Scalar.addi c0_i32_58 c16_i32_59
  let c1_i32_60 : BitVec 32 := 1#32
  ⟨c0_i32_58, v53, c1_i32_60⟩
def k0_mult8 (k0_t13 : Fin k0_t13_loop.trips) : BitVec 32 :=
  let c0_i32_58 : BitVec 32 := 0#32
  let c1_i32_60 : BitVec 32 := 1#32
  let arg20 : BitVec 32 := Scf.iv c0_i32_58 c1_i32_60 k0_t13
  let c128_i32 : BitVec 32 := 128#32
  let v1592 : BitVec 32 := Scalar.muli arg20 c128_i32
  v1592
def k0_off102 (v22 : BitVec 32) (k0_t11 : Fin (k0_t11_loop v22).trips) : Fin 2 → Nat :=
  let c2_i32_57 : BitVec 32 := 2#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  ![2, v43.toNat]
def k0_off103 (v22 : BitVec 32) (k0_t11 : Fin (k0_t11_loop v22).trips) (k0_t13 : Fin k0_t13_loop.trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let c0_i32_58 : BitVec 32 := 0#32
  let c1_i32_60 : BitVec 32 := 1#32
  let arg20 : BitVec 32 := Scf.iv c0_i32_58 c1_i32_60 k0_t13
  let c0_i32_757 : BitVec 32 := 0#32
  let c0_i32_758 : BitVec 32 := 0#32
  let c0_i32_759 : BitVec 32 := 0#32
  ![v43.toNat, arg20.toNat, 0, 0, 0]
def k0_off104 (v45 : BitVec 32) (k0_t13 : Fin k0_t13_loop.trips) : Fin 4 → Nat :=
  let c0_i32_760 : BitVec 32 := 0#32
  let c0_i32_761 : BitVec 32 := 0#32
  let c0_i32_58 : BitVec 32 := 0#32
  let c1_i32_60 : BitVec 32 := 1#32
  let arg20 : BitVec 32 := Scf.iv c0_i32_58 c1_i32_60 k0_t13
  let c128_i32 : BitVec 32 := 128#32
  let v1592 : BitVec 32 := Scalar.muli arg20 c128_i32
  let v1593 : BitVec 32 := v1592
  ![v45.toNat, 0, 0, v1593.toNat]
def k0_off105 (v22 : BitVec 32) (k0_t11 : Fin (k0_t11_loop v22).trips) : Fin 2 → Nat :=
  let c3_i32_62 : BitVec 32 := 3#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  ![3, v43.toNat]
def k0_off106 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let c0_i32_63 : BitVec 32 := 0#32
  let c0_i32_64 : BitVec 32 := 0#32
  ![v43.toNat, 0, 0]
def k0_off107 (v45 : BitVec 32) : Fin 3 → Nat :=
  let c0_i32_65 : BitVec 32 := 0#32
  let c0_i32_66 : BitVec 32 := 0#32
  ![v45.toNat, 0, 0]

def k0_chk6 (v45 : BitVec 32) : Prop :=
  (∀ k0_t12 : Fin k0_t12_loop.trips, ∀ a, (k0_off98 v45 k0_t12) a + S1x64x16x128.size a ≤ S32x64x16x3072.size a) ∧
  (∀ k0_t12 : Fin k0_t12_loop.trips, ∀ (hinb : ∀ a, (k0_off98 v45 k0_t12) a + S1x64x16x128.size a ≤ S32x64x16x3072.size a), (Rect.unit (s := S32x64x16x3072) (k0_off98 v45 k0_t12) S1x64x16x128.size hinb).WholeWords (EltTy.packing .i8)) ∧
  (∀ a, (k0_off101 v45) a + S1x64x3072.size a ≤ S32x64x3072.size a) ∧
  (∀ (hinb : ∀ a, (k0_off101 v45) a + S1x64x3072.size a ≤ S32x64x3072.size a), (Rect.unit (s := S32x64x3072) (k0_off101 v45) S1x64x3072.size hinb).WholeWords (EltTy.packing .i8)) ∧
  (∀ k0_t13 : Fin k0_t13_loop.trips, ∀ a, (k0_off104 v45 k0_t13) a + S1x48x16x128.size a ≤ S32x48x16x2048.size a) ∧
  (∀ k0_t13 : Fin k0_t13_loop.trips, ∀ (hinb : ∀ a, (k0_off104 v45 k0_t13) a + S1x48x16x128.size a ≤ S32x48x16x2048.size a), (Rect.unit (s := S32x48x16x2048) (k0_off104 v45 k0_t13) S1x48x16x128.size hinb).WholeWords (EltTy.packing .i8)) ∧
  (∀ a, (k0_off107 v45) a + S1x48x2048.size a ≤ S32x48x2048.size a) ∧
  (∀ (hinb : ∀ a, (k0_off107 v45) a + S1x48x2048.size a ≤ S32x48x2048.size a), (Rect.unit (s := S32x48x2048) (k0_off107 v45) S1x48x2048.size hinb).WholeWords (EltTy.packing .i8))
theorem k0_off98_inb : ∀ (v45 : BitVec 32) (k0_hw6 : k0_chk6 v45) (k0_t12 : Fin k0_t12_loop.trips), ∀ a, (k0_off98 v45 k0_t12) a + S1x64x16x128.size a ≤ S32x64x16x3072.size a := fun v45 k0_hw6 k0_t12 => k0_hw6.1 k0_t12
theorem k0_off98_wordsi8 : ∀ (v45 : BitVec 32) (k0_hw6 : k0_chk6 v45) (k0_t12 : Fin k0_t12_loop.trips), (Rect.unit (s := S32x64x16x3072) (k0_off98 v45 k0_t12) S1x64x16x128.size (k0_off98_inb v45 k0_hw6 k0_t12)).WholeWords (EltTy.packing .i8) := fun v45 k0_hw6 k0_t12 => k0_hw6.2.1 k0_t12 (k0_off98_inb v45 k0_hw6 k0_t12)
theorem k0_off101_inb : ∀ (v45 : BitVec 32) (k0_hw6 : k0_chk6 v45), ∀ a, (k0_off101 v45) a + S1x64x3072.size a ≤ S32x64x3072.size a := fun v45 k0_hw6 => k0_hw6.2.2.1
theorem k0_off101_wordsi8 : ∀ (v45 : BitVec 32) (k0_hw6 : k0_chk6 v45), (Rect.unit (s := S32x64x3072) (k0_off101 v45) S1x64x3072.size (k0_off101_inb v45 k0_hw6)).WholeWords (EltTy.packing .i8) := fun v45 k0_hw6 => k0_hw6.2.2.2.1 (k0_off101_inb v45 k0_hw6)
theorem k0_off104_inb : ∀ (v45 : BitVec 32) (k0_hw6 : k0_chk6 v45) (k0_t13 : Fin k0_t13_loop.trips), ∀ a, (k0_off104 v45 k0_t13) a + S1x48x16x128.size a ≤ S32x48x16x2048.size a := fun v45 k0_hw6 k0_t13 => k0_hw6.2.2.2.2.1 k0_t13
theorem k0_off104_wordsi8 : ∀ (v45 : BitVec 32) (k0_hw6 : k0_chk6 v45) (k0_t13 : Fin k0_t13_loop.trips), (Rect.unit (s := S32x48x16x2048) (k0_off104 v45 k0_t13) S1x48x16x128.size (k0_off104_inb v45 k0_hw6 k0_t13)).WholeWords (EltTy.packing .i8) := fun v45 k0_hw6 k0_t13 => k0_hw6.2.2.2.2.2.1 k0_t13 (k0_off104_inb v45 k0_hw6 k0_t13)
theorem k0_off107_inb : ∀ (v45 : BitVec 32) (k0_hw6 : k0_chk6 v45), ∀ a, (k0_off107 v45) a + S1x48x2048.size a ≤ S32x48x2048.size a := fun v45 k0_hw6 => k0_hw6.2.2.2.2.2.2.1
theorem k0_off107_wordsi8 : ∀ (v45 : BitVec 32) (k0_hw6 : k0_chk6 v45), (Rect.unit (s := S32x48x2048) (k0_off107 v45) S1x48x2048.size (k0_off107_inb v45 k0_hw6)).WholeWords (EltTy.packing .i8) := fun v45 k0_hw6 => k0_hw6.2.2.2.2.2.2.2 (k0_off107_inb v45 k0_hw6)

def k0_off108 (v22 : BitVec 32) (k0_t11 : Fin (k0_t11_loop v22).trips) : Fin 1 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_757 : BitVec 32 := 1#32
  let v1592 : BitVec 32 := Scalar.addi arg18 c1_i32_757
  let v1593 : Index := Scalar.indexCast v1592
  ![v1593.toNat]
def k0_cond2 (v22 : BitVec 32) (k0_t11 : Fin (k0_t11_loop v22).trips) : BitVec 1 :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_67 : BitVec 32 := 1#32
  let v60 : BitVec 32 := Scalar.addi arg18 c1_i32_67
  let v61 : BitVec 1 := Scalar.cmpi .slt v60 v22
  let v62 : BitVec 32 := Scalar.extui v61
  let c0_i32_68 : BitVec 32 := 0#32
  let v63 : BitVec 1 := Scalar.cmpi .ne v62 c0_i32_68
  v63

@[reducible] def k0_t14_loop : Scf.Loop 32 :=
  let c0_i32_760 : BitVec 32 := 0#32
  let c24_i32_761 : BitVec 32 := 24#32
  let v1596 : BitVec 32 := Scalar.addi c0_i32_760 c24_i32_761
  let c1_i32_762 : BitVec 32 := 1#32
  ⟨c0_i32_760, v1596, c1_i32_762⟩
def k0_mult9 (k0_t14 : Fin k0_t14_loop.trips) : BitVec 32 :=
  let c0_i32_760 : BitVec 32 := 0#32
  let c1_i32_762 : BitVec 32 := 1#32
  let arg20 : BitVec 32 := Scf.iv c0_i32_760 c1_i32_762 k0_t14
  let c128_i32 : BitVec 32 := 128#32
  let v1610 : BitVec 32 := Scalar.muli arg20 c128_i32
  v1610
def k0_off109 (v22 : BitVec 32) (k0_t11 : Fin (k0_t11_loop v22).trips) : Fin 2 → Nat :=
  let c0_i32_759 : BitVec 32 := 0#32
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  ![0, v1595.toNat]
def k0_off110 (v22 : BitVec 32) (k0_t11 : Fin (k0_t11_loop v22).trips) (k0_t14 : Fin k0_t14_loop.trips) : Fin 5 → Nat :=
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  let c0_i32_760 : BitVec 32 := 0#32
  let c1_i32_762 : BitVec 32 := 1#32
  let arg20 : BitVec 32 := Scf.iv c0_i32_760 c1_i32_762 k0_t14
  let c0_i32_779 : BitVec 32 := 0#32
  let c0_i32_780 : BitVec 32 := 0#32
  let c0_i32_781 : BitVec 32 := 0#32
  ![v1595.toNat, arg20.toNat, 0, 0, 0]
def k0_off111 (v1594 : BitVec 32) (k0_t14 : Fin k0_t14_loop.trips) : Fin 4 → Nat :=
  let c0_i32_782 : BitVec 32 := 0#32
  let c0_i32_783 : BitVec 32 := 0#32
  let c0_i32_760 : BitVec 32 := 0#32
  let c1_i32_762 : BitVec 32 := 1#32
  let arg20 : BitVec 32 := Scf.iv c0_i32_760 c1_i32_762 k0_t14
  let c128_i32 : BitVec 32 := 128#32
  let v1610 : BitVec 32 := Scalar.muli arg20 c128_i32
  let v1611 : BitVec 32 := v1610
  ![v1594.toNat, 0, 0, v1611.toNat]

def k0_off112 (v22 : BitVec 32) (k0_t11 : Fin (k0_t11_loop v22).trips) : Fin 2 → Nat :=
  let c1_i32_764 : BitVec 32 := 1#32
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  ![1, v1595.toNat]
def k0_off113 (v22 : BitVec 32) (k0_t11 : Fin (k0_t11_loop v22).trips) : Fin 3 → Nat :=
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  let c0_i32_765 : BitVec 32 := 0#32
  let c0_i32_766 : BitVec 32 := 0#32
  ![v1595.toNat, 0, 0]
def k0_off114 (v1594 : BitVec 32) : Fin 3 → Nat :=
  let c0_i32_767 : BitVec 32 := 0#32
  let c0_i32_768 : BitVec 32 := 0#32
  ![v1594.toNat, 0, 0]
@[reducible] def k0_t15_loop : Scf.Loop 32 :=
  let c0_i32_770 : BitVec 32 := 0#32
  let c16_i32_771 : BitVec 32 := 16#32
  let v1603 : BitVec 32 := Scalar.addi c0_i32_770 c16_i32_771
  let c1_i32_772 : BitVec 32 := 1#32
  ⟨c0_i32_770, v1603, c1_i32_772⟩
def k0_mult10 (k0_t15 : Fin k0_t15_loop.trips) : BitVec 32 :=
  let c0_i32_770 : BitVec 32 := 0#32
  let c1_i32_772 : BitVec 32 := 1#32
  let arg20 : BitVec 32 := Scf.iv c0_i32_770 c1_i32_772 k0_t15
  let c128_i32 : BitVec 32 := 128#32
  let v1610 : BitVec 32 := Scalar.muli arg20 c128_i32
  v1610
def k0_off115 (v22 : BitVec 32) (k0_t11 : Fin (k0_t11_loop v22).trips) : Fin 2 → Nat :=
  let c2_i32_769 : BitVec 32 := 2#32
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  ![2, v1595.toNat]
def k0_off116 (v22 : BitVec 32) (k0_t11 : Fin (k0_t11_loop v22).trips) (k0_t15 : Fin k0_t15_loop.trips) : Fin 5 → Nat :=
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  let c0_i32_770 : BitVec 32 := 0#32
  let c1_i32_772 : BitVec 32 := 1#32
  let arg20 : BitVec 32 := Scf.iv c0_i32_770 c1_i32_772 k0_t15
  let c0_i32_779 : BitVec 32 := 0#32
  let c0_i32_780 : BitVec 32 := 0#32
  let c0_i32_781 : BitVec 32 := 0#32
  ![v1595.toNat, arg20.toNat, 0, 0, 0]
def k0_off117 (v1594 : BitVec 32) (k0_t15 : Fin k0_t15_loop.trips) : Fin 4 → Nat :=
  let c0_i32_782 : BitVec 32 := 0#32
  let c0_i32_783 : BitVec 32 := 0#32
  let c0_i32_770 : BitVec 32 := 0#32
  let c1_i32_772 : BitVec 32 := 1#32
  let arg20 : BitVec 32 := Scf.iv c0_i32_770 c1_i32_772 k0_t15
  let c128_i32 : BitVec 32 := 128#32
  let v1610 : BitVec 32 := Scalar.muli arg20 c128_i32
  let v1611 : BitVec 32 := v1610
  ![v1594.toNat, 0, 0, v1611.toNat]
def k0_off118 (v22 : BitVec 32) (k0_t11 : Fin (k0_t11_loop v22).trips) : Fin 2 → Nat :=
  let c3_i32_774 : BitVec 32 := 3#32
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  ![3, v1595.toNat]
def k0_off119 (v22 : BitVec 32) (k0_t11 : Fin (k0_t11_loop v22).trips) : Fin 3 → Nat :=
  let c1_i32_758 : BitVec 32 := 1#32
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1595 : BitVec 32 := Scalar.subi c1_i32_758 v43
  let c0_i32_775 : BitVec 32 := 0#32
  let c0_i32_776 : BitVec 32 := 0#32
  ![v1595.toNat, 0, 0]
def k0_off120 (v1594 : BitVec 32) : Fin 3 → Nat :=
  let c0_i32_777 : BitVec 32 := 0#32
  let c0_i32_778 : BitVec 32 := 0#32
  ![v1594.toNat, 0, 0]

def k0_chk7 (v22 : BitVec 32) (k0_t11 : Fin (k0_t11_loop v22).trips) (v1594 : BitVec 32) : Prop :=
  (∀ k0_t14 : Fin k0_t14_loop.trips, ∀ (k0_h2 : k0_cond2 v22 k0_t11 = 1#1), ∀ a, (k0_off111 v1594 k0_t14) a + S1x64x16x128.size a ≤ S32x64x16x3072.size a) ∧
  (∀ k0_t14 : Fin k0_t14_loop.trips, ∀ (k0_h2 : k0_cond2 v22 k0_t11 = 1#1), ∀ (hinb : ∀ a, (k0_off111 v1594 k0_t14) a + S1x64x16x128.size a ≤ S32x64x16x3072.size a), (Rect.unit (s := S32x64x16x3072) (k0_off111 v1594 k0_t14) S1x64x16x128.size hinb).WholeWords (EltTy.packing .i8)) ∧
  (∀ (k0_h2 : k0_cond2 v22 k0_t11 = 1#1), ∀ a, (k0_off114 v1594) a + S1x64x3072.size a ≤ S32x64x3072.size a) ∧
  (∀ (k0_h2 : k0_cond2 v22 k0_t11 = 1#1), ∀ (hinb : ∀ a, (k0_off114 v1594) a + S1x64x3072.size a ≤ S32x64x3072.size a), (Rect.unit (s := S32x64x3072) (k0_off114 v1594) S1x64x3072.size hinb).WholeWords (EltTy.packing .i8)) ∧
  (∀ k0_t15 : Fin k0_t15_loop.trips, ∀ (k0_h2 : k0_cond2 v22 k0_t11 = 1#1), ∀ a, (k0_off117 v1594 k0_t15) a + S1x48x16x128.size a ≤ S32x48x16x2048.size a) ∧
  (∀ k0_t15 : Fin k0_t15_loop.trips, ∀ (k0_h2 : k0_cond2 v22 k0_t11 = 1#1), ∀ (hinb : ∀ a, (k0_off117 v1594 k0_t15) a + S1x48x16x128.size a ≤ S32x48x16x2048.size a), (Rect.unit (s := S32x48x16x2048) (k0_off117 v1594 k0_t15) S1x48x16x128.size hinb).WholeWords (EltTy.packing .i8)) ∧
  (∀ (k0_h2 : k0_cond2 v22 k0_t11 = 1#1), ∀ a, (k0_off120 v1594) a + S1x48x2048.size a ≤ S32x48x2048.size a) ∧
  (∀ (k0_h2 : k0_cond2 v22 k0_t11 = 1#1), ∀ (hinb : ∀ a, (k0_off120 v1594) a + S1x48x2048.size a ≤ S32x48x2048.size a), (Rect.unit (s := S32x48x2048) (k0_off120 v1594) S1x48x2048.size hinb).WholeWords (EltTy.packing .i8))
theorem k0_off111_inb : ∀ (v22 : BitVec 32) (k0_t11 : Fin (k0_t11_loop v22).trips) (v1594 : BitVec 32) (k0_hw7 : k0_chk7 v22 k0_t11 v1594) (k0_t14 : Fin k0_t14_loop.trips), ∀ (k0_h2 : k0_cond2 v22 k0_t11 = 1#1), ∀ a, (k0_off111 v1594 k0_t14) a + S1x64x16x128.size a ≤ S32x64x16x3072.size a := fun v22 k0_t11 v1594 k0_hw7 k0_t14 k0_h2 => k0_hw7.1 k0_t14 k0_h2
theorem k0_off111_wordsi8 : ∀ (v22 : BitVec 32) (k0_t11 : Fin (k0_t11_loop v22).trips) (v1594 : BitVec 32) (k0_hw7 : k0_chk7 v22 k0_t11 v1594) (k0_t14 : Fin k0_t14_loop.trips), ∀ (k0_h2 : k0_cond2 v22 k0_t11 = 1#1), (Rect.unit (s := S32x64x16x3072) (k0_off111 v1594 k0_t14) S1x64x16x128.size (k0_off111_inb v22 k0_t11 v1594 k0_hw7 k0_t14 k0_h2)).WholeWords (EltTy.packing .i8) := fun v22 k0_t11 v1594 k0_hw7 k0_t14 k0_h2 => k0_hw7.2.1 k0_t14 k0_h2 (k0_off111_inb v22 k0_t11 v1594 k0_hw7 k0_t14 k0_h2)
theorem k0_off114_inb : ∀ (v22 : BitVec 32) (k0_t11 : Fin (k0_t11_loop v22).trips) (v1594 : BitVec 32) (k0_hw7 : k0_chk7 v22 k0_t11 v1594), ∀ (k0_h2 : k0_cond2 v22 k0_t11 = 1#1), ∀ a, (k0_off114 v1594) a + S1x64x3072.size a ≤ S32x64x3072.size a := fun v22 k0_t11 v1594 k0_hw7 k0_h2 => k0_hw7.2.2.1 k0_h2
theorem k0_off114_wordsi8 : ∀ (v22 : BitVec 32) (k0_t11 : Fin (k0_t11_loop v22).trips) (v1594 : BitVec 32) (k0_hw7 : k0_chk7 v22 k0_t11 v1594), ∀ (k0_h2 : k0_cond2 v22 k0_t11 = 1#1), (Rect.unit (s := S32x64x3072) (k0_off114 v1594) S1x64x3072.size (k0_off114_inb v22 k0_t11 v1594 k0_hw7 k0_h2)).WholeWords (EltTy.packing .i8) := fun v22 k0_t11 v1594 k0_hw7 k0_h2 => k0_hw7.2.2.2.1 k0_h2 (k0_off114_inb v22 k0_t11 v1594 k0_hw7 k0_h2)
theorem k0_off117_inb : ∀ (v22 : BitVec 32) (k0_t11 : Fin (k0_t11_loop v22).trips) (v1594 : BitVec 32) (k0_hw7 : k0_chk7 v22 k0_t11 v1594) (k0_t15 : Fin k0_t15_loop.trips), ∀ (k0_h2 : k0_cond2 v22 k0_t11 = 1#1), ∀ a, (k0_off117 v1594 k0_t15) a + S1x48x16x128.size a ≤ S32x48x16x2048.size a := fun v22 k0_t11 v1594 k0_hw7 k0_t15 k0_h2 => k0_hw7.2.2.2.2.1 k0_t15 k0_h2
theorem k0_off117_wordsi8 : ∀ (v22 : BitVec 32) (k0_t11 : Fin (k0_t11_loop v22).trips) (v1594 : BitVec 32) (k0_hw7 : k0_chk7 v22 k0_t11 v1594) (k0_t15 : Fin k0_t15_loop.trips), ∀ (k0_h2 : k0_cond2 v22 k0_t11 = 1#1), (Rect.unit (s := S32x48x16x2048) (k0_off117 v1594 k0_t15) S1x48x16x128.size (k0_off117_inb v22 k0_t11 v1594 k0_hw7 k0_t15 k0_h2)).WholeWords (EltTy.packing .i8) := fun v22 k0_t11 v1594 k0_hw7 k0_t15 k0_h2 => k0_hw7.2.2.2.2.2.1 k0_t15 k0_h2 (k0_off117_inb v22 k0_t11 v1594 k0_hw7 k0_t15 k0_h2)
theorem k0_off120_inb : ∀ (v22 : BitVec 32) (k0_t11 : Fin (k0_t11_loop v22).trips) (v1594 : BitVec 32) (k0_hw7 : k0_chk7 v22 k0_t11 v1594), ∀ (k0_h2 : k0_cond2 v22 k0_t11 = 1#1), ∀ a, (k0_off120 v1594) a + S1x48x2048.size a ≤ S32x48x2048.size a := fun v22 k0_t11 v1594 k0_hw7 k0_h2 => k0_hw7.2.2.2.2.2.2.1 k0_h2
theorem k0_off120_wordsi8 : ∀ (v22 : BitVec 32) (k0_t11 : Fin (k0_t11_loop v22).trips) (v1594 : BitVec 32) (k0_hw7 : k0_chk7 v22 k0_t11 v1594), ∀ (k0_h2 : k0_cond2 v22 k0_t11 = 1#1), (Rect.unit (s := S32x48x2048) (k0_off120 v1594) S1x48x2048.size (k0_off120_inb v22 k0_t11 v1594 k0_hw7 k0_h2)).WholeWords (EltTy.packing .i8) := fun v22 k0_t11 v1594 k0_hw7 k0_h2 => k0_hw7.2.2.2.2.2.2.2 k0_h2 (k0_off120_inb v22 k0_t11 v1594 k0_hw7 k0_h2)

def k0_off121 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v64 : Index := Scalar.indexCast v43
  let c0_69 : Index := 0#32
  let c0_70 : Index := 0#32
  ![v64.toNat, 0, 0]
def k0_off122 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v76 : Index := Scalar.indexCast v43
  let c0_73 : Index := 0#32
  let c256 : Index := 256#32
  ![v76.toNat, 0, 256]
def k0_off123 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v88 : Index := Scalar.indexCast v43
  let c0_78 : Index := 0#32
  let c512 : Index := 512#32
  ![v88.toNat, 0, 512]
def k0_off124 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v100 : Index := Scalar.indexCast v43
  let c0_83 : Index := 0#32
  let c768 : Index := 768#32
  ![v100.toNat, 0, 768]
def k0_off125 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v112 : Index := Scalar.indexCast v43
  let c0_88 : Index := 0#32
  let c1024 : Index := 1024#32
  ![v112.toNat, 0, 1024]
def k0_off126 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v124 : Index := Scalar.indexCast v43
  let c0_93 : Index := 0#32
  let c1280 : Index := 1280#32
  ![v124.toNat, 0, 1280]
def k0_off127 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v136 : Index := Scalar.indexCast v43
  let c0_98 : Index := 0#32
  let c1536 : Index := 1536#32
  ![v136.toNat, 0, 1536]
def k0_off128 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v148 : Index := Scalar.indexCast v43
  let c0_103 : Index := 0#32
  let c1792 : Index := 1792#32
  ![v148.toNat, 0, 1792]
def k0_off129 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v160 : Index := Scalar.indexCast v43
  let c0_108 : Index := 0#32
  let c2048 : Index := 2048#32
  ![v160.toNat, 0, 2048]
def k0_off130 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v172 : Index := Scalar.indexCast v43
  let c0_113 : Index := 0#32
  let c2304 : Index := 2304#32
  ![v172.toNat, 0, 2304]
def k0_off131 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v184 : Index := Scalar.indexCast v43
  let c0_118 : Index := 0#32
  let c2560 : Index := 2560#32
  ![v184.toNat, 0, 2560]
def k0_off132 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v196 : Index := Scalar.indexCast v43
  let c0_123 : Index := 0#32
  let c2816 : Index := 2816#32
  ![v196.toNat, 0, 2816]
def k0_off133 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v208 : Index := Scalar.indexCast v43
  let c0_128 : Index := 0#32
  let c0_129 : Index := 0#32
  ![v208.toNat, 0, 0]
def k0_off134 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v220 : Index := Scalar.indexCast v43
  let c0_134 : Index := 0#32
  let c256_135 : Index := 256#32
  ![v220.toNat, 0, 256]
def k0_off135 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v232 : Index := Scalar.indexCast v43
  let c0_140 : Index := 0#32
  let c512_141 : Index := 512#32
  ![v232.toNat, 0, 512]
def k0_off136 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v244 : Index := Scalar.indexCast v43
  let c0_146 : Index := 0#32
  let c768_147 : Index := 768#32
  ![v244.toNat, 0, 768]
def k0_off137 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v256 : Index := Scalar.indexCast v43
  let c0_152 : Index := 0#32
  let c1024_153 : Index := 1024#32
  ![v256.toNat, 0, 1024]
def k0_off138 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v268 : Index := Scalar.indexCast v43
  let c0_158 : Index := 0#32
  let c1280_159 : Index := 1280#32
  ![v268.toNat, 0, 1280]
def k0_off139 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v280 : Index := Scalar.indexCast v43
  let c0_164 : Index := 0#32
  let c1536_165 : Index := 1536#32
  ![v280.toNat, 0, 1536]
def k0_off140 (v22 : BitVec 32) (k0_t11 : Fin (k0_t11_loop v22).trips) : Fin 3 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v292 : Index := Scalar.indexCast v43
  let c0_170 : Index := 0#32
  let c1792_171 : Index := 1792#32
  ![v292.toNat, 0, 1792]
def k0_off141 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v306 : Index := Scalar.indexCast v43
  let c0_178 : Index := 0#32
  let c0_179 : Index := 0#32
  let c0_180 : Index := 0#32
  let c0_181 : Index := 0#32
  ![v306.toNat, 0, 0, 0, 0]
def k0_off142 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v310 : Index := Scalar.indexCast v43
  let c1 : Index := 1#32
  let c0_182 : Index := 0#32
  let c0_183 : Index := 0#32
  let c0_184 : Index := 0#32
  ![v310.toNat, 1, 0, 0, 0]
def k0_off143 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v363 : Index := Scalar.indexCast v43
  let c12 : Index := 12#32
  let c0_199 : Index := 0#32
  let c0_200 : Index := 0#32
  let c0_201 : Index := 0#32
  ![v363.toNat, 12, 0, 0, 0]
def k0_off144 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v367 : Index := Scalar.indexCast v43
  let c13 : Index := 13#32
  let c0_202 : Index := 0#32
  let c0_203 : Index := 0#32
  let c0_204 : Index := 0#32
  ![v367.toNat, 13, 0, 0, 0]
def k0_off145 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v426 : Index := Scalar.indexCast v43
  let c2 : Index := 2#32
  let c0_226 : Index := 0#32
  let c0_227 : Index := 0#32
  let c0_228 : Index := 0#32
  ![v426.toNat, 2, 0, 0, 0]
def k0_off146 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v430 : Index := Scalar.indexCast v43
  let c3 : Index := 3#32
  let c0_229 : Index := 0#32
  let c0_230 : Index := 0#32
  let c0_231 : Index := 0#32
  ![v430.toNat, 3, 0, 0, 0]
def k0_off147 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v483 : Index := Scalar.indexCast v43
  let c14 : Index := 14#32
  let c0_251 : Index := 0#32
  let c0_252 : Index := 0#32
  let c0_253 : Index := 0#32
  ![v483.toNat, 14, 0, 0, 0]
def k0_off148 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v487 : Index := Scalar.indexCast v43
  let c15 : Index := 15#32
  let c0_254 : Index := 0#32
  let c0_255 : Index := 0#32
  let c0_256 : Index := 0#32
  ![v487.toNat, 15, 0, 0, 0]
def k0_off149 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v546 : Index := Scalar.indexCast v43
  let c4 : Index := 4#32
  let c0_278 : Index := 0#32
  let c0_279 : Index := 0#32
  let c0_280 : Index := 0#32
  ![v546.toNat, 4, 0, 0, 0]
def k0_off150 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v550 : Index := Scalar.indexCast v43
  let c5 : Index := 5#32
  let c0_281 : Index := 0#32
  let c0_282 : Index := 0#32
  let c0_283 : Index := 0#32
  ![v550.toNat, 5, 0, 0, 0]
def k0_off151 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v603 : Index := Scalar.indexCast v43
  let c16 : Index := 16#32
  let c0_303 : Index := 0#32
  let c0_304 : Index := 0#32
  let c0_305 : Index := 0#32
  ![v603.toNat, 16, 0, 0, 0]
def k0_off152 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v607 : Index := Scalar.indexCast v43
  let c17 : Index := 17#32
  let c0_306 : Index := 0#32
  let c0_307 : Index := 0#32
  let c0_308 : Index := 0#32
  ![v607.toNat, 17, 0, 0, 0]
def k0_off153 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v666 : Index := Scalar.indexCast v43
  let c6 : Index := 6#32
  let c0_330 : Index := 0#32
  let c0_331 : Index := 0#32
  let c0_332 : Index := 0#32
  ![v666.toNat, 6, 0, 0, 0]
def k0_off154 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v670 : Index := Scalar.indexCast v43
  let c7 : Index := 7#32
  let c0_333 : Index := 0#32
  let c0_334 : Index := 0#32
  let c0_335 : Index := 0#32
  ![v670.toNat, 7, 0, 0, 0]
def k0_off155 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v723 : Index := Scalar.indexCast v43
  let c18 : Index := 18#32
  let c0_355 : Index := 0#32
  let c0_356 : Index := 0#32
  let c0_357 : Index := 0#32
  ![v723.toNat, 18, 0, 0, 0]
def k0_off156 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v727 : Index := Scalar.indexCast v43
  let c19 : Index := 19#32
  let c0_358 : Index := 0#32
  let c0_359 : Index := 0#32
  let c0_360 : Index := 0#32
  ![v727.toNat, 19, 0, 0, 0]
def k0_off157 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v786 : Index := Scalar.indexCast v43
  let c8 : Index := 8#32
  let c0_382 : Index := 0#32
  let c0_383 : Index := 0#32
  let c0_384 : Index := 0#32
  ![v786.toNat, 8, 0, 0, 0]
def k0_off158 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v790 : Index := Scalar.indexCast v43
  let c9 : Index := 9#32
  let c0_385 : Index := 0#32
  let c0_386 : Index := 0#32
  let c0_387 : Index := 0#32
  ![v790.toNat, 9, 0, 0, 0]
def k0_off159 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v843 : Index := Scalar.indexCast v43
  let c20 : Index := 20#32
  let c0_407 : Index := 0#32
  let c0_408 : Index := 0#32
  let c0_409 : Index := 0#32
  ![v843.toNat, 20, 0, 0, 0]
def k0_off160 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v847 : Index := Scalar.indexCast v43
  let c21 : Index := 21#32
  let c0_410 : Index := 0#32
  let c0_411 : Index := 0#32
  let c0_412 : Index := 0#32
  ![v847.toNat, 21, 0, 0, 0]
def k0_off161 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v906 : Index := Scalar.indexCast v43
  let c10 : Index := 10#32
  let c0_434 : Index := 0#32
  let c0_435 : Index := 0#32
  let c0_436 : Index := 0#32
  ![v906.toNat, 10, 0, 0, 0]
def k0_off162 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v910 : Index := Scalar.indexCast v43
  let c11 : Index := 11#32
  let c0_437 : Index := 0#32
  let c0_438 : Index := 0#32
  let c0_439 : Index := 0#32
  ![v910.toNat, 11, 0, 0, 0]
def k0_off163 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v963 : Index := Scalar.indexCast v43
  let c22 : Index := 22#32
  let c0_459 : Index := 0#32
  let c0_460 : Index := 0#32
  let c0_461 : Index := 0#32
  ![v963.toNat, 22, 0, 0, 0]
def k0_off164 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v967 : Index := Scalar.indexCast v43
  let c23 : Index := 23#32
  let c0_462 : Index := 0#32
  let c0_463 : Index := 0#32
  let c0_464 : Index := 0#32
  ![v967.toNat, 23, 0, 0, 0]
def k0_off165 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1040 : Index := Scalar.indexCast v43
  let c0_492 : Index := 0#32
  let c0_493 : Index := 0#32
  let c0_494 : Index := 0#32
  let c0_495 : Index := 0#32
  ![v1040.toNat, 0, 0, 0, 0]
def k0_off166 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1044 : Index := Scalar.indexCast v43
  let c1_496 : Index := 1#32
  let c0_497 : Index := 0#32
  let c0_498 : Index := 0#32
  let c0_499 : Index := 0#32
  ![v1044.toNat, 1, 0, 0, 0]
def k0_off167 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1109 : Index := Scalar.indexCast v43
  let c2_525 : Index := 2#32
  let c0_526 : Index := 0#32
  let c0_527 : Index := 0#32
  let c0_528 : Index := 0#32
  ![v1109.toNat, 2, 0, 0, 0]
def k0_off168 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1113 : Index := Scalar.indexCast v43
  let c3_529 : Index := 3#32
  let c0_530 : Index := 0#32
  let c0_531 : Index := 0#32
  let c0_532 : Index := 0#32
  ![v1113.toNat, 3, 0, 0, 0]
def k0_off169 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1178 : Index := Scalar.indexCast v43
  let c4_558 : Index := 4#32
  let c0_559 : Index := 0#32
  let c0_560 : Index := 0#32
  let c0_561 : Index := 0#32
  ![v1178.toNat, 4, 0, 0, 0]
def k0_off170 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1182 : Index := Scalar.indexCast v43
  let c5_562 : Index := 5#32
  let c0_563 : Index := 0#32
  let c0_564 : Index := 0#32
  let c0_565 : Index := 0#32
  ![v1182.toNat, 5, 0, 0, 0]
def k0_off171 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1247 : Index := Scalar.indexCast v43
  let c6_591 : Index := 6#32
  let c0_592 : Index := 0#32
  let c0_593 : Index := 0#32
  let c0_594 : Index := 0#32
  ![v1247.toNat, 6, 0, 0, 0]
def k0_off172 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1251 : Index := Scalar.indexCast v43
  let c7_595 : Index := 7#32
  let c0_596 : Index := 0#32
  let c0_597 : Index := 0#32
  let c0_598 : Index := 0#32
  ![v1251.toNat, 7, 0, 0, 0]
def k0_off173 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1316 : Index := Scalar.indexCast v43
  let c8_624 : Index := 8#32
  let c0_625 : Index := 0#32
  let c0_626 : Index := 0#32
  let c0_627 : Index := 0#32
  ![v1316.toNat, 8, 0, 0, 0]
def k0_off174 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1320 : Index := Scalar.indexCast v43
  let c9_628 : Index := 9#32
  let c0_629 : Index := 0#32
  let c0_630 : Index := 0#32
  let c0_631 : Index := 0#32
  ![v1320.toNat, 9, 0, 0, 0]
def k0_off175 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1385 : Index := Scalar.indexCast v43
  let c10_657 : Index := 10#32
  let c0_658 : Index := 0#32
  let c0_659 : Index := 0#32
  let c0_660 : Index := 0#32
  ![v1385.toNat, 10, 0, 0, 0]
def k0_off176 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1389 : Index := Scalar.indexCast v43
  let c11_661 : Index := 11#32
  let c0_662 : Index := 0#32
  let c0_663 : Index := 0#32
  let c0_664 : Index := 0#32
  ![v1389.toNat, 11, 0, 0, 0]
def k0_off177 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1454 : Index := Scalar.indexCast v43
  let c12_690 : Index := 12#32
  let c0_691 : Index := 0#32
  let c0_692 : Index := 0#32
  let c0_693 : Index := 0#32
  ![v1454.toNat, 12, 0, 0, 0]
def k0_off178 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1458 : Index := Scalar.indexCast v43
  let c13_694 : Index := 13#32
  let c0_695 : Index := 0#32
  let c0_696 : Index := 0#32
  let c0_697 : Index := 0#32
  ![v1458.toNat, 13, 0, 0, 0]
def k0_off179 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1523 : Index := Scalar.indexCast v43
  let c14_723 : Index := 14#32
  let c0_724 : Index := 0#32
  let c0_725 : Index := 0#32
  let c0_726 : Index := 0#32
  ![v1523.toNat, 14, 0, 0, 0]
def k0_off180 (v22 : BitVec 32) (k0_t11 : Fin (k0_t11_loop v22).trips) : Fin 5 → Nat :=
  let c0_i32_37 : BitVec 32 := 0#32
  let v33 : BitVec 32 := Scalar.subi v22 c0_i32_37
  let c1_i32_39 : BitVec 32 := 1#32
  let v35 : BitVec 32 := Scalar.divsi v33 c1_i32_39
  let v36 : BitVec 32 := Scalar.muli v35 c1_i32_39
  let v37 : BitVec 32 := Scalar.addi c0_i32_37 v36
  let c1_i32_41 : BitVec 32 := 1#32
  let arg18 : BitVec 32 := Scf.iv v37 c1_i32_41 k0_t11
  let c1_i32_46 : BitVec 32 := 1#32
  let v43 : BitVec 32 := Scalar.andi arg18 c1_i32_46
  let v1527 : Index := Scalar.indexCast v43
  let c15_727 : Index := 15#32
  let c0_728 : Index := 0#32
  let c0_729 : Index := 0#32
  let c0_730 : Index := 0#32
  ![v1527.toNat, 15, 0, 0, 0]

def k0_chk3_0 (v22 : BitVec 32) : Prop :=
  ((k0_t6_loop v22).OK) ∧
  (∀ k0_t6 : Fin (k0_t6_loop v22).trips, ∀ a, (k0_off9 v22 k0_t6) a + S1.size a ≤ S33.size a) ∧
  (∀ k0_t6 : Fin (k0_t6_loop v22).trips, ∀ a, (k0_off10 v22 k0_t6) a + S1x1.size a ≤ S4x2.size a) ∧
  (∀ (k0_t6 : Fin (k0_t6_loop v22).trips) (k0_t7 : Fin k0_t7_loop.trips), ∀ a, (k0_off11 v22 k0_t6 k0_t7) a + S1x1x64x16x128.size a ≤ S2x24x64x16x128.size a) ∧
  (∀ (k0_t6 : Fin (k0_t6_loop v22).trips) (k0_t7 : Fin k0_t7_loop.trips), ∀ (hinb : ∀ a, (k0_off11 v22 k0_t6 k0_t7) a + S1x1x64x16x128.size a ≤ S2x24x64x16x128.size a), (Rect.unit (s := S2x24x64x16x128) (k0_off11 v22 k0_t6 k0_t7) S1x1x64x16x128.size hinb).WholeWords (EltTy.packing .i8)) ∧
  (∀ k0_t6 : Fin (k0_t6_loop v22).trips, ∀ a, (k0_off13 v22 k0_t6) a + S1x1.size a ≤ S4x2.size a) ∧
  (∀ k0_t6 : Fin (k0_t6_loop v22).trips, ∀ a, (k0_off14 v22 k0_t6) a + S1x64x3072.size a ≤ S2x64x3072.size a) ∧
  (∀ k0_t6 : Fin (k0_t6_loop v22).trips, ∀ (hinb : ∀ a, (k0_off14 v22 k0_t6) a + S1x64x3072.size a ≤ S2x64x3072.size a), (Rect.unit (s := S2x64x3072) (k0_off14 v22 k0_t6) S1x64x3072.size hinb).WholeWords (EltTy.packing .i8)) ∧
  (∀ k0_t6 : Fin (k0_t6_loop v22).trips, ∀ a, (k0_off16 v22 k0_t6) a + S1x1.size a ≤ S4x2.size a) ∧
  (∀ (k0_t6 : Fin (k0_t6_loop v22).trips) (k0_t8 : Fin k0_t8_loop.trips), ∀ a, (k0_off17 v22 k0_t6 k0_t8) a + S1x1x48x16x128.size a ≤ S2x16x48x16x128.size a) ∧
  (∀ (k0_t6 : Fin (k0_t6_loop v22).trips) (k0_t8 : Fin k0_t8_loop.trips), ∀ (hinb : ∀ a, (k0_off17 v22 k0_t6 k0_t8) a + S1x1x48x16x128.size a ≤ S2x16x48x16x128.size a), (Rect.unit (s := S2x16x48x16x128) (k0_off17 v22 k0_t6 k0_t8) S1x1x48x16x128.size hinb).WholeWords (EltTy.packing .i8)) ∧
  (∀ k0_t6 : Fin (k0_t6_loop v22).trips, ∀ a, (k0_off19 v22 k0_t6) a + S1x1.size a ≤ S4x2.size a) ∧
  (∀ k0_t6 : Fin (k0_t6_loop v22).trips, ∀ a, (k0_off20 v22 k0_t6) a + S1x48x2048.size a ≤ S2x48x2048.size a) ∧
  (∀ k0_t6 : Fin (k0_t6_loop v22).trips, ∀ (hinb : ∀ a, (k0_off20 v22 k0_t6) a + S1x48x2048.size a ≤ S2x48x2048.size a), (Rect.unit (s := S2x48x2048) (k0_off20 v22 k0_t6) S1x48x2048.size hinb).WholeWords (EltTy.packing .i8)) ∧
  (∀ k0_t6 : Fin (k0_t6_loop v22).trips, ∀ (k0_h1 : k0_cond1 v22 k0_t6 = 1#1), ∀ a, (k0_off22 v22 k0_t6) a + S1.size a ≤ S33.size a) ∧
  (∀ k0_t6 : Fin (k0_t6_loop v22).trips, ∀ (k0_h1 : k0_cond1 v22 k0_t6 = 1#1), ∀ a, (k0_off23 v22 k0_t6) a + S1x1.size a ≤ S4x2.size a) ∧
  (∀ (k0_t6 : Fin (k0_t6_loop v22).trips) (k0_t9 : Fin k0_t9_loop.trips), ∀ (k0_h1 : k0_cond1 v22 k0_t6 = 1#1), ∀ a, (k0_off24 v22 k0_t6 k0_t9) a + S1x1x64x16x128.size a ≤ S2x24x64x16x128.size a) ∧
  (∀ (k0_t6 : Fin (k0_t6_loop v22).trips) (k0_t9 : Fin k0_t9_loop.trips), ∀ (k0_h1 : k0_cond1 v22 k0_t6 = 1#1), ∀ (hinb : ∀ a, (k0_off24 v22 k0_t6 k0_t9) a + S1x1x64x16x128.size a ≤ S2x24x64x16x128.size a), (Rect.unit (s := S2x24x64x16x128) (k0_off24 v22 k0_t6 k0_t9) S1x1x64x16x128.size hinb).WholeWords (EltTy.packing .i8)) ∧
  (∀ k0_t6 : Fin (k0_t6_loop v22).trips, ∀ (k0_h1 : k0_cond1 v22 k0_t6 = 1#1), ∀ a, (k0_off26 v22 k0_t6) a + S1x1.size a ≤ S4x2.size a) ∧
  (∀ k0_t6 : Fin (k0_t6_loop v22).trips, ∀ (k0_h1 : k0_cond1 v22 k0_t6 = 1#1), ∀ a, (k0_off27 v22 k0_t6) a + S1x64x3072.size a ≤ S2x64x3072.size a) ∧
  (∀ k0_t6 : Fin (k0_t6_loop v22).trips, ∀ (k0_h1 : k0_cond1 v22 k0_t6 = 1#1), ∀ (hinb : ∀ a, (k0_off27 v22 k0_t6) a + S1x64x3072.size a ≤ S2x64x3072.size a), (Rect.unit (s := S2x64x3072) (k0_off27 v22 k0_t6) S1x64x3072.size hinb).WholeWords (EltTy.packing .i8)) ∧
  (∀ k0_t6 : Fin (k0_t6_loop v22).trips, ∀ (k0_h1 : k0_cond1 v22 k0_t6 = 1#1), ∀ a, (k0_off29 v22 k0_t6) a + S1x1.size a ≤ S4x2.size a) ∧
  (∀ (k0_t6 : Fin (k0_t6_loop v22).trips) (k0_t10 : Fin k0_t10_loop.trips), ∀ (k0_h1 : k0_cond1 v22 k0_t6 = 1#1), ∀ a, (k0_off30 v22 k0_t6 k0_t10) a + S1x1x48x16x128.size a ≤ S2x16x48x16x128.size a) ∧
  (∀ (k0_t6 : Fin (k0_t6_loop v22).trips) (k0_t10 : Fin k0_t10_loop.trips), ∀ (k0_h1 : k0_cond1 v22 k0_t6 = 1#1), ∀ (hinb : ∀ a, (k0_off30 v22 k0_t6 k0_t10) a + S1x1x48x16x128.size a ≤ S2x16x48x16x128.size a), (Rect.unit (s := S2x16x48x16x128) (k0_off30 v22 k0_t6 k0_t10) S1x1x48x16x128.size hinb).WholeWords (EltTy.packing .i8)) ∧
  (∀ k0_t6 : Fin (k0_t6_loop v22).trips, ∀ (k0_h1 : k0_cond1 v22 k0_t6 = 1#1), ∀ a, (k0_off32 v22 k0_t6) a + S1x1.size a ≤ S4x2.size a) ∧
  (∀ k0_t6 : Fin (k0_t6_loop v22).trips, ∀ (k0_h1 : k0_cond1 v22 k0_t6 = 1#1), ∀ a, (k0_off33 v22 k0_t6) a + S1x48x2048.size a ≤ S2x48x2048.size a) ∧
  (∀ k0_t6 : Fin (k0_t6_loop v22).trips, ∀ (k0_h1 : k0_cond1 v22 k0_t6 = 1#1), ∀ (hinb : ∀ a, (k0_off33 v22 k0_t6) a + S1x48x2048.size a ≤ S2x48x2048.size a), (Rect.unit (s := S2x48x2048) (k0_off33 v22 k0_t6) S1x48x2048.size hinb).WholeWords (EltTy.packing .i8)) ∧
  (∀ k0_t6 : Fin (k0_t6_loop v22).trips, ∀ a, (k0_off35 v22 k0_t6) a + S1x64x256.size a ≤ S2x64x3072.size a) ∧
  (∀ k0_t6 : Fin (k0_t6_loop v22).trips, ∀ a, (k0_off36 v22 k0_t6) a + S1x64x256.size a ≤ S2x64x3072.size a) ∧
  (∀ k0_t6 : Fin (k0_t6_loop v22).trips, ∀ a, (k0_off37 v22 k0_t6) a + S1x64x256.size a ≤ S2x64x3072.size a) ∧
  (∀ k0_t6 : Fin (k0_t6_loop v22).trips, ∀ a, (k0_off38 v22 k0_t6) a + S1x64x256.size a ≤ S2x64x3072.size a) ∧
  (∀ k0_t6 : Fin (k0_t6_loop v22).trips, ∀ a, (k0_off39 v22 k0_t6) a + S1x64x256.size a ≤ S2x64x3072.size a)
def k0_chk3_1 (v22 : BitVec 32) : Prop :=
  (∀ k0_t6 : Fin (k0_t6_loop v22).trips, ∀ a, (k0_off40 v22 k0_t6) a + S1x64x256.size a ≤ S2x64x3072.size a) ∧
  (∀ k0_t6 : Fin (k0_t6_loop v22).trips, ∀ a, (k0_off41 v22 k0_t6) a + S1x64x256.size a ≤ S2x64x3072.size a) ∧
  (∀ k0_t6 : Fin (k0_t6_loop v22).trips, ∀ a, (k0_off42 v22 k0_t6) a + S1x64x256.size a ≤ S2x64x3072.size a) ∧
  (∀ k0_t6 : Fin (k0_t6_loop v22).trips, ∀ a, (k0_off43 v22 k0_t6) a + S1x64x256.size a ≤ S2x64x3072.size a) ∧
  (∀ k0_t6 : Fin (k0_t6_loop v22).trips, ∀ a, (k0_off44 v22 k0_t6) a + S1x64x256.size a ≤ S2x64x3072.size a) ∧
  (∀ k0_t6 : Fin (k0_t6_loop v22).trips, ∀ a, (k0_off45 v22 k0_t6) a + S1x64x256.size a ≤ S2x64x3072.size a) ∧
  (∀ k0_t6 : Fin (k0_t6_loop v22).trips, ∀ a, (k0_off46 v22 k0_t6) a + S1x64x256.size a ≤ S2x64x3072.size a) ∧
  (∀ k0_t6 : Fin (k0_t6_loop v22).trips, ∀ a, (k0_off47 v22 k0_t6) a + S1x48x256.size a ≤ S2x48x2048.size a) ∧
  (∀ k0_t6 : Fin (k0_t6_loop v22).trips, ∀ a, (k0_off48 v22 k0_t6) a + S1x48x256.size a ≤ S2x48x2048.size a) ∧
  (∀ k0_t6 : Fin (k0_t6_loop v22).trips, ∀ a, (k0_off49 v22 k0_t6) a + S1x48x256.size a ≤ S2x48x2048.size a) ∧
  (∀ k0_t6 : Fin (k0_t6_loop v22).trips, ∀ a, (k0_off50 v22 k0_t6) a + S1x48x256.size a ≤ S2x48x2048.size a) ∧
  (∀ k0_t6 : Fin (k0_t6_loop v22).trips, ∀ a, (k0_off51 v22 k0_t6) a + S1x48x256.size a ≤ S2x48x2048.size a) ∧
  (∀ k0_t6 : Fin (k0_t6_loop v22).trips, ∀ a, (k0_off52 v22 k0_t6) a + S1x48x256.size a ≤ S2x48x2048.size a) ∧
  (∀ k0_t6 : Fin (k0_t6_loop v22).trips, ∀ a, (k0_off53 v22 k0_t6) a + S1x48x256.size a ≤ S2x48x2048.size a) ∧
  (∀ k0_t6 : Fin (k0_t6_loop v22).trips, ∀ a, (k0_off54 v22 k0_t6) a + S1x48x256.size a ≤ S2x48x2048.size a) ∧
  (∀ k0_t6 : Fin (k0_t6_loop v22).trips, ∀ a, (k0_off55 v22 k0_t6) a + S1x1x64x16x128.size a ≤ S2x24x64x16x128.size a) ∧
  (∀ k0_t6 : Fin (k0_t6_loop v22).trips, ∀ a, (k0_off56 v22 k0_t6) a + S1x1x64x16x128.size a ≤ S2x24x64x16x128.size a) ∧
  (∀ k0_t6 : Fin (k0_t6_loop v22).trips, ∀ a, (k0_off57 v22 k0_t6) a + S1x1x64x16x128.size a ≤ S2x24x64x16x128.size a) ∧
  (∀ k0_t6 : Fin (k0_t6_loop v22).trips, ∀ a, (k0_off58 v22 k0_t6) a + S1x1x64x16x128.size a ≤ S2x24x64x16x128.size a) ∧
  (∀ k0_t6 : Fin (k0_t6_loop v22).trips, ∀ a, (k0_off59 v22 k0_t6) a + S1x1x64x16x128.size a ≤ S2x24x64x16x128.size a) ∧
  (∀ k0_t6 : Fin (k0_t6_loop v22).trips, ∀ a, (k0_off60 v22 k0_t6) a + S1x1x64x16x128.size a ≤ S2x24x64x16x128.size a) ∧
  (∀ k0_t6 : Fin (k0_t6_loop v22).trips, ∀ a, (k0_off61 v22 k0_t6) a + S1x1x64x16x128.size a ≤ S2x24x64x16x128.size a) ∧
  (∀ k0_t6 : Fin (k0_t6_loop v22).trips, ∀ a, (k0_off62 v22 k0_t6) a + S1x1x64x16x128.size a ≤ S2x24x64x16x128.size a) ∧
  (∀ k0_t6 : Fin (k0_t6_loop v22).trips, ∀ a, (k0_off63 v22 k0_t6) a + S1x1x64x16x128.size a ≤ S2x24x64x16x128.size a) ∧
  (∀ k0_t6 : Fin (k0_t6_loop v22).trips, ∀ a, (k0_off64 v22 k0_t6) a + S1x1x64x16x128.size a ≤ S2x24x64x16x128.size a) ∧
  (∀ k0_t6 : Fin (k0_t6_loop v22).trips, ∀ a, (k0_off65 v22 k0_t6) a + S1x1x64x16x128.size a ≤ S2x24x64x16x128.size a) ∧
  (∀ k0_t6 : Fin (k0_t6_loop v22).trips, ∀ a, (k0_off66 v22 k0_t6) a + S1x1x64x16x128.size a ≤ S2x24x64x16x128.size a) ∧
  (∀ k0_t6 : Fin (k0_t6_loop v22).trips, ∀ a, (k0_off67 v22 k0_t6) a + S1x1x64x16x128.size a ≤ S2x24x64x16x128.size a) ∧
  (∀ k0_t6 : Fin (k0_t6_loop v22).trips, ∀ a, (k0_off68 v22 k0_t6) a + S1x1x64x16x128.size a ≤ S2x24x64x16x128.size a) ∧
  (∀ k0_t6 : Fin (k0_t6_loop v22).trips, ∀ a, (k0_off69 v22 k0_t6) a + S1x1x64x16x128.size a ≤ S2x24x64x16x128.size a) ∧
  (∀ k0_t6 : Fin (k0_t6_loop v22).trips, ∀ a, (k0_off70 v22 k0_t6) a + S1x1x64x16x128.size a ≤ S2x24x64x16x128.size a) ∧
  (∀ k0_t6 : Fin (k0_t6_loop v22).trips, ∀ a, (k0_off71 v22 k0_t6) a + S1x1x64x16x128.size a ≤ S2x24x64x16x128.size a)
def k0_chk3_2 (v22 : BitVec 32) : Prop :=
  (∀ k0_t6 : Fin (k0_t6_loop v22).trips, ∀ a, (k0_off72 v22 k0_t6) a + S1x1x64x16x128.size a ≤ S2x24x64x16x128.size a) ∧
  (∀ k0_t6 : Fin (k0_t6_loop v22).trips, ∀ a, (k0_off73 v22 k0_t6) a + S1x1x64x16x128.size a ≤ S2x24x64x16x128.size a) ∧
  (∀ k0_t6 : Fin (k0_t6_loop v22).trips, ∀ a, (k0_off74 v22 k0_t6) a + S1x1x64x16x128.size a ≤ S2x24x64x16x128.size a) ∧
  (∀ k0_t6 : Fin (k0_t6_loop v22).trips, ∀ a, (k0_off75 v22 k0_t6) a + S1x1x64x16x128.size a ≤ S2x24x64x16x128.size a) ∧
  (∀ k0_t6 : Fin (k0_t6_loop v22).trips, ∀ a, (k0_off76 v22 k0_t6) a + S1x1x64x16x128.size a ≤ S2x24x64x16x128.size a) ∧
  (∀ k0_t6 : Fin (k0_t6_loop v22).trips, ∀ a, (k0_off77 v22 k0_t6) a + S1x1x64x16x128.size a ≤ S2x24x64x16x128.size a) ∧
  (∀ k0_t6 : Fin (k0_t6_loop v22).trips, ∀ a, (k0_off78 v22 k0_t6) a + S1x1x64x16x128.size a ≤ S2x24x64x16x128.size a) ∧
  (∀ k0_t6 : Fin (k0_t6_loop v22).trips, ∀ a, (k0_off79 v22 k0_t6) a + S1x1x48x16x128.size a ≤ S2x16x48x16x128.size a) ∧
  (∀ k0_t6 : Fin (k0_t6_loop v22).trips, ∀ a, (k0_off80 v22 k0_t6) a + S1x1x48x16x128.size a ≤ S2x16x48x16x128.size a) ∧
  (∀ k0_t6 : Fin (k0_t6_loop v22).trips, ∀ a, (k0_off81 v22 k0_t6) a + S1x1x48x16x128.size a ≤ S2x16x48x16x128.size a) ∧
  (∀ k0_t6 : Fin (k0_t6_loop v22).trips, ∀ a, (k0_off82 v22 k0_t6) a + S1x1x48x16x128.size a ≤ S2x16x48x16x128.size a) ∧
  (∀ k0_t6 : Fin (k0_t6_loop v22).trips, ∀ a, (k0_off83 v22 k0_t6) a + S1x1x48x16x128.size a ≤ S2x16x48x16x128.size a) ∧
  (∀ k0_t6 : Fin (k0_t6_loop v22).trips, ∀ a, (k0_off84 v22 k0_t6) a + S1x1x48x16x128.size a ≤ S2x16x48x16x128.size a) ∧
  (∀ k0_t6 : Fin (k0_t6_loop v22).trips, ∀ a, (k0_off85 v22 k0_t6) a + S1x1x48x16x128.size a ≤ S2x16x48x16x128.size a) ∧
  (∀ k0_t6 : Fin (k0_t6_loop v22).trips, ∀ a, (k0_off86 v22 k0_t6) a + S1x1x48x16x128.size a ≤ S2x16x48x16x128.size a) ∧
  (∀ k0_t6 : Fin (k0_t6_loop v22).trips, ∀ a, (k0_off87 v22 k0_t6) a + S1x1x48x16x128.size a ≤ S2x16x48x16x128.size a) ∧
  (∀ k0_t6 : Fin (k0_t6_loop v22).trips, ∀ a, (k0_off88 v22 k0_t6) a + S1x1x48x16x128.size a ≤ S2x16x48x16x128.size a) ∧
  (∀ k0_t6 : Fin (k0_t6_loop v22).trips, ∀ a, (k0_off89 v22 k0_t6) a + S1x1x48x16x128.size a ≤ S2x16x48x16x128.size a) ∧
  (∀ k0_t6 : Fin (k0_t6_loop v22).trips, ∀ a, (k0_off90 v22 k0_t6) a + S1x1x48x16x128.size a ≤ S2x16x48x16x128.size a) ∧
  (∀ k0_t6 : Fin (k0_t6_loop v22).trips, ∀ a, (k0_off91 v22 k0_t6) a + S1x1x48x16x128.size a ≤ S2x16x48x16x128.size a) ∧
  (∀ k0_t6 : Fin (k0_t6_loop v22).trips, ∀ a, (k0_off92 v22 k0_t6) a + S1x1x48x16x128.size a ≤ S2x16x48x16x128.size a) ∧
  (∀ k0_t6 : Fin (k0_t6_loop v22).trips, ∀ a, (k0_off93 v22 k0_t6) a + S1x1x48x16x128.size a ≤ S2x16x48x16x128.size a) ∧
  (∀ k0_t6 : Fin (k0_t6_loop v22).trips, ∀ a, (k0_off94 v22 k0_t6) a + S1x1x48x16x128.size a ≤ S2x16x48x16x128.size a) ∧
  ((k0_t11_loop v22).OK) ∧
  (∀ k0_t11 : Fin (k0_t11_loop v22).trips, ∀ a, (k0_off95 v22 k0_t11) a + S1.size a ≤ S33.size a) ∧
  (∀ k0_t11 : Fin (k0_t11_loop v22).trips, ∀ a, (k0_off96 v22 k0_t11) a + S1x1.size a ≤ S4x2.size a) ∧
  (∀ (k0_t11 : Fin (k0_t11_loop v22).trips) (k0_t12 : Fin k0_t12_loop.trips), ∀ a, (k0_off97 v22 k0_t11 k0_t12) a + S1x1x64x16x128.size a ≤ S2x24x64x16x128.size a) ∧
  (∀ (k0_t11 : Fin (k0_t11_loop v22).trips) (k0_t12 : Fin k0_t12_loop.trips), ∀ (hinb : ∀ a, (k0_off97 v22 k0_t11 k0_t12) a + S1x1x64x16x128.size a ≤ S2x24x64x16x128.size a), (Rect.unit (s := S2x24x64x16x128) (k0_off97 v22 k0_t11 k0_t12) S1x1x64x16x128.size hinb).WholeWords (EltTy.packing .i8)) ∧
  (∀ k0_t11 : Fin (k0_t11_loop v22).trips, ∀ a, (k0_off99 v22 k0_t11) a + S1x1.size a ≤ S4x2.size a) ∧
  (∀ k0_t11 : Fin (k0_t11_loop v22).trips, ∀ a, (k0_off100 v22 k0_t11) a + S1x64x3072.size a ≤ S2x64x3072.size a) ∧
  (∀ k0_t11 : Fin (k0_t11_loop v22).trips, ∀ (hinb : ∀ a, (k0_off100 v22 k0_t11) a + S1x64x3072.size a ≤ S2x64x3072.size a), (Rect.unit (s := S2x64x3072) (k0_off100 v22 k0_t11) S1x64x3072.size hinb).WholeWords (EltTy.packing .i8)) ∧
  (∀ k0_t11 : Fin (k0_t11_loop v22).trips, ∀ a, (k0_off102 v22 k0_t11) a + S1x1.size a ≤ S4x2.size a)
def k0_chk3_3 (v22 : BitVec 32) : Prop :=
  (∀ (k0_t11 : Fin (k0_t11_loop v22).trips) (k0_t13 : Fin k0_t13_loop.trips), ∀ a, (k0_off103 v22 k0_t11 k0_t13) a + S1x1x48x16x128.size a ≤ S2x16x48x16x128.size a) ∧
  (∀ (k0_t11 : Fin (k0_t11_loop v22).trips) (k0_t13 : Fin k0_t13_loop.trips), ∀ (hinb : ∀ a, (k0_off103 v22 k0_t11 k0_t13) a + S1x1x48x16x128.size a ≤ S2x16x48x16x128.size a), (Rect.unit (s := S2x16x48x16x128) (k0_off103 v22 k0_t11 k0_t13) S1x1x48x16x128.size hinb).WholeWords (EltTy.packing .i8)) ∧
  (∀ k0_t11 : Fin (k0_t11_loop v22).trips, ∀ a, (k0_off105 v22 k0_t11) a + S1x1.size a ≤ S4x2.size a) ∧
  (∀ k0_t11 : Fin (k0_t11_loop v22).trips, ∀ a, (k0_off106 v22 k0_t11) a + S1x48x2048.size a ≤ S2x48x2048.size a) ∧
  (∀ k0_t11 : Fin (k0_t11_loop v22).trips, ∀ (hinb : ∀ a, (k0_off106 v22 k0_t11) a + S1x48x2048.size a ≤ S2x48x2048.size a), (Rect.unit (s := S2x48x2048) (k0_off106 v22 k0_t11) S1x48x2048.size hinb).WholeWords (EltTy.packing .i8)) ∧
  (∀ k0_t11 : Fin (k0_t11_loop v22).trips, ∀ (k0_h2 : k0_cond2 v22 k0_t11 = 1#1), ∀ a, (k0_off108 v22 k0_t11) a + S1.size a ≤ S33.size a) ∧
  (∀ k0_t11 : Fin (k0_t11_loop v22).trips, ∀ (k0_h2 : k0_cond2 v22 k0_t11 = 1#1), ∀ a, (k0_off109 v22 k0_t11) a + S1x1.size a ≤ S4x2.size a) ∧
  (∀ (k0_t11 : Fin (k0_t11_loop v22).trips) (k0_t14 : Fin k0_t14_loop.trips), ∀ (k0_h2 : k0_cond2 v22 k0_t11 = 1#1), ∀ a, (k0_off110 v22 k0_t11 k0_t14) a + S1x1x64x16x128.size a ≤ S2x24x64x16x128.size a) ∧
  (∀ (k0_t11 : Fin (k0_t11_loop v22).trips) (k0_t14 : Fin k0_t14_loop.trips), ∀ (k0_h2 : k0_cond2 v22 k0_t11 = 1#1), ∀ (hinb : ∀ a, (k0_off110 v22 k0_t11 k0_t14) a + S1x1x64x16x128.size a ≤ S2x24x64x16x128.size a), (Rect.unit (s := S2x24x64x16x128) (k0_off110 v22 k0_t11 k0_t14) S1x1x64x16x128.size hinb).WholeWords (EltTy.packing .i8)) ∧
  (∀ k0_t11 : Fin (k0_t11_loop v22).trips, ∀ (k0_h2 : k0_cond2 v22 k0_t11 = 1#1), ∀ a, (k0_off112 v22 k0_t11) a + S1x1.size a ≤ S4x2.size a) ∧
  (∀ k0_t11 : Fin (k0_t11_loop v22).trips, ∀ (k0_h2 : k0_cond2 v22 k0_t11 = 1#1), ∀ a, (k0_off113 v22 k0_t11) a + S1x64x3072.size a ≤ S2x64x3072.size a) ∧
  (∀ k0_t11 : Fin (k0_t11_loop v22).trips, ∀ (k0_h2 : k0_cond2 v22 k0_t11 = 1#1), ∀ (hinb : ∀ a, (k0_off113 v22 k0_t11) a + S1x64x3072.size a ≤ S2x64x3072.size a), (Rect.unit (s := S2x64x3072) (k0_off113 v22 k0_t11) S1x64x3072.size hinb).WholeWords (EltTy.packing .i8)) ∧
  (∀ k0_t11 : Fin (k0_t11_loop v22).trips, ∀ (k0_h2 : k0_cond2 v22 k0_t11 = 1#1), ∀ a, (k0_off115 v22 k0_t11) a + S1x1.size a ≤ S4x2.size a) ∧
  (∀ (k0_t11 : Fin (k0_t11_loop v22).trips) (k0_t15 : Fin k0_t15_loop.trips), ∀ (k0_h2 : k0_cond2 v22 k0_t11 = 1#1), ∀ a, (k0_off116 v22 k0_t11 k0_t15) a + S1x1x48x16x128.size a ≤ S2x16x48x16x128.size a) ∧
  (∀ (k0_t11 : Fin (k0_t11_loop v22).trips) (k0_t15 : Fin k0_t15_loop.trips), ∀ (k0_h2 : k0_cond2 v22 k0_t11 = 1#1), ∀ (hinb : ∀ a, (k0_off116 v22 k0_t11 k0_t15) a + S1x1x48x16x128.size a ≤ S2x16x48x16x128.size a), (Rect.unit (s := S2x16x48x16x128) (k0_off116 v22 k0_t11 k0_t15) S1x1x48x16x128.size hinb).WholeWords (EltTy.packing .i8)) ∧
  (∀ k0_t11 : Fin (k0_t11_loop v22).trips, ∀ (k0_h2 : k0_cond2 v22 k0_t11 = 1#1), ∀ a, (k0_off118 v22 k0_t11) a + S1x1.size a ≤ S4x2.size a) ∧
  (∀ k0_t11 : Fin (k0_t11_loop v22).trips, ∀ (k0_h2 : k0_cond2 v22 k0_t11 = 1#1), ∀ a, (k0_off119 v22 k0_t11) a + S1x48x2048.size a ≤ S2x48x2048.size a) ∧
  (∀ k0_t11 : Fin (k0_t11_loop v22).trips, ∀ (k0_h2 : k0_cond2 v22 k0_t11 = 1#1), ∀ (hinb : ∀ a, (k0_off119 v22 k0_t11) a + S1x48x2048.size a ≤ S2x48x2048.size a), (Rect.unit (s := S2x48x2048) (k0_off119 v22 k0_t11) S1x48x2048.size hinb).WholeWords (EltTy.packing .i8)) ∧
  (∀ k0_t11 : Fin (k0_t11_loop v22).trips, ∀ a, (k0_off121 v22 k0_t11) a + S1x64x256.size a ≤ S2x64x3072.size a) ∧
  (∀ k0_t11 : Fin (k0_t11_loop v22).trips, ∀ a, (k0_off122 v22 k0_t11) a + S1x64x256.size a ≤ S2x64x3072.size a) ∧
  (∀ k0_t11 : Fin (k0_t11_loop v22).trips, ∀ a, (k0_off123 v22 k0_t11) a + S1x64x256.size a ≤ S2x64x3072.size a) ∧
  (∀ k0_t11 : Fin (k0_t11_loop v22).trips, ∀ a, (k0_off124 v22 k0_t11) a + S1x64x256.size a ≤ S2x64x3072.size a) ∧
  (∀ k0_t11 : Fin (k0_t11_loop v22).trips, ∀ a, (k0_off125 v22 k0_t11) a + S1x64x256.size a ≤ S2x64x3072.size a) ∧
  (∀ k0_t11 : Fin (k0_t11_loop v22).trips, ∀ a, (k0_off126 v22 k0_t11) a + S1x64x256.size a ≤ S2x64x3072.size a) ∧
  (∀ k0_t11 : Fin (k0_t11_loop v22).trips, ∀ a, (k0_off127 v22 k0_t11) a + S1x64x256.size a ≤ S2x64x3072.size a) ∧
  (∀ k0_t11 : Fin (k0_t11_loop v22).trips, ∀ a, (k0_off128 v22 k0_t11) a + S1x64x256.size a ≤ S2x64x3072.size a) ∧
  (∀ k0_t11 : Fin (k0_t11_loop v22).trips, ∀ a, (k0_off129 v22 k0_t11) a + S1x64x256.size a ≤ S2x64x3072.size a) ∧
  (∀ k0_t11 : Fin (k0_t11_loop v22).trips, ∀ a, (k0_off130 v22 k0_t11) a + S1x64x256.size a ≤ S2x64x3072.size a) ∧
  (∀ k0_t11 : Fin (k0_t11_loop v22).trips, ∀ a, (k0_off131 v22 k0_t11) a + S1x64x256.size a ≤ S2x64x3072.size a) ∧
  (∀ k0_t11 : Fin (k0_t11_loop v22).trips, ∀ a, (k0_off132 v22 k0_t11) a + S1x64x256.size a ≤ S2x64x3072.size a) ∧
  (∀ k0_t11 : Fin (k0_t11_loop v22).trips, ∀ a, (k0_off133 v22 k0_t11) a + S1x48x256.size a ≤ S2x48x2048.size a) ∧
  (∀ k0_t11 : Fin (k0_t11_loop v22).trips, ∀ a, (k0_off134 v22 k0_t11) a + S1x48x256.size a ≤ S2x48x2048.size a)
def k0_chk3_4 (v22 : BitVec 32) : Prop :=
  (∀ k0_t11 : Fin (k0_t11_loop v22).trips, ∀ a, (k0_off135 v22 k0_t11) a + S1x48x256.size a ≤ S2x48x2048.size a) ∧
  (∀ k0_t11 : Fin (k0_t11_loop v22).trips, ∀ a, (k0_off136 v22 k0_t11) a + S1x48x256.size a ≤ S2x48x2048.size a) ∧
  (∀ k0_t11 : Fin (k0_t11_loop v22).trips, ∀ a, (k0_off137 v22 k0_t11) a + S1x48x256.size a ≤ S2x48x2048.size a) ∧
  (∀ k0_t11 : Fin (k0_t11_loop v22).trips, ∀ a, (k0_off138 v22 k0_t11) a + S1x48x256.size a ≤ S2x48x2048.size a) ∧
  (∀ k0_t11 : Fin (k0_t11_loop v22).trips, ∀ a, (k0_off139 v22 k0_t11) a + S1x48x256.size a ≤ S2x48x2048.size a) ∧
  (∀ k0_t11 : Fin (k0_t11_loop v22).trips, ∀ a, (k0_off140 v22 k0_t11) a + S1x48x256.size a ≤ S2x48x2048.size a) ∧
  (∀ k0_t11 : Fin (k0_t11_loop v22).trips, ∀ a, (k0_off141 v22 k0_t11) a + S1x1x64x16x128.size a ≤ S2x24x64x16x128.size a) ∧
  (∀ k0_t11 : Fin (k0_t11_loop v22).trips, ∀ a, (k0_off142 v22 k0_t11) a + S1x1x64x16x128.size a ≤ S2x24x64x16x128.size a) ∧
  (∀ k0_t11 : Fin (k0_t11_loop v22).trips, ∀ a, (k0_off143 v22 k0_t11) a + S1x1x64x16x128.size a ≤ S2x24x64x16x128.size a) ∧
  (∀ k0_t11 : Fin (k0_t11_loop v22).trips, ∀ a, (k0_off144 v22 k0_t11) a + S1x1x64x16x128.size a ≤ S2x24x64x16x128.size a) ∧
  (∀ k0_t11 : Fin (k0_t11_loop v22).trips, ∀ a, (k0_off145 v22 k0_t11) a + S1x1x64x16x128.size a ≤ S2x24x64x16x128.size a) ∧
  (∀ k0_t11 : Fin (k0_t11_loop v22).trips, ∀ a, (k0_off146 v22 k0_t11) a + S1x1x64x16x128.size a ≤ S2x24x64x16x128.size a) ∧
  (∀ k0_t11 : Fin (k0_t11_loop v22).trips, ∀ a, (k0_off147 v22 k0_t11) a + S1x1x64x16x128.size a ≤ S2x24x64x16x128.size a) ∧
  (∀ k0_t11 : Fin (k0_t11_loop v22).trips, ∀ a, (k0_off148 v22 k0_t11) a + S1x1x64x16x128.size a ≤ S2x24x64x16x128.size a) ∧
  (∀ k0_t11 : Fin (k0_t11_loop v22).trips, ∀ a, (k0_off149 v22 k0_t11) a + S1x1x64x16x128.size a ≤ S2x24x64x16x128.size a) ∧
  (∀ k0_t11 : Fin (k0_t11_loop v22).trips, ∀ a, (k0_off150 v22 k0_t11) a + S1x1x64x16x128.size a ≤ S2x24x64x16x128.size a) ∧
  (∀ k0_t11 : Fin (k0_t11_loop v22).trips, ∀ a, (k0_off151 v22 k0_t11) a + S1x1x64x16x128.size a ≤ S2x24x64x16x128.size a) ∧
  (∀ k0_t11 : Fin (k0_t11_loop v22).trips, ∀ a, (k0_off152 v22 k0_t11) a + S1x1x64x16x128.size a ≤ S2x24x64x16x128.size a) ∧
  (∀ k0_t11 : Fin (k0_t11_loop v22).trips, ∀ a, (k0_off153 v22 k0_t11) a + S1x1x64x16x128.size a ≤ S2x24x64x16x128.size a) ∧
  (∀ k0_t11 : Fin (k0_t11_loop v22).trips, ∀ a, (k0_off154 v22 k0_t11) a + S1x1x64x16x128.size a ≤ S2x24x64x16x128.size a) ∧
  (∀ k0_t11 : Fin (k0_t11_loop v22).trips, ∀ a, (k0_off155 v22 k0_t11) a + S1x1x64x16x128.size a ≤ S2x24x64x16x128.size a) ∧
  (∀ k0_t11 : Fin (k0_t11_loop v22).trips, ∀ a, (k0_off156 v22 k0_t11) a + S1x1x64x16x128.size a ≤ S2x24x64x16x128.size a) ∧
  (∀ k0_t11 : Fin (k0_t11_loop v22).trips, ∀ a, (k0_off157 v22 k0_t11) a + S1x1x64x16x128.size a ≤ S2x24x64x16x128.size a) ∧
  (∀ k0_t11 : Fin (k0_t11_loop v22).trips, ∀ a, (k0_off158 v22 k0_t11) a + S1x1x64x16x128.size a ≤ S2x24x64x16x128.size a) ∧
  (∀ k0_t11 : Fin (k0_t11_loop v22).trips, ∀ a, (k0_off159 v22 k0_t11) a + S1x1x64x16x128.size a ≤ S2x24x64x16x128.size a) ∧
  (∀ k0_t11 : Fin (k0_t11_loop v22).trips, ∀ a, (k0_off160 v22 k0_t11) a + S1x1x64x16x128.size a ≤ S2x24x64x16x128.size a) ∧
  (∀ k0_t11 : Fin (k0_t11_loop v22).trips, ∀ a, (k0_off161 v22 k0_t11) a + S1x1x64x16x128.size a ≤ S2x24x64x16x128.size a) ∧
  (∀ k0_t11 : Fin (k0_t11_loop v22).trips, ∀ a, (k0_off162 v22 k0_t11) a + S1x1x64x16x128.size a ≤ S2x24x64x16x128.size a) ∧
  (∀ k0_t11 : Fin (k0_t11_loop v22).trips, ∀ a, (k0_off163 v22 k0_t11) a + S1x1x64x16x128.size a ≤ S2x24x64x16x128.size a) ∧
  (∀ k0_t11 : Fin (k0_t11_loop v22).trips, ∀ a, (k0_off164 v22 k0_t11) a + S1x1x64x16x128.size a ≤ S2x24x64x16x128.size a) ∧
  (∀ k0_t11 : Fin (k0_t11_loop v22).trips, ∀ a, (k0_off165 v22 k0_t11) a + S1x1x48x16x128.size a ≤ S2x16x48x16x128.size a) ∧
  (∀ k0_t11 : Fin (k0_t11_loop v22).trips, ∀ a, (k0_off166 v22 k0_t11) a + S1x1x48x16x128.size a ≤ S2x16x48x16x128.size a)
def k0_chk3_5 (v22 : BitVec 32) : Prop :=
  (∀ k0_t11 : Fin (k0_t11_loop v22).trips, ∀ a, (k0_off167 v22 k0_t11) a + S1x1x48x16x128.size a ≤ S2x16x48x16x128.size a) ∧
  (∀ k0_t11 : Fin (k0_t11_loop v22).trips, ∀ a, (k0_off168 v22 k0_t11) a + S1x1x48x16x128.size a ≤ S2x16x48x16x128.size a) ∧
  (∀ k0_t11 : Fin (k0_t11_loop v22).trips, ∀ a, (k0_off169 v22 k0_t11) a + S1x1x48x16x128.size a ≤ S2x16x48x16x128.size a) ∧
  (∀ k0_t11 : Fin (k0_t11_loop v22).trips, ∀ a, (k0_off170 v22 k0_t11) a + S1x1x48x16x128.size a ≤ S2x16x48x16x128.size a) ∧
  (∀ k0_t11 : Fin (k0_t11_loop v22).trips, ∀ a, (k0_off171 v22 k0_t11) a + S1x1x48x16x128.size a ≤ S2x16x48x16x128.size a) ∧
  (∀ k0_t11 : Fin (k0_t11_loop v22).trips, ∀ a, (k0_off172 v22 k0_t11) a + S1x1x48x16x128.size a ≤ S2x16x48x16x128.size a) ∧
  (∀ k0_t11 : Fin (k0_t11_loop v22).trips, ∀ a, (k0_off173 v22 k0_t11) a + S1x1x48x16x128.size a ≤ S2x16x48x16x128.size a) ∧
  (∀ k0_t11 : Fin (k0_t11_loop v22).trips, ∀ a, (k0_off174 v22 k0_t11) a + S1x1x48x16x128.size a ≤ S2x16x48x16x128.size a) ∧
  (∀ k0_t11 : Fin (k0_t11_loop v22).trips, ∀ a, (k0_off175 v22 k0_t11) a + S1x1x48x16x128.size a ≤ S2x16x48x16x128.size a) ∧
  (∀ k0_t11 : Fin (k0_t11_loop v22).trips, ∀ a, (k0_off176 v22 k0_t11) a + S1x1x48x16x128.size a ≤ S2x16x48x16x128.size a) ∧
  (∀ k0_t11 : Fin (k0_t11_loop v22).trips, ∀ a, (k0_off177 v22 k0_t11) a + S1x1x48x16x128.size a ≤ S2x16x48x16x128.size a) ∧
  (∀ k0_t11 : Fin (k0_t11_loop v22).trips, ∀ a, (k0_off178 v22 k0_t11) a + S1x1x48x16x128.size a ≤ S2x16x48x16x128.size a) ∧
  (∀ k0_t11 : Fin (k0_t11_loop v22).trips, ∀ a, (k0_off179 v22 k0_t11) a + S1x1x48x16x128.size a ≤ S2x16x48x16x128.size a) ∧
  (∀ k0_t11 : Fin (k0_t11_loop v22).trips, ∀ a, (k0_off180 v22 k0_t11) a + S1x1x48x16x128.size a ≤ S2x16x48x16x128.size a)
def k0_chk3 (v22 : BitVec 32) : Prop :=
  k0_chk3_0 v22 ∧
  k0_chk3_1 v22 ∧
  k0_chk3_2 v22 ∧
  k0_chk3_3 v22 ∧
  k0_chk3_4 v22 ∧
  k0_chk3_5 v22
theorem k0_t6_ok : ∀ (v22 : BitVec 32) (k0_hw3 : k0_chk3 v22), (k0_t6_loop v22).OK := fun v22 k0_hw3 => k0_hw3.1.1
theorem k0_off9_inb : ∀ (v22 : BitVec 32) (k0_hw3 : k0_chk3 v22) (k0_t6 : Fin (k0_t6_loop v22).trips), ∀ a, (k0_off9 v22 k0_t6) a + S1.size a ≤ S33.size a := fun v22 k0_hw3 k0_t6 => k0_hw3.1.2.1 k0_t6
theorem k0_off10_inb : ∀ (v22 : BitVec 32) (k0_hw3 : k0_chk3 v22) (k0_t6 : Fin (k0_t6_loop v22).trips), ∀ a, (k0_off10 v22 k0_t6) a + S1x1.size a ≤ S4x2.size a := fun v22 k0_hw3 k0_t6 => k0_hw3.1.2.2.1 k0_t6
theorem k0_off11_inb : ∀ (v22 : BitVec 32) (k0_hw3 : k0_chk3 v22) (k0_t6 : Fin (k0_t6_loop v22).trips) (k0_t7 : Fin k0_t7_loop.trips), ∀ a, (k0_off11 v22 k0_t6 k0_t7) a + S1x1x64x16x128.size a ≤ S2x24x64x16x128.size a := fun v22 k0_hw3 k0_t6 k0_t7 => k0_hw3.1.2.2.2.1 k0_t6 k0_t7
theorem k0_off11_wordsi8 : ∀ (v22 : BitVec 32) (k0_hw3 : k0_chk3 v22) (k0_t6 : Fin (k0_t6_loop v22).trips) (k0_t7 : Fin k0_t7_loop.trips), (Rect.unit (s := S2x24x64x16x128) (k0_off11 v22 k0_t6 k0_t7) S1x1x64x16x128.size (k0_off11_inb v22 k0_hw3 k0_t6 k0_t7)).WholeWords (EltTy.packing .i8) := fun v22 k0_hw3 k0_t6 k0_t7 => k0_hw3.1.2.2.2.2.1 k0_t6 k0_t7 (k0_off11_inb v22 k0_hw3 k0_t6 k0_t7)
theorem k0_off13_inb : ∀ (v22 : BitVec 32) (k0_hw3 : k0_chk3 v22) (k0_t6 : Fin (k0_t6_loop v22).trips), ∀ a, (k0_off13 v22 k0_t6) a + S1x1.size a ≤ S4x2.size a := fun v22 k0_hw3 k0_t6 => k0_hw3.1.2.2.2.2.2.1 k0_t6
theorem k0_off14_inb : ∀ (v22 : BitVec 32) (k0_hw3 : k0_chk3 v22) (k0_t6 : Fin (k0_t6_loop v22).trips), ∀ a, (k0_off14 v22 k0_t6) a + S1x64x3072.size a ≤ S2x64x3072.size a := fun v22 k0_hw3 k0_t6 => k0_hw3.1.2.2.2.2.2.2.1 k0_t6
theorem k0_off14_wordsi8 : ∀ (v22 : BitVec 32) (k0_hw3 : k0_chk3 v22) (k0_t6 : Fin (k0_t6_loop v22).trips), (Rect.unit (s := S2x64x3072) (k0_off14 v22 k0_t6) S1x64x3072.size (k0_off14_inb v22 k0_hw3 k0_t6)).WholeWords (EltTy.packing .i8) := fun v22 k0_hw3 k0_t6 => k0_hw3.1.2.2.2.2.2.2.2.1 k0_t6 (k0_off14_inb v22 k0_hw3 k0_t6)
theorem k0_off16_inb : ∀ (v22 : BitVec 32) (k0_hw3 : k0_chk3 v22) (k0_t6 : Fin (k0_t6_loop v22).trips), ∀ a, (k0_off16 v22 k0_t6) a + S1x1.size a ≤ S4x2.size a := fun v22 k0_hw3 k0_t6 => k0_hw3.1.2.2.2.2.2.2.2.2.1 k0_t6
theorem k0_off17_inb : ∀ (v22 : BitVec 32) (k0_hw3 : k0_chk3 v22) (k0_t6 : Fin (k0_t6_loop v22).trips) (k0_t8 : Fin k0_t8_loop.trips), ∀ a, (k0_off17 v22 k0_t6 k0_t8) a + S1x1x48x16x128.size a ≤ S2x16x48x16x128.size a := fun v22 k0_hw3 k0_t6 k0_t8 => k0_hw3.1.2.2.2.2.2.2.2.2.2.1 k0_t6 k0_t8
theorem k0_off17_wordsi8 : ∀ (v22 : BitVec 32) (k0_hw3 : k0_chk3 v22) (k0_t6 : Fin (k0_t6_loop v22).trips) (k0_t8 : Fin k0_t8_loop.trips), (Rect.unit (s := S2x16x48x16x128) (k0_off17 v22 k0_t6 k0_t8) S1x1x48x16x128.size (k0_off17_inb v22 k0_hw3 k0_t6 k0_t8)).WholeWords (EltTy.packing .i8) := fun v22 k0_hw3 k0_t6 k0_t8 => k0_hw3.1.2.2.2.2.2.2.2.2.2.2.1 k0_t6 k0_t8 (k0_off17_inb v22 k0_hw3 k0_t6 k0_t8)
theorem k0_off19_inb : ∀ (v22 : BitVec 32) (k0_hw3 : k0_chk3 v22) (k0_t6 : Fin (k0_t6_loop v22).trips), ∀ a, (k0_off19 v22 k0_t6) a + S1x1.size a ≤ S4x2.size a := fun v22 k0_hw3 k0_t6 => k0_hw3.1.2.2.2.2.2.2.2.2.2.2.2.1 k0_t6
theorem k0_off20_inb : ∀ (v22 : BitVec 32) (k0_hw3 : k0_chk3 v22) (k0_t6 : Fin (k0_t6_loop v22).trips), ∀ a, (k0_off20 v22 k0_t6) a + S1x48x2048.size a ≤ S2x48x2048.size a := fun v22 k0_hw3 k0_t6 => k0_hw3.1.2.2.2.2.2.2.2.2.2.2.2.2.1 k0_t6
theorem k0_off20_wordsi8 : ∀ (v22 : BitVec 32) (k0_hw3 : k0_chk3 v22) (k0_t6 : Fin (k0_t6_loop v22).trips), (Rect.unit (s := S2x48x2048) (k0_off20 v22 k0_t6) S1x48x2048.size (k0_off20_inb v22 k0_hw3 k0_t6)).WholeWords (EltTy.packing .i8) := fun v22 k0_hw3 k0_t6 => k0_hw3.1.2.2.2.2.2.2.2.2.2.2.2.2.2.1 k0_t6 (k0_off20_inb v22 k0_hw3 k0_t6)
theorem k0_off22_inb : ∀ (v22 : BitVec 32) (k0_hw3 : k0_chk3 v22) (k0_t6 : Fin (k0_t6_loop v22).trips), ∀ (k0_h1 : k0_cond1 v22 k0_t6 = 1#1), ∀ a, (k0_off22 v22 k0_t6) a + S1.size a ≤ S33.size a := fun v22 k0_hw3 k0_t6 k0_h1 => k0_hw3.1.2.2.2.2.2.2.2.2.2.2.2.2.2.2.1 k0_t6 k0_h1
theorem k0_off23_inb : ∀ (v22 : BitVec 32) (k0_hw3 : k0_chk3 v22) (k0_t6 : Fin (k0_t6_loop v22).trips), ∀ (k0_h1 : k0_cond1 v22 k0_t6 = 1#1), ∀ a, (k0_off23 v22 k0_t6) a + S1x1.size a ≤ S4x2.size a := fun v22 k0_hw3 k0_t6 k0_h1 => k0_hw3.1.2.2.2.2.2.2.2.2.2.2.2.2.2.2.2.1 k0_t6 k0_h1
theorem k0_off24_inb : ∀ (v22 : BitVec 32) (k0_hw3 : k0_chk3 v22) (k0_t6 : Fin (k0_t6_loop v22).trips) (k0_t9 : Fin k0_t9_loop.trips), ∀ (k0_h1 : k0_cond1 v22 k0_t6 = 1#1), ∀ a, (k0_off24 v22 k0_t6 k0_t9) a + S1x1x64x16x128.size a ≤ S2x24x64x16x128.size a := fun v22 k0_hw3 k0_t6 k0_t9 k0_h1 => k0_hw3.1.2.2.2.2.2.2.2.2.2.2.2.2.2.2.2.2.1 k0_t6 k0_t9 k0_h1
theorem k0_off24_wordsi8 : ∀ (v22 : BitVec 32) (k0_hw3 : k0_chk3 v22) (k0_t6 : Fin (k0_t6_loop v22).trips) (k0_t9 : Fin k0_t9_loop.trips), ∀ (k0_h1 : k0_cond1 v22 k0_t6 = 1#1), (Rect.unit (s := S2x24x64x16x128) (k0_off24 v22 k0_t6 k0_t9) S1x1x64x16x128.size (k0_off24_inb v22 k0_hw3 k0_t6 k0_t9 k0_h1)).WholeWords (EltTy.packing .i8) := fun v22 k0_hw3 k0_t6 k0_t9 k0_h1 => k0_hw3.1.2.2.2.2.2.2.2.2.2.2.2.2.2.2.2.2.2.1 k0_t6 k0_t9 k0_h1 (k0_off24_inb v22 k0_hw3 k0_t6 k0_t9 k0_h1)
theorem k0_off26_inb : ∀ (v22 : BitVec 32) (k0_hw3 : k0_chk3 v22) (k0_t6 : Fin (k0_t6_loop v22).trips), ∀ (k0_h1 : k0_cond1 v22 k0_t6 = 1#1), ∀ a, (k0_off26 v22 k0_t6) a + S1x1.size a ≤ S4x2.size a := fun v22 k0_hw3 k0_t6 k0_h1 => k0_hw3.1.2.2.2.2.2.2.2.2.2.2.2.2.2.2.2.2.2.2.1 k0_t6 k0_h1
theorem k0_off27_inb : ∀ (v22 : BitVec 32) (k0_hw3 : k0_chk3 v22) (k0_t6 : Fin (k0_t6_loop v22).trips), ∀ (k0_h1 : k0_cond1 v22 k0_t6 = 1#1), ∀ a, (k0_off27 v22 k0_t6) a + S1x64x3072.size a ≤ S2x64x3072.size a := fun v22 k0_hw3 k0_t6 k0_h1 => k0_hw3.1.2.2.2.2.2.2.2.2.2.2.2.2.2.2.2.2.2.2.2.1 k0_t6 k0_h1
theorem k0_off27_wordsi8 : ∀ (v22 : BitVec 32) (k0_hw3 : k0_chk3 v22) (k0_t6 : Fin (k0_t6_loop v22).trips), ∀ (k0_h1 : k0_cond1 v22 k0_t6 = 1#1), (Rect.unit (s := S2x64x3072) (k0_off27 v22 k0_t6) S1x64x3072.size (k0_off27_inb v22 k0_hw3 k0_t6 k0_h1)).WholeWords (EltTy.packing .i8) := fun v22 k0_hw3 k0_t6 k0_h1 => k0_hw3.1.2.2.2.2.2.2.2.2.2.2.2.2.2.2.2.2.2.2.2.2.1 k0_t6 k0_h1 (k0_off27_inb v22 k0_hw3 k0_t6 k0_h1)
theorem k0_off29_inb : ∀ (v22 : BitVec 32) (k0_hw3 : k0_chk3 v22) (k0_t6 : Fin (k0_t6_loop v22).trips), ∀ (k0_h1 : k0_cond1 v22 k0_t6 = 1#1), ∀ a, (k0_off29 v22 k0_t6) a + S1x1.size a ≤ S4x2.size a := fun v22 k0_hw3 k0_t6 k0_h1 => k0_hw3.1.2.2.2.2.2.2.2.2.2.2.2.2.2.2.2.2.2.2.2.2.2.1 k0_t6 k0_h1
theorem k0_off30_inb : ∀ (v22 : BitVec 32) (k0_hw3 : k0_chk3 v22) (k0_t6 : Fin (k0_t6_loop v22).trips) (k0_t10 : Fin k0_t10_loop.trips), ∀ (k0_h1 : k0_cond1 v22 k0_t6 = 1#1), ∀ a, (k0_off30 v22 k0_t6 k0_t10) a + S1x1x48x16x128.size a ≤ S2x16x48x16x128.size a := fun v22 k0_hw3 k0_t6 k0_t10 k0_h1 => k0_hw3.1.2.2.2.2.2.2.2.2.2.2.2.2.2.2.2.2.2.2.2.2.2.2.1 k0_t6 k0_t10 k0_h1
theorem k0_off30_wordsi8 : ∀ (v22 : BitVec 32) (k0_hw3 : k0_chk3 v22) (k0_t6 : Fin (k0_t6_loop v22).trips) (k0_t10 : Fin k0_t10_loop.trips), ∀ (k0_h1 : k0_cond1 v22 k0_t6 = 1#1), (Rect.unit (s := S2x16x48x16x128) (k0_off30 v22 k0_t6 k0_t10) S1x1x48x16x128.size (k0_off30_inb v22 k0_hw3 k0_t6 k0_t10 k0_h1)).WholeWords (EltTy.packing .i8) := fun v22 k0_hw3 k0_t6 k0_t10 k0_h1 => k0_hw3.1.2.2.2.2.2.2.2.2.2.2.2.2.2.2.2.2.2.2.2.2.2.2.2.1 k0_t6 k0_t10 k0_h1 (k0_off30_inb v22 k0_hw3 k0_t6 k0_t10 k0_h1)
theorem k0_off32_inb : ∀ (v22 : BitVec 32) (k0_hw3 : k0_chk3 v22) (k0_t6 : Fin (k0_t6_loop v22).trips), ∀ (k0_h1 : k0_cond1 v22 k0_t6 = 1#1), ∀ a, (k0_off32 v22 k0_t6) a + S1x1.size a ≤ S4x2.size a := fun v22 k0_hw3 k0_t6 k0_h1 => k0_hw3.1.2.2.2.2.2.2.2.2.2.2.2.2.2.2.2.2.2.2.2.2.2.2.2.2.1 k0_t6 k0_h1
theorem k0_off33_inb : ∀ (v22 : BitVec 32) (k0_hw3 : k0_chk3 v22) (k0_t6 : Fin (k0_t6_loop v22).trips), ∀ (k0_h1 : k0_cond1 v22 k0_t6 = 1#1), ∀ a, (k0_off33 v22 k0_t6) a + S1x48x2048.size a ≤ S2x48x2048.size a := fun v22 k0_hw3 k0_t6 k0_h1 => k0_hw3.1.2.2.2.2.2.2.2.2.2.2.2.2.2.2.2.2.2.2.2.2.2.2.2.2.2.1 k0_t6 k0_h1
theorem k0_off33_wordsi8 : ∀ (v22 : BitVec 32) (k0_hw3 : k0_chk3 v22) (k0_t6 : Fin (k0_t6_loop v22).trips), ∀ (k0_h1 : k0_cond1 v22 k0_t6 = 1#1), (Rect.unit (s := S2x48x2048) (k0_off33 v22 k0_t6) S1x48x2048.size (k0_off33_inb v22 k0_hw3 k0_t6 k0_h1)).WholeWords (EltTy.packing .i8) := fun v22 k0_hw3 k0_t6 k0_h1 => k0_hw3.1.2.2.2.2.2.2.2.2.2.2.2.2.2.2.2.2.2.2.2.2.2.2.2.2.2.2.1 k0_t6 k0_h1 (k0_off33_inb v22 k0_hw3 k0_t6 k0_h1)
theorem k0_off35_inb : ∀ (v22 : BitVec 32) (k0_hw3 : k0_chk3 v22) (k0_t6 : Fin (k0_t6_loop v22).trips), ∀ a, (k0_off35 v22 k0_t6) a + S1x64x256.size a ≤ S2x64x3072.size a := fun v22 k0_hw3 k0_t6 => k0_hw3.1.2.2.2.2.2.2.2.2.2.2.2.2.2.2.2.2.2.2.2.2.2.2.2.2.2.2.2.1 k0_t6
theorem k0_off36_inb : ∀ (v22 : BitVec 32) (k0_hw3 : k0_chk3 v22) (k0_t6 : Fin (k0_t6_loop v22).trips), ∀ a, (k0_off36 v22 k0_t6) a + S1x64x256.size a ≤ S2x64x3072.size a := fun v22 k0_hw3 k0_t6 => k0_hw3.1.2.2.2.2.2.2.2.2.2.2.2.2.2.2.2.2.2.2.2.2.2.2.2.2.2.2.2.2.1 k0_t6
theorem k0_off37_inb : ∀ (v22 : BitVec 32) (k0_hw3 : k0_chk3 v22) (k0_t6 : Fin (k0_t6_loop v22).trips), ∀ a, (k0_off37 v22 k0_t6) a + S1x64x256.size a ≤ S2x64x3072.size a := fun v22 k0_hw3 k0_t6 => k0_hw3.1.2.2.2.2.2.2.2.2.2.2.2.2.2.2.2.2.2.2.2.2.2.2.2.2.2.2.2.2.2.1 k0_t6
theorem k0_off38_inb : ∀ (v22 : BitVec 32) (k0_hw3 : k0_chk3 v22) (k0_t6 : Fin (k0_t6_loop v22).trips), ∀ a, (k0_off38 v22 k0_t6) a + S1x64x256.size a ≤ S2x64x3072.size a := fun v22 k0_hw3 k0_t6 => k0_hw3.1.2.2.2.2.2.2.2.2.2.2.2.2.2.2.2.2.2.2.2.2.2.2.2.2.2.2.2.2.2.2.1 k0_t6
theorem k0_off39_inb : ∀ (v22 : BitVec 32) (k0_hw3 : k0_chk3 v22) (k0_t6 : Fin (k0_t6_loop v22).trips), ∀ a, (k0_off39 v22 k0_t6) a + S1x64x256.size a ≤ S2x64x3072.size a := fun v22 k0_hw3 k0_t6 => k0_hw3.1.2.2.2.2.2.2.2.2.2.2.2.2.2.2.2.2.2.2.2.2.2.2.2.2.2.2.2.2.2.2.2 k0_t6
theorem k0_off40_inb : ∀ (v22 : BitVec 32) (k0_hw3 : k0_chk3 v22) (k0_t6 : Fin (k0_t6_loop v22).trips), ∀ a, (k0_off40 v22 k0_t6) a + S1x64x256.size a ≤ S2x64x3072.size a := fun v22 k0_hw3 k0_t6 => k0_hw3.2.1.1 k0_t6
theorem k0_off41_inb : ∀ (v22 : BitVec 32) (k0_hw3 : k0_chk3 v22) (k0_t6 : Fin (k0_t6_loop v22).trips), ∀ a, (k0_off41 v22 k0_t6) a + S1x64x256.size a ≤ S2x64x3072.size a := fun v22 k0_hw3 k0_t6 => k0_hw3.2.1.2.1 k0_t6
theorem k0_off42_inb : ∀ (v22 : BitVec 32) (k0_hw3 : k0_chk3 v22) (k0_t6 : Fin (k0_t6_loop v22).trips), ∀ a, (k0_off42 v22 k0_t6) a + S1x64x256.size a ≤ S2x64x3072.size a := fun v22 k0_hw3 k0_t6 => k0_hw3.2.1.2.2.1 k0_t6
theorem k0_off43_inb : ∀ (v22 : BitVec 32) (k0_hw3 : k0_chk3 v22) (k0_t6 : Fin (k0_t6_loop v22).trips), ∀ a, (k0_off43 v22 k0_t6) a + S1x64x256.size a ≤ S2x64x3072.size a := fun v22 k0_hw3 k0_t6 => k0_hw3.2.1.2.2.2.1 k0_t6
theorem k0_off44_inb : ∀ (v22 : BitVec 32) (k0_hw3 : k0_chk3 v22) (k0_t6 : Fin (k0_t6_loop v22).trips), ∀ a, (k0_off44 v22 k0_t6) a + S1x64x256.size a ≤ S2x64x3072.size a := fun v22 k0_hw3 k0_t6 => k0_hw3.2.1.2.2.2.2.1 k0_t6
theorem k0_off45_inb : ∀ (v22 : BitVec 32) (k0_hw3 : k0_chk3 v22) (k0_t6 : Fin (k0_t6_loop v22).trips), ∀ a, (k0_off45 v22 k0_t6) a + S1x64x256.size a ≤ S2x64x3072.size a := fun v22 k0_hw3 k0_t6 => k0_hw3.2.1.2.2.2.2.2.1 k0_t6
theorem k0_off46_inb : ∀ (v22 : BitVec 32) (k0_hw3 : k0_chk3 v22) (k0_t6 : Fin (k0_t6_loop v22).trips), ∀ a, (k0_off46 v22 k0_t6) a + S1x64x256.size a ≤ S2x64x3072.size a := fun v22 k0_hw3 k0_t6 => k0_hw3.2.1.2.2.2.2.2.2.1 k0_t6
theorem k0_off47_inb : ∀ (v22 : BitVec 32) (k0_hw3 : k0_chk3 v22) (k0_t6 : Fin (k0_t6_loop v22).trips), ∀ a, (k0_off47 v22 k0_t6) a + S1x48x256.size a ≤ S2x48x2048.size a := fun v22 k0_hw3 k0_t6 => k0_hw3.2.1.2.2.2.2.2.2.2.1 k0_t6
theorem k0_off48_inb : ∀ (v22 : BitVec 32) (k0_hw3 : k0_chk3 v22) (k0_t6 : Fin (k0_t6_loop v22).trips), ∀ a, (k0_off48 v22 k0_t6) a + S1x48x256.size a ≤ S2x48x2048.size a := fun v22 k0_hw3 k0_t6 => k0_hw3.2.1.2.2.2.2.2.2.2.2.1 k0_t6
theorem k0_off49_inb : ∀ (v22 : BitVec 32) (k0_hw3 : k0_chk3 v22) (k0_t6 : Fin (k0_t6_loop v22).trips), ∀ a, (k0_off49 v22 k0_t6) a + S1x48x256.size a ≤ S2x48x2048.size a := fun v22 k0_hw3 k0_t6 => k0_hw3.2.1.2.2.2.2.2.2.2.2.2.1 k0_t6
theorem k0_off50_inb : ∀ (v22 : BitVec 32) (k0_hw3 : k0_chk3 v22) (k0_t6 : Fin (k0_t6_loop v22).trips), ∀ a, (k0_off50 v22 k0_t6) a + S1x48x256.size a ≤ S2x48x2048.size a := fun v22 k0_hw3 k0_t6 => k0_hw3.2.1.2.2.2.2.2.2.2.2.2.2.1 k0_t6
theorem k0_off51_inb : ∀ (v22 : BitVec 32) (k0_hw3 : k0_chk3 v22) (k0_t6 : Fin (k0_t6_loop v22).trips), ∀ a, (k0_off51 v22 k0_t6) a + S1x48x256.size a ≤ S2x48x2048.size a := fun v22 k0_hw3 k0_t6 => k0_hw3.2.1.2.2.2.2.2.2.2.2.2.2.2.1 k0_t6
theorem k0_off52_inb : ∀ (v22 : BitVec 32) (k0_hw3 : k0_chk3 v22) (k0_t6 : Fin (k0_t6_loop v22).trips), ∀ a, (k0_off52 v22 k0_t6) a + S1x48x256.size a ≤ S2x48x2048.size a := fun v22 k0_hw3 k0_t6 => k0_hw3.2.1.2.2.2.2.2.2.2.2.2.2.2.2.1 k0_t6
theorem k0_off53_inb : ∀ (v22 : BitVec 32) (k0_hw3 : k0_chk3 v22) (k0_t6 : Fin (k0_t6_loop v22).trips), ∀ a, (k0_off53 v22 k0_t6) a + S1x48x256.size a ≤ S2x48x2048.size a := fun v22 k0_hw3 k0_t6 => k0_hw3.2.1.2.2.2.2.2.2.2.2.2.2.2.2.2.1 k0_t6
theorem k0_off54_inb : ∀ (v22 : BitVec 32) (k0_hw3 : k0_chk3 v22) (k0_t6 : Fin (k0_t6_loop v22).trips), ∀ a, (k0_off54 v22 k0_t6) a + S1x48x256.size a ≤ S2x48x2048.size a := fun v22 k0_hw3 k0_t6 => k0_hw3.2.1.2.2.2.2.2.2.2.2.2.2.2.2.2.2.1 k0_t6
theorem k0_off55_inb : ∀ (v22 : BitVec 32) (k0_hw3 : k0_chk3 v22) (k0_t6 : Fin (k0_t6_loop v22).trips), ∀ a, (k0_off55 v22 k0_t6) a + S1x1x64x16x128.size a ≤ S2x24x64x16x128.size a := fun v22 k0_hw3 k0_t6 => k0_hw3.2.1.2.2.2.2.2.2.2.2.2.2.2.2.2.2.2.1 k0_t6
theorem k0_off56_inb : ∀ (v22 : BitVec 32) (k0_hw3 : k0_chk3 v22) (k0_t6 : Fin (k0_t6_loop v22).trips), ∀ a, (k0_off56 v22 k0_t6) a + S1x1x64x16x128.size a ≤ S2x24x64x16x128.size a := fun v22 k0_hw3 k0_t6 => k0_hw3.2.1.2.2.2.2.2.2.2.2.2.2.2.2.2.2.2.2.1 k0_t6
theorem k0_off57_inb : ∀ (v22 : BitVec 32) (k0_hw3 : k0_chk3 v22) (k0_t6 : Fin (k0_t6_loop v22).trips), ∀ a, (k0_off57 v22 k0_t6) a + S1x1x64x16x128.size a ≤ S2x24x64x16x128.size a := fun v22 k0_hw3 k0_t6 => k0_hw3.2.1.2.2.2.2.2.2.2.2.2.2.2.2.2.2.2.2.2.1 k0_t6
theorem k0_off58_inb : ∀ (v22 : BitVec 32) (k0_hw3 : k0_chk3 v22) (k0_t6 : Fin (k0_t6_loop v22).trips), ∀ a, (k0_off58 v22 k0_t6) a + S1x1x64x16x128.size a ≤ S2x24x64x16x128.size a := fun v22 k0_hw3 k0_t6 => k0_hw3.2.1.2.2.2.2.2.2.2.2.2.2.2.2.2.2.2.2.2.2.1 k0_t6
theorem k0_off59_inb : ∀ (v22 : BitVec 32) (k0_hw3 : k0_chk3 v22) (k0_t6 : Fin (k0_t6_loop v22).trips), ∀ a, (k0_off59 v22 k0_t6) a + S1x1x64x16x128.size a ≤ S2x24x64x16x128.size a := fun v22 k0_hw3 k0_t6 => k0_hw3.2.1.2.2.2.2.2.2.2.2.2.2.2.2.2.2.2.2.2.2.2.1 k0_t6
theorem k0_off60_inb : ∀ (v22 : BitVec 32) (k0_hw3 : k0_chk3 v22) (k0_t6 : Fin (k0_t6_loop v22).trips), ∀ a, (k0_off60 v22 k0_t6) a + S1x1x64x16x128.size a ≤ S2x24x64x16x128.size a := fun v22 k0_hw3 k0_t6 => k0_hw3.2.1.2.2.2.2.2.2.2.2.2.2.2.2.2.2.2.2.2.2.2.2.1 k0_t6
theorem k0_off61_inb : ∀ (v22 : BitVec 32) (k0_hw3 : k0_chk3 v22) (k0_t6 : Fin (k0_t6_loop v22).trips), ∀ a, (k0_off61 v22 k0_t6) a + S1x1x64x16x128.size a ≤ S2x24x64x16x128.size a := fun v22 k0_hw3 k0_t6 => k0_hw3.2.1.2.2.2.2.2.2.2.2.2.2.2.2.2.2.2.2.2.2.2.2.2.1 k0_t6
theorem k0_off62_inb : ∀ (v22 : BitVec 32) (k0_hw3 : k0_chk3 v22) (k0_t6 : Fin (k0_t6_loop v22).trips), ∀ a, (k0_off62 v22 k0_t6) a + S1x1x64x16x128.size a ≤ S2x24x64x16x128.size a := fun v22 k0_hw3 k0_t6 => k0_hw3.2.1.2.2.2.2.2.2.2.2.2.2.2.2.2.2.2.2.2.2.2.2.2.2.1 k0_t6
theorem k0_off63_inb : ∀ (v22 : BitVec 32) (k0_hw3 : k0_chk3 v22) (k0_t6 : Fin (k0_t6_loop v22).trips), ∀ a, (k0_off63 v22 k0_t6) a + S1x1x64x16x128.size a ≤ S2x24x64x16x128.size a := fun v22 k0_hw3 k0_t6 => k0_hw3.2.1.2.2.2.2.2.2.2.2.2.2.2.2.2.2.2.2.2.2.2.2.2.2.2.1 k0_t6
theorem k0_off64_inb : ∀ (v22 : BitVec 32) (k0_hw3 : k0_chk3 v22) (k0_t6 : Fin (k0_t6_loop v22).trips), ∀ a, (k0_off64 v22 k0_t6) a + S1x1x64x16x128.size a ≤ S2x24x64x16x128.size a := fun v22 k0_hw3 k0_t6 => k0_hw3.2.1.2.2.2.2.2.2.2.2.2.2.2.2.2.2.2.2.2.2.2.2.2.2.2.2.1 k0_t6
theorem k0_off65_inb : ∀ (v22 : BitVec 32) (k0_hw3 : k0_chk3 v22) (k0_t6 : Fin (k0_t6_loop v22).trips), ∀ a, (k0_off65 v22 k0_t6) a + S1x1x64x16x128.size a ≤ S2x24x64x16x128.size a := fun v22 k0_hw3 k0_t6 => k0_hw3.2.1.2.2.2.2.2.2.2.2.2.2.2.2.2.2.2.2.2.2.2.2.2.2.2.2.2.1 k0_t6
theorem k0_off66_inb : ∀ (v22 : BitVec 32) (k0_hw3 : k0_chk3 v22) (k0_t6 : Fin (k0_t6_loop v22).trips), ∀ a, (k0_off66 v22 k0_t6) a + S1x1x64x16x128.size a ≤ S2x24x64x16x128.size a := fun v22 k0_hw3 k0_t6 => k0_hw3.2.1.2.2.2.2.2.2.2.2.2.2.2.2.2.2.2.2.2.2.2.2.2.2.2.2.2.2.1 k0_t6
theorem k0_off67_inb : ∀ (v22 : BitVec 32) (k0_hw3 : k0_chk3 v22) (k0_t6 : Fin (k0_t6_loop v22).trips), ∀ a, (k0_off67 v22 k0_t6) a + S1x1x64x16x128.size a ≤ S2x24x64x16x128.size a := fun v22 k0_hw3 k0_t6 => k0_hw3.2.1.2.2.2.2.2.2.2.2.2.2.2.2.2.2.2.2.2.2.2.2.2.2.2.2.2.2.2.1 k0_t6
theorem k0_off68_inb : ∀ (v22 : BitVec 32) (k0_hw3 : k0_chk3 v22) (k0_t6 : Fin (k0_t6_loop v22).trips), ∀ a, (k0_off68 v22 k0_t6) a + S1x1x64x16x128.size a ≤ S2x24x64x16x128.size a := fun v22 k0_hw3 k0_t6 => k0_hw3.2.1.2.2.2.2.2.2.2.2.2.2.2.2.2.2.2.2.2.2.2.2.2.2.2.2.2.2.2.2.1 k0_t6
theorem k0_off69_inb : ∀ (v22 : BitVec 32) (k0_hw3 : k0_chk3 v22) (k0_t6 : Fin (k0_t6_loop v22).trips), ∀ a, (k0_off69 v22 k0_t6) a + S1x1x64x16x128.size a ≤ S2x24x64x16x128.size a := fun v22 k0_hw3 k0_t6 => k0_hw3.2.1.2.2.2.2.2.2.2.2.2.2.2.2.2.2.2.2.2.2.2.2.2.2.2.2.2.2.2.2.2.1 k0_t6
theorem k0_off70_inb : ∀ (v22 : BitVec 32) (k0_hw3 : k0_chk3 v22) (k0_t6 : Fin (k0_t6_loop v22).trips), ∀ a, (k0_off70 v22 k0_t6) a + S1x1x64x16x128.size a ≤ S2x24x64x16x128.size a := fun v22 k0_hw3 k0_t6 => k0_hw3.2.1.2.2.2.2.2.2.2.2.2.2.2.2.2.2.2.2.2.2.2.2.2.2.2.2.2.2.2.2.2.2.1 k0_t6
theorem k0_off71_inb : ∀ (v22 : BitVec 32) (k0_hw3 : k0_chk3 v22) (k0_t6 : Fin (k0_t6_loop v22).trips), ∀ a, (k0_off71 v22 k0_t6) a + S1x1x64x16x128.size a ≤ S2x24x64x16x128.size a := fun v22 k0_hw3 k0_t6 => k0_hw3.2.1.2.2.2.2.2.2.2.2.2.2.2.2.2.2.2.2.2.2.2.2.2.2.2.2.2.2.2.2.2.2.2 k0_t6
theorem k0_off72_inb : ∀ (v22 : BitVec 32) (k0_hw3 : k0_chk3 v22) (k0_t6 : Fin (k0_t6_loop v22).trips), ∀ a, (k0_off72 v22 k0_t6) a + S1x1x64x16x128.size a ≤ S2x24x64x16x128.size a := fun v22 k0_hw3 k0_t6 => k0_hw3.2.2.1.1 k0_t6
theorem k0_off73_inb : ∀ (v22 : BitVec 32) (k0_hw3 : k0_chk3 v22) (k0_t6 : Fin (k0_t6_loop v22).trips), ∀ a, (k0_off73 v22 k0_t6) a + S1x1x64x16x128.size a ≤ S2x24x64x16x128.size a := fun v22 k0_hw3 k0_t6 => k0_hw3.2.2.1.2.1 k0_t6
theorem k0_off74_inb : ∀ (v22 : BitVec 32) (k0_hw3 : k0_chk3 v22) (k0_t6 : Fin (k0_t6_loop v22).trips), ∀ a, (k0_off74 v22 k0_t6) a + S1x1x64x16x128.size a ≤ S2x24x64x16x128.size a := fun v22 k0_hw3 k0_t6 => k0_hw3.2.2.1.2.2.1 k0_t6
theorem k0_off75_inb : ∀ (v22 : BitVec 32) (k0_hw3 : k0_chk3 v22) (k0_t6 : Fin (k0_t6_loop v22).trips), ∀ a, (k0_off75 v22 k0_t6) a + S1x1x64x16x128.size a ≤ S2x24x64x16x128.size a := fun v22 k0_hw3 k0_t6 => k0_hw3.2.2.1.2.2.2.1 k0_t6
theorem k0_off76_inb : ∀ (v22 : BitVec 32) (k0_hw3 : k0_chk3 v22) (k0_t6 : Fin (k0_t6_loop v22).trips), ∀ a, (k0_off76 v22 k0_t6) a + S1x1x64x16x128.size a ≤ S2x24x64x16x128.size a := fun v22 k0_hw3 k0_t6 => k0_hw3.2.2.1.2.2.2.2.1 k0_t6
theorem k0_off77_inb : ∀ (v22 : BitVec 32) (k0_hw3 : k0_chk3 v22) (k0_t6 : Fin (k0_t6_loop v22).trips), ∀ a, (k0_off77 v22 k0_t6) a + S1x1x64x16x128.size a ≤ S2x24x64x16x128.size a := fun v22 k0_hw3 k0_t6 => k0_hw3.2.2.1.2.2.2.2.2.1 k0_t6
theorem k0_off78_inb : ∀ (v22 : BitVec 32) (k0_hw3 : k0_chk3 v22) (k0_t6 : Fin (k0_t6_loop v22).trips), ∀ a, (k0_off78 v22 k0_t6) a + S1x1x64x16x128.size a ≤ S2x24x64x16x128.size a := fun v22 k0_hw3 k0_t6 => k0_hw3.2.2.1.2.2.2.2.2.2.1 k0_t6
theorem k0_off79_inb : ∀ (v22 : BitVec 32) (k0_hw3 : k0_chk3 v22) (k0_t6 : Fin (k0_t6_loop v22).trips), ∀ a, (k0_off79 v22 k0_t6) a + S1x1x48x16x128.size a ≤ S2x16x48x16x128.size a := fun v22 k0_hw3 k0_t6 => k0_hw3.2.2.1.2.2.2.2.2.2.2.1 k0_t6
theorem k0_off80_inb : ∀ (v22 : BitVec 32) (k0_hw3 : k0_chk3 v22) (k0_t6 : Fin (k0_t6_loop v22).trips), ∀ a, (k0_off80 v22 k0_t6) a + S1x1x48x16x128.size a ≤ S2x16x48x16x128.size a := fun v22 k0_hw3 k0_t6 => k0_hw3.2.2.1.2.2.2.2.2.2.2.2.1 k0_t6
theorem k0_off81_inb : ∀ (v22 : BitVec 32) (k0_hw3 : k0_chk3 v22) (k0_t6 : Fin (k0_t6_loop v22).trips), ∀ a, (k0_off81 v22 k0_t6) a + S1x1x48x16x128.size a ≤ S2x16x48x16x128.size a := fun v22 k0_hw3 k0_t6 => k0_hw3.2.2.1.2.2.2.2.2.2.2.2.2.1 k0_t6
theorem k0_off82_inb : ∀ (v22 : BitVec 32) (k0_hw3 : k0_chk3 v22) (k0_t6 : Fin (k0_t6_loop v22).trips), ∀ a, (k0_off82 v22 k0_t6) a + S1x1x48x16x128.size a ≤ S2x16x48x16x128.size a := fun v22 k0_hw3 k0_t6 => k0_hw3.2.2.1.2.2.2.2.2.2.2.2.2.2.1 k0_t6
theorem k0_off83_inb : ∀ (v22 : BitVec 32) (k0_hw3 : k0_chk3 v22) (k0_t6 : Fin (k0_t6_loop v22).trips), ∀ a, (k0_off83 v22 k0_t6) a + S1x1x48x16x128.size a ≤ S2x16x48x16x128.size a := fun v22 k0_hw3 k0_t6 => k0_hw3.2.2.1.2.2.2.2.2.2.2.2.2.2.2.1 k0_t6
theorem k0_off84_inb : ∀ (v22 : BitVec 32) (k0_hw3 : k0_chk3 v22) (k0_t6 : Fin (k0_t6_loop v22).trips), ∀ a, (k0_off84 v22 k0_t6) a + S1x1x48x16x128.size a ≤ S2x16x48x16x128.size a := fun v22 k0_hw3 k0_t6 => k0_hw3.2.2.1.2.2.2.2.2.2.2.2.2.2.2.2.1 k0_t6
theorem k0_off85_inb : ∀ (v22 : BitVec 32) (k0_hw3 : k0_chk3 v22) (k0_t6 : Fin (k0_t6_loop v22).trips), ∀ a, (k0_off85 v22 k0_t6) a + S1x1x48x16x128.size a ≤ S2x16x48x16x128.size a := fun v22 k0_hw3 k0_t6 => k0_hw3.2.2.1.2.2.2.2.2.2.2.2.2.2.2.2.2.1 k0_t6
theorem k0_off86_inb : ∀ (v22 : BitVec 32) (k0_hw3 : k0_chk3 v22) (k0_t6 : Fin (k0_t6_loop v22).trips), ∀ a, (k0_off86 v22 k0_t6) a + S1x1x48x16x128.size a ≤ S2x16x48x16x128.size a := fun v22 k0_hw3 k0_t6 => k0_hw3.2.2.1.2.2.2.2.2.2.2.2.2.2.2.2.2.2.1 k0_t6
theorem k0_off87_inb : ∀ (v22 : BitVec 32) (k0_hw3 : k0_chk3 v22) (k0_t6 : Fin (k0_t6_loop v22).trips), ∀ a, (k0_off87 v22 k0_t6) a + S1x1x48x16x128.size a ≤ S2x16x48x16x128.size a := fun v22 k0_hw3 k0_t6 => k0_hw3.2.2.1.2.2.2.2.2.2.2.2.2.2.2.2.2.2.2.1 k0_t6
theorem k0_off88_inb : ∀ (v22 : BitVec 32) (k0_hw3 : k0_chk3 v22) (k0_t6 : Fin (k0_t6_loop v22).trips), ∀ a, (k0_off88 v22 k0_t6) a + S1x1x48x16x128.size a ≤ S2x16x48x16x128.size a := fun v22 k0_hw3 k0_t6 => k0_hw3.2.2.1.2.2.2.2.2.2.2.2.2.2.2.2.2.2.2.2.1 k0_t6
theorem k0_off89_inb : ∀ (v22 : BitVec 32) (k0_hw3 : k0_chk3 v22) (k0_t6 : Fin (k0_t6_loop v22).trips), ∀ a, (k0_off89 v22 k0_t6) a + S1x1x48x16x128.size a ≤ S2x16x48x16x128.size a := fun v22 k0_hw3 k0_t6 => k0_hw3.2.2.1.2.2.2.2.2.2.2.2.2.2.2.2.2.2.2.2.2.1 k0_t6
theorem k0_off90_inb : ∀ (v22 : BitVec 32) (k0_hw3 : k0_chk3 v22) (k0_t6 : Fin (k0_t6_loop v22).trips), ∀ a, (k0_off90 v22 k0_t6) a + S1x1x48x16x128.size a ≤ S2x16x48x16x128.size a := fun v22 k0_hw3 k0_t6 => k0_hw3.2.2.1.2.2.2.2.2.2.2.2.2.2.2.2.2.2.2.2.2.2.1 k0_t6
theorem k0_off91_inb : ∀ (v22 : BitVec 32) (k0_hw3 : k0_chk3 v22) (k0_t6 : Fin (k0_t6_loop v22).trips), ∀ a, (k0_off91 v22 k0_t6) a + S1x1x48x16x128.size a ≤ S2x16x48x16x128.size a := fun v22 k0_hw3 k0_t6 => k0_hw3.2.2.1.2.2.2.2.2.2.2.2.2.2.2.2.2.2.2.2.2.2.2.1 k0_t6
theorem k0_off92_inb : ∀ (v22 : BitVec 32) (k0_hw3 : k0_chk3 v22) (k0_t6 : Fin (k0_t6_loop v22).trips), ∀ a, (k0_off92 v22 k0_t6) a + S1x1x48x16x128.size a ≤ S2x16x48x16x128.size a := fun v22 k0_hw3 k0_t6 => k0_hw3.2.2.1.2.2.2.2.2.2.2.2.2.2.2.2.2.2.2.2.2.2.2.2.1 k0_t6
theorem k0_off93_inb : ∀ (v22 : BitVec 32) (k0_hw3 : k0_chk3 v22) (k0_t6 : Fin (k0_t6_loop v22).trips), ∀ a, (k0_off93 v22 k0_t6) a + S1x1x48x16x128.size a ≤ S2x16x48x16x128.size a := fun v22 k0_hw3 k0_t6 => k0_hw3.2.2.1.2.2.2.2.2.2.2.2.2.2.2.2.2.2.2.2.2.2.2.2.2.1 k0_t6
theorem k0_off94_inb : ∀ (v22 : BitVec 32) (k0_hw3 : k0_chk3 v22) (k0_t6 : Fin (k0_t6_loop v22).trips), ∀ a, (k0_off94 v22 k0_t6) a + S1x1x48x16x128.size a ≤ S2x16x48x16x128.size a := fun v22 k0_hw3 k0_t6 => k0_hw3.2.2.1.2.2.2.2.2.2.2.2.2.2.2.2.2.2.2.2.2.2.2.2.2.2.1 k0_t6
theorem k0_t11_ok : ∀ (v22 : BitVec 32) (k0_hw3 : k0_chk3 v22), (k0_t11_loop v22).OK := fun v22 k0_hw3 => k0_hw3.2.2.1.2.2.2.2.2.2.2.2.2.2.2.2.2.2.2.2.2.2.2.2.2.2.2.1
theorem k0_off95_inb : ∀ (v22 : BitVec 32) (k0_hw3 : k0_chk3 v22) (k0_t11 : Fin (k0_t11_loop v22).trips), ∀ a, (k0_off95 v22 k0_t11) a + S1.size a ≤ S33.size a := fun v22 k0_hw3 k0_t11 => k0_hw3.2.2.1.2.2.2.2.2.2.2.2.2.2.2.2.2.2.2.2.2.2.2.2.2.2.2.2.1 k0_t11
theorem k0_off96_inb : ∀ (v22 : BitVec 32) (k0_hw3 : k0_chk3 v22) (k0_t11 : Fin (k0_t11_loop v22).trips), ∀ a, (k0_off96 v22 k0_t11) a + S1x1.size a ≤ S4x2.size a := fun v22 k0_hw3 k0_t11 => k0_hw3.2.2.1.2.2.2.2.2.2.2.2.2.2.2.2.2.2.2.2.2.2.2.2.2.2.2.2.2.1 k0_t11
theorem k0_off97_inb : ∀ (v22 : BitVec 32) (k0_hw3 : k0_chk3 v22) (k0_t11 : Fin (k0_t11_loop v22).trips) (k0_t12 : Fin k0_t12_loop.trips), ∀ a, (k0_off97 v22 k0_t11 k0_t12) a + S1x1x64x16x128.size a ≤ S2x24x64x16x128.size a := fun v22 k0_hw3 k0_t11 k0_t12 => k0_hw3.2.2.1.2.2.2.2.2.2.2.2.2.2.2.2.2.2.2.2.2.2.2.2.2.2.2.2.2.2.1 k0_t11 k0_t12
theorem k0_off97_wordsi8 : ∀ (v22 : BitVec 32) (k0_hw3 : k0_chk3 v22) (k0_t11 : Fin (k0_t11_loop v22).trips) (k0_t12 : Fin k0_t12_loop.trips), (Rect.unit (s := S2x24x64x16x128) (k0_off97 v22 k0_t11 k0_t12) S1x1x64x16x128.size (k0_off97_inb v22 k0_hw3 k0_t11 k0_t12)).WholeWords (EltTy.packing .i8) := fun v22 k0_hw3 k0_t11 k0_t12 => k0_hw3.2.2.1.2.2.2.2.2.2.2.2.2.2.2.2.2.2.2.2.2.2.2.2.2.2.2.2.2.2.2.1 k0_t11 k0_t12 (k0_off97_inb v22 k0_hw3 k0_t11 k0_t12)
theorem k0_off99_inb : ∀ (v22 : BitVec 32) (k0_hw3 : k0_chk3 v22) (k0_t11 : Fin (k0_t11_loop v22).trips), ∀ a, (k0_off99 v22 k0_t11) a + S1x1.size a ≤ S4x2.size a := fun v22 k0_hw3 k0_t11 => k0_hw3.2.2.1.2.2.2.2.2.2.2.2.2.2.2.2.2.2.2.2.2.2.2.2.2.2.2.2.2.2.2.2.1 k0_t11
theorem k0_off100_inb : ∀ (v22 : BitVec 32) (k0_hw3 : k0_chk3 v22) (k0_t11 : Fin (k0_t11_loop v22).trips), ∀ a, (k0_off100 v22 k0_t11) a + S1x64x3072.size a ≤ S2x64x3072.size a := fun v22 k0_hw3 k0_t11 => k0_hw3.2.2.1.2.2.2.2.2.2.2.2.2.2.2.2.2.2.2.2.2.2.2.2.2.2.2.2.2.2.2.2.2.1 k0_t11
theorem k0_off100_wordsi8 : ∀ (v22 : BitVec 32) (k0_hw3 : k0_chk3 v22) (k0_t11 : Fin (k0_t11_loop v22).trips), (Rect.unit (s := S2x64x3072) (k0_off100 v22 k0_t11) S1x64x3072.size (k0_off100_inb v22 k0_hw3 k0_t11)).WholeWords (EltTy.packing .i8) := fun v22 k0_hw3 k0_t11 => k0_hw3.2.2.1.2.2.2.2.2.2.2.2.2.2.2.2.2.2.2.2.2.2.2.2.2.2.2.2.2.2.2.2.2.2.1 k0_t11 (k0_off100_inb v22 k0_hw3 k0_t11)
theorem k0_off102_inb : ∀ (v22 : BitVec 32) (k0_hw3 : k0_chk3 v22) (k0_t11 : Fin (k0_t11_loop v22).trips), ∀ a, (k0_off102 v22 k0_t11) a + S1x1.size a ≤ S4x2.size a := fun v22 k0_hw3 k0_t11 => k0_hw3.2.2.1.2.2.2.2.2.2.2.2.2.2.2.2.2.2.2.2.2.2.2.2.2.2.2.2.2.2.2.2.2.2.2 k0_t11
theorem k0_off103_inb : ∀ (v22 : BitVec 32) (k0_hw3 : k0_chk3 v22) (k0_t11 : Fin (k0_t11_loop v22).trips) (k0_t13 : Fin k0_t13_loop.trips), ∀ a, (k0_off103 v22 k0_t11 k0_t13) a + S1x1x48x16x128.size a ≤ S2x16x48x16x128.size a := fun v22 k0_hw3 k0_t11 k0_t13 => k0_hw3.2.2.2.1.1 k0_t11 k0_t13
theorem k0_off103_wordsi8 : ∀ (v22 : BitVec 32) (k0_hw3 : k0_chk3 v22) (k0_t11 : Fin (k0_t11_loop v22).trips) (k0_t13 : Fin k0_t13_loop.trips), (Rect.unit (s := S2x16x48x16x128) (k0_off103 v22 k0_t11 k0_t13) S1x1x48x16x128.size (k0_off103_inb v22 k0_hw3 k0_t11 k0_t13)).WholeWords (EltTy.packing .i8) := fun v22 k0_hw3 k0_t11 k0_t13 => k0_hw3.2.2.2.1.2.1 k0_t11 k0_t13 (k0_off103_inb v22 k0_hw3 k0_t11 k0_t13)
theorem k0_off105_inb : ∀ (v22 : BitVec 32) (k0_hw3 : k0_chk3 v22) (k0_t11 : Fin (k0_t11_loop v22).trips), ∀ a, (k0_off105 v22 k0_t11) a + S1x1.size a ≤ S4x2.size a := fun v22 k0_hw3 k0_t11 => k0_hw3.2.2.2.1.2.2.1 k0_t11
theorem k0_off106_inb : ∀ (v22 : BitVec 32) (k0_hw3 : k0_chk3 v22) (k0_t11 : Fin (k0_t11_loop v22).trips), ∀ a, (k0_off106 v22 k0_t11) a + S1x48x2048.size a ≤ S2x48x2048.size a := fun v22 k0_hw3 k0_t11 => k0_hw3.2.2.2.1.2.2.2.1 k0_t11
theorem k0_off106_wordsi8 : ∀ (v22 : BitVec 32) (k0_hw3 : k0_chk3 v22) (k0_t11 : Fin (k0_t11_loop v22).trips), (Rect.unit (s := S2x48x2048) (k0_off106 v22 k0_t11) S1x48x2048.size (k0_off106_inb v22 k0_hw3 k0_t11)).WholeWords (EltTy.packing .i8) := fun v22 k0_hw3 k0_t11 => k0_hw3.2.2.2.1.2.2.2.2.1 k0_t11 (k0_off106_inb v22 k0_hw3 k0_t11)
theorem k0_off108_inb : ∀ (v22 : BitVec 32) (k0_hw3 : k0_chk3 v22) (k0_t11 : Fin (k0_t11_loop v22).trips), ∀ (k0_h2 : k0_cond2 v22 k0_t11 = 1#1), ∀ a, (k0_off108 v22 k0_t11) a + S1.size a ≤ S33.size a := fun v22 k0_hw3 k0_t11 k0_h2 => k0_hw3.2.2.2.1.2.2.2.2.2.1 k0_t11 k0_h2
theorem k0_off109_inb : ∀ (v22 : BitVec 32) (k0_hw3 : k0_chk3 v22) (k0_t11 : Fin (k0_t11_loop v22).trips), ∀ (k0_h2 : k0_cond2 v22 k0_t11 = 1#1), ∀ a, (k0_off109 v22 k0_t11) a + S1x1.size a ≤ S4x2.size a := fun v22 k0_hw3 k0_t11 k0_h2 => k0_hw3.2.2.2.1.2.2.2.2.2.2.1 k0_t11 k0_h2
theorem k0_off110_inb : ∀ (v22 : BitVec 32) (k0_hw3 : k0_chk3 v22) (k0_t11 : Fin (k0_t11_loop v22).trips) (k0_t14 : Fin k0_t14_loop.trips), ∀ (k0_h2 : k0_cond2 v22 k0_t11 = 1#1), ∀ a, (k0_off110 v22 k0_t11 k0_t14) a + S1x1x64x16x128.size a ≤ S2x24x64x16x128.size a := fun v22 k0_hw3 k0_t11 k0_t14 k0_h2 => k0_hw3.2.2.2.1.2.2.2.2.2.2.2.1 k0_t11 k0_t14 k0_h2
theorem k0_off110_wordsi8 : ∀ (v22 : BitVec 32) (k0_hw3 : k0_chk3 v22) (k0_t11 : Fin (k0_t11_loop v22).trips) (k0_t14 : Fin k0_t14_loop.trips), ∀ (k0_h2 : k0_cond2 v22 k0_t11 = 1#1), (Rect.unit (s := S2x24x64x16x128) (k0_off110 v22 k0_t11 k0_t14) S1x1x64x16x128.size (k0_off110_inb v22 k0_hw3 k0_t11 k0_t14 k0_h2)).WholeWords (EltTy.packing .i8) := fun v22 k0_hw3 k0_t11 k0_t14 k0_h2 => k0_hw3.2.2.2.1.2.2.2.2.2.2.2.2.1 k0_t11 k0_t14 k0_h2 (k0_off110_inb v22 k0_hw3 k0_t11 k0_t14 k0_h2)
theorem k0_off112_inb : ∀ (v22 : BitVec 32) (k0_hw3 : k0_chk3 v22) (k0_t11 : Fin (k0_t11_loop v22).trips), ∀ (k0_h2 : k0_cond2 v22 k0_t11 = 1#1), ∀ a, (k0_off112 v22 k0_t11) a + S1x1.size a ≤ S4x2.size a := fun v22 k0_hw3 k0_t11 k0_h2 => k0_hw3.2.2.2.1.2.2.2.2.2.2.2.2.2.1 k0_t11 k0_h2
theorem k0_off113_inb : ∀ (v22 : BitVec 32) (k0_hw3 : k0_chk3 v22) (k0_t11 : Fin (k0_t11_loop v22).trips), ∀ (k0_h2 : k0_cond2 v22 k0_t11 = 1#1), ∀ a, (k0_off113 v22 k0_t11) a + S1x64x3072.size a ≤ S2x64x3072.size a := fun v22 k0_hw3 k0_t11 k0_h2 => k0_hw3.2.2.2.1.2.2.2.2.2.2.2.2.2.2.1 k0_t11 k0_h2
theorem k0_off113_wordsi8 : ∀ (v22 : BitVec 32) (k0_hw3 : k0_chk3 v22) (k0_t11 : Fin (k0_t11_loop v22).trips), ∀ (k0_h2 : k0_cond2 v22 k0_t11 = 1#1), (Rect.unit (s := S2x64x3072) (k0_off113 v22 k0_t11) S1x64x3072.size (k0_off113_inb v22 k0_hw3 k0_t11 k0_h2)).WholeWords (EltTy.packing .i8) := fun v22 k0_hw3 k0_t11 k0_h2 => k0_hw3.2.2.2.1.2.2.2.2.2.2.2.2.2.2.2.1 k0_t11 k0_h2 (k0_off113_inb v22 k0_hw3 k0_t11 k0_h2)
theorem k0_off115_inb : ∀ (v22 : BitVec 32) (k0_hw3 : k0_chk3 v22) (k0_t11 : Fin (k0_t11_loop v22).trips), ∀ (k0_h2 : k0_cond2 v22 k0_t11 = 1#1), ∀ a, (k0_off115 v22 k0_t11) a + S1x1.size a ≤ S4x2.size a := fun v22 k0_hw3 k0_t11 k0_h2 => k0_hw3.2.2.2.1.2.2.2.2.2.2.2.2.2.2.2.2.1 k0_t11 k0_h2
theorem k0_off116_inb : ∀ (v22 : BitVec 32) (k0_hw3 : k0_chk3 v22) (k0_t11 : Fin (k0_t11_loop v22).trips) (k0_t15 : Fin k0_t15_loop.trips), ∀ (k0_h2 : k0_cond2 v22 k0_t11 = 1#1), ∀ a, (k0_off116 v22 k0_t11 k0_t15) a + S1x1x48x16x128.size a ≤ S2x16x48x16x128.size a := fun v22 k0_hw3 k0_t11 k0_t15 k0_h2 => k0_hw3.2.2.2.1.2.2.2.2.2.2.2.2.2.2.2.2.2.1 k0_t11 k0_t15 k0_h2
theorem k0_off116_wordsi8 : ∀ (v22 : BitVec 32) (k0_hw3 : k0_chk3 v22) (k0_t11 : Fin (k0_t11_loop v22).trips) (k0_t15 : Fin k0_t15_loop.trips), ∀ (k0_h2 : k0_cond2 v22 k0_t11 = 1#1), (Rect.unit (s := S2x16x48x16x128) (k0_off116 v22 k0_t11 k0_t15) S1x1x48x16x128.size (k0_off116_inb v22 k0_hw3 k0_t11 k0_t15 k0_h2)).WholeWords (EltTy.packing .i8) := fun v22 k0_hw3 k0_t11 k0_t15 k0_h2 => k0_hw3.2.2.2.1.2.2.2.2.2.2.2.2.2.2.2.2.2.2.1 k0_t11 k0_t15 k0_h2 (k0_off116_inb v22 k0_hw3 k0_t11 k0_t15 k0_h2)
theorem k0_off118_inb : ∀ (v22 : BitVec 32) (k0_hw3 : k0_chk3 v22) (k0_t11 : Fin (k0_t11_loop v22).trips), ∀ (k0_h2 : k0_cond2 v22 k0_t11 = 1#1), ∀ a, (k0_off118 v22 k0_t11) a + S1x1.size a ≤ S4x2.size a := fun v22 k0_hw3 k0_t11 k0_h2 => k0_hw3.2.2.2.1.2.2.2.2.2.2.2.2.2.2.2.2.2.2.2.1 k0_t11 k0_h2
theorem k0_off119_inb : ∀ (v22 : BitVec 32) (k0_hw3 : k0_chk3 v22) (k0_t11 : Fin (k0_t11_loop v22).trips), ∀ (k0_h2 : k0_cond2 v22 k0_t11 = 1#1), ∀ a, (k0_off119 v22 k0_t11) a + S1x48x2048.size a ≤ S2x48x2048.size a := fun v22 k0_hw3 k0_t11 k0_h2 => k0_hw3.2.2.2.1.2.2.2.2.2.2.2.2.2.2.2.2.2.2.2.2.1 k0_t11 k0_h2
theorem k0_off119_wordsi8 : ∀ (v22 : BitVec 32) (k0_hw3 : k0_chk3 v22) (k0_t11 : Fin (k0_t11_loop v22).trips), ∀ (k0_h2 : k0_cond2 v22 k0_t11 = 1#1), (Rect.unit (s := S2x48x2048) (k0_off119 v22 k0_t11) S1x48x2048.size (k0_off119_inb v22 k0_hw3 k0_t11 k0_h2)).WholeWords (EltTy.packing .i8) := fun v22 k0_hw3 k0_t11 k0_h2 => k0_hw3.2.2.2.1.2.2.2.2.2.2.2.2.2.2.2.2.2.2.2.2.2.1 k0_t11 k0_h2 (k0_off119_inb v22 k0_hw3 k0_t11 k0_h2)
theorem k0_off121_inb : ∀ (v22 : BitVec 32) (k0_hw3 : k0_chk3 v22) (k0_t11 : Fin (k0_t11_loop v22).trips), ∀ a, (k0_off121 v22 k0_t11) a + S1x64x256.size a ≤ S2x64x3072.size a := fun v22 k0_hw3 k0_t11 => k0_hw3.2.2.2.1.2.2.2.2.2.2.2.2.2.2.2.2.2.2.2.2.2.2.1 k0_t11
theorem k0_off122_inb : ∀ (v22 : BitVec 32) (k0_hw3 : k0_chk3 v22) (k0_t11 : Fin (k0_t11_loop v22).trips), ∀ a, (k0_off122 v22 k0_t11) a + S1x64x256.size a ≤ S2x64x3072.size a := fun v22 k0_hw3 k0_t11 => k0_hw3.2.2.2.1.2.2.2.2.2.2.2.2.2.2.2.2.2.2.2.2.2.2.2.1 k0_t11
theorem k0_off123_inb : ∀ (v22 : BitVec 32) (k0_hw3 : k0_chk3 v22) (k0_t11 : Fin (k0_t11_loop v22).trips), ∀ a, (k0_off123 v22 k0_t11) a + S1x64x256.size a ≤ S2x64x3072.size a := fun v22 k0_hw3 k0_t11 => k0_hw3.2.2.2.1.2.2.2.2.2.2.2.2.2.2.2.2.2.2.2.2.2.2.2.2.1 k0_t11
theorem k0_off124_inb : ∀ (v22 : BitVec 32) (k0_hw3 : k0_chk3 v22) (k0_t11 : Fin (k0_t11_loop v22).trips), ∀ a, (k0_off124 v22 k0_t11) a + S1x64x256.size a ≤ S2x64x3072.size a := fun v22 k0_hw3 k0_t11 => k0_hw3.2.2.2.1.2.2.2.2.2.2.2.2.2.2.2.2.2.2.2.2.2.2.2.2.2.1 k0_t11
theorem k0_off125_inb : ∀ (v22 : BitVec 32) (k0_hw3 : k0_chk3 v22) (k0_t11 : Fin (k0_t11_loop v22).trips), ∀ a, (k0_off125 v22 k0_t11) a + S1x64x256.size a ≤ S2x64x3072.size a := fun v22 k0_hw3 k0_t11 => k0_hw3.2.2.2.1.2.2.2.2.2.2.2.2.2.2.2.2.2.2.2.2.2.2.2.2.2.2.1 k0_t11
theorem k0_off126_inb : ∀ (v22 : BitVec 32) (k0_hw3 : k0_chk3 v22) (k0_t11 : Fin (k0_t11_loop v22).trips), ∀ a, (k0_off126 v22 k0_t11) a + S1x64x256.size a ≤ S2x64x3072.size a := fun v22 k0_hw3 k0_t11 => k0_hw3.2.2.2.1.2.2.2.2.2.2.2.2.2.2.2.2.2.2.2.2.2.2.2.2.2.2.2.1 k0_t11
theorem k0_off127_inb : ∀ (v22 : BitVec 32) (k0_hw3 : k0_chk3 v22) (k0_t11 : Fin (k0_t11_loop v22).trips), ∀ a, (k0_off127 v22 k0_t11) a + S1x64x256.size a ≤ S2x64x3072.size a := fun v22 k0_hw3 k0_t11 => k0_hw3.2.2.2.1.2.2.2.2.2.2.2.2.2.2.2.2.2.2.2.2.2.2.2.2.2.2.2.2.1 k0_t11
theorem k0_off128_inb : ∀ (v22 : BitVec 32) (k0_hw3 : k0_chk3 v22) (k0_t11 : Fin (k0_t11_loop v22).trips), ∀ a, (k0_off128 v22 k0_t11) a + S1x64x256.size a ≤ S2x64x3072.size a := fun v22 k0_hw3 k0_t11 => k0_hw3.2.2.2.1.2.2.2.2.2.2.2.2.2.2.2.2.2.2.2.2.2.2.2.2.2.2.2.2.2.1 k0_t11
theorem k0_off129_inb : ∀ (v22 : BitVec 32) (k0_hw3 : k0_chk3 v22) (k0_t11 : Fin (k0_t11_loop v22).trips), ∀ a, (k0_off129 v22 k0_t11) a + S1x64x256.size a ≤ S2x64x3072.size a := fun v22 k0_hw3 k0_t11 => k0_hw3.2.2.2.1.2.2.2.2.2.2.2.2.2.2.2.2.2.2.2.2.2.2.2.2.2.2.2.2.2.2.1 k0_t11
theorem k0_off130_inb : ∀ (v22 : BitVec 32) (k0_hw3 : k0_chk3 v22) (k0_t11 : Fin (k0_t11_loop v22).trips), ∀ a, (k0_off130 v22 k0_t11) a + S1x64x256.size a ≤ S2x64x3072.size a := fun v22 k0_hw3 k0_t11 => k0_hw3.2.2.2.1.2.2.2.2.2.2.2.2.2.2.2.2.2.2.2.2.2.2.2.2.2.2.2.2.2.2.2.1 k0_t11
theorem k0_off131_inb : ∀ (v22 : BitVec 32) (k0_hw3 : k0_chk3 v22) (k0_t11 : Fin (k0_t11_loop v22).trips), ∀ a, (k0_off131 v22 k0_t11) a + S1x64x256.size a ≤ S2x64x3072.size a := fun v22 k0_hw3 k0_t11 => k0_hw3.2.2.2.1.2.2.2.2.2.2.2.2.2.2.2.2.2.2.2.2.2.2.2.2.2.2.2.2.2.2.2.2.1 k0_t11
theorem k0_off132_inb : ∀ (v22 : BitVec 32) (k0_hw3 : k0_chk3 v22) (k0_t11 : Fin (k0_t11_loop v22).trips), ∀ a, (k0_off132 v22 k0_t11) a + S1x64x256.size a ≤ S2x64x3072.size a := fun v22 k0_hw3 k0_t11 => k0_hw3.2.2.2.1.2.2.2.2.2.2.2.2.2.2.2.2.2.2.2.2.2.2.2.2.2.2.2.2.2.2.2.2.2.1 k0_t11
theorem k0_off133_inb : ∀ (v22 : BitVec 32) (k0_hw3 : k0_chk3 v22) (k0_t11 : Fin (k0_t11_loop v22).trips), ∀ a, (k0_off133 v22 k0_t11) a + S1x48x256.size a ≤ S2x48x2048.size a := fun v22 k0_hw3 k0_t11 => k0_hw3.2.2.2.1.2.2.2.2.2.2.2.2.2.2.2.2.2.2.2.2.2.2.2.2.2.2.2.2.2.2.2.2.2.2.1 k0_t11
theorem k0_off134_inb : ∀ (v22 : BitVec 32) (k0_hw3 : k0_chk3 v22) (k0_t11 : Fin (k0_t11_loop v22).trips), ∀ a, (k0_off134 v22 k0_t11) a + S1x48x256.size a ≤ S2x48x2048.size a := fun v22 k0_hw3 k0_t11 => k0_hw3.2.2.2.1.2.2.2.2.2.2.2.2.2.2.2.2.2.2.2.2.2.2.2.2.2.2.2.2.2.2.2.2.2.2.2 k0_t11
theorem k0_off135_inb : ∀ (v22 : BitVec 32) (k0_hw3 : k0_chk3 v22) (k0_t11 : Fin (k0_t11_loop v22).trips), ∀ a, (k0_off135 v22 k0_t11) a + S1x48x256.size a ≤ S2x48x2048.size a := fun v22 k0_hw3 k0_t11 => k0_hw3.2.2.2.2.1.1 k0_t11
theorem k0_off136_inb : ∀ (v22 : BitVec 32) (k0_hw3 : k0_chk3 v22) (k0_t11 : Fin (k0_t11_loop v22).trips), ∀ a, (k0_off136 v22 k0_t11) a + S1x48x256.size a ≤ S2x48x2048.size a := fun v22 k0_hw3 k0_t11 => k0_hw3.2.2.2.2.1.2.1 k0_t11
theorem k0_off137_inb : ∀ (v22 : BitVec 32) (k0_hw3 : k0_chk3 v22) (k0_t11 : Fin (k0_t11_loop v22).trips), ∀ a, (k0_off137 v22 k0_t11) a + S1x48x256.size a ≤ S2x48x2048.size a := fun v22 k0_hw3 k0_t11 => k0_hw3.2.2.2.2.1.2.2.1 k0_t11
theorem k0_off138_inb : ∀ (v22 : BitVec 32) (k0_hw3 : k0_chk3 v22) (k0_t11 : Fin (k0_t11_loop v22).trips), ∀ a, (k0_off138 v22 k0_t11) a + S1x48x256.size a ≤ S2x48x2048.size a := fun v22 k0_hw3 k0_t11 => k0_hw3.2.2.2.2.1.2.2.2.1 k0_t11
theorem k0_off139_inb : ∀ (v22 : BitVec 32) (k0_hw3 : k0_chk3 v22) (k0_t11 : Fin (k0_t11_loop v22).trips), ∀ a, (k0_off139 v22 k0_t11) a + S1x48x256.size a ≤ S2x48x2048.size a := fun v22 k0_hw3 k0_t11 => k0_hw3.2.2.2.2.1.2.2.2.2.1 k0_t11
theorem k0_off140_inb : ∀ (v22 : BitVec 32) (k0_hw3 : k0_chk3 v22) (k0_t11 : Fin (k0_t11_loop v22).trips), ∀ a, (k0_off140 v22 k0_t11) a + S1x48x256.size a ≤ S2x48x2048.size a := fun v22 k0_hw3 k0_t11 => k0_hw3.2.2.2.2.1.2.2.2.2.2.1 k0_t11
theorem k0_off141_inb : ∀ (v22 : BitVec 32) (k0_hw3 : k0_chk3 v22) (k0_t11 : Fin (k0_t11_loop v22).trips), ∀ a, (k0_off141 v22 k0_t11) a + S1x1x64x16x128.size a ≤ S2x24x64x16x128.size a := fun v22 k0_hw3 k0_t11 => k0_hw3.2.2.2.2.1.2.2.2.2.2.2.1 k0_t11
theorem k0_off142_inb : ∀ (v22 : BitVec 32) (k0_hw3 : k0_chk3 v22) (k0_t11 : Fin (k0_t11_loop v22).trips), ∀ a, (k0_off142 v22 k0_t11) a + S1x1x64x16x128.size a ≤ S2x24x64x16x128.size a := fun v22 k0_hw3 k0_t11 => k0_hw3.2.2.2.2.1.2.2.2.2.2.2.2.1 k0_t11
theorem k0_off143_inb : ∀ (v22 : BitVec 32) (k0_hw3 : k0_chk3 v22) (k0_t11 : Fin (k0_t11_loop v22).trips), ∀ a, (k0_off143 v22 k0_t11) a + S1x1x64x16x128.size a ≤ S2x24x64x16x128.size a := fun v22 k0_hw3 k0_t11 => k0_hw3.2.2.2.2.1.2.2.2.2.2.2.2.2.1 k0_t11
theorem k0_off144_inb : ∀ (v22 : BitVec 32) (k0_hw3 : k0_chk3 v22) (k0_t11 : Fin (k0_t11_loop v22).trips), ∀ a, (k0_off144 v22 k0_t11) a + S1x1x64x16x128.size a ≤ S2x24x64x16x128.size a := fun v22 k0_hw3 k0_t11 => k0_hw3.2.2.2.2.1.2.2.2.2.2.2.2.2.2.1 k0_t11
theorem k0_off145_inb : ∀ (v22 : BitVec 32) (k0_hw3 : k0_chk3 v22) (k0_t11 : Fin (k0_t11_loop v22).trips), ∀ a, (k0_off145 v22 k0_t11) a + S1x1x64x16x128.size a ≤ S2x24x64x16x128.size a := fun v22 k0_hw3 k0_t11 => k0_hw3.2.2.2.2.1.2.2.2.2.2.2.2.2.2.2.1 k0_t11
theorem k0_off146_inb : ∀ (v22 : BitVec 32) (k0_hw3 : k0_chk3 v22) (k0_t11 : Fin (k0_t11_loop v22).trips), ∀ a, (k0_off146 v22 k0_t11) a + S1x1x64x16x128.size a ≤ S2x24x64x16x128.size a := fun v22 k0_hw3 k0_t11 => k0_hw3.2.2.2.2.1.2.2.2.2.2.2.2.2.2.2.2.1 k0_t11
theorem k0_off147_inb : ∀ (v22 : BitVec 32) (k0_hw3 : k0_chk3 v22) (k0_t11 : Fin (k0_t11_loop v22).trips), ∀ a, (k0_off147 v22 k0_t11) a + S1x1x64x16x128.size a ≤ S2x24x64x16x128.size a := fun v22 k0_hw3 k0_t11 => k0_hw3.2.2.2.2.1.2.2.2.2.2.2.2.2.2.2.2.2.1 k0_t11
theorem k0_off148_inb : ∀ (v22 : BitVec 32) (k0_hw3 : k0_chk3 v22) (k0_t11 : Fin (k0_t11_loop v22).trips), ∀ a, (k0_off148 v22 k0_t11) a + S1x1x64x16x128.size a ≤ S2x24x64x16x128.size a := fun v22 k0_hw3 k0_t11 => k0_hw3.2.2.2.2.1.2.2.2.2.2.2.2.2.2.2.2.2.2.1 k0_t11
theorem k0_off149_inb : ∀ (v22 : BitVec 32) (k0_hw3 : k0_chk3 v22) (k0_t11 : Fin (k0_t11_loop v22).trips), ∀ a, (k0_off149 v22 k0_t11) a + S1x1x64x16x128.size a ≤ S2x24x64x16x128.size a := fun v22 k0_hw3 k0_t11 => k0_hw3.2.2.2.2.1.2.2.2.2.2.2.2.2.2.2.2.2.2.2.1 k0_t11
theorem k0_off150_inb : ∀ (v22 : BitVec 32) (k0_hw3 : k0_chk3 v22) (k0_t11 : Fin (k0_t11_loop v22).trips), ∀ a, (k0_off150 v22 k0_t11) a + S1x1x64x16x128.size a ≤ S2x24x64x16x128.size a := fun v22 k0_hw3 k0_t11 => k0_hw3.2.2.2.2.1.2.2.2.2.2.2.2.2.2.2.2.2.2.2.2.1 k0_t11
theorem k0_off151_inb : ∀ (v22 : BitVec 32) (k0_hw3 : k0_chk3 v22) (k0_t11 : Fin (k0_t11_loop v22).trips), ∀ a, (k0_off151 v22 k0_t11) a + S1x1x64x16x128.size a ≤ S2x24x64x16x128.size a := fun v22 k0_hw3 k0_t11 => k0_hw3.2.2.2.2.1.2.2.2.2.2.2.2.2.2.2.2.2.2.2.2.2.1 k0_t11
theorem k0_off152_inb : ∀ (v22 : BitVec 32) (k0_hw3 : k0_chk3 v22) (k0_t11 : Fin (k0_t11_loop v22).trips), ∀ a, (k0_off152 v22 k0_t11) a + S1x1x64x16x128.size a ≤ S2x24x64x16x128.size a := fun v22 k0_hw3 k0_t11 => k0_hw3.2.2.2.2.1.2.2.2.2.2.2.2.2.2.2.2.2.2.2.2.2.2.1 k0_t11
theorem k0_off153_inb : ∀ (v22 : BitVec 32) (k0_hw3 : k0_chk3 v22) (k0_t11 : Fin (k0_t11_loop v22).trips), ∀ a, (k0_off153 v22 k0_t11) a + S1x1x64x16x128.size a ≤ S2x24x64x16x128.size a := fun v22 k0_hw3 k0_t11 => k0_hw3.2.2.2.2.1.2.2.2.2.2.2.2.2.2.2.2.2.2.2.2.2.2.2.1 k0_t11
theorem k0_off154_inb : ∀ (v22 : BitVec 32) (k0_hw3 : k0_chk3 v22) (k0_t11 : Fin (k0_t11_loop v22).trips), ∀ a, (k0_off154 v22 k0_t11) a + S1x1x64x16x128.size a ≤ S2x24x64x16x128.size a := fun v22 k0_hw3 k0_t11 => k0_hw3.2.2.2.2.1.2.2.2.2.2.2.2.2.2.2.2.2.2.2.2.2.2.2.2.1 k0_t11
theorem k0_off155_inb : ∀ (v22 : BitVec 32) (k0_hw3 : k0_chk3 v22) (k0_t11 : Fin (k0_t11_loop v22).trips), ∀ a, (k0_off155 v22 k0_t11) a + S1x1x64x16x128.size a ≤ S2x24x64x16x128.size a := fun v22 k0_hw3 k0_t11 => k0_hw3.2.2.2.2.1.2.2.2.2.2.2.2.2.2.2.2.2.2.2.2.2.2.2.2.2.1 k0_t11
theorem k0_off156_inb : ∀ (v22 : BitVec 32) (k0_hw3 : k0_chk3 v22) (k0_t11 : Fin (k0_t11_loop v22).trips), ∀ a, (k0_off156 v22 k0_t11) a + S1x1x64x16x128.size a ≤ S2x24x64x16x128.size a := fun v22 k0_hw3 k0_t11 => k0_hw3.2.2.2.2.1.2.2.2.2.2.2.2.2.2.2.2.2.2.2.2.2.2.2.2.2.2.1 k0_t11
theorem k0_off157_inb : ∀ (v22 : BitVec 32) (k0_hw3 : k0_chk3 v22) (k0_t11 : Fin (k0_t11_loop v22).trips), ∀ a, (k0_off157 v22 k0_t11) a + S1x1x64x16x128.size a ≤ S2x24x64x16x128.size a := fun v22 k0_hw3 k0_t11 => k0_hw3.2.2.2.2.1.2.2.2.2.2.2.2.2.2.2.2.2.2.2.2.2.2.2.2.2.2.2.1 k0_t11
theorem k0_off158_inb : ∀ (v22 : BitVec 32) (k0_hw3 : k0_chk3 v22) (k0_t11 : Fin (k0_t11_loop v22).trips), ∀ a, (k0_off158 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.1 k0_t11
theorem k0_off159_inb : ∀ (v22 : BitVec 32) (k0_hw3 : k0_chk3 v22) (k0_t11 : Fin (k0_t11_loop v22).trips), ∀ a, (k0_off159 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.2.1 k0_t11
theorem k0_off160_inb : ∀ (v22 : BitVec 32) (k0_hw3 : k0_chk3 v22) (k0_t11 : Fin (k0_t11_loop v22).trips), ∀ a, (k0_off160 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.2.2.1 k0_t11
theorem k0_off161_inb : ∀ (v22 : BitVec 32) (k0_hw3 : k0_chk3 v22) (k0_t11 : Fin (k0_t11_loop v22).trips), ∀ a, (k0_off161 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.2.2.2.1 k0_t11
theorem k0_off162_inb : ∀ (v22 : BitVec 32) (k0_hw3 : k0_chk3 v22) (k0_t11 : Fin (k0_t11_loop v22).trips), ∀ a, (k0_off162 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.2.2.2.2.1 k0_t11
theorem k0_off163_inb : ∀ (v22 : BitVec 32) (k0_hw3 : k0_chk3 v22) (k0_t11 : Fin (k0_t11_loop v22).trips), ∀ a, (k0_off163 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.2.2.2.2.2.1 k0_t11
theorem k0_off164_inb : ∀ (v22 : BitVec 32) (k0_hw3 : k0_chk3 v22) (k0_t11 : Fin (k0_t11_loop v22).trips), ∀ a, (k0_off164 v22 k0_t11) a + S1x1x64x16x128.size a ≤ S2x24x64x16x128.size a := fun v22 k0_hw3 k0_t11 => k0_hw3.2.2.2.2.1.2.2.2.2.2.2.2.2.2.2.2.2.2.2.2.2.2.2.2.2.2.2.2.2.2.2.2.2.2.1 k0_t11
theorem k0_off165_inb : ∀ (v22 : BitVec 32) (k0_hw3 : k0_chk3 v22) (k0_t11 : Fin (k0_t11_loop v22).trips), ∀ a, (k0_off165 v22 k0_t11) a + S1x1x48x16x128.size a ≤ S2x16x48x16x128.size a := fun v22 k0_hw3 k0_t11 => k0_hw3.2.2.2.2.1.2.2.2.2.2.2.2.2.2.2.2.2.2.2.2.2.2.2.2.2.2.2.2.2.2.2.2.2.2.2.1 k0_t11
theorem k0_off166_inb : ∀ (v22 : BitVec 32) (k0_hw3 : k0_chk3 v22) (k0_t11 : Fin (k0_t11_loop v22).trips), ∀ a, (k0_off166 v22 k0_t11) a + S1x1x48x16x128.size a ≤ S2x16x48x16x128.size a := fun v22 k0_hw3 k0_t11 => k0_hw3.2.2.2.2.1.2.2.2.2.2.2.2.2.2.2.2.2.2.2.2.2.2.2.2.2.2.2.2.2.2.2.2.2.2.2.2 k0_t11
theorem k0_off167_inb : ∀ (v22 : BitVec 32) (k0_hw3 : k0_chk3 v22) (k0_t11 : Fin (k0_t11_loop v22).trips), ∀ a, (k0_off167 v22 k0_t11) a + S1x1x48x16x128.size a ≤ S2x16x48x16x128.size a := fun v22 k0_hw3 k0_t11 => k0_hw3.2.2.2.2.2.1 k0_t11
theorem k0_off168_inb : ∀ (v22 : BitVec 32) (k0_hw3 : k0_chk3 v22) (k0_t11 : Fin (k0_t11_loop v22).trips), ∀ a, (k0_off168 v22 k0_t11) a + S1x1x48x16x128.size a ≤ S2x16x48x16x128.size a := fun v22 k0_hw3 k0_t11 => k0_hw3.2.2.2.2.2.2.1 k0_t11
theorem k0_off169_inb : ∀ (v22 : BitVec 32) (k0_hw3 : k0_chk3 v22) (k0_t11 : Fin (k0_t11_loop v22).trips), ∀ a, (k0_off169 v22 k0_t11) a + S1x1x48x16x128.size a ≤ S2x16x48x16x128.size a := fun v22 k0_hw3 k0_t11 => k0_hw3.2.2.2.2.2.2.2.1 k0_t11
theorem k0_off170_inb : ∀ (v22 : BitVec 32) (k0_hw3 : k0_chk3 v22) (k0_t11 : Fin (k0_t11_loop v22).trips), ∀ a, (k0_off170 v22 k0_t11) a + S1x1x48x16x128.size a ≤ S2x16x48x16x128.size a := fun v22 k0_hw3 k0_t11 => k0_hw3.2.2.2.2.2.2.2.2.1 k0_t11
theorem k0_off171_inb : ∀ (v22 : BitVec 32) (k0_hw3 : k0_chk3 v22) (k0_t11 : Fin (k0_t11_loop v22).trips), ∀ a, (k0_off171 v22 k0_t11) a + S1x1x48x16x128.size a ≤ S2x16x48x16x128.size a := fun v22 k0_hw3 k0_t11 => k0_hw3.2.2.2.2.2.2.2.2.2.1 k0_t11
theorem k0_off172_inb : ∀ (v22 : BitVec 32) (k0_hw3 : k0_chk3 v22) (k0_t11 : Fin (k0_t11_loop v22).trips), ∀ a, (k0_off172 v22 k0_t11) a + S1x1x48x16x128.size a ≤ S2x16x48x16x128.size a := fun v22 k0_hw3 k0_t11 => k0_hw3.2.2.2.2.2.2.2.2.2.2.1 k0_t11
theorem k0_off173_inb : ∀ (v22 : BitVec 32) (k0_hw3 : k0_chk3 v22) (k0_t11 : Fin (k0_t11_loop v22).trips), ∀ a, (k0_off173 v22 k0_t11) a + S1x1x48x16x128.size a ≤ S2x16x48x16x128.size a := fun v22 k0_hw3 k0_t11 => k0_hw3.2.2.2.2.2.2.2.2.2.2.2.1 k0_t11
theorem k0_off174_inb : ∀ (v22 : BitVec 32) (k0_hw3 : k0_chk3 v22) (k0_t11 : Fin (k0_t11_loop v22).trips), ∀ a, (k0_off174 v22 k0_t11) a + S1x1x48x16x128.size a ≤ S2x16x48x16x128.size a := fun v22 k0_hw3 k0_t11 => k0_hw3.2.2.2.2.2.2.2.2.2.2.2.2.1 k0_t11
theorem k0_off175_inb : ∀ (v22 : BitVec 32) (k0_hw3 : k0_chk3 v22) (k0_t11 : Fin (k0_t11_loop v22).trips), ∀ a, (k0_off175 v22 k0_t11) a + S1x1x48x16x128.size a ≤ S2x16x48x16x128.size a := fun v22 k0_hw3 k0_t11 => k0_hw3.2.2.2.2.2.2.2.2.2.2.2.2.2.1 k0_t11
theorem k0_off176_inb : ∀ (v22 : BitVec 32) (k0_hw3 : k0_chk3 v22) (k0_t11 : Fin (k0_t11_loop v22).trips), ∀ a, (k0_off176 v22 k0_t11) a + S1x1x48x16x128.size a ≤ S2x16x48x16x128.size a := fun v22 k0_hw3 k0_t11 => k0_hw3.2.2.2.2.2.2.2.2.2.2.2.2.2.2.1 k0_t11
theorem k0_off177_inb : ∀ (v22 : BitVec 32) (k0_hw3 : k0_chk3 v22) (k0_t11 : Fin (k0_t11_loop v22).trips), ∀ a, (k0_off177 v22 k0_t11) a + S1x1x48x16x128.size a ≤ S2x16x48x16x128.size a := fun v22 k0_hw3 k0_t11 => k0_hw3.2.2.2.2.2.2.2.2.2.2.2.2.2.2.2.1 k0_t11
theorem k0_off178_inb : ∀ (v22 : BitVec 32) (k0_hw3 : k0_chk3 v22) (k0_t11 : Fin (k0_t11_loop v22).trips), ∀ a, (k0_off178 v22 k0_t11) a + S1x1x48x16x128.size a ≤ S2x16x48x16x128.size a := fun v22 k0_hw3 k0_t11 => k0_hw3.2.2.2.2.2.2.2.2.2.2.2.2.2.2.2.2.1 k0_t11
theorem k0_off179_inb : ∀ (v22 : BitVec 32) (k0_hw3 : k0_chk3 v22) (k0_t11 : Fin (k0_t11_loop v22).trips), ∀ a, (k0_off179 v22 k0_t11) a + S1x1x48x16x128.size a ≤ S2x16x48x16x128.size a := fun v22 k0_hw3 k0_t11 => k0_hw3.2.2.2.2.2.2.2.2.2.2.2.2.2.2.2.2.2.1 k0_t11
theorem k0_off180_inb : ∀ (v22 : BitVec 32) (k0_hw3 : k0_chk3 v22) (k0_t11 : Fin (k0_t11_loop v22).trips), ∀ a, (k0_off180 v22 k0_t11) a + S1x1x48x16x128.size a ≤ S2x16x48x16x128.size a := fun v22 k0_hw3 k0_t11 => k0_hw3.2.2.2.2.2.2.2.2.2.2.2.2.2.2.2.2.2.2 k0_t11

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16x1x2048 : Shape := ⟨3, ![16, 1, 2048]⟩
abbrev S16x1x8 : Shape := ⟨3, ![16, 1, 8]⟩
abbrev S32x3072x64x16 : Shape := ⟨4, ![32, 3072, 64, 16]⟩
abbrev S32x3072x64 : Shape := ⟨3, ![32, 3072, 64]⟩
abbrev S32x2048x48x16 : Shape := ⟨4, ![32, 2048, 48, 16]⟩
abbrev S32x2048x48 : Shape := ⟨3, ![32, 2048, 48]⟩
abbrev S16x2048 : Shape := ⟨2, ![16, 2048]⟩
abbrev S16x8 : Shape := ⟨2, ![16, 8]⟩
abbrev S16x8x1 : Shape := ⟨3, ![16, 8, 1]⟩
abbrev S32 : Shape := ⟨1, ![32]⟩
abbrev S1x1x32 : Shape := ⟨3, ![1, 1, 32]⟩
abbrev S16x8x32 : Shape := ⟨3, ![16, 8, 32]⟩
abbrev S_ : Shape := ⟨0, ![]⟩
abbrev S16x32 : Shape := ⟨2, ![16, 32]⟩
abbrev S32x16 : Shape := ⟨2, ![32, 16]⟩
abbrev S32x3072x64x1 : Shape := ⟨4, ![32, 3072, 64, 1]⟩
abbrev S32x3072x1024 : Shape := ⟨3, ![32, 3072, 1024]⟩
abbrev S32x2048x48x1 : Shape := ⟨4, ![32, 2048, 48, 1]⟩
abbrev S32x2048x768 : Shape := ⟨3, ![32, 2048, 768]⟩
abbrev S16x1024 : Shape := ⟨2, ![16, 1024]⟩
abbrev S32x3072x16 : Shape := ⟨3, ![32, 3072, 16]⟩
abbrev S32x16x3072 : Shape := ⟨3, ![32, 16, 3072]⟩
abbrev S32x16x1536 : Shape := ⟨3, ![32, 16, 1536]⟩
abbrev S32x16x768 : Shape := ⟨3, ![32, 16, 768]⟩
abbrev S32x16x2048 : Shape := ⟨3, ![32, 16, 2048]⟩
abbrev S32x16x1 : Shape := ⟨3, ![32, 16, 1]⟩

abbrev nBuf : Space → Nat
  | .hbm => 320
  | .vmem => 0
  | .smem => 0
  | _ => 0

abbrev hbmTy0_0 (i : Nat) : BufTy := match i % 128 with
  | 0 => ⟨S16x1x2048, .bf16⟩
  | 1 => ⟨S16x1x8, .i32⟩
  | 2 => ⟨S16x1x8, .f32⟩
  | 3 => ⟨S32x3072x64x16, .i8⟩
  | 4 => ⟨S32x3072x64, .i8⟩
  | 5 => ⟨S32x2048x48x16, .i8⟩
  | 6 => ⟨S32x2048x48, .i8⟩
  | 7 => ⟨S16x2048, .bf16⟩
  | 8 => ⟨S16x8, .i32⟩
  | 9 => ⟨S16x8, .f32⟩
  | 10 => ⟨S16x8x1, .i32⟩
  | 11 => ⟨S32, .i32⟩
  | 12 => ⟨S1x1x32, .i32⟩
  | 13 => ⟨S16x8x32, .i32⟩
  | 14 => ⟨S16x8x32, .i32⟩
  | 15 => ⟨S16x8x32, .i1⟩
  | 16 => ⟨S16x8x1, .f32⟩
  | 17 => ⟨S_, .f32⟩
  | 18 => ⟨S_, .f32⟩
  | 19 => ⟨S16x8x32, .f32⟩
  | 20 => ⟨S16x8x32, .f32⟩
  | 21 => ⟨S16x8x32, .f32⟩
  | 22 => ⟨S_, .f32⟩
  | 23 => ⟨S16x32, .f32⟩
  | 24 => ⟨S32x16, .f32⟩
  | 25 => ⟨S_, .i1⟩
  | 26 => ⟨S16x32, .i1⟩
  | 27 => ⟨S32x16, .i1⟩
  | 28 => ⟨S32x3072x64x16, .i32⟩
  | 29 => ⟨S32x3072x64, .i32⟩
  | 30 => ⟨S32x3072x64x1, .i32⟩
  | 31 => ⟨S_, .i32⟩
  | 32 => ⟨S32x3072x64x16, .i32⟩
  | 33 => ⟨S32x3072x64x16, .i32⟩
  | 34 => ⟨S_, .i32⟩
  | 35 => ⟨S32x3072x64x16, .i32⟩
  | 36 => ⟨S32x3072x64x16, .i32⟩
  | 37 => ⟨S_, .i32⟩
  | 38 => ⟨S32x3072x64x16, .i32⟩
  | 39 => ⟨S32x3072x64x16, .i32⟩
  | 40 => ⟨S_, .i32⟩
  | 41 => ⟨S32x3072x64x16, .i32⟩
  | 42 => ⟨S32x3072x64x16, .i32⟩
  | 43 => ⟨S_, .i32⟩
  | 44 => ⟨S32x3072x64x16, .i32⟩
  | 45 => ⟨S32x3072x64x16, .i32⟩
  | 46 => ⟨S_, .i32⟩
  | 47 => ⟨S32x3072x64x16, .i32⟩
  | 48 => ⟨S32x3072x64x16, .i32⟩
  | 49 => ⟨S_, .i32⟩
  | 50 => ⟨S32x3072x64x16, .i32⟩
  | 51 => ⟨S32x3072x64x16, .i1⟩
  | 52 => ⟨S_, .i32⟩
  | 53 => ⟨S32x3072x64x1, .i32⟩
  | 54 => ⟨S32x3072x64x1, .i32⟩
  | 55 => ⟨S32x3072x64x16, .i32⟩
  | 56 => ⟨S32x3072x64x16, .i32⟩
  | 57 => ⟨S_, .i32⟩
  | 58 => ⟨S32x3072x64x16, .i32⟩
  | 59 => ⟨S32x3072x64x16, .i32⟩
  | 60 => ⟨S32x3072x64x16, .i32⟩
  | 61 => ⟨S32x3072x64x16, .i32⟩
  | 62 => ⟨S_, .i32⟩
  | 63 => ⟨S32x3072x64x16, .i32⟩
  | 64 => ⟨S32x3072x64x16, .i1⟩
  | 65 => ⟨S_, .i32⟩
  | 66 => ⟨S32x3072x64x16, .i32⟩
  | 67 => ⟨S32x3072x64x16, .i32⟩
  | 68 => ⟨S_, .i32⟩
  | 69 => ⟨S_, .i32⟩
  | 70 => ⟨S32x3072x64x16, .i32⟩
  | 71 => ⟨S32x3072x64x16, .i32⟩
  | 72 => ⟨S_, .i32⟩
  | 73 => ⟨S32x3072x64x16, .i32⟩
  | 74 => ⟨S32x3072x64x16, .i32⟩
  | 75 => ⟨S_, .i32⟩
  | 76 => ⟨S32x3072x64x16, .i32⟩
  | 77 => ⟨S32x3072x64x16, .i1⟩
  | 78 => ⟨S_, .i32⟩
  | 79 => ⟨S32x3072x64x16, .i32⟩
  | 80 => ⟨S32x3072x64x16, .i32⟩
  | 81 => ⟨S_, .i32⟩
  | 82 => ⟨S32x3072x64x16, .i32⟩
  | 83 => ⟨S32x3072x64x16, .i32⟩
  | 84 => ⟨S32x3072x64x16, .i32⟩
  | 85 => ⟨S_, .i32⟩
  | 86 => ⟨S_, .i32⟩
  | 87 => ⟨S32x3072x64x16, .i32⟩
  | 88 => ⟨S32x3072x64x16, .i32⟩
  | 89 => ⟨S32x3072x64x16, .i32⟩
  | 90 => ⟨S32x3072x64x16, .i16⟩
  | 91 => ⟨S32x3072x64x16, .bf16⟩
  | 92 => ⟨S32x3072x1024, .bf16⟩
  | 93 => ⟨S_, .i32⟩
  | 94 => ⟨S32x3072x64x16, .i32⟩
  | 95 => ⟨S32x3072x64x16, .i32⟩
  | 96 => ⟨S_, .i32⟩
  | 97 => ⟨S32x3072x64x16, .i32⟩
  | 98 => ⟨S32x3072x64x16, .i32⟩
  | 99 => ⟨S_, .i32⟩
  | 100 => ⟨S32x3072x64x16, .i32⟩
  | 101 => ⟨S32x3072x64x16, .i32⟩
  | 102 => ⟨S_, .i32⟩
  | 103 => ⟨S32x3072x64x16, .i32⟩
  | 104 => ⟨S32x3072x64x16, .i32⟩
  | 105 => ⟨S_, .i32⟩
  | 106 => ⟨S32x3072x64x16, .i32⟩
  | 107 => ⟨S32x3072x64x16, .i32⟩
  | 108 => ⟨S_, .i32⟩
  | 109 => ⟨S32x3072x64x16, .i32⟩
  | 110 => ⟨S32x3072x64x16, .i32⟩
  | 111 => ⟨S_, .i32⟩
  | 112 => ⟨S32x3072x64x16, .i32⟩
  | 113 => ⟨S32x3072x64x16, .i1⟩
  | 114 => ⟨S_, .i32⟩
  | 115 => ⟨S32x3072x64x1, .i32⟩
  | 116 => ⟨S32x3072x64x1, .i32⟩
  | 117 => ⟨S32x3072x64x16, .i32⟩
  | 118 => ⟨S32x3072x64x16, .i32⟩
  | 119 => ⟨S_, .i32⟩
  | 120 => ⟨S32x3072x64x16, .i32⟩
  | 121 => ⟨S32x3072x64x16, .i32⟩
  | 122 => ⟨S32x3072x64x16, .i32⟩
  | 123 => ⟨S32x3072x64x16, .i32⟩
  | 124 => ⟨S_, .i32⟩
  | 125 => ⟨S32x3072x64x16, .i32⟩
  | 126 => ⟨S32x3072x64x16, .i1⟩
  | 127 => ⟨S_, .i32⟩
  | _ => ⟨S16x1x2048, .bf16⟩

abbrev hbmTy0_1 (i : Nat) : BufTy := match i % 128 with
  | 0 => ⟨S32x3072x64x16, .i32⟩
  | 1 => ⟨S32x3072x64x16, .i32⟩
  | 2 => ⟨S_, .i32⟩
  | 3 => ⟨S_, .i32⟩
  | 4 => ⟨S32x3072x64x16, .i32⟩
  | 5 => ⟨S32x3072x64x16, .i32⟩
  | 6 => ⟨S_, .i32⟩
  | 7 => ⟨S32x3072x64x16, .i32⟩
  | 8 => ⟨S32x3072x64x16, .i32⟩
  | 9 => ⟨S_, .i32⟩
  | 10 => ⟨S32x3072x64x16, .i32⟩
  | 11 => ⟨S32x3072x64x16, .i1⟩
  | 12 => ⟨S_, .i32⟩
  | 13 => ⟨S32x3072x64x16, .i32⟩
  | 14 => ⟨S32x3072x64x16, .i32⟩
  | 15 => ⟨S_, .i32⟩
  | 16 => ⟨S32x3072x64x16, .i32⟩
  | 17 => ⟨S32x3072x64x16, .i32⟩
  | 18 => ⟨S32x3072x64x16, .i32⟩
  | 19 => ⟨S_, .i32⟩
  | 20 => ⟨S_, .i32⟩
  | 21 => ⟨S32x3072x64x16, .i32⟩
  | 22 => ⟨S32x3072x64x16, .i32⟩
  | 23 => ⟨S32x3072x64x16, .i32⟩
  | 24 => ⟨S32x3072x64x16, .i16⟩
  | 25 => ⟨S32x3072x64x16, .bf16⟩
  | 26 => ⟨S32x3072x1024, .bf16⟩
  | 27 => ⟨S32x2048x48x16, .i32⟩
  | 28 => ⟨S32x2048x48, .i32⟩
  | 29 => ⟨S32x2048x48x1, .i32⟩
  | 30 => ⟨S_, .i32⟩
  | 31 => ⟨S32x2048x48x16, .i32⟩
  | 32 => ⟨S32x2048x48x16, .i32⟩
  | 33 => ⟨S_, .i32⟩
  | 34 => ⟨S32x2048x48x16, .i32⟩
  | 35 => ⟨S32x2048x48x16, .i32⟩
  | 36 => ⟨S_, .i32⟩
  | 37 => ⟨S32x2048x48x16, .i32⟩
  | 38 => ⟨S32x2048x48x16, .i32⟩
  | 39 => ⟨S_, .i32⟩
  | 40 => ⟨S32x2048x48x16, .i32⟩
  | 41 => ⟨S32x2048x48x16, .i32⟩
  | 42 => ⟨S_, .i32⟩
  | 43 => ⟨S32x2048x48x16, .i32⟩
  | 44 => ⟨S32x2048x48x16, .i32⟩
  | 45 => ⟨S_, .i32⟩
  | 46 => ⟨S32x2048x48x16, .i32⟩
  | 47 => ⟨S32x2048x48x16, .i32⟩
  | 48 => ⟨S_, .i32⟩
  | 49 => ⟨S32x2048x48x16, .i32⟩
  | 50 => ⟨S32x2048x48x16, .i1⟩
  | 51 => ⟨S_, .i32⟩
  | 52 => ⟨S32x2048x48x1, .i32⟩
  | 53 => ⟨S32x2048x48x1, .i32⟩
  | 54 => ⟨S32x2048x48x16, .i32⟩
  | 55 => ⟨S32x2048x48x16, .i32⟩
  | 56 => ⟨S_, .i32⟩
  | 57 => ⟨S32x2048x48x16, .i32⟩
  | 58 => ⟨S32x2048x48x16, .i32⟩
  | 59 => ⟨S32x2048x48x16, .i32⟩
  | 60 => ⟨S32x2048x48x16, .i32⟩
  | 61 => ⟨S_, .i32⟩
  | 62 => ⟨S32x2048x48x16, .i32⟩
  | 63 => ⟨S32x2048x48x16, .i1⟩
  | 64 => ⟨S_, .i32⟩
  | 65 => ⟨S32x2048x48x16, .i32⟩
  | 66 => ⟨S32x2048x48x16, .i32⟩
  | 67 => ⟨S_, .i32⟩
  | 68 => ⟨S_, .i32⟩
  | 69 => ⟨S32x2048x48x16, .i32⟩
  | 70 => ⟨S32x2048x48x16, .i32⟩
  | 71 => ⟨S_, .i32⟩
  | 72 => ⟨S32x2048x48x16, .i32⟩
  | 73 => ⟨S32x2048x48x16, .i32⟩
  | 74 => ⟨S_, .i32⟩
  | 75 => ⟨S32x2048x48x16, .i32⟩
  | 76 => ⟨S32x2048x48x16, .i1⟩
  | 77 => ⟨S_, .i32⟩
  | 78 => ⟨S32x2048x48x16, .i32⟩
  | 79 => ⟨S32x2048x48x16, .i32⟩
  | 80 => ⟨S_, .i32⟩
  | 81 => ⟨S32x2048x48x16, .i32⟩
  | 82 => ⟨S32x2048x48x16, .i32⟩
  | 83 => ⟨S32x2048x48x16, .i32⟩
  | 84 => ⟨S_, .i32⟩
  | 85 => ⟨S_, .i32⟩
  | 86 => ⟨S32x2048x48x16, .i32⟩
  | 87 => ⟨S32x2048x48x16, .i32⟩
  | 88 => ⟨S32x2048x48x16, .i32⟩
  | 89 => ⟨S32x2048x48x16, .i16⟩
  | 90 => ⟨S32x2048x48x16, .bf16⟩
  | 91 => ⟨S32x2048x768, .bf16⟩
  | 92 => ⟨S_, .i32⟩
  | 93 => ⟨S32x2048x48x16, .i32⟩
  | 94 => ⟨S32x2048x48x16, .i32⟩
  | 95 => ⟨S_, .i32⟩
  | 96 => ⟨S32x2048x48x16, .i32⟩
  | 97 => ⟨S32x2048x48x16, .i32⟩
  | 98 => ⟨S_, .i32⟩
  | 99 => ⟨S32x2048x48x16, .i32⟩
  | 100 => ⟨S32x2048x48x16, .i32⟩
  | 101 => ⟨S_, .i32⟩
  | 102 => ⟨S32x2048x48x16, .i32⟩
  | 103 => ⟨S32x2048x48x16, .i32⟩
  | 104 => ⟨S_, .i32⟩
  | 105 => ⟨S32x2048x48x16, .i32⟩
  | 106 => ⟨S32x2048x48x16, .i32⟩
  | 107 => ⟨S_, .i32⟩
  | 108 => ⟨S32x2048x48x16, .i32⟩
  | 109 => ⟨S32x2048x48x16, .i32⟩
  | 110 => ⟨S_, .i32⟩
  | 111 => ⟨S32x2048x48x16, .i32⟩
  | 112 => ⟨S32x2048x48x16, .i1⟩
  | 113 => ⟨S_, .i32⟩
  | 114 => ⟨S32x2048x48x1, .i32⟩
  | 115 => ⟨S32x2048x48x1, .i32⟩
  | 116 => ⟨S32x2048x48x16, .i32⟩
  | 117 => ⟨S32x2048x48x16, .i32⟩
  | 118 => ⟨S_, .i32⟩
  | 119 => ⟨S32x2048x48x16, .i32⟩
  | 120 => ⟨S32x2048x48x16, .i32⟩
  | 121 => ⟨S32x2048x48x16, .i32⟩
  | 122 => ⟨S32x2048x48x16, .i32⟩
  | 123 => ⟨S_, .i32⟩
  | 124 => ⟨S32x2048x48x16, .i32⟩
  | 125 => ⟨S32x2048x48x16, .i1⟩
  | 126 => ⟨S_, .i32⟩
  | 127 => ⟨S32x2048x48x16, .i32⟩
  | _ => ⟨S16x1x2048, .bf16⟩

abbrev hbmTy0_2 (i : Nat) : BufTy := match i % 128 with
  | 0 => ⟨S32x2048x48x16, .i32⟩
  | 1 => ⟨S_, .i32⟩
  | 2 => ⟨S_, .i32⟩
  | 3 => ⟨S32x2048x48x16, .i32⟩
  | 4 => ⟨S32x2048x48x16, .i32⟩
  | 5 => ⟨S_, .i32⟩
  | 6 => ⟨S32x2048x48x16, .i32⟩
  | 7 => ⟨S32x2048x48x16, .i32⟩
  | 8 => ⟨S_, .i32⟩
  | 9 => ⟨S32x2048x48x16, .i32⟩
  | 10 => ⟨S32x2048x48x16, .i1⟩
  | 11 => ⟨S_, .i32⟩
  | 12 => ⟨S32x2048x48x16, .i32⟩
  | 13 => ⟨S32x2048x48x16, .i32⟩
  | 14 => ⟨S_, .i32⟩
  | 15 => ⟨S32x2048x48x16, .i32⟩
  | 16 => ⟨S32x2048x48x16, .i32⟩
  | 17 => ⟨S32x2048x48x16, .i32⟩
  | 18 => ⟨S_, .i32⟩
  | 19 => ⟨S_, .i32⟩
  | 20 => ⟨S32x2048x48x16, .i32⟩
  | 21 => ⟨S32x2048x48x16, .i32⟩
  | 22 => ⟨S32x2048x48x16, .i32⟩
  | 23 => ⟨S32x2048x48x16, .i16⟩
  | 24 => ⟨S32x2048x48x16, .bf16⟩
  | 25 => ⟨S32x2048x768, .bf16⟩
  | 26 => ⟨S16x1024, .bf16⟩
  | 27 => ⟨S32x3072x16, .f32⟩
  | 28 => ⟨S32x16x3072, .f32⟩
  | 29 => ⟨S16x1024, .bf16⟩
  | 30 => ⟨S32x3072x16, .f32⟩
  | 31 => ⟨S32x16x3072, .f32⟩
  | 32 => ⟨S32x16x3072, .f32⟩
  | 33 => ⟨S32x16x1536, .f32⟩
  | 34 => ⟨S32x16x1536, .f32⟩
  | 35 => ⟨S32x16x1536, .f32⟩
  | 36 => ⟨S32x16x1536, .f32⟩
  | 37 => ⟨S_, .f32⟩
  | 38 => ⟨S32x16x1536, .f32⟩
  | 39 => ⟨S32x16x1536, .f32⟩
  | 40 => ⟨S_, .f32⟩
  | 41 => ⟨S32x16x1536, .f32⟩
  | 42 => ⟨S32x16x1536, .f32⟩
  | 43 => ⟨S32x16x1536, .f32⟩
  | 44 => ⟨S32x16x1536, .f32⟩
  | 45 => ⟨S32x16x1536, .bf16⟩
  | 46 => ⟨S32x16x768, .bf16⟩
  | 47 => ⟨S32x16x2048, .f32⟩
  | 48 => ⟨S32x16x768, .bf16⟩
  | 49 => ⟨S32x16x2048, .f32⟩
  | 50 => ⟨S32x16x2048, .f32⟩
  | 51 => ⟨S32x16x1, .i1⟩
  | 52 => ⟨S32x16x1, .f32⟩
  | 53 => ⟨S32x16x2048, .f32⟩
  | 54 => ⟨S32x16x2048, .f32⟩
  | 55 => ⟨S_, .f32⟩
  | 56 => ⟨S_, .f32⟩
  | 57 => ⟨S32x16x2048, .i1⟩
  | 58 => ⟨S32x16x2048, .f32⟩
  | 59 => ⟨S32x16x2048, .f32⟩
  | 60 => ⟨S_, .f32⟩
  | 61 => ⟨S16x2048, .f32⟩
  | 62 => ⟨S16x2048, .bf16⟩
  | 63 => ⟨S16x1x2048, .bf16⟩
  | _ => ⟨S16x1x2048, .bf16⟩

abbrev hbmTy (i : Nat) : BufTy := match i / 128 with
  | 0 => hbmTy0_0 i
  | 1 => hbmTy0_1 i
  | 2 => hbmTy0_2 i
  | _ => ⟨S16x1x2048, .bf16⟩

abbrev bufTy : (tb : Table) → Fin (tcTables nBuf tb) → BufTy
  | .hbm, ⟨i, _⟩ => hbmTy i
  | _, _ => ⟨S16x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_call1_v0 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_call2_v0 : Ref sig .tc := ⟨.hbm, 69, rfl⟩
abbrev main_call2_v1 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_c_15 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_17 : Ref sig .tc := ⟨.hbm, 85, rfl⟩
abbrev main_call3_v0 : Ref sig .tc := ⟨.hbm, 86, rfl⟩
abbrev main_call3_v1 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_18 : Ref sig .tc := ⟨.hbm, 93, rfl⟩
abbrev main_v58 : Ref sig .tc := ⟨.hbm, 94, rfl⟩
abbrev main_v59 : Ref sig .tc := ⟨.hbm, 95, rfl⟩
abbrev main_c_19 : Ref sig .tc := ⟨.hbm, 96, rfl⟩
abbrev main_v60 : Ref sig .tc := ⟨.hbm, 97, rfl⟩
abbrev main_v61 : Ref sig .tc := ⟨.hbm, 98, rfl⟩
abbrev main_c_20 : Ref sig .tc := ⟨.hbm, 99, rfl⟩
abbrev main_v62 : Ref sig .tc := ⟨.hbm, 100, rfl⟩
abbrev main_v63 : Ref sig .tc := ⟨.hbm, 101, rfl⟩
abbrev main_c_21 : Ref sig .tc := ⟨.hbm, 102, rfl⟩
abbrev main_v64 : Ref sig .tc := ⟨.hbm, 103, rfl⟩
abbrev main_v65 : Ref sig .tc := ⟨.hbm, 104, rfl⟩
abbrev main_c_22 : Ref sig .tc := ⟨.hbm, 105, rfl⟩
abbrev main_v66 : Ref sig .tc := ⟨.hbm, 106, rfl⟩
abbrev main_v67 : Ref sig .tc := ⟨.hbm, 107, rfl⟩
abbrev main_c_23 : Ref sig .tc := ⟨.hbm, 108, rfl⟩
abbrev main_v68 : Ref sig .tc := ⟨.hbm, 109, rfl⟩
abbrev main_v69 : Ref sig .tc := ⟨.hbm, 110, rfl⟩
abbrev main_c_24 : Ref sig .tc := ⟨.hbm, 111, rfl⟩
abbrev main_v70 : Ref sig .tc := ⟨.hbm, 112, rfl⟩
abbrev main_v71 : Ref sig .tc := ⟨.hbm, 113, rfl⟩
abbrev main_c_25 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_26 : Ref sig .tc := ⟨.hbm, 119, rfl⟩
abbrev main_v76 : Ref sig .tc := ⟨.hbm, 120, rfl⟩
abbrev main_v77 : Ref sig .tc := ⟨.hbm, 121, rfl⟩
abbrev main_call4_v0 : Ref sig .tc := ⟨.hbm, 122, rfl⟩
abbrev main_v78 : Ref sig .tc := ⟨.hbm, 123, rfl⟩
abbrev main_c_27 : Ref sig .tc := ⟨.hbm, 124, rfl⟩
abbrev main_v79 : Ref sig .tc := ⟨.hbm, 125, rfl⟩
abbrev main_v80 : Ref sig .tc := ⟨.hbm, 126, rfl⟩
abbrev main_c_28 : Ref sig .tc := ⟨.hbm, 127, rfl⟩
abbrev main_v81 : Ref sig .tc := ⟨.hbm, 128, rfl⟩
abbrev main_v82 : Ref sig .tc := ⟨.hbm, 129, rfl⟩
abbrev main_c_29 : Ref sig .tc := ⟨.hbm, 130, rfl⟩
abbrev main_call5_v0 : Ref sig .tc := ⟨.hbm, 131, rfl⟩
abbrev main_call5_v1 : Ref sig .tc := ⟨.hbm, 132, rfl⟩
abbrev main_v83 : Ref sig .tc := ⟨.hbm, 133, rfl⟩
abbrev main_c_30 : Ref sig .tc := ⟨.hbm, 134, rfl⟩
abbrev main_v84 : Ref sig .tc := ⟨.hbm, 135, rfl⟩
abbrev main_v85 : Ref sig .tc := ⟨.hbm, 136, rfl⟩
abbrev main_c_31 : Ref sig .tc := ⟨.hbm, 137, rfl⟩
abbrev main_v86 : Ref sig .tc := ⟨.hbm, 138, rfl⟩
abbrev main_v87 : Ref sig .tc := ⟨.hbm, 139, rfl⟩
abbrev main_c_32 : Ref sig .tc := ⟨.hbm, 140, rfl⟩
abbrev main_v88 : Ref sig .tc := ⟨.hbm, 141, rfl⟩
abbrev main_v89 : Ref sig .tc := ⟨.hbm, 142, rfl⟩
abbrev main_c_33 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_34 : Ref sig .tc := ⟨.hbm, 147, rfl⟩
abbrev main_call6_v0 : Ref sig .tc := ⟨.hbm, 148, rfl⟩
abbrev main_call6_v1 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_c_35 : Ref sig .tc := ⟨.hbm, 158, rfl⟩
abbrev main_v101 : Ref sig .tc := ⟨.hbm, 159, rfl⟩
abbrev main_v102 : Ref sig .tc := ⟨.hbm, 160, rfl⟩
abbrev main_c_36 : Ref sig .tc := ⟨.hbm, 161, rfl⟩
abbrev main_v103 : Ref sig .tc := ⟨.hbm, 162, rfl⟩
abbrev main_v104 : Ref sig .tc := ⟨.hbm, 163, rfl⟩
abbrev main_c_37 : Ref sig .tc := ⟨.hbm, 164, rfl⟩
abbrev main_v105 : Ref sig .tc := ⟨.hbm, 165, rfl⟩
abbrev main_v106 : Ref sig .tc := ⟨.hbm, 166, rfl⟩
abbrev main_c_38 : Ref sig .tc := ⟨.hbm, 167, rfl⟩
abbrev main_v107 : Ref sig .tc := ⟨.hbm, 168, rfl⟩
abbrev main_v108 : Ref sig .tc := ⟨.hbm, 169, rfl⟩
abbrev main_c_39 : Ref sig .tc := ⟨.hbm, 170, rfl⟩
abbrev main_v109 : Ref sig .tc := ⟨.hbm, 171, rfl⟩
abbrev main_v110 : Ref sig .tc := ⟨.hbm, 172, rfl⟩
abbrev main_c_40 : Ref sig .tc := ⟨.hbm, 173, rfl⟩
abbrev main_v111 : Ref sig .tc := ⟨.hbm, 174, rfl⟩
abbrev main_v112 : Ref sig .tc := ⟨.hbm, 175, rfl⟩
abbrev main_c_41 : Ref sig .tc := ⟨.hbm, 176, rfl⟩
abbrev main_v113 : Ref sig .tc := ⟨.hbm, 177, rfl⟩
abbrev main_v114 : Ref sig .tc := ⟨.hbm, 178, rfl⟩
abbrev main_c_42 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_c_43 : Ref sig .tc := ⟨.hbm, 184, rfl⟩
abbrev main_v119 : Ref sig .tc := ⟨.hbm, 185, rfl⟩
abbrev main_v120 : Ref sig .tc := ⟨.hbm, 186, rfl⟩
abbrev main_call7_v0 : Ref sig .tc := ⟨.hbm, 187, rfl⟩
abbrev main_v121 : Ref sig .tc := ⟨.hbm, 188, rfl⟩
abbrev main_c_44 : Ref sig .tc := ⟨.hbm, 189, rfl⟩
abbrev main_v122 : Ref sig .tc := ⟨.hbm, 190, rfl⟩
abbrev main_v123 : Ref sig .tc := ⟨.hbm, 191, rfl⟩
abbrev main_c_45 : Ref sig .tc := ⟨.hbm, 192, rfl⟩
abbrev main_v124 : Ref sig .tc := ⟨.hbm, 193, rfl⟩
abbrev main_v125 : Ref sig .tc := ⟨.hbm, 194, rfl⟩
abbrev main_c_46 : Ref sig .tc := ⟨.hbm, 195, rfl⟩
abbrev main_call8_v0 : Ref sig .tc := ⟨.hbm, 196, rfl⟩
abbrev main_call8_v1 : Ref sig .tc := ⟨.hbm, 197, rfl⟩
abbrev main_v126 : Ref sig .tc := ⟨.hbm, 198, rfl⟩
abbrev main_c_47 : Ref sig .tc := ⟨.hbm, 199, rfl⟩
abbrev main_v127 : Ref sig .tc := ⟨.hbm, 200, rfl⟩
abbrev main_v128 : Ref sig .tc := ⟨.hbm, 201, rfl⟩
abbrev main_c_48 : Ref sig .tc := ⟨.hbm, 202, rfl⟩
abbrev main_v129 : Ref sig .tc := ⟨.hbm, 203, rfl⟩
abbrev main_v130 : Ref sig .tc := ⟨.hbm, 204, rfl⟩
abbrev main_c_49 : Ref sig .tc := ⟨.hbm, 205, rfl⟩
abbrev main_v131 : Ref sig .tc := ⟨.hbm, 206, rfl⟩
abbrev main_v132 : Ref sig .tc := ⟨.hbm, 207, rfl⟩
abbrev main_c_50 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_c_51 : Ref sig .tc := ⟨.hbm, 212, rfl⟩
abbrev main_call9_v0 : Ref sig .tc := ⟨.hbm, 213, rfl⟩
abbrev main_call9_v1 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_c_52 : Ref sig .tc := ⟨.hbm, 220, rfl⟩
abbrev main_v141 : Ref sig .tc := ⟨.hbm, 221, rfl⟩
abbrev main_v142 : Ref sig .tc := ⟨.hbm, 222, rfl⟩
abbrev main_c_53 : Ref sig .tc := ⟨.hbm, 223, rfl⟩
abbrev main_v143 : Ref sig .tc := ⟨.hbm, 224, rfl⟩
abbrev main_v144 : Ref sig .tc := ⟨.hbm, 225, rfl⟩
abbrev main_c_54 : Ref sig .tc := ⟨.hbm, 226, rfl⟩
abbrev main_v145 : Ref sig .tc := ⟨.hbm, 227, rfl⟩
abbrev main_v146 : Ref sig .tc := ⟨.hbm, 228, rfl⟩
abbrev main_c_55 : Ref sig .tc := ⟨.hbm, 229, rfl⟩
abbrev main_v147 : Ref sig .tc := ⟨.hbm, 230, rfl⟩
abbrev main_v148 : Ref sig .tc := ⟨.hbm, 231, rfl⟩
abbrev main_c_56 : Ref sig .tc := ⟨.hbm, 232, rfl⟩
abbrev main_v149 : Ref sig .tc := ⟨.hbm, 233, rfl⟩
abbrev main_v150 : Ref sig .tc := ⟨.hbm, 234, rfl⟩
abbrev main_c_57 : Ref sig .tc := ⟨.hbm, 235, rfl⟩
abbrev main_v151 : Ref sig .tc := ⟨.hbm, 236, rfl⟩
abbrev main_v152 : Ref sig .tc := ⟨.hbm, 237, rfl⟩
abbrev main_c_58 : Ref sig .tc := ⟨.hbm, 238, rfl⟩
abbrev main_v153 : Ref sig .tc := ⟨.hbm, 239, rfl⟩
abbrev main_v154 : Ref sig .tc := ⟨.hbm, 240, rfl⟩
abbrev main_c_59 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_c_60 : Ref sig .tc := ⟨.hbm, 246, rfl⟩
abbrev main_v159 : Ref sig .tc := ⟨.hbm, 247, rfl⟩
abbrev main_v160 : Ref sig .tc := ⟨.hbm, 248, rfl⟩
abbrev main_call10_v0 : Ref sig .tc := ⟨.hbm, 249, rfl⟩
abbrev main_v161 : Ref sig .tc := ⟨.hbm, 250, rfl⟩
abbrev main_c_61 : Ref sig .tc := ⟨.hbm, 251, rfl⟩
abbrev main_v162 : Ref sig .tc := ⟨.hbm, 252, rfl⟩
abbrev main_v163 : Ref sig .tc := ⟨.hbm, 253, rfl⟩
abbrev main_c_62 : Ref sig .tc := ⟨.hbm, 254, rfl⟩
abbrev main_v164 : Ref sig .tc := ⟨.hbm, 255, rfl⟩
abbrev main_v165 : Ref sig .tc := ⟨.hbm, 256, rfl⟩
abbrev main_c_63 : Ref sig .tc := ⟨.hbm, 257, rfl⟩
abbrev main_call11_v0 : Ref sig .tc := ⟨.hbm, 258, rfl⟩
abbrev main_call11_v1 : Ref sig .tc := ⟨.hbm, 259, rfl⟩
abbrev main_v166 : Ref sig .tc := ⟨.hbm, 260, rfl⟩
abbrev main_c_64 : Ref sig .tc := ⟨.hbm, 261, rfl⟩
abbrev main_v167 : Ref sig .tc := ⟨.hbm, 262, rfl⟩
abbrev main_v168 : Ref sig .tc := ⟨.hbm, 263, rfl⟩
abbrev main_c_65 : Ref sig .tc := ⟨.hbm, 264, rfl⟩
abbrev main_v169 : Ref sig .tc := ⟨.hbm, 265, rfl⟩
abbrev main_v170 : Ref sig .tc := ⟨.hbm, 266, rfl⟩
abbrev main_c_66 : Ref sig .tc := ⟨.hbm, 267, rfl⟩
abbrev main_v171 : Ref sig .tc := ⟨.hbm, 268, rfl⟩
abbrev main_v172 : Ref sig .tc := ⟨.hbm, 269, rfl⟩
abbrev main_c_67 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_c_68 : Ref sig .tc := ⟨.hbm, 274, rfl⟩
abbrev main_call12_v0 : Ref sig .tc := ⟨.hbm, 275, rfl⟩
abbrev main_call12_v1 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_call13_v0 : Ref sig .tc := ⟨.hbm, 291, rfl⟩
abbrev main_call13_v1 : Ref sig .tc := ⟨.hbm, 292, rfl⟩
abbrev main_call13_cst : Ref sig .tc := ⟨.hbm, 293, rfl⟩
abbrev main_call13_v2 : Ref sig .tc := ⟨.hbm, 294, rfl⟩
abbrev main_call13_v3 : Ref sig .tc := ⟨.hbm, 295, rfl⟩
abbrev main_call13_cst_0 : Ref sig .tc := ⟨.hbm, 296, rfl⟩
abbrev main_call13_v4 : Ref sig .tc := ⟨.hbm, 297, rfl⟩
abbrev main_call13_v5 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_cst_69 : Ref sig .tc := ⟨.hbm, 311, rfl⟩
abbrev main_call14_v0 : Ref sig .tc := ⟨.hbm, 312, rfl⟩
abbrev main_call14_v1 : Ref sig .tc := ⟨.hbm, 313, rfl⟩
abbrev main_call14_v2 : Ref sig .tc := ⟨.hbm, 314, rfl⟩
abbrev main_v202 : Ref sig .tc := ⟨.hbm, 315, rfl⟩
abbrev main_cst_70 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩

abbrev nD : Nat := 1
abbrev τ : Topo := Topo.v7x

variable {F : FTy → Type} [FloatOps F]
-- ==== Proof.OffI.lean ====
/-
  The offsets of the main loop's accesses in closed form, and the side conditions the kernel assumes: what each word
  has to satisfy for the conditions to hold.
-/
module

public import proofs.«01_k».proof.Proof.Gen.KernelIdeal.Skeleton
public import proofs.«01_k».proof.Proof.Gen.KernelIdeal.Loops
public import Idealize.ShloMosaic.Lib.Tactic
public import Idealize.ShloMosaic.Lib.Affine
public import Idealize.ShloMosaic.Lib.WordArith

@[expose] public section

namespace Cert.KernelIdeal.Gen

open Idealize.ShloMosaic

/-- An induction variable that starts at 0 and steps by 1, as a number. -/
theorem iv01 (k : ℕ) : Scf.iv 0#32 1#32 k = BitVec.ofNat 32 k := by
  simp only [Scf.iv, BitVec.zero_add, BitVec.mul_one]

/-- The slot word of trip `k` is the parity of `k`. -/
theorem slotW (k : ℕ) : (Scalar.andi (Scf.iv 0#32 1#32 k) 1#32).toNat = k % 2 := by
  rw [iv01]
  show (BitVec.ofNat 32 k &&& 1#32).toNat = k % 2
  rw [BitVec.toNat_and, BitVec.toNat_ofNat, show (1#32).toNat = 1 from rfl, Nat.and_one_is_mod]
  omega

/-- The same word used as an index. -/
theorem slotW' (k : ℕ) : (Scalar.indexCast (Scalar.andi (Scf.iv 0#32 1#32 k) 1#32) : Index).toNat = k % 2 := slotW k

/-- The other slot. -/
theorem oslotW (k : ℕ) : (Scalar.subi 1#32 (Scalar.andi (Scf.iv 0#32 1#32 k) 1#32)).toNat = 1 - k % 2 := by
  show (1#32 - Scalar.andi (Scf.iv 0#32 1#32 k) 1#32).toNat = _
  rw [BitVec.toNat_sub, slotW]
  have : k % 2 < 2 := Nat.mod_lt _ (by decide)
  simp; omega

theorem ivN {k : ℕ} (h : k < 2 ^ 31) : (Scf.iv 0#32 1#32 k).toNat = k := by
  rw [iv01, BitVec.toNat_ofNat]; omega
theorem ivN' {k : ℕ} (h : k < 2 ^ 31) : (Scalar.indexCast (Scf.iv 0#32 1#32 k) : Index).toNat = k := ivN h
theorem ivS {k : ℕ} (h : k < 2 ^ 31) : (Scalar.addi (Scf.iv 0#32 1#32 k) 1#32).toNat = k + 1 := by
  show (Scf.iv 0#32 1#32 k + 1#32).toNat = _
  rw [BitVec.toNat_add, ivN h, show (1#32).toNat = 1 from rfl]; omega
theorem ivS' {k : ℕ} (h : k < 2 ^ 31) : (Scalar.indexCast (Scalar.addi (Scf.iv 0#32 1#32 k) 1#32) : Index).toNat = k + 1 := ivS h
theorem ivM {k : ℕ} (h : k < 24) : (Scalar.muli (Scf.iv 0#32 1#32 k) 128#32).toNat = 128 * k := by
  show (Scf.iv 0#32 1#32 k * 128#32).toNat = _
  rw [BitVec.toNat_mul, ivN (by omega), show (128#32).toNat = 128 from rfl]; omega

theorem t6_lb (v22 : BitVec 32) : (k0_t6_loop v22).lb = 0#32 := rfl
theorem t6_ub (v22 : BitVec 32) : (k0_t6_loop v22).ub = v22 := by
  show 0#32 + Scalar.muli (Scalar.divsi (v22 - 0#32) 1#32) 1#32 = v22
  simp only [Scalar.muli, Scalar.divsi, IntOp.muli, WordArith.divsi_one, BitVec.mul_one, BitVec.zero_add, BitVec.sub_zero]
/-- The main loop makes as many trips as its count says. -/
theorem t6_trips (v22 : BitVec 32) : (k0_t6_loop v22).trips = v22.toInt.toNat := by
  show Scf.trips _ _ _ = _
  rw [t6_ub]
  unfold Scf.trips
  have h1 : (1#32 : BitVec 32).toInt = 1 := by decide
  have h0 : (0#32 : BitVec 32).toInt = 0 := by decide
  show ((v22.toInt - (0#32 : BitVec 32).toInt + (1#32 : BitVec 32).toInt - 1) / (1#32 : BitVec 32).toInt).toNat = _
  rw [h1, h0]; omega
theorem t6_lt {v22 : BitVec 32} (k : Fin (k0_t6_loop v22).trips) : k.val < 2 ^ 31 := by
  have := k.isLt; have e := t6_trips v22
  have h := BitVec.toInt_lt (x := v22)
  omega
theorem t6_trips_nat (v22 : BitVec 32) (h : v22.toNat < 2 ^ 31) : (k0_t6_loop v22).trips = v22.toNat := by
  rw [t6_trips, BitVec.toInt_eq_toNat_of_lt (by omega)]; rfl
theorem t11_trips (v22 : BitVec 32) : (k0_t11_loop v22).trips = 0 := by
  show Scf.trips _ _ _ = 0
  have e : (k0_t11_loop v22).lb = (k0_t11_loop v22).ub := by
    show 0#32 + Scalar.muli (Scalar.divsi (v22 - 0#32) 1#32) 1#32 = 0#32 + (v22 - 0#32)
    simp only [Scalar.muli, Scalar.divsi, IntOp.muli, WordArith.divsi_one, BitVec.mul_one, BitVec.zero_add, BitVec.sub_zero]
  rw [show (k0_t11_loop v22).lb = (k0_t11_loop v22).ub from e]
  unfold Scf.trips
  show (((k0_t11_loop v22).ub.toInt - (k0_t11_loop v22).ub.toInt + (1#32 : BitVec 32).toInt - 1) / (1#32 : BitVec 32).toInt).toNat = 0
  have h1 : (1#32 : BitVec 32).toInt = 1 := by decide
  rw [h1]; omega
/-- The last loop makes no trip, so anything holds at one. -/
theorem t11_no {v22 : BitVec 32} {P : Prop} (k : Fin (k0_t11_loop v22).trips) : P :=
  absurd (lt_of_lt_of_eq k.isLt (t11_trips v22)) (Nat.not_lt_zero _)

theorem t1_trips : k0_t1_loop.trips = 24 := by decide +kernel
theorem t2_trips : k0_t2_loop.trips = 16 := by decide +kernel
theorem t7_trips : k0_t7_loop.trips = 24 := by decide +kernel
theorem t8_trips : k0_t8_loop.trips = 16 := by decide +kernel
theorem t9_trips : k0_t9_loop.trips = 24 := by decide +kernel
theorem t10_trips : k0_t10_loop.trips = 16 := by decide +kernel

theorem k0_off2_eq (v0 : BitVec 32) (k0_t1 : Fin k0_t1_loop.trips) : k0_off2 v0 k0_t1 = ![v0.toNat, 0, 0, 128 * k0_t1.val] := by
  unfold k0_off2; dsimp only
  rw [ivM (by have := k0_t1.isLt; have := t1_trips; omega)]
instance (v0 : BitVec 32) (k0_t1 : Fin k0_t1_loop.trips) : ClosedOff (k0_off2 v0 k0_t1) := ⟨_, k0_off2_eq ..⟩

theorem k0_off3_eq (v0 : BitVec 32) : k0_off3 v0 = ![v0.toNat, 0, 0] := by
  rfl
instance (v0 : BitVec 32) : ClosedOff (k0_off3 v0) := ⟨_, k0_off3_eq ..⟩

theorem k0_off5_eq (v0 : BitVec 32) (k0_t2 : Fin k0_t2_loop.trips) : k0_off5 v0 k0_t2 = ![v0.toNat, 0, 0, 128 * k0_t2.val] := by
  unfold k0_off5; dsimp only
  rw [ivM (by have := k0_t2.isLt; have := t2_trips; omega)]
instance (v0 : BitVec 32) (k0_t2 : Fin k0_t2_loop.trips) : ClosedOff (k0_off5 v0 k0_t2) := ⟨_, k0_off5_eq ..⟩

theorem k0_off6_eq (v0 : BitVec 32) : k0_off6 v0 = ![v0.toNat, 0, 0] := by
  rfl
instance (v0 : BitVec 32) : ClosedOff (k0_off6 v0) := ⟨_, k0_off6_eq ..⟩

theorem k0_off9_eq (v22 : BitVec 32) (k0_t6 : Fin (k0_t6_loop v22).trips) : k0_off9 v22 k0_t6 = ![k0_t6.val] := by
  unfold k0_off9; dsimp only
  rw [ivN' (t6_lt k0_t6)]
instance (v22 : BitVec 32) (k0_t6 : Fin (k0_t6_loop v22).trips) : ClosedOff (k0_off9 v22 k0_t6) := ⟨_, k0_off9_eq ..⟩

theorem k0_off10_eq (v22 : BitVec 32) (k0_t6 : Fin (k0_t6_loop v22).trips) : k0_off10 v22 k0_t6 = ![0, k0_t6.val % 2] := by
  unfold k0_off10; dsimp only
  first | rw [slotW'] | rw [slotW]
instance (v22 : BitVec 32) (k0_t6 : Fin (k0_t6_loop v22).trips) : ClosedOff (k0_off10 v22 k0_t6) := ⟨_, k0_off10_eq ..⟩

theorem k0_off11_eq (v22 : BitVec 32) (k0_t6 : Fin (k0_t6_loop v22).trips) (k0_t7 : Fin k0_t7_loop.trips) : k0_off11 v22 k0_t6 k0_t7 = ![k0_t6.val % 2, k0_t7.val, 0, 0, 0] := by
  unfold k0_off11; dsimp only
  first | rw [slotW'] | rw [slotW]
  rw [ivN (k := k0_t7.val) (by have := k0_t7.isLt; have := t7_trips; omega)]
instance (v22 : BitVec 32) (k0_t6 : Fin (k0_t6_loop v22).trips) (k0_t7 : Fin k0_t7_loop.trips) : ClosedOff (k0_off11 v22 k0_t6 k0_t7) := ⟨_, k0_off11_eq ..⟩

theorem k0_off12_eq (v45 : BitVec 32) (k0_t7 : Fin k0_t7_loop.trips) : k0_off12 v45 k0_t7 = ![v45.toNat, 0, 0, 128 * k0_t7.val] := by
  unfold k0_off12; dsimp only
  rw [ivM (by have := k0_t7.isLt; have := t7_trips; omega)]
instance (v45 : BitVec 32) (k0_t7 : Fin k0_t7_loop.trips) : ClosedOff (k0_off12 v45 k0_t7) := ⟨_, k0_off12_eq ..⟩

theorem k0_off13_eq (v22 : BitVec 32) (k0_t6 : Fin (k0_t6_loop v22).trips) : k0_off13 v22 k0_t6 = ![1, k0_t6.val % 2] := by
  unfold k0_off13; dsimp only
  first | rw [slotW'] | rw [slotW]
instance (v22 : BitVec 32) (k0_t6 : Fin (k0_t6_loop v22).trips) : ClosedOff (k0_off13 v22 k0_t6) := ⟨_, k0_off13_eq ..⟩

theorem k0_off14_eq (v22 : BitVec 32) (k0_t6 : Fin (k0_t6_loop v22).trips) : k0_off14 v22 k0_t6 = ![k0_t6.val % 2, 0, 0] := by
  unfold k0_off14; dsimp only
  first | rw [slotW'] | rw [slotW]
instance (v22 : BitVec 32) (k0_t6 : Fin (k0_t6_loop v22).trips) : ClosedOff (k0_off14 v22 k0_t6) := ⟨_, k0_off14_eq ..⟩

theorem k0_off15_eq (v45 : BitVec 32) : k0_off15 v45 = ![v45.toNat, 0, 0] := by
  rfl
instance (v45 : BitVec 32) : ClosedOff (k0_off15 v45) := ⟨_, k0_off15_eq ..⟩

theorem k0_off16_eq (v22 : BitVec 32) (k0_t6 : Fin (k0_t6_loop v22).trips) : k0_off16 v22 k0_t6 = ![2, k0_t6.val % 2] := by
  unfold k0_off16; dsimp only
  first | rw [slotW'] | rw [slotW]
instance (v22 : BitVec 32) (k0_t6 : Fin (k0_t6_loop v22).trips) : ClosedOff (k0_off16 v22 k0_t6) := ⟨_, k0_off16_eq ..⟩

theorem k0_off17_eq (v22 : BitVec 32) (k0_t6 : Fin (k0_t6_loop v22).trips) (k0_t8 : Fin k0_t8_loop.trips) : k0_off17 v22 k0_t6 k0_t8 = ![k0_t6.val % 2, k0_t8.val, 0, 0, 0] := by
  unfold k0_off17; dsimp only
  first | rw [slotW'] | rw [slotW]
  rw [ivN (k := k0_t8.val) (by have := k0_t8.isLt; have := t8_trips; omega)]
instance (v22 : BitVec 32) (k0_t6 : Fin (k0_t6_loop v22).trips) (k0_t8 : Fin k0_t8_loop.trips) : ClosedOff (k0_off17 v22 k0_t6 k0_t8) := ⟨_, k0_off17_eq ..⟩

theorem k0_off18_eq (v45 : BitVec 32) (k0_t8 : Fin k0_t8_loop.trips) : k0_off18 v45 k0_t8 = ![v45.toNat, 0, 0, 128 * k0_t8.val] := by
  unfold k0_off18; dsimp only
  rw [ivM (by have := k0_t8.isLt; have := t8_trips; omega)]
instance (v45 : BitVec 32) (k0_t8 : Fin k0_t8_loop.trips) : ClosedOff (k0_off18 v45 k0_t8) := ⟨_, k0_off18_eq ..⟩

theorem k0_off19_eq (v22 : BitVec 32) (k0_t6 : Fin (k0_t6_loop v22).trips) : k0_off19 v22 k0_t6 = ![3, k0_t6.val % 2] := by
  unfold k0_off19; dsimp only
  first | rw [slotW'] | rw [slotW]
instance (v22 : BitVec 32) (k0_t6 : Fin (k0_t6_loop v22).trips) : ClosedOff (k0_off19 v22 k0_t6) := ⟨_, k0_off19_eq ..⟩

theorem k0_off20_eq (v22 : BitVec 32) (k0_t6 : Fin (k0_t6_loop v22).trips) : k0_off20 v22 k0_t6 = ![k0_t6.val % 2, 0, 0] := by
  unfold k0_off20; dsimp only
  first | rw [slotW'] | rw [slotW]
instance (v22 : BitVec 32) (k0_t6 : Fin (k0_t6_loop v22).trips) : ClosedOff (k0_off20 v22 k0_t6) := ⟨_, k0_off20_eq ..⟩

theorem k0_off21_eq (v45 : BitVec 32) : k0_off21 v45 = ![v45.toNat, 0, 0] := by
  rfl
instance (v45 : BitVec 32) : ClosedOff (k0_off21 v45) := ⟨_, k0_off21_eq ..⟩

theorem k0_off22_eq (v22 : BitVec 32) (k0_t6 : Fin (k0_t6_loop v22).trips) : k0_off22 v22 k0_t6 = ![k0_t6.val + 1] := by
  unfold k0_off22; dsimp only
  rw [ivS' (t6_lt k0_t6)]
instance (v22 : BitVec 32) (k0_t6 : Fin (k0_t6_loop v22).trips) : ClosedOff (k0_off22 v22 k0_t6) := ⟨_, k0_off22_eq ..⟩

theorem k0_off23_eq (v22 : BitVec 32) (k0_t6 : Fin (k0_t6_loop v22).trips) : k0_off23 v22 k0_t6 = ![0, 1 - k0_t6.val % 2] := by
  unfold k0_off23; dsimp only
  rw [oslotW]
instance (v22 : BitVec 32) (k0_t6 : Fin (k0_t6_loop v22).trips) : ClosedOff (k0_off23 v22 k0_t6) := ⟨_, k0_off23_eq ..⟩

theorem k0_off24_eq (v22 : BitVec 32) (k0_t6 : Fin (k0_t6_loop v22).trips) (k0_t9 : Fin k0_t9_loop.trips) : k0_off24 v22 k0_t6 k0_t9 = ![1 - k0_t6.val % 2, k0_t9.val, 0, 0, 0] := by
  unfold k0_off24; dsimp only
  rw [oslotW]
  rw [ivN (k := k0_t9.val) (by have := k0_t9.isLt; have := t9_trips; omega)]
instance (v22 : BitVec 32) (k0_t6 : Fin (k0_t6_loop v22).trips) (k0_t9 : Fin k0_t9_loop.trips) : ClosedOff (k0_off24 v22 k0_t6 k0_t9) := ⟨_, k0_off24_eq ..⟩

theorem k0_off25_eq (v1594 : BitVec 32) (k0_t9 : Fin k0_t9_loop.trips) : k0_off25 v1594 k0_t9 = ![v1594.toNat, 0, 0, 128 * k0_t9.val] := by
  unfold k0_off25; dsimp only
  rw [ivM (by have := k0_t9.isLt; have := t9_trips; omega)]
instance (v1594 : BitVec 32) (k0_t9 : Fin k0_t9_loop.trips) : ClosedOff (k0_off25 v1594 k0_t9) := ⟨_, k0_off25_eq ..⟩

theorem k0_off26_eq (v22 : BitVec 32) (k0_t6 : Fin (k0_t6_loop v22).trips) : k0_off26 v22 k0_t6 = ![1, 1 - k0_t6.val % 2] := by
  unfold k0_off26; dsimp only
  rw [oslotW]
instance (v22 : BitVec 32) (k0_t6 : Fin (k0_t6_loop v22).trips) : ClosedOff (k0_off26 v22 k0_t6) := ⟨_, k0_off26_eq ..⟩

theorem k0_off27_eq (v22 : BitVec 32) (k0_t6 : Fin (k0_t6_loop v22).trips) : k0_off27 v22 k0_t6 = ![1 - k0_t6.val % 2, 0, 0] := by
  unfold k0_off27; dsimp only
  rw [oslotW]
instance (v22 : BitVec 32) (k0_t6 : Fin (k0_t6_loop v22).trips) : ClosedOff (k0_off27 v22 k0_t6) := ⟨_, k0_off27_eq ..⟩

theorem k0_off28_eq (v1594 : BitVec 32) : k0_off28 v1594 = ![v1594.toNat, 0, 0] := by
  rfl
instance (v1594 : BitVec 32) : ClosedOff (k0_off28 v1594) := ⟨_, k0_off28_eq ..⟩

theorem k0_off29_eq (v22 : BitVec 32) (k0_t6 : Fin (k0_t6_loop v22).trips) : k0_off29 v22 k0_t6 = ![2, 1 - k0_t6.val % 2] := by
  unfold k0_off29; dsimp only
  rw [oslotW]
instance (v22 : BitVec 32) (k0_t6 : Fin (k0_t6_loop v22).trips) : ClosedOff (k0_off29 v22 k0_t6) := ⟨_, k0_off29_eq ..⟩

theorem k0_off30_eq (v22 : BitVec 32) (k0_t6 : Fin (k0_t6_loop v22).trips) (k0_t10 : Fin k0_t10_loop.trips) : k0_off30 v22 k0_t6 k0_t10 = ![1 - k0_t6.val % 2, k0_t10.val, 0, 0, 0] := by
  unfold k0_off30; dsimp only
  rw [oslotW]
  rw [ivN (k := k0_t10.val) (by have := k0_t10.isLt; have := t10_trips; omega)]
instance (v22 : BitVec 32) (k0_t6 : Fin (k0_t6_loop v22).trips) (k0_t10 : Fin k0_t10_loop.trips) : ClosedOff (k0_off30 v22 k0_t6 k0_t10) := ⟨_, k0_off30_eq ..⟩

theorem k0_off31_eq (v1594 : BitVec 32) (k0_t10 : Fin k0_t10_loop.trips) : k0_off31 v1594 k0_t10 = ![v1594.toNat, 0, 0, 128 * k0_t10.val] := by
  unfold k0_off31; dsimp only
  rw [ivM (by have := k0_t10.isLt; have := t10_trips; omega)]
instance (v1594 : BitVec 32) (k0_t10 : Fin k0_t10_loop.trips) : ClosedOff (k0_off31 v1594 k0_t10) := ⟨_, k0_off31_eq ..⟩

theorem k0_off32_eq (v22 : BitVec 32) (k0_t6 : Fin (k0_t6_loop v22).trips) : k0_off32 v22 k0_t6 = ![3, 1 - k0_t6.val % 2] := by
  unfold k0_off32; dsimp only
  rw [oslotW]
instance (v22 : BitVec 32) (k0_t6 : Fin (k0_t6_loop v22).trips) : ClosedOff (k0_off32 v22 k0_t6) := ⟨_, k0_off32_eq ..⟩

theorem k0_off33_eq (v22 : BitVec 32) (k0_t6 : Fin (k0_t6_loop v22).trips) : k0_off33 v22 k0_t6 = ![1 - k0_t6.val % 2, 0, 0] := by
  unfold k0_off33; dsimp only
  rw [oslotW]
instance (v22 : BitVec 32) (k0_t6 : Fin (k0_t6_loop v22).trips) : ClosedOff (k0_off33 v22 k0_t6) := ⟨_, k0_off33_eq ..⟩

theorem k0_off34_eq (v1594 : BitVec 32) : k0_off34 v1594 = ![v1594.toNat, 0, 0] := by
  rfl
instance (v1594 : BitVec 32) : ClosedOff (k0_off34 v1594) := ⟨_, k0_off34_eq ..⟩

theorem k0_off35_eq (v22 : BitVec 32) (k0_t6 : Fin (k0_t6_loop v22).trips) : k0_off35 v22 k0_t6 = ![k0_t6.val % 2, 0, 0] := by
  unfold k0_off35; dsimp only
  first | rw [slotW'] | rw [slotW]
instance (v22 : BitVec 32) (k0_t6 : Fin (k0_t6_loop v22).trips) : ClosedOff (k0_off35 v22 k0_t6) := ⟨_, k0_off35_eq ..⟩

theorem k0_off36_eq (v22 : BitVec 32) (k0_t6 : Fin (k0_t6_loop v22).trips) : k0_off36 v22 k0_t6 = ![k0_t6.val % 2, 0, 256] := by
  unfold k0_off36; dsimp only
  first | rw [slotW'] | rw [slotW]
instance (v22 : BitVec 32) (k0_t6 : Fin (k0_t6_loop v22).trips) : ClosedOff (k0_off36 v22 k0_t6) := ⟨_, k0_off36_eq ..⟩

theorem k0_off37_eq (v22 : BitVec 32) (k0_t6 : Fin (k0_t6_loop v22).trips) : k0_off37 v22 k0_t6 = ![k0_t6.val % 2, 0, 512] := by
  unfold k0_off37; dsimp only
  first | rw [slotW'] | rw [slotW]
instance (v22 : BitVec 32) (k0_t6 : Fin (k0_t6_loop v22).trips) : ClosedOff (k0_off37 v22 k0_t6) := ⟨_, k0_off37_eq ..⟩

theorem k0_off38_eq (v22 : BitVec 32) (k0_t6 : Fin (k0_t6_loop v22).trips) : k0_off38 v22 k0_t6 = ![k0_t6.val % 2, 0, 768] := by
  unfold k0_off38; dsimp only
  first | rw [slotW'] | rw [slotW]
instance (v22 : BitVec 32) (k0_t6 : Fin (k0_t6_loop v22).trips) : ClosedOff (k0_off38 v22 k0_t6) := ⟨_, k0_off38_eq ..⟩

theorem k0_off39_eq (v22 : BitVec 32) (k0_t6 : Fin (k0_t6_loop v22).trips) : k0_off39 v22 k0_t6 = ![k0_t6.val % 2, 0, 1024] := by
  unfold k0_off39; dsimp only
  first | rw [slotW'] | rw [slotW]
instance (v22 : BitVec 32) (k0_t6 : Fin (k0_t6_loop v22).trips) : ClosedOff (k0_off39 v22 k0_t6) := ⟨_, k0_off39_eq ..⟩

theorem k0_off40_eq (v22 : BitVec 32) (k0_t6 : Fin (k0_t6_loop v22).trips) : k0_off40 v22 k0_t6 = ![k0_t6.val % 2, 0, 1280] := by
  unfold k0_off40; dsimp only
  first | rw [slotW'] | rw [slotW]
instance (v22 : BitVec 32) (k0_t6 : Fin (k0_t6_loop v22).trips) : ClosedOff (k0_off40 v22 k0_t6) := ⟨_, k0_off40_eq ..⟩

theorem k0_off41_eq (v22 : BitVec 32) (k0_t6 : Fin (k0_t6_loop v22).trips) : k0_off41 v22 k0_t6 = ![k0_t6.val % 2, 0, 1536] := by
  unfold k0_off41; dsimp only
  first | rw [slotW'] | rw [slotW]
instance (v22 : BitVec 32) (k0_t6 : Fin (k0_t6_loop v22).trips) : ClosedOff (k0_off41 v22 k0_t6) := ⟨_, k0_off41_eq ..⟩

theorem k0_off42_eq (v22 : BitVec 32) (k0_t6 : Fin (k0_t6_loop v22).trips) : k0_off42 v22 k0_t6 = ![k0_t6.val % 2, 0, 1792] := by
  unfold k0_off42; dsimp only
  first | rw [slotW'] | rw [slotW]
instance (v22 : BitVec 32) (k0_t6 : Fin (k0_t6_loop v22).trips) : ClosedOff (k0_off42 v22 k0_t6) := ⟨_, k0_off42_eq ..⟩

theorem k0_off43_eq (v22 : BitVec 32) (k0_t6 : Fin (k0_t6_loop v22).trips) : k0_off43 v22 k0_t6 = ![k0_t6.val % 2, 0, 2048] := by
  unfold k0_off43; dsimp only
  first | rw [slotW'] | rw [slotW]
instance (v22 : BitVec 32) (k0_t6 : Fin (k0_t6_loop v22).trips) : ClosedOff (k0_off43 v22 k0_t6) := ⟨_, k0_off43_eq ..⟩

theorem k0_off44_eq (v22 : BitVec 32) (k0_t6 : Fin (k0_t6_loop v22).trips) : k0_off44 v22 k0_t6 = ![k0_t6.val % 2, 0, 2304] := by
  unfold k0_off44; dsimp only
  first | rw [slotW'] | rw [slotW]
instance (v22 : BitVec 32) (k0_t6 : Fin (k0_t6_loop v22).trips) : ClosedOff (k0_off44 v22 k0_t6) := ⟨_, k0_off44_eq ..⟩

theorem k0_off45_eq (v22 : BitVec 32) (k0_t6 : Fin (k0_t6_loop v22).trips) : k0_off45 v22 k0_t6 = ![k0_t6.val % 2, 0, 2560] := by
  unfold k0_off45; dsimp only
  first | rw [slotW'] | rw [slotW]
instance (v22 : BitVec 32) (k0_t6 : Fin (k0_t6_loop v22).trips) : ClosedOff (k0_off45 v22 k0_t6) := ⟨_, k0_off45_eq ..⟩

theorem k0_off46_eq (v22 : BitVec 32) (k0_t6 : Fin (k0_t6_loop v22).trips) : k0_off46 v22 k0_t6 = ![k0_t6.val % 2, 0, 2816] := by
  unfold k0_off46; dsimp only
  first | rw [slotW'] | rw [slotW]
instance (v22 : BitVec 32) (k0_t6 : Fin (k0_t6_loop v22).trips) : ClosedOff (k0_off46 v22 k0_t6) := ⟨_, k0_off46_eq ..⟩

theorem k0_off47_eq (v22 : BitVec 32) (k0_t6 : Fin (k0_t6_loop v22).trips) : k0_off47 v22 k0_t6 = ![k0_t6.val % 2, 0, 0] := by
  unfold k0_off47; dsimp only
  first | rw [slotW'] | rw [slotW]
instance (v22 : BitVec 32) (k0_t6 : Fin (k0_t6_loop v22).trips) : ClosedOff (k0_off47 v22 k0_t6) := ⟨_, k0_off47_eq ..⟩

theorem k0_off48_eq (v22 : BitVec 32) (k0_t6 : Fin (k0_t6_loop v22).trips) : k0_off48 v22 k0_t6 = ![k0_t6.val % 2, 0, 256] := by
  unfold k0_off48; dsimp only
  first | rw [slotW'] | rw [slotW]
instance (v22 : BitVec 32) (k0_t6 : Fin (k0_t6_loop v22).trips) : ClosedOff (k0_off48 v22 k0_t6) := ⟨_, k0_off48_eq ..⟩

theorem k0_off49_eq (v22 : BitVec 32) (k0_t6 : Fin (k0_t6_loop v22).trips) : k0_off49 v22 k0_t6 = ![k0_t6.val % 2, 0, 512] := by
  unfold k0_off49; dsimp only
  first | rw [slotW'] | rw [slotW]
instance (v22 : BitVec 32) (k0_t6 : Fin (k0_t6_loop v22).trips) : ClosedOff (k0_off49 v22 k0_t6) := ⟨_, k0_off49_eq ..⟩

theorem k0_off50_eq (v22 : BitVec 32) (k0_t6 : Fin (k0_t6_loop v22).trips) : k0_off50 v22 k0_t6 = ![k0_t6.val % 2, 0, 768] := by
  unfold k0_off50; dsimp only
  first | rw [slotW'] | rw [slotW]
instance (v22 : BitVec 32) (k0_t6 : Fin (k0_t6_loop v22).trips) : ClosedOff (k0_off50 v22 k0_t6) := ⟨_, k0_off50_eq ..⟩

theorem k0_off51_eq (v22 : BitVec 32) (k0_t6 : Fin (k0_t6_loop v22).trips) : k0_off51 v22 k0_t6 = ![k0_t6.val % 2, 0, 1024] := by
  unfold k0_off51; dsimp only
  first | rw [slotW'] | rw [slotW]
instance (v22 : BitVec 32) (k0_t6 : Fin (k0_t6_loop v22).trips) : ClosedOff (k0_off51 v22 k0_t6) := ⟨_, k0_off51_eq ..⟩

theorem k0_off52_eq (v22 : BitVec 32) (k0_t6 : Fin (k0_t6_loop v22).trips) : k0_off52 v22 k0_t6 = ![k0_t6.val % 2, 0, 1280] := by
  unfold k0_off52; dsimp only
  first | rw [slotW'] | rw [slotW]
instance (v22 : BitVec 32) (k0_t6 : Fin (k0_t6_loop v22).trips) : ClosedOff (k0_off52 v22 k0_t6) := ⟨_, k0_off52_eq ..⟩

theorem k0_off53_eq (v22 : BitVec 32) (k0_t6 : Fin (k0_t6_loop v22).trips) : k0_off53 v22 k0_t6 = ![k0_t6.val % 2, 0, 1536] := by
  unfold k0_off53; dsimp only
  first | rw [slotW'] | rw [slotW]
instance (v22 : BitVec 32) (k0_t6 : Fin (k0_t6_loop v22).trips) : ClosedOff (k0_off53 v22 k0_t6) := ⟨_, k0_off53_eq ..⟩

theorem k0_off54_eq (v22 : BitVec 32) (k0_t6 : Fin (k0_t6_loop v22).trips) : k0_off54 v22 k0_t6 = ![k0_t6.val % 2, 0, 1792] := by
  unfold k0_off54; dsimp only
  first | rw [slotW'] | rw [slotW]
instance (v22 : BitVec 32) (k0_t6 : Fin (k0_t6_loop v22).trips) : ClosedOff (k0_off54 v22 k0_t6) := ⟨_, k0_off54_eq ..⟩

theorem k0_off55_eq (v22 : BitVec 32) (k0_t6 : Fin (k0_t6_loop v22).trips) : k0_off55 v22 k0_t6 = ![k0_t6.val % 2, 0, 0, 0, 0] := by
  unfold k0_off55; dsimp only
  first | rw [slotW'] | rw [slotW]
instance (v22 : BitVec 32) (k0_t6 : Fin (k0_t6_loop v22).trips) : ClosedOff (k0_off55 v22 k0_t6) := ⟨_, k0_off55_eq ..⟩

theorem k0_off56_eq (v22 : BitVec 32) (k0_t6 : Fin (k0_t6_loop v22).trips) : k0_off56 v22 k0_t6 = ![k0_t6.val % 2, 1, 0, 0, 0] := by
  unfold k0_off56; dsimp only
  first | rw [slotW'] | rw [slotW]
instance (v22 : BitVec 32) (k0_t6 : Fin (k0_t6_loop v22).trips) : ClosedOff (k0_off56 v22 k0_t6) := ⟨_, k0_off56_eq ..⟩

theorem k0_off57_eq (v22 : BitVec 32) (k0_t6 : Fin (k0_t6_loop v22).trips) : k0_off57 v22 k0_t6 = ![k0_t6.val % 2, 12, 0, 0, 0] := by
  unfold k0_off57; dsimp only
  first | rw [slotW'] | rw [slotW]
instance (v22 : BitVec 32) (k0_t6 : Fin (k0_t6_loop v22).trips) : ClosedOff (k0_off57 v22 k0_t6) := ⟨_, k0_off57_eq ..⟩

theorem k0_off58_eq (v22 : BitVec 32) (k0_t6 : Fin (k0_t6_loop v22).trips) : k0_off58 v22 k0_t6 = ![k0_t6.val % 2, 13, 0, 0, 0] := by
  unfold k0_off58; dsimp only
  first | rw [slotW'] | rw [slotW]
instance (v22 : BitVec 32) (k0_t6 : Fin (k0_t6_loop v22).trips) : ClosedOff (k0_off58 v22 k0_t6) := ⟨_, k0_off58_eq ..⟩

theorem k0_off59_eq (v22 : BitVec 32) (k0_t6 : Fin (k0_t6_loop v22).trips) : k0_off59 v22 k0_t6 = ![k0_t6.val % 2, 2, 0, 0, 0] := by
  unfold k0_off59; dsimp only
  first | rw [slotW'] | rw [slotW]
instance (v22 : BitVec 32) (k0_t6 : Fin (k0_t6_loop v22).trips) : ClosedOff (k0_off59 v22 k0_t6) := ⟨_, k0_off59_eq ..⟩

theorem k0_off60_eq (v22 : BitVec 32) (k0_t6 : Fin (k0_t6_loop v22).trips) : k0_off60 v22 k0_t6 = ![k0_t6.val % 2, 3, 0, 0, 0] := by
  unfold k0_off60; dsimp only
  first | rw [slotW'] | rw [slotW]
instance (v22 : BitVec 32) (k0_t6 : Fin (k0_t6_loop v22).trips) : ClosedOff (k0_off60 v22 k0_t6) := ⟨_, k0_off60_eq ..⟩

theorem k0_off61_eq (v22 : BitVec 32) (k0_t6 : Fin (k0_t6_loop v22).trips) : k0_off61 v22 k0_t6 = ![k0_t6.val % 2, 14, 0, 0, 0] := by
  unfold k0_off61; dsimp only
  first | rw [slotW'] | rw [slotW]
instance (v22 : BitVec 32) (k0_t6 : Fin (k0_t6_loop v22).trips) : ClosedOff (k0_off61 v22 k0_t6) := ⟨_, k0_off61_eq ..⟩

theorem k0_off62_eq (v22 : BitVec 32) (k0_t6 : Fin (k0_t6_loop v22).trips) : k0_off62 v22 k0_t6 = ![k0_t6.val % 2, 15, 0, 0, 0] := by
  unfold k0_off62; dsimp only
  first | rw [slotW'] | rw [slotW]
instance (v22 : BitVec 32) (k0_t6 : Fin (k0_t6_loop v22).trips) : ClosedOff (k0_off62 v22 k0_t6) := ⟨_, k0_off62_eq ..⟩

theorem k0_off63_eq (v22 : BitVec 32) (k0_t6 : Fin (k0_t6_loop v22).trips) : k0_off63 v22 k0_t6 = ![k0_t6.val % 2, 4, 0, 0, 0] := by
  unfold k0_off63; dsimp only
  first | rw [slotW'] | rw [slotW]
instance (v22 : BitVec 32) (k0_t6 : Fin (k0_t6_loop v22).trips) : ClosedOff (k0_off63 v22 k0_t6) := ⟨_, k0_off63_eq ..⟩

theorem k0_off64_eq (v22 : BitVec 32) (k0_t6 : Fin (k0_t6_loop v22).trips) : k0_off64 v22 k0_t6 = ![k0_t6.val % 2, 5, 0, 0, 0] := by
  unfold k0_off64; dsimp only
  first | rw [slotW'] | rw [slotW]
instance (v22 : BitVec 32) (k0_t6 : Fin (k0_t6_loop v22).trips) : ClosedOff (k0_off64 v22 k0_t6) := ⟨_, k0_off64_eq ..⟩

theorem k0_off65_eq (v22 : BitVec 32) (k0_t6 : Fin (k0_t6_loop v22).trips) : k0_off65 v22 k0_t6 = ![k0_t6.val % 2, 16, 0, 0, 0] := by
  unfold k0_off65; dsimp only
  first | rw [slotW'] | rw [slotW]
instance (v22 : BitVec 32) (k0_t6 : Fin (k0_t6_loop v22).trips) : ClosedOff (k0_off65 v22 k0_t6) := ⟨_, k0_off65_eq ..⟩

theorem k0_off66_eq (v22 : BitVec 32) (k0_t6 : Fin (k0_t6_loop v22).trips) : k0_off66 v22 k0_t6 = ![k0_t6.val % 2, 17, 0, 0, 0] := by
  unfold k0_off66; dsimp only
  first | rw [slotW'] | rw [slotW]
instance (v22 : BitVec 32) (k0_t6 : Fin (k0_t6_loop v22).trips) : ClosedOff (k0_off66 v22 k0_t6) := ⟨_, k0_off66_eq ..⟩

theorem k0_off67_eq (v22 : BitVec 32) (k0_t6 : Fin (k0_t6_loop v22).trips) : k0_off67 v22 k0_t6 = ![k0_t6.val % 2, 6, 0, 0, 0] := by
  unfold k0_off67; dsimp only
  first | rw [slotW'] | rw [slotW]
instance (v22 : BitVec 32) (k0_t6 : Fin (k0_t6_loop v22).trips) : ClosedOff (k0_off67 v22 k0_t6) := ⟨_, k0_off67_eq ..⟩

theorem k0_off68_eq (v22 : BitVec 32) (k0_t6 : Fin (k0_t6_loop v22).trips) : k0_off68 v22 k0_t6 = ![k0_t6.val % 2, 7, 0, 0, 0] := by
  unfold k0_off68; dsimp only
  first | rw [slotW'] | rw [slotW]
instance (v22 : BitVec 32) (k0_t6 : Fin (k0_t6_loop v22).trips) : ClosedOff (k0_off68 v22 k0_t6) := ⟨_, k0_off68_eq ..⟩

theorem k0_off69_eq (v22 : BitVec 32) (k0_t6 : Fin (k0_t6_loop v22).trips) : k0_off69 v22 k0_t6 = ![k0_t6.val % 2, 18, 0, 0, 0] := by
  unfold k0_off69; dsimp only
  first | rw [slotW'] | rw [slotW]
instance (v22 : BitVec 32) (k0_t6 : Fin (k0_t6_loop v22).trips) : ClosedOff (k0_off69 v22 k0_t6) := ⟨_, k0_off69_eq ..⟩

theorem k0_off70_eq (v22 : BitVec 32) (k0_t6 : Fin (k0_t6_loop v22).trips) : k0_off70 v22 k0_t6 = ![k0_t6.val % 2, 19, 0, 0, 0] := by
  unfold k0_off70; dsimp only
  first | rw [slotW'] | rw [slotW]
instance (v22 : BitVec 32) (k0_t6 : Fin (k0_t6_loop v22).trips) : ClosedOff (k0_off70 v22 k0_t6) := ⟨_, k0_off70_eq ..⟩

theorem k0_off71_eq (v22 : BitVec 32) (k0_t6 : Fin (k0_t6_loop v22).trips) : k0_off71 v22 k0_t6 = ![k0_t6.val % 2, 8, 0, 0, 0] := by
  unfold k0_off71; dsimp only
  first | rw [slotW'] | rw [slotW]
instance (v22 : BitVec 32) (k0_t6 : Fin (k0_t6_loop v22).trips) : ClosedOff (k0_off71 v22 k0_t6) := ⟨_, k0_off71_eq ..⟩

theorem k0_off72_eq (v22 : BitVec 32) (k0_t6 : Fin (k0_t6_loop v22).trips) : k0_off72 v22 k0_t6 = ![k0_t6.val % 2, 9, 0, 0, 0] := by
  unfold k0_off72; dsimp only
  first | rw [slotW'] | rw [slotW]
instance (v22 : BitVec 32) (k0_t6 : Fin (k0_t6_loop v22).trips) : ClosedOff (k0_off72 v22 k0_t6) := ⟨_, k0_off72_eq ..⟩

theorem k0_off73_eq (v22 : BitVec 32) (k0_t6 : Fin (k0_t6_loop v22).trips) : k0_off73 v22 k0_t6 = ![k0_t6.val % 2, 20, 0, 0, 0] := by
  unfold k0_off73; dsimp only
  first | rw [slotW'] | rw [slotW]
instance (v22 : BitVec 32) (k0_t6 : Fin (k0_t6_loop v22).trips) : ClosedOff (k0_off73 v22 k0_t6) := ⟨_, k0_off73_eq ..⟩

theorem k0_off74_eq (v22 : BitVec 32) (k0_t6 : Fin (k0_t6_loop v22).trips) : k0_off74 v22 k0_t6 = ![k0_t6.val % 2, 21, 0, 0, 0] := by
  unfold k0_off74; dsimp only
  first | rw [slotW'] | rw [slotW]
instance (v22 : BitVec 32) (k0_t6 : Fin (k0_t6_loop v22).trips) : ClosedOff (k0_off74 v22 k0_t6) := ⟨_, k0_off74_eq ..⟩

theorem k0_off75_eq (v22 : BitVec 32) (k0_t6 : Fin (k0_t6_loop v22).trips) : k0_off75 v22 k0_t6 = ![k0_t6.val % 2, 10, 0, 0, 0] := by
  unfold k0_off75; dsimp only
  first | rw [slotW'] | rw [slotW]
instance (v22 : BitVec 32) (k0_t6 : Fin (k0_t6_loop v22).trips) : ClosedOff (k0_off75 v22 k0_t6) := ⟨_, k0_off75_eq ..⟩

theorem k0_off76_eq (v22 : BitVec 32) (k0_t6 : Fin (k0_t6_loop v22).trips) : k0_off76 v22 k0_t6 = ![k0_t6.val % 2, 11, 0, 0, 0] := by
  unfold k0_off76; dsimp only
  first | rw [slotW'] | rw [slotW]
instance (v22 : BitVec 32) (k0_t6 : Fin (k0_t6_loop v22).trips) : ClosedOff (k0_off76 v22 k0_t6) := ⟨_, k0_off76_eq ..⟩

theorem k0_off77_eq (v22 : BitVec 32) (k0_t6 : Fin (k0_t6_loop v22).trips) : k0_off77 v22 k0_t6 = ![k0_t6.val % 2, 22, 0, 0, 0] := by
  unfold k0_off77; dsimp only
  first | rw [slotW'] | rw [slotW]
instance (v22 : BitVec 32) (k0_t6 : Fin (k0_t6_loop v22).trips) : ClosedOff (k0_off77 v22 k0_t6) := ⟨_, k0_off77_eq ..⟩

theorem k0_off78_eq (v22 : BitVec 32) (k0_t6 : Fin (k0_t6_loop v22).trips) : k0_off78 v22 k0_t6 = ![k0_t6.val % 2, 23, 0, 0, 0] := by
  unfold k0_off78; dsimp only
  first | rw [slotW'] | rw [slotW]
instance (v22 : BitVec 32) (k0_t6 : Fin (k0_t6_loop v22).trips) : ClosedOff (k0_off78 v22 k0_t6) := ⟨_, k0_off78_eq ..⟩

theorem k0_off79_eq (v22 : BitVec 32) (k0_t6 : Fin (k0_t6_loop v22).trips) : k0_off79 v22 k0_t6 = ![k0_t6.val % 2, 0, 0, 0, 0] := by
  unfold k0_off79; dsimp only
  first | rw [slotW'] | rw [slotW]
instance (v22 : BitVec 32) (k0_t6 : Fin (k0_t6_loop v22).trips) : ClosedOff (k0_off79 v22 k0_t6) := ⟨_, k0_off79_eq ..⟩

theorem k0_off80_eq (v22 : BitVec 32) (k0_t6 : Fin (k0_t6_loop v22).trips) : k0_off80 v22 k0_t6 = ![k0_t6.val % 2, 1, 0, 0, 0] := by
  unfold k0_off80; dsimp only
  first | rw [slotW'] | rw [slotW]
instance (v22 : BitVec 32) (k0_t6 : Fin (k0_t6_loop v22).trips) : ClosedOff (k0_off80 v22 k0_t6) := ⟨_, k0_off80_eq ..⟩

theorem k0_off81_eq (v22 : BitVec 32) (k0_t6 : Fin (k0_t6_loop v22).trips) : k0_off81 v22 k0_t6 = ![k0_t6.val % 2, 2, 0, 0, 0] := by
  unfold k0_off81; dsimp only
  first | rw [slotW'] | rw [slotW]
instance (v22 : BitVec 32) (k0_t6 : Fin (k0_t6_loop v22).trips) : ClosedOff (k0_off81 v22 k0_t6) := ⟨_, k0_off81_eq ..⟩

theorem k0_off82_eq (v22 : BitVec 32) (k0_t6 : Fin (k0_t6_loop v22).trips) : k0_off82 v22 k0_t6 = ![k0_t6.val % 2, 3, 0, 0, 0] := by
  unfold k0_off82; dsimp only
  first | rw [slotW'] | rw [slotW]
instance (v22 : BitVec 32) (k0_t6 : Fin (k0_t6_loop v22).trips) : ClosedOff (k0_off82 v22 k0_t6) := ⟨_, k0_off82_eq ..⟩

theorem k0_off83_eq (v22 : BitVec 32) (k0_t6 : Fin (k0_t6_loop v22).trips) : k0_off83 v22 k0_t6 = ![k0_t6.val % 2, 4, 0, 0, 0] := by
  unfold k0_off83; dsimp only
  first | rw [slotW'] | rw [slotW]
instance (v22 : BitVec 32) (k0_t6 : Fin (k0_t6_loop v22).trips) : ClosedOff (k0_off83 v22 k0_t6) := ⟨_, k0_off83_eq ..⟩

theorem k0_off84_eq (v22 : BitVec 32) (k0_t6 : Fin (k0_t6_loop v22).trips) : k0_off84 v22 k0_t6 = ![k0_t6.val % 2, 5, 0, 0, 0] := by
  unfold k0_off84; dsimp only
  first | rw [slotW'] | rw [slotW]
instance (v22 : BitVec 32) (k0_t6 : Fin (k0_t6_loop v22).trips) : ClosedOff (k0_off84 v22 k0_t6) := ⟨_, k0_off84_eq ..⟩

theorem k0_off85_eq (v22 : BitVec 32) (k0_t6 : Fin (k0_t6_loop v22).trips) : k0_off85 v22 k0_t6 = ![k0_t6.val % 2, 6, 0, 0, 0] := by
  unfold k0_off85; dsimp only
  first | rw [slotW'] | rw [slotW]
instance (v22 : BitVec 32) (k0_t6 : Fin (k0_t6_loop v22).trips) : ClosedOff (k0_off85 v22 k0_t6) := ⟨_, k0_off85_eq ..⟩

theorem k0_off86_eq (v22 : BitVec 32) (k0_t6 : Fin (k0_t6_loop v22).trips) : k0_off86 v22 k0_t6 = ![k0_t6.val % 2, 7, 0, 0, 0] := by
  unfold k0_off86; dsimp only
  first | rw [slotW'] | rw [slotW]
instance (v22 : BitVec 32) (k0_t6 : Fin (k0_t6_loop v22).trips) : ClosedOff (k0_off86 v22 k0_t6) := ⟨_, k0_off86_eq ..⟩

theorem k0_off87_eq (v22 : BitVec 32) (k0_t6 : Fin (k0_t6_loop v22).trips) : k0_off87 v22 k0_t6 = ![k0_t6.val % 2, 8, 0, 0, 0] := by
  unfold k0_off87; dsimp only
  first | rw [slotW'] | rw [slotW]
instance (v22 : BitVec 32) (k0_t6 : Fin (k0_t6_loop v22).trips) : ClosedOff (k0_off87 v22 k0_t6) := ⟨_, k0_off87_eq ..⟩

theorem k0_off88_eq (v22 : BitVec 32) (k0_t6 : Fin (k0_t6_loop v22).trips) : k0_off88 v22 k0_t6 = ![k0_t6.val % 2, 9, 0, 0, 0] := by
  unfold k0_off88; dsimp only
  first | rw [slotW'] | rw [slotW]
instance (v22 : BitVec 32) (k0_t6 : Fin (k0_t6_loop v22).trips) : ClosedOff (k0_off88 v22 k0_t6) := ⟨_, k0_off88_eq ..⟩

theorem k0_off89_eq (v22 : BitVec 32) (k0_t6 : Fin (k0_t6_loop v22).trips) : k0_off89 v22 k0_t6 = ![k0_t6.val % 2, 10, 0, 0, 0] := by
  unfold k0_off89; dsimp only
  first | rw [slotW'] | rw [slotW]
instance (v22 : BitVec 32) (k0_t6 : Fin (k0_t6_loop v22).trips) : ClosedOff (k0_off89 v22 k0_t6) := ⟨_, k0_off89_eq ..⟩

theorem k0_off90_eq (v22 : BitVec 32) (k0_t6 : Fin (k0_t6_loop v22).trips) : k0_off90 v22 k0_t6 = ![k0_t6.val % 2, 11, 0, 0, 0] := by
  unfold k0_off90; dsimp only
  first | rw [slotW'] | rw [slotW]
instance (v22 : BitVec 32) (k0_t6 : Fin (k0_t6_loop v22).trips) : ClosedOff (k0_off90 v22 k0_t6) := ⟨_, k0_off90_eq ..⟩

theorem k0_off91_eq (v22 : BitVec 32) (k0_t6 : Fin (k0_t6_loop v22).trips) : k0_off91 v22 k0_t6 = ![k0_t6.val % 2, 12, 0, 0, 0] := by
  unfold k0_off91; dsimp only
  first | rw [slotW'] | rw [slotW]
instance (v22 : BitVec 32) (k0_t6 : Fin (k0_t6_loop v22).trips) : ClosedOff (k0_off91 v22 k0_t6) := ⟨_, k0_off91_eq ..⟩

theorem k0_off92_eq (v22 : BitVec 32) (k0_t6 : Fin (k0_t6_loop v22).trips) : k0_off92 v22 k0_t6 = ![k0_t6.val % 2, 13, 0, 0, 0] := by
  unfold k0_off92; dsimp only
  first | rw [slotW'] | rw [slotW]
instance (v22 : BitVec 32) (k0_t6 : Fin (k0_t6_loop v22).trips) : ClosedOff (k0_off92 v22 k0_t6) := ⟨_, k0_off92_eq ..⟩

theorem k0_off93_eq (v22 : BitVec 32) (k0_t6 : Fin (k0_t6_loop v22).trips) : k0_off93 v22 k0_t6 = ![k0_t6.val % 2, 14, 0, 0, 0] := by
  unfold k0_off93; dsimp only
  first | rw [slotW'] | rw [slotW]
instance (v22 : BitVec 32) (k0_t6 : Fin (k0_t6_loop v22).trips) : ClosedOff (k0_off93 v22 k0_t6) := ⟨_, k0_off93_eq ..⟩

theorem k0_off94_eq (v22 : BitVec 32) (k0_t6 : Fin (k0_t6_loop v22).trips) : k0_off94 v22 k0_t6 = ![k0_t6.val % 2, 15, 0, 0, 0] := by
  unfold k0_off94; dsimp only
  first | rw [slotW'] | rw [slotW]
instance (v22 : BitVec 32) (k0_t6 : Fin (k0_t6_loop v22).trips) : ClosedOff (k0_off94 v22 k0_t6) := ⟨_, k0_off94_eq ..⟩

theorem k0_off101_eq (v45 : BitVec 32) : k0_off101 v45 = ![v45.toNat, 0, 0] := by
  rfl
instance (v45 : BitVec 32) : ClosedOff (k0_off101 v45) := ⟨_, k0_off101_eq ..⟩

theorem k0_off107_eq (v45 : BitVec 32) : k0_off107 v45 = ![v45.toNat, 0, 0] := by
  rfl
instance (v45 : BitVec 32) : ClosedOff (k0_off107 v45) := ⟨_, k0_off107_eq ..⟩

theorem k0_off114_eq (v1594 : BitVec 32) : k0_off114 v1594 = ![v1594.toNat, 0, 0] := by
  rfl
instance (v1594 : BitVec 32) : ClosedOff (k0_off114 v1594) := ⟨_, k0_off114_eq ..⟩

theorem k0_off120_eq (v1594 : BitVec 32) : k0_off120 v1594 = ![v1594.toNat, 0, 0] := by
  rfl
instance (v1594 : BitVec 32) : ClosedOff (k0_off120 v1594) := ⟨_, k0_off120_eq ..⟩

end Cert.KernelIdeal.Gen

end
-- ==== Proof.ChkI.lean ====
/-
  The side conditions the kernel assumes, each from the range of the word it is of.
-/
module

public import proofs.«01_k».proof.Proof.OffI
public import Idealize.ShloMosaic.Lib.Scf.ExitTest
public import Idealize.ShloMosaic.Lib.Scf.Counter

@[expose] public section

namespace Cert.KernelIdeal.Gen

open Idealize.ShloMosaic

/-- The main loop's operands have a meaning. -/
theorem t6_ok (v22 : BitVec 32) : (k0_t6_loop v22).OK := by
  refine ⟨(by decide : 0 < (1#32 : BitVec 32).toInt), ?_⟩
  have e := t6_trips v22
  have h := BitVec.toInt_lt (x := v22)
  show (0#32 : BitVec 32).toInt + ((k0_t6_loop v22).trips : ℤ) * (1#32 : BitVec 32).toInt < 2 ^ 31
  rw [e, show (0#32 : BitVec 32).toInt = 0 by decide, show (1#32 : BitVec 32).toInt = 1 by decide]
  omega

/-- A rectangle that takes every row of its slabs is whole words. -/
theorem ww {s : Shape} {off size : Fin s.rank → ℕ} {p : ℕ} (inb : ∀ a, off a + size a ≤ s.size a) (h2 : 2 ≤ s.rank)
    (h0 : off (s.rowAx h2) = 0) (hs : size (s.rowAx h2) = s.size (s.rowAx h2)) : (Rect.unit (s := s) off size inb).WholeWords p :=
  Or.inr ⟨h2, rfl, h0, hs⟩

theorem t11_ok (v22 : BitVec 32) : (k0_t11_loop v22).OK := by
  refine ⟨(by decide : 0 < (1#32 : BitVec 32).toInt), ?_⟩
  have h := BitVec.toInt_lt (x := (k0_t11_loop v22).lb)
  have e := t11_trips v22
  show (k0_t11_loop v22).lb.toInt + ((k0_t11_loop v22).trips : ℤ) * (1#32 : BitVec 32).toInt < 2 ^ 31
  rw [e]
  omega

/-- The main loop's continuation condition says that the next trip is a trip. -/
theorem cond1_iff (v22 : BitVec 32) (k : Fin (k0_t6_loop v22).trips) : k0_cond1 v22 k = 1#1 ↔ k.val + 1 < (k0_t6_loop v22).trips := by
  have hk := k.isLt
  have hs := Scf.cmpi_slt_iv_ub_iff (t6_ok v22) (k := k.val + 1) hk
  refine Iff.trans ?_ hs
  rw [t6_ub v22, Scf.iv_succ]
  unfold k0_cond1
  dsimp only
  show Scalar.cmpi .ne (Scalar.extui (IntOp.cmpi .slt (Scf.iv 0#32 1#32 k.val + 1#32) v22)) 0#32 = 1#1 ↔ IntOp.cmpi .slt (Scf.iv 0#32 1#32 k.val + 1#32) v22 = 1#1
  generalize IntOp.cmpi .slt (Scf.iv 0#32 1#32 k.val + 1#32) v22 = b
  revert b; decide
theorem cond1_lt {v22 : BitVec 32} {k : Fin (k0_t6_loop v22).trips} (h : k0_cond1 v22 k = 1#1) : k.val + 1 < (k0_t6_loop v22).trips :=
  (cond1_iff v22 k).mp h

set_option maxHeartbeats 1000000 in
theorem k0_chk1_of (v0 : BitVec 32) (he : v0.toNat < 32) : k0_chk1 v0 := by
  unfold k0_chk1
  refine ⟨?_, ?_, ?_, ?_, ?_, ?_, ?_, ?_⟩
  · intro k0_t1 a; have := k0_t1.isLt; have := t1_trips; rw [k0_off2_eq]; fin_cases a <;> simp <;> omega
  · intro k0_t1 hinb; exact ww hinb (by decide) (congrFun (k0_off2_eq v0 k0_t1) 2) rfl
  · intro a; rw [k0_off3_eq]; fin_cases a <;> simp <;> omega
  · intro hinb; exact ww hinb (by decide) (congrFun (k0_off3_eq v0) 1) rfl
  · intro k0_t2 a; have := k0_t2.isLt; have := t2_trips; rw [k0_off5_eq]; fin_cases a <;> simp <;> omega
  · intro k0_t2 hinb; exact ww hinb (by decide) (congrFun (k0_off5_eq v0 k0_t2) 2) rfl
  · intro a; rw [k0_off6_eq]; fin_cases a <;> simp <;> omega
  · intro hinb; exact ww hinb (by decide) (congrFun (k0_off6_eq v0) 1) rfl

set_option maxHeartbeats 1000000 in
theorem k0_chk4_of (v45 : BitVec 32) (he : v45.toNat < 32) : k0_chk4 v45 := by
  unfold k0_chk4
  refine ⟨?_, ?_, ?_, ?_, ?_, ?_, ?_, ?_⟩
  · intro k0_t7 a; have := k0_t7.isLt; have := t7_trips; rw [k0_off12_eq]; fin_cases a <;> simp <;> omega
  · intro k0_t7 hinb; exact ww hinb (by decide) (congrFun (k0_off12_eq v45 k0_t7) 2) rfl
  · intro a; rw [k0_off15_eq]; fin_cases a <;> simp <;> omega
  · intro hinb; exact ww hinb (by decide) (congrFun (k0_off15_eq v45) 1) rfl
  · intro k0_t8 a; have := k0_t8.isLt; have := t8_trips; rw [k0_off18_eq]; fin_cases a <;> simp <;> omega
  · intro k0_t8 hinb; exact ww hinb (by decide) (congrFun (k0_off18_eq v45 k0_t8) 2) rfl
  · intro a; rw [k0_off21_eq]; fin_cases a <;> simp <;> omega
  · intro hinb; exact ww hinb (by decide) (congrFun (k0_off21_eq v45) 1) rfl

set_option maxHeartbeats 1000000 in
theorem k0_chk5_of (v22 : BitVec 32) (k0_t6 : Fin (k0_t6_loop v22).trips) (v1594 : BitVec 32) (he : v1594.toNat < 32) : k0_chk5 v22 k0_t6 v1594 := by
  unfold k0_chk5
  refine ⟨?_, ?_, ?_, ?_, ?_, ?_, ?_, ?_⟩
  · intro k0_t9 k0_h1 a; have := k0_t9.isLt; have := t9_trips; rw [k0_off25_eq]; fin_cases a <;> simp <;> omega
  · intro k0_t9 k0_h1 hinb; exact ww hinb (by decide) (congrFun (k0_off25_eq v1594 k0_t9) 2) rfl
  · intro k0_h1 a; rw [k0_off28_eq]; fin_cases a <;> simp <;> omega
  · intro k0_h1 hinb; exact ww hinb (by decide) (congrFun (k0_off28_eq v1594) 1) rfl
  · intro k0_t10 k0_h1 a; have := k0_t10.isLt; have := t10_trips; rw [k0_off31_eq]; fin_cases a <;> simp <;> omega
  · intro k0_t10 k0_h1 hinb; exact ww hinb (by decide) (congrFun (k0_off31_eq v1594 k0_t10) 2) rfl
  · intro k0_h1 a; rw [k0_off34_eq]; fin_cases a <;> simp <;> omega
  · intro k0_h1 hinb; exact ww hinb (by decide) (congrFun (k0_off34_eq v1594) 1) rfl

set_option maxHeartbeats 1000000 in
theorem k0_chk3_0_of (v22 : BitVec 32) (hn : v22.toNat ≤ 33) : k0_chk3_0 v22 := by
  have htr : (k0_t6_loop v22).trips = v22.toNat := t6_trips_nat v22 (by omega)
  unfold k0_chk3_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact t6_ok v22
  · intro k0_t6 a; have := k0_t6.isLt; rw [k0_off9_eq]; fin_cases a <;> simp <;> omega
  · intro k0_t6 a; rw [k0_off10_eq]; have hm : k0_t6.val % 2 < 2 := Nat.mod_lt _ (by decide); fin_cases a <;> simp <;> omega
  · intro k0_t6 k0_t7 a; have := k0_t7.isLt; have := t7_trips; rw [k0_off11_eq]; have hm : k0_t6.val % 2 < 2 := Nat.mod_lt _ (by decide); fin_cases a <;> simp <;> omega
  · intro k0_t6 k0_t7 hinb; exact ww hinb (by decide) (congrFun (k0_off11_eq v22 k0_t6 k0_t7) 3) rfl
  · intro k0_t6 a; rw [k0_off13_eq]; have hm : k0_t6.val % 2 < 2 := Nat.mod_lt _ (by decide); fin_cases a <;> simp <;> omega
  · intro k0_t6 a; rw [k0_off14_eq]; have hm : k0_t6.val % 2 < 2 := Nat.mod_lt _ (by decide); fin_cases a <;> simp <;> omega
  · intro k0_t6 hinb; exact ww hinb (by decide) (congrFun (k0_off14_eq v22 k0_t6) 1) rfl
  · intro k0_t6 a; rw [k0_off16_eq]; have hm : k0_t6.val % 2 < 2 := Nat.mod_lt _ (by decide); fin_cases a <;> simp <;> omega
  · intro k0_t6 k0_t8 a; have := k0_t8.isLt; have := t8_trips; rw [k0_off17_eq]; have hm : k0_t6.val % 2 < 2 := Nat.mod_lt _ (by decide); fin_cases a <;> simp <;> omega
  · intro k0_t6 k0_t8 hinb; exact ww hinb (by decide) (congrFun (k0_off17_eq v22 k0_t6 k0_t8) 3) rfl
  · intro k0_t6 a; rw [k0_off19_eq]; have hm : k0_t6.val % 2 < 2 := Nat.mod_lt _ (by decide); fin_cases a <;> simp <;> omega
  · intro k0_t6 a; rw [k0_off20_eq]; have hm : k0_t6.val % 2 < 2 := Nat.mod_lt _ (by decide); fin_cases a <;> simp <;> omega
  · intro k0_t6 hinb; exact ww hinb (by decide) (congrFun (k0_off20_eq v22 k0_t6) 1) rfl
  · intro k0_t6 k0_h1 a; have := k0_t6.isLt; have := cond1_lt k0_h1; rw [k0_off22_eq]; fin_cases a <;> simp <;> omega
  · intro k0_t6 k0_h1 a; rw [k0_off23_eq]; have hm : k0_t6.val % 2 < 2 := Nat.mod_lt _ (by decide); fin_cases a <;> simp <;> omega
  · intro k0_t6 k0_t9 k0_h1 a; have := k0_t9.isLt; have := t9_trips; rw [k0_off24_eq]; have hm : k0_t6.val % 2 < 2 := Nat.mod_lt _ (by decide); fin_cases a <;> simp <;> omega
  · intro k0_t6 k0_t9 k0_h1 hinb; exact ww hinb (by decide) (congrFun (k0_off24_eq v22 k0_t6 k0_t9) 3) rfl
  · intro k0_t6 k0_h1 a; rw [k0_off26_eq]; have hm : k0_t6.val % 2 < 2 := Nat.mod_lt _ (by decide); fin_cases a <;> simp <;> omega
  · intro k0_t6 k0_h1 a; rw [k0_off27_eq]; have hm : k0_t6.val % 2 < 2 := Nat.mod_lt _ (by decide); fin_cases a <;> simp <;> omega
  · intro k0_t6 k0_h1 hinb; exact ww hinb (by decide) (congrFun (k0_off27_eq v22 k0_t6) 1) rfl
  · intro k0_t6 k0_h1 a; rw [k0_off29_eq]; have hm : k0_t6.val % 2 < 2 := Nat.mod_lt _ (by decide); fin_cases a <;> simp <;> omega
  · intro k0_t6 k0_t10 k0_h1 a; have := k0_t10.isLt; have := t10_trips; rw [k0_off30_eq]; have hm : k0_t6.val % 2 < 2 := Nat.mod_lt _ (by decide); fin_cases a <;> simp <;> omega
  · intro k0_t6 k0_t10 k0_h1 hinb; exact ww hinb (by decide) (congrFun (k0_off30_eq v22 k0_t6 k0_t10) 3) rfl
  · intro k0_t6 k0_h1 a; rw [k0_off32_eq]; have hm : k0_t6.val % 2 < 2 := Nat.mod_lt _ (by decide); fin_cases a <;> simp <;> omega
  · intro k0_t6 k0_h1 a; rw [k0_off33_eq]; have hm : k0_t6.val % 2 < 2 := Nat.mod_lt _ (by decide); fin_cases a <;> simp <;> omega
  · intro k0_t6 k0_h1 hinb; exact ww hinb (by decide) (congrFun (k0_off33_eq v22 k0_t6) 1) rfl
  · intro k0_t6 a; rw [k0_off35_eq]; have hm : k0_t6.val % 2 < 2 := Nat.mod_lt _ (by decide); fin_cases a <;> simp <;> omega
  · intro k0_t6 a; rw [k0_off36_eq]; have hm : k0_t6.val % 2 < 2 := Nat.mod_lt _ (by decide); fin_cases a <;> simp <;> omega
  · intro k0_t6 a; rw [k0_off37_eq]; have hm : k0_t6.val % 2 < 2 := Nat.mod_lt _ (by decide); fin_cases a <;> simp <;> omega
  · intro k0_t6 a; rw [k0_off38_eq]; have hm : k0_t6.val % 2 < 2 := Nat.mod_lt _ (by decide); fin_cases a <;> simp <;> omega
  · intro k0_t6 a; rw [k0_off39_eq]; have hm : k0_t6.val % 2 < 2 := Nat.mod_lt _ (by decide); fin_cases a <;> simp <;> omega

set_option maxHeartbeats 1000000 in
theorem k0_chk3_1_of (v22 : BitVec 32) (hn : v22.toNat ≤ 33) : k0_chk3_1 v22 := by
  have htr : (k0_t6_loop v22).trips = v22.toNat := t6_trips_nat v22 (by omega)
  unfold k0_chk3_1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t6 a; rw [k0_off40_eq]; have hm : k0_t6.val % 2 < 2 := Nat.mod_lt _ (by decide); fin_cases a <;> simp <;> omega
  · intro k0_t6 a; rw [k0_off41_eq]; have hm : k0_t6.val % 2 < 2 := Nat.mod_lt _ (by decide); fin_cases a <;> simp <;> omega
  · intro k0_t6 a; rw [k0_off42_eq]; have hm : k0_t6.val % 2 < 2 := Nat.mod_lt _ (by decide); fin_cases a <;> simp <;> omega
  · intro k0_t6 a; rw [k0_off43_eq]; have hm : k0_t6.val % 2 < 2 := Nat.mod_lt _ (by decide); fin_cases a <;> simp <;> omega
  · intro k0_t6 a; rw [k0_off44_eq]; have hm : k0_t6.val % 2 < 2 := Nat.mod_lt _ (by decide); fin_cases a <;> simp <;> omega
  · intro k0_t6 a; rw [k0_off45_eq]; have hm : k0_t6.val % 2 < 2 := Nat.mod_lt _ (by decide); fin_cases a <;> simp <;> omega
  · intro k0_t6 a; rw [k0_off46_eq]; have hm : k0_t6.val % 2 < 2 := Nat.mod_lt _ (by decide); fin_cases a <;> simp <;> omega
  · intro k0_t6 a; rw [k0_off47_eq]; have hm : k0_t6.val % 2 < 2 := Nat.mod_lt _ (by decide); fin_cases a <;> simp <;> omega
  · intro k0_t6 a; rw [k0_off48_eq]; have hm : k0_t6.val % 2 < 2 := Nat.mod_lt _ (by decide); fin_cases a <;> simp <;> omega
  · intro k0_t6 a; rw [k0_off49_eq]; have hm : k0_t6.val % 2 < 2 := Nat.mod_lt _ (by decide); fin_cases a <;> simp <;> omega
  · intro k0_t6 a; rw [k0_off50_eq]; have hm : k0_t6.val % 2 < 2 := Nat.mod_lt _ (by decide); fin_cases a <;> simp <;> omega
  · intro k0_t6 a; rw [k0_off51_eq]; have hm : k0_t6.val % 2 < 2 := Nat.mod_lt _ (by decide); fin_cases a <;> simp <;> omega
  · intro k0_t6 a; rw [k0_off52_eq]; have hm : k0_t6.val % 2 < 2 := Nat.mod_lt _ (by decide); fin_cases a <;> simp <;> omega
  · intro k0_t6 a; rw [k0_off53_eq]; have hm : k0_t6.val % 2 < 2 := Nat.mod_lt _ (by decide); fin_cases a <;> simp <;> omega
  · intro k0_t6 a; rw [k0_off54_eq]; have hm : k0_t6.val % 2 < 2 := Nat.mod_lt _ (by decide); fin_cases a <;> simp <;> omega
  · intro k0_t6 a; rw [k0_off55_eq]; have hm : k0_t6.val % 2 < 2 := Nat.mod_lt _ (by decide); fin_cases a <;> simp <;> omega
  · intro k0_t6 a; rw [k0_off56_eq]; have hm : k0_t6.val % 2 < 2 := Nat.mod_lt _ (by decide); fin_cases a <;> simp <;> omega
  · intro k0_t6 a; rw [k0_off57_eq]; have hm : k0_t6.val % 2 < 2 := Nat.mod_lt _ (by decide); fin_cases a <;> simp <;> omega
  · intro k0_t6 a; rw [k0_off58_eq]; have hm : k0_t6.val % 2 < 2 := Nat.mod_lt _ (by decide); fin_cases a <;> simp <;> omega
  · intro k0_t6 a; rw [k0_off59_eq]; have hm : k0_t6.val % 2 < 2 := Nat.mod_lt _ (by decide); fin_cases a <;> simp <;> omega
  · intro k0_t6 a; rw [k0_off60_eq]; have hm : k0_t6.val % 2 < 2 := Nat.mod_lt _ (by decide); fin_cases a <;> simp <;> omega
  · intro k0_t6 a; rw [k0_off61_eq]; have hm : k0_t6.val % 2 < 2 := Nat.mod_lt _ (by decide); fin_cases a <;> simp <;> omega
  · intro k0_t6 a; rw [k0_off62_eq]; have hm : k0_t6.val % 2 < 2 := Nat.mod_lt _ (by decide); fin_cases a <;> simp <;> omega
  · intro k0_t6 a; rw [k0_off63_eq]; have hm : k0_t6.val % 2 < 2 := Nat.mod_lt _ (by decide); fin_cases a <;> simp <;> omega
  · intro k0_t6 a; rw [k0_off64_eq]; have hm : k0_t6.val % 2 < 2 := Nat.mod_lt _ (by decide); fin_cases a <;> simp <;> omega
  · intro k0_t6 a; rw [k0_off65_eq]; have hm : k0_t6.val % 2 < 2 := Nat.mod_lt _ (by decide); fin_cases a <;> simp <;> omega
  · intro k0_t6 a; rw [k0_off66_eq]; have hm : k0_t6.val % 2 < 2 := Nat.mod_lt _ (by decide); fin_cases a <;> simp <;> omega
  · intro k0_t6 a; rw [k0_off67_eq]; have hm : k0_t6.val % 2 < 2 := Nat.mod_lt _ (by decide); fin_cases a <;> simp <;> omega
  · intro k0_t6 a; rw [k0_off68_eq]; have hm : k0_t6.val % 2 < 2 := Nat.mod_lt _ (by decide); fin_cases a <;> simp <;> omega
  · intro k0_t6 a; rw [k0_off69_eq]; have hm : k0_t6.val % 2 < 2 := Nat.mod_lt _ (by decide); fin_cases a <;> simp <;> omega
  · intro k0_t6 a; rw [k0_off70_eq]; have hm : k0_t6.val % 2 < 2 := Nat.mod_lt _ (by decide); fin_cases a <;> simp <;> omega
  · intro k0_t6 a; rw [k0_off71_eq]; have hm : k0_t6.val % 2 < 2 := Nat.mod_lt _ (by decide); fin_cases a <;> simp <;> omega

set_option maxHeartbeats 1000000 in
theorem k0_chk3_2_of (v22 : BitVec 32) (hn : v22.toNat ≤ 33) : k0_chk3_2 v22 := by
  have htr : (k0_t6_loop v22).trips = v22.toNat := t6_trips_nat v22 (by omega)
  unfold k0_chk3_2
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t6 a; rw [k0_off72_eq]; have hm : k0_t6.val % 2 < 2 := Nat.mod_lt _ (by decide); fin_cases a <;> simp <;> omega
  · intro k0_t6 a; rw [k0_off73_eq]; have hm : k0_t6.val % 2 < 2 := Nat.mod_lt _ (by decide); fin_cases a <;> simp <;> omega
  · intro k0_t6 a; rw [k0_off74_eq]; have hm : k0_t6.val % 2 < 2 := Nat.mod_lt _ (by decide); fin_cases a <;> simp <;> omega
  · intro k0_t6 a; rw [k0_off75_eq]; have hm : k0_t6.val % 2 < 2 := Nat.mod_lt _ (by decide); fin_cases a <;> simp <;> omega
  · intro k0_t6 a; rw [k0_off76_eq]; have hm : k0_t6.val % 2 < 2 := Nat.mod_lt _ (by decide); fin_cases a <;> simp <;> omega
  · intro k0_t6 a; rw [k0_off77_eq]; have hm : k0_t6.val % 2 < 2 := Nat.mod_lt _ (by decide); fin_cases a <;> simp <;> omega
  · intro k0_t6 a; rw [k0_off78_eq]; have hm : k0_t6.val % 2 < 2 := Nat.mod_lt _ (by decide); fin_cases a <;> simp <;> omega
  · intro k0_t6 a; rw [k0_off79_eq]; have hm : k0_t6.val % 2 < 2 := Nat.mod_lt _ (by decide); fin_cases a <;> simp <;> omega
  · intro k0_t6 a; rw [k0_off80_eq]; have hm : k0_t6.val % 2 < 2 := Nat.mod_lt _ (by decide); fin_cases a <;> simp <;> omega
  · intro k0_t6 a; rw [k0_off81_eq]; have hm : k0_t6.val % 2 < 2 := Nat.mod_lt _ (by decide); fin_cases a <;> simp <;> omega
  · intro k0_t6 a; rw [k0_off82_eq]; have hm : k0_t6.val % 2 < 2 := Nat.mod_lt _ (by decide); fin_cases a <;> simp <;> omega
  · intro k0_t6 a; rw [k0_off83_eq]; have hm : k0_t6.val % 2 < 2 := Nat.mod_lt _ (by decide); fin_cases a <;> simp <;> omega
  · intro k0_t6 a; rw [k0_off84_eq]; have hm : k0_t6.val % 2 < 2 := Nat.mod_lt _ (by decide); fin_cases a <;> simp <;> omega
  · intro k0_t6 a; rw [k0_off85_eq]; have hm : k0_t6.val % 2 < 2 := Nat.mod_lt _ (by decide); fin_cases a <;> simp <;> omega
  · intro k0_t6 a; rw [k0_off86_eq]; have hm : k0_t6.val % 2 < 2 := Nat.mod_lt _ (by decide); fin_cases a <;> simp <;> omega
  · intro k0_t6 a; rw [k0_off87_eq]; have hm : k0_t6.val % 2 < 2 := Nat.mod_lt _ (by decide); fin_cases a <;> simp <;> omega
  · intro k0_t6 a; rw [k0_off88_eq]; have hm : k0_t6.val % 2 < 2 := Nat.mod_lt _ (by decide); fin_cases a <;> simp <;> omega
  · intro k0_t6 a; rw [k0_off89_eq]; have hm : k0_t6.val % 2 < 2 := Nat.mod_lt _ (by decide); fin_cases a <;> simp <;> omega
  · intro k0_t6 a; rw [k0_off90_eq]; have hm : k0_t6.val % 2 < 2 := Nat.mod_lt _ (by decide); fin_cases a <;> simp <;> omega
  · intro k0_t6 a; rw [k0_off91_eq]; have hm : k0_t6.val % 2 < 2 := Nat.mod_lt _ (by decide); fin_cases a <;> simp <;> omega
  · intro k0_t6 a; rw [k0_off92_eq]; have hm : k0_t6.val % 2 < 2 := Nat.mod_lt _ (by decide); fin_cases a <;> simp <;> omega
  · intro k0_t6 a; rw [k0_off93_eq]; have hm : k0_t6.val % 2 < 2 := Nat.mod_lt _ (by decide); fin_cases a <;> simp <;> omega
  · intro k0_t6 a; rw [k0_off94_eq]; have hm : k0_t6.val % 2 < 2 := Nat.mod_lt _ (by decide); fin_cases a <;> simp <;> omega
  · exact t11_ok v22
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

set_option maxHeartbeats 1000000 in
theorem k0_chk3_3_of (v22 : BitVec 32) (hn : v22.toNat ≤ 33) : k0_chk3_3 v22 := by
  have htr : (k0_t6_loop v22).trips = v22.toNat := t6_trips_nat v22 (by omega)
  unfold k0_chk3_3
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

set_option maxHeartbeats 1000000 in
theorem k0_chk3_4_of (v22 : BitVec 32) (hn : v22.toNat ≤ 33) : k0_chk3_4 v22 := by
  have htr : (k0_t6_loop v22).trips = v22.toNat := t6_trips_nat v22 (by omega)
  unfold k0_chk3_4
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

set_option maxHeartbeats 1000000 in
theorem k0_chk3_5_of (v22 : BitVec 32) (hn : v22.toNat ≤ 33) : k0_chk3_5 v22 := by
  have htr : (k0_t6_loop v22).trips = v22.toNat := t6_trips_nat v22 (by omega)
  unfold k0_chk3_5
  refine ⟨?_, ?_, ?_, ?_, ?_, ?_, ?_, ?_, ?_, ?_, ?_, ?_, ?_, ?_⟩
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

theorem k0_chk3_of (v22 : BitVec 32) (hn : v22.toNat ≤ 33) : k0_chk3 v22 :=
  ⟨k0_chk3_0_of v22 hn, k0_chk3_1_of v22 hn, k0_chk3_2_of v22 hn, k0_chk3_3_of v22 hn, k0_chk3_4_of v22 hn, k0_chk3_5_of v22 hn⟩

theorem k0_chk2_of (cnt : BitVec 32) (h : cnt.toNat < 33) : k0_chk2 cnt := by
  unfold k0_chk2
  intro a; fin_cases a
  show cnt.toNat + 1 ≤ 33; omega

end Cert.KernelIdeal.Gen

end
-- ==== Proof.CopyI.lean ====
/-
  The copies: loops that start a batch of transfers on one semaphore cell, and loops that wait for all of them.
-/
module

public import proofs.«01_k».proof.Proof.ChkI
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (c : Dev nD)

/-- A batch of `n` transfers of `N` units on cell `sm`: `j` of them issued, `u` units waited for. -/
abbrev batch {n : ℕ} (sm : SemLoc sig) (N : ℕ) (D : Fin n → sProp 𝕄) (j u : ℕ) : sProp 𝕄 :=
  Transfers.Batch (countersEmb (U := Pipeline.UD sig nD τ)) (c : Thread nD τ) sm () N D j u

/-- The cell at zero. -/
abbrev cell (sm : SemLoc sig) : sProp 𝕄 := semVal ((c : Thread nD τ), sm) 0

/-- A loop whose trip `k` starts the `k`-th transfer of a batch leaves all of them issued. -/
theorem start_loop {n : ℕ} {sp sp' : Space} {S : Shape} {e : EltTy} (L : Scf.Loop 32) (hL : L.OK) (hT : L.trips = n)
    (src : Fin L.trips → Memref sig .tc sp S e) (dst : Fin L.trips → Memref sig .tc sp' S e) (sm : SemLoc sig)
    (h1 : ∀ k, (src k).view.WordExact) (h2 : ∀ k, (dst k).view.WordExact)
    (h3 : ∀ k, DmaTarget.Typed (nD := nD) (τ := τ) (p := (.tc : Proc τ)) sp sm (.here (dst k)))
    (N : ℕ) (hN : ∀ k, (dst k).view.amount sm = N) (Pre D : Fin n → sProp 𝕄)
    (fs : ∀ k, Buf (Elt F) ((src k).view.loc (c : Thread nD τ)))
    (hpre : ∀ k, Pre (Fin.cast hT k) ⊢ iprop(((src k).view.loc (c : Thread nD τ) ↦[(src k).view.set]{fullShare} fs k)
      ∗ ∃ fd, (dst k).view.loc (c : Thread nD τ) ↦[(dst k).view.set]{fullShare} fd))
    (hD : ∀ k fd, iprop(((dst k).view.loc (c : Thread nD τ) ↦[(dst k).view.set]{fullShare}
          (dst k).view.write (Elt F) fd (ReadAs.same.apply ((src k).view.read (Elt F) (fs k))) Finset.univ)
        ∗ ((src k).view.loc (c : Thread nD τ) ↦[(src k).view.set]{fullShare} fs k)) ⊢ D (Fin.cast hT k)) :
    iprop(batch c sm N D 0 0 ∗ bigSep Finset.univ Pre)
      ⊢ wp frame (wpE (defs₀ (F := F)) Variants.none (c : Thread nD τ) none) Set.univ
        (Scf.Loop.for L hL (⟨⟩ : Unit) (fun k _ => do
          Prog.lift (.enqueueDma (src k) (.here (dst k)) sm (h1 k) (h2 k) (h3 k))
          pure ⟨⟩)) (fun _ => batch c sm N D n 0) := by
  subst hT
  refine BIBase.Entails.trans ?_ (Scf.wp_for frame _ Set.univ L.lb L.ub L.st hL _ _
    (fun k _ => iprop(batch c sm N D k 0 ∗ bigSep (Ring.rangeSet L.trips k L.trips) Pre)) ?_)
  · rw [Ring.rangeSet_univ]
    iintro ⟨HB, HP⟩
    isplitl [HB HP]
    · isplitl [HB]; · iexact HB
      iexact HP
    iintro %acc ⟨HB, -⟩
    iexact HB
  intro k acc
  rw [Ring.bigSep_rangeSet_head (Φ := Pre) k.isLt k.isLt]
  iintro ⟨HB, HP, HR⟩
  ihave HP' := (show Pre ⟨k.val, k.isLt⟩ ⊢ _ from hpre k) $$ HP
  icases HP' with ⟨Hs, ⟨%fd, Hd⟩⟩
  iapply (Transfers.wp_dmaBatch (countersEmb (U := Pipeline.UD sig nD τ)) Variants.none (c : Thread nD τ) none
    (src := src k) (dst := dst k) () N (hN k) subset_rfl k.isLt (Nat.zero_le _) (hD k fd)) $$ [Hs Hd HB]
  · isplitl [Hs]; · iexact Hs
    isplitl [Hd]; · iexact Hd
    iexact HB
  iintro HB
  dsimp only [Prog.bind]
  sl_step
  isplitl [HB]; · iexact HB
  iexact HR

/-- A loop whose trip `k` waits for one transfer's units drains the batch: the cell is at zero again and everything
    the transfers deliver is there. -/
theorem wait_loop {n : ℕ} {sp sp' : Space} {S : Shape} {e : EltTy} (L : Scf.Loop 32) (hL : L.OK) (hT : L.trips = n) (hn : 0 < n)
    (src : Fin L.trips → Memref sig .tc sp S e) (dst : Fin L.trips → Memref sig .tc sp' S e) (sm : DmaSem sig)
    (h1 : ∀ k, (src k).view.WordExact) (h2 : ∀ k, (dst k).view.WordExact)
    (N : ℕ) (hN : ∀ k, (dst k).view.dmaCredit = N) (hN0 : 0 < N) (D : Fin n → sProp 𝕄) (W : Waits sig Unit) :
    iprop(batch c (.dma sm) N D n 0 ∗ owes (c : Thread nD τ) 0 W)
      ⊢ wp frame (wpE (defs₀ (F := F)) Variants.none (c : Thread nD τ) none) Set.univ
        (Scf.Loop.for L hL (⟨⟩ : Unit) (fun k _ => do
          Prog.lift (.waitDma2 sm (src k) (dst k) (h1 k) (h2 k))
          pure ⟨⟩)) (fun _ => iprop(cell c (.dma sm) ∗ bigSep Finset.univ D ∗ ∃ W, owes (c : Thread nD τ) 0 W)) := by
  subst hT
  refine BIBase.Entails.trans ?_ (Scf.wp_for frame _ Set.univ L.lb L.ub L.st hL _ _
    (fun k _ => iprop((∃ W, owes (c : Thread nD τ) 0 W) ∗ (if k < L.trips then batch c (.dma sm) N D L.trips (k * N)
      else iprop(cell c (.dma sm) ∗ bigSep Finset.univ D)))) ?_)
  · rw [if_pos hn, Nat.zero_mul, if_neg (Nat.lt_irrefl _)]
    iintro ⟨HB, HO⟩
    isplitl [HB HO]
    · isplitl [HO]; · iexists _; iexact HO
      iexact HB
    iintro %acc ⟨HO, HS, HD⟩
    isplitl [HS]; · iexact HS
    isplitl [HD]; · iexact HD
    iexact HO
  intro k acc
  have hk : k.val < L.trips := k.isLt
  rw [if_pos hk]
  rcases Nat.lt_or_ge (k.val + 1) L.trips with h | h
  · rw [if_pos h]
    iintro ⟨⟨%W', HO⟩, HB⟩
    iapply (Transfers.wp_waitBatch (countersEmb (U := Pipeline.UD sig nD τ)) Variants.none (c : Thread nD τ) none (srcw := src k) (dstw := dst k)
      () (hN k) (by have := Nat.mul_lt_mul_of_pos_right h hN0; rw [Nat.add_mul, Nat.one_mul, Nat.mul_comm L.trips] at this; omega)) $$ [HB HO]
    · isplitl [HB]; · iexact HB
      iexact HO
    iintro ⟨HB, HO⟩
    dsimp only [Prog.bind]
    sl_step
    isplitl [HO]; · iexists _; iexact HO
    rw [Nat.add_mul, Nat.one_mul]
    iexact HB
  · rw [if_neg (Nat.not_lt.mpr h)]
    iintro ⟨⟨%W', HO⟩, HB⟩
    have e : k.val + 1 = L.trips := by omega
    iapply (Transfers.wp_waitBatchLast (countersEmb (U := Pipeline.UD sig nD τ)) Variants.none (c : Thread nD τ) none (srcw := src k) (dstw := dst k)
      () (hN k) hN0 (by rw [← Nat.add_one_mul, e, Nat.mul_comm])) $$ [HB HO]
    · isplitl [HB]; · iexact HB
      iexact HO
    iintro ⟨HD, HS, HO⟩
    dsimp only [Prog.bind]
    sl_step
    isplitl [HO]; · iexists _; iexact HO
    isplitl [HS]; · iexact HS
    iexact HD

/-- One transfer alone, started. -/
theorem start_one {α : Type} {sp sp' : Space} {S : Shape} {e : EltTy} (src : Memref sig .tc sp S e) (dst : Memref sig .tc sp' S e) (sm : SemLoc sig)
    (h1 : src.view.WordExact) (h2 : dst.view.WordExact) (h3 : DmaTarget.Typed (nD := nD) (τ := τ) (p := (.tc : Proc τ)) sp sm (.here dst))
    (N : ℕ) (hN : dst.view.amount sm = N) (D : Fin 1 → sProp 𝕄)
    (fs : Buf (Elt F) (src.view.loc (c : Thread nD τ))) (fd : Buf (Elt F) (dst.view.loc (c : Thread nD τ)))
    (hD : iprop((dst.view.loc (c : Thread nD τ) ↦[dst.view.set]{fullShare}
          dst.view.write (Elt F) fd (ReadAs.same.apply (src.view.read (Elt F) fs)) Finset.univ)
        ∗ (src.view.loc (c : Thread nD τ) ↦[src.view.set]{fullShare} fs)) ⊢ D 0)
    (k : PUnit → Prog (TpuEff nD τ sig (Elt F) Λ₀ .tc) α) (Q : α → sProp 𝕄) :
    iprop(batch c sm N D 0 0 ∗ (src.view.loc (c : Thread nD τ) ↦[src.view.set]{fullShare} fs)
        ∗ (dst.view.loc (c : Thread nD τ) ↦[dst.view.set]{fullShare} fd)
        ∗ (batch c sm N D 1 0 -∗ wp frame (wpE (defs₀ (F := F)) Variants.none (c : Thread nD τ) none) Set.univ (k ⟨⟩) Q))
      ⊢ wp frame (wpE (defs₀ (F := F)) Variants.none (c : Thread nD τ) none) Set.univ
        (.op (.enqueueDma src (.here dst) sm h1 h2 h3) k) Q := by
  iintro ⟨HB, Hs, Hd, Hk⟩
  iapply (Transfers.wp_dmaBatch (countersEmb (U := Pipeline.UD sig nD τ)) Variants.none (c : Thread nD τ) none
    (src := src) (dst := dst) () N hN subset_rfl Nat.one_pos (Nat.zero_le _) hD) $$ [Hs Hd HB]
  · isplitl [Hs]; · iexact Hs
    isplitl [Hd]; · iexact Hd
    iexact HB
  iexact Hk

/-- One transfer alone, waited for. -/
theorem wait_one {α : Type} {sp sp' : Space} {S : Shape} {e : EltTy} (src : Memref sig .tc sp S e) (dst : Memref sig .tc sp' S e) (sm : DmaSem sig)
    (h1 : src.view.WordExact) (h2 : dst.view.WordExact)
    (N : ℕ) (hN : dst.view.dmaCredit = N) (hN0 : 0 < N) (D : Fin 1 → sProp 𝕄) (W : Waits sig Unit)
    (k : PUnit → Prog (TpuEff nD τ sig (Elt F) Λ₀ .tc) α) (Q : α → sProp 𝕄) :
    iprop(batch c (.dma sm) N D 1 0 ∗ owes (c : Thread nD τ) 0 W
        ∗ (iprop(cell c (.dma sm) ∗ D 0 ∗ ∃ W, owes (c : Thread nD τ) 0 W)
          -∗ wp frame (wpE (defs₀ (F := F)) Variants.none (c : Thread nD τ) none) Set.univ (k ⟨⟩) Q))
      ⊢ wp frame (wpE (defs₀ (F := F)) Variants.none (c : Thread nD τ) none) Set.univ
        (.op (.waitDma2 sm src dst h1 h2) k) Q := by
  iintro ⟨HB, HO, Hk⟩
  iapply (Transfers.wp_waitBatchLast (countersEmb (U := Pipeline.UD sig nD τ)) Variants.none (c : Thread nD τ) none (srcw := src) (dstw := dst)
      () hN hN0 (n := 1) (u := 0) (by omega)) $$ [HB HO]
  · isplitl [HB]; · iexact HB
    iexact HO
  iintro ⟨HD, HS, HO⟩
  iapply Hk
  isplitl [HS]; · iexact HS
  isplitl [HD]
  · iapply (Entails.of_eq (show bigSep Finset.univ D = D 0 from BI.bigSep_singleton)); iexact HD
  iexists _; iexact HO

end Cert.KernelIdeal.Hand

end
-- ==== Proof.SlotI.lean ====
/-
  The copies of one expert's weights: which elements each transfer moves, what lands where, and the loops that start
  and await them.
-/
module

public import proofs.«01_k».proof.Proof.CopyI
public import Idealize.ShloMosaic.Lib.ValueIdxCore

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The buffer `b` held at contents `f` on the elements `I`. -/
abbrev pt (b : Ref sig .tc) (I : Finset b.ty.shape.Idx) (f : b.ty.Contents (Elt F)) : sProp 𝕄 :=
  ((c : Thread nD τ).loc b) ↦[I]{fullShare} f

theorem amt {sp : Space} {S : Shape} {e : EltTy} (M : Memref sig .tc sp S e) (sm : DmaSem sig) :
    M.view.amount (.dma sm) = M.view.dmaCredit := View.amount_dma _ _

/-- Leading unit axes dropped: the same coordinates. -/
theorem sq3 {a b : ℕ} (h : (⟨2, ![a, b]⟩ : Shape).numel = (⟨3, ![1, a, b]⟩ : Shape).numel) (p : Fin a) (q : Fin b) :
    Shape.reshapeEquiv h (ix2 p q) = ix3 0 p q :=
  Shape.reshapeEquiv_eq_of_rowMajor h (by
    rw [Shape.rowMajor_val_three, Shape.rowMajor_val_two]
    show ((0 : ℕ) * a + p.val) * b + q.val = p.val * b + q.val
    rw [Nat.zero_mul, Nat.zero_add])
theorem sq4 {a b d : ℕ} (h : (⟨3, ![a, b, d]⟩ : Shape).numel = (⟨4, ![1, a, b, d]⟩ : Shape).numel) (p : Fin a) (q : Fin b) (r : Fin d) :
    Shape.reshapeEquiv h (ix3 p q r) = ix4 0 p q r :=
  Shape.reshapeEquiv_eq_of_rowMajor h (by
    rw [Shape.rowMajor_val_four, Shape.rowMajor_val_three]
    show (((0 : ℕ) * a + p.val) * b + q.val) * d + r.val = (p.val * b + q.val) * d + r.val
    rw [Nat.zero_mul, Nat.zero_add])
theorem sq5 {a b d : ℕ} (h : (⟨3, ![a, b, d]⟩ : Shape).numel = (⟨5, ![1, 1, a, b, d]⟩ : Shape).numel) (p : Fin a) (q : Fin b) (r : Fin d) :
    Shape.reshapeEquiv h (ix3 p q r) = ix5 0 0 p q r :=
  Shape.reshapeEquiv_eq_of_rowMajor h (by
    rw [Shape.rowMajor_val_five, Shape.rowMajor_val_three]
    show ((((0 : ℕ) * 1 + 0) * a + p.val) * b + q.val) * d + r.val = (p.val * b + q.val) * d + r.val
    simp only [Nat.zero_mul, Nat.zero_add])

/-- The cell of row `b`, slot `s` of the semaphore array. -/
def semOf (b : Fin 4) (s : Fin 2) : DmaSem sig := ⟨5 + 2 * b.val + s.val, by have := b.isLt; have := s.isLt; show _ < 13; omega⟩

theorem sem_eq (b : Fin 4) (s : Fin 2) (off : Fin 2 → ℕ) (inb : ∀ a, off a + S1x1.size a ≤ S4x2.size a) (h : off = ![b.val, s.val]) :
    (((cc0_scratch8).slice (Rect.unit (s := S4x2) off S1x1.size inb)).squeeze S_ squeezes_S1x1_S_).sem = semOf b s := by
  subst h
  have key : ∀ x : S1x1.Idx, 5 + (S4x2.rowMajor ((Rect.unit (s := S4x2) ![b.val, s.val] S1x1.size inb).emb x)).val = 5 + 2 * b.val + s.val := fun x => by
    have h0 : (x 0).val < 1 := (x 0).isLt
    have h1 : (x 1).val < 1 := (x 1).isLt
    have e0 : ((Rect.unit (s := S4x2) ![b.val, s.val] S1x1.size inb).emb x 0).val = b.val + 1 * (x 0).val := Rect.emb_apply _ _ _
    have e1 : ((Rect.unit (s := S4x2) ![b.val, s.val] S1x1.size inb).emb x 1).val = s.val + 1 * (x 1).val := Rect.emb_apply _ _ _
    have e : (S4x2.rowMajor ((Rect.unit (s := S4x2) ![b.val, s.val] S1x1.size inb).emb x)).val = _ := Shape.rowMajor_val_two ((Rect.unit (s := S4x2) ![b.val, s.val] S1x1.size inb).emb x)
    have e2 : (![4, 2] : Fin 2 → ℕ) 1 = 2 := rfl
    rw [e0, e1, e2] at e
    omega
  exact Fin.ext (key _)

/-! ### The gate and up weights -/

/-- Tile `i` of slot `s`. -/
def guDst (s i : ℕ) : Finset S2x24x64x16x128.Idx := Finset.univ.filter fun y => (y 0).val = s ∧ (y 1).val = i
/-- Columns `128 i … 128 i + 127` of expert `e`. -/
def guSrc (e i : ℕ) : Finset S32x64x16x3072.Idx := Finset.univ.filter fun y => (y 0).val = e ∧ (y 3).val / 128 = i
/-- The other experts. -/
def guRest (e : ℕ) : Finset S32x64x16x3072.Idx := Finset.univ.filter fun y => (y 0).val ≠ e
/-- Slot `s`. -/
def guSlot (s : ℕ) : Finset S2x24x64x16x128.Idx := Finset.univ.filter fun y => (y 0).val = s

theorem guDst_set (s i : ℕ) (off : Fin 5 → ℕ) (inb : ∀ a, off a + S1x1x64x16x128.size a ≤ S2x24x64x16x128.size a) (h : off = ![s, i, 0, 0, 0]) :
    (((whole cc0_scratch0 : Memref sig .tc .vmem S2x24x64x16x128 .i8).slice (Rect.unit (s := S2x24x64x16x128) off S1x1x64x16x128.size inb) (fun _ => rfl)).squeeze S64x16x128 squeezes_S1x1x64x16x128_S64x16x128).view.set
      = guDst s i := by
  subst h
  refine (View.set_reshape _ _).trans ((View.set_slice_whole _ _).trans ?_)
  ext y
  rw [Rect.mem_set_unit, guDst, Finset.mem_filter]
  have h2 : (y 2).val < 64 := (y 2).isLt
  have h3 : (y 3).val < 16 := (y 3).isLt
  have h4 : (y 4).val < 128 := (y 4).isLt
  constructor
  · intro H
    have a0 : s ≤ (y 0).val ∧ (y 0).val < s + 1 := H 0
    have a1 : i ≤ (y 1).val ∧ (y 1).val < i + 1 := H 1
    exact ⟨Finset.mem_univ _, by omega, by omega⟩
  · rintro ⟨-, a0, a1⟩ a
    fin_cases a
    · show s ≤ (y 0).val ∧ (y 0).val < s + 1; omega
    · show i ≤ (y 1).val ∧ (y 1).val < i + 1; omega
    · show 0 ≤ (y 2).val ∧ (y 2).val < 0 + 64; omega
    · show 0 ≤ (y 3).val ∧ (y 3).val < 0 + 16; omega
    · show 0 ≤ (y 4).val ∧ (y 4).val < 0 + 128; omega

theorem guSrc_set (e i : ℕ) (off : Fin 4 → ℕ) (inb : ∀ a, off a + S1x64x16x128.size a ≤ S32x64x16x3072.size a) (h : off = ![e, 0, 0, 128 * i]) :
    (((whole main_v5 : Memref sig .tc .hbm S32x64x16x3072 .i8).slice (Rect.unit (s := S32x64x16x3072) off S1x64x16x128.size inb) (fun _ => rfl)).squeeze S64x16x128 squeezes_S1x64x16x128_S64x16x128).view.set
      = guSrc e i := by
  subst h
  refine (View.set_reshape _ _).trans ((View.set_slice_whole _ _).trans ?_)
  ext y
  rw [Rect.mem_set_unit, guSrc, Finset.mem_filter]
  have h1 : (y 1).val < 64 := (y 1).isLt
  have h2 : (y 2).val < 16 := (y 2).isLt
  constructor
  · intro H
    have a0 : e ≤ (y 0).val ∧ (y 0).val < e + 1 := H 0
    have a3 : 128 * i ≤ (y 3).val ∧ (y 3).val < 128 * i + 128 := H 3
    exact ⟨Finset.mem_univ _, by omega, by omega⟩
  · rintro ⟨-, a0, a3⟩ a
    fin_cases a
    · show e ≤ (y 0).val ∧ (y 0).val < e + 1; omega
    · show 0 ≤ (y 1).val ∧ (y 1).val < 0 + 64; omega
    · show 0 ≤ (y 2).val ∧ (y 2).val < 0 + 16; omega
    · show 128 * i ≤ (y 3).val ∧ (y 3).val < 128 * i + 128; omega

/-- Where the element `y` of a slot comes from. -/
def guIdx (e : Fin 32) (y : S2x24x64x16x128.Idx) : S32x64x16x3072.Idx :=
  ix4 e (y 2) (y 3) ⟨128 * (y 1).val + (y 4).val, by have h1 : (y 1).val < 24 := (y 1).isLt; have h4 : (y 4).val < 128 := (y 4).isLt; show _ < 3072; omega⟩
/-- What a slot holds once expert `e` has landed. -/
def guLand (X : S32x64x16x3072.Idx → Elt F .i8) (e : Fin 32) : S2x24x64x16x128.Idx → Elt F .i8 := fun y => X (guIdx e y)

theorem gu_land (X : S32x64x16x3072.Idx → Elt F .i8) (e : Fin 32) (s i : ℕ) (oD : Fin 5 → ℕ) (inbD : ∀ a, oD a + S1x1x64x16x128.size a ≤ S2x24x64x16x128.size a)
    (oS : Fin 4 → ℕ) (inbS : ∀ a, oS a + S1x64x16x128.size a ≤ S32x64x16x3072.size a)
    (hD : oD = ![s, i, 0, 0, 0]) (hS : oS = ![e.val, 0, 0, 128 * i]) (fd : S2x24x64x16x128.Idx → Elt F .i8)
    (y : S2x24x64x16x128.Idx) (hy : y ∈ guDst s i) :
    (((whole cc0_scratch0 : Memref sig .tc .vmem S2x24x64x16x128 .i8).slice (Rect.unit (s := S2x24x64x16x128) oD S1x1x64x16x128.size inbD) (fun _ => rfl)).squeeze S64x16x128 squeezes_S1x1x64x16x128_S64x16x128).view.write (Elt F) fd
      (ReadAs.same.apply ((((whole main_v5 : Memref sig .tc .hbm S32x64x16x3072 .i8).slice (Rect.unit (s := S32x64x16x3072) oS S1x64x16x128.size inbS) (fun _ => rfl)).squeeze S64x16x128 squeezes_S1x64x16x128_S64x16x128).view.read (Elt F) X))
      Finset.univ y = guLand X e y := by
  subst hD; subst hS
  obtain ⟨-, hy0, hy1⟩ := Finset.mem_filter.mp hy
  let p : Fin 64 := y 2
  let q : Fin 16 := y 3
  let r : Fin 128 := y 4
  have hz : y = (((whole cc0_scratch0 : Memref sig .tc .vmem S2x24x64x16x128 .i8).slice (Rect.unit (s := S2x24x64x16x128) ![s, i, 0, 0, 0] S1x1x64x16x128.size inbD) (fun _ => rfl)).squeeze S64x16x128 squeezes_S1x1x64x16x128_S64x16x128).view.emb
      (ix3 p q r) := by
    refine Eq.trans ?_ (congrArg (Rect.unit (s := S2x24x64x16x128) ![s, i, 0, 0, 0] S1x1x64x16x128.size inbD).emb (sq5 squeezes_S1x1x64x16x128_S64x16x128.numel_eq p q r)).symm
    funext a
    apply Fin.ext
    refine Eq.trans ?_ (Rect.emb_apply _ _ _).symm
    fin_cases a
    · show (y 0).val = s + 1 * 0; omega
    · show (y 1).val = i + 1 * 0; omega
    · show (y 2).val = 0 + 1 * (y 2).val; omega
    · show (y 3).val = 0 + 1 * (y 3).val; omega
    · show (y 4).val = 0 + 1 * (y 4).val; omega
  refine (congrArg _ hz).trans ((View.write_emb_of_mem _ _ (Finset.mem_univ _)).trans ?_)
  refine congrArg X ((congrArg (Rect.unit (s := S32x64x16x3072) ![e.val, 0, 0, 128 * i] S1x64x16x128.size inbS).emb (sq4 squeezes_S1x64x16x128_S64x16x128.numel_eq p q r)).trans ?_)
  funext a
  apply Fin.ext
  refine (Rect.emb_apply _ _ _).trans ?_
  fin_cases a
  · show e.val + 1 * 0 = e.val; omega
  · show 0 + 1 * (y 2).val = (y 2).val; omega
  · show 0 + 1 * (y 3).val = (y 3).val; omega
  · show 128 * i + 1 * (y 4).val = 128 * (y 1).val + (y 4).val; omega

/-- What transfer `i` of expert `e` into slot `s` needs, -/
def guPre (s : ℕ) (e : Fin 32) (X : S32x64x16x3072.Idx → Elt F .i8) (i : Fin 24) : sProp 𝕄 :=
  iprop((pt c main_v5 (guSrc e.val i.val) X) ∗ ∃ g, pt c cc0_scratch0 (guDst s i.val) g)
/-- and what it delivers. -/
def guDel (s : ℕ) (e : Fin 32) (X : S32x64x16x3072.Idx → Elt F .i8) (i : Fin 24) : sProp 𝕄 :=
  iprop((pt c cc0_scratch0 (guDst s i.val) (guLand X e)) ∗ (pt c main_v5 (guSrc e.val i.val) X))
instance (s : ℕ) (e : Fin 32) (X : S32x64x16x3072.Idx → Elt F .i8) (i : Fin 24) : BI.Storable (upEmb : UEmb _ 𝕄) (guDel c s e X i) := by
  unfold guDel; infer_instance
/-- One transfer's units. -/
def guN : ℕ := ((((whole cc0_scratch0 : Memref sig .tc .vmem S2x24x64x16x128 .i8).slice (Rect.unit (s := S2x24x64x16x128) ![0, 0, 0, 0, 0] S1x1x64x16x128.size (by decide)) (fun _ => rfl)).squeeze S64x16x128 squeezes_S1x1x64x16x128_S64x16x128).view).dmaCredit
theorem guN_pos : 0 < guN := View.dmaCredit_pos _ (by decide)

/-! ### The down weights -/

/-- Tile `i` of slot `s`. -/
def dnDst (s i : ℕ) : Finset S2x16x48x16x128.Idx := Finset.univ.filter fun y => (y 0).val = s ∧ (y 1).val = i
/-- Columns `128 i … 128 i + 127` of expert `e`. -/
def dnSrc (e i : ℕ) : Finset S32x48x16x2048.Idx := Finset.univ.filter fun y => (y 0).val = e ∧ (y 3).val / 128 = i
/-- The other experts. -/
def dnRest (e : ℕ) : Finset S32x48x16x2048.Idx := Finset.univ.filter fun y => (y 0).val ≠ e
/-- Slot `s`. -/
def dnSlot (s : ℕ) : Finset S2x16x48x16x128.Idx := Finset.univ.filter fun y => (y 0).val = s

theorem dnDst_set (s i : ℕ) (off : Fin 5 → ℕ) (inb : ∀ a, off a + S1x1x48x16x128.size a ≤ S2x16x48x16x128.size a) (h : off = ![s, i, 0, 0, 0]) :
    (((whole cc0_scratch2 : Memref sig .tc .vmem S2x16x48x16x128 .i8).slice (Rect.unit (s := S2x16x48x16x128) off S1x1x48x16x128.size inb) (fun _ => rfl)).squeeze S48x16x128 squeezes_S1x1x48x16x128_S48x16x128).view.set
      = dnDst s i := by
  subst h
  refine (View.set_reshape _ _).trans ((View.set_slice_whole _ _).trans ?_)
  ext y
  rw [Rect.mem_set_unit, dnDst, Finset.mem_filter]
  have h2 : (y 2).val < 48 := (y 2).isLt
  have h3 : (y 3).val < 16 := (y 3).isLt
  have h4 : (y 4).val < 128 := (y 4).isLt
  constructor
  · intro H
    have a0 : s ≤ (y 0).val ∧ (y 0).val < s + 1 := H 0
    have a1 : i ≤ (y 1).val ∧ (y 1).val < i + 1 := H 1
    exact ⟨Finset.mem_univ _, by omega, by omega⟩
  · rintro ⟨-, a0, a1⟩ a
    fin_cases a
    · show s ≤ (y 0).val ∧ (y 0).val < s + 1; omega
    · show i ≤ (y 1).val ∧ (y 1).val < i + 1; omega
    · show 0 ≤ (y 2).val ∧ (y 2).val < 0 + 48; omega
    · show 0 ≤ (y 3).val ∧ (y 3).val < 0 + 16; omega
    · show 0 ≤ (y 4).val ∧ (y 4).val < 0 + 128; omega

theorem dnSrc_set (e i : ℕ) (off : Fin 4 → ℕ) (inb : ∀ a, off a + S1x48x16x128.size a ≤ S32x48x16x2048.size a) (h : off = ![e, 0, 0, 128 * i]) :
    (((whole main_v7 : Memref sig .tc .hbm S32x48x16x2048 .i8).slice (Rect.unit (s := S32x48x16x2048) off S1x48x16x128.size inb) (fun _ => rfl)).squeeze S48x16x128 squeezes_S1x48x16x128_S48x16x128).view.set
      = dnSrc e i := by
  subst h
  refine (View.set_reshape _ _).trans ((View.set_slice_whole _ _).trans ?_)
  ext y
  rw [Rect.mem_set_unit, dnSrc, Finset.mem_filter]
  have h1 : (y 1).val < 48 := (y 1).isLt
  have h2 : (y 2).val < 16 := (y 2).isLt
  constructor
  · intro H
    have a0 : e ≤ (y 0).val ∧ (y 0).val < e + 1 := H 0
    have a3 : 128 * i ≤ (y 3).val ∧ (y 3).val < 128 * i + 128 := H 3
    exact ⟨Finset.mem_univ _, by omega, by omega⟩
  · rintro ⟨-, a0, a3⟩ a
    fin_cases a
    · show e ≤ (y 0).val ∧ (y 0).val < e + 1; omega
    · show 0 ≤ (y 1).val ∧ (y 1).val < 0 + 48; omega
    · show 0 ≤ (y 2).val ∧ (y 2).val < 0 + 16; omega
    · show 128 * i ≤ (y 3).val ∧ (y 3).val < 128 * i + 128; omega

/-- Where the element `y` of a slot comes from. -/
def dnIdx (e : Fin 32) (y : S2x16x48x16x128.Idx) : S32x48x16x2048.Idx :=
  ix4 e (y 2) (y 3) ⟨128 * (y 1).val + (y 4).val, by have h1 : (y 1).val < 16 := (y 1).isLt; have h4 : (y 4).val < 128 := (y 4).isLt; show _ < 2048; omega⟩
/-- What a slot holds once expert `e` has landed. -/
def dnLand (X : S32x48x16x2048.Idx → Elt F .i8) (e : Fin 32) : S2x16x48x16x128.Idx → Elt F .i8 := fun y => X (dnIdx e y)

theorem dn_land (X : S32x48x16x2048.Idx → Elt F .i8) (e : Fin 32) (s i : ℕ) (oD : Fin 5 → ℕ) (inbD : ∀ a, oD a + S1x1x48x16x128.size a ≤ S2x16x48x16x128.size a)
    (oS : Fin 4 → ℕ) (inbS : ∀ a, oS a + S1x48x16x128.size a ≤ S32x48x16x2048.size a)
    (hD : oD = ![s, i, 0, 0, 0]) (hS : oS = ![e.val, 0, 0, 128 * i]) (fd : S2x16x48x16x128.Idx → Elt F .i8)
    (y : S2x16x48x16x128.Idx) (hy : y ∈ dnDst s i) :
    (((whole cc0_scratch2 : Memref sig .tc .vmem S2x16x48x16x128 .i8).slice (Rect.unit (s := S2x16x48x16x128) oD S1x1x48x16x128.size inbD) (fun _ => rfl)).squeeze S48x16x128 squeezes_S1x1x48x16x128_S48x16x128).view.write (Elt F) fd
      (ReadAs.same.apply ((((whole main_v7 : Memref sig .tc .hbm S32x48x16x2048 .i8).slice (Rect.unit (s := S32x48x16x2048) oS S1x48x16x128.size inbS) (fun _ => rfl)).squeeze S48x16x128 squeezes_S1x48x16x128_S48x16x128).view.read (Elt F) X))
      Finset.univ y = dnLand X e y := by
  subst hD; subst hS
  obtain ⟨-, hy0, hy1⟩ := Finset.mem_filter.mp hy
  let p : Fin 48 := y 2
  let q : Fin 16 := y 3
  let r : Fin 128 := y 4
  have hz : y = (((whole cc0_scratch2 : Memref sig .tc .vmem S2x16x48x16x128 .i8).slice (Rect.unit (s := S2x16x48x16x128) ![s, i, 0, 0, 0] S1x1x48x16x128.size inbD) (fun _ => rfl)).squeeze S48x16x128 squeezes_S1x1x48x16x128_S48x16x128).view.emb
      (ix3 p q r) := by
    refine Eq.trans ?_ (congrArg (Rect.unit (s := S2x16x48x16x128) ![s, i, 0, 0, 0] S1x1x48x16x128.size inbD).emb (sq5 squeezes_S1x1x48x16x128_S48x16x128.numel_eq p q r)).symm
    funext a
    apply Fin.ext
    refine Eq.trans ?_ (Rect.emb_apply _ _ _).symm
    fin_cases a
    · show (y 0).val = s + 1 * 0; omega
    · show (y 1).val = i + 1 * 0; omega
    · show (y 2).val = 0 + 1 * (y 2).val; omega
    · show (y 3).val = 0 + 1 * (y 3).val; omega
    · show (y 4).val = 0 + 1 * (y 4).val; omega
  refine (congrArg _ hz).trans ((View.write_emb_of_mem _ _ (Finset.mem_univ _)).trans ?_)
  refine congrArg X ((congrArg (Rect.unit (s := S32x48x16x2048) ![e.val, 0, 0, 128 * i] S1x48x16x128.size inbS).emb (sq4 squeezes_S1x48x16x128_S48x16x128.numel_eq p q r)).trans ?_)
  funext a
  apply Fin.ext
  refine (Rect.emb_apply _ _ _).trans ?_
  fin_cases a
  · show e.val + 1 * 0 = e.val; omega
  · show 0 + 1 * (y 2).val = (y 2).val; omega
  · show 0 + 1 * (y 3).val = (y 3).val; omega
  · show 128 * i + 1 * (y 4).val = 128 * (y 1).val + (y 4).val; omega

/-- What transfer `i` of expert `e` into slot `s` needs, -/
def dnPre (s : ℕ) (e : Fin 32) (X : S32x48x16x2048.Idx → Elt F .i8) (i : Fin 16) : sProp 𝕄 :=
  iprop((pt c main_v7 (dnSrc e.val i.val) X) ∗ ∃ g, pt c cc0_scratch2 (dnDst s i.val) g)
/-- and what it delivers. -/
def dnDel (s : ℕ) (e : Fin 32) (X : S32x48x16x2048.Idx → Elt F .i8) (i : Fin 16) : sProp 𝕄 :=
  iprop((pt c cc0_scratch2 (dnDst s i.val) (dnLand X e)) ∗ (pt c main_v7 (dnSrc e.val i.val) X))
instance (s : ℕ) (e : Fin 32) (X : S32x48x16x2048.Idx → Elt F .i8) (i : Fin 16) : BI.Storable (upEmb : UEmb _ 𝕄) (dnDel c s e X i) := by
  unfold dnDel; infer_instance
/-- One transfer's units. -/
def dnN : ℕ := ((((whole cc0_scratch2 : Memref sig .tc .vmem S2x16x48x16x128 .i8).slice (Rect.unit (s := S2x16x48x16x128) ![0, 0, 0, 0, 0] S1x1x48x16x128.size (by decide)) (fun _ => rfl)).squeeze S48x16x128 squeezes_S1x1x48x16x128_S48x16x128).view).dmaCredit
theorem dnN_pos : 0 < dnN := View.dmaCredit_pos _ (by decide)

/-! ### The gate and up scales -/

/-- Slot `s`. -/
def gusSlot (s : ℕ) : Finset S2x64x3072.Idx := Finset.univ.filter fun y => (y 0).val = s
/-- Expert `e`'s scales, -/
def gusSrc (e : ℕ) : Finset S32x64x3072.Idx := Finset.univ.filter fun y => (y 0).val = e
/-- and the other experts'. -/
def gusRest (e : ℕ) : Finset S32x64x3072.Idx := Finset.univ.filter fun y => (y 0).val ≠ e

theorem gusDst_set (s : ℕ) (off : Fin 3 → ℕ) (inb : ∀ a, off a + S1x64x3072.size a ≤ S2x64x3072.size a) (h : off = ![s, 0, 0]) :
    (((whole cc0_scratch1 : Memref sig .tc .vmem S2x64x3072 .i8).slice (Rect.unit (s := S2x64x3072) off S1x64x3072.size inb) (fun _ => rfl)).squeeze S64x3072 squeezes_S1x64x3072_S64x3072).view.set
      = gusSlot s := by
  subst h
  refine (View.set_reshape _ _).trans ((View.set_slice_whole _ _).trans ?_)
  ext y
  rw [Rect.mem_set_unit, gusSlot, Finset.mem_filter]
  have h1 : (y 1).val < 64 := (y 1).isLt
  have h2 : (y 2).val < 3072 := (y 2).isLt
  constructor
  · intro H
    have a0 : s ≤ (y 0).val ∧ (y 0).val < s + 1 := H 0
    exact ⟨Finset.mem_univ _, by omega⟩
  · rintro ⟨-, a0⟩ a
    fin_cases a
    · show s ≤ (y 0).val ∧ (y 0).val < s + 1; omega
    · show 0 ≤ (y 1).val ∧ (y 1).val < 0 + 64; omega
    · show 0 ≤ (y 2).val ∧ (y 2).val < 0 + 3072; omega

theorem gusSrc_set (e : ℕ) (off : Fin 3 → ℕ) (inb : ∀ a, off a + S1x64x3072.size a ≤ S32x64x3072.size a) (h : off = ![e, 0, 0]) :
    (((whole main_v6 : Memref sig .tc .hbm S32x64x3072 .i8).slice (Rect.unit (s := S32x64x3072) off S1x64x3072.size inb) (fun _ => rfl)).squeeze S64x3072 squeezes_S1x64x3072_S64x3072).view.set
      = gusSrc e := by
  subst h
  refine (View.set_reshape _ _).trans ((View.set_slice_whole _ _).trans ?_)
  ext y
  rw [Rect.mem_set_unit, gusSrc, Finset.mem_filter]
  have h1 : (y 1).val < 64 := (y 1).isLt
  have h2 : (y 2).val < 3072 := (y 2).isLt
  constructor
  · intro H
    have a0 : e ≤ (y 0).val ∧ (y 0).val < e + 1 := H 0
    exact ⟨Finset.mem_univ _, by omega⟩
  · rintro ⟨-, a0⟩ a
    fin_cases a
    · show e ≤ (y 0).val ∧ (y 0).val < e + 1; omega
    · show 0 ≤ (y 1).val ∧ (y 1).val < 0 + 64; omega
    · show 0 ≤ (y 2).val ∧ (y 2).val < 0 + 3072; omega

/-- What a slot holds once expert `e`'s scales have landed. -/
def gusLand (X : S32x64x3072.Idx → Elt F .i8) (e : Fin 32) : S2x64x3072.Idx → Elt F .i8 := fun y => X (ix3 e (y 1) (y 2))

theorem gus_land (X : S32x64x3072.Idx → Elt F .i8) (e : Fin 32) (s : ℕ) (oD : Fin 3 → ℕ) (inbD : ∀ a, oD a + S1x64x3072.size a ≤ S2x64x3072.size a)
    (oS : Fin 3 → ℕ) (inbS : ∀ a, oS a + S1x64x3072.size a ≤ S32x64x3072.size a)
    (hD : oD = ![s, 0, 0]) (hS : oS = ![e.val, 0, 0]) (fd : S2x64x3072.Idx → Elt F .i8)
    (y : S2x64x3072.Idx) (hy : y ∈ gusSlot s) :
    (((whole cc0_scratch1 : Memref sig .tc .vmem S2x64x3072 .i8).slice (Rect.unit (s := S2x64x3072) oD S1x64x3072.size inbD) (fun _ => rfl)).squeeze S64x3072 squeezes_S1x64x3072_S64x3072).view.write (Elt F) fd
      (ReadAs.same.apply ((((whole main_v6 : Memref sig .tc .hbm S32x64x3072 .i8).slice (Rect.unit (s := S32x64x3072) oS S1x64x3072.size inbS) (fun _ => rfl)).squeeze S64x3072 squeezes_S1x64x3072_S64x3072).view.read (Elt F) X))
      Finset.univ y = gusLand X e y := by
  subst hD; subst hS
  obtain ⟨-, hy0⟩ := Finset.mem_filter.mp hy
  let p : Fin 64 := y 1
  let q : Fin 3072 := y 2
  have hz : y = (((whole cc0_scratch1 : Memref sig .tc .vmem S2x64x3072 .i8).slice (Rect.unit (s := S2x64x3072) ![s, 0, 0] S1x64x3072.size inbD) (fun _ => rfl)).squeeze S64x3072 squeezes_S1x64x3072_S64x3072).view.emb
      (ix2 p q) := by
    refine Eq.trans ?_ (congrArg (Rect.unit (s := S2x64x3072) ![s, 0, 0] S1x64x3072.size inbD).emb (sq3 squeezes_S1x64x3072_S64x3072.numel_eq p q)).symm
    funext a
    apply Fin.ext
    refine Eq.trans ?_ (Rect.emb_apply _ _ _).symm
    fin_cases a
    · show (y 0).val = s + 1 * 0; omega
    · show (y 1).val = 0 + 1 * (y 1).val; omega
    · show (y 2).val = 0 + 1 * (y 2).val; omega
  refine (congrArg _ hz).trans ((View.write_emb_of_mem _ _ (Finset.mem_univ _)).trans ?_)
  refine congrArg X ((congrArg (Rect.unit (s := S32x64x3072) ![e.val, 0, 0] S1x64x3072.size inbS).emb (sq3 squeezes_S1x64x3072_S64x3072.numel_eq p q)).trans ?_)
  funext a
  apply Fin.ext
  refine (Rect.emb_apply _ _ _).trans ?_
  fin_cases a
  · show e.val + 1 * 0 = e.val; omega
  · show 0 + 1 * (y 1).val = (y 1).val; omega
  · show 0 + 1 * (y 2).val = (y 2).val; omega

/-- What the transfer of expert `e`'s scales into slot `s` delivers. -/
def gusDel (s : ℕ) (e : Fin 32) (X : S32x64x3072.Idx → Elt F .i8) (_ : Fin 1) : sProp 𝕄 :=
  iprop((pt c cc0_scratch1 (gusSlot s) (gusLand X e)) ∗ (pt c main_v6 (gusSrc e.val) X))
instance (s : ℕ) (e : Fin 32) (X : S32x64x3072.Idx → Elt F .i8) (i : Fin 1) : BI.Storable (upEmb : UEmb _ 𝕄) (gusDel c s e X i) := by
  unfold gusDel; infer_instance
/-- Its units. -/
def gusN : ℕ := ((((whole cc0_scratch1 : Memref sig .tc .vmem S2x64x3072 .i8).slice (Rect.unit (s := S2x64x3072) ![0, 0, 0] S1x64x3072.size (by decide)) (fun _ => rfl)).squeeze S64x3072 squeezes_S1x64x3072_S64x3072).view).dmaCredit
theorem gusN_pos : 0 < gusN := View.dmaCredit_pos _ (by decide)

/-! ### The down scales -/

/-- Slot `s`. -/
def dnsSlot (s : ℕ) : Finset S2x48x2048.Idx := Finset.univ.filter fun y => (y 0).val = s
/-- Expert `e`'s scales, -/
def dnsSrc (e : ℕ) : Finset S32x48x2048.Idx := Finset.univ.filter fun y => (y 0).val = e
/-- and the other experts'. -/
def dnsRest (e : ℕ) : Finset S32x48x2048.Idx := Finset.univ.filter fun y => (y 0).val ≠ e

theorem dnsDst_set (s : ℕ) (off : Fin 3 → ℕ) (inb : ∀ a, off a + S1x48x2048.size a ≤ S2x48x2048.size a) (h : off = ![s, 0, 0]) :
    (((whole cc0_scratch3 : Memref sig .tc .vmem S2x48x2048 .i8).slice (Rect.unit (s := S2x48x2048) off S1x48x2048.size inb) (fun _ => rfl)).squeeze S48x2048 squeezes_S1x48x2048_S48x2048).view.set
      = dnsSlot s := by
  subst h
  refine (View.set_reshape _ _).trans ((View.set_slice_whole _ _).trans ?_)
  ext y
  rw [Rect.mem_set_unit, dnsSlot, Finset.mem_filter]
  have h1 : (y 1).val < 48 := (y 1).isLt
  have h2 : (y 2).val < 2048 := (y 2).isLt
  constructor
  · intro H
    have a0 : s ≤ (y 0).val ∧ (y 0).val < s + 1 := H 0
    exact ⟨Finset.mem_univ _, by omega⟩
  · rintro ⟨-, a0⟩ a
    fin_cases a
    · show s ≤ (y 0).val ∧ (y 0).val < s + 1; omega
    · show 0 ≤ (y 1).val ∧ (y 1).val < 0 + 48; omega
    · show 0 ≤ (y 2).val ∧ (y 2).val < 0 + 2048; omega

theorem dnsSrc_set (e : ℕ) (off : Fin 3 → ℕ) (inb : ∀ a, off a + S1x48x2048.size a ≤ S32x48x2048.size a) (h : off = ![e, 0, 0]) :
    (((whole main_v8 : Memref sig .tc .hbm S32x48x2048 .i8).slice (Rect.unit (s := S32x48x2048) off S1x48x2048.size inb) (fun _ => rfl)).squeeze S48x2048 squeezes_S1x48x2048_S48x2048).view.set
      = dnsSrc e := by
  subst h
  refine (View.set_reshape _ _).trans ((View.set_slice_whole _ _).trans ?_)
  ext y
  rw [Rect.mem_set_unit, dnsSrc, Finset.mem_filter]
  have h1 : (y 1).val < 48 := (y 1).isLt
  have h2 : (y 2).val < 2048 := (y 2).isLt
  constructor
  · intro H
    have a0 : e ≤ (y 0).val ∧ (y 0).val < e + 1 := H 0
    exact ⟨Finset.mem_univ _, by omega⟩
  · rintro ⟨-, a0⟩ a
    fin_cases a
    · show e ≤ (y 0).val ∧ (y 0).val < e + 1; omega
    · show 0 ≤ (y 1).val ∧ (y 1).val < 0 + 48; omega
    · show 0 ≤ (y 2).val ∧ (y 2).val < 0 + 2048; omega

/-- What a slot holds once expert `e`'s scales have landed. -/
def dnsLand (X : S32x48x2048.Idx → Elt F .i8) (e : Fin 32) : S2x48x2048.Idx → Elt F .i8 := fun y => X (ix3 e (y 1) (y 2))

theorem dns_land (X : S32x48x2048.Idx → Elt F .i8) (e : Fin 32) (s : ℕ) (oD : Fin 3 → ℕ) (inbD : ∀ a, oD a + S1x48x2048.size a ≤ S2x48x2048.size a)
    (oS : Fin 3 → ℕ) (inbS : ∀ a, oS a + S1x48x2048.size a ≤ S32x48x2048.size a)
    (hD : oD = ![s, 0, 0]) (hS : oS = ![e.val, 0, 0]) (fd : S2x48x2048.Idx → Elt F .i8)
    (y : S2x48x2048.Idx) (hy : y ∈ dnsSlot s) :
    (((whole cc0_scratch3 : Memref sig .tc .vmem S2x48x2048 .i8).slice (Rect.unit (s := S2x48x2048) oD S1x48x2048.size inbD) (fun _ => rfl)).squeeze S48x2048 squeezes_S1x48x2048_S48x2048).view.write (Elt F) fd
      (ReadAs.same.apply ((((whole main_v8 : Memref sig .tc .hbm S32x48x2048 .i8).slice (Rect.unit (s := S32x48x2048) oS S1x48x2048.size inbS) (fun _ => rfl)).squeeze S48x2048 squeezes_S1x48x2048_S48x2048).view.read (Elt F) X))
      Finset.univ y = dnsLand X e y := by
  subst hD; subst hS
  obtain ⟨-, hy0⟩ := Finset.mem_filter.mp hy
  let p : Fin 48 := y 1
  let q : Fin 2048 := y 2
  have hz : y = (((whole cc0_scratch3 : Memref sig .tc .vmem S2x48x2048 .i8).slice (Rect.unit (s := S2x48x2048) ![s, 0, 0] S1x48x2048.size inbD) (fun _ => rfl)).squeeze S48x2048 squeezes_S1x48x2048_S48x2048).view.emb
      (ix2 p q) := by
    refine Eq.trans ?_ (congrArg (Rect.unit (s := S2x48x2048) ![s, 0, 0] S1x48x2048.size inbD).emb (sq3 squeezes_S1x48x2048_S48x2048.numel_eq p q)).symm
    funext a
    apply Fin.ext
    refine Eq.trans ?_ (Rect.emb_apply _ _ _).symm
    fin_cases a
    · show (y 0).val = s + 1 * 0; omega
    · show (y 1).val = 0 + 1 * (y 1).val; omega
    · show (y 2).val = 0 + 1 * (y 2).val; omega
  refine (congrArg _ hz).trans ((View.write_emb_of_mem _ _ (Finset.mem_univ _)).trans ?_)
  refine congrArg X ((congrArg (Rect.unit (s := S32x48x2048) ![e.val, 0, 0] S1x48x2048.size inbS).emb (sq3 squeezes_S1x48x2048_S48x2048.numel_eq p q)).trans ?_)
  funext a
  apply Fin.ext
  refine (Rect.emb_apply _ _ _).trans ?_
  fin_cases a
  · show e.val + 1 * 0 = e.val; omega
  · show 0 + 1 * (y 1).val = (y 1).val; omega
  · show 0 + 1 * (y 2).val = (y 2).val; omega

/-- What the transfer of expert `e`'s scales into slot `s` delivers. -/
def dnsDel (s : ℕ) (e : Fin 32) (X : S32x48x2048.Idx → Elt F .i8) (_ : Fin 1) : sProp 𝕄 :=
  iprop((pt c cc0_scratch3 (dnsSlot s) (dnsLand X e)) ∗ (pt c main_v8 (dnsSrc e.val) X))
instance (s : ℕ) (e : Fin 32) (X : S32x48x2048.Idx → Elt F .i8) (i : Fin 1) : BI.Storable (upEmb : UEmb _ 𝕄) (dnsDel c s e X i) := by
  unfold dnsDel; infer_instance
/-- Its units. -/
def dnsN : ℕ := ((((whole cc0_scratch3 : Memref sig .tc .vmem S2x48x2048 .i8).slice (Rect.unit (s := S2x48x2048) ![0, 0, 0] S1x48x2048.size (by decide)) (fun _ => rfl)).squeeze S48x2048 squeezes_S1x48x2048_S48x2048).view).dmaCredit
theorem dnsN_pos : 0 < dnsN := View.dmaCredit_pos _ (by decide)

end Cert.KernelIdeal.Hand

end
-- ==== Proof.StateI.lean ====
/-
  One expert's weights in flight into one slot: how the buffers are cut up for the transfers and put together again.
-/
module

public import proofs.«01_k».proof.Proof.SlotI
public import Idealize.ShloMosaic.Lib.ValueIdxCore

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem gu_whole (e : ℕ) (X : S32x64x16x3072.Idx → Elt F .i8) :
    (pt c main_v5 Finset.univ X : sProp 𝕄)
      = iprop(bigSep Finset.univ (fun i : Fin 24 => pt c main_v5 (guSrc e i.val) X) ∗ pt c main_v5 (guRest e) X) := by
  have hu : (Finset.univ : Finset S32x64x16x3072.Idx) = (Finset.univ : Finset (Fin 24)).biUnion (fun i => guSrc e i.val) ∪ guRest e := by
    ext y
    have h3 : (y 3).val < 3072 := (y 3).isLt
    simp only [Finset.mem_univ, Finset.mem_union, Finset.mem_biUnion, guSrc, guRest, Finset.mem_filter, true_and, true_iff]
    by_cases h : (y 0).val = e
    · exact Or.inl ⟨⟨(y 3).val / 128, by omega⟩, h, rfl⟩
    · exact Or.inr h
  have hd : Disjoint ((Finset.univ : Finset (Fin 24)).biUnion (fun i => guSrc e i.val)) (guRest e) := by
    rw [Finset.disjoint_left]
    intro y hy hy'
    simp only [Finset.mem_biUnion, guSrc, guRest, Finset.mem_filter, Finset.mem_univ, true_and] at hy hy'
    obtain ⟨i, h, -⟩ := hy
    exact hy' h
  have hb := pointsTo_biUnion (Ix := Unit) (Name := ℕ) (U := Pipeline.UD sig nD τ) (Lvl := ℕ) (Val := Elt F) (ℓ := (c : Thread nD τ).loc main_v5) (q := fullShare) (f := X) Finset.univ (fun i : Fin 24 => guSrc e i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c main_v5 I X) hu).trans ((Idealize.SL.BI.Entails.antisymm (pointsTo_union hd).1 (pointsTo_union hd).2).trans
    (congrArg (fun P => iprop(P ∗ pt c main_v5 (guRest e) X)) hb))

theorem gu_slot (s : ℕ) (g : S2x24x64x16x128.Idx → Elt F .i8) :
    (pt c cc0_scratch0 (guSlot s) g : sProp 𝕄) = bigSep Finset.univ (fun i : Fin 24 => pt c cc0_scratch0 (guDst s i.val) g) := by
  have hu : guSlot s = (Finset.univ : Finset (Fin 24)).biUnion (fun i => guDst s i.val) := by
    ext y
    simp only [Finset.mem_univ, Finset.mem_biUnion, guSlot, guDst, Finset.mem_filter, true_and]
    constructor
    · exact fun h => ⟨y 1, h, rfl⟩
    · exact fun ⟨_, h, _⟩ => h
  have hb := pointsTo_biUnion (Ix := Unit) (Name := ℕ) (U := Pipeline.UD sig nD τ) (Lvl := ℕ) (Val := Elt F) (ℓ := (c : Thread nD τ).loc cc0_scratch0) (q := fullShare) (f := g) Finset.univ (fun i : Fin 24 => guDst s i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c cc0_scratch0 I g) hu).trans hb

theorem gu_pre (s : ℕ) (e : Fin 32) (X : S32x64x16x3072.Idx → Elt F .i8) (g : S2x24x64x16x128.Idx → Elt F .i8) (i : Fin 24) :
    iprop(pt c main_v5 (guSrc e.val i.val) X ∗ pt c cc0_scratch0 (guDst s i.val) g) ⊢ (guPre c s e X i : sProp 𝕄) := by
  unfold guPre
  iintro ⟨H1, H2⟩
  isplitl [H1]; · iexact H1
  iexists g; iexact H2

/-- Everything the transfers of expert `e` into slot `s` need, from the slot and the array. -/
theorem gu_ready (s : ℕ) (e : Fin 32) (X : S32x64x16x3072.Idx → Elt F .i8) :
    iprop((∃ g, pt c cc0_scratch0 (guSlot s) g) ∗ pt c main_v5 Finset.univ X)
      ⊢ (iprop(bigSep Finset.univ (guPre c s e X) ∗ pt c main_v5 (guRest e.val) X) : sProp 𝕄) := by
  rw [gu_whole c e.val X]
  iintro ⟨⟨%g, HG⟩, HS, HR⟩
  isplitl [HG HS]
  · iapply (show iprop(bigSep Finset.univ (fun i : Fin 24 => pt c main_v5 (guSrc e.val i.val) X)
        ∗ bigSep Finset.univ (fun i : Fin 24 => pt c cc0_scratch0 (guDst s i.val) g)) ⊢ (bigSep Finset.univ (guPre c s e X) : sProp 𝕄) from by
      rw [← bigSep_sep']
      exact BI.bigSep_mono fun i _ => gu_pre c s e X g i)
    isplitl [HS]; · iexact HS
    iapply (Entails.of_eq (gu_slot c s g)); iexact HG
  iexact HR

/-- All delivered, the slot holds expert `e` and the array is whole again. -/
theorem gu_done (s : ℕ) (e : Fin 32) (X : S32x64x16x3072.Idx → Elt F .i8) :
    iprop(bigSep Finset.univ (guDel c s e X) ∗ pt c main_v5 (guRest e.val) X)
      ⊢ (iprop(pt c cc0_scratch0 (guSlot s) (guLand X e) ∗ pt c main_v5 Finset.univ X) : sProp 𝕄) := by
  rw [gu_whole c e.val X, gu_slot c s (guLand X e),
    show (bigSep Finset.univ (guDel c s e X) : sProp 𝕄) = iprop(bigSep Finset.univ (fun i : Fin 24 => pt c cc0_scratch0 (guDst s i.val) (guLand X e))
        ∗ bigSep Finset.univ (fun i : Fin 24 => pt c main_v5 (guSrc e.val i.val) X)) from by rw [← bigSep_sep']; rfl]
  iintro ⟨⟨H1, H2⟩, H3⟩
  isplitl [H1]; · iexact H1
  isplitl [H2]; · iexact H2
  iexact H3
/-- A loop that starts the transfers of expert `e` into slot `s`, tile by tile. -/
theorem gu_start (L : Scf.Loop 32) (hL : L.OK) (hT : L.trips = 24) (s : Fin 2) (e : Fin 32) (X : S32x64x16x3072.Idx → Elt F .i8) (sm : DmaSem sig) (hsm : sm = semOf 0 s)
    (oD : Fin L.trips → Fin 5 → ℕ) (inbD : ∀ k a, oD k a + S1x1x64x16x128.size a ≤ S2x24x64x16x128.size a)
    (oS : Fin L.trips → Fin 4 → ℕ) (inbS : ∀ k a, oS k a + S1x64x16x128.size a ≤ S32x64x16x3072.size a)
    (hD : ∀ k, oD k = ![s.val, k.val, 0, 0, 0]) (hS : ∀ k, oS k = ![e.val, 0, 0, 128 * k.val])
    (h1 : ∀ k, (((whole main_v5 : Memref sig .tc .hbm S32x64x16x3072 .i8).slice (Rect.unit (s := S32x64x16x3072) (oS k) S1x64x16x128.size (inbS k)) (fun _ => rfl)).squeeze S64x16x128 squeezes_S1x64x16x128_S64x16x128).view.WordExact)
    (h2 : ∀ k, (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128).view.WordExact) :
    iprop(batch c (.dma (semOf 0 s)) guN (guDel c s.val e X) 0 0 ∗ bigSep Finset.univ (guPre c s.val e X))
      ⊢ wp frame (wpE (defs₀ (F := F)) Variants.none (c : Thread nD τ) none) Set.univ
        (Scf.Loop.for L hL (⟨⟩ : Unit) (fun k _ => do
          Prog.lift (.enqueueDma (((whole main_v5 : Memref sig .tc .hbm S32x64x16x3072 .i8).slice (Rect.unit (s := S32x64x16x3072) (oS k) S1x64x16x128.size (inbS k)) (fun _ => rfl)).squeeze S64x16x128 squeezes_S1x64x16x128_S64x16x128)
            (.here (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128))
            (.dma sm) (h1 k) (h2 k) ⟨Or.inl rfl, trivial⟩)
          pure ⟨⟩)) (fun _ => batch c (.dma (semOf 0 s)) guN (guDel c s.val e X) 24 0) := by
  subst hsm
  refine start_loop c L hL hT _ _ _ h1 h2 (fun k => ⟨Or.inl rfl, trivial⟩) guN (fun k => ?_) (guPre c s.val e X) (guDel c s.val e X) (fun k => X) (fun k => ?_) (fun k fd => ?_)
  · rw [amt]; rfl
  · rw [guSrc_set e.val k.val _ (inbS k) (hS k), guDst_set s.val k.val _ (inbD k) (hD k)]
    exact .rfl
  · rw [guSrc_set e.val k.val _ (inbS k) (hS k), guDst_set s.val k.val _ (inbD k) (hD k)]
    exact sep_mono_left (Entails.of_eq (pointsTo_congr fun y hy => gu_land X e s.val k.val _ (inbD k) _ (inbS k) (hD k) (hS k) fd y hy))

/-- A loop that awaits the transfers of expert `e` into slot `s`, tile by tile. -/
theorem gu_wait (L : Scf.Loop 32) (hL : L.OK) (hT : L.trips = 24) (s : Fin 2) (e : Fin 32) (X : S32x64x16x3072.Idx → Elt F .i8) (sm : DmaSem sig) (hsm : sm = semOf 0 s)
    (oD : Fin L.trips → Fin 5 → ℕ) (inbD : ∀ k a, oD k a + S1x1x64x16x128.size a ≤ S2x24x64x16x128.size a)
    (oS : Fin L.trips → Fin 4 → ℕ) (inbS : ∀ k a, oS k a + S1x64x16x128.size a ≤ S32x64x16x3072.size a)
    (h1 : ∀ k, (((whole main_v5 : Memref sig .tc .hbm S32x64x16x3072 .i8).slice (Rect.unit (s := S32x64x16x3072) (oS k) S1x64x16x128.size (inbS k)) (fun _ => rfl)).squeeze S64x16x128 squeezes_S1x64x16x128_S64x16x128).view.WordExact)
    (h2 : ∀ k, (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128).view.WordExact)
    (W : Waits sig Unit) :
    iprop(batch c (.dma (semOf 0 s)) guN (guDel c s.val e X) 24 0 ∗ owes (c : Thread nD τ) 0 W)
      ⊢ wp frame (wpE (defs₀ (F := F)) Variants.none (c : Thread nD τ) none) Set.univ
        (Scf.Loop.for L hL (⟨⟩ : Unit) (fun k _ => do
          Prog.lift (.waitDma2 sm (((whole main_v5 : Memref sig .tc .hbm S32x64x16x3072 .i8).slice (Rect.unit (s := S32x64x16x3072) (oS k) S1x64x16x128.size (inbS k)) (fun _ => rfl)).squeeze S64x16x128 squeezes_S1x64x16x128_S64x16x128)
            (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128)
            (h1 k) (h2 k))
          pure ⟨⟩)) (fun _ => iprop(cell c (.dma (semOf 0 s)) ∗ bigSep Finset.univ (guDel c s.val e X) ∗ ∃ W, owes (c : Thread nD τ) 0 W)) := by
  subst hsm
  exact wait_loop c L hL hT (by omega) _ _ _ h1 h2 guN (fun k => rfl) guN_pos (guDel c s.val e X) W

theorem dn_whole (e : ℕ) (X : S32x48x16x2048.Idx → Elt F .i8) :
    (pt c main_v7 Finset.univ X : sProp 𝕄)
      = iprop(bigSep Finset.univ (fun i : Fin 16 => pt c main_v7 (dnSrc e i.val) X) ∗ pt c main_v7 (dnRest e) X) := by
  have hu : (Finset.univ : Finset S32x48x16x2048.Idx) = (Finset.univ : Finset (Fin 16)).biUnion (fun i => dnSrc e i.val) ∪ dnRest e := by
    ext y
    have h3 : (y 3).val < 2048 := (y 3).isLt
    simp only [Finset.mem_univ, Finset.mem_union, Finset.mem_biUnion, dnSrc, dnRest, Finset.mem_filter, true_and, true_iff]
    by_cases h : (y 0).val = e
    · exact Or.inl ⟨⟨(y 3).val / 128, by omega⟩, h, rfl⟩
    · exact Or.inr h
  have hd : Disjoint ((Finset.univ : Finset (Fin 16)).biUnion (fun i => dnSrc e i.val)) (dnRest e) := by
    rw [Finset.disjoint_left]
    intro y hy hy'
    simp only [Finset.mem_biUnion, dnSrc, dnRest, Finset.mem_filter, Finset.mem_univ, true_and] at hy hy'
    obtain ⟨i, h, -⟩ := hy
    exact hy' h
  have hb := pointsTo_biUnion (Ix := Unit) (Name := ℕ) (U := Pipeline.UD sig nD τ) (Lvl := ℕ) (Val := Elt F) (ℓ := (c : Thread nD τ).loc main_v7) (q := fullShare) (f := X) Finset.univ (fun i : Fin 16 => dnSrc e i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c main_v7 I X) hu).trans ((Idealize.SL.BI.Entails.antisymm (pointsTo_union hd).1 (pointsTo_union hd).2).trans
    (congrArg (fun P => iprop(P ∗ pt c main_v7 (dnRest e) X)) hb))

theorem dn_slot (s : ℕ) (g : S2x16x48x16x128.Idx → Elt F .i8) :
    (pt c cc0_scratch2 (dnSlot s) g : sProp 𝕄) = bigSep Finset.univ (fun i : Fin 16 => pt c cc0_scratch2 (dnDst s i.val) g) := by
  have hu : dnSlot s = (Finset.univ : Finset (Fin 16)).biUnion (fun i => dnDst s i.val) := by
    ext y
    simp only [Finset.mem_univ, Finset.mem_biUnion, dnSlot, dnDst, Finset.mem_filter, true_and]
    constructor
    · exact fun h => ⟨y 1, h, rfl⟩
    · exact fun ⟨_, h, _⟩ => h
  have hb := pointsTo_biUnion (Ix := Unit) (Name := ℕ) (U := Pipeline.UD sig nD τ) (Lvl := ℕ) (Val := Elt F) (ℓ := (c : Thread nD τ).loc cc0_scratch2) (q := fullShare) (f := g) Finset.univ (fun i : Fin 16 => dnDst s i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c cc0_scratch2 I g) hu).trans hb

theorem dn_pre (s : ℕ) (e : Fin 32) (X : S32x48x16x2048.Idx → Elt F .i8) (g : S2x16x48x16x128.Idx → Elt F .i8) (i : Fin 16) :
    iprop(pt c main_v7 (dnSrc e.val i.val) X ∗ pt c cc0_scratch2 (dnDst s i.val) g) ⊢ (dnPre c s e X i : sProp 𝕄) := by
  unfold dnPre
  iintro ⟨H1, H2⟩
  isplitl [H1]; · iexact H1
  iexists g; iexact H2

/-- Everything the transfers of expert `e` into slot `s` need, from the slot and the array. -/
theorem dn_ready (s : ℕ) (e : Fin 32) (X : S32x48x16x2048.Idx → Elt F .i8) :
    iprop((∃ g, pt c cc0_scratch2 (dnSlot s) g) ∗ pt c main_v7 Finset.univ X)
      ⊢ (iprop(bigSep Finset.univ (dnPre c s e X) ∗ pt c main_v7 (dnRest e.val) X) : sProp 𝕄) := by
  rw [dn_whole c e.val X]
  iintro ⟨⟨%g, HG⟩, HS, HR⟩
  isplitl [HG HS]
  · iapply (show iprop(bigSep Finset.univ (fun i : Fin 16 => pt c main_v7 (dnSrc e.val i.val) X)
        ∗ bigSep Finset.univ (fun i : Fin 16 => pt c cc0_scratch2 (dnDst s i.val) g)) ⊢ (bigSep Finset.univ (dnPre c s e X) : sProp 𝕄) from by
      rw [← bigSep_sep']
      exact BI.bigSep_mono fun i _ => dn_pre c s e X g i)
    isplitl [HS]; · iexact HS
    iapply (Entails.of_eq (dn_slot c s g)); iexact HG
  iexact HR

/-- All delivered, the slot holds expert `e` and the array is whole again. -/
theorem dn_done (s : ℕ) (e : Fin 32) (X : S32x48x16x2048.Idx → Elt F .i8) :
    iprop(bigSep Finset.univ (dnDel c s e X) ∗ pt c main_v7 (dnRest e.val) X)
      ⊢ (iprop(pt c cc0_scratch2 (dnSlot s) (dnLand X e) ∗ pt c main_v7 Finset.univ X) : sProp 𝕄) := by
  rw [dn_whole c e.val X, dn_slot c s (dnLand X e),
    show (bigSep Finset.univ (dnDel c s e X) : sProp 𝕄) = iprop(bigSep Finset.univ (fun i : Fin 16 => pt c cc0_scratch2 (dnDst s i.val) (dnLand X e))
        ∗ bigSep Finset.univ (fun i : Fin 16 => pt c main_v7 (dnSrc e.val i.val) X)) from by rw [← bigSep_sep']; rfl]
  iintro ⟨⟨H1, H2⟩, H3⟩
  isplitl [H1]; · iexact H1
  isplitl [H2]; · iexact H2
  iexact H3
/-- A loop that starts the transfers of expert `e` into slot `s`, tile by tile. -/
theorem dn_start (L : Scf.Loop 32) (hL : L.OK) (hT : L.trips = 16) (s : Fin 2) (e : Fin 32) (X : S32x48x16x2048.Idx → Elt F .i8) (sm : DmaSem sig) (hsm : sm = semOf 2 s)
    (oD : Fin L.trips → Fin 5 → ℕ) (inbD : ∀ k a, oD k a + S1x1x48x16x128.size a ≤ S2x16x48x16x128.size a)
    (oS : Fin L.trips → Fin 4 → ℕ) (inbS : ∀ k a, oS k a + S1x48x16x128.size a ≤ S32x48x16x2048.size a)
    (hD : ∀ k, oD k = ![s.val, k.val, 0, 0, 0]) (hS : ∀ k, oS k = ![e.val, 0, 0, 128 * k.val])
    (h1 : ∀ k, (((whole main_v7 : Memref sig .tc .hbm S32x48x16x2048 .i8).slice (Rect.unit (s := S32x48x16x2048) (oS k) S1x48x16x128.size (inbS k)) (fun _ => rfl)).squeeze S48x16x128 squeezes_S1x48x16x128_S48x16x128).view.WordExact)
    (h2 : ∀ k, (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128).view.WordExact) :
    iprop(batch c (.dma (semOf 2 s)) dnN (dnDel c s.val e X) 0 0 ∗ bigSep Finset.univ (dnPre c s.val e X))
      ⊢ wp frame (wpE (defs₀ (F := F)) Variants.none (c : Thread nD τ) none) Set.univ
        (Scf.Loop.for L hL (⟨⟩ : Unit) (fun k _ => do
          Prog.lift (.enqueueDma (((whole main_v7 : Memref sig .tc .hbm S32x48x16x2048 .i8).slice (Rect.unit (s := S32x48x16x2048) (oS k) S1x48x16x128.size (inbS k)) (fun _ => rfl)).squeeze S48x16x128 squeezes_S1x48x16x128_S48x16x128)
            (.here (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128))
            (.dma sm) (h1 k) (h2 k) ⟨Or.inl rfl, trivial⟩)
          pure ⟨⟩)) (fun _ => batch c (.dma (semOf 2 s)) dnN (dnDel c s.val e X) 16 0) := by
  subst hsm
  refine start_loop c L hL hT _ _ _ h1 h2 (fun k => ⟨Or.inl rfl, trivial⟩) dnN (fun k => ?_) (dnPre c s.val e X) (dnDel c s.val e X) (fun k => X) (fun k => ?_) (fun k fd => ?_)
  · rw [amt]; rfl
  · rw [dnSrc_set e.val k.val _ (inbS k) (hS k), dnDst_set s.val k.val _ (inbD k) (hD k)]
    exact .rfl
  · rw [dnSrc_set e.val k.val _ (inbS k) (hS k), dnDst_set s.val k.val _ (inbD k) (hD k)]
    exact sep_mono_left (Entails.of_eq (pointsTo_congr fun y hy => dn_land X e s.val k.val _ (inbD k) _ (inbS k) (hD k) (hS k) fd y hy))

/-- A loop that awaits the transfers of expert `e` into slot `s`, tile by tile. -/
theorem dn_wait (L : Scf.Loop 32) (hL : L.OK) (hT : L.trips = 16) (s : Fin 2) (e : Fin 32) (X : S32x48x16x2048.Idx → Elt F .i8) (sm : DmaSem sig) (hsm : sm = semOf 2 s)
    (oD : Fin L.trips → Fin 5 → ℕ) (inbD : ∀ k a, oD k a + S1x1x48x16x128.size a ≤ S2x16x48x16x128.size a)
    (oS : Fin L.trips → Fin 4 → ℕ) (inbS : ∀ k a, oS k a + S1x48x16x128.size a ≤ S32x48x16x2048.size a)
    (h1 : ∀ k, (((whole main_v7 : Memref sig .tc .hbm S32x48x16x2048 .i8).slice (Rect.unit (s := S32x48x16x2048) (oS k) S1x48x16x128.size (inbS k)) (fun _ => rfl)).squeeze S48x16x128 squeezes_S1x48x16x128_S48x16x128).view.WordExact)
    (h2 : ∀ k, (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128).view.WordExact)
    (W : Waits sig Unit) :
    iprop(batch c (.dma (semOf 2 s)) dnN (dnDel c s.val e X) 16 0 ∗ owes (c : Thread nD τ) 0 W)
      ⊢ wp frame (wpE (defs₀ (F := F)) Variants.none (c : Thread nD τ) none) Set.univ
        (Scf.Loop.for L hL (⟨⟩ : Unit) (fun k _ => do
          Prog.lift (.waitDma2 sm (((whole main_v7 : Memref sig .tc .hbm S32x48x16x2048 .i8).slice (Rect.unit (s := S32x48x16x2048) (oS k) S1x48x16x128.size (inbS k)) (fun _ => rfl)).squeeze S48x16x128 squeezes_S1x48x16x128_S48x16x128)
            (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128)
            (h1 k) (h2 k))
          pure ⟨⟩)) (fun _ => iprop(cell c (.dma (semOf 2 s)) ∗ bigSep Finset.univ (dnDel c s.val e X) ∗ ∃ W, owes (c : Thread nD τ) 0 W)) := by
  subst hsm
  exact wait_loop c L hL hT (by omega) _ _ _ h1 h2 dnN (fun k => rfl) dnN_pos (dnDel c s.val e X) W

theorem gus_whole (e : ℕ) (X : S32x64x3072.Idx → Elt F .i8) :
    (pt c main_v6 Finset.univ X : sProp 𝕄) = iprop(pt c main_v6 (gusSrc e) X ∗ pt c main_v6 (gusRest e) X) := by
  have hu : (Finset.univ : Finset S32x64x3072.Idx) = gusSrc e ∪ gusRest e := by
    ext y
    simp only [Finset.mem_univ, Finset.mem_union, gusSrc, gusRest, Finset.mem_filter, true_and, true_iff]
    exact em _
  have hd : Disjoint (gusSrc e) (gusRest e) := by
    rw [Finset.disjoint_left]
    intro y hy hy'
    simp only [gusSrc, gusRest, Finset.mem_filter, Finset.mem_univ, true_and] at hy hy'
    exact hy' hy
  exact (congrArg (fun I => pt c main_v6 I X) hu).trans (Idealize.SL.BI.Entails.antisymm (pointsTo_union hd).1 (pointsTo_union hd).2)

/-- All delivered, the slot holds expert `e`'s scales and the array is whole again. -/
theorem gus_done (s : ℕ) (e : Fin 32) (X : S32x64x3072.Idx → Elt F .i8) (t : Fin 1) :
    iprop(gusDel c s e X t ∗ pt c main_v6 (gusRest e.val) X)
      ⊢ (iprop(pt c cc0_scratch1 (gusSlot s) (gusLand X e) ∗ pt c main_v6 Finset.univ X) : sProp 𝕄) := by
  rw [gus_whole c e.val X]
  unfold gusDel
  iintro ⟨⟨H1, H2⟩, H3⟩
  isplitl [H1]; · iexact H1
  isplitl [H2]; · iexact H2
  iexact H3

/-- The transfer of expert `e`'s scales into slot `s`, started. -/
theorem gus_start {α : Type} (s : Fin 2) (e : Fin 32) (X : S32x64x3072.Idx → Elt F .i8) (sm : DmaSem sig) (hsm : sm = semOf 1 s)
    (oD : Fin 3 → ℕ) (inbD : ∀ a, oD a + S1x64x3072.size a ≤ S2x64x3072.size a)
    (oS : Fin 3 → ℕ) (inbS : ∀ a, oS a + S1x64x3072.size a ≤ S32x64x3072.size a)
    (hD : oD = ![s.val, 0, 0]) (hS : oS = ![e.val, 0, 0])
    (h1 : (((whole main_v6 : Memref sig .tc .hbm S32x64x3072 .i8).slice (Rect.unit (s := S32x64x3072) oS S1x64x3072.size inbS) (fun _ => rfl)).squeeze S64x3072 squeezes_S1x64x3072_S64x3072).view.WordExact)
    (h2 : (((whole cc0_scratch1 : Memref sig .tc .vmem S2x64x3072 .i8).slice (Rect.unit (s := S2x64x3072) oD S1x64x3072.size inbD) (fun _ => rfl)).squeeze S64x3072 squeezes_S1x64x3072_S64x3072).view.WordExact)
    (h3 : DmaTarget.Typed (nD := nD) (τ := τ) (p := (.tc : Proc τ)) .hbm (.dma sm)
      (.here (((whole cc0_scratch1 : Memref sig .tc .vmem S2x64x3072 .i8).slice (Rect.unit (s := S2x64x3072) oD S1x64x3072.size inbD) (fun _ => rfl)).squeeze S64x3072 squeezes_S1x64x3072_S64x3072)))
    (k : PUnit → Prog (TpuEff nD τ sig (Elt F) Λ₀ .tc) α) (Q : α → sProp 𝕄) :
    iprop(batch c (.dma (semOf 1 s)) gusN (gusDel c s.val e X) 0 0 ∗ (∃ g, pt c cc0_scratch1 (gusSlot s.val) g) ∗ pt c main_v6 (gusSrc e.val) X
        ∗ (batch c (.dma (semOf 1 s)) gusN (gusDel c s.val e X) 1 0 -∗ wp frame (wpE (defs₀ (F := F)) Variants.none (c : Thread nD τ) none) Set.univ (k ⟨⟩) Q))
      ⊢ wp frame (wpE (defs₀ (F := F)) Variants.none (c : Thread nD τ) none) Set.univ
        (.op (.enqueueDma (((whole main_v6 : Memref sig .tc .hbm S32x64x3072 .i8).slice (Rect.unit (s := S32x64x3072) oS S1x64x3072.size inbS) (fun _ => rfl)).squeeze S64x3072 squeezes_S1x64x3072_S64x3072)
          (.here (((whole cc0_scratch1 : Memref sig .tc .vmem S2x64x3072 .i8).slice (Rect.unit (s := S2x64x3072) oD S1x64x3072.size inbD) (fun _ => rfl)).squeeze S64x3072 squeezes_S1x64x3072_S64x3072))
          (.dma sm) h1 h2 h3) k) Q := by
  subst hsm
  iintro ⟨HB, ⟨%g, Hd⟩, Hs, Hk⟩
  iapply (start_one c _ _ _ h1 h2 h3 gusN ((amt _ _).trans rfl) (gusDel c s.val e X) X g (by
    rw [gusSrc_set e.val _ inbS hS, gusDst_set s.val _ inbD hD]
    exact sep_mono_left (Entails.of_eq (pointsTo_congr fun y hy => gus_land X e s.val _ inbD _ inbS hD hS g y hy))) k Q)
  rw [gusSrc_set e.val _ inbS hS, gusDst_set s.val _ inbD hD]
  isplitl [HB]; · iexact HB
  isplitl [Hs]; · iexact Hs
  isplitl [Hd]; · iexact Hd
  iexact Hk

/-- The transfer of expert `e`'s scales into slot `s`, awaited. -/
theorem gus_wait {α : Type} (s : Fin 2) (e : Fin 32) (X : S32x64x3072.Idx → Elt F .i8) (sm : DmaSem sig) (hsm : sm = semOf 1 s)
    (oD : Fin 3 → ℕ) (inbD : ∀ a, oD a + S1x64x3072.size a ≤ S2x64x3072.size a)
    (oS : Fin 3 → ℕ) (inbS : ∀ a, oS a + S1x64x3072.size a ≤ S32x64x3072.size a)
    (h1 : (((whole main_v6 : Memref sig .tc .hbm S32x64x3072 .i8).slice (Rect.unit (s := S32x64x3072) oS S1x64x3072.size inbS) (fun _ => rfl)).squeeze S64x3072 squeezes_S1x64x3072_S64x3072).view.WordExact)
    (h2 : (((whole cc0_scratch1 : Memref sig .tc .vmem S2x64x3072 .i8).slice (Rect.unit (s := S2x64x3072) oD S1x64x3072.size inbD) (fun _ => rfl)).squeeze S64x3072 squeezes_S1x64x3072_S64x3072).view.WordExact)
    (W : Waits sig Unit) (k : PUnit → Prog (TpuEff nD τ sig (Elt F) Λ₀ .tc) α) (Q : α → sProp 𝕄) :
    iprop(batch c (.dma (semOf 1 s)) gusN (gusDel c s.val e X) 1 0 ∗ owes (c : Thread nD τ) 0 W
        ∗ (iprop(cell c (.dma (semOf 1 s)) ∗ gusDel c s.val e X 0 ∗ ∃ W, owes (c : Thread nD τ) 0 W)
          -∗ wp frame (wpE (defs₀ (F := F)) Variants.none (c : Thread nD τ) none) Set.univ (k ⟨⟩) Q))
      ⊢ wp frame (wpE (defs₀ (F := F)) Variants.none (c : Thread nD τ) none) Set.univ
        (.op (.waitDma2 sm (((whole main_v6 : Memref sig .tc .hbm S32x64x3072 .i8).slice (Rect.unit (s := S32x64x3072) oS S1x64x3072.size inbS) (fun _ => rfl)).squeeze S64x3072 squeezes_S1x64x3072_S64x3072)
          (((whole cc0_scratch1 : Memref sig .tc .vmem S2x64x3072 .i8).slice (Rect.unit (s := S2x64x3072) oD S1x64x3072.size inbD) (fun _ => rfl)).squeeze S64x3072 squeezes_S1x64x3072_S64x3072) h1 h2) k) Q := by
  subst hsm
  exact wait_one c _ _ _ h1 h2 gusN rfl gusN_pos (gusDel c s.val e X) W k Q

theorem dns_whole (e : ℕ) (X : S32x48x2048.Idx → Elt F .i8) :
    (pt c main_v8 Finset.univ X : sProp 𝕄) = iprop(pt c main_v8 (dnsSrc e) X ∗ pt c main_v8 (dnsRest e) X) := by
  have hu : (Finset.univ : Finset S32x48x2048.Idx) = dnsSrc e ∪ dnsRest e := by
    ext y
    simp only [Finset.mem_univ, Finset.mem_union, dnsSrc, dnsRest, Finset.mem_filter, true_and, true_iff]
    exact em _
  have hd : Disjoint (dnsSrc e) (dnsRest e) := by
    rw [Finset.disjoint_left]
    intro y hy hy'
    simp only [dnsSrc, dnsRest, Finset.mem_filter, Finset.mem_univ, true_and] at hy hy'
    exact hy' hy
  exact (congrArg (fun I => pt c main_v8 I X) hu).trans (Idealize.SL.BI.Entails.antisymm (pointsTo_union hd).1 (pointsTo_union hd).2)

/-- All delivered, the slot holds expert `e`'s scales and the array is whole again. -/
theorem dns_done (s : ℕ) (e : Fin 32) (X : S32x48x2048.Idx → Elt F .i8) (t : Fin 1) :
    iprop(dnsDel c s e X t ∗ pt c main_v8 (dnsRest e.val) X)
      ⊢ (iprop(pt c cc0_scratch3 (dnsSlot s) (dnsLand X e) ∗ pt c main_v8 Finset.univ X) : sProp 𝕄) := by
  rw [dns_whole c e.val X]
  unfold dnsDel
  iintro ⟨⟨H1, H2⟩, H3⟩
  isplitl [H1]; · iexact H1
  isplitl [H2]; · iexact H2
  iexact H3

/-- The transfer of expert `e`'s scales into slot `s`, started. -/
theorem dns_start {α : Type} (s : Fin 2) (e : Fin 32) (X : S32x48x2048.Idx → Elt F .i8) (sm : DmaSem sig) (hsm : sm = semOf 3 s)
    (oD : Fin 3 → ℕ) (inbD : ∀ a, oD a + S1x48x2048.size a ≤ S2x48x2048.size a)
    (oS : Fin 3 → ℕ) (inbS : ∀ a, oS a + S1x48x2048.size a ≤ S32x48x2048.size a)
    (hD : oD = ![s.val, 0, 0]) (hS : oS = ![e.val, 0, 0])
    (h1 : (((whole main_v8 : Memref sig .tc .hbm S32x48x2048 .i8).slice (Rect.unit (s := S32x48x2048) oS S1x48x2048.size inbS) (fun _ => rfl)).squeeze S48x2048 squeezes_S1x48x2048_S48x2048).view.WordExact)
    (h2 : (((whole cc0_scratch3 : Memref sig .tc .vmem S2x48x2048 .i8).slice (Rect.unit (s := S2x48x2048) oD S1x48x2048.size inbD) (fun _ => rfl)).squeeze S48x2048 squeezes_S1x48x2048_S48x2048).view.WordExact)
    (h3 : DmaTarget.Typed (nD := nD) (τ := τ) (p := (.tc : Proc τ)) .hbm (.dma sm)
      (.here (((whole cc0_scratch3 : Memref sig .tc .vmem S2x48x2048 .i8).slice (Rect.unit (s := S2x48x2048) oD S1x48x2048.size inbD) (fun _ => rfl)).squeeze S48x2048 squeezes_S1x48x2048_S48x2048)))
    (k : PUnit → Prog (TpuEff nD τ sig (Elt F) Λ₀ .tc) α) (Q : α → sProp 𝕄) :
    iprop(batch c (.dma (semOf 3 s)) dnsN (dnsDel c s.val e X) 0 0 ∗ (∃ g, pt c cc0_scratch3 (dnsSlot s.val) g) ∗ pt c main_v8 (dnsSrc e.val) X
        ∗ (batch c (.dma (semOf 3 s)) dnsN (dnsDel c s.val e X) 1 0 -∗ wp frame (wpE (defs₀ (F := F)) Variants.none (c : Thread nD τ) none) Set.univ (k ⟨⟩) Q))
      ⊢ wp frame (wpE (defs₀ (F := F)) Variants.none (c : Thread nD τ) none) Set.univ
        (.op (.enqueueDma (((whole main_v8 : Memref sig .tc .hbm S32x48x2048 .i8).slice (Rect.unit (s := S32x48x2048) oS S1x48x2048.size inbS) (fun _ => rfl)).squeeze S48x2048 squeezes_S1x48x2048_S48x2048)
          (.here (((whole cc0_scratch3 : Memref sig .tc .vmem S2x48x2048 .i8).slice (Rect.unit (s := S2x48x2048) oD S1x48x2048.size inbD) (fun _ => rfl)).squeeze S48x2048 squeezes_S1x48x2048_S48x2048))
          (.dma sm) h1 h2 h3) k) Q := by
  subst hsm
  iintro ⟨HB, ⟨%g, Hd⟩, Hs, Hk⟩
  iapply (start_one c _ _ _ h1 h2 h3 dnsN ((amt _ _).trans rfl) (dnsDel c s.val e X) X g (by
    rw [dnsSrc_set e.val _ inbS hS, dnsDst_set s.val _ inbD hD]
    exact sep_mono_left (Entails.of_eq (pointsTo_congr fun y hy => dns_land X e s.val _ inbD _ inbS hD hS g y hy))) k Q)
  rw [dnsSrc_set e.val _ inbS hS, dnsDst_set s.val _ inbD hD]
  isplitl [HB]; · iexact HB
  isplitl [Hs]; · iexact Hs
  isplitl [Hd]; · iexact Hd
  iexact Hk

/-- The transfer of expert `e`'s scales into slot `s`, awaited. -/
theorem dns_wait {α : Type} (s : Fin 2) (e : Fin 32) (X : S32x48x2048.Idx → Elt F .i8) (sm : DmaSem sig) (hsm : sm = semOf 3 s)
    (oD : Fin 3 → ℕ) (inbD : ∀ a, oD a + S1x48x2048.size a ≤ S2x48x2048.size a)
    (oS : Fin 3 → ℕ) (inbS : ∀ a, oS a + S1x48x2048.size a ≤ S32x48x2048.size a)
    (h1 : (((whole main_v8 : Memref sig .tc .hbm S32x48x2048 .i8).slice (Rect.unit (s := S32x48x2048) oS S1x48x2048.size inbS) (fun _ => rfl)).squeeze S48x2048 squeezes_S1x48x2048_S48x2048).view.WordExact)
    (h2 : (((whole cc0_scratch3 : Memref sig .tc .vmem S2x48x2048 .i8).slice (Rect.unit (s := S2x48x2048) oD S1x48x2048.size inbD) (fun _ => rfl)).squeeze S48x2048 squeezes_S1x48x2048_S48x2048).view.WordExact)
    (W : Waits sig Unit) (k : PUnit → Prog (TpuEff nD τ sig (Elt F) Λ₀ .tc) α) (Q : α → sProp 𝕄) :
    iprop(batch c (.dma (semOf 3 s)) dnsN (dnsDel c s.val e X) 1 0 ∗ owes (c : Thread nD τ) 0 W
        ∗ (iprop(cell c (.dma (semOf 3 s)) ∗ dnsDel c s.val e X 0 ∗ ∃ W, owes (c : Thread nD τ) 0 W)
          -∗ wp frame (wpE (defs₀ (F := F)) Variants.none (c : Thread nD τ) none) Set.univ (k ⟨⟩) Q))
      ⊢ wp frame (wpE (defs₀ (F := F)) Variants.none (c : Thread nD τ) none) Set.univ
        (.op (.waitDma2 sm (((whole main_v8 : Memref sig .tc .hbm S32x48x2048 .i8).slice (Rect.unit (s := S32x48x2048) oS S1x48x2048.size inbS) (fun _ => rfl)).squeeze S48x2048 squeezes_S1x48x2048_S48x2048)
          (((whole cc0_scratch3 : Memref sig .tc .vmem S2x48x2048 .i8).slice (Rect.unit (s := S2x48x2048) oD S1x48x2048.size inbD) (fun _ => rfl)).squeeze S48x2048 squeezes_S1x48x2048_S48x2048) h1 h2) k) Q := by
  subst hsm
  exact wait_one c _ _ _ h1 h2 dnsN rfl dnsN_pos (dnsDel c s.val e X) W k Q

theorem gu_slots_disj : Disjoint (guSlot 0) (guSlot 1) := by
  rw [Finset.disjoint_left]
  intro y hy hy'
  have h := (Finset.mem_filter.mp hy).2
  have h' := (Finset.mem_filter.mp hy').2
  omega
theorem gu_slots_union : (Finset.univ : Finset S2x24x64x16x128.Idx) = guSlot 0 ∪ guSlot 1 := by
  ext y
  have h0 : (y 0).val < 2 := (y 0).isLt
  simp only [Finset.mem_univ, Finset.mem_union, guSlot, Finset.mem_filter, true_and, true_iff]
  omega
theorem gu_two (g : S2x24x64x16x128.Idx → Elt F .i8) :
    (pt c cc0_scratch0 Finset.univ g : sProp 𝕄) = iprop(pt c cc0_scratch0 (guSlot 0) g ∗ pt c cc0_scratch0 (guSlot 1) g) :=
  (congrArg (fun I => pt c cc0_scratch0 I g) gu_slots_union).trans (Idealize.SL.BI.Entails.antisymm (pointsTo_union gu_slots_disj).1 (pointsTo_union gu_slots_disj).2)
theorem gu_join (g k : S2x24x64x16x128.Idx → Elt F .i8) :
    iprop(pt c cc0_scratch0 (guSlot 0) g ∗ pt c cc0_scratch0 (guSlot 1) k) ⊢ (iprop(∃ g, pt c cc0_scratch0 Finset.univ g) : sProp 𝕄) := by
  refine (pointsTo_join gu_slots_disj).trans ?_
  rw [← gu_slots_union]
  iintro H
  iexists _; iexact H

theorem gus_slots_disj : Disjoint (gusSlot 0) (gusSlot 1) := by
  rw [Finset.disjoint_left]
  intro y hy hy'
  have h := (Finset.mem_filter.mp hy).2
  have h' := (Finset.mem_filter.mp hy').2
  omega
theorem gus_slots_union : (Finset.univ : Finset S2x64x3072.Idx) = gusSlot 0 ∪ gusSlot 1 := by
  ext y
  have h0 : (y 0).val < 2 := (y 0).isLt
  simp only [Finset.mem_univ, Finset.mem_union, gusSlot, Finset.mem_filter, true_and, true_iff]
  omega
theorem gus_two (g : S2x64x3072.Idx → Elt F .i8) :
    (pt c cc0_scratch1 Finset.univ g : sProp 𝕄) = iprop(pt c cc0_scratch1 (gusSlot 0) g ∗ pt c cc0_scratch1 (gusSlot 1) g) :=
  (congrArg (fun I => pt c cc0_scratch1 I g) gus_slots_union).trans (Idealize.SL.BI.Entails.antisymm (pointsTo_union gus_slots_disj).1 (pointsTo_union gus_slots_disj).2)
theorem gus_join (g k : S2x64x3072.Idx → Elt F .i8) :
    iprop(pt c cc0_scratch1 (gusSlot 0) g ∗ pt c cc0_scratch1 (gusSlot 1) k) ⊢ (iprop(∃ g, pt c cc0_scratch1 Finset.univ g) : sProp 𝕄) := by
  refine (pointsTo_join gus_slots_disj).trans ?_
  rw [← gus_slots_union]
  iintro H
  iexists _; iexact H

theorem dn_slots_disj : Disjoint (dnSlot 0) (dnSlot 1) := by
  rw [Finset.disjoint_left]
  intro y hy hy'
  have h := (Finset.mem_filter.mp hy).2
  have h' := (Finset.mem_filter.mp hy').2
  omega
theorem dn_slots_union : (Finset.univ : Finset S2x16x48x16x128.Idx) = dnSlot 0 ∪ dnSlot 1 := by
  ext y
  have h0 : (y 0).val < 2 := (y 0).isLt
  simp only [Finset.mem_univ, Finset.mem_union, dnSlot, Finset.mem_filter, true_and, true_iff]
  omega
theorem dn_two (g : S2x16x48x16x128.Idx → Elt F .i8) :
    (pt c cc0_scratch2 Finset.univ g : sProp 𝕄) = iprop(pt c cc0_scratch2 (dnSlot 0) g ∗ pt c cc0_scratch2 (dnSlot 1) g) :=
  (congrArg (fun I => pt c cc0_scratch2 I g) dn_slots_union).trans (Idealize.SL.BI.Entails.antisymm (pointsTo_union dn_slots_disj).1 (pointsTo_union dn_slots_disj).2)
theorem dn_join (g k : S2x16x48x16x128.Idx → Elt F .i8) :
    iprop(pt c cc0_scratch2 (dnSlot 0) g ∗ pt c cc0_scratch2 (dnSlot 1) k) ⊢ (iprop(∃ g, pt c cc0_scratch2 Finset.univ g) : sProp 𝕄) := by
  refine (pointsTo_join dn_slots_disj).trans ?_
  rw [← dn_slots_union]
  iintro H
  iexists _; iexact H

theorem dns_slots_disj : Disjoint (dnsSlot 0) (dnsSlot 1) := by
  rw [Finset.disjoint_left]
  intro y hy hy'
  have h := (Finset.mem_filter.mp hy).2
  have h' := (Finset.mem_filter.mp hy').2
  omega
theorem dns_slots_union : (Finset.univ : Finset S2x48x2048.Idx) = dnsSlot 0 ∪ dnsSlot 1 := by
  ext y
  have h0 : (y 0).val < 2 := (y 0).isLt
  simp only [Finset.mem_univ, Finset.mem_union, dnsSlot, Finset.mem_filter, true_and, true_iff]
  omega
theorem dns_two (g : S2x48x2048.Idx → Elt F .i8) :
    (pt c cc0_scratch3 Finset.univ g : sProp 𝕄) = iprop(pt c cc0_scratch3 (dnsSlot 0) g ∗ pt c cc0_scratch3 (dnsSlot 1) g) :=
  (congrArg (fun I => pt c cc0_scratch3 I g) dns_slots_union).trans (Idealize.SL.BI.Entails.antisymm (pointsTo_union dns_slots_disj).1 (pointsTo_union dns_slots_disj).2)
theorem dns_join (g k : S2x48x2048.Idx → Elt F .i8) :
    iprop(pt c cc0_scratch3 (dnsSlot 0) g ∗ pt c cc0_scratch3 (dnsSlot 1) k) ⊢ (iprop(∃ g, pt c cc0_scratch3 Finset.univ g) : sProp 𝕄) := by
  refine (pointsTo_join dns_slots_disj).trans ?_
  rw [← dns_slots_union]
  iintro H
  iexists _; iexact H

/-! ### One expert in flight -/

/-- The four weight arrays. -/
structure Wts (F : FTy → Type) where
  gu : S32x64x16x3072.Idx → Elt F .i8
  gus : S32x64x3072.Idx → Elt F .i8
  dn : S32x48x16x2048.Idx → Elt F .i8
  dns : S32x48x2048.Idx → Elt F .i8

/-- The four arrays, whole. -/
def arrays (X : Wts F) : sProp 𝕄 :=
  iprop(pt c main_v5 Finset.univ X.gu ∗ pt c main_v6 Finset.univ X.gus ∗ pt c main_v7 Finset.univ X.dn ∗ pt c main_v8 Finset.univ X.dns)
/-- Slot `s` of the four buffers, at some contents. -/
def slotHeld (s : ℕ) : sProp 𝕄 :=
  iprop((∃ g, pt c cc0_scratch0 (guSlot s) g) ∗ (∃ g, pt c cc0_scratch1 (gusSlot s) g) ∗ (∃ g, pt c cc0_scratch2 (dnSlot s) g) ∗ (∃ g, pt c cc0_scratch3 (dnsSlot s) g))
/-- Slot `s` of the four buffers, holding expert `e`. -/
def slotFull (s : ℕ) (e : Fin 32) (X : Wts F) : sProp 𝕄 :=
  iprop(pt c cc0_scratch0 (guSlot s) (guLand X.gu e) ∗ pt c cc0_scratch1 (gusSlot s) (gusLand X.gus e)
    ∗ pt c cc0_scratch2 (dnSlot s) (dnLand X.dn e) ∗ pt c cc0_scratch3 (dnsSlot s) (dnsLand X.dns e))
/-- The slot's four cells at zero. -/
def cells (s : Fin 2) : sProp 𝕄 :=
  iprop(cell c (.dma (semOf 0 s)) ∗ cell c (.dma (semOf 1 s)) ∗ cell c (.dma (semOf 2 s)) ∗ cell c (.dma (semOf 3 s)))
/-- Expert `e` on its way into slot `s`: all transfers started, none awaited. -/
def inflight (s : Fin 2) (e : Fin 32) (X : Wts F) : sProp 𝕄 :=
  iprop((batch c (.dma (semOf 0 s)) guN (guDel c s.val e X.gu) 24 0 ∗ pt c main_v5 (guRest e.val) X.gu)
    ∗ (batch c (.dma (semOf 1 s)) gusN (gusDel c s.val e X.gus) 1 0 ∗ pt c main_v6 (gusRest e.val) X.gus)
    ∗ (batch c (.dma (semOf 2 s)) dnN (dnDel c s.val e X.dn) 16 0 ∗ pt c main_v7 (dnRest e.val) X.dn)
    ∗ (batch c (.dma (semOf 3 s)) dnsN (dnsDel c s.val e X.dns) 1 0 ∗ pt c main_v8 (dnsRest e.val) X.dns))
/-- Ready to start expert `e` into slot `s`. -/
def ready (s : Fin 2) (e : Fin 32) (X : Wts F) : sProp 𝕄 :=
  iprop((batch c (.dma (semOf 0 s)) guN (guDel c s.val e X.gu) 0 0 ∗ bigSep Finset.univ (guPre c s.val e X.gu) ∗ pt c main_v5 (guRest e.val) X.gu)
    ∗ (batch c (.dma (semOf 1 s)) gusN (gusDel c s.val e X.gus) 0 0 ∗ (∃ g, pt c cc0_scratch1 (gusSlot s.val) g) ∗ pt c main_v6 (gusSrc e.val) X.gus ∗ pt c main_v6 (gusRest e.val) X.gus)
    ∗ (batch c (.dma (semOf 2 s)) dnN (dnDel c s.val e X.dn) 0 0 ∗ bigSep Finset.univ (dnPre c s.val e X.dn) ∗ pt c main_v7 (dnRest e.val) X.dn)
    ∗ (batch c (.dma (semOf 3 s)) dnsN (dnsDel c s.val e X.dns) 0 0 ∗ (∃ g, pt c cc0_scratch3 (dnsSlot s.val) g) ∗ pt c main_v8 (dnsSrc e.val) X.dns ∗ pt c main_v8 (dnsRest e.val) X.dns))

/-- A free slot, its cells and the arrays are ready to start any expert. -/
theorem ready_of (s : Fin 2) (e : Fin 32) (X : Wts F) :
    iprop(slotHeld c s.val ∗ cells c s ∗ arrays c X) ⊢ |={Set.univ}=> (ready c s e X : sProp 𝕄) := by
  unfold slotHeld cells arrays ready
  iintro ⟨⟨G0, G1, G2, G3⟩, ⟨C0, C1, C2, C3⟩, A0, A1, A2, A3⟩
  imod (Transfers.batch_alloc' (Lvl := ℕ) (countersEmb (U := Pipeline.UD sig nD τ)) (c : Thread nD τ) () guN (guDel c s.val e X.gu) (sm := .dma (semOf 0 s)) (E := Set.univ)) $$ C0 with B0
  imod (Transfers.batch_alloc' (Lvl := ℕ) (countersEmb (U := Pipeline.UD sig nD τ)) (c : Thread nD τ) () gusN (gusDel c s.val e X.gus) (sm := .dma (semOf 1 s)) (E := Set.univ)) $$ C1 with B1
  imod (Transfers.batch_alloc' (Lvl := ℕ) (countersEmb (U := Pipeline.UD sig nD τ)) (c : Thread nD τ) () dnN (dnDel c s.val e X.dn) (sm := .dma (semOf 2 s)) (E := Set.univ)) $$ C2 with B2
  imod (Transfers.batch_alloc' (Lvl := ℕ) (countersEmb (U := Pipeline.UD sig nD τ)) (c : Thread nD τ) () dnsN (dnsDel c s.val e X.dns) (sm := .dma (semOf 3 s)) (E := Set.univ)) $$ C3 with B3
  imodintro
  ihave R0 := (gu_ready c s.val e X.gu) $$ [G0 A0]
  · isplitl [G0]; · iexact G0
    iexact A0
  ihave R2 := (dn_ready c s.val e X.dn) $$ [G2 A2]
  · isplitl [G2]; · iexact G2
    iexact A2
  ihave A1 := (Entails.of_eq (gus_whole c e.val X.gus)) $$ A1
  ihave A3 := (Entails.of_eq (dns_whole c e.val X.dns)) $$ A3
  icases A1 with ⟨A1, A1'⟩
  icases A3 with ⟨A3, A3'⟩
  isplitl [B0 R0]
  · isplitl [B0]; · iexact B0
    iexact R0
  isplitl [B1 G1 A1 A1']
  · isplitl [B1]; · iexact B1
    isplitl [G1]; · iexact G1
    isplitl [A1]; · iexact A1
    iexact A1'
  isplitl [B2 R2]
  · isplitl [B2]; · iexact B2
    iexact R2
  isplitl [B3]; · iexact B3
  isplitl [G3]; · iexact G3
  isplitl [A3]; · iexact A3
  iexact A3'

/-- The buffers cut in their two slots. -/
theorem slots_split :
    iprop((∃ g, pt c cc0_scratch0 Finset.univ g) ∗ (∃ g, pt c cc0_scratch1 Finset.univ g) ∗ (∃ g, pt c cc0_scratch2 Finset.univ g) ∗ (∃ g, pt c cc0_scratch3 Finset.univ g))
      ⊢ (iprop(slotHeld c 0 ∗ slotHeld c 1) : sProp 𝕄) := by
  unfold slotHeld
  iintro ⟨⟨%g0, H0⟩, ⟨%g1, H1⟩, ⟨%g2, H2⟩, ⟨%g3, H3⟩⟩
  ihave H0 := (Entails.of_eq (gu_two c g0)) $$ H0
  ihave H1 := (Entails.of_eq (gus_two c g1)) $$ H1
  ihave H2 := (Entails.of_eq (dn_two c g2)) $$ H2
  ihave H3 := (Entails.of_eq (dns_two c g3)) $$ H3
  icases H0 with ⟨H0, H0'⟩
  icases H1 with ⟨H1, H1'⟩
  icases H2 with ⟨H2, H2'⟩
  icases H3 with ⟨H3, H3'⟩
  isplitl [H0 H1 H2 H3]
  · isplitl [H0]; · iexists g0; iexact H0
    isplitl [H1]; · iexists g1; iexact H1
    isplitl [H2]; · iexists g2; iexact H2
    iexists g3; iexact H3
  isplitl [H0']; · iexists g0; iexact H0'
  isplitl [H1']; · iexists g1; iexact H1'
  isplitl [H2']; · iexists g2; iexact H2'
  iexists g3; iexact H3'

/-- And put together again. -/
theorem slots_join :
    iprop(slotHeld c 0 ∗ slotHeld c 1) ⊢ (iprop((∃ g, pt c cc0_scratch0 Finset.univ g) ∗ (∃ g, pt c cc0_scratch1 Finset.univ g) ∗ (∃ g, pt c cc0_scratch2 Finset.univ g)
      ∗ (∃ g, pt c cc0_scratch3 Finset.univ g)) : sProp 𝕄) := by
  unfold slotHeld
  iintro ⟨⟨⟨%g0, H0⟩, ⟨%g1, H1⟩, ⟨%g2, H2⟩, ⟨%g3, H3⟩⟩, ⟨⟨%k0, K0⟩, ⟨%k1, K1⟩, ⟨%k2, K2⟩, ⟨%k3, K3⟩⟩⟩
  isplitl [H0 K0]; · iapply (gu_join c g0 k0); isplitl [H0]; · iexact H0
                     iexact K0
  isplitl [H1 K1]; · iapply (gus_join c g1 k1); isplitl [H1]; · iexact H1
                     iexact K1
  isplitl [H2 K2]; · iapply (dn_join c g2 k2); isplitl [H2]; · iexact H2
                     iexact K2
  iapply (dns_join c g3 k3); isplitl [H3]; · iexact H3
  iexact K3

theorem slotFull_held (s : ℕ) (e : Fin 32) (X : Wts F) : slotFull c s e X ⊢ (slotHeld c s : sProp 𝕄) := by
  unfold slotFull slotHeld
  iintro ⟨H0, H1, H2, H3⟩
  isplitl [H0]; · iexists _; iexact H0
  isplitl [H1]; · iexists _; iexact H1
  isplitl [H2]; · iexists _; iexact H2
  iexists _; iexact H3

end Cert.KernelIdeal.Hand

end
-- ==== Proof.StartI.lean ====
/-
  Starting and awaiting one expert: its four batches in the order the kernel issues them.
-/
module

public import proofs.«01_k».proof.Proof.StateI
public import Idealize.ShloMosaic.Lib.ValueIdxCore

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- One piece of a program, then the rest. -/
theorem wp_seq {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h : P ⊢ wp frame (wpE (defs₀ (F := F)) Variants.none (c : Thread nD τ) none) Set.univ p R) :
    iprop(P ∗ (∀ a, R a -∗ wp frame (wpE (defs₀ (F := F)) Variants.none (c : Thread nD τ) none) Set.univ (k a) Q))
      ⊢ wp frame (wpE (defs₀ (F := F)) Variants.none (c : Thread nD τ) none) Set.univ (p >>= k) Q := by
  rw [wp_bind]
  iintro ⟨HP, HK⟩
  ihave HP := h $$ HP
  iapply (wp_wand_r _ _ _) $$ [HP HK]
  isplitl [HP]; · iexact HP
  iexact HK

/-- Expert `e` started into slot `s`: the four batches, in order. -/
theorem start_all {α : Type} (s : Fin 2) (e : Fin 32) (X : Wts F)
    (L0 : Scf.Loop 32) (hL0 : L0.OK) (hT0 : L0.trips = 24) (sm0 : DmaSem sig) (hsm0 : sm0 = semOf 0 s)
    (oD0 : Fin L0.trips → Fin 5 → ℕ) (inbD0 : ∀ k a, oD0 k a + S1x1x64x16x128.size a ≤ S2x24x64x16x128.size a)
    (oS0 : Fin L0.trips → Fin 4 → ℕ) (inbS0 : ∀ k a, oS0 k a + S1x64x16x128.size a ≤ S32x64x16x3072.size a)
    (hD0 : ∀ k, oD0 k = ![s.val, k.val, 0, 0, 0]) (hS0 : ∀ k, oS0 k = ![e.val, 0, 0, 128 * k.val])
    (hs0 : ∀ k, (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128).view.WordExact)
    (hd0 : ∀ k, (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128).view.WordExact)
    (sm1 : DmaSem sig) (hsm1 : sm1 = semOf 1 s)
    (oD1 : Fin 3 → ℕ) (inbD1 : ∀ a, oD1 a + S1x64x3072.size a ≤ S2x64x3072.size a)
    (oS1 : Fin 3 → ℕ) (inbS1 : ∀ a, oS1 a + S1x64x3072.size a ≤ S32x64x3072.size a)
    (hD1 : oD1 = ![s.val, 0, 0]) (hS1 : oS1 = ![e.val, 0, 0])
    (hs1 : (((whole main_v6 : Memref sig .tc .hbm S32x64x3072 .i8).slice (Rect.unit (s := S32x64x3072) oS1 S1x64x3072.size inbS1) (fun _ => rfl)).squeeze S64x3072 squeezes_S1x64x3072_S64x3072).view.WordExact)
    (hd1 : (((whole cc0_scratch1 : Memref sig .tc .vmem S2x64x3072 .i8).slice (Rect.unit (s := S2x64x3072) oD1 S1x64x3072.size inbD1) (fun _ => rfl)).squeeze S64x3072 squeezes_S1x64x3072_S64x3072).view.WordExact)
    (L2 : Scf.Loop 32) (hL2 : L2.OK) (hT2 : L2.trips = 16) (sm2 : DmaSem sig) (hsm2 : sm2 = semOf 2 s)
    (oD2 : Fin L2.trips → Fin 5 → ℕ) (inbD2 : ∀ k a, oD2 k a + S1x1x48x16x128.size a ≤ S2x16x48x16x128.size a)
    (oS2 : Fin L2.trips → Fin 4 → ℕ) (inbS2 : ∀ k a, oS2 k a + S1x48x16x128.size a ≤ S32x48x16x2048.size a)
    (hD2 : ∀ k, oD2 k = ![s.val, k.val, 0, 0, 0]) (hS2 : ∀ k, oS2 k = ![e.val, 0, 0, 128 * k.val])
    (hs2 : ∀ k, (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128).view.WordExact)
    (hd2 : ∀ k, (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128).view.WordExact)
    (sm3 : DmaSem sig) (hsm3 : sm3 = semOf 3 s)
    (oD3 : Fin 3 → ℕ) (inbD3 : ∀ a, oD3 a + S1x48x2048.size a ≤ S2x48x2048.size a)
    (oS3 : Fin 3 → ℕ) (inbS3 : ∀ a, oS3 a + S1x48x2048.size a ≤ S32x48x2048.size a)
    (hD3 : oD3 = ![s.val, 0, 0]) (hS3 : oS3 = ![e.val, 0, 0])
    (hs3 : (((whole main_v8 : Memref sig .tc .hbm S32x48x2048 .i8).slice (Rect.unit (s := S32x48x2048) oS3 S1x48x2048.size inbS3) (fun _ => rfl)).squeeze S48x2048 squeezes_S1x48x2048_S48x2048).view.WordExact)
    (hd3 : (((whole cc0_scratch3 : Memref sig .tc .vmem S2x48x2048 .i8).slice (Rect.unit (s := S2x48x2048) oD3 S1x48x2048.size inbD3) (fun _ => rfl)).squeeze S48x2048 squeezes_S1x48x2048_S48x2048).view.WordExact)
    (kk : Prog (TpuEff nD τ sig (Elt F) Λ₀ .tc) α) (Q : α → sProp 𝕄) :
    iprop(ready c s e X ∗ (inflight c s e X -∗ wp frame (wpE (defs₀ (F := F)) Variants.none (c : Thread nD τ) none) Set.univ kk Q))
      ⊢ wp frame (wpE (defs₀ (F := F)) Variants.none (c : Thread nD τ) none) Set.univ (do
          Scf.Loop.for L0 hL0 (⟨⟩ : Unit) (fun k _ => do
            Prog.lift (.enqueueDma (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128) (.here (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128)) (.dma sm0) (hs0 k) (hd0 k) ⟨Or.inl rfl, trivial⟩)
            pure ⟨⟩)
          Prog.lift (.enqueueDma (((whole main_v6 : Memref sig .tc .hbm S32x64x3072 .i8).slice (Rect.unit (s := S32x64x3072) oS1 S1x64x3072.size inbS1) (fun _ => rfl)).squeeze S64x3072 squeezes_S1x64x3072_S64x3072) (.here (((whole cc0_scratch1 : Memref sig .tc .vmem S2x64x3072 .i8).slice (Rect.unit (s := S2x64x3072) oD1 S1x64x3072.size inbD1) (fun _ => rfl)).squeeze S64x3072 squeezes_S1x64x3072_S64x3072)) (.dma sm1) (hs1) (hd1) ⟨Or.inl rfl, trivial⟩)
          Scf.Loop.for L2 hL2 (⟨⟩ : Unit) (fun k _ => do
            Prog.lift (.enqueueDma (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128) (.here (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128)) (.dma sm2) (hs2 k) (hd2 k) ⟨Or.inl rfl, trivial⟩)
            pure ⟨⟩)
          Prog.lift (.enqueueDma (((whole main_v8 : Memref sig .tc .hbm S32x48x2048 .i8).slice (Rect.unit (s := S32x48x2048) oS3 S1x48x2048.size inbS3) (fun _ => rfl)).squeeze S48x2048 squeezes_S1x48x2048_S48x2048) (.here (((whole cc0_scratch3 : Memref sig .tc .vmem S2x48x2048 .i8).slice (Rect.unit (s := S2x48x2048) oD3 S1x48x2048.size inbD3) (fun _ => rfl)).squeeze S48x2048 squeezes_S1x48x2048_S48x2048)) (.dma sm3) (hs3) (hd3) ⟨Or.inl rfl, trivial⟩)
          kk) Q := by
  unfold ready inflight
  iintro ⟨⟨⟨B0, P0, R0⟩, ⟨B1, D1, S1, R1⟩, ⟨B2, P2, R2⟩, ⟨B3, D3, S3, R3⟩⟩, HK⟩
  iapply (wp_seq c (gu_start c L0 hL0 hT0 s e X.gu sm0 hsm0 oD0 inbD0 oS0 inbS0 hD0 hS0 hs0 hd0))
  isplitl [B0 P0]
  · isplitl [B0]; · iexact B0
    iexact P0
  iintro %_ B0
  iapply (gus_start c s e X.gus sm1 hsm1 oD1 inbD1 oS1 inbS1 hD1 hS1 hs1 hd1 ⟨Or.inl rfl, trivial⟩ _ Q)
  isplitl [B1]; · iexact B1
  isplitl [D1]; · iexact D1
  isplitl [S1]; · iexact S1
  iintro B1
  iapply (wp_seq c (dn_start c L2 hL2 hT2 s e X.dn sm2 hsm2 oD2 inbD2 oS2 inbS2 hD2 hS2 hs2 hd2))
  isplitl [B2 P2]
  · isplitl [B2]; · iexact B2
    iexact P2
  iintro %_ B2
  iapply (dns_start c s e X.dns sm3 hsm3 oD3 inbD3 oS3 inbS3 hD3 hS3 hs3 hd3 ⟨Or.inl rfl, trivial⟩ _ Q)
  isplitl [B3]; · iexact B3
  isplitl [D3]; · iexact D3
  isplitl [S3]; · iexact S3
  iintro B3
  iapply HK
  isplitl [B0 R0]; · isplitl [B0]; · iexact B0
                     iexact R0
  isplitl [B1 R1]; · isplitl [B1]; · iexact B1
                     iexact R1
  isplitl [B2 R2]; · isplitl [B2]; · iexact B2
                     iexact R2
  isplitl [B3]; · iexact B3
  iexact R3

/-- Expert `e` awaited in slot `s`: the four batches, in order. -/
theorem wait_all {α : Type} (s : Fin 2) (e : Fin 32) (X : Wts F)
    (L0 : Scf.Loop 32) (hL0 : L0.OK) (hT0 : L0.trips = 24) (sm0 : DmaSem sig) (hsm0 : sm0 = semOf 0 s)
    (oD0 : Fin L0.trips → Fin 5 → ℕ) (inbD0 : ∀ k a, oD0 k a + S1x1x64x16x128.size a ≤ S2x24x64x16x128.size a)
    (oS0 : Fin L0.trips → Fin 4 → ℕ) (inbS0 : ∀ k a, oS0 k a + S1x64x16x128.size a ≤ S32x64x16x3072.size a)
    (hs0 : ∀ k, (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128).view.WordExact)
    (hd0 : ∀ k, (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128).view.WordExact)
    (sm1 : DmaSem sig) (hsm1 : sm1 = semOf 1 s)
    (oD1 : Fin 3 → ℕ) (inbD1 : ∀ a, oD1 a + S1x64x3072.size a ≤ S2x64x3072.size a)
    (oS1 : Fin 3 → ℕ) (inbS1 : ∀ a, oS1 a + S1x64x3072.size a ≤ S32x64x3072.size a)
    (hs1 : (((whole main_v6 : Memref sig .tc .hbm S32x64x3072 .i8).slice (Rect.unit (s := S32x64x3072) oS1 S1x64x3072.size inbS1) (fun _ => rfl)).squeeze S64x3072 squeezes_S1x64x3072_S64x3072).view.WordExact)
    (hd1 : (((whole cc0_scratch1 : Memref sig .tc .vmem S2x64x3072 .i8).slice (Rect.unit (s := S2x64x3072) oD1 S1x64x3072.size inbD1) (fun _ => rfl)).squeeze S64x3072 squeezes_S1x64x3072_S64x3072).view.WordExact)
    (L2 : Scf.Loop 32) (hL2 : L2.OK) (hT2 : L2.trips = 16) (sm2 : DmaSem sig) (hsm2 : sm2 = semOf 2 s)
    (oD2 : Fin L2.trips → Fin 5 → ℕ) (inbD2 : ∀ k a, oD2 k a + S1x1x48x16x128.size a ≤ S2x16x48x16x128.size a)
    (oS2 : Fin L2.trips → Fin 4 → ℕ) (inbS2 : ∀ k a, oS2 k a + S1x48x16x128.size a ≤ S32x48x16x2048.size a)
    (hs2 : ∀ k, (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128).view.WordExact)
    (hd2 : ∀ k, (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128).view.WordExact)
    (sm3 : DmaSem sig) (hsm3 : sm3 = semOf 3 s)
    (oD3 : Fin 3 → ℕ) (inbD3 : ∀ a, oD3 a + S1x48x2048.size a ≤ S2x48x2048.size a)
    (oS3 : Fin 3 → ℕ) (inbS3 : ∀ a, oS3 a + S1x48x2048.size a ≤ S32x48x2048.size a)
    (hs3 : (((whole main_v8 : Memref sig .tc .hbm S32x48x2048 .i8).slice (Rect.unit (s := S32x48x2048) oS3 S1x48x2048.size inbS3) (fun _ => rfl)).squeeze S48x2048 squeezes_S1x48x2048_S48x2048).view.WordExact)
    (hd3 : (((whole cc0_scratch3 : Memref sig .tc .vmem S2x48x2048 .i8).slice (Rect.unit (s := S2x48x2048) oD3 S1x48x2048.size inbD3) (fun _ => rfl)).squeeze S48x2048 squeezes_S1x48x2048_S48x2048).view.WordExact)
    (W0 : Waits sig Unit) (kk : Prog (TpuEff nD τ sig (Elt F) Λ₀ .tc) α) (Q : α → sProp 𝕄) :
    iprop(inflight c s e X ∗ owes (c : Thread nD τ) 0 W0
        ∗ (iprop(slotFull c s.val e X ∗ cells c s ∗ arrays c X ∗ ∃ W, owes (c : Thread nD τ) 0 W) -∗ wp frame (wpE (defs₀ (F := F)) Variants.none (c : Thread nD τ) none) Set.univ kk Q))
      ⊢ wp frame (wpE (defs₀ (F := F)) Variants.none (c : Thread nD τ) none) Set.univ (do
          Scf.Loop.for L0 hL0 (⟨⟩ : Unit) (fun k _ => do
            Prog.lift (.waitDma2 sm0 (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128) (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128) (hs0 k) (hd0 k))
            pure ⟨⟩)
          Prog.lift (.waitDma2 sm1 (((whole main_v6 : Memref sig .tc .hbm S32x64x3072 .i8).slice (Rect.unit (s := S32x64x3072) oS1 S1x64x3072.size inbS1) (fun _ => rfl)).squeeze S64x3072 squeezes_S1x64x3072_S64x3072) (((whole cc0_scratch1 : Memref sig .tc .vmem S2x64x3072 .i8).slice (Rect.unit (s := S2x64x3072) oD1 S1x64x3072.size inbD1) (fun _ => rfl)).squeeze S64x3072 squeezes_S1x64x3072_S64x3072) (hs1) (hd1))
          Scf.Loop.for L2 hL2 (⟨⟩ : Unit) (fun k _ => do
            Prog.lift (.waitDma2 sm2 (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128) (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128) (hs2 k) (hd2 k))
            pure ⟨⟩)
          Prog.lift (.waitDma2 sm3 (((whole main_v8 : Memref sig .tc .hbm S32x48x2048 .i8).slice (Rect.unit (s := S32x48x2048) oS3 S1x48x2048.size inbS3) (fun _ => rfl)).squeeze S48x2048 squeezes_S1x48x2048_S48x2048) (((whole cc0_scratch3 : Memref sig .tc .vmem S2x48x2048 .i8).slice (Rect.unit (s := S2x48x2048) oD3 S1x48x2048.size inbD3) (fun _ => rfl)).squeeze S48x2048 squeezes_S1x48x2048_S48x2048) (hs3) (hd3))
          kk) Q := by
  unfold inflight slotFull cells arrays
  iintro ⟨⟨⟨B0, R0⟩, ⟨B1, R1⟩, ⟨B2, R2⟩, ⟨B3, R3⟩⟩, HO, HK⟩
  iapply (wp_seq c (gu_wait c L0 hL0 hT0 s e X.gu sm0 hsm0 oD0 inbD0 oS0 inbS0 hs0 hd0 W0))
  isplitl [B0 HO]
  · isplitl [B0]; · iexact B0
    iexact HO
  iintro %_ ⟨C0, D0, ⟨%W1, HO⟩⟩
  iapply (gus_wait c s e X.gus sm1 hsm1 oD1 inbD1 oS1 inbS1 hs1 hd1 W1 _ Q)
  isplitl [B1]; · iexact B1
  isplitl [HO]; · iexact HO
  iintro ⟨C1, D1, ⟨%W2, HO⟩⟩
  iapply (wp_seq c (dn_wait c L2 hL2 hT2 s e X.dn sm2 hsm2 oD2 inbD2 oS2 inbS2 hs2 hd2 W2))
  isplitl [B2 HO]
  · isplitl [B2]; · iexact B2
    iexact HO
  iintro %_ ⟨C2, D2, ⟨%W3, HO⟩⟩
  iapply (dns_wait c s e X.dns sm3 hsm3 oD3 inbD3 oS3 inbS3 hs3 hd3 W3 _ Q)
  isplitl [B3]; · iexact B3
  isplitl [HO]; · iexact HO
  iintro ⟨C3, D3, HO⟩
  ihave D0 := (gu_done c s.val e X.gu) $$ [D0 R0]
  · isplitl [D0]; · iexact D0
    iexact R0
  ihave D1 := (gus_done c s.val e X.gus 0) $$ [D1 R1]
  · isplitl [D1]; · iexact D1
    iexact R1
  ihave D2 := (dn_done c s.val e X.dn) $$ [D2 R2]
  · isplitl [D2]; · iexact D2
    iexact R2
  ihave D3 := (dns_done c s.val e X.dns 0) $$ [D3 R3]
  · isplitl [D3]; · iexact D3
    iexact R3
  icases D0 with ⟨F0, A0⟩
  icases D1 with ⟨F1, A1⟩
  icases D2 with ⟨F2, A2⟩
  icases D3 with ⟨F3, A3⟩
  iapply HK
  isplitl [F0 F1 F2 F3]
  · isplitl [F0]; · iexact F0
    isplitl [F1]; · iexact F1
    isplitl [F2]; · iexact F2
    iexact F3
  isplitl [C0 C1 C2 C3]
  · isplitl [C0]; · iexact C0
    isplitl [C1]; · iexact C1
    isplitl [C2]; · iexact C2
    iexact C3
  isplitl [A0 A1 A2 A3]
  · isplitl [A0]; · iexact A0
    isplitl [A1]; · iexact A1
    isplitl [A2]; · iexact A2
    iexact A3
  iexact HO

end Cert.KernelIdeal.Hand

end
-- ==== Proof.PrologI.lean ====
/-
  The start of the kernel: the first expert started, the used experts marked, their order listed.
-/
module

public import proofs.«01_k».proof.Proof.StartI
public import proofs.«01_k».proof.Proof.Gen.KernelIdeal.Skeleton
public import Idealize.ShloMosaic.Lib.LoopRemainder

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A memref's buffer held whole. -/
abbrev pw {sp : Space} {S : Shape} {e : EltTy} (M : Memref sig .tc sp S e) (f : Buf (Elt F) (M.view.loc (c : Thread nD τ))) : sProp 𝕄 :=
  M.view.loc (c : Thread nD τ) ↦{fullShare} f

/-! ## Words -/

/-- Bit `e` of `1 << v`. -/
theorem bit_one_shl (v : BitVec 32) (hv : v.toNat < 32) (e : ℕ) (he : e < 32) : (Scalar.shli 1#32 v).getLsbD e = true ↔ v.toNat = e := by
  show (IntOp.shli .scalar 1#32 v).getLsbD e = true ↔ _
  unfold IntOp.shli
  rw [if_pos hv, BitVec.shiftLeft_eq', BitVec.getLsbD_shiftLeft]
  by_cases h : v.toNat = e
  · subst h; simp [he]
  · simp only [h, iff_false, Bool.not_eq_true]
    by_cases h2 : e < v.toNat
    · simp [h2]
    · have : e - v.toNat ≠ 0 := by omega
      simp [this, BitVec.getLsbD_one]

/-- Bit `e` of a word, shifted down and masked. -/
theorem bit_shr (v : BitVec 32) (e : ℕ) (he : e < 32) : Scalar.andi (Scalar.shrsi v (BitVec.ofNat 32 e)) 1#32 = if v.getLsbD e then 1#32 else 0#32 := by
  show IntOp.shrsi .scalar v (BitVec.ofNat 32 e) &&& 1#32 = _
  unfold IntOp.shrsi
  have h : (BitVec.ofNat 32 e).toNat = e := by rw [BitVec.toNat_ofNat]; omega
  rw [if_pos (by rw [h]; exact he)]
  apply BitVec.eq_of_getLsbD_eq
  intro i hi
  rw [BitVec.sshiftRight_eq', h, BitVec.getLsbD_and, BitVec.getLsbD_sshiftRight]
  by_cases hi0 : i = 0
  · subst hi0; by_cases hb : v.getLsbD e <;> (rw [BitVec.getLsbD_eq_getElem he] at *; simp [hb, he])
  · by_cases hb : v.getLsbD e <;> simp [hb, hi0, BitVec.getLsbD_one]

/-- Word `y` of the order after one word is written at `n`. -/
theorem order_write (g : S33.Idx → BitVec 32) (n : ℕ) (off : Fin 1 → ℕ) (inb : ∀ a, off a + S1.size a ≤ S33.size a) (hoff : off = ![n]) (v : BitVec 32) (y : S33.Idx) :
    (whole cc0_scratch7 : Memref sig .tc .smem S33 .i32).view.writes (Elt F) g [⟨Rect.unit (s := S33) off S1.size inb, fun _ => v⟩] y
      = if (y 0).val = n then v else g y := by
  subst hoff
  by_cases hy : (y 0).val = n
  · rw [if_pos hy]
    have hz : y = ((whole cc0_scratch7 : Memref sig .tc .smem S33 .i32).view.slice (Rect.unit (s := S33) ![n] S1.size inb)).emb (ix1 0) := by
      funext a
      apply Fin.ext
      refine Eq.trans ?_ (Rect.emb_apply (Rect.unit (s := S33) ![n] S1.size inb) (ix1 0) a).symm
      fin_cases a
      show (y 0).val = n + 1 * 0
      omega
    refine (congrArg _ hz).trans ((View.write_emb_of_mem _ _ (Finset.mem_univ _)).trans rfl)
  · rw [if_neg hy]
    refine View.write_of_not_mem _ _ _ ?_
    rw [View.setOn, Finset.mem_map]
    rintro ⟨x, -, hx⟩
    apply hy
    have := congrArg (fun z : S33.Idx => (z 0).val) hx
    simp only at this
    rw [← this]
    show n + 1 * (x 0).val = n
    have := (x 0).isLt
    have : (x 0).val < 1 := this
    omega

/-! ## The used experts -/

/-- `w`'s bits are the identifiers among the first `n` places. -/
def Marks (d1 : S8x16.Idx → BitVec 32) (n : ℕ) (w : BitVec 32) : Prop :=
  ∀ e, e < 32 → (w.getLsbD e = true ↔ ∃ y : S8x16.Idx, 16 * (y 0).val + (y 1).val < n ∧ (d1 y).toNat = e)

theorem marks_step (d1 : S8x16.Idx → BitVec 32) (hd : ∀ y, (d1 y).toNat < 32) (n : ℕ) (w : BitVec 32) (h : Marks d1 n w) (y : S8x16.Idx) (hy : 16 * (y 0).val + (y 1).val = n) :
    Marks d1 (n + 1) (Scalar.ori w (Scalar.shli 1#32 (d1 y))) := by
  intro e he
  show (w ||| Scalar.shli 1#32 (d1 y)).getLsbD e = true ↔ _
  rw [BitVec.getLsbD_or, Bool.or_eq_true, h e he, bit_one_shl _ (hd y) e he]
  constructor
  · rintro (⟨z, hz, hz'⟩ | h)
    · exact ⟨z, by omega, hz'⟩
    · exact ⟨y, by omega, h⟩
  · rintro ⟨z, hz, hz'⟩
    by_cases hzn : 16 * (z 0).val + (z 1).val < n
    · exact .inl ⟨z, hzn, hz'⟩
    · right
      have : z = y := by
        have hz1 : (z 1).val < 16 := (z 1).isLt
        have hy1 : (y 1).val < 16 := (y 1).isLt
        funext a; apply Fin.ext
        fin_cases a
        · show (z 0).val = (y 0).val; omega
        · show (z 1).val = (y 1).val; omega
      rw [← this]; exact hz'

theorem t3_trips : k0_t3_loop.trips = 8 := by decide
theorem t4_trips : k0_t4_loop.trips = 16 := by decide
theorem t5_trips : k0_t5_loop.trips = 32 := by decide

/-- One row of identifiers marked. -/
theorem used_row (d1 : S8x16.Idx → BitVec 32) (hd : ∀ y, (d1 y).toNat < 32) (k : Fin k0_t3_loop.trips) (w : BitVec 32) (hw : Marks d1 (16 * k.val) w) :
    pw c (whole cc0_stg1_0) d1 ⊢ wp frame (wpE (defs₀ (F := F)) Variants.none (c : Thread nD τ) none) Set.univ (Scf.Loop.for k0_t4_loop k0_t4_ok w (k0_t4_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 k)) (fun r => iprop(⌜Marks d1 (16 * (k.val + 1)) r⌝ ∗ pw c (whole cc0_stg1_0) d1)) := by
  refine BIBase.Entails.trans ?_ (Scf.wp_for frame _ Set.univ _ _ _ k0_t4_ok _ _ (fun t r => iprop(⌜Marks d1 (16 * k.val + t) r⌝ ∗ pw c (whole cc0_stg1_0) d1)) ?_)
  · iintro H
    isplitl [H]
    · isplitr; · ipureintro; exact hw
      iexact H
    iintro %acc H
    iexact H
  intro t acc
  unfold k0_t4_body
  iintro ⟨%hm, H⟩
  sl_exec
  sl_step
  isplitr
  rotate_left
  · iexact H
  ipureintro
  have hk := k.isLt
  have ht := t.isLt
  have e3 := t3_trips
  have e4 : (Scf.trips k0_t4_loop.lb k0_t4_loop.ub k0_t4_loop.st) = 16 := t4_trips
  refine marks_step d1 hd _ acc hm (((Rect.unit (s := S8x16) (k0_off7 k t) S1x1.size (k0_off7_inb k t)).toLoadRect.idx (Shape.Idx.first (show 0 < S1x1.numel by decide)))) ?_
  have h0 : (((Rect.unit (s := S8x16) (k0_off7 k t) S1x1.size (k0_off7_inb k t)).toLoadRect.idx (Shape.Idx.first (show 0 < S1x1.numel by decide))) 0).val = k.val := by
    show k0_off7 k t 0 + 1 * 0 = _
    rw [k0_off7_eq]; rfl
  have h1 : (((Rect.unit (s := S8x16) (k0_off7 k t) S1x1.size (k0_off7_inb k t)).toLoadRect.idx (Shape.Idx.first (show 0 < S1x1.numel by decide))) 1).val = t.val := by
    show k0_off7 k t 1 + 1 * 0 = _
    rw [k0_off7_eq]; rfl
  rw [h0, h1]

/-- All identifiers marked. -/
theorem used_wp (d1 : S8x16.Idx → BitVec 32) (hd : ∀ y, (d1 y).toNat < 32) :
    pw c (whole cc0_stg1_0) d1 ⊢ wp frame (wpE (defs₀ (F := F)) Variants.none (c : Thread nD τ) none) Set.univ (Scf.Loop.for k0_t3_loop k0_t3_ok 0#32 (k0_t3_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8)) (fun r => iprop(⌜Marks d1 128 r⌝ ∗ pw c (whole cc0_stg1_0) d1)) := by
  refine BIBase.Entails.trans ?_ (Scf.wp_for frame _ Set.univ _ _ _ k0_t3_ok _ _ (fun k r => iprop(⌜Marks d1 (16 * k) r⌝ ∗ pw c (whole cc0_stg1_0) d1)) ?_)
  · iintro H
    isplitl [H]
    · isplitr
      · ipureintro
        intro e he
        simp
      iexact H
    iintro %acc H
    iexact H
  intro k acc
  unfold k0_t3_body
  iintro ⟨%hm, H⟩
  iapply (wp_seq c (used_row c d1 hd k acc hm))
  isplitl [H]; · iexact H
  iintro %r H
  dsimp only
  sl_step
  iexact H

/-- The kernel's first part: the first expert on its way, its number in the order's first place. -/
theorem part79_wp (X : Wts F) (d1 : S8x16.Idx → BitVec 32) (hd : ∀ y, (d1 y).toNat < 32) :
    iprop(pw c (whole cc0_stg1_0) d1 ∗ (∃ g, pw c (whole cc0_scratch7) g) ∗ slotHeld c 0 ∗ cells c 0 ∗ arrays c X)
      ⊢ wp frame (wpE (defs₀ (F := F)) Variants.none (c : Thread nD τ) none) Set.univ (k0_part79 (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8)
        (fun r => iprop(∃ (e : Fin 32) (g : S33.Idx → BitVec 32), ⌜Marks d1 128 r.1 ∧ (∃ v : BitVec 32, v.toNat = e.val ∧ r.2 = Scalar.shli 1#32 v) ∧ (g (ix1 0)).toNat = e.val ∧ e.val = (d1 (ix2 0 0)).toNat⌝
          ∗ pw c (whole cc0_stg1_0) d1 ∗ pw c (whole cc0_scratch7) g ∗ inflight c 0 e X)) := by
  rw [k0_part79_eq_skeleton]
  unfold k0_part79_skel
  iintro ⟨H1, ⟨%g, H7⟩, HS, HC, HA⟩
  sl_exec
  have hv : BitVec.toNat (part79_wp.sl.r (F := F) d1) < 32 := by
    unfold part79_wp.sl.r
    exact hd ((Rect.unit (s := S8x16) ![0, 0] S1x1.size inb_S8x16_S1x1_0_0).toLoadRect.idx (Shape.Idx.first (by decide)))
  iapply (wp_assume Variants.none (c : Thread nD τ) none Set.univ (k0_chk1_of _ hv))
  dsimp only
  imod (ready_of c 0 ⟨_, hv⟩ X) $$ [HS HC HA] with HR
  · isplitl [HS]; · iexact HS
    isplitl [HC]; · iexact HC
    iexact HA
  iapply (start_all c 0 ⟨_, hv⟩ X
    k0_t1_loop k0_t1_ok t1_trips _ (sem_eq 0 0 _ _ rfl) (fun k => k0_off1 k) (fun k => k0_off1_inb k) (fun k => k0_off2 (part79_wp.sl.r (F := F) d1) k) (fun k => k0_off2_inb _ (k0_chk1_of _ hv) k)
      (fun k => k0_off1_eq k) (fun k => k0_off2_eq _ k) _ _
    _ (sem_eq 1 0 _ _ rfl) ![0, 0, 0] inb_S2x64x3072_S1x64x3072_0_0_0 (k0_off3 (part79_wp.sl.r (F := F) d1)) (k0_off3_inb _ (k0_chk1_of _ hv)) rfl (k0_off3_eq _) _ _
    k0_t2_loop k0_t2_ok t2_trips _ (sem_eq 2 0 _ _ rfl) (fun k => k0_off4 k) (fun k => k0_off4_inb k) (fun k => k0_off5 (part79_wp.sl.r (F := F) d1) k) (fun k => k0_off5_inb _ (k0_chk1_of _ hv) k)
      (fun k => k0_off4_eq k) (fun k => k0_off5_eq _ k) _ _
    _ (sem_eq 3 0 _ _ rfl) ![0, 0, 0] inb_S2x48x2048_S1x48x2048_0_0_0 (k0_off6 (part79_wp.sl.r (F := F) d1)) (k0_off6_inb _ (k0_chk1_of _ hv)) rfl (k0_off6_eq _) _ _
    _ _)
  isplitl [HR]; · iexact HR
  iintro HI
  iapply (wp_seq c (used_wp c d1 hd))
  isplitl [H1]; · iexact H1
  iintro %v16 ⟨%hm, H1⟩
  sl_exec
  sl_step
  iexists ⟨_, hv⟩
  iexists _
  isplitr
  rotate_left
  · isplitl [H1]; · iexact H1
    isplitl [H7]; · iexact H7
    iexact HI
  ipureintro
  refine ⟨hm, ⟨part79_wp.sl.r (F := F) d1, rfl, rfl⟩, ?_, ?_⟩
  · exact congrArg BitVec.toNat ((order_write (F := F) g 0 _ _ rfl _ (ix1 0)).trans (if_pos rfl))
  · show BitVec.toNat (part79_wp.sl.r (F := F) d1) = _
    unfold part79_wp.sl.r
    refine congrArg (fun z => BitVec.toNat (d1 z)) ?_
    funext a; apply Fin.ext; fin_cases a <;> rfl

end Cert.KernelIdeal.Hand

end
-- ==== Proof.OrderI.lean ====
/-
  The order in which the used experts are taken: the first one, then the others by number.
-/
module

public import proofs.«01_k».proof.Proof.PrologI

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The words of `g` begin with the experts of `l`. -/
def Lists (l : List (Fin 32)) (g : S33.Idx → BitVec 32) : Prop :=
  ∀ (y : S33.Idx) (h : (y 0).val < l.length), (g y).toNat = (l[(y 0).val]'h).val

/-- The first expert and those among the first `k` that `w` marks. -/
def orderOf (e0 : Fin 32) (w : BitVec 32) : ℕ → List (Fin 32)
  | 0 => [e0]
  | k + 1 => if h : k < 32 then (if w.getLsbD k = true then orderOf e0 w k ++ [⟨k, h⟩] else orderOf e0 w k) else orderOf e0 w k

/-- The list after the first `k` experts have been looked at. -/
structure Upto (e0 : Fin 32) (w : BitVec 32) (k : ℕ) (cnt : BitVec 32) (l : List (Fin 32)) : Prop where
  nodup : l.Nodup
  mem : ∀ e, e ∈ l ↔ e = e0 ∨ (e.val < k ∧ w.getLsbD e.val = true)
  len : cnt.toNat = l.length
  hd : ∃ r, l = e0 :: r

/-- The count stays below the table's length. -/
theorem Upto.le {e0 w k cnt l} (h : Upto e0 w k cnt l) : cnt.toNat < 33 := by
  have := h.nodup.length_le_card
  rw [Fintype.card_fin] at this
  rw [h.len]; omega

/-- Before any expert is tried the table holds the first one. -/
theorem upto_zero (e0 : Fin 32) (w : BitVec 32) : Upto e0 w 0 1#32 [e0] where
  nodup := List.nodup_singleton _
  mem e := by simp
  len := rfl
  hd := ⟨[], rfl⟩

/-- Trying one expert more keeps the table right. -/
theorem upto_step (e0 : Fin 32) (w : BitVec 32) (hw : w.getLsbD e0.val = false) (k : Fin 32) (cnt : BitVec 32) (l : List (Fin 32)) (g g' : S33.Idx → BitVec 32)
    (h : Upto e0 w k.val cnt l) (hol : l = orderOf e0 w k.val) (hl : Lists l g) (hg : ∀ y, g' y = if (y 0).val = cnt.toNat then BitVec.ofNat 32 k.val else g y) :
    ∃ l', l' = orderOf e0 w (k.val + 1) ∧ Upto e0 w (k.val + 1) (Scalar.addi cnt (Scalar.andi (Scalar.shrsi w (BitVec.ofNat 32 k.val)) 1#32)) l' ∧ Lists l' g' := by
  rw [bit_shr w k.val k.isLt]
  have hle := h.le
  obtain ⟨r, hr⟩ := h.hd
  by_cases hb : w.getLsbD k.val = true
  · refine ⟨l ++ [k], by rw [orderOf, dif_pos k.isLt, if_pos hb, ← hol], ⟨?_, ?_, ?_, ⟨r ++ [k], by rw [hr]; rfl⟩⟩, ?_⟩
    · refine List.nodup_append.mpr ⟨h.nodup, List.nodup_singleton _, ?_⟩
      intro a ha b hb' hab
      rw [List.mem_singleton] at hb'
      subst hb' hab
      rcases (h.mem a).mp ha with h1 | h1
      · rw [h1, hw] at hb; exact absurd hb (by decide)
      · omega
    · intro e
      rw [List.mem_append, List.mem_singleton, h.mem]
      constructor
      · rintro ((h1 | h1) | h1)
        · exact .inl h1
        · exact .inr ⟨by omega, h1.2⟩
        · subst h1; exact .inr ⟨by omega, hb⟩
      · rintro (h1 | h1)
        · exact .inl (.inl h1)
        · by_cases h2 : e.val < k.val
          · exact .inl (.inr ⟨h2, h1.2⟩)
          · exact .inr (Fin.ext (by omega))
    · rw [if_pos hb, List.length_append, List.length_singleton, ← h.len]
      show (cnt + 1#32).toNat = _
      rw [BitVec.toNat_add]
      simp only [BitVec.toNat_ofNat]; omega
    · intro y hy
      rw [hg]
      rw [List.length_append, List.length_singleton] at hy
      by_cases hc : (y 0).val = cnt.toNat
      · rw [if_pos hc]
        have hk := k.isLt
        rw [List.getElem_append_right (by rw [← h.len]; omega), BitVec.toNat_ofNat]
        simp only [List.getElem_singleton]; omega
      · rw [if_neg hc]
        have hc' : (y 0).val < l.length := by rw [h.len] at hc; omega
        rw [List.getElem_append_left hc', hl y hc']
  · refine ⟨l, by rw [orderOf, dif_pos k.isLt, if_neg hb, ← hol], ⟨h.nodup, ?_, ?_, ⟨r, hr⟩⟩, ?_⟩
    · intro e
      rw [h.mem]
      constructor
      · rintro (h1 | h1)
        · exact .inl h1
        · exact .inr ⟨by omega, h1.2⟩
      · rintro (h1 | h1)
        · exact .inl h1
        · refine .inr ⟨?_, h1.2⟩
          by_contra h2
          have : e = k := Fin.ext (by omega)
          rw [this] at h1; exact hb h1.2
    · rw [if_neg hb, ← h.len]
      show (cnt + 0#32).toNat = _
      rw [BitVec.add_zero]
    · intro y hy
      rw [hg, if_neg (by rw [h.len]; omega)]
      exact hl y hy

/-- The list of used experts laid out. -/
theorem order_wp (e0 : Fin 32) (w : BitVec 32) (hw : w.getLsbD e0.val = false) (g : S33.Idx → BitVec 32) (hg : (g (ix1 0)).toNat = e0.val) :
    pw c (whole cc0_scratch7) g ⊢ wp frame (wpE (defs₀ (F := F)) Variants.none (c : Thread nD τ) none) Set.univ (Scf.Loop.for k0_t5_loop k0_t5_ok 1#32 (k0_t5_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 w))
      (fun r => iprop(∃ (g : S33.Idx → BitVec 32) (l : List (Fin 32)), ⌜l = orderOf e0 w 32 ∧ Upto e0 w 32 r l ∧ Lists l g⌝ ∗ pw c (whole cc0_scratch7) g)) := by
  refine BIBase.Entails.trans ?_ (Scf.wp_for frame _ Set.univ _ _ _ k0_t5_ok _ _ (fun k r => iprop(∃ (g : S33.Idx → BitVec 32) (l : List (Fin 32)), ⌜l = orderOf e0 w k ∧ Upto e0 w k r l ∧ Lists l g⌝ ∗ pw c (whole cc0_scratch7) g)) ?_)
  · iintro H
    isplitl [H]
    · iexists g
      iexists [e0]
      isplitr
      · ipureintro
        refine ⟨rfl, upto_zero e0 w, ?_⟩
        intro y hy
        have h0 : (y 0).val = 0 := by simpa using hy
        have : y = ix1 0 := by funext a; apply Fin.ext; fin_cases a; exact h0
        subst this
        rw [hg]; rfl
      iexact H
    iintro %acc H
    iexact H
  intro k acc
  unfold k0_t5_body
  iintro ⟨%g, %l, %hm, H⟩
  have hchk := k0_chk2_of _ hm.2.1.le
  sl_exec (disch := exact hchk)
  sl_step
  have hk : k.val < 32 := by exact lt_of_lt_of_eq k.isLt t5_trips
  obtain ⟨l', h0, h1, h2⟩ := upto_step e0 w hw ⟨k.val, hk⟩ acc l g _ hm.2.1 hm.1 hm.2.2 (fun y => order_write (F := F) g acc.toNat (k0_off8 acc) (k0_off8_inb acc (k0_chk2_of _ hm.2.1.le)) rfl (BitVec.ofNat 32 k.val) y)
  have hiv : Scf.iv 0#32 1#32 k.val = BitVec.ofNat 32 k.val := by
    simp [Scf.iv]
  have harg : order_wp.sl.arg18 k = BitVec.ofNat 32 k.val := hiv
  have h47 : order_wp.sl.v47 w k acc = Scalar.addi acc (Scalar.andi (Scalar.shrsi w (BitVec.ofNat 32 k.val)) 1#32) := by
    show Scalar.addi acc (Scalar.andi (Scalar.shrsi w (Scf.iv 0#32 1#32 k.val)) 1#32) = _
    rw [hiv]
  have h2 : Lists l' ((whole cc0_scratch7 : Memref sig .tc .smem S33 .i32).view.writes (Elt F) g [⟨Rect.unit (s := S33) (k0_off8 acc) S1.size (k0_off8_inb acc hchk), fun _ => order_wp.sl.arg18 k⟩]) := by rw [harg]; exact h2
  rw [← h47] at h1
  iexists _
  iexists l'
  isplitr
  rotate_left
  · iexact H
  ipureintro
  exact ⟨h0, h1, h2⟩

end Cert.KernelIdeal.Hand

end
-- ==== Proof.HeadI.lean ====
/-
  The head of a trip of the main loop: the expert of this trip awaited, the next one started.
-/
module

public import proofs.«01_k».proof.Proof.OrderI

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The slot of trip `k`, -/
def slotOf (k : ℕ) : Fin 2 := ⟨k % 2, Nat.mod_lt _ (by decide)⟩
/-- and the one the next trip's expert goes to. -/
def slotNx (k : ℕ) : Fin 2 := ⟨1 - k % 2, by have := Nat.mod_lt k (show 0 < 2 by decide); omega⟩
theorem slotNx_eq (k : ℕ) : slotNx k = slotOf (k + 1) := Fin.ext (by show 1 - k % 2 = (k + 1) % 2; omega)
theorem slotOf_two (k : ℕ) : slotNx (k + 1) = slotOf k := Fin.ext (by show 1 - (k + 1) % 2 = k % 2; omega)

/-- What is on its way when trip `k` starts: its expert, or nothing after the last. -/
def coming (l : List (Fin 32)) (k : ℕ) (X : Wts F) : sProp 𝕄 :=
  if h : k < l.length then inflight c (slotOf k) (l[k]'h) X else iprop(slotHeld c (slotOf k).val ∗ cells c (slotOf k) ∗ arrays c X)

/-- The word read at place `k`. -/
theorem order_read (l : List (Fin 32)) (g : S33.Idx → BitVec 32) (hg : Lists l g) (k : ℕ) (h : k < l.length) (y : S33.Idx) (hy : (y 0).val = k) :
    (g y).toNat = (l[k]'h).val := by
  subst hy; exact hg y h

set_option maxHeartbeats 4000000 in
/-- The next trip's expert started, if there is one. -/
theorem next_wp (X : Wts F) (v22 : BitVec 32) (hw3 : k0_chk3 v22) (l : List (Fin 32)) (hl : (k0_t6_loop v22).trips = l.length) (g : S33.Idx → BitVec 32) (hg : Lists l g)
    (k : Fin (k0_t6_loop v22).trips) {α : Type} (kk : Prog (TpuEff nD τ sig (Elt F) Λ₀ .tc) α) (QQ : α → sProp 𝕄) :
    iprop(pw c (whole cc0_scratch7) g ∗ slotHeld c (slotNx k.val).val ∗ cells c (slotNx k.val) ∗ arrays c X ∗ (iprop(pw c (whole cc0_scratch7) g ∗ coming c l (k.val + 1) X) -∗ wp frame (wpE (defs₀ (F := F)) Variants.none (c : Thread nD τ) none) Set.univ kk QQ))
      ⊢ wp frame (wpE (defs₀ (F := F)) Variants.none (c : Thread nD τ) none) Set.univ (do
          if k0_h1 : k0_cond1 v22 k = 1#1 then do
            let v1594 : Elt F .i32 ← smemLoad (whole cc0_scratch7) (Rect.unit (s := S33) (k0_off22 v22 k) S1.size (k0_off22_inb v22 hw3 k k0_h1)) numel1_S1 rfl
            have k0_hw5 : k0_chk5 v22 k v1594 := (← Prog.lift (TpuEff.assume (k0_chk5 v22 k v1594) (k0_chk5.dec v22 k v1594))).down
            Scf.Loop.for k0_t9_loop k0_t9_ok ⟨⟩ (k0_t9_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 0#32 1#32 k k0_h1 v1594 k0_hw5)
            let v1597 : DmaSems sig S1x1 := cc0_scratch8.slice (Rect.unit (s := S4x2) (k0_off26 v22 k) S1x1.size (k0_off26_inb v22 hw3 k k0_h1))
            let v1598 : DmaSems sig S_ := v1597.squeeze S_ squeezes_S1x1_S_
            let v1599 : Memref sig .tc .vmem S1x64x3072 .i8 := (whole cc0_scratch1).slice (Rect.unit (s := S2x64x3072) (k0_off27 v22 k) S1x64x3072.size (k0_off27_inb v22 hw3 k k0_h1)) (fun _ => rfl)
            let v1600 : Memref sig .tc .vmem S64x3072 .i8 := v1599.squeeze S64x3072 squeezes_S1x64x3072_S64x3072
            let v1601 : Memref sig .tc .hbm S1x64x3072 .i8 := (whole main_v6).slice (Rect.unit (s := S32x64x3072) (k0_off28 v1594) S1x64x3072.size (k0_off28_inb v22 k v1594 k0_hw5 k0_h1)) (fun _ => rfl)
            let v1602 : Memref sig .tc .hbm S64x3072 .i8 := v1601.squeeze S64x3072 squeezes_S1x64x3072_S64x3072
            Prog.lift (.enqueueDma v1602 (.here v1600) (.dma v1598.sem) (((isWhole_whole main_v6).wordExact_slice rfl _ (k0_off28_wordsi8 v22 k v1594 k0_hw5 k0_h1)).reshape _ _) (((isWhole_whole cc0_scratch1).wordExact_slice rfl _ (k0_off27_wordsi8 v22 hw3 k k0_h1)).reshape _ _) ⟨Or.inl rfl, trivial⟩)
            Scf.Loop.for k0_t10_loop k0_t10_ok ⟨⟩ (k0_t10_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 0#32 1#32 k k0_h1 v1594 k0_hw5)
            let v1604 : DmaSems sig S1x1 := cc0_scratch8.slice (Rect.unit (s := S4x2) (k0_off32 v22 k) S1x1.size (k0_off32_inb v22 hw3 k k0_h1))
            let v1605 : DmaSems sig S_ := v1604.squeeze S_ squeezes_S1x1_S_
            let v1606 : Memref sig .tc .vmem S1x48x2048 .i8 := (whole cc0_scratch3).slice (Rect.unit (s := S2x48x2048) (k0_off33 v22 k) S1x48x2048.size (k0_off33_inb v22 hw3 k k0_h1)) (fun _ => rfl)
            let v1607 : Memref sig .tc .vmem S48x2048 .i8 := v1606.squeeze S48x2048 squeezes_S1x48x2048_S48x2048
            let v1608 : Memref sig .tc .hbm S1x48x2048 .i8 := (whole main_v8).slice (Rect.unit (s := S32x48x2048) (k0_off34 v1594) S1x48x2048.size (k0_off34_inb v22 k v1594 k0_hw5 k0_h1)) (fun _ => rfl)
            let v1609 : Memref sig .tc .hbm S48x2048 .i8 := v1608.squeeze S48x2048 squeezes_S1x48x2048_S48x2048
            Prog.lift (.enqueueDma v1609 (.here v1607) (.dma v1605.sem) (((isWhole_whole main_v8).wordExact_slice rfl _ (k0_off34_wordsi8 v22 k v1594 k0_hw5 k0_h1)).reshape _ _) (((isWhole_whole cc0_scratch3).wordExact_slice rfl _ (k0_off33_wordsi8 v22 hw3 k k0_h1)).reshape _ _) ⟨Or.inl rfl, trivial⟩)
            pure ⟨⟩
          else do
            pure ⟨⟩
          kk) QQ := by
  by_cases h : k0_cond1 v22 k = 1#1
  · have hlt : k.val + 1 < l.length := lt_of_lt_of_eq (cond1_lt h) hl
    rw [dif_pos h]
    iintro ⟨H7, HS, HC, HA, HK⟩
    sl_exec
    have hv : (next_wp.sl.r (F := F) v22 hw3 g k h).toNat = (l[k.val + 1]'hlt).val := by
      unfold next_wp.sl.r
      refine order_read l g hg _ hlt _ ?_
      show k0_off22 v22 k 0 + 1 * 0 = _
      rw [k0_off22_eq]; rfl
    have he : (next_wp.sl.r (F := F) v22 hw3 g k h).toNat < 32 := by rw [hv]; exact (l[k.val + 1]'hlt).isLt
    have hee : (⟨_, he⟩ : Fin 32) = l[k.val + 1]'hlt := Fin.ext hv
    have hc5 := k0_chk5_of v22 k (next_wp.sl.r (F := F) v22 hw3 g k h) he
    iapply (wp_assume Variants.none (c : Thread nD τ) none Set.univ hc5)
    dsimp only
    imod (ready_of c (slotNx k.val) ⟨_, he⟩ X) $$ [HS HC HA] with HR
    · isplitl [HS]; · iexact HS
      isplitl [HC]; · iexact HC
      iexact HA
    iapply (start_all c (slotNx k.val) ⟨_, he⟩ X
      k0_t9_loop k0_t9_ok t9_trips _ (sem_eq 0 (slotNx k.val) _ (k0_off23_inb v22 hw3 k h) (k0_off23_eq v22 k)) (fun t => k0_off24 v22 k t) (fun t => k0_off24_inb v22 hw3 k t h) (fun t => k0_off25 (next_wp.sl.r (F := F) v22 hw3 g k h) t) (fun t => k0_off25_inb v22 k _ hc5 t h)
        (fun t => k0_off24_eq v22 k t) (fun t => k0_off25_eq _ t) _ _
      _ (sem_eq 1 (slotNx k.val) _ (k0_off26_inb v22 hw3 k h) (k0_off26_eq v22 k)) (k0_off27 v22 k) (k0_off27_inb v22 hw3 k h) (k0_off28 (next_wp.sl.r (F := F) v22 hw3 g k h)) (k0_off28_inb v22 k _ hc5 h) (k0_off27_eq v22 k) (k0_off28_eq _) _ _
      k0_t10_loop k0_t10_ok t10_trips _ (sem_eq 2 (slotNx k.val) _ (k0_off29_inb v22 hw3 k h) (k0_off29_eq v22 k)) (fun t => k0_off30 v22 k t) (fun t => k0_off30_inb v22 hw3 k t h) (fun t => k0_off31 (next_wp.sl.r (F := F) v22 hw3 g k h) t) (fun t => k0_off31_inb v22 k _ hc5 t h)
        (fun t => k0_off30_eq v22 k t) (fun t => k0_off31_eq _ t) _ _
      _ (sem_eq 3 (slotNx k.val) _ (k0_off32_inb v22 hw3 k h) (k0_off32_eq v22 k)) (k0_off33 v22 k) (k0_off33_inb v22 hw3 k h) (k0_off34 (next_wp.sl.r (F := F) v22 hw3 g k h)) (k0_off34_inb v22 k _ hc5 h) (k0_off33_eq v22 k) (k0_off34_eq _) _ _
      _ _)
    isplitl [HR]; · iexact HR
    iintro HI
    iapply HK
    isplitl [H7]; · iexact H7
    unfold coming
    rw [dif_pos hlt, ← slotNx_eq, ← hee]
    iexact HI
  · have hlt : ¬ k.val + 1 < l.length := fun h' => h ((cond1_iff v22 k).mpr (lt_of_lt_of_eq h' hl.symm))
    rw [dif_neg h]
    iintro ⟨H7, HS, HC, HA, HK⟩
    dsimp only
    iapply HK
    isplitl [H7]; · iexact H7
    unfold coming
    rw [dif_neg hlt, ← slotNx_eq]
    isplitl [HS]; · iexact HS
    isplitl [HC]; · iexact HC
    iexact HA

/-! ## The slots by rectangles -/

theorem guSlot_inb {s : ℕ} (hs : s < 2) : ∀ a, (![s, 0, 0, 0, 0] : Fin 5 → ℕ) a + (![1, 24, 64, 16, 128] : Fin 5 → ℕ) a ≤ S2x24x64x16x128.size a := by
  intro a
  fin_cases a
  · show s + 1 ≤ 2; omega
  · show 0 + 24 ≤ 24; decide
  · show 0 + 64 ≤ 64; decide
  · show 0 + 16 ≤ 16; decide
  · show 0 + 128 ≤ 128; decide

theorem guSlot_setOn (s : ℕ) (inb : ∀ a, (![s, 0, 0, 0, 0] : Fin 5 → ℕ) a + (![1, 24, 64, 16, 128] : Fin 5 → ℕ) a ≤ S2x24x64x16x128.size a) :
    guSlot s = (whole cc0_scratch0 : Memref sig .tc .vmem S2x24x64x16x128 .i8).view.setOn (Rect.unit (s := S2x24x64x16x128) ![s, 0, 0, 0, 0] ![1, 24, 64, 16, 128] inb).set := by
  rw [View.setOn]
  refine Eq.trans ?_ (Eq.trans (View.set_slice_whole cc0_scratch0 (Rect.unit (s := S2x24x64x16x128) ![s, 0, 0, 0, 0] ![1, 24, 64, 16, 128] inb)).symm (View.set_slice _ _))
  ext y
  rw [Rect.mem_set_unit, guSlot, Finset.mem_filter]
  have h1 : (y 1).val < 24 := (y 1).isLt
  have h2 : (y 2).val < 64 := (y 2).isLt
  have h3 : (y 3).val < 16 := (y 3).isLt
  have h4 : (y 4).val < 128 := (y 4).isLt
  constructor
  · rintro ⟨-, a0⟩ a
    fin_cases a
    · show s ≤ (y 0).val ∧ (y 0).val < s + 1; omega
    · show 0 ≤ (y 1).val ∧ (y 1).val < 0 + 24; omega
    · show 0 ≤ (y 2).val ∧ (y 2).val < 0 + 64; omega
    · show 0 ≤ (y 3).val ∧ (y 3).val < 0 + 16; omega
    · show 0 ≤ (y 4).val ∧ (y 4).val < 0 + 128; omega
  · intro H
    have a0 : s ≤ (y 0).val ∧ (y 0).val < s + 1 := H 0
    exact ⟨Finset.mem_univ _, by omega⟩

theorem gusSlot_inb {s : ℕ} (hs : s < 2) : ∀ a, (![s, 0, 0] : Fin 3 → ℕ) a + (![1, 64, 3072] : Fin 3 → ℕ) a ≤ S2x64x3072.size a := by
  intro a
  fin_cases a
  · show s + 1 ≤ 2; omega
  · show 0 + 64 ≤ 64; decide
  · show 0 + 3072 ≤ 3072; decide

theorem gusSlot_setOn (s : ℕ) (inb : ∀ a, (![s, 0, 0] : Fin 3 → ℕ) a + (![1, 64, 3072] : Fin 3 → ℕ) a ≤ S2x64x3072.size a) :
    gusSlot s = (whole cc0_scratch1 : Memref sig .tc .vmem S2x64x3072 .i8).view.setOn (Rect.unit (s := S2x64x3072) ![s, 0, 0] ![1, 64, 3072] inb).set := by
  rw [View.setOn]
  refine Eq.trans ?_ (Eq.trans (View.set_slice_whole cc0_scratch1 (Rect.unit (s := S2x64x3072) ![s, 0, 0] ![1, 64, 3072] inb)).symm (View.set_slice _ _))
  ext y
  rw [Rect.mem_set_unit, gusSlot, Finset.mem_filter]
  have h1 : (y 1).val < 64 := (y 1).isLt
  have h2 : (y 2).val < 3072 := (y 2).isLt
  constructor
  · rintro ⟨-, a0⟩ a
    fin_cases a
    · show s ≤ (y 0).val ∧ (y 0).val < s + 1; omega
    · show 0 ≤ (y 1).val ∧ (y 1).val < 0 + 64; omega
    · show 0 ≤ (y 2).val ∧ (y 2).val < 0 + 3072; omega
  · intro H
    have a0 : s ≤ (y 0).val ∧ (y 0).val < s + 1 := H 0
    exact ⟨Finset.mem_univ _, by omega⟩

theorem dnSlot_inb {s : ℕ} (hs : s < 2) : ∀ a, (![s, 0, 0, 0, 0] : Fin 5 → ℕ) a + (![1, 16, 48, 16, 128] : Fin 5 → ℕ) a ≤ S2x16x48x16x128.size a := by
  intro a
  fin_cases a
  · show s + 1 ≤ 2; omega
  · show 0 + 16 ≤ 16; decide
  · show 0 + 48 ≤ 48; decide
  · show 0 + 16 ≤ 16; decide
  · show 0 + 128 ≤ 128; decide

theorem dnSlot_setOn (s : ℕ) (inb : ∀ a, (![s, 0, 0, 0, 0] : Fin 5 → ℕ) a + (![1, 16, 48, 16, 128] : Fin 5 → ℕ) a ≤ S2x16x48x16x128.size a) :
    dnSlot s = (whole cc0_scratch2 : Memref sig .tc .vmem S2x16x48x16x128 .i8).view.setOn (Rect.unit (s := S2x16x48x16x128) ![s, 0, 0, 0, 0] ![1, 16, 48, 16, 128] inb).set := by
  rw [View.setOn]
  refine Eq.trans ?_ (Eq.trans (View.set_slice_whole cc0_scratch2 (Rect.unit (s := S2x16x48x16x128) ![s, 0, 0, 0, 0] ![1, 16, 48, 16, 128] inb)).symm (View.set_slice _ _))
  ext y
  rw [Rect.mem_set_unit, dnSlot, Finset.mem_filter]
  have h1 : (y 1).val < 16 := (y 1).isLt
  have h2 : (y 2).val < 48 := (y 2).isLt
  have h3 : (y 3).val < 16 := (y 3).isLt
  have h4 : (y 4).val < 128 := (y 4).isLt
  constructor
  · rintro ⟨-, a0⟩ a
    fin_cases a
    · show s ≤ (y 0).val ∧ (y 0).val < s + 1; omega
    · show 0 ≤ (y 1).val ∧ (y 1).val < 0 + 16; omega
    · show 0 ≤ (y 2).val ∧ (y 2).val < 0 + 48; omega
    · show 0 ≤ (y 3).val ∧ (y 3).val < 0 + 16; omega
    · show 0 ≤ (y 4).val ∧ (y 4).val < 0 + 128; omega
  · intro H
    have a0 : s ≤ (y 0).val ∧ (y 0).val < s + 1 := H 0
    exact ⟨Finset.mem_univ _, by omega⟩

theorem dnsSlot_inb {s : ℕ} (hs : s < 2) : ∀ a, (![s, 0, 0] : Fin 3 → ℕ) a + (![1, 48, 2048] : Fin 3 → ℕ) a ≤ S2x48x2048.size a := by
  intro a
  fin_cases a
  · show s + 1 ≤ 2; omega
  · show 0 + 48 ≤ 48; decide
  · show 0 + 2048 ≤ 2048; decide

theorem dnsSlot_setOn (s : ℕ) (inb : ∀ a, (![s, 0, 0] : Fin 3 → ℕ) a + (![1, 48, 2048] : Fin 3 → ℕ) a ≤ S2x48x2048.size a) :
    dnsSlot s = (whole cc0_scratch3 : Memref sig .tc .vmem S2x48x2048 .i8).view.setOn (Rect.unit (s := S2x48x2048) ![s, 0, 0] ![1, 48, 2048] inb).set := by
  rw [View.setOn]
  refine Eq.trans ?_ (Eq.trans (View.set_slice_whole cc0_scratch3 (Rect.unit (s := S2x48x2048) ![s, 0, 0] ![1, 48, 2048] inb)).symm (View.set_slice _ _))
  ext y
  rw [Rect.mem_set_unit, dnsSlot, Finset.mem_filter]
  have h1 : (y 1).val < 48 := (y 1).isLt
  have h2 : (y 2).val < 2048 := (y 2).isLt
  constructor
  · rintro ⟨-, a0⟩ a
    fin_cases a
    · show s ≤ (y 0).val ∧ (y 0).val < s + 1; omega
    · show 0 ≤ (y 1).val ∧ (y 1).val < 0 + 48; omega
    · show 0 ≤ (y 2).val ∧ (y 2).val < 0 + 2048; omega
  · intro H
    have a0 : s ≤ (y 0).val ∧ (y 0).val < s + 1 := H 0
    exact ⟨Finset.mem_univ _, by omega⟩

/-- Slot `s` held by rectangles. -/
def slotV (s : ℕ) (hs : s < 2) (e : Fin 32) (X : Wts F) : sProp 𝕄 :=
  iprop(((whole cc0_scratch0 : Memref sig .tc .vmem S2x24x64x16x128 .i8).view.loc (c : Thread nD τ) ↦[(whole cc0_scratch0 : Memref sig .tc .vmem S2x24x64x16x128 .i8).view.setOn (Rect.unit (s := S2x24x64x16x128) ![s, 0, 0, 0, 0] ![1, 24, 64, 16, 128] (guSlot_inb hs)).set]{fullShare} (guLand X.gu e))
    ∗ ((whole cc0_scratch1 : Memref sig .tc .vmem S2x64x3072 .i8).view.loc (c : Thread nD τ) ↦[(whole cc0_scratch1 : Memref sig .tc .vmem S2x64x3072 .i8).view.setOn (Rect.unit (s := S2x64x3072) ![s, 0, 0] ![1, 64, 3072] (gusSlot_inb hs)).set]{fullShare} (gusLand X.gus e))
    ∗ ((whole cc0_scratch2 : Memref sig .tc .vmem S2x16x48x16x128 .i8).view.loc (c : Thread nD τ) ↦[(whole cc0_scratch2 : Memref sig .tc .vmem S2x16x48x16x128 .i8).view.setOn (Rect.unit (s := S2x16x48x16x128) ![s, 0, 0, 0, 0] ![1, 16, 48, 16, 128] (dnSlot_inb hs)).set]{fullShare} (dnLand X.dn e))
    ∗ ((whole cc0_scratch3 : Memref sig .tc .vmem S2x48x2048 .i8).view.loc (c : Thread nD τ) ↦[(whole cc0_scratch3 : Memref sig .tc .vmem S2x48x2048 .i8).view.setOn (Rect.unit (s := S2x48x2048) ![s, 0, 0] ![1, 48, 2048] (dnsSlot_inb hs)).set]{fullShare} (dnsLand X.dns e)))
theorem slotV_eq (s : ℕ) (hs : s < 2) (e : Fin 32) (X : Wts F) : slotFull c s e X = slotV c s hs e X := by
  unfold slotFull slotV
  rw [guSlot_setOn s (guSlot_inb hs), gusSlot_setOn s (gusSlot_inb hs), dnSlot_setOn s (dnSlot_inb hs), dnsSlot_setOn s (dnsSlot_inb hs)]

theorem slot_lt (k : ℕ) : k % 2 < 2 := Nat.mod_lt _ (by decide)

/-! ## The head of a trip -/

set_option maxHeartbeats 4000000 in
/-- A trip's first part: its expert's weights in their slot, the next expert on its way. -/
theorem part1_wp (X : Wts F) (v22 : BitVec 32) (hw3 : k0_chk3 v22) (l : List (Fin 32)) (hl : (k0_t6_loop v22).trips = l.length) (g : S33.Idx → BitVec 32) (hg : Lists l g)
    (k : Fin (k0_t6_loop v22).trips) (hk : k.val < l.length) (e : Fin 32) (hle : l[k.val]'hk = e) :
    iprop(pw c (whole cc0_scratch7) g ∗ inflight c (slotOf k.val) e X ∗ slotHeld c (slotNx k.val).val ∗ cells c (slotNx k.val) ∗ (∃ W, owes (c : Thread nD τ) 0 W))
      ⊢ wp frame (wpE (defs₀ (F := F)) Variants.none (c : Thread nD τ) none) Set.univ (k0_part1 (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 0#32 1#32 k)
        (fun r => iprop(⌜r = ⟨Scalar.andi (Scf.iv 0#32 1#32 k.val) 1#32, BitVec.ofNat 32 e.val, k0_pay7 (fun x => gusLand X.gus e ((Rect.unit (s := S2x64x3072) (k0_off35 v22 k) S1x64x256.size (k0_off35_inb v22 hw3 k)).emb x)),
              k0_pay8 (fun x => gusLand X.gus e ((Rect.unit (s := S2x64x3072) (k0_off35 v22 k) S1x64x256.size (k0_off35_inb v22 hw3 k)).emb x))⟩⌝
          ∗ pw c (whole cc0_scratch7) g ∗ slotV c (k.val % 2) (slot_lt _) e X ∗ cells c (slotOf k.val) ∗ coming c l (k.val + 1) X ∗ (∃ W, owes (c : Thread nD τ) 0 W))) := by
  rw [k0_part1_eq_skeleton]
  unfold k0_part1_skel
  subst hle
  iintro ⟨H7, HI, HS, HC, %W0, HO⟩
  sl_exec
  have hv : (part1_wp.sl.r (F := F) v22 hw3 g k).toNat = (l[k.val]'hk).val := by
    unfold part1_wp.sl.r
    refine order_read l g hg _ hk _ ?_
    show k0_off9 v22 k 0 + 1 * 0 = _
    rw [k0_off9_eq]; rfl
  have he : (part1_wp.sl.r (F := F) v22 hw3 g k).toNat < 32 := by rw [hv]; exact (l[k.val]'hk).isLt
  have hc4 := k0_chk4_of (part1_wp.sl.r (F := F) v22 hw3 g k) he
  iapply (wp_assume Variants.none (c : Thread nD τ) none Set.univ hc4)
  dsimp only
  iapply (wait_all c (slotOf k.val) (l[k.val]'hk) X
      k0_t7_loop k0_t7_ok t7_trips _ (sem_eq 0 (slotOf k.val) _ (k0_off10_inb v22 hw3 k) (k0_off10_eq v22 k)) (fun t => k0_off11 v22 k t) (fun t => k0_off11_inb v22 hw3 k t) (fun t => k0_off12 (part1_wp.sl.r (F := F) v22 hw3 g k) t) (fun t => k0_off12_inb _ hc4 t)
        _ _
      _ (sem_eq 1 (slotOf k.val) _ (k0_off13_inb v22 hw3 k) (k0_off13_eq v22 k)) (k0_off14 v22 k) (k0_off14_inb v22 hw3 k) (k0_off15 (part1_wp.sl.r (F := F) v22 hw3 g k)) (k0_off15_inb _ hc4) _ _
      k0_t8_loop k0_t8_ok t8_trips _ (sem_eq 2 (slotOf k.val) _ (k0_off16_inb v22 hw3 k) (k0_off16_eq v22 k)) (fun t => k0_off17 v22 k t) (fun t => k0_off17_inb v22 hw3 k t) (fun t => k0_off18 (part1_wp.sl.r (F := F) v22 hw3 g k) t) (fun t => k0_off18_inb _ hc4 t)
        _ _
      _ (sem_eq 3 (slotOf k.val) _ (k0_off19_inb v22 hw3 k) (k0_off19_eq v22 k)) (k0_off20 v22 k) (k0_off20_inb v22 hw3 k) (k0_off21 (part1_wp.sl.r (F := F) v22 hw3 g k)) (k0_off21_inb _ hc4) _ _
      W0 _ _)
  isplitl [HI]; · iexact HI
  isplitl [HO]; · iexact HO
  iintro ⟨HF, HC', HA, HO⟩
  iapply (next_wp c X v22 hw3 l hl g hg k _ _)
  isplitl [H7]; · iexact H7
  isplitl [HS]; · iexact HS
  isplitl [HC]; · iexact HC
  isplitl [HA]; · iexact HA
  iintro ⟨H7, HN⟩
  ihave HF := (show slotFull c (slotOf k.val).val (l[k.val]'hk) X ⊢ slotV c (k.val % 2) (slot_lt _) (l[k.val]'hk) X from Entails.of_eq (slotV_eq c (k.val % 2) (slot_lt _) (l[k.val]'hk) X)) $$ HF
  unfold slotV
  icases HF with ⟨F0, F1, F2, F3⟩
  sl_exec
  sl_step
  isplitr
  · ipureintro
    have hvv : part1_wp.sl.r (F := F) v22 hw3 g k = BitVec.ofNat 32 (l[k.val]'hk).val := BitVec.eq_of_toNat_eq (by rw [hv, BitVec.toNat_ofNat]; have := (l[k.val]'hk).isLt; omega)
    rw [← hvv]; rfl
  isplitl [H7]; · iexact H7
  isplitl [F0 F1 F2 F3]
  · isplitl [F0]; · iexact F0
    isplitl [F1]; · iexact F1
    isplitl [F2]; · iexact F2
    iexact F3
  isplitl [HC']; · iexact HC'
  isplitl [HN]; · iexact HN
  iexact HO

end Cert.KernelIdeal.Hand

end
-- ==== Proof.TripI.lean ====
/-
  A trip of the main loop: its expert awaited, the next one started, its contribution added.
-/
module

public import proofs.«01_k».proof.Proof.HeadI

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem Wp_bind {α β : Type} (p : Prog (TpuEff nD τ sig (Elt F) Λ₀ .tc) α) (k : α → Prog (TpuEff nD τ sig (Elt F) Λ₀ .tc) β) (Q : β → sProp 𝕄) :
    wp frame (wpE (defs₀ (F := F)) Variants.none (c : Thread nD τ) none) Set.univ p (fun a => wp frame (wpE (defs₀ (F := F)) Variants.none (c : Thread nD τ) none) Set.univ (k a) Q) ⊢ wp frame (wpE (defs₀ (F := F)) Variants.none (c : Thread nD τ) none) Set.univ (p >>= k) Q := Entails.of_eq (wp_bind ..).symm

set_option maxHeartbeats 40000000 in
/-- A trip and the accumulator it leaves. -/
def trip_run (X : Wts F) (v22 : BitVec 32) (hw3 : k0_chk3 v22) (k : Fin (k0_t6_loop v22).trips) (e : Fin 32) (d0 : S16x2048.Idx → Elt F .bf16) (v27 : Vec F S8x16 .i32) (v30 : Vec F S8x16 .f32)
    (acc : S16x2048.Idx → Elt F .f32) : { acc' : S16x2048.Idx → Elt F .f32 //
    ∀ (c : Dev nD) (l : List (Fin 32)) (hl : (k0_t6_loop v22).trips = l.length) (g : S33.Idx → BitVec 32) (hg : Lists l g) (hk : k.val < l.length) (hle : l[k.val]'hk = e) (a : BitVec 32)
      (g4 : S64x3072.Idx → Elt F .i32) (g5 : S48x2048.Idx → Elt F .i32),
    iprop(pw c (whole cc0_scratch7) g ∗ pw c (whole cc0_stg0_0) d0 ∗ pw c (whole cc0_scratch4) g4 ∗ pw c (whole cc0_scratch5) g5 ∗ pw c (whole cc0_scratch6) acc ∗ inflight c (slotOf k.val) e X ∗ slotHeld c (slotNx k.val).val ∗ cells c (slotNx k.val) ∗ (∃ W, owes (c : Thread nD τ) 0 W))
      ⊢ wp frame (wpE (defs₀ (F := F)) Variants.none (c : Thread nD τ) none) Set.univ (k0_t6_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 v27 v30 k a)
        (fun r => iprop(pw c (whole cc0_scratch7) g ∗ pw c (whole cc0_stg0_0) d0 ∗ (∃ g4, pw c (whole cc0_scratch4) g4) ∗ (∃ g5, pw c (whole cc0_scratch5) g5) ∗ pw c (whole cc0_scratch6) acc' ∗ slotFull c (slotOf k.val).val e X ∗ cells c (slotOf k.val) ∗ coming c l (k.val + 1) X ∗ (∃ W, owes (c : Thread nD τ) 0 W))) } := by
  apply Subtype.mk
  intro c l hl g hg hk hle a g4 g5
  unfold k0_t6_body
  refine BIBase.Entails.trans ?_ (Wp_bind c _ _ _)
  rw [k0_part39_eq_skeleton]
  unfold k0_part39_skel
  iintro ⟨H7, H0, H4, H5, H6, HI, HS, HC, HO⟩
  iapply (wp_seq c (part1_wp c X v22 hw3 l hl g hg k hk e hle))
  isplitl [H7 HI HS HC HO]
  · isplitl [H7]; · iexact H7
    isplitl [HI]; · iexact HI
    isplitl [HS]; · iexact HS
    isplitl [HC]; · iexact HC
    iexact HO
  iintro %r ⟨%hr, H7, HF, HC, HN, HO⟩
  subst hr
  dsimp only
  unfold slotV
  icases HF with ⟨F0, F1, F2, F3⟩
  sl_exec
  sl_step
  isplitl [H7]; · iexact H7
  isplitl [H0]; · iexact H0
  isplitl [H4]; · iexists _; iexact H4
  isplitl [H5]; · iexists _; iexact H5
  isplitl [H6]; · iexact H6
  isplitl [F0 F1 F2 F3]
  · iapply (show slotV c (k.val % 2) (slot_lt _) e X ⊢ slotFull c (slotOf k.val).val e X from Entails.of_eq (slotV_eq c (k.val % 2) (slot_lt _) e X).symm)
    unfold slotV
    isplitl [F0]; · iexact F0
    isplitl [F1]; · iexact F1
    isplitl [F2]; · iexact F2
    iexact F3
  isplitl [HC]; · iexact HC
  isplitl [HN]; · iexact HN
  iexact HO

end Cert.KernelIdeal.Hand

end
-- ==== Proof.LoopI.lean ====
/-
  The kernel: its main loop over the listed experts, and the whole body.
-/
module

public import proofs.«01_k».proof.Proof.TripI

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The first expert, -/
def firstOf (d1 : S8x16.Idx → BitVec 32) : Fin 32 := Fin.ofNat 32 (d1 (ix2 0 0)).toNat
/-- the word marking the used ones, -/
def markOf (d1 : S8x16.Idx → BitVec 32) : BitVec 32 := by
  classical exact if h : ∃ w, Marks d1 128 w then h.choose else 0#32
/-- that word without the first, -/
def restOf (d1 : S8x16.Idx → BitVec 32) : BitVec 32 := Scalar.andi (markOf d1) (Scalar.xori (Scalar.shli 1#32 (BitVec.ofNat 32 (firstOf d1).val)) 4294967295#32)
/-- the order in which they are taken, -/
def ordOf (d1 : S8x16.Idx → BitVec 32) : List (Fin 32) := orderOf (firstOf d1) (restOf d1) 32
/-- and their number. -/
def cntOf (d1 : S8x16.Idx → BitVec 32) : BitVec 32 := BitVec.ofNat 32 (ordOf d1).length

theorem marks_unique (d1 : S8x16.Idx → BitVec 32) (w w' : BitVec 32) (h : Marks d1 128 w) (h' : Marks d1 128 w') : w = w' := by
  apply BitVec.eq_of_getLsbD_eq
  intro e he
  exact Bool.eq_iff_iff.mpr ((h e he).trans (h' e he).symm)
theorem markOf_eq (d1 : S8x16.Idx → BitVec 32) (w : BitVec 32) (h : Marks d1 128 w) : markOf d1 = w := by
  have hex : ∃ w, Marks d1 128 w := ⟨w, h⟩
  unfold markOf
  rw [dif_pos hex]
  exact marks_unique d1 _ _ hex.choose_spec h

theorem rest_bit (w : BitVec 32) (e0 e : Fin 32) :
    (Scalar.andi w (Scalar.xori (Scalar.shli 1#32 (BitVec.ofNat 32 e0.val)) 4294967295#32)).getLsbD e.val = (w.getLsbD e.val && !decide (e0 = e)) := by
  show (w &&& (Scalar.shli 1#32 (BitVec.ofNat 32 e0.val) ^^^ 4294967295#32)).getLsbD e.val = _
  have h0 : (BitVec.ofNat 32 e0.val).toNat = e0.val := by rw [BitVec.toNat_ofNat]; have := e0.isLt; omega
  have h := bit_one_shl (BitVec.ofNat 32 e0.val) (by rw [h0]; exact e0.isLt) e.val e.isLt
  have h1 : (4294967295#32).getLsbD e.val = true := by clear h h0; revert e; decide
  rw [BitVec.getLsbD_and, BitVec.getLsbD_xor, h1, Bool.xor_true]
  congr 2
  rw [h0] at h
  by_cases he : e0 = e
  · subst he; simpa using h.mpr rfl
  · have : ¬ e0.val = e.val := fun h => he (Fin.ext h)
    rw [decide_eq_false he]
    exact Bool.eq_false_iff.mpr fun h' => this (h.mp h')

/-! ## The main loop -/

/-- The accumulator when trip `k` starts. -/
def accN (X : Wts F) (v22 : BitVec 32) (hw3 : k0_chk3 v22) (l : List (Fin 32)) (d0 : S16x2048.Idx → Elt F .bf16) (v27 : Vec F S8x16 .i32) (v30 : Vec F S8x16 .f32) : ℕ → (S16x2048.Idx → Elt F .f32)
  | 0 => k0_pay1 (F := F)
  | k + 1 => if h : k < (k0_t6_loop v22).trips ∧ k < l.length then (trip_run X v22 hw3 ⟨k, h.1⟩ (l[k]'h.2) d0 v27 v30 (accN X v22 hw3 l d0 v27 v30 k)).1 else accN X v22 hw3 l d0 v27 v30 k

/-- What the main loop keeps. -/
def loopInv (X : Wts F) (v22 : BitVec 32) (hw3 : k0_chk3 v22) (l : List (Fin 32)) (g : S33.Idx → BitVec 32) (d0 : S16x2048.Idx → Elt F .bf16) (v27 : Vec F S8x16 .i32) (v30 : Vec F S8x16 .f32) (k : ℕ) : sProp 𝕄 :=
  iprop(pw c (whole cc0_scratch7) g ∗ pw c (whole cc0_stg0_0) d0 ∗ (∃ g4, pw c (whole cc0_scratch4) g4) ∗ (∃ g5, pw c (whole cc0_scratch5) g5) ∗ pw c (whole cc0_scratch6) (accN X v22 hw3 l d0 v27 v30 k) ∗ coming c l k X ∗ slotHeld c (slotNx k).val ∗ cells c (slotNx k) ∗ (∃ W, owes (c : Thread nD τ) 0 W))

theorem main_wp (X : Wts F) (v22 : BitVec 32) (hw3 : k0_chk3 v22) (l : List (Fin 32)) (hl : (k0_t6_loop v22).trips = l.length) (g : S33.Idx → BitVec 32) (hg : Lists l g)
    (d0 : S16x2048.Idx → Elt F .bf16) (v27 : Vec F S8x16 .i32) (v30 : Vec F S8x16 .f32) :
    loopInv c X v22 hw3 l g d0 v27 v30 0 ⊢ wp frame (wpE (defs₀ (F := F)) Variants.none (c : Thread nD τ) none) Set.univ (Scf.Loop.for (k0_t6_loop v22) (k0_t6_ok v22 hw3) 0#32 (k0_t6_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 v27 v30))
      (fun _ => loopInv c X v22 hw3 l g d0 v27 v30 l.length) := by
  refine BIBase.Entails.trans ?_ (Scf.wp_for frame _ Set.univ _ _ _ (k0_t6_ok v22 hw3) _ _ (fun k _ => loopInv c X v22 hw3 l g d0 v27 v30 k) ?_)
  · iintro H
    isplitl [H]; · iexact H
    iintro %acc H
    iapply (show loopInv c X v22 hw3 l g d0 v27 v30 (Scf.trips (k0_t6_loop v22).lb (k0_t6_loop v22).ub (k0_t6_loop v22).st) ⊢ loopInv c X v22 hw3 l g d0 v27 v30 l.length from Entails.of_eq (congrArg _ hl))
    iexact H
  intro k a
  have hk : k.val < l.length := lt_of_lt_of_eq k.isLt hl
  unfold loopInv
  refine BIBase.Entails.trans ?_ (wp_mono _ _ _ (fun r => ?_) (Q := fun _ => iprop(pw c (whole cc0_scratch7) g ∗ pw c (whole cc0_stg0_0) d0 ∗ (∃ g4, pw c (whole cc0_scratch4) g4) ∗ (∃ g5, pw c (whole cc0_scratch5) g5) ∗ pw c (whole cc0_scratch6) (trip_run X v22 hw3 k (l[k.val]'hk) d0 v27 v30 (accN X v22 hw3 l d0 v27 v30 k.val)).1 ∗ slotFull c (slotOf k.val).val (l[k.val]'hk) X ∗ cells c (slotOf k.val) ∗ coming c l (k.val+1) X ∗ (∃ W, owes (c : Thread nD τ) 0 W))))
  · iintro ⟨H7, H0, ⟨%g4, H4⟩, ⟨%g5, H5⟩, H6, HI, HS, HC, HO⟩
    iapply ((trip_run X v22 hw3 k (l[k.val]'hk) d0 v27 v30 (accN X v22 hw3 l d0 v27 v30 k.val)).2 c l hl g hg hk rfl a g4 g5)
    isplitl [H7]; · iexact H7
    isplitl [H0]; · iexact H0
    isplitl [H4]; · iexact H4
    isplitl [H5]; · iexact H5
    isplitl [H6]; · iexact H6
    isplitl [HI]
    · iapply (show coming c l k.val X ⊢ inflight c (slotOf k.val) (l[k.val]'hk) X from Entails.of_eq (by unfold coming; rw [dif_pos hk]))
      iexact HI
    isplitl [HS]; · iexact HS
    isplitl [HC]; · iexact HC
    iexact HO
  iintro ⟨H7, H0, H4, H5, H6, HF, HC, HN, HO⟩
  isplitl [H7]; · iexact H7
  isplitl [H0]; · iexact H0
  isplitl [H4]; · iexact H4
  isplitl [H5]; · iexact H5
  isplitl [H6]
  · iapply (show pw c (whole cc0_scratch6) (trip_run X v22 hw3 k (l[k.val]'hk) d0 v27 v30 (accN X v22 hw3 l d0 v27 v30 k.val)).1 ⊢ pw c (whole cc0_scratch6) (accN X v22 hw3 l d0 v27 v30 (k.val + 1)) from Entails.of_eq (by rw [accN, dif_pos ⟨k.isLt, hk⟩]))
    iexact H6
  isplitl [HN]; · iexact HN
  isplitl [HF]
  · iapply (show slotFull c (slotOf k.val).val (l[k.val]'hk) X ⊢ slotHeld c (slotNx (k.val + 1)).val from by rw [slotOf_two]; exact slotFull_held c _ _ X)
    iexact HF
  isplitl [HC]
  · iapply (show cells c (slotOf k.val) ⊢ cells c (slotNx (k.val + 1)) from by rw [slotOf_two])
    iexact HC
  iexact HO

end Cert.KernelIdeal.Hand

end
-- ==== Proof.BodyI.lean ====
/-
  The whole body of the kernel.
-/
module

public import proofs.«01_k».proof.Proof.LoopI
public import Idealize.ShloMosaic.Lib.VecWindow

@[expose] public section

noncomputable section

namespace Cert.KernelIdeal.Hand

open Cert.KernelIdeal Cert.KernelIdeal.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- What the kernel leaves in its result. -/
def outOf (X : Wts F) (d0 : S16x2048.Idx → Elt F .bf16) (d1 : S8x16.Idx → BitVec 32) (d2 : Vec F S8x16 .i32) (d3 : Vec F S8x16 .f32) : S16x2048.Idx → Elt F .bf16 := by
  classical exact if h : k0_chk3 (cntOf d1) then k0_pay6 (accN X (cntOf d1) h (ordOf d1) d0 d2 d3 (ordOf d1).length) else k0_pay6 (k0_pay1 (F := F))

theorem outOf_eq (X : Wts F) (d0 : S16x2048.Idx → Elt F .bf16) (d1 : S8x16.Idx → BitVec 32) (d2 : Vec F S8x16 .i32) (d3 : Vec F S8x16 .f32)
    (w v v22 : BitVec 32) (e : Fin 32) (l : List (Fin 32)) (hm : Marks d1 128 w) (hv : v.toNat = e.val) (he : e.val = (d1 (ix2 0 0)).toNat)
    (hl : l = orderOf e (Scalar.andi w (Scalar.xori (Scalar.shli 1#32 v) 4294967295#32)) 32) (hn : v22.toNat = l.length) (hw3 : k0_chk3 v22) :
    outOf X d0 d1 d2 d3 = k0_pay6 (accN X v22 hw3 l d0 d2 d3 l.length) := by
  have e1 : firstOf d1 = e := by
    apply Fin.ext
    show (d1 (ix2 0 0)).toNat % 32 = e.val
    rw [← he]; exact Nat.mod_eq_of_lt e.isLt
  have e2 : markOf d1 = w := markOf_eq d1 w hm
  have e3 : v = BitVec.ofNat 32 e.val := BitVec.eq_of_toNat_eq (by rw [hv, BitVec.toNat_ofNat]; have := e.isLt; omega)
  have e4 : l = ordOf d1 := by rw [hl]; unfold ordOf restOf; rw [e1, e2, e3]
  have e5 : v22 = cntOf d1 := BitVec.eq_of_toNat_eq (by unfold cntOf; rw [hn, e4, BitVec.toNat_ofNat]; have := v22.isLt; rw [hn, e4] at this; omega)
  subst e5
  clear hl
  subst e4
  unfold outOf
  rw [dif_pos hw3]

theorem slots_all (n : ℕ) : iprop(slotHeld c (slotOf n).val ∗ slotHeld c (slotNx n).val) ⊢ (iprop((∃ g, pt c cc0_scratch0 Finset.univ g) ∗ (∃ g, pt c cc0_scratch1 Finset.univ g) ∗ (∃ g, pt c cc0_scratch2 Finset.univ g) ∗ (∃ g, pt c cc0_scratch3 Finset.univ g)) : sProp 𝕄) := by
  rcases Nat.mod_two_eq_zero_or_one n with h | h
  · have e1 : (slotOf n).val = 0 := h
    have e2 : (slotNx n).val = 1 := by show 1 - n % 2 = 1; omega
    rw [e1, e2]; exact slots_join c
  · have e1 : (slotOf n).val = 1 := h
    have e2 : (slotNx n).val = 0 := by show 1 - n % 2 = 0; omega
    rw [e1, e2]
    iintro ⟨A, B⟩
    iapply (slots_join c)
    isplitl [B]; · iexact B
    iexact A
theorem cells_all (n : ℕ) : iprop(cells c (slotOf n) ∗ cells c (slotNx n)) ⊢ (iprop(cells c 0 ∗ cells c 1) : sProp 𝕄) := by
  rcases Nat.mod_two_eq_zero_or_one n with h | h
  · have e1 : slotOf n = 0 := Fin.ext h
    have e2 : slotNx n = 1 := Fin.ext (by show 1 - n % 2 = 1; omega)
    rw [e1, e2]
  · have e1 : slotOf n = 1 := Fin.ext h
    have e2 : slotNx n = 0 := Fin.ext (by show 1 - n % 2 = 0; omega)
    rw [e1, e2]
    iintro ⟨A, B⟩
    isplitl [B]; · iexact B
    iexact A

/-- What the body is given besides its operands: the buffers, the counters and the four arrays. -/
def outside (X : Wts F) : sProp 𝕄 :=
  iprop(((∃ g, pt c cc0_scratch0 Finset.univ g) ∗ (∃ g, pt c cc0_scratch1 Finset.univ g) ∗ (∃ g, pt c cc0_scratch2 Finset.univ g) ∗ (∃ g, pt c cc0_scratch3 Finset.univ g)) ∗ (∃ g, pw c (whole cc0_scratch4) g) ∗ (∃ g, pw c (whole cc0_scratch5) g) ∗ (∃ g, pw c (whole cc0_scratch6) g) ∗ (∃ g, pw c (whole cc0_scratch7) g) ∗ cells c 0 ∗ cells c 1 ∗ arrays c X ∗ (∃ W, owes (c : Thread nD τ) 0 W))

theorem ld6 (f : S16x2048.Idx → Elt F .f32) : (View.readAt (Elt F) (whole cc0_scratch6 : Memref sig .tc .vmem S16x2048 .f32).view (Rect.unit (s := S16x2048) ![0, 0] S16x2048.size inb_S16x2048_S16x2048_0_0).toLoadRect f) = f :=
  (View.readAt_full (whole cc0_scratch6 : Memref sig .tc .vmem S16x2048 .f32).view f inb_S16x2048_S16x2048_0_0).trans (View.read_whole cc0_scratch6 f)
theorem ld2 (f : S8x16.Idx → Elt F .i32) : (View.readAt (Elt F) (whole cc0_stg2_0 : Memref sig .tc .vmem S8x16 .i32).view (Rect.unit (s := S8x16) ![0, 0] S8x16.size inb_S8x16_S8x16_0_0).toLoadRect f) = f :=
  (View.readAt_full (whole cc0_stg2_0 : Memref sig .tc .vmem S8x16 .i32).view f inb_S8x16_S8x16_0_0).trans (View.read_whole cc0_stg2_0 f)
theorem ld3 (f : S8x16.Idx → Elt F .f32) : (View.readAt (Elt F) (whole cc0_stg3_0 : Memref sig .tc .vmem S8x16 .f32).view (Rect.unit (s := S8x16) ![0, 0] S8x16.size inb_S8x16_S8x16_0_0).toLoadRect f) = f :=
  (View.readAt_full (whole cc0_stg3_0 : Memref sig .tc .vmem S8x16 .f32).view f inb_S8x16_S8x16_0_0).trans (View.read_whole cc0_stg3_0 f)
theorem acc_full (f : S16x2048.Idx → Elt F .f32) (w : S16x2048.Idx → Elt F .f32) (L : List (View.Piece (Elt F) S16x2048 .f32)) :
    (whole cc0_scratch6 : Memref sig .tc .vmem S16x2048 .f32).view.writes (Elt F) f (⟨Rect.unit (s := S16x2048) ![0, 0] S16x2048.size inb_S16x2048_S16x2048_0_0, w⟩ :: L) = w :=
  (View.read_whole cc0_scratch6 _).symm.trans (View.read_writes_full (whole cc0_scratch6 : Memref sig .tc .vmem S16x2048 .f32).view f inb_S16x2048_S16x2048_0_0 w L)
theorem out_full (f : S16x2048.Idx → Elt F .bf16) (w : S16x2048.Idx → Elt F .bf16) (L : List (View.Piece (Elt F) S16x2048 .bf16)) :
    (whole cc0_stg4_0 : Memref sig .tc .vmem S16x2048 .bf16).view.writes (Elt F) f (⟨Rect.unit (s := S16x2048) ![0, 0] S16x2048.size inb_S16x2048_S16x2048_0_0, w⟩ :: L) = w :=
  (View.read_whole cc0_stg4_0 _).symm.trans (View.read_writes_full (whole cc0_stg4_0 : Memref sig .tc .vmem S16x2048 .bf16).view f inb_S16x2048_S16x2048_0_0 w L)

set_option maxHeartbeats 400000 in
/-- The body: from its operands to its result. -/
theorem body_wp (X : Wts F) (d0 : S16x2048.Idx → Elt F .bf16) (d1 : S8x16.Idx → BitVec 32) (d2 : Vec F S8x16 .i32) (d3 : Vec F S8x16 .f32) (hd : ∀ y, (d1 y).toNat < 32) :
    iprop(pw c (whole cc0_stg0_0) d0 ∗ pw c (whole cc0_stg1_0) d1 ∗ pw c (whole cc0_stg2_0) d2 ∗ pw c (whole cc0_stg3_0) d3 ∗ (∃ g, pw c (whole cc0_stg4_0) g) ∗ outside c X)
      ⊢ wp frame (wpE (defs₀ (F := F)) Variants.none (c : Thread nD τ) none) Set.univ (cc0_moe_mxfp4 (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8)
        (fun _ => iprop(pw c (whole cc0_stg0_0) d0 ∗ pw c (whole cc0_stg1_0) d1 ∗ pw c (whole cc0_stg2_0) d2 ∗ pw c (whole cc0_stg3_0) d3 ∗ pw c (whole cc0_stg4_0) (outOf X d0 d1 d2 d3) ∗ outside c X)) := by
  rw [cc0_moe_mxfp4_eq_skeleton]
  unfold cc0_moe_mxfp4_skel outside
  iintro ⟨H0, H1, H2, H3, ⟨%g8, H8⟩, ⟨S0, S1, S2, S3⟩, ⟨%g4, K4⟩, ⟨%g5, K5⟩, ⟨%g6, K6⟩, K7, C0, C1, HA, HO⟩
  ihave HS := (slots_split c) $$ [S0 S1 S2 S3]
  · isplitl [S0]; · iexact S0
    isplitl [S1]; · iexact S1
    isplitl [S2]; · iexact S2
    iexact S3
  icases HS with ⟨L0, L1⟩
  iapply (wp_seq c (part79_wp c X d1 hd))
  isplitl [H1 K7 L0 C0 HA]
  · isplitl [H1]; · iexact H1
    isplitl [K7]; · iexact K7
    isplitl [L0]; · iexact L0
    isplitl [C0]; · iexact C0
    iexact HA
  iintro %r ⟨%e, %g, %hr, H1, K7, HI⟩
  obtain ⟨w, q⟩ := r
  obtain ⟨hm, ⟨v, hv, hq⟩, hg, he⟩ := hr
  dsimp only at hm hq
  subst hq
  dsimp only
  have hb : (Scalar.andi w (Scalar.xori (Scalar.shli 1#32 v) 4294967295#32)).getLsbD e.val = false := by
    have e3 : v = BitVec.ofNat 32 e.val := BitVec.eq_of_toNat_eq (by rw [hv, BitVec.toNat_ofNat]; have := e.isLt; omega)
    rw [e3, rest_bit]; simp
  iapply (wp_seq c (order_wp c e _ hb g hg))
  isplitl [K7]; · iexact K7
  iintro %v22 ⟨%g7, %l, %hl, K7⟩
  obtain ⟨hl, hu, hL⟩ := hl
  have hn : v22.toNat = l.length := hu.len
  have hlt := hu.le
  have hw3 := k0_chk3_of v22 (by omega)
  have htr : (k0_t6_loop v22).trips = l.length := by rw [t6_trips_nat v22 (by omega), hn]
  sl_exec (disch := exact hw3)
  iapply (wp_seq c (main_wp c X v22 hw3 l htr g7 hL d0 (View.readAt (Elt F) (whole cc0_stg2_0 : Memref sig .tc .vmem S8x16 .i32).view (Rect.unit (s := S8x16) ![0, 0] S8x16.size inb_S8x16_S8x16_0_0).toLoadRect d2) (View.readAt (Elt F) (whole cc0_stg3_0 : Memref sig .tc .vmem S8x16 .f32).view (Rect.unit (s := S8x16) ![0, 0] S8x16.size inb_S8x16_S8x16_0_0).toLoadRect d3)))
  isplitl [K7 H0 K4 K5 K6 HI L1 C1 HO]
  · unfold loopInv
    isplitl [K7]; · iexact K7
    isplitl [H0]; · iexact H0
    isplitl [K4]; · iexists _; iexact K4
    isplitl [K5]; · iexists _; iexact K5
    isplitl [K6]
    · iapply (show pw c (whole cc0_scratch6) ((whole cc0_scratch6 : Memref sig .tc .vmem S16x2048 .f32).view.writes (Elt F) (whole cc0_scratch6).view.junk body_wp.sl.K6_1) ⊢ pw c (whole cc0_scratch6) (k0_pay1 (F := F)) from
        Entails.of_eq (congrArg (pw c (whole cc0_scratch6)) (by unfold body_wp.sl.K6_1; exact acc_full _ _ _)))
      iexact K6
    isplitl [HI]
    · iapply (show inflight c 0 e X ⊢ coming c l 0 X from by
        obtain ⟨r, hr⟩ := hu.hd
        subst hr
        exact Entails.of_eq (by unfold coming; rw [dif_pos (show 0 < (e :: r).length from Nat.succ_pos _)]; rfl))
      iexact HI
    isplitl [L1]; · iexact L1
    isplitl [C1]; · iexact C1
    iexact HO
  iintro %v38 HL
  unfold loopInv
  icases HL with ⟨K7, H0, ⟨%g4, K4⟩, ⟨%g5, K5⟩, K6, HI, HS, HC, HO⟩
  ihave HI := (show coming c l l.length X ⊢ iprop(slotHeld c (slotOf l.length).val ∗ cells c (slotOf l.length) ∗ arrays c X) from Entails.of_eq (by unfold coming; rw [dif_neg (Nat.lt_irrefl _)])) $$ HI
  icases HI with ⟨HT, HD, HA⟩
  sl_exec
  sl_step
  isplitl [H0]; · iexact H0
  isplitl [H1]; · iexact H1
  isplitl [H2]; · iexact H2
  isplitl [H3]; · iexact H3
  isplitl [H8]
  · iapply (show pw c (whole cc0_stg4_0) ((whole cc0_stg4_0 : Memref sig .tc .vmem S16x2048 .bf16).view.writes (Elt F) g8 [⟨Rect.unit (s := S16x2048) ![0, 0] S16x2048.size inb_S16x2048_S16x2048_0_0, k0_pay6 (body_wp.sl.v40 X d0 d2 d3 v22 l hw3)⟩]) ⊢ pw c (whole cc0_stg4_0) (outOf X d0 d1 d2 d3) from
      Entails.of_eq (congrArg (pw c (whole cc0_stg4_0)) ((out_full _ _ _).trans (by
        unfold body_wp.sl.v40
        rw [ld6, ld2, ld3, outOf_eq X d0 d1 d2 d3 w v v22 e l hm hv he hl hn hw3]))))
    iexact H8
  isplitl [HS HT]
  · iapply (slots_all c l.length)
    isplitl [HT]; · iexact HT
    iexact HS
  isplitl [K4]; · iexists _; iexact K4
  isplitl [K5]; · iexists _; iexact K5
  isplitl [K6]; · iexists _; iexact K6
  isplitl [K7]; · iexists _; iexact K7
  ihave HC := (cells_all c l.length) $$ [HC HD]
  · isplitl [HD]; · iexact HD
    iexact HC
  icases HC with ⟨C0, C1⟩
  isplitl [C0]; · iexact C0
  isplitl [C1]; · iexact C1
  isplitl [HA]; · iexact HA
  iexact HO

end Cert.KernelIdeal.Hand

end
-- ==== Proof.FrameI.lean ====
/-
  The frame of the kernel, and what its run leaves.
-/
module

public import proofs.«01_k».proof.Proof.BodyI
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-! ## @main around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays the body's transfers read. -/
def H0 : Finset (Ref sig .tc) := {main_v5, main_v6, main_v7, main_v8}
theorem H0_sub : H0 ⊆ Pipeline.restRefs sig spec0 := by decide
theorem sfx_subH : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb hmem
  rw [StableHlo.reshape_bufs] at hmem
  simp only [Finset.mem_insert, Finset.mem_singleton] at hmem
  simp only [H0, Finset.mem_insert, Finset.mem_singleton] at hb
  rcases hb with rfl | rfl | rfl | rfl <;> rcases hmem with h | h <;> exact absurd h (StableHlo.devRef_ne_of_ne (by decide))

theorem W_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
theorem W_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
theorem W_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
theorem W_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
theorem W_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The invariant -/

/-- The body's eight counters. -/
abbrev osem0 : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl
theorem hbmPts0_eq (c : Dev nD) :
    (bigSep H0 (fun b => ((c : Thread nD τ).loc b) ↦{fullShare} V m c b) : sProp 𝕄) = iprop((((c : Thread nD τ).loc main_v5) ↦{fullShare} V m c main_v5) ∗ (((c : Thread nD τ).loc main_v6) ↦{fullShare} V m c main_v6) ∗ (((c : Thread nD τ).loc main_v7) ↦{fullShare} V m c main_v7) ∗ (((c : Thread nD τ).loc main_v8) ↦{fullShare} V m c main_v8)) := by
  rw [BI.bigSep_eq_bigSepL_of_eq [main_v5, main_v6, main_v7, main_v8] (by decide) (by decide)]; rfl

/-- The four arrays as the body finds them. -/
def wts (c : Dev nD) : Wts F := ⟨V m c main_v5, V m c main_v6, V m c main_v7, V m c main_v8⟩

theorem cells_list (c : Dev nD) : (iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) : sProp 𝕄) ⊢ iprop(cells c 0 ∗ cells c 1) := by
  unfold cells
  iintro ⟨H5, H6, H7, H8, H9, H10, H11, H12⟩
  isplitl [H5 H7 H9 H11]
  · isplitl [H5]; · iexact H5
    isplitl [H7]; · iexact H7
    isplitl [H9]; · iexact H9
    iexact H11
  isplitl [H6]; · iexact H6
  isplitl [H8]; · iexact H8
  isplitl [H10]; · iexact H10
  iexact H12
theorem list_cells (c : Dev nD) : iprop(cells c 0 ∗ cells c 1) ⊢ (iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) : sProp 𝕄) := by
  unfold cells
  iintro ⟨⟨H5, H7, H9, H11⟩, ⟨H6, H8, H10, H12⟩⟩
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem PhiD_out (c : Dev nD) : (iprop(Pipeline.ΦD osem0 spec0 H0 (V m) c ∗ (∃ W, owes (c : Thread nD τ) 0 W)) : sProp 𝕄) ⊢ iprop((∃ r, prngReg c r) ∗ outside c (wts m c)) := by
  rw [Pipeline.ΦD_eq, scopedRest0_eq, ownSems00_eq, hbmPts0_eq]
  unfold outside arrays
  iintro ⟨⟨⟨S0, S1, S2, S3, S4, S5, S6, S7⟩, Hg, HQ, HA⟩, HW⟩
  isplitl [Hg]; · iexact Hg
  isplitl [S0 S1 S2 S3]
  · isplitl [S0]; · iexact S0
    isplitl [S1]; · iexact S1
    isplitl [S2]; · iexact S2
    iexact S3
  isplitl [S4]; · iexact S4
  isplitl [S5]; · iexact S5
  isplitl [S6]; · iexact S6
  isplitl [S7]; · iexact S7
  ihave HQ := (cells_list c) $$ HQ
  icases HQ with ⟨C0, C1⟩
  isplitl [C0]; · iexact C0
  isplitl [C1]; · iexact C1
  isplitl [HA]; · iexact HA
  iexact HW
theorem out_PhiD (c : Dev nD) : iprop((∃ r, prngReg c r) ∗ outside c (wts m c)) ⊢ (iprop(Pipeline.ΦD osem0 spec0 H0 (V m) c ∗ (∃ W, owes (c : Thread nD τ) 0 W)) : sProp 𝕄) := by
  rw [Pipeline.ΦD_eq, scopedRest0_eq, ownSems00_eq, hbmPts0_eq]
  unfold outside arrays
  iintro ⟨Hg, ⟨S0, S1, S2, S3⟩, S4, S5, S6, S7, C0, C1, HA, HW⟩
  isplitr [HW]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Hg]; · iexact Hg
    isplitl [C0 C1]
    · iapply (list_cells c)
      isplitl [C0]; · iexact C0
      iexact C1
    iexact HA
  iexact HW

/-! ## The body at its point -/

/-- What the body leaves in its result, on core `c`. -/
def outAt (c : Dev nD) (t : Fin cfg0.N) : Vec F S16x2048 .bf16 :=
  outOf (wts m c) (iblk m c 0 t) (iblk m c 1 t) (iblk m c 2 t) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t := before_0 m (dats m 0 c) (A_eq m c 0) (after_0 m c) t d
theorem bef_1 (c : Dev nD) (t : Fin cfg0.N) (d) : (dats m 0 c).before 1 t d = iblk m c 1 t := before_1 m (dats m 0 c) (A_eq m c 1) (after_1 m c) t d
theorem bef_2 (c : Dev nD) (t : Fin cfg0.N) (d) : (dats m 0 c).before 2 t d = iblk m c 2 t := before_2 m (dats m 0 c) (A_eq m c 2) (after_2 m c) t d
theorem bef_3 (c : Dev nD) (t : Fin cfg0.N) (d) : (dats m 0 c).before 3 t d = iblk m c 3 t := before_3 m (dats m 0 c) (A_eq m c 3) (after_3 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

theorem own_0 (c : Dev nD) (t : Fin cfg0.N) (f : S16x2048.Idx → Elt F .bf16) : (owns (c : Thread nD τ) (st0_0 t) fullShare f : sProp 𝕄) = pw c (Memref.whole cc0_stg0_0) f :=
  owns_whole (c : Thread nD τ) cc0_stg0_0 fullShare f
theorem own_1 (c : Dev nD) (t : Fin cfg0.N) (f : S8x16.Idx → Elt F .i32) : (owns (c : Thread nD τ) (st0_1 t) fullShare f : sProp 𝕄) = pw c (Memref.whole cc0_stg1_0) f :=
  owns_whole (c : Thread nD τ) cc0_stg1_0 fullShare f
theorem own_2 (c : Dev nD) (t : Fin cfg0.N) (f : S8x16.Idx → Elt F .i32) : (owns (c : Thread nD τ) (st0_2 t) fullShare f : sProp 𝕄) = pw c (Memref.whole cc0_stg2_0) f :=
  owns_whole (c : Thread nD τ) cc0_stg2_0 fullShare f
theorem own_3 (c : Dev nD) (t : Fin cfg0.N) (f : S8x16.Idx → Elt F .f32) : (owns (c : Thread nD τ) (st0_3 t) fullShare f : sProp 𝕄) = pw c (Memref.whole cc0_stg3_0) f :=
  owns_whole (c : Thread nD τ) cc0_stg3_0 fullShare f
theorem own_4 (c : Dev nD) (t : Fin cfg0.N) (f : S16x2048.Idx → Elt F .bf16) : (owns (c : Thread nD τ) (st0_4 t) fullShare f : sProp 𝕄) = pw c (Memref.whole cc0_stg4_0) f :=
  owns_whole (c : Thread nD τ) cc0_stg4_0 fullShare f

theorem sound_body (hids : ∀ c t y, (iblk m c 1 t y : BitVec 32).toNat < 32) (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl,
    after_0, after_1, after_2, after_3, after_4]
  simp only [bef_0, bef_1, bef_2, bef_3]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩⟩
  ihave HO := (PhiD_out m c) $$ [HP HW]
  · isplitl [HP]; · iexact HP
    iexists W; iexact HW
  icases HO with ⟨Hg, HO⟩
  ihave H0 := (Entails.of_eq (own_0 c t _)) $$ H0
  ihave H1 := (Entails.of_eq (own_1 c t _)) $$ H1
  ihave H2 := (Entails.of_eq (own_2 c t _)) $$ H2
  ihave H3 := (Entails.of_eq (own_3 c t _)) $$ H3
  ihave H4 := (Entails.of_eq (own_4 c t _)) $$ H4
  iapply (wp_wand_r frame (wpE (defs₀ (F := F)) Variants.none (c : Thread nD τ) none) Set.univ)
  isplitl [H0 H1 H2 H3 H4 HO]
  · iapply (body_wp c (wts m c) (iblk m c 0 t) (iblk m c 1 t) (iblk m c 2 t) (iblk m c 3 t) (hids c t))
    isplitl [H0]; · iexact H0
    isplitl [H1]; · iexact H1
    isplitl [H2]; · iexact H2
    isplitl [H3]; · iexact H3
    isplitl [H4]; · iexists _; iexact H4
    iexact HO
  iintro %_ ⟨H0, H1, H2, H3, H4, HO⟩
  ihave HP := (out_PhiD m c) $$ [Hg HO]
  · isplitl [Hg]; · iexact Hg
    iexact HO
  icases HP with ⟨HP, ⟨%W', HW⟩⟩
  isplitl [HP]; · iexact HP
  isplitl [HW]
  · iexists W'; isplitr; · ipureintro; exact fun _ _ => Or.inl trivial
    iexact HW
  isplitl [H0]; · iapply (Entails.of_eq (own_0 c t _).symm); iexact H0
  isplitl [H1]; · iapply (Entails.of_eq (own_1 c t _).symm); iexact H1
  isplitl [H2]; · iapply (Entails.of_eq (own_2 c t _).symm); iexact H2
  isplitl [H3]; · iapply (Entails.of_eq (own_3 c t _).symm); iexact H3
  iapply (Entails.of_eq (own_4 c t _).symm); iexact H4

theorem defs₀_row (t : Fin cfg0.N) :
    defs₀ (F := F) .tc cfg0.body (cfg0.bodyArgs t (cfg0.slots t)) = bodyAt0 t := by
  unfold defs₀; rw [Defs.onTc_tc]

theorem body_obligation (hids : ∀ c t y, (iblk m c 1 t y : BitVec 32).toNat < 32) (c : Dev nD) : BodyObligation (dats (F := F) m 0 c) (defs₀ (F := F)) Variants.none () Set.univ := fun t => by
  rw [bigSep_W0, bigSep_W0, defs₀_row]
  exact triple_restated (sound_body m hids c t) rfl .rfl fun _ => .rfl

/-! ## The run and the frame -/

set_option backward.isDefEq.respectTransparency.types false in
theorem run_main (hids : ∀ c t y, (iblk m c 1 t y : BitVec 32).toNat < 32) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m hids c).loose) (hq := fun _ _ _ => rfl)
    (howed := fun _ _ => rfl) (V₀ := V0 m) (opss := [hostOps1]) (hsub := sfx_subH) (hfresh := sfx_fresh) (hkeep := sfx_keeps)
    (hmain := hmainD m Variants.none) (hA := A_eq m)
    (hin := fun _ => .rfl) (hout := fun _ => .rfl)

theorem frame_run (hids : ∀ c t y, (iblk m c 1 t y : BitVec 32).toNat < 32) :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Pipeline.mem_restRefs_of main_arg0 (by decide) (by decide))).trans (W_arg0 m (dats m) c),
      ((h.1 c).2 main_arg1 (Pipeline.mem_restRefs_of main_arg1 (by decide) (by decide))).trans (W_arg1 m (dats m) c),
      ((h.1 c).2 main_arg2 (Pipeline.mem_restRefs_of main_arg2 (by decide) (by decide))).trans (W_arg2 m (dats m) c),
      ((h.1 c).2 main_arg3 (Pipeline.mem_restRefs_of main_arg3 (by decide) (by decide))).trans (W_arg3 m (dats m) c),
      ((h.1 c).2 main_arg4 (Pipeline.mem_restRefs_of main_arg4 (by decide) (by decide))).trans (W_arg4 m (dats m) c),
      ((h.1 c).2 main_arg5 (Pipeline.mem_restRefs_of main_arg5 (by decide) (by decide))).trans (W_arg5 m (dats m) c),
      ((h.1 c).2 main_arg6 (Pipeline.mem_restRefs_of main_arg6 (by decide) (by decide))).trans (W_arg6 m (dats m) c)⟩, h.2⟩) (run_main m ρ hids)

/-- The result a core is left with. -/
def resultOf (c : Dev nD) : Buf (Elt F) ((c : Thread nD τ).loc main_v10) := Pipeline.afterTail₀ cfgs (dats m) 0 (V0 m) [hostOps1] c main_v10
theorem value_run (hids : ∀ c t y, (iblk m c 1 t y : BitVec 32).toNat < 32) :
    θ_run defs (onTc (τ := τ) (main (F := F))) ⟨m, fun _ => 0, ρ⟩ (fun r => ∀ c : Dev nD, r.2.mem ((c.tc : Thread nD τ).loc main_v10) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).2 main_v10 (Pipeline.mem_restRefs_of main_v10 (by decide) (by decide)), ((h.1 c).2 main_arg0 (Pipeline.mem_restRefs_of main_arg0 (by decide) (by decide))).trans (W_arg0 m (dats m) c),
      ((h.1 c).2 main_arg1 (Pipeline.mem_restRefs_of main_arg1 (by decide) (by decide))).trans (W_arg1 m (dats m) c),
      ((h.1 c).2 main_arg2 (Pipeline.mem_restRefs_of main_arg2 (by decide) (by decide))).trans (W_arg2 m (dats m) c),
      ((h.1 c).2 main_arg3 (Pipeline.mem_restRefs_of main_arg3 (by decide) (by decide))).trans (W_arg3 m (dats m) c),
      ((h.1 c).2 main_arg4 (Pipeline.mem_restRefs_of main_arg4 (by decide) (by decide))).trans (W_arg4 m (dats m) c),
      ((h.1 c).2 main_arg5 (Pipeline.mem_restRefs_of main_arg5 (by decide) (by decide))).trans (W_arg5 m (dats m) c),
      ((h.1 c).2 main_arg6 (Pipeline.mem_restRefs_of main_arg6 (by decide) (by decide))).trans (W_arg6 m (dats m) c)⟩) (run_main m ρ hids)

end Cert.KernelIdeal.Hand

end
-- ==== Proof.IdsI.lean ====
/-
  What the precondition says of the expert numbers, and the windows as the arrays they stage.
-/
module

public import proofs.«01_k».proof.Proof.FrameI
public import proofs.«01_k».proof.Proof.Gen.Pre_ids_in_range
public import Idealize.ShloMosaic.Lib.ReduceAll
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

theorem iblk_0 (c : Dev nD) (t : Fin cfg0.N) : iblk m c 0 t = V m c main_v0 := by
  funext j
  refine congrArg (V m c main_v0) (funext fun a => Fin.ext ?_)
  show 0 * _ + 1 * (j a).val = (j a).val
  omega
theorem iblk_1 (c : Dev nD) (t : Fin cfg0.N) : iblk m c 1 t = V m c main_v2 := by
  funext j
  refine congrArg (V m c main_v2) (funext fun a => Fin.ext ?_)
  show 0 * _ + 1 * (j a).val = (j a).val
  omega
theorem iblk_2 (c : Dev nD) (t : Fin cfg0.N) : iblk m c 2 t = V m c main_v2 := by
  funext j
  refine congrArg (V m c main_v2) (funext fun a => Fin.ext ?_)
  show 0 * _ + 1 * (j a).val = (j a).val
  omega
theorem iblk_3 (c : Dev nD) (t : Fin cfg0.N) : iblk m c 3 t = V m c main_v4 := by
  funext j
  refine congrArg (V m c main_v4) (funext fun a => Fin.ext ?_)
  show 0 * _ + 1 * (j a).val = (j a).val
  omega

theorem V_v2 (c : Dev nD) : V m c main_v2 = transpose S8x16 [1, 0] (shapeCast S16x8 (m ((c : Thread nD τ).loc main_arg1)) shapeCasts_S16x1x8_S16x8) transposes_S16x8_S8x16_1_0 := by
  simp only [V, V0, List.flatten_cons, List.flatten_nil, List.append_nil, hostOps0]
  after_results
  try rfl

/-- An expert number that is at least nought and less than thirty two, read signed, is less than thirty two. -/
theorem id_lt (w : BitVec 32) (h : IntOp.andi (IntOp.cmpi .sge w 0#32) (IntOp.cmpi .slt w 32#32) = 1#1) : w.toNat < 32 := by
  have hb : ∀ a b : Bool, BitVec.ofBool a &&& BitVec.ofBool b = 1#1 → a = true ∧ b = true := by decide
  obtain ⟨h1, h2⟩ := hb _ _ h
  have h1 : (0#32 : BitVec 32).toInt ≤ w.toInt := by simpa [BitVec.sle] using h1
  have h2 : w.toInt < (32#32 : BitVec 32).toInt := by simpa [BitVec.slt] using h2
  have e0 : (0#32 : BitVec 32).toInt = 0 := by decide
  have e1 : (32#32 : BitVec 32).toInt = 32 := by decide
  rw [e0] at h1
  rw [e1] at h2
  rw [BitVec.toInt_eq_toNat_cond] at h1 h2
  have := w.isLt
  split at h1 <;> omega

theorem ids_of_pre (hPre : Cert.Pre_ids_in_range.Facts) (c : Dev nD)
    (h : Cert.Pre_ids_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)
    (i : S16x1x8.Idx) : (m ((c.tc : Thread nD τ).loc main_arg1) i : BitVec 32).toNat < 32 := by
  have h0 := congrFun h (fun a => a.elim0)
  unfold Cert.Pre_ids_in_range.fn at h0
  haveI : Subsingleton Cert.Pre_ids_in_range.S_.Idx := ⟨fun a b => funext fun k => k.elim0⟩
  exact id_lt _ (Host.reduce_andi_all _ _ _ _ _ h0 i)

theorem hids (h : ∀ (c : Dev nD) i, (m ((c.tc : Thread nD τ).loc main_arg1) i : BitVec 32).toNat < 32) (c : Dev nD) (t : Fin cfg0.N) (y) : (iblk m c 1 t y : BitVec 32).toNat < 32 := by
  rw [iblk_1, V_v2]
  exact h c _

end Cert.KernelIdeal.Hand

end
-- ==== Proof.OffK.lean ====
/-
  The offsets of the main loop's accesses in closed form, and the side conditions the kernel assumes: what each word
  has to satisfy for the conditions to hold.
-/
module

public import proofs.«01_k».proof.Proof.Gen.Kernel.Skeleton
public import proofs.«01_k».proof.Proof.Gen.Kernel.Loops
public import Idealize.ShloMosaic.Lib.Tactic
public import Idealize.ShloMosaic.Lib.Affine
public import Idealize.ShloMosaic.Lib.WordArith

@[expose] public section

namespace Cert.Kernel.Gen

open Idealize.ShloMosaic

/-- An induction variable that starts at 0 and steps by 1, as a number. -/
theorem iv01 (k : ℕ) : Scf.iv 0#32 1#32 k = BitVec.ofNat 32 k := by
  simp only [Scf.iv, BitVec.zero_add, BitVec.mul_one]

/-- The slot word of trip `k` is the parity of `k`. -/
theorem slotW (k : ℕ) : (Scalar.andi (Scf.iv 0#32 1#32 k) 1#32).toNat = k % 2 := by
  rw [iv01]
  show (BitVec.ofNat 32 k &&& 1#32).toNat = k % 2
  rw [BitVec.toNat_and, BitVec.toNat_ofNat, show (1#32).toNat = 1 from rfl, Nat.and_one_is_mod]
  omega

/-- The same word used as an index. -/
theorem slotW' (k : ℕ) : (Scalar.indexCast (Scalar.andi (Scf.iv 0#32 1#32 k) 1#32) : Index).toNat = k % 2 := slotW k

/-- The other slot. -/
theorem oslotW (k : ℕ) : (Scalar.subi 1#32 (Scalar.andi (Scf.iv 0#32 1#32 k) 1#32)).toNat = 1 - k % 2 := by
  show (1#32 - Scalar.andi (Scf.iv 0#32 1#32 k) 1#32).toNat = _
  rw [BitVec.toNat_sub, slotW]
  have : k % 2 < 2 := Nat.mod_lt _ (by decide)
  simp; omega

theorem ivN {k : ℕ} (h : k < 2 ^ 31) : (Scf.iv 0#32 1#32 k).toNat = k := by
  rw [iv01, BitVec.toNat_ofNat]; omega
theorem ivN' {k : ℕ} (h : k < 2 ^ 31) : (Scalar.indexCast (Scf.iv 0#32 1#32 k) : Index).toNat = k := ivN h
theorem ivS {k : ℕ} (h : k < 2 ^ 31) : (Scalar.addi (Scf.iv 0#32 1#32 k) 1#32).toNat = k + 1 := by
  show (Scf.iv 0#32 1#32 k + 1#32).toNat = _
  rw [BitVec.toNat_add, ivN h, show (1#32).toNat = 1 from rfl]; omega
theorem ivS' {k : ℕ} (h : k < 2 ^ 31) : (Scalar.indexCast (Scalar.addi (Scf.iv 0#32 1#32 k) 1#32) : Index).toNat = k + 1 := ivS h
theorem ivM {k : ℕ} (h : k < 24) : (Scalar.muli (Scf.iv 0#32 1#32 k) 128#32).toNat = 128 * k := by
  show (Scf.iv 0#32 1#32 k * 128#32).toNat = _
  rw [BitVec.toNat_mul, ivN (by omega), show (128#32).toNat = 128 from rfl]; omega

theorem t6_lb (v22 : BitVec 32) : (k0_t6_loop v22).lb = 0#32 := rfl
theorem t6_ub (v22 : BitVec 32) : (k0_t6_loop v22).ub = v22 := by
  show 0#32 + Scalar.muli (Scalar.divsi (v22 - 0#32) 1#32) 1#32 = v22
  simp only [Scalar.muli, Scalar.divsi, IntOp.muli, WordArith.divsi_one, BitVec.mul_one, BitVec.zero_add, BitVec.sub_zero]
/-- The main loop makes as many trips as its count says. -/
theorem t6_trips (v22 : BitVec 32) : (k0_t6_loop v22).trips = v22.toInt.toNat := by
  show Scf.trips _ _ _ = _
  rw [t6_ub]
  unfold Scf.trips
  have h1 : (1#32 : BitVec 32).toInt = 1 := by decide
  have h0 : (0#32 : BitVec 32).toInt = 0 := by decide
  show ((v22.toInt - (0#32 : BitVec 32).toInt + (1#32 : BitVec 32).toInt - 1) / (1#32 : BitVec 32).toInt).toNat = _
  rw [h1, h0]; omega
theorem t6_lt {v22 : BitVec 32} (k : Fin (k0_t6_loop v22).trips) : k.val < 2 ^ 31 := by
  have := k.isLt; have e := t6_trips v22
  have h := BitVec.toInt_lt (x := v22)
  omega
theorem t6_trips_nat (v22 : BitVec 32) (h : v22.toNat < 2 ^ 31) : (k0_t6_loop v22).trips = v22.toNat := by
  rw [t6_trips, BitVec.toInt_eq_toNat_of_lt (by omega)]; rfl
theorem t11_trips (v22 : BitVec 32) : (k0_t11_loop v22).trips = 0 := by
  show Scf.trips _ _ _ = 0
  have e : (k0_t11_loop v22).lb = (k0_t11_loop v22).ub := by
    show 0#32 + Scalar.muli (Scalar.divsi (v22 - 0#32) 1#32) 1#32 = 0#32 + (v22 - 0#32)
    simp only [Scalar.muli, Scalar.divsi, IntOp.muli, WordArith.divsi_one, BitVec.mul_one, BitVec.zero_add, BitVec.sub_zero]
  rw [show (k0_t11_loop v22).lb = (k0_t11_loop v22).ub from e]
  unfold Scf.trips
  show (((k0_t11_loop v22).ub.toInt - (k0_t11_loop v22).ub.toInt + (1#32 : BitVec 32).toInt - 1) / (1#32 : BitVec 32).toInt).toNat = 0
  have h1 : (1#32 : BitVec 32).toInt = 1 := by decide
  rw [h1]; omega
/-- The last loop makes no trip, so anything holds at one. -/
theorem t11_no {v22 : BitVec 32} {P : Prop} (k : Fin (k0_t11_loop v22).trips) : P :=
  absurd (lt_of_lt_of_eq k.isLt (t11_trips v22)) (Nat.not_lt_zero _)

theorem t1_trips : k0_t1_loop.trips = 24 := by decide +kernel
theorem t2_trips : k0_t2_loop.trips = 16 := by decide +kernel
theorem t7_trips : k0_t7_loop.trips = 24 := by decide +kernel
theorem t8_trips : k0_t8_loop.trips = 16 := by decide +kernel
theorem t9_trips : k0_t9_loop.trips = 24 := by decide +kernel
theorem t10_trips : k0_t10_loop.trips = 16 := by decide +kernel

theorem k0_off2_eq (v0 : BitVec 32) (k0_t1 : Fin k0_t1_loop.trips) : k0_off2 v0 k0_t1 = ![v0.toNat, 0, 0, 128 * k0_t1.val] := by
  unfold k0_off2; dsimp only
  rw [ivM (by have := k0_t1.isLt; have := t1_trips; omega)]
instance (v0 : BitVec 32) (k0_t1 : Fin k0_t1_loop.trips) : ClosedOff (k0_off2 v0 k0_t1) := ⟨_, k0_off2_eq ..⟩

theorem k0_off3_eq (v0 : BitVec 32) : k0_off3 v0 = ![v0.toNat, 0, 0] := by
  rfl
instance (v0 : BitVec 32) : ClosedOff (k0_off3 v0) := ⟨_, k0_off3_eq ..⟩

theorem k0_off5_eq (v0 : BitVec 32) (k0_t2 : Fin k0_t2_loop.trips) : k0_off5 v0 k0_t2 = ![v0.toNat, 0, 0, 128 * k0_t2.val] := by
  unfold k0_off5; dsimp only
  rw [ivM (by have := k0_t2.isLt; have := t2_trips; omega)]
instance (v0 : BitVec 32) (k0_t2 : Fin k0_t2_loop.trips) : ClosedOff (k0_off5 v0 k0_t2) := ⟨_, k0_off5_eq ..⟩

theorem k0_off6_eq (v0 : BitVec 32) : k0_off6 v0 = ![v0.toNat, 0, 0] := by
  rfl
instance (v0 : BitVec 32) : ClosedOff (k0_off6 v0) := ⟨_, k0_off6_eq ..⟩

theorem k0_off9_eq (v22 : BitVec 32) (k0_t6 : Fin (k0_t6_loop v22).trips) : k0_off9 v22 k0_t6 = ![k0_t6.val] := by
  unfold k0_off9; dsimp only
  rw [ivN' (t6_lt k0_t6)]
instance (v22 : BitVec 32) (k0_t6 : Fin (k0_t6_loop v22).trips) : ClosedOff (k0_off9 v22 k0_t6) := ⟨_, k0_off9_eq ..⟩

theorem k0_off10_eq (v22 : BitVec 32) (k0_t6 : Fin (k0_t6_loop v22).trips) : k0_off10 v22 k0_t6 = ![0, k0_t6.val % 2] := by
  unfold k0_off10; dsimp only
  first | rw [slotW'] | rw [slotW]
instance (v22 : BitVec 32) (k0_t6 : Fin (k0_t6_loop v22).trips) : ClosedOff (k0_off10 v22 k0_t6) := ⟨_, k0_off10_eq ..⟩

theorem k0_off11_eq (v22 : BitVec 32) (k0_t6 : Fin (k0_t6_loop v22).trips) (k0_t7 : Fin k0_t7_loop.trips) : k0_off11 v22 k0_t6 k0_t7 = ![k0_t6.val % 2, k0_t7.val, 0, 0, 0] := by
  unfold k0_off11; dsimp only
  first | rw [slotW'] | rw [slotW]
  rw [ivN (k := k0_t7.val) (by have := k0_t7.isLt; have := t7_trips; omega)]
instance (v22 : BitVec 32) (k0_t6 : Fin (k0_t6_loop v22).trips) (k0_t7 : Fin k0_t7_loop.trips) : ClosedOff (k0_off11 v22 k0_t6 k0_t7) := ⟨_, k0_off11_eq ..⟩

theorem k0_off12_eq (v45 : BitVec 32) (k0_t7 : Fin k0_t7_loop.trips) : k0_off12 v45 k0_t7 = ![v45.toNat, 0, 0, 128 * k0_t7.val] := by
  unfold k0_off12; dsimp only
  rw [ivM (by have := k0_t7.isLt; have := t7_trips; omega)]
instance (v45 : BitVec 32) (k0_t7 : Fin k0_t7_loop.trips) : ClosedOff (k0_off12 v45 k0_t7) := ⟨_, k0_off12_eq ..⟩

theorem k0_off13_eq (v22 : BitVec 32) (k0_t6 : Fin (k0_t6_loop v22).trips) : k0_off13 v22 k0_t6 = ![1, k0_t6.val % 2] := by
  unfold k0_off13; dsimp only
  first | rw [slotW'] | rw [slotW]
instance (v22 : BitVec 32) (k0_t6 : Fin (k0_t6_loop v22).trips) : ClosedOff (k0_off13 v22 k0_t6) := ⟨_, k0_off13_eq ..⟩

theorem k0_off14_eq (v22 : BitVec 32) (k0_t6 : Fin (k0_t6_loop v22).trips) : k0_off14 v22 k0_t6 = ![k0_t6.val % 2, 0, 0] := by
  unfold k0_off14; dsimp only
  first | rw [slotW'] | rw [slotW]
instance (v22 : BitVec 32) (k0_t6 : Fin (k0_t6_loop v22).trips) : ClosedOff (k0_off14 v22 k0_t6) := ⟨_, k0_off14_eq ..⟩

theorem k0_off15_eq (v45 : BitVec 32) : k0_off15 v45 = ![v45.toNat, 0, 0] := by
  rfl
instance (v45 : BitVec 32) : ClosedOff (k0_off15 v45) := ⟨_, k0_off15_eq ..⟩

theorem k0_off16_eq (v22 : BitVec 32) (k0_t6 : Fin (k0_t6_loop v22).trips) : k0_off16 v22 k0_t6 = ![2, k0_t6.val % 2] := by
  unfold k0_off16; dsimp only
  first | rw [slotW'] | rw [slotW]
instance (v22 : BitVec 32) (k0_t6 : Fin (k0_t6_loop v22).trips) : ClosedOff (k0_off16 v22 k0_t6) := ⟨_, k0_off16_eq ..⟩

theorem k0_off17_eq (v22 : BitVec 32) (k0_t6 : Fin (k0_t6_loop v22).trips) (k0_t8 : Fin k0_t8_loop.trips) : k0_off17 v22 k0_t6 k0_t8 = ![k0_t6.val % 2, k0_t8.val, 0, 0, 0] := by
  unfold k0_off17; dsimp only
  first | rw [slotW'] | rw [slotW]
  rw [ivN (k := k0_t8.val) (by have := k0_t8.isLt; have := t8_trips; omega)]
instance (v22 : BitVec 32) (k0_t6 : Fin (k0_t6_loop v22).trips) (k0_t8 : Fin k0_t8_loop.trips) : ClosedOff (k0_off17 v22 k0_t6 k0_t8) := ⟨_, k0_off17_eq ..⟩

theorem k0_off18_eq (v45 : BitVec 32) (k0_t8 : Fin k0_t8_loop.trips) : k0_off18 v45 k0_t8 = ![v45.toNat, 0, 0, 128 * k0_t8.val] := by
  unfold k0_off18; dsimp only
  rw [ivM (by have := k0_t8.isLt; have := t8_trips; omega)]
instance (v45 : BitVec 32) (k0_t8 : Fin k0_t8_loop.trips) : ClosedOff (k0_off18 v45 k0_t8) := ⟨_, k0_off18_eq ..⟩

theorem k0_off19_eq (v22 : BitVec 32) (k0_t6 : Fin (k0_t6_loop v22).trips) : k0_off19 v22 k0_t6 = ![3, k0_t6.val % 2] := by
  unfold k0_off19; dsimp only
  first | rw [slotW'] | rw [slotW]
instance (v22 : BitVec 32) (k0_t6 : Fin (k0_t6_loop v22).trips) : ClosedOff (k0_off19 v22 k0_t6) := ⟨_, k0_off19_eq ..⟩

theorem k0_off20_eq (v22 : BitVec 32) (k0_t6 : Fin (k0_t6_loop v22).trips) : k0_off20 v22 k0_t6 = ![k0_t6.val % 2, 0, 0] := by
  unfold k0_off20; dsimp only
  first | rw [slotW'] | rw [slotW]
instance (v22 : BitVec 32) (k0_t6 : Fin (k0_t6_loop v22).trips) : ClosedOff (k0_off20 v22 k0_t6) := ⟨_, k0_off20_eq ..⟩

theorem k0_off21_eq (v45 : BitVec 32) : k0_off21 v45 = ![v45.toNat, 0, 0] := by
  rfl
instance (v45 : BitVec 32) : ClosedOff (k0_off21 v45) := ⟨_, k0_off21_eq ..⟩

theorem k0_off22_eq (v22 : BitVec 32) (k0_t6 : Fin (k0_t6_loop v22).trips) : k0_off22 v22 k0_t6 = ![k0_t6.val + 1] := by
  unfold k0_off22; dsimp only
  rw [ivS' (t6_lt k0_t6)]
instance (v22 : BitVec 32) (k0_t6 : Fin (k0_t6_loop v22).trips) : ClosedOff (k0_off22 v22 k0_t6) := ⟨_, k0_off22_eq ..⟩

theorem k0_off23_eq (v22 : BitVec 32) (k0_t6 : Fin (k0_t6_loop v22).trips) : k0_off23 v22 k0_t6 = ![0, 1 - k0_t6.val % 2] := by
  unfold k0_off23; dsimp only
  rw [oslotW]
instance (v22 : BitVec 32) (k0_t6 : Fin (k0_t6_loop v22).trips) : ClosedOff (k0_off23 v22 k0_t6) := ⟨_, k0_off23_eq ..⟩

theorem k0_off24_eq (v22 : BitVec 32) (k0_t6 : Fin (k0_t6_loop v22).trips) (k0_t9 : Fin k0_t9_loop.trips) : k0_off24 v22 k0_t6 k0_t9 = ![1 - k0_t6.val % 2, k0_t9.val, 0, 0, 0] := by
  unfold k0_off24; dsimp only
  rw [oslotW]
  rw [ivN (k := k0_t9.val) (by have := k0_t9.isLt; have := t9_trips; omega)]
instance (v22 : BitVec 32) (k0_t6 : Fin (k0_t6_loop v22).trips) (k0_t9 : Fin k0_t9_loop.trips) : ClosedOff (k0_off24 v22 k0_t6 k0_t9) := ⟨_, k0_off24_eq ..⟩

theorem k0_off25_eq (v1594 : BitVec 32) (k0_t9 : Fin k0_t9_loop.trips) : k0_off25 v1594 k0_t9 = ![v1594.toNat, 0, 0, 128 * k0_t9.val] := by
  unfold k0_off25; dsimp only
  rw [ivM (by have := k0_t9.isLt; have := t9_trips; omega)]
instance (v1594 : BitVec 32) (k0_t9 : Fin k0_t9_loop.trips) : ClosedOff (k0_off25 v1594 k0_t9) := ⟨_, k0_off25_eq ..⟩

theorem k0_off26_eq (v22 : BitVec 32) (k0_t6 : Fin (k0_t6_loop v22).trips) : k0_off26 v22 k0_t6 = ![1, 1 - k0_t6.val % 2] := by
  unfold k0_off26; dsimp only
  rw [oslotW]
instance (v22 : BitVec 32) (k0_t6 : Fin (k0_t6_loop v22).trips) : ClosedOff (k0_off26 v22 k0_t6) := ⟨_, k0_off26_eq ..⟩

theorem k0_off27_eq (v22 : BitVec 32) (k0_t6 : Fin (k0_t6_loop v22).trips) : k0_off27 v22 k0_t6 = ![1 - k0_t6.val % 2, 0, 0] := by
  unfold k0_off27; dsimp only
  rw [oslotW]
instance (v22 : BitVec 32) (k0_t6 : Fin (k0_t6_loop v22).trips) : ClosedOff (k0_off27 v22 k0_t6) := ⟨_, k0_off27_eq ..⟩

theorem k0_off28_eq (v1594 : BitVec 32) : k0_off28 v1594 = ![v1594.toNat, 0, 0] := by
  rfl
instance (v1594 : BitVec 32) : ClosedOff (k0_off28 v1594) := ⟨_, k0_off28_eq ..⟩

theorem k0_off29_eq (v22 : BitVec 32) (k0_t6 : Fin (k0_t6_loop v22).trips) : k0_off29 v22 k0_t6 = ![2, 1 - k0_t6.val % 2] := by
  unfold k0_off29; dsimp only
  rw [oslotW]
instance (v22 : BitVec 32) (k0_t6 : Fin (k0_t6_loop v22).trips) : ClosedOff (k0_off29 v22 k0_t6) := ⟨_, k0_off29_eq ..⟩

theorem k0_off30_eq (v22 : BitVec 32) (k0_t6 : Fin (k0_t6_loop v22).trips) (k0_t10 : Fin k0_t10_loop.trips) : k0_off30 v22 k0_t6 k0_t10 = ![1 - k0_t6.val % 2, k0_t10.val, 0, 0, 0] := by
  unfold k0_off30; dsimp only
  rw [oslotW]
  rw [ivN (k := k0_t10.val) (by have := k0_t10.isLt; have := t10_trips; omega)]
instance (v22 : BitVec 32) (k0_t6 : Fin (k0_t6_loop v22).trips) (k0_t10 : Fin k0_t10_loop.trips) : ClosedOff (k0_off30 v22 k0_t6 k0_t10) := ⟨_, k0_off30_eq ..⟩

theorem k0_off31_eq (v1594 : BitVec 32) (k0_t10 : Fin k0_t10_loop.trips) : k0_off31 v1594 k0_t10 = ![v1594.toNat, 0, 0, 128 * k0_t10.val] := by
  unfold k0_off31; dsimp only
  rw [ivM (by have := k0_t10.isLt; have := t10_trips; omega)]
instance (v1594 : BitVec 32) (k0_t10 : Fin k0_t10_loop.trips) : ClosedOff (k0_off31 v1594 k0_t10) := ⟨_, k0_off31_eq ..⟩

theorem k0_off32_eq (v22 : BitVec 32) (k0_t6 : Fin (k0_t6_loop v22).trips) : k0_off32 v22 k0_t6 = ![3, 1 - k0_t6.val % 2] := by
  unfold k0_off32; dsimp only
  rw [oslotW]
instance (v22 : BitVec 32) (k0_t6 : Fin (k0_t6_loop v22).trips) : ClosedOff (k0_off32 v22 k0_t6) := ⟨_, k0_off32_eq ..⟩

theorem k0_off33_eq (v22 : BitVec 32) (k0_t6 : Fin (k0_t6_loop v22).trips) : k0_off33 v22 k0_t6 = ![1 - k0_t6.val % 2, 0, 0] := by
  unfold k0_off33; dsimp only
  rw [oslotW]
instance (v22 : BitVec 32) (k0_t6 : Fin (k0_t6_loop v22).trips) : ClosedOff (k0_off33 v22 k0_t6) := ⟨_, k0_off33_eq ..⟩

theorem k0_off34_eq (v1594 : BitVec 32) : k0_off34 v1594 = ![v1594.toNat, 0, 0] := by
  rfl
instance (v1594 : BitVec 32) : ClosedOff (k0_off34 v1594) := ⟨_, k0_off34_eq ..⟩

theorem k0_off35_eq (v22 : BitVec 32) (k0_t6 : Fin (k0_t6_loop v22).trips) : k0_off35 v22 k0_t6 = ![k0_t6.val % 2, 0, 0] := by
  unfold k0_off35; dsimp only
  first | rw [slotW'] | rw [slotW]
instance (v22 : BitVec 32) (k0_t6 : Fin (k0_t6_loop v22).trips) : ClosedOff (k0_off35 v22 k0_t6) := ⟨_, k0_off35_eq ..⟩

theorem k0_off36_eq (v22 : BitVec 32) (k0_t6 : Fin (k0_t6_loop v22).trips) : k0_off36 v22 k0_t6 = ![k0_t6.val % 2, 0, 256] := by
  unfold k0_off36; dsimp only
  first | rw [slotW'] | rw [slotW]
instance (v22 : BitVec 32) (k0_t6 : Fin (k0_t6_loop v22).trips) : ClosedOff (k0_off36 v22 k0_t6) := ⟨_, k0_off36_eq ..⟩

theorem k0_off37_eq (v22 : BitVec 32) (k0_t6 : Fin (k0_t6_loop v22).trips) : k0_off37 v22 k0_t6 = ![k0_t6.val % 2, 0, 512] := by
  unfold k0_off37; dsimp only
  first | rw [slotW'] | rw [slotW]
instance (v22 : BitVec 32) (k0_t6 : Fin (k0_t6_loop v22).trips) : ClosedOff (k0_off37 v22 k0_t6) := ⟨_, k0_off37_eq ..⟩

theorem k0_off38_eq (v22 : BitVec 32) (k0_t6 : Fin (k0_t6_loop v22).trips) : k0_off38 v22 k0_t6 = ![k0_t6.val % 2, 0, 768] := by
  unfold k0_off38; dsimp only
  first | rw [slotW'] | rw [slotW]
instance (v22 : BitVec 32) (k0_t6 : Fin (k0_t6_loop v22).trips) : ClosedOff (k0_off38 v22 k0_t6) := ⟨_, k0_off38_eq ..⟩

theorem k0_off39_eq (v22 : BitVec 32) (k0_t6 : Fin (k0_t6_loop v22).trips) : k0_off39 v22 k0_t6 = ![k0_t6.val % 2, 0, 1024] := by
  unfold k0_off39; dsimp only
  first | rw [slotW'] | rw [slotW]
instance (v22 : BitVec 32) (k0_t6 : Fin (k0_t6_loop v22).trips) : ClosedOff (k0_off39 v22 k0_t6) := ⟨_, k0_off39_eq ..⟩

theorem k0_off40_eq (v22 : BitVec 32) (k0_t6 : Fin (k0_t6_loop v22).trips) : k0_off40 v22 k0_t6 = ![k0_t6.val % 2, 0, 1280] := by
  unfold k0_off40; dsimp only
  first | rw [slotW'] | rw [slotW]
instance (v22 : BitVec 32) (k0_t6 : Fin (k0_t6_loop v22).trips) : ClosedOff (k0_off40 v22 k0_t6) := ⟨_, k0_off40_eq ..⟩

theorem k0_off41_eq (v22 : BitVec 32) (k0_t6 : Fin (k0_t6_loop v22).trips) : k0_off41 v22 k0_t6 = ![k0_t6.val % 2, 0, 1536] := by
  unfold k0_off41; dsimp only
  first | rw [slotW'] | rw [slotW]
instance (v22 : BitVec 32) (k0_t6 : Fin (k0_t6_loop v22).trips) : ClosedOff (k0_off41 v22 k0_t6) := ⟨_, k0_off41_eq ..⟩

theorem k0_off42_eq (v22 : BitVec 32) (k0_t6 : Fin (k0_t6_loop v22).trips) : k0_off42 v22 k0_t6 = ![k0_t6.val % 2, 0, 1792] := by
  unfold k0_off42; dsimp only
  first | rw [slotW'] | rw [slotW]
instance (v22 : BitVec 32) (k0_t6 : Fin (k0_t6_loop v22).trips) : ClosedOff (k0_off42 v22 k0_t6) := ⟨_, k0_off42_eq ..⟩

theorem k0_off43_eq (v22 : BitVec 32) (k0_t6 : Fin (k0_t6_loop v22).trips) : k0_off43 v22 k0_t6 = ![k0_t6.val % 2, 0, 2048] := by
  unfold k0_off43; dsimp only
  first | rw [slotW'] | rw [slotW]
instance (v22 : BitVec 32) (k0_t6 : Fin (k0_t6_loop v22).trips) : ClosedOff (k0_off43 v22 k0_t6) := ⟨_, k0_off43_eq ..⟩

theorem k0_off44_eq (v22 : BitVec 32) (k0_t6 : Fin (k0_t6_loop v22).trips) : k0_off44 v22 k0_t6 = ![k0_t6.val % 2, 0, 2304] := by
  unfold k0_off44; dsimp only
  first | rw [slotW'] | rw [slotW]
instance (v22 : BitVec 32) (k0_t6 : Fin (k0_t6_loop v22).trips) : ClosedOff (k0_off44 v22 k0_t6) := ⟨_, k0_off44_eq ..⟩

theorem k0_off45_eq (v22 : BitVec 32) (k0_t6 : Fin (k0_t6_loop v22).trips) : k0_off45 v22 k0_t6 = ![k0_t6.val % 2, 0, 2560] := by
  unfold k0_off45; dsimp only
  first | rw [slotW'] | rw [slotW]
instance (v22 : BitVec 32) (k0_t6 : Fin (k0_t6_loop v22).trips) : ClosedOff (k0_off45 v22 k0_t6) := ⟨_, k0_off45_eq ..⟩

theorem k0_off46_eq (v22 : BitVec 32) (k0_t6 : Fin (k0_t6_loop v22).trips) : k0_off46 v22 k0_t6 = ![k0_t6.val % 2, 0, 2816] := by
  unfold k0_off46; dsimp only
  first | rw [slotW'] | rw [slotW]
instance (v22 : BitVec 32) (k0_t6 : Fin (k0_t6_loop v22).trips) : ClosedOff (k0_off46 v22 k0_t6) := ⟨_, k0_off46_eq ..⟩

theorem k0_off47_eq (v22 : BitVec 32) (k0_t6 : Fin (k0_t6_loop v22).trips) : k0_off47 v22 k0_t6 = ![k0_t6.val % 2, 0, 0] := by
  unfold k0_off47; dsimp only
  first | rw [slotW'] | rw [slotW]
instance (v22 : BitVec 32) (k0_t6 : Fin (k0_t6_loop v22).trips) : ClosedOff (k0_off47 v22 k0_t6) := ⟨_, k0_off47_eq ..⟩

theorem k0_off48_eq (v22 : BitVec 32) (k0_t6 : Fin (k0_t6_loop v22).trips) : k0_off48 v22 k0_t6 = ![k0_t6.val % 2, 0, 256] := by
  unfold k0_off48; dsimp only
  first | rw [slotW'] | rw [slotW]
instance (v22 : BitVec 32) (k0_t6 : Fin (k0_t6_loop v22).trips) : ClosedOff (k0_off48 v22 k0_t6) := ⟨_, k0_off48_eq ..⟩

theorem k0_off49_eq (v22 : BitVec 32) (k0_t6 : Fin (k0_t6_loop v22).trips) : k0_off49 v22 k0_t6 = ![k0_t6.val % 2, 0, 512] := by
  unfold k0_off49; dsimp only
  first | rw [slotW'] | rw [slotW]
instance (v22 : BitVec 32) (k0_t6 : Fin (k0_t6_loop v22).trips) : ClosedOff (k0_off49 v22 k0_t6) := ⟨_, k0_off49_eq ..⟩

theorem k0_off50_eq (v22 : BitVec 32) (k0_t6 : Fin (k0_t6_loop v22).trips) : k0_off50 v22 k0_t6 = ![k0_t6.val % 2, 0, 768] := by
  unfold k0_off50; dsimp only
  first | rw [slotW'] | rw [slotW]
instance (v22 : BitVec 32) (k0_t6 : Fin (k0_t6_loop v22).trips) : ClosedOff (k0_off50 v22 k0_t6) := ⟨_, k0_off50_eq ..⟩

theorem k0_off51_eq (v22 : BitVec 32) (k0_t6 : Fin (k0_t6_loop v22).trips) : k0_off51 v22 k0_t6 = ![k0_t6.val % 2, 0, 1024] := by
  unfold k0_off51; dsimp only
  first | rw [slotW'] | rw [slotW]
instance (v22 : BitVec 32) (k0_t6 : Fin (k0_t6_loop v22).trips) : ClosedOff (k0_off51 v22 k0_t6) := ⟨_, k0_off51_eq ..⟩

theorem k0_off52_eq (v22 : BitVec 32) (k0_t6 : Fin (k0_t6_loop v22).trips) : k0_off52 v22 k0_t6 = ![k0_t6.val % 2, 0, 1280] := by
  unfold k0_off52; dsimp only
  first | rw [slotW'] | rw [slotW]
instance (v22 : BitVec 32) (k0_t6 : Fin (k0_t6_loop v22).trips) : ClosedOff (k0_off52 v22 k0_t6) := ⟨_, k0_off52_eq ..⟩

theorem k0_off53_eq (v22 : BitVec 32) (k0_t6 : Fin (k0_t6_loop v22).trips) : k0_off53 v22 k0_t6 = ![k0_t6.val % 2, 0, 1536] := by
  unfold k0_off53; dsimp only
  first | rw [slotW'] | rw [slotW]
instance (v22 : BitVec 32) (k0_t6 : Fin (k0_t6_loop v22).trips) : ClosedOff (k0_off53 v22 k0_t6) := ⟨_, k0_off53_eq ..⟩

theorem k0_off54_eq (v22 : BitVec 32) (k0_t6 : Fin (k0_t6_loop v22).trips) : k0_off54 v22 k0_t6 = ![k0_t6.val % 2, 0, 1792] := by
  unfold k0_off54; dsimp only
  first | rw [slotW'] | rw [slotW]
instance (v22 : BitVec 32) (k0_t6 : Fin (k0_t6_loop v22).trips) : ClosedOff (k0_off54 v22 k0_t6) := ⟨_, k0_off54_eq ..⟩

theorem k0_off55_eq (v22 : BitVec 32) (k0_t6 : Fin (k0_t6_loop v22).trips) : k0_off55 v22 k0_t6 = ![k0_t6.val % 2, 0, 0, 0, 0] := by
  unfold k0_off55; dsimp only
  first | rw [slotW'] | rw [slotW]
instance (v22 : BitVec 32) (k0_t6 : Fin (k0_t6_loop v22).trips) : ClosedOff (k0_off55 v22 k0_t6) := ⟨_, k0_off55_eq ..⟩

theorem k0_off56_eq (v22 : BitVec 32) (k0_t6 : Fin (k0_t6_loop v22).trips) : k0_off56 v22 k0_t6 = ![k0_t6.val % 2, 1, 0, 0, 0] := by
  unfold k0_off56; dsimp only
  first | rw [slotW'] | rw [slotW]
instance (v22 : BitVec 32) (k0_t6 : Fin (k0_t6_loop v22).trips) : ClosedOff (k0_off56 v22 k0_t6) := ⟨_, k0_off56_eq ..⟩

theorem k0_off57_eq (v22 : BitVec 32) (k0_t6 : Fin (k0_t6_loop v22).trips) : k0_off57 v22 k0_t6 = ![k0_t6.val % 2, 12, 0, 0, 0] := by
  unfold k0_off57; dsimp only
  first | rw [slotW'] | rw [slotW]
instance (v22 : BitVec 32) (k0_t6 : Fin (k0_t6_loop v22).trips) : ClosedOff (k0_off57 v22 k0_t6) := ⟨_, k0_off57_eq ..⟩

theorem k0_off58_eq (v22 : BitVec 32) (k0_t6 : Fin (k0_t6_loop v22).trips) : k0_off58 v22 k0_t6 = ![k0_t6.val % 2, 13, 0, 0, 0] := by
  unfold k0_off58; dsimp only
  first | rw [slotW'] | rw [slotW]
instance (v22 : BitVec 32) (k0_t6 : Fin (k0_t6_loop v22).trips) : ClosedOff (k0_off58 v22 k0_t6) := ⟨_, k0_off58_eq ..⟩

theorem k0_off59_eq (v22 : BitVec 32) (k0_t6 : Fin (k0_t6_loop v22).trips) : k0_off59 v22 k0_t6 = ![k0_t6.val % 2, 2, 0, 0, 0] := by
  unfold k0_off59; dsimp only
  first | rw [slotW'] | rw [slotW]
instance (v22 : BitVec 32) (k0_t6 : Fin (k0_t6_loop v22).trips) : ClosedOff (k0_off59 v22 k0_t6) := ⟨_, k0_off59_eq ..⟩

theorem k0_off60_eq (v22 : BitVec 32) (k0_t6 : Fin (k0_t6_loop v22).trips) : k0_off60 v22 k0_t6 = ![k0_t6.val % 2, 3, 0, 0, 0] := by
  unfold k0_off60; dsimp only
  first | rw [slotW'] | rw [slotW]
instance (v22 : BitVec 32) (k0_t6 : Fin (k0_t6_loop v22).trips) : ClosedOff (k0_off60 v22 k0_t6) := ⟨_, k0_off60_eq ..⟩

theorem k0_off61_eq (v22 : BitVec 32) (k0_t6 : Fin (k0_t6_loop v22).trips) : k0_off61 v22 k0_t6 = ![k0_t6.val % 2, 14, 0, 0, 0] := by
  unfold k0_off61; dsimp only
  first | rw [slotW'] | rw [slotW]
instance (v22 : BitVec 32) (k0_t6 : Fin (k0_t6_loop v22).trips) : ClosedOff (k0_off61 v22 k0_t6) := ⟨_, k0_off61_eq ..⟩

theorem k0_off62_eq (v22 : BitVec 32) (k0_t6 : Fin (k0_t6_loop v22).trips) : k0_off62 v22 k0_t6 = ![k0_t6.val % 2, 15, 0, 0, 0] := by
  unfold k0_off62; dsimp only
  first | rw [slotW'] | rw [slotW]
instance (v22 : BitVec 32) (k0_t6 : Fin (k0_t6_loop v22).trips) : ClosedOff (k0_off62 v22 k0_t6) := ⟨_, k0_off62_eq ..⟩

theorem k0_off63_eq (v22 : BitVec 32) (k0_t6 : Fin (k0_t6_loop v22).trips) : k0_off63 v22 k0_t6 = ![k0_t6.val % 2, 4, 0, 0, 0] := by
  unfold k0_off63; dsimp only
  first | rw [slotW'] | rw [slotW]
instance (v22 : BitVec 32) (k0_t6 : Fin (k0_t6_loop v22).trips) : ClosedOff (k0_off63 v22 k0_t6) := ⟨_, k0_off63_eq ..⟩

theorem k0_off64_eq (v22 : BitVec 32) (k0_t6 : Fin (k0_t6_loop v22).trips) : k0_off64 v22 k0_t6 = ![k0_t6.val % 2, 5, 0, 0, 0] := by
  unfold k0_off64; dsimp only
  first | rw [slotW'] | rw [slotW]
instance (v22 : BitVec 32) (k0_t6 : Fin (k0_t6_loop v22).trips) : ClosedOff (k0_off64 v22 k0_t6) := ⟨_, k0_off64_eq ..⟩

theorem k0_off65_eq (v22 : BitVec 32) (k0_t6 : Fin (k0_t6_loop v22).trips) : k0_off65 v22 k0_t6 = ![k0_t6.val % 2, 16, 0, 0, 0] := by
  unfold k0_off65; dsimp only
  first | rw [slotW'] | rw [slotW]
instance (v22 : BitVec 32) (k0_t6 : Fin (k0_t6_loop v22).trips) : ClosedOff (k0_off65 v22 k0_t6) := ⟨_, k0_off65_eq ..⟩

theorem k0_off66_eq (v22 : BitVec 32) (k0_t6 : Fin (k0_t6_loop v22).trips) : k0_off66 v22 k0_t6 = ![k0_t6.val % 2, 17, 0, 0, 0] := by
  unfold k0_off66; dsimp only
  first | rw [slotW'] | rw [slotW]
instance (v22 : BitVec 32) (k0_t6 : Fin (k0_t6_loop v22).trips) : ClosedOff (k0_off66 v22 k0_t6) := ⟨_, k0_off66_eq ..⟩

theorem k0_off67_eq (v22 : BitVec 32) (k0_t6 : Fin (k0_t6_loop v22).trips) : k0_off67 v22 k0_t6 = ![k0_t6.val % 2, 6, 0, 0, 0] := by
  unfold k0_off67; dsimp only
  first | rw [slotW'] | rw [slotW]
instance (v22 : BitVec 32) (k0_t6 : Fin (k0_t6_loop v22).trips) : ClosedOff (k0_off67 v22 k0_t6) := ⟨_, k0_off67_eq ..⟩

theorem k0_off68_eq (v22 : BitVec 32) (k0_t6 : Fin (k0_t6_loop v22).trips) : k0_off68 v22 k0_t6 = ![k0_t6.val % 2, 7, 0, 0, 0] := by
  unfold k0_off68; dsimp only
  first | rw [slotW'] | rw [slotW]
instance (v22 : BitVec 32) (k0_t6 : Fin (k0_t6_loop v22).trips) : ClosedOff (k0_off68 v22 k0_t6) := ⟨_, k0_off68_eq ..⟩

theorem k0_off69_eq (v22 : BitVec 32) (k0_t6 : Fin (k0_t6_loop v22).trips) : k0_off69 v22 k0_t6 = ![k0_t6.val % 2, 18, 0, 0, 0] := by
  unfold k0_off69; dsimp only
  first | rw [slotW'] | rw [slotW]
instance (v22 : BitVec 32) (k0_t6 : Fin (k0_t6_loop v22).trips) : ClosedOff (k0_off69 v22 k0_t6) := ⟨_, k0_off69_eq ..⟩

theorem k0_off70_eq (v22 : BitVec 32) (k0_t6 : Fin (k0_t6_loop v22).trips) : k0_off70 v22 k0_t6 = ![k0_t6.val % 2, 19, 0, 0, 0] := by
  unfold k0_off70; dsimp only
  first | rw [slotW'] | rw [slotW]
instance (v22 : BitVec 32) (k0_t6 : Fin (k0_t6_loop v22).trips) : ClosedOff (k0_off70 v22 k0_t6) := ⟨_, k0_off70_eq ..⟩

theorem k0_off71_eq (v22 : BitVec 32) (k0_t6 : Fin (k0_t6_loop v22).trips) : k0_off71 v22 k0_t6 = ![k0_t6.val % 2, 8, 0, 0, 0] := by
  unfold k0_off71; dsimp only
  first | rw [slotW'] | rw [slotW]
instance (v22 : BitVec 32) (k0_t6 : Fin (k0_t6_loop v22).trips) : ClosedOff (k0_off71 v22 k0_t6) := ⟨_, k0_off71_eq ..⟩

theorem k0_off72_eq (v22 : BitVec 32) (k0_t6 : Fin (k0_t6_loop v22).trips) : k0_off72 v22 k0_t6 = ![k0_t6.val % 2, 9, 0, 0, 0] := by
  unfold k0_off72; dsimp only
  first | rw [slotW'] | rw [slotW]
instance (v22 : BitVec 32) (k0_t6 : Fin (k0_t6_loop v22).trips) : ClosedOff (k0_off72 v22 k0_t6) := ⟨_, k0_off72_eq ..⟩

theorem k0_off73_eq (v22 : BitVec 32) (k0_t6 : Fin (k0_t6_loop v22).trips) : k0_off73 v22 k0_t6 = ![k0_t6.val % 2, 20, 0, 0, 0] := by
  unfold k0_off73; dsimp only
  first | rw [slotW'] | rw [slotW]
instance (v22 : BitVec 32) (k0_t6 : Fin (k0_t6_loop v22).trips) : ClosedOff (k0_off73 v22 k0_t6) := ⟨_, k0_off73_eq ..⟩

theorem k0_off74_eq (v22 : BitVec 32) (k0_t6 : Fin (k0_t6_loop v22).trips) : k0_off74 v22 k0_t6 = ![k0_t6.val % 2, 21, 0, 0, 0] := by
  unfold k0_off74; dsimp only
  first | rw [slotW'] | rw [slotW]
instance (v22 : BitVec 32) (k0_t6 : Fin (k0_t6_loop v22).trips) : ClosedOff (k0_off74 v22 k0_t6) := ⟨_, k0_off74_eq ..⟩

theorem k0_off75_eq (v22 : BitVec 32) (k0_t6 : Fin (k0_t6_loop v22).trips) : k0_off75 v22 k0_t6 = ![k0_t6.val % 2, 10, 0, 0, 0] := by
  unfold k0_off75; dsimp only
  first | rw [slotW'] | rw [slotW]
instance (v22 : BitVec 32) (k0_t6 : Fin (k0_t6_loop v22).trips) : ClosedOff (k0_off75 v22 k0_t6) := ⟨_, k0_off75_eq ..⟩

theorem k0_off76_eq (v22 : BitVec 32) (k0_t6 : Fin (k0_t6_loop v22).trips) : k0_off76 v22 k0_t6 = ![k0_t6.val % 2, 11, 0, 0, 0] := by
  unfold k0_off76; dsimp only
  first | rw [slotW'] | rw [slotW]
instance (v22 : BitVec 32) (k0_t6 : Fin (k0_t6_loop v22).trips) : ClosedOff (k0_off76 v22 k0_t6) := ⟨_, k0_off76_eq ..⟩

theorem k0_off77_eq (v22 : BitVec 32) (k0_t6 : Fin (k0_t6_loop v22).trips) : k0_off77 v22 k0_t6 = ![k0_t6.val % 2, 22, 0, 0, 0] := by
  unfold k0_off77; dsimp only
  first | rw [slotW'] | rw [slotW]
instance (v22 : BitVec 32) (k0_t6 : Fin (k0_t6_loop v22).trips) : ClosedOff (k0_off77 v22 k0_t6) := ⟨_, k0_off77_eq ..⟩

theorem k0_off78_eq (v22 : BitVec 32) (k0_t6 : Fin (k0_t6_loop v22).trips) : k0_off78 v22 k0_t6 = ![k0_t6.val % 2, 23, 0, 0, 0] := by
  unfold k0_off78; dsimp only
  first | rw [slotW'] | rw [slotW]
instance (v22 : BitVec 32) (k0_t6 : Fin (k0_t6_loop v22).trips) : ClosedOff (k0_off78 v22 k0_t6) := ⟨_, k0_off78_eq ..⟩

theorem k0_off79_eq (v22 : BitVec 32) (k0_t6 : Fin (k0_t6_loop v22).trips) : k0_off79 v22 k0_t6 = ![k0_t6.val % 2, 0, 0, 0, 0] := by
  unfold k0_off79; dsimp only
  first | rw [slotW'] | rw [slotW]
instance (v22 : BitVec 32) (k0_t6 : Fin (k0_t6_loop v22).trips) : ClosedOff (k0_off79 v22 k0_t6) := ⟨_, k0_off79_eq ..⟩

theorem k0_off80_eq (v22 : BitVec 32) (k0_t6 : Fin (k0_t6_loop v22).trips) : k0_off80 v22 k0_t6 = ![k0_t6.val % 2, 1, 0, 0, 0] := by
  unfold k0_off80; dsimp only
  first | rw [slotW'] | rw [slotW]
instance (v22 : BitVec 32) (k0_t6 : Fin (k0_t6_loop v22).trips) : ClosedOff (k0_off80 v22 k0_t6) := ⟨_, k0_off80_eq ..⟩

theorem k0_off81_eq (v22 : BitVec 32) (k0_t6 : Fin (k0_t6_loop v22).trips) : k0_off81 v22 k0_t6 = ![k0_t6.val % 2, 2, 0, 0, 0] := by
  unfold k0_off81; dsimp only
  first | rw [slotW'] | rw [slotW]
instance (v22 : BitVec 32) (k0_t6 : Fin (k0_t6_loop v22).trips) : ClosedOff (k0_off81 v22 k0_t6) := ⟨_, k0_off81_eq ..⟩

theorem k0_off82_eq (v22 : BitVec 32) (k0_t6 : Fin (k0_t6_loop v22).trips) : k0_off82 v22 k0_t6 = ![k0_t6.val % 2, 3, 0, 0, 0] := by
  unfold k0_off82; dsimp only
  first | rw [slotW'] | rw [slotW]
instance (v22 : BitVec 32) (k0_t6 : Fin (k0_t6_loop v22).trips) : ClosedOff (k0_off82 v22 k0_t6) := ⟨_, k0_off82_eq ..⟩

theorem k0_off83_eq (v22 : BitVec 32) (k0_t6 : Fin (k0_t6_loop v22).trips) : k0_off83 v22 k0_t6 = ![k0_t6.val % 2, 4, 0, 0, 0] := by
  unfold k0_off83; dsimp only
  first | rw [slotW'] | rw [slotW]
instance (v22 : BitVec 32) (k0_t6 : Fin (k0_t6_loop v22).trips) : ClosedOff (k0_off83 v22 k0_t6) := ⟨_, k0_off83_eq ..⟩

theorem k0_off84_eq (v22 : BitVec 32) (k0_t6 : Fin (k0_t6_loop v22).trips) : k0_off84 v22 k0_t6 = ![k0_t6.val % 2, 5, 0, 0, 0] := by
  unfold k0_off84; dsimp only
  first | rw [slotW'] | rw [slotW]
instance (v22 : BitVec 32) (k0_t6 : Fin (k0_t6_loop v22).trips) : ClosedOff (k0_off84 v22 k0_t6) := ⟨_, k0_off84_eq ..⟩

theorem k0_off85_eq (v22 : BitVec 32) (k0_t6 : Fin (k0_t6_loop v22).trips) : k0_off85 v22 k0_t6 = ![k0_t6.val % 2, 6, 0, 0, 0] := by
  unfold k0_off85; dsimp only
  first | rw [slotW'] | rw [slotW]
instance (v22 : BitVec 32) (k0_t6 : Fin (k0_t6_loop v22).trips) : ClosedOff (k0_off85 v22 k0_t6) := ⟨_, k0_off85_eq ..⟩

theorem k0_off86_eq (v22 : BitVec 32) (k0_t6 : Fin (k0_t6_loop v22).trips) : k0_off86 v22 k0_t6 = ![k0_t6.val % 2, 7, 0, 0, 0] := by
  unfold k0_off86; dsimp only
  first | rw [slotW'] | rw [slotW]
instance (v22 : BitVec 32) (k0_t6 : Fin (k0_t6_loop v22).trips) : ClosedOff (k0_off86 v22 k0_t6) := ⟨_, k0_off86_eq ..⟩

theorem k0_off87_eq (v22 : BitVec 32) (k0_t6 : Fin (k0_t6_loop v22).trips) : k0_off87 v22 k0_t6 = ![k0_t6.val % 2, 8, 0, 0, 0] := by
  unfold k0_off87; dsimp only
  first | rw [slotW'] | rw [slotW]
instance (v22 : BitVec 32) (k0_t6 : Fin (k0_t6_loop v22).trips) : ClosedOff (k0_off87 v22 k0_t6) := ⟨_, k0_off87_eq ..⟩

theorem k0_off88_eq (v22 : BitVec 32) (k0_t6 : Fin (k0_t6_loop v22).trips) : k0_off88 v22 k0_t6 = ![k0_t6.val % 2, 9, 0, 0, 0] := by
  unfold k0_off88; dsimp only
  first | rw [slotW'] | rw [slotW]
instance (v22 : BitVec 32) (k0_t6 : Fin (k0_t6_loop v22).trips) : ClosedOff (k0_off88 v22 k0_t6) := ⟨_, k0_off88_eq ..⟩

theorem k0_off89_eq (v22 : BitVec 32) (k0_t6 : Fin (k0_t6_loop v22).trips) : k0_off89 v22 k0_t6 = ![k0_t6.val % 2, 10, 0, 0, 0] := by
  unfold k0_off89; dsimp only
  first | rw [slotW'] | rw [slotW]
instance (v22 : BitVec 32) (k0_t6 : Fin (k0_t6_loop v22).trips) : ClosedOff (k0_off89 v22 k0_t6) := ⟨_, k0_off89_eq ..⟩

theorem k0_off90_eq (v22 : BitVec 32) (k0_t6 : Fin (k0_t6_loop v22).trips) : k0_off90 v22 k0_t6 = ![k0_t6.val % 2, 11, 0, 0, 0] := by
  unfold k0_off90; dsimp only
  first | rw [slotW'] | rw [slotW]
instance (v22 : BitVec 32) (k0_t6 : Fin (k0_t6_loop v22).trips) : ClosedOff (k0_off90 v22 k0_t6) := ⟨_, k0_off90_eq ..⟩

theorem k0_off91_eq (v22 : BitVec 32) (k0_t6 : Fin (k0_t6_loop v22).trips) : k0_off91 v22 k0_t6 = ![k0_t6.val % 2, 12, 0, 0, 0] := by
  unfold k0_off91; dsimp only
  first | rw [slotW'] | rw [slotW]
instance (v22 : BitVec 32) (k0_t6 : Fin (k0_t6_loop v22).trips) : ClosedOff (k0_off91 v22 k0_t6) := ⟨_, k0_off91_eq ..⟩

theorem k0_off92_eq (v22 : BitVec 32) (k0_t6 : Fin (k0_t6_loop v22).trips) : k0_off92 v22 k0_t6 = ![k0_t6.val % 2, 13, 0, 0, 0] := by
  unfold k0_off92; dsimp only
  first | rw [slotW'] | rw [slotW]
instance (v22 : BitVec 32) (k0_t6 : Fin (k0_t6_loop v22).trips) : ClosedOff (k0_off92 v22 k0_t6) := ⟨_, k0_off92_eq ..⟩

theorem k0_off93_eq (v22 : BitVec 32) (k0_t6 : Fin (k0_t6_loop v22).trips) : k0_off93 v22 k0_t6 = ![k0_t6.val % 2, 14, 0, 0, 0] := by
  unfold k0_off93; dsimp only
  first | rw [slotW'] | rw [slotW]
instance (v22 : BitVec 32) (k0_t6 : Fin (k0_t6_loop v22).trips) : ClosedOff (k0_off93 v22 k0_t6) := ⟨_, k0_off93_eq ..⟩

theorem k0_off94_eq (v22 : BitVec 32) (k0_t6 : Fin (k0_t6_loop v22).trips) : k0_off94 v22 k0_t6 = ![k0_t6.val % 2, 15, 0, 0, 0] := by
  unfold k0_off94; dsimp only
  first | rw [slotW'] | rw [slotW]
instance (v22 : BitVec 32) (k0_t6 : Fin (k0_t6_loop v22).trips) : ClosedOff (k0_off94 v22 k0_t6) := ⟨_, k0_off94_eq ..⟩

theorem k0_off101_eq (v45 : BitVec 32) : k0_off101 v45 = ![v45.toNat, 0, 0] := by
  rfl
instance (v45 : BitVec 32) : ClosedOff (k0_off101 v45) := ⟨_, k0_off101_eq ..⟩

theorem k0_off107_eq (v45 : BitVec 32) : k0_off107 v45 = ![v45.toNat, 0, 0] := by
  rfl
instance (v45 : BitVec 32) : ClosedOff (k0_off107 v45) := ⟨_, k0_off107_eq ..⟩

theorem k0_off114_eq (v1594 : BitVec 32) : k0_off114 v1594 = ![v1594.toNat, 0, 0] := by
  rfl
instance (v1594 : BitVec 32) : ClosedOff (k0_off114 v1594) := ⟨_, k0_off114_eq ..⟩

theorem k0_off120_eq (v1594 : BitVec 32) : k0_off120 v1594 = ![v1594.toNat, 0, 0] := by
  rfl
instance (v1594 : BitVec 32) : ClosedOff (k0_off120 v1594) := ⟨_, k0_off120_eq ..⟩

end Cert.Kernel.Gen

end
-- ==== Proof.ChkK.lean ====
/-
  The side conditions the kernel assumes, each from the range of the word it is of.
-/
module

public import proofs.«01_k».proof.Proof.OffK
public import Idealize.ShloMosaic.Lib.Scf.ExitTest
public import Idealize.ShloMosaic.Lib.Scf.Counter

@[expose] public section

namespace Cert.Kernel.Gen

open Idealize.ShloMosaic

/-- The main loop's operands have a meaning. -/
theorem t6_ok (v22 : BitVec 32) : (k0_t6_loop v22).OK := by
  refine ⟨(by decide : 0 < (1#32 : BitVec 32).toInt), ?_⟩
  have e := t6_trips v22
  have h := BitVec.toInt_lt (x := v22)
  show (0#32 : BitVec 32).toInt + ((k0_t6_loop v22).trips : ℤ) * (1#32 : BitVec 32).toInt < 2 ^ 31
  rw [e, show (0#32 : BitVec 32).toInt = 0 by decide, show (1#32 : BitVec 32).toInt = 1 by decide]
  omega

/-- A rectangle that takes every row of its slabs is whole words. -/
theorem ww {s : Shape} {off size : Fin s.rank → ℕ} {p : ℕ} (inb : ∀ a, off a + size a ≤ s.size a) (h2 : 2 ≤ s.rank)
    (h0 : off (s.rowAx h2) = 0) (hs : size (s.rowAx h2) = s.size (s.rowAx h2)) : (Rect.unit (s := s) off size inb).WholeWords p :=
  Or.inr ⟨h2, rfl, h0, hs⟩

theorem t11_ok (v22 : BitVec 32) : (k0_t11_loop v22).OK := by
  refine ⟨(by decide : 0 < (1#32 : BitVec 32).toInt), ?_⟩
  have h := BitVec.toInt_lt (x := (k0_t11_loop v22).lb)
  have e := t11_trips v22
  show (k0_t11_loop v22).lb.toInt + ((k0_t11_loop v22).trips : ℤ) * (1#32 : BitVec 32).toInt < 2 ^ 31
  rw [e]
  omega

/-- The main loop's continuation condition says that the next trip is a trip. -/
theorem cond1_iff (v22 : BitVec 32) (k : Fin (k0_t6_loop v22).trips) : k0_cond1 v22 k = 1#1 ↔ k.val + 1 < (k0_t6_loop v22).trips := by
  have hk := k.isLt
  have hs := Scf.cmpi_slt_iv_ub_iff (t6_ok v22) (k := k.val + 1) hk
  refine Iff.trans ?_ hs
  rw [t6_ub v22, Scf.iv_succ]
  unfold k0_cond1
  dsimp only
  show Scalar.cmpi .ne (Scalar.extui (IntOp.cmpi .slt (Scf.iv 0#32 1#32 k.val + 1#32) v22)) 0#32 = 1#1 ↔ IntOp.cmpi .slt (Scf.iv 0#32 1#32 k.val + 1#32) v22 = 1#1
  generalize IntOp.cmpi .slt (Scf.iv 0#32 1#32 k.val + 1#32) v22 = b
  revert b; decide
theorem cond1_lt {v22 : BitVec 32} {k : Fin (k0_t6_loop v22).trips} (h : k0_cond1 v22 k = 1#1) : k.val + 1 < (k0_t6_loop v22).trips :=
  (cond1_iff v22 k).mp h

set_option maxHeartbeats 1000000 in
theorem k0_chk1_of (v0 : BitVec 32) (he : v0.toNat < 32) : k0_chk1 v0 := by
  unfold k0_chk1
  refine ⟨?_, ?_, ?_, ?_, ?_, ?_, ?_, ?_⟩
  · intro k0_t1 a; have := k0_t1.isLt; have := t1_trips; rw [k0_off2_eq]; fin_cases a <;> simp <;> omega
  · intro k0_t1 hinb; exact ww hinb (by decide) (congrFun (k0_off2_eq v0 k0_t1) 2) rfl
  · intro a; rw [k0_off3_eq]; fin_cases a <;> simp <;> omega
  · intro hinb; exact ww hinb (by decide) (congrFun (k0_off3_eq v0) 1) rfl
  · intro k0_t2 a; have := k0_t2.isLt; have := t2_trips; rw [k0_off5_eq]; fin_cases a <;> simp <;> omega
  · intro k0_t2 hinb; exact ww hinb (by decide) (congrFun (k0_off5_eq v0 k0_t2) 2) rfl
  · intro a; rw [k0_off6_eq]; fin_cases a <;> simp <;> omega
  · intro hinb; exact ww hinb (by decide) (congrFun (k0_off6_eq v0) 1) rfl

set_option maxHeartbeats 1000000 in
theorem k0_chk4_of (v45 : BitVec 32) (he : v45.toNat < 32) : k0_chk4 v45 := by
  unfold k0_chk4
  refine ⟨?_, ?_, ?_, ?_, ?_, ?_, ?_, ?_⟩
  · intro k0_t7 a; have := k0_t7.isLt; have := t7_trips; rw [k0_off12_eq]; fin_cases a <;> simp <;> omega
  · intro k0_t7 hinb; exact ww hinb (by decide) (congrFun (k0_off12_eq v45 k0_t7) 2) rfl
  · intro a; rw [k0_off15_eq]; fin_cases a <;> simp <;> omega
  · intro hinb; exact ww hinb (by decide) (congrFun (k0_off15_eq v45) 1) rfl
  · intro k0_t8 a; have := k0_t8.isLt; have := t8_trips; rw [k0_off18_eq]; fin_cases a <;> simp <;> omega
  · intro k0_t8 hinb; exact ww hinb (by decide) (congrFun (k0_off18_eq v45 k0_t8) 2) rfl
  · intro a; rw [k0_off21_eq]; fin_cases a <;> simp <;> omega
  · intro hinb; exact ww hinb (by decide) (congrFun (k0_off21_eq v45) 1) rfl

set_option maxHeartbeats 1000000 in
theorem k0_chk5_of (v22 : BitVec 32) (k0_t6 : Fin (k0_t6_loop v22).trips) (v1594 : BitVec 32) (he : v1594.toNat < 32) : k0_chk5 v22 k0_t6 v1594 := by
  unfold k0_chk5
  refine ⟨?_, ?_, ?_, ?_, ?_, ?_, ?_, ?_⟩
  · intro k0_t9 k0_h1 a; have := k0_t9.isLt; have := t9_trips; rw [k0_off25_eq]; fin_cases a <;> simp <;> omega
  · intro k0_t9 k0_h1 hinb; exact ww hinb (by decide) (congrFun (k0_off25_eq v1594 k0_t9) 2) rfl
  · intro k0_h1 a; rw [k0_off28_eq]; fin_cases a <;> simp <;> omega
  · intro k0_h1 hinb; exact ww hinb (by decide) (congrFun (k0_off28_eq v1594) 1) rfl
  · intro k0_t10 k0_h1 a; have := k0_t10.isLt; have := t10_trips; rw [k0_off31_eq]; fin_cases a <;> simp <;> omega
  · intro k0_t10 k0_h1 hinb; exact ww hinb (by decide) (congrFun (k0_off31_eq v1594 k0_t10) 2) rfl
  · intro k0_h1 a; rw [k0_off34_eq]; fin_cases a <;> simp <;> omega
  · intro k0_h1 hinb; exact ww hinb (by decide) (congrFun (k0_off34_eq v1594) 1) rfl

set_option maxHeartbeats 1000000 in
theorem k0_chk3_0_of (v22 : BitVec 32) (hn : v22.toNat ≤ 33) : k0_chk3_0 v22 := by
  have htr : (k0_t6_loop v22).trips = v22.toNat := t6_trips_nat v22 (by omega)
  unfold k0_chk3_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact t6_ok v22
  · intro k0_t6 a; have := k0_t6.isLt; rw [k0_off9_eq]; fin_cases a <;> simp <;> omega
  · intro k0_t6 a; rw [k0_off10_eq]; have hm : k0_t6.val % 2 < 2 := Nat.mod_lt _ (by decide); fin_cases a <;> simp <;> omega
  · intro k0_t6 k0_t7 a; have := k0_t7.isLt; have := t7_trips; rw [k0_off11_eq]; have hm : k0_t6.val % 2 < 2 := Nat.mod_lt _ (by decide); fin_cases a <;> simp <;> omega
  · intro k0_t6 k0_t7 hinb; exact ww hinb (by decide) (congrFun (k0_off11_eq v22 k0_t6 k0_t7) 3) rfl
  · intro k0_t6 a; rw [k0_off13_eq]; have hm : k0_t6.val % 2 < 2 := Nat.mod_lt _ (by decide); fin_cases a <;> simp <;> omega
  · intro k0_t6 a; rw [k0_off14_eq]; have hm : k0_t6.val % 2 < 2 := Nat.mod_lt _ (by decide); fin_cases a <;> simp <;> omega
  · intro k0_t6 hinb; exact ww hinb (by decide) (congrFun (k0_off14_eq v22 k0_t6) 1) rfl
  · intro k0_t6 a; rw [k0_off16_eq]; have hm : k0_t6.val % 2 < 2 := Nat.mod_lt _ (by decide); fin_cases a <;> simp <;> omega
  · intro k0_t6 k0_t8 a; have := k0_t8.isLt; have := t8_trips; rw [k0_off17_eq]; have hm : k0_t6.val % 2 < 2 := Nat.mod_lt _ (by decide); fin_cases a <;> simp <;> omega
  · intro k0_t6 k0_t8 hinb; exact ww hinb (by decide) (congrFun (k0_off17_eq v22 k0_t6 k0_t8) 3) rfl
  · intro k0_t6 a; rw [k0_off19_eq]; have hm : k0_t6.val % 2 < 2 := Nat.mod_lt _ (by decide); fin_cases a <;> simp <;> omega
  · intro k0_t6 a; rw [k0_off20_eq]; have hm : k0_t6.val % 2 < 2 := Nat.mod_lt _ (by decide); fin_cases a <;> simp <;> omega
  · intro k0_t6 hinb; exact ww hinb (by decide) (congrFun (k0_off20_eq v22 k0_t6) 1) rfl
  · intro k0_t6 k0_h1 a; have := k0_t6.isLt; have := cond1_lt k0_h1; rw [k0_off22_eq]; fin_cases a <;> simp <;> omega
  · intro k0_t6 k0_h1 a; rw [k0_off23_eq]; have hm : k0_t6.val % 2 < 2 := Nat.mod_lt _ (by decide); fin_cases a <;> simp <;> omega
  · intro k0_t6 k0_t9 k0_h1 a; have := k0_t9.isLt; have := t9_trips; rw [k0_off24_eq]; have hm : k0_t6.val % 2 < 2 := Nat.mod_lt _ (by decide); fin_cases a <;> simp <;> omega
  · intro k0_t6 k0_t9 k0_h1 hinb; exact ww hinb (by decide) (congrFun (k0_off24_eq v22 k0_t6 k0_t9) 3) rfl
  · intro k0_t6 k0_h1 a; rw [k0_off26_eq]; have hm : k0_t6.val % 2 < 2 := Nat.mod_lt _ (by decide); fin_cases a <;> simp <;> omega
  · intro k0_t6 k0_h1 a; rw [k0_off27_eq]; have hm : k0_t6.val % 2 < 2 := Nat.mod_lt _ (by decide); fin_cases a <;> simp <;> omega
  · intro k0_t6 k0_h1 hinb; exact ww hinb (by decide) (congrFun (k0_off27_eq v22 k0_t6) 1) rfl
  · intro k0_t6 k0_h1 a; rw [k0_off29_eq]; have hm : k0_t6.val % 2 < 2 := Nat.mod_lt _ (by decide); fin_cases a <;> simp <;> omega
  · intro k0_t6 k0_t10 k0_h1 a; have := k0_t10.isLt; have := t10_trips; rw [k0_off30_eq]; have hm : k0_t6.val % 2 < 2 := Nat.mod_lt _ (by decide); fin_cases a <;> simp <;> omega
  · intro k0_t6 k0_t10 k0_h1 hinb; exact ww hinb (by decide) (congrFun (k0_off30_eq v22 k0_t6 k0_t10) 3) rfl
  · intro k0_t6 k0_h1 a; rw [k0_off32_eq]; have hm : k0_t6.val % 2 < 2 := Nat.mod_lt _ (by decide); fin_cases a <;> simp <;> omega
  · intro k0_t6 k0_h1 a; rw [k0_off33_eq]; have hm : k0_t6.val % 2 < 2 := Nat.mod_lt _ (by decide); fin_cases a <;> simp <;> omega
  · intro k0_t6 k0_h1 hinb; exact ww hinb (by decide) (congrFun (k0_off33_eq v22 k0_t6) 1) rfl
  · intro k0_t6 a; rw [k0_off35_eq]; have hm : k0_t6.val % 2 < 2 := Nat.mod_lt _ (by decide); fin_cases a <;> simp <;> omega
  · intro k0_t6 a; rw [k0_off36_eq]; have hm : k0_t6.val % 2 < 2 := Nat.mod_lt _ (by decide); fin_cases a <;> simp <;> omega
  · intro k0_t6 a; rw [k0_off37_eq]; have hm : k0_t6.val % 2 < 2 := Nat.mod_lt _ (by decide); fin_cases a <;> simp <;> omega
  · intro k0_t6 a; rw [k0_off38_eq]; have hm : k0_t6.val % 2 < 2 := Nat.mod_lt _ (by decide); fin_cases a <;> simp <;> omega
  · intro k0_t6 a; rw [k0_off39_eq]; have hm : k0_t6.val % 2 < 2 := Nat.mod_lt _ (by decide); fin_cases a <;> simp <;> omega

set_option maxHeartbeats 1000000 in
theorem k0_chk3_1_of (v22 : BitVec 32) (hn : v22.toNat ≤ 33) : k0_chk3_1 v22 := by
  have htr : (k0_t6_loop v22).trips = v22.toNat := t6_trips_nat v22 (by omega)
  unfold k0_chk3_1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t6 a; rw [k0_off40_eq]; have hm : k0_t6.val % 2 < 2 := Nat.mod_lt _ (by decide); fin_cases a <;> simp <;> omega
  · intro k0_t6 a; rw [k0_off41_eq]; have hm : k0_t6.val % 2 < 2 := Nat.mod_lt _ (by decide); fin_cases a <;> simp <;> omega
  · intro k0_t6 a; rw [k0_off42_eq]; have hm : k0_t6.val % 2 < 2 := Nat.mod_lt _ (by decide); fin_cases a <;> simp <;> omega
  · intro k0_t6 a; rw [k0_off43_eq]; have hm : k0_t6.val % 2 < 2 := Nat.mod_lt _ (by decide); fin_cases a <;> simp <;> omega
  · intro k0_t6 a; rw [k0_off44_eq]; have hm : k0_t6.val % 2 < 2 := Nat.mod_lt _ (by decide); fin_cases a <;> simp <;> omega
  · intro k0_t6 a; rw [k0_off45_eq]; have hm : k0_t6.val % 2 < 2 := Nat.mod_lt _ (by decide); fin_cases a <;> simp <;> omega
  · intro k0_t6 a; rw [k0_off46_eq]; have hm : k0_t6.val % 2 < 2 := Nat.mod_lt _ (by decide); fin_cases a <;> simp <;> omega
  · intro k0_t6 a; rw [k0_off47_eq]; have hm : k0_t6.val % 2 < 2 := Nat.mod_lt _ (by decide); fin_cases a <;> simp <;> omega
  · intro k0_t6 a; rw [k0_off48_eq]; have hm : k0_t6.val % 2 < 2 := Nat.mod_lt _ (by decide); fin_cases a <;> simp <;> omega
  · intro k0_t6 a; rw [k0_off49_eq]; have hm : k0_t6.val % 2 < 2 := Nat.mod_lt _ (by decide); fin_cases a <;> simp <;> omega
  · intro k0_t6 a; rw [k0_off50_eq]; have hm : k0_t6.val % 2 < 2 := Nat.mod_lt _ (by decide); fin_cases a <;> simp <;> omega
  · intro k0_t6 a; rw [k0_off51_eq]; have hm : k0_t6.val % 2 < 2 := Nat.mod_lt _ (by decide); fin_cases a <;> simp <;> omega
  · intro k0_t6 a; rw [k0_off52_eq]; have hm : k0_t6.val % 2 < 2 := Nat.mod_lt _ (by decide); fin_cases a <;> simp <;> omega
  · intro k0_t6 a; rw [k0_off53_eq]; have hm : k0_t6.val % 2 < 2 := Nat.mod_lt _ (by decide); fin_cases a <;> simp <;> omega
  · intro k0_t6 a; rw [k0_off54_eq]; have hm : k0_t6.val % 2 < 2 := Nat.mod_lt _ (by decide); fin_cases a <;> simp <;> omega
  · intro k0_t6 a; rw [k0_off55_eq]; have hm : k0_t6.val % 2 < 2 := Nat.mod_lt _ (by decide); fin_cases a <;> simp <;> omega
  · intro k0_t6 a; rw [k0_off56_eq]; have hm : k0_t6.val % 2 < 2 := Nat.mod_lt _ (by decide); fin_cases a <;> simp <;> omega
  · intro k0_t6 a; rw [k0_off57_eq]; have hm : k0_t6.val % 2 < 2 := Nat.mod_lt _ (by decide); fin_cases a <;> simp <;> omega
  · intro k0_t6 a; rw [k0_off58_eq]; have hm : k0_t6.val % 2 < 2 := Nat.mod_lt _ (by decide); fin_cases a <;> simp <;> omega
  · intro k0_t6 a; rw [k0_off59_eq]; have hm : k0_t6.val % 2 < 2 := Nat.mod_lt _ (by decide); fin_cases a <;> simp <;> omega
  · intro k0_t6 a; rw [k0_off60_eq]; have hm : k0_t6.val % 2 < 2 := Nat.mod_lt _ (by decide); fin_cases a <;> simp <;> omega
  · intro k0_t6 a; rw [k0_off61_eq]; have hm : k0_t6.val % 2 < 2 := Nat.mod_lt _ (by decide); fin_cases a <;> simp <;> omega
  · intro k0_t6 a; rw [k0_off62_eq]; have hm : k0_t6.val % 2 < 2 := Nat.mod_lt _ (by decide); fin_cases a <;> simp <;> omega
  · intro k0_t6 a; rw [k0_off63_eq]; have hm : k0_t6.val % 2 < 2 := Nat.mod_lt _ (by decide); fin_cases a <;> simp <;> omega
  · intro k0_t6 a; rw [k0_off64_eq]; have hm : k0_t6.val % 2 < 2 := Nat.mod_lt _ (by decide); fin_cases a <;> simp <;> omega
  · intro k0_t6 a; rw [k0_off65_eq]; have hm : k0_t6.val % 2 < 2 := Nat.mod_lt _ (by decide); fin_cases a <;> simp <;> omega
  · intro k0_t6 a; rw [k0_off66_eq]; have hm : k0_t6.val % 2 < 2 := Nat.mod_lt _ (by decide); fin_cases a <;> simp <;> omega
  · intro k0_t6 a; rw [k0_off67_eq]; have hm : k0_t6.val % 2 < 2 := Nat.mod_lt _ (by decide); fin_cases a <;> simp <;> omega
  · intro k0_t6 a; rw [k0_off68_eq]; have hm : k0_t6.val % 2 < 2 := Nat.mod_lt _ (by decide); fin_cases a <;> simp <;> omega
  · intro k0_t6 a; rw [k0_off69_eq]; have hm : k0_t6.val % 2 < 2 := Nat.mod_lt _ (by decide); fin_cases a <;> simp <;> omega
  · intro k0_t6 a; rw [k0_off70_eq]; have hm : k0_t6.val % 2 < 2 := Nat.mod_lt _ (by decide); fin_cases a <;> simp <;> omega
  · intro k0_t6 a; rw [k0_off71_eq]; have hm : k0_t6.val % 2 < 2 := Nat.mod_lt _ (by decide); fin_cases a <;> simp <;> omega

set_option maxHeartbeats 1000000 in
theorem k0_chk3_2_of (v22 : BitVec 32) (hn : v22.toNat ≤ 33) : k0_chk3_2 v22 := by
  have htr : (k0_t6_loop v22).trips = v22.toNat := t6_trips_nat v22 (by omega)
  unfold k0_chk3_2
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t6 a; rw [k0_off72_eq]; have hm : k0_t6.val % 2 < 2 := Nat.mod_lt _ (by decide); fin_cases a <;> simp <;> omega
  · intro k0_t6 a; rw [k0_off73_eq]; have hm : k0_t6.val % 2 < 2 := Nat.mod_lt _ (by decide); fin_cases a <;> simp <;> omega
  · intro k0_t6 a; rw [k0_off74_eq]; have hm : k0_t6.val % 2 < 2 := Nat.mod_lt _ (by decide); fin_cases a <;> simp <;> omega
  · intro k0_t6 a; rw [k0_off75_eq]; have hm : k0_t6.val % 2 < 2 := Nat.mod_lt _ (by decide); fin_cases a <;> simp <;> omega
  · intro k0_t6 a; rw [k0_off76_eq]; have hm : k0_t6.val % 2 < 2 := Nat.mod_lt _ (by decide); fin_cases a <;> simp <;> omega
  · intro k0_t6 a; rw [k0_off77_eq]; have hm : k0_t6.val % 2 < 2 := Nat.mod_lt _ (by decide); fin_cases a <;> simp <;> omega
  · intro k0_t6 a; rw [k0_off78_eq]; have hm : k0_t6.val % 2 < 2 := Nat.mod_lt _ (by decide); fin_cases a <;> simp <;> omega
  · intro k0_t6 a; rw [k0_off79_eq]; have hm : k0_t6.val % 2 < 2 := Nat.mod_lt _ (by decide); fin_cases a <;> simp <;> omega
  · intro k0_t6 a; rw [k0_off80_eq]; have hm : k0_t6.val % 2 < 2 := Nat.mod_lt _ (by decide); fin_cases a <;> simp <;> omega
  · intro k0_t6 a; rw [k0_off81_eq]; have hm : k0_t6.val % 2 < 2 := Nat.mod_lt _ (by decide); fin_cases a <;> simp <;> omega
  · intro k0_t6 a; rw [k0_off82_eq]; have hm : k0_t6.val % 2 < 2 := Nat.mod_lt _ (by decide); fin_cases a <;> simp <;> omega
  · intro k0_t6 a; rw [k0_off83_eq]; have hm : k0_t6.val % 2 < 2 := Nat.mod_lt _ (by decide); fin_cases a <;> simp <;> omega
  · intro k0_t6 a; rw [k0_off84_eq]; have hm : k0_t6.val % 2 < 2 := Nat.mod_lt _ (by decide); fin_cases a <;> simp <;> omega
  · intro k0_t6 a; rw [k0_off85_eq]; have hm : k0_t6.val % 2 < 2 := Nat.mod_lt _ (by decide); fin_cases a <;> simp <;> omega
  · intro k0_t6 a; rw [k0_off86_eq]; have hm : k0_t6.val % 2 < 2 := Nat.mod_lt _ (by decide); fin_cases a <;> simp <;> omega
  · intro k0_t6 a; rw [k0_off87_eq]; have hm : k0_t6.val % 2 < 2 := Nat.mod_lt _ (by decide); fin_cases a <;> simp <;> omega
  · intro k0_t6 a; rw [k0_off88_eq]; have hm : k0_t6.val % 2 < 2 := Nat.mod_lt _ (by decide); fin_cases a <;> simp <;> omega
  · intro k0_t6 a; rw [k0_off89_eq]; have hm : k0_t6.val % 2 < 2 := Nat.mod_lt _ (by decide); fin_cases a <;> simp <;> omega
  · intro k0_t6 a; rw [k0_off90_eq]; have hm : k0_t6.val % 2 < 2 := Nat.mod_lt _ (by decide); fin_cases a <;> simp <;> omega
  · intro k0_t6 a; rw [k0_off91_eq]; have hm : k0_t6.val % 2 < 2 := Nat.mod_lt _ (by decide); fin_cases a <;> simp <;> omega
  · intro k0_t6 a; rw [k0_off92_eq]; have hm : k0_t6.val % 2 < 2 := Nat.mod_lt _ (by decide); fin_cases a <;> simp <;> omega
  · intro k0_t6 a; rw [k0_off93_eq]; have hm : k0_t6.val % 2 < 2 := Nat.mod_lt _ (by decide); fin_cases a <;> simp <;> omega
  · intro k0_t6 a; rw [k0_off94_eq]; have hm : k0_t6.val % 2 < 2 := Nat.mod_lt _ (by decide); fin_cases a <;> simp <;> omega
  · exact t11_ok v22
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

set_option maxHeartbeats 1000000 in
theorem k0_chk3_3_of (v22 : BitVec 32) (hn : v22.toNat ≤ 33) : k0_chk3_3 v22 := by
  have htr : (k0_t6_loop v22).trips = v22.toNat := t6_trips_nat v22 (by omega)
  unfold k0_chk3_3
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

set_option maxHeartbeats 1000000 in
theorem k0_chk3_4_of (v22 : BitVec 32) (hn : v22.toNat ≤ 33) : k0_chk3_4 v22 := by
  have htr : (k0_t6_loop v22).trips = v22.toNat := t6_trips_nat v22 (by omega)
  unfold k0_chk3_4
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

set_option maxHeartbeats 1000000 in
theorem k0_chk3_5_of (v22 : BitVec 32) (hn : v22.toNat ≤ 33) : k0_chk3_5 v22 := by
  have htr : (k0_t6_loop v22).trips = v22.toNat := t6_trips_nat v22 (by omega)
  unfold k0_chk3_5
  refine ⟨?_, ?_, ?_, ?_, ?_, ?_, ?_, ?_, ?_, ?_, ?_, ?_, ?_, ?_⟩
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11
  · intro k0_t11; exact t11_no k0_t11

theorem k0_chk3_of (v22 : BitVec 32) (hn : v22.toNat ≤ 33) : k0_chk3 v22 :=
  ⟨k0_chk3_0_of v22 hn, k0_chk3_1_of v22 hn, k0_chk3_2_of v22 hn, k0_chk3_3_of v22 hn, k0_chk3_4_of v22 hn, k0_chk3_5_of v22 hn⟩

theorem k0_chk2_of (cnt : BitVec 32) (h : cnt.toNat < 33) : k0_chk2 cnt := by
  unfold k0_chk2
  intro a; fin_cases a
  show cnt.toNat + 1 ≤ 33; omega

end Cert.Kernel.Gen

end
-- ==== Proof.CopyK.lean ====
/-
  The copies: loops that start a batch of transfers on one semaphore cell, and loops that wait for all of them.
-/
module

public import proofs.«01_k».proof.Proof.ChkK
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (c : Dev nD)

/-- A batch of `n` transfers of `N` units on cell `sm`: `j` of them issued, `u` units waited for. -/
abbrev batch {n : ℕ} (sm : SemLoc sig) (N : ℕ) (D : Fin n → sProp 𝕄) (j u : ℕ) : sProp 𝕄 :=
  Transfers.Batch (countersEmb (U := Pipeline.UD sig nD τ)) (c : Thread nD τ) sm () N D j u

/-- The cell at zero. -/
abbrev cell (sm : SemLoc sig) : sProp 𝕄 := semVal ((c : Thread nD τ), sm) 0

/-- A loop whose trip `k` starts the `k`-th transfer of a batch leaves all of them issued. -/
theorem start_loop {n : ℕ} {sp sp' : Space} {S : Shape} {e : EltTy} (L : Scf.Loop 32) (hL : L.OK) (hT : L.trips = n)
    (src : Fin L.trips → Memref sig .tc sp S e) (dst : Fin L.trips → Memref sig .tc sp' S e) (sm : SemLoc sig)
    (h1 : ∀ k, (src k).view.WordExact) (h2 : ∀ k, (dst k).view.WordExact)
    (h3 : ∀ k, DmaTarget.Typed (nD := nD) (τ := τ) (p := (.tc : Proc τ)) sp sm (.here (dst k)))
    (N : ℕ) (hN : ∀ k, (dst k).view.amount sm = N) (Pre D : Fin n → sProp 𝕄)
    (fs : ∀ k, Buf (Elt F) ((src k).view.loc (c : Thread nD τ)))
    (hpre : ∀ k, Pre (Fin.cast hT k) ⊢ iprop(((src k).view.loc (c : Thread nD τ) ↦[(src k).view.set]{fullShare} fs k)
      ∗ ∃ fd, (dst k).view.loc (c : Thread nD τ) ↦[(dst k).view.set]{fullShare} fd))
    (hD : ∀ k fd, iprop(((dst k).view.loc (c : Thread nD τ) ↦[(dst k).view.set]{fullShare}
          (dst k).view.write (Elt F) fd (ReadAs.same.apply ((src k).view.read (Elt F) (fs k))) Finset.univ)
        ∗ ((src k).view.loc (c : Thread nD τ) ↦[(src k).view.set]{fullShare} fs k)) ⊢ D (Fin.cast hT k)) :
    iprop(batch c sm N D 0 0 ∗ bigSep Finset.univ Pre)
      ⊢ wp frame (wpE (defs₀ (F := F)) Variants.none (c : Thread nD τ) none) Set.univ
        (Scf.Loop.for L hL (⟨⟩ : Unit) (fun k _ => do
          Prog.lift (.enqueueDma (src k) (.here (dst k)) sm (h1 k) (h2 k) (h3 k))
          pure ⟨⟩)) (fun _ => batch c sm N D n 0) := by
  subst hT
  refine BIBase.Entails.trans ?_ (Scf.wp_for frame _ Set.univ L.lb L.ub L.st hL _ _
    (fun k _ => iprop(batch c sm N D k 0 ∗ bigSep (Ring.rangeSet L.trips k L.trips) Pre)) ?_)
  · rw [Ring.rangeSet_univ]
    iintro ⟨HB, HP⟩
    isplitl [HB HP]
    · isplitl [HB]; · iexact HB
      iexact HP
    iintro %acc ⟨HB, -⟩
    iexact HB
  intro k acc
  rw [Ring.bigSep_rangeSet_head (Φ := Pre) k.isLt k.isLt]
  iintro ⟨HB, HP, HR⟩
  ihave HP' := (show Pre ⟨k.val, k.isLt⟩ ⊢ _ from hpre k) $$ HP
  icases HP' with ⟨Hs, ⟨%fd, Hd⟩⟩
  iapply (Transfers.wp_dmaBatch (countersEmb (U := Pipeline.UD sig nD τ)) Variants.none (c : Thread nD τ) none
    (src := src k) (dst := dst k) () N (hN k) subset_rfl k.isLt (Nat.zero_le _) (hD k fd)) $$ [Hs Hd HB]
  · isplitl [Hs]; · iexact Hs
    isplitl [Hd]; · iexact Hd
    iexact HB
  iintro HB
  dsimp only [Prog.bind]
  sl_step
  isplitl [HB]; · iexact HB
  iexact HR

/-- A loop whose trip `k` waits for one transfer's units drains the batch: the cell is at zero again and everything
    the transfers deliver is there. -/
theorem wait_loop {n : ℕ} {sp sp' : Space} {S : Shape} {e : EltTy} (L : Scf.Loop 32) (hL : L.OK) (hT : L.trips = n) (hn : 0 < n)
    (src : Fin L.trips → Memref sig .tc sp S e) (dst : Fin L.trips → Memref sig .tc sp' S e) (sm : DmaSem sig)
    (h1 : ∀ k, (src k).view.WordExact) (h2 : ∀ k, (dst k).view.WordExact)
    (N : ℕ) (hN : ∀ k, (dst k).view.dmaCredit = N) (hN0 : 0 < N) (D : Fin n → sProp 𝕄) (W : Waits sig Unit) :
    iprop(batch c (.dma sm) N D n 0 ∗ owes (c : Thread nD τ) 0 W)
      ⊢ wp frame (wpE (defs₀ (F := F)) Variants.none (c : Thread nD τ) none) Set.univ
        (Scf.Loop.for L hL (⟨⟩ : Unit) (fun k _ => do
          Prog.lift (.waitDma2 sm (src k) (dst k) (h1 k) (h2 k))
          pure ⟨⟩)) (fun _ => iprop(cell c (.dma sm) ∗ bigSep Finset.univ D ∗ ∃ W, owes (c : Thread nD τ) 0 W)) := by
  subst hT
  refine BIBase.Entails.trans ?_ (Scf.wp_for frame _ Set.univ L.lb L.ub L.st hL _ _
    (fun k _ => iprop((∃ W, owes (c : Thread nD τ) 0 W) ∗ (if k < L.trips then batch c (.dma sm) N D L.trips (k * N)
      else iprop(cell c (.dma sm) ∗ bigSep Finset.univ D)))) ?_)
  · rw [if_pos hn, Nat.zero_mul, if_neg (Nat.lt_irrefl _)]
    iintro ⟨HB, HO⟩
    isplitl [HB HO]
    · isplitl [HO]; · iexists _; iexact HO
      iexact HB
    iintro %acc ⟨HO, HS, HD⟩
    isplitl [HS]; · iexact HS
    isplitl [HD]; · iexact HD
    iexact HO
  intro k acc
  have hk : k.val < L.trips := k.isLt
  rw [if_pos hk]
  rcases Nat.lt_or_ge (k.val + 1) L.trips with h | h
  · rw [if_pos h]
    iintro ⟨⟨%W', HO⟩, HB⟩
    iapply (Transfers.wp_waitBatch (countersEmb (U := Pipeline.UD sig nD τ)) Variants.none (c : Thread nD τ) none (srcw := src k) (dstw := dst k)
      () (hN k) (by have := Nat.mul_lt_mul_of_pos_right h hN0; rw [Nat.add_mul, Nat.one_mul, Nat.mul_comm L.trips] at this; omega)) $$ [HB HO]
    · isplitl [HB]; · iexact HB
      iexact HO
    iintro ⟨HB, HO⟩
    dsimp only [Prog.bind]
    sl_step
    isplitl [HO]; · iexists _; iexact HO
    rw [Nat.add_mul, Nat.one_mul]
    iexact HB
  · rw [if_neg (Nat.not_lt.mpr h)]
    iintro ⟨⟨%W', HO⟩, HB⟩
    have e : k.val + 1 = L.trips := by omega
    iapply (Transfers.wp_waitBatchLast (countersEmb (U := Pipeline.UD sig nD τ)) Variants.none (c : Thread nD τ) none (srcw := src k) (dstw := dst k)
      () (hN k) hN0 (by rw [← Nat.add_one_mul, e, Nat.mul_comm])) $$ [HB HO]
    · isplitl [HB]; · iexact HB
      iexact HO
    iintro ⟨HD, HS, HO⟩
    dsimp only [Prog.bind]
    sl_step
    isplitl [HO]; · iexists _; iexact HO
    isplitl [HS]; · iexact HS
    iexact HD

/-- One transfer alone, started. -/
theorem start_one {α : Type} {sp sp' : Space} {S : Shape} {e : EltTy} (src : Memref sig .tc sp S e) (dst : Memref sig .tc sp' S e) (sm : SemLoc sig)
    (h1 : src.view.WordExact) (h2 : dst.view.WordExact) (h3 : DmaTarget.Typed (nD := nD) (τ := τ) (p := (.tc : Proc τ)) sp sm (.here dst))
    (N : ℕ) (hN : dst.view.amount sm = N) (D : Fin 1 → sProp 𝕄)
    (fs : Buf (Elt F) (src.view.loc (c : Thread nD τ))) (fd : Buf (Elt F) (dst.view.loc (c : Thread nD τ)))
    (hD : iprop((dst.view.loc (c : Thread nD τ) ↦[dst.view.set]{fullShare}
          dst.view.write (Elt F) fd (ReadAs.same.apply (src.view.read (Elt F) fs)) Finset.univ)
        ∗ (src.view.loc (c : Thread nD τ) ↦[src.view.set]{fullShare} fs)) ⊢ D 0)
    (k : PUnit → Prog (TpuEff nD τ sig (Elt F) Λ₀ .tc) α) (Q : α → sProp 𝕄) :
    iprop(batch c sm N D 0 0 ∗ (src.view.loc (c : Thread nD τ) ↦[src.view.set]{fullShare} fs)
        ∗ (dst.view.loc (c : Thread nD τ) ↦[dst.view.set]{fullShare} fd)
        ∗ (batch c sm N D 1 0 -∗ wp frame (wpE (defs₀ (F := F)) Variants.none (c : Thread nD τ) none) Set.univ (k ⟨⟩) Q))
      ⊢ wp frame (wpE (defs₀ (F := F)) Variants.none (c : Thread nD τ) none) Set.univ
        (.op (.enqueueDma src (.here dst) sm h1 h2 h3) k) Q := by
  iintro ⟨HB, Hs, Hd, Hk⟩
  iapply (Transfers.wp_dmaBatch (countersEmb (U := Pipeline.UD sig nD τ)) Variants.none (c : Thread nD τ) none
    (src := src) (dst := dst) () N hN subset_rfl Nat.one_pos (Nat.zero_le _) hD) $$ [Hs Hd HB]
  · isplitl [Hs]; · iexact Hs
    isplitl [Hd]; · iexact Hd
    iexact HB
  iexact Hk

/-- One transfer alone, waited for. -/
theorem wait_one {α : Type} {sp sp' : Space} {S : Shape} {e : EltTy} (src : Memref sig .tc sp S e) (dst : Memref sig .tc sp' S e) (sm : DmaSem sig)
    (h1 : src.view.WordExact) (h2 : dst.view.WordExact)
    (N : ℕ) (hN : dst.view.dmaCredit = N) (hN0 : 0 < N) (D : Fin 1 → sProp 𝕄) (W : Waits sig Unit)
    (k : PUnit → Prog (TpuEff nD τ sig (Elt F) Λ₀ .tc) α) (Q : α → sProp 𝕄) :
    iprop(batch c (.dma sm) N D 1 0 ∗ owes (c : Thread nD τ) 0 W
        ∗ (iprop(cell c (.dma sm) ∗ D 0 ∗ ∃ W, owes (c : Thread nD τ) 0 W)
          -∗ wp frame (wpE (defs₀ (F := F)) Variants.none (c : Thread nD τ) none) Set.univ (k ⟨⟩) Q))
      ⊢ wp frame (wpE (defs₀ (F := F)) Variants.none (c : Thread nD τ) none) Set.univ
        (.op (.waitDma2 sm src dst h1 h2) k) Q := by
  iintro ⟨HB, HO, Hk⟩
  iapply (Transfers.wp_waitBatchLast (countersEmb (U := Pipeline.UD sig nD τ)) Variants.none (c : Thread nD τ) none (srcw := src) (dstw := dst)
      () hN hN0 (n := 1) (u := 0) (by omega)) $$ [HB HO]
  · isplitl [HB]; · iexact HB
    iexact HO
  iintro ⟨HD, HS, HO⟩
  iapply Hk
  isplitl [HS]; · iexact HS
  isplitl [HD]
  · iapply (Entails.of_eq (show bigSep Finset.univ D = D 0 from BI.bigSep_singleton)); iexact HD
  iexists _; iexact HO

end Cert.Kernel.Hand

end
-- ==== Proof.SlotK.lean ====
/-
  The copies of one expert's weights: which elements each transfer moves, what lands where, and the loops that start
  and await them.
-/
module

public import proofs.«01_k».proof.Proof.CopyK
public import Idealize.ShloMosaic.Lib.ValueIdxCore

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The buffer `b` held at contents `f` on the elements `I`. -/
abbrev pt (b : Ref sig .tc) (I : Finset b.ty.shape.Idx) (f : b.ty.Contents (Elt F)) : sProp 𝕄 :=
  ((c : Thread nD τ).loc b) ↦[I]{fullShare} f

theorem amt {sp : Space} {S : Shape} {e : EltTy} (M : Memref sig .tc sp S e) (sm : DmaSem sig) :
    M.view.amount (.dma sm) = M.view.dmaCredit := View.amount_dma _ _

/-- Leading unit axes dropped: the same coordinates. -/
theorem sq3 {a b : ℕ} (h : (⟨2, ![a, b]⟩ : Shape).numel = (⟨3, ![1, a, b]⟩ : Shape).numel) (p : Fin a) (q : Fin b) :
    Shape.reshapeEquiv h (ix2 p q) = ix3 0 p q :=
  Shape.reshapeEquiv_eq_of_rowMajor h (by
    rw [Shape.rowMajor_val_three, Shape.rowMajor_val_two]
    show ((0 : ℕ) * a + p.val) * b + q.val = p.val * b + q.val
    rw [Nat.zero_mul, Nat.zero_add])
theorem sq4 {a b d : ℕ} (h : (⟨3, ![a, b, d]⟩ : Shape).numel = (⟨4, ![1, a, b, d]⟩ : Shape).numel) (p : Fin a) (q : Fin b) (r : Fin d) :
    Shape.reshapeEquiv h (ix3 p q r) = ix4 0 p q r :=
  Shape.reshapeEquiv_eq_of_rowMajor h (by
    rw [Shape.rowMajor_val_four, Shape.rowMajor_val_three]
    show (((0 : ℕ) * a + p.val) * b + q.val) * d + r.val = (p.val * b + q.val) * d + r.val
    rw [Nat.zero_mul, Nat.zero_add])
theorem sq5 {a b d : ℕ} (h : (⟨3, ![a, b, d]⟩ : Shape).numel = (⟨5, ![1, 1, a, b, d]⟩ : Shape).numel) (p : Fin a) (q : Fin b) (r : Fin d) :
    Shape.reshapeEquiv h (ix3 p q r) = ix5 0 0 p q r :=
  Shape.reshapeEquiv_eq_of_rowMajor h (by
    rw [Shape.rowMajor_val_five, Shape.rowMajor_val_three]
    show ((((0 : ℕ) * 1 + 0) * a + p.val) * b + q.val) * d + r.val = (p.val * b + q.val) * d + r.val
    simp only [Nat.zero_mul, Nat.zero_add])

/-- The cell of row `b`, slot `s` of the semaphore array. -/
def semOf (b : Fin 4) (s : Fin 2) : DmaSem sig := ⟨5 + 2 * b.val + s.val, by have := b.isLt; have := s.isLt; show _ < 13; omega⟩

theorem sem_eq (b : Fin 4) (s : Fin 2) (off : Fin 2 → ℕ) (inb : ∀ a, off a + S1x1.size a ≤ S4x2.size a) (h : off = ![b.val, s.val]) :
    (((cc0_scratch8).slice (Rect.unit (s := S4x2) off S1x1.size inb)).squeeze S_ squeezes_S1x1_S_).sem = semOf b s := by
  subst h
  have key : ∀ x : S1x1.Idx, 5 + (S4x2.rowMajor ((Rect.unit (s := S4x2) ![b.val, s.val] S1x1.size inb).emb x)).val = 5 + 2 * b.val + s.val := fun x => by
    have h0 : (x 0).val < 1 := (x 0).isLt
    have h1 : (x 1).val < 1 := (x 1).isLt
    have e0 : ((Rect.unit (s := S4x2) ![b.val, s.val] S1x1.size inb).emb x 0).val = b.val + 1 * (x 0).val := Rect.emb_apply _ _ _
    have e1 : ((Rect.unit (s := S4x2) ![b.val, s.val] S1x1.size inb).emb x 1).val = s.val + 1 * (x 1).val := Rect.emb_apply _ _ _
    have e : (S4x2.rowMajor ((Rect.unit (s := S4x2) ![b.val, s.val] S1x1.size inb).emb x)).val = _ := Shape.rowMajor_val_two ((Rect.unit (s := S4x2) ![b.val, s.val] S1x1.size inb).emb x)
    have e2 : (![4, 2] : Fin 2 → ℕ) 1 = 2 := rfl
    rw [e0, e1, e2] at e
    omega
  exact Fin.ext (key _)

/-! ### The gate and up weights -/

/-- Tile `i` of slot `s`. -/
def guDst (s i : ℕ) : Finset S2x24x64x16x128.Idx := Finset.univ.filter fun y => (y 0).val = s ∧ (y 1).val = i
/-- Columns `128 i … 128 i + 127` of expert `e`. -/
def guSrc (e i : ℕ) : Finset S32x64x16x3072.Idx := Finset.univ.filter fun y => (y 0).val = e ∧ (y 3).val / 128 = i
/-- The other experts. -/
def guRest (e : ℕ) : Finset S32x64x16x3072.Idx := Finset.univ.filter fun y => (y 0).val ≠ e
/-- Slot `s`. -/
def guSlot (s : ℕ) : Finset S2x24x64x16x128.Idx := Finset.univ.filter fun y => (y 0).val = s

theorem guDst_set (s i : ℕ) (off : Fin 5 → ℕ) (inb : ∀ a, off a + S1x1x64x16x128.size a ≤ S2x24x64x16x128.size a) (h : off = ![s, i, 0, 0, 0]) :
    (((whole cc0_scratch0 : Memref sig .tc .vmem S2x24x64x16x128 .i8).slice (Rect.unit (s := S2x24x64x16x128) off S1x1x64x16x128.size inb) (fun _ => rfl)).squeeze S64x16x128 squeezes_S1x1x64x16x128_S64x16x128).view.set
      = guDst s i := by
  subst h
  refine (View.set_reshape _ _).trans ((View.set_slice_whole _ _).trans ?_)
  ext y
  rw [Rect.mem_set_unit, guDst, Finset.mem_filter]
  have h2 : (y 2).val < 64 := (y 2).isLt
  have h3 : (y 3).val < 16 := (y 3).isLt
  have h4 : (y 4).val < 128 := (y 4).isLt
  constructor
  · intro H
    have a0 : s ≤ (y 0).val ∧ (y 0).val < s + 1 := H 0
    have a1 : i ≤ (y 1).val ∧ (y 1).val < i + 1 := H 1
    exact ⟨Finset.mem_univ _, by omega, by omega⟩
  · rintro ⟨-, a0, a1⟩ a
    fin_cases a
    · show s ≤ (y 0).val ∧ (y 0).val < s + 1; omega
    · show i ≤ (y 1).val ∧ (y 1).val < i + 1; omega
    · show 0 ≤ (y 2).val ∧ (y 2).val < 0 + 64; omega
    · show 0 ≤ (y 3).val ∧ (y 3).val < 0 + 16; omega
    · show 0 ≤ (y 4).val ∧ (y 4).val < 0 + 128; omega

theorem guSrc_set (e i : ℕ) (off : Fin 4 → ℕ) (inb : ∀ a, off a + S1x64x16x128.size a ≤ S32x64x16x3072.size a) (h : off = ![e, 0, 0, 128 * i]) :
    (((whole main_v5 : Memref sig .tc .hbm S32x64x16x3072 .i8).slice (Rect.unit (s := S32x64x16x3072) off S1x64x16x128.size inb) (fun _ => rfl)).squeeze S64x16x128 squeezes_S1x64x16x128_S64x16x128).view.set
      = guSrc e i := by
  subst h
  refine (View.set_reshape _ _).trans ((View.set_slice_whole _ _).trans ?_)
  ext y
  rw [Rect.mem_set_unit, guSrc, Finset.mem_filter]
  have h1 : (y 1).val < 64 := (y 1).isLt
  have h2 : (y 2).val < 16 := (y 2).isLt
  constructor
  · intro H
    have a0 : e ≤ (y 0).val ∧ (y 0).val < e + 1 := H 0
    have a3 : 128 * i ≤ (y 3).val ∧ (y 3).val < 128 * i + 128 := H 3
    exact ⟨Finset.mem_univ _, by omega, by omega⟩
  · rintro ⟨-, a0, a3⟩ a
    fin_cases a
    · show e ≤ (y 0).val ∧ (y 0).val < e + 1; omega
    · show 0 ≤ (y 1).val ∧ (y 1).val < 0 + 64; omega
    · show 0 ≤ (y 2).val ∧ (y 2).val < 0 + 16; omega
    · show 128 * i ≤ (y 3).val ∧ (y 3).val < 128 * i + 128; omega

/-- Where the element `y` of a slot comes from. -/
def guIdx (e : Fin 32) (y : S2x24x64x16x128.Idx) : S32x64x16x3072.Idx :=
  ix4 e (y 2) (y 3) ⟨128 * (y 1).val + (y 4).val, by have h1 : (y 1).val < 24 := (y 1).isLt; have h4 : (y 4).val < 128 := (y 4).isLt; show _ < 3072; omega⟩
/-- What a slot holds once expert `e` has landed. -/
def guLand (X : S32x64x16x3072.Idx → Elt F .i8) (e : Fin 32) : S2x24x64x16x128.Idx → Elt F .i8 := fun y => X (guIdx e y)

theorem gu_land (X : S32x64x16x3072.Idx → Elt F .i8) (e : Fin 32) (s i : ℕ) (oD : Fin 5 → ℕ) (inbD : ∀ a, oD a + S1x1x64x16x128.size a ≤ S2x24x64x16x128.size a)
    (oS : Fin 4 → ℕ) (inbS : ∀ a, oS a + S1x64x16x128.size a ≤ S32x64x16x3072.size a)
    (hD : oD = ![s, i, 0, 0, 0]) (hS : oS = ![e.val, 0, 0, 128 * i]) (fd : S2x24x64x16x128.Idx → Elt F .i8)
    (y : S2x24x64x16x128.Idx) (hy : y ∈ guDst s i) :
    (((whole cc0_scratch0 : Memref sig .tc .vmem S2x24x64x16x128 .i8).slice (Rect.unit (s := S2x24x64x16x128) oD S1x1x64x16x128.size inbD) (fun _ => rfl)).squeeze S64x16x128 squeezes_S1x1x64x16x128_S64x16x128).view.write (Elt F) fd
      (ReadAs.same.apply ((((whole main_v5 : Memref sig .tc .hbm S32x64x16x3072 .i8).slice (Rect.unit (s := S32x64x16x3072) oS S1x64x16x128.size inbS) (fun _ => rfl)).squeeze S64x16x128 squeezes_S1x64x16x128_S64x16x128).view.read (Elt F) X))
      Finset.univ y = guLand X e y := by
  subst hD; subst hS
  obtain ⟨-, hy0, hy1⟩ := Finset.mem_filter.mp hy
  let p : Fin 64 := y 2
  let q : Fin 16 := y 3
  let r : Fin 128 := y 4
  have hz : y = (((whole cc0_scratch0 : Memref sig .tc .vmem S2x24x64x16x128 .i8).slice (Rect.unit (s := S2x24x64x16x128) ![s, i, 0, 0, 0] S1x1x64x16x128.size inbD) (fun _ => rfl)).squeeze S64x16x128 squeezes_S1x1x64x16x128_S64x16x128).view.emb
      (ix3 p q r) := by
    refine Eq.trans ?_ (congrArg (Rect.unit (s := S2x24x64x16x128) ![s, i, 0, 0, 0] S1x1x64x16x128.size inbD).emb (sq5 squeezes_S1x1x64x16x128_S64x16x128.numel_eq p q r)).symm
    funext a
    apply Fin.ext
    refine Eq.trans ?_ (Rect.emb_apply _ _ _).symm
    fin_cases a
    · show (y 0).val = s + 1 * 0; omega
    · show (y 1).val = i + 1 * 0; omega
    · show (y 2).val = 0 + 1 * (y 2).val; omega
    · show (y 3).val = 0 + 1 * (y 3).val; omega
    · show (y 4).val = 0 + 1 * (y 4).val; omega
  refine (congrArg _ hz).trans ((View.write_emb_of_mem _ _ (Finset.mem_univ _)).trans ?_)
  refine congrArg X ((congrArg (Rect.unit (s := S32x64x16x3072) ![e.val, 0, 0, 128 * i] S1x64x16x128.size inbS).emb (sq4 squeezes_S1x64x16x128_S64x16x128.numel_eq p q r)).trans ?_)
  funext a
  apply Fin.ext
  refine (Rect.emb_apply _ _ _).trans ?_
  fin_cases a
  · show e.val + 1 * 0 = e.val; omega
  · show 0 + 1 * (y 2).val = (y 2).val; omega
  · show 0 + 1 * (y 3).val = (y 3).val; omega
  · show 128 * i + 1 * (y 4).val = 128 * (y 1).val + (y 4).val; omega

/-- What transfer `i` of expert `e` into slot `s` needs, -/
def guPre (s : ℕ) (e : Fin 32) (X : S32x64x16x3072.Idx → Elt F .i8) (i : Fin 24) : sProp 𝕄 :=
  iprop((pt c main_v5 (guSrc e.val i.val) X) ∗ ∃ g, pt c cc0_scratch0 (guDst s i.val) g)
/-- and what it delivers. -/
def guDel (s : ℕ) (e : Fin 32) (X : S32x64x16x3072.Idx → Elt F .i8) (i : Fin 24) : sProp 𝕄 :=
  iprop((pt c cc0_scratch0 (guDst s i.val) (guLand X e)) ∗ (pt c main_v5 (guSrc e.val i.val) X))
instance (s : ℕ) (e : Fin 32) (X : S32x64x16x3072.Idx → Elt F .i8) (i : Fin 24) : BI.Storable (upEmb : UEmb _ 𝕄) (guDel c s e X i) := by
  unfold guDel; infer_instance
/-- One transfer's units. -/
def guN : ℕ := ((((whole cc0_scratch0 : Memref sig .tc .vmem S2x24x64x16x128 .i8).slice (Rect.unit (s := S2x24x64x16x128) ![0, 0, 0, 0, 0] S1x1x64x16x128.size (by decide)) (fun _ => rfl)).squeeze S64x16x128 squeezes_S1x1x64x16x128_S64x16x128).view).dmaCredit
theorem guN_pos : 0 < guN := View.dmaCredit_pos _ (by decide)

/-! ### The down weights -/

/-- Tile `i` of slot `s`. -/
def dnDst (s i : ℕ) : Finset S2x16x48x16x128.Idx := Finset.univ.filter fun y => (y 0).val = s ∧ (y 1).val = i
/-- Columns `128 i … 128 i + 127` of expert `e`. -/
def dnSrc (e i : ℕ) : Finset S32x48x16x2048.Idx := Finset.univ.filter fun y => (y 0).val = e ∧ (y 3).val / 128 = i
/-- The other experts. -/
def dnRest (e : ℕ) : Finset S32x48x16x2048.Idx := Finset.univ.filter fun y => (y 0).val ≠ e
/-- Slot `s`. -/
def dnSlot (s : ℕ) : Finset S2x16x48x16x128.Idx := Finset.univ.filter fun y => (y 0).val = s

theorem dnDst_set (s i : ℕ) (off : Fin 5 → ℕ) (inb : ∀ a, off a + S1x1x48x16x128.size a ≤ S2x16x48x16x128.size a) (h : off = ![s, i, 0, 0, 0]) :
    (((whole cc0_scratch2 : Memref sig .tc .vmem S2x16x48x16x128 .i8).slice (Rect.unit (s := S2x16x48x16x128) off S1x1x48x16x128.size inb) (fun _ => rfl)).squeeze S48x16x128 squeezes_S1x1x48x16x128_S48x16x128).view.set
      = dnDst s i := by
  subst h
  refine (View.set_reshape _ _).trans ((View.set_slice_whole _ _).trans ?_)
  ext y
  rw [Rect.mem_set_unit, dnDst, Finset.mem_filter]
  have h2 : (y 2).val < 48 := (y 2).isLt
  have h3 : (y 3).val < 16 := (y 3).isLt
  have h4 : (y 4).val < 128 := (y 4).isLt
  constructor
  · intro H
    have a0 : s ≤ (y 0).val ∧ (y 0).val < s + 1 := H 0
    have a1 : i ≤ (y 1).val ∧ (y 1).val < i + 1 := H 1
    exact ⟨Finset.mem_univ _, by omega, by omega⟩
  · rintro ⟨-, a0, a1⟩ a
    fin_cases a
    · show s ≤ (y 0).val ∧ (y 0).val < s + 1; omega
    · show i ≤ (y 1).val ∧ (y 1).val < i + 1; omega
    · show 0 ≤ (y 2).val ∧ (y 2).val < 0 + 48; omega
    · show 0 ≤ (y 3).val ∧ (y 3).val < 0 + 16; omega
    · show 0 ≤ (y 4).val ∧ (y 4).val < 0 + 128; omega

theorem dnSrc_set (e i : ℕ) (off : Fin 4 → ℕ) (inb : ∀ a, off a + S1x48x16x128.size a ≤ S32x48x16x2048.size a) (h : off = ![e, 0, 0, 128 * i]) :
    (((whole main_v7 : Memref sig .tc .hbm S32x48x16x2048 .i8).slice (Rect.unit (s := S32x48x16x2048) off S1x48x16x128.size inb) (fun _ => rfl)).squeeze S48x16x128 squeezes_S1x48x16x128_S48x16x128).view.set
      = dnSrc e i := by
  subst h
  refine (View.set_reshape _ _).trans ((View.set_slice_whole _ _).trans ?_)
  ext y
  rw [Rect.mem_set_unit, dnSrc, Finset.mem_filter]
  have h1 : (y 1).val < 48 := (y 1).isLt
  have h2 : (y 2).val < 16 := (y 2).isLt
  constructor
  · intro H
    have a0 : e ≤ (y 0).val ∧ (y 0).val < e + 1 := H 0
    have a3 : 128 * i ≤ (y 3).val ∧ (y 3).val < 128 * i + 128 := H 3
    exact ⟨Finset.mem_univ _, by omega, by omega⟩
  · rintro ⟨-, a0, a3⟩ a
    fin_cases a
    · show e ≤ (y 0).val ∧ (y 0).val < e + 1; omega
    · show 0 ≤ (y 1).val ∧ (y 1).val < 0 + 48; omega
    · show 0 ≤ (y 2).val ∧ (y 2).val < 0 + 16; omega
    · show 128 * i ≤ (y 3).val ∧ (y 3).val < 128 * i + 128; omega

/-- Where the element `y` of a slot comes from. -/
def dnIdx (e : Fin 32) (y : S2x16x48x16x128.Idx) : S32x48x16x2048.Idx :=
  ix4 e (y 2) (y 3) ⟨128 * (y 1).val + (y 4).val, by have h1 : (y 1).val < 16 := (y 1).isLt; have h4 : (y 4).val < 128 := (y 4).isLt; show _ < 2048; omega⟩
/-- What a slot holds once expert `e` has landed. -/
def dnLand (X : S32x48x16x2048.Idx → Elt F .i8) (e : Fin 32) : S2x16x48x16x128.Idx → Elt F .i8 := fun y => X (dnIdx e y)

theorem dn_land (X : S32x48x16x2048.Idx → Elt F .i8) (e : Fin 32) (s i : ℕ) (oD : Fin 5 → ℕ) (inbD : ∀ a, oD a + S1x1x48x16x128.size a ≤ S2x16x48x16x128.size a)
    (oS : Fin 4 → ℕ) (inbS : ∀ a, oS a + S1x48x16x128.size a ≤ S32x48x16x2048.size a)
    (hD : oD = ![s, i, 0, 0, 0]) (hS : oS = ![e.val, 0, 0, 128 * i]) (fd : S2x16x48x16x128.Idx → Elt F .i8)
    (y : S2x16x48x16x128.Idx) (hy : y ∈ dnDst s i) :
    (((whole cc0_scratch2 : Memref sig .tc .vmem S2x16x48x16x128 .i8).slice (Rect.unit (s := S2x16x48x16x128) oD S1x1x48x16x128.size inbD) (fun _ => rfl)).squeeze S48x16x128 squeezes_S1x1x48x16x128_S48x16x128).view.write (Elt F) fd
      (ReadAs.same.apply ((((whole main_v7 : Memref sig .tc .hbm S32x48x16x2048 .i8).slice (Rect.unit (s := S32x48x16x2048) oS S1x48x16x128.size inbS) (fun _ => rfl)).squeeze S48x16x128 squeezes_S1x48x16x128_S48x16x128).view.read (Elt F) X))
      Finset.univ y = dnLand X e y := by
  subst hD; subst hS
  obtain ⟨-, hy0, hy1⟩ := Finset.mem_filter.mp hy
  let p : Fin 48 := y 2
  let q : Fin 16 := y 3
  let r : Fin 128 := y 4
  have hz : y = (((whole cc0_scratch2 : Memref sig .tc .vmem S2x16x48x16x128 .i8).slice (Rect.unit (s := S2x16x48x16x128) ![s, i, 0, 0, 0] S1x1x48x16x128.size inbD) (fun _ => rfl)).squeeze S48x16x128 squeezes_S1x1x48x16x128_S48x16x128).view.emb
      (ix3 p q r) := by
    refine Eq.trans ?_ (congrArg (Rect.unit (s := S2x16x48x16x128) ![s, i, 0, 0, 0] S1x1x48x16x128.size inbD).emb (sq5 squeezes_S1x1x48x16x128_S48x16x128.numel_eq p q r)).symm
    funext a
    apply Fin.ext
    refine Eq.trans ?_ (Rect.emb_apply _ _ _).symm
    fin_cases a
    · show (y 0).val = s + 1 * 0; omega
    · show (y 1).val = i + 1 * 0; omega
    · show (y 2).val = 0 + 1 * (y 2).val; omega
    · show (y 3).val = 0 + 1 * (y 3).val; omega
    · show (y 4).val = 0 + 1 * (y 4).val; omega
  refine (congrArg _ hz).trans ((View.write_emb_of_mem _ _ (Finset.mem_univ _)).trans ?_)
  refine congrArg X ((congrArg (Rect.unit (s := S32x48x16x2048) ![e.val, 0, 0, 128 * i] S1x48x16x128.size inbS).emb (sq4 squeezes_S1x48x16x128_S48x16x128.numel_eq p q r)).trans ?_)
  funext a
  apply Fin.ext
  refine (Rect.emb_apply _ _ _).trans ?_
  fin_cases a
  · show e.val + 1 * 0 = e.val; omega
  · show 0 + 1 * (y 2).val = (y 2).val; omega
  · show 0 + 1 * (y 3).val = (y 3).val; omega
  · show 128 * i + 1 * (y 4).val = 128 * (y 1).val + (y 4).val; omega

/-- What transfer `i` of expert `e` into slot `s` needs, -/
def dnPre (s : ℕ) (e : Fin 32) (X : S32x48x16x2048.Idx → Elt F .i8) (i : Fin 16) : sProp 𝕄 :=
  iprop((pt c main_v7 (dnSrc e.val i.val) X) ∗ ∃ g, pt c cc0_scratch2 (dnDst s i.val) g)
/-- and what it delivers. -/
def dnDel (s : ℕ) (e : Fin 32) (X : S32x48x16x2048.Idx → Elt F .i8) (i : Fin 16) : sProp 𝕄 :=
  iprop((pt c cc0_scratch2 (dnDst s i.val) (dnLand X e)) ∗ (pt c main_v7 (dnSrc e.val i.val) X))
instance (s : ℕ) (e : Fin 32) (X : S32x48x16x2048.Idx → Elt F .i8) (i : Fin 16) : BI.Storable (upEmb : UEmb _ 𝕄) (dnDel c s e X i) := by
  unfold dnDel; infer_instance
/-- One transfer's units. -/
def dnN : ℕ := ((((whole cc0_scratch2 : Memref sig .tc .vmem S2x16x48x16x128 .i8).slice (Rect.unit (s := S2x16x48x16x128) ![0, 0, 0, 0, 0] S1x1x48x16x128.size (by decide)) (fun _ => rfl)).squeeze S48x16x128 squeezes_S1x1x48x16x128_S48x16x128).view).dmaCredit
theorem dnN_pos : 0 < dnN := View.dmaCredit_pos _ (by decide)

/-! ### The gate and up scales -/

/-- Slot `s`. -/
def gusSlot (s : ℕ) : Finset S2x64x3072.Idx := Finset.univ.filter fun y => (y 0).val = s
/-- Expert `e`'s scales, -/
def gusSrc (e : ℕ) : Finset S32x64x3072.Idx := Finset.univ.filter fun y => (y 0).val = e
/-- and the other experts'. -/
def gusRest (e : ℕ) : Finset S32x64x3072.Idx := Finset.univ.filter fun y => (y 0).val ≠ e

theorem gusDst_set (s : ℕ) (off : Fin 3 → ℕ) (inb : ∀ a, off a + S1x64x3072.size a ≤ S2x64x3072.size a) (h : off = ![s, 0, 0]) :
    (((whole cc0_scratch1 : Memref sig .tc .vmem S2x64x3072 .i8).slice (Rect.unit (s := S2x64x3072) off S1x64x3072.size inb) (fun _ => rfl)).squeeze S64x3072 squeezes_S1x64x3072_S64x3072).view.set
      = gusSlot s := by
  subst h
  refine (View.set_reshape _ _).trans ((View.set_slice_whole _ _).trans ?_)
  ext y
  rw [Rect.mem_set_unit, gusSlot, Finset.mem_filter]
  have h1 : (y 1).val < 64 := (y 1).isLt
  have h2 : (y 2).val < 3072 := (y 2).isLt
  constructor
  · intro H
    have a0 : s ≤ (y 0).val ∧ (y 0).val < s + 1 := H 0
    exact ⟨Finset.mem_univ _, by omega⟩
  · rintro ⟨-, a0⟩ a
    fin_cases a
    · show s ≤ (y 0).val ∧ (y 0).val < s + 1; omega
    · show 0 ≤ (y 1).val ∧ (y 1).val < 0 + 64; omega
    · show 0 ≤ (y 2).val ∧ (y 2).val < 0 + 3072; omega

theorem gusSrc_set (e : ℕ) (off : Fin 3 → ℕ) (inb : ∀ a, off a + S1x64x3072.size a ≤ S32x64x3072.size a) (h : off = ![e, 0, 0]) :
    (((whole main_v6 : Memref sig .tc .hbm S32x64x3072 .i8).slice (Rect.unit (s := S32x64x3072) off S1x64x3072.size inb) (fun _ => rfl)).squeeze S64x3072 squeezes_S1x64x3072_S64x3072).view.set
      = gusSrc e := by
  subst h
  refine (View.set_reshape _ _).trans ((View.set_slice_whole _ _).trans ?_)
  ext y
  rw [Rect.mem_set_unit, gusSrc, Finset.mem_filter]
  have h1 : (y 1).val < 64 := (y 1).isLt
  have h2 : (y 2).val < 3072 := (y 2).isLt
  constructor
  · intro H
    have a0 : e ≤ (y 0).val ∧ (y 0).val < e + 1 := H 0
    exact ⟨Finset.mem_univ _, by omega⟩
  · rintro ⟨-, a0⟩ a
    fin_cases a
    · show e ≤ (y 0).val ∧ (y 0).val < e + 1; omega
    · show 0 ≤ (y 1).val ∧ (y 1).val < 0 + 64; omega
    · show 0 ≤ (y 2).val ∧ (y 2).val < 0 + 3072; omega

/-- What a slot holds once expert `e`'s scales have landed. -/
def gusLand (X : S32x64x3072.Idx → Elt F .i8) (e : Fin 32) : S2x64x3072.Idx → Elt F .i8 := fun y => X (ix3 e (y 1) (y 2))

theorem gus_land (X : S32x64x3072.Idx → Elt F .i8) (e : Fin 32) (s : ℕ) (oD : Fin 3 → ℕ) (inbD : ∀ a, oD a + S1x64x3072.size a ≤ S2x64x3072.size a)
    (oS : Fin 3 → ℕ) (inbS : ∀ a, oS a + S1x64x3072.size a ≤ S32x64x3072.size a)
    (hD : oD = ![s, 0, 0]) (hS : oS = ![e.val, 0, 0]) (fd : S2x64x3072.Idx → Elt F .i8)
    (y : S2x64x3072.Idx) (hy : y ∈ gusSlot s) :
    (((whole cc0_scratch1 : Memref sig .tc .vmem S2x64x3072 .i8).slice (Rect.unit (s := S2x64x3072) oD S1x64x3072.size inbD) (fun _ => rfl)).squeeze S64x3072 squeezes_S1x64x3072_S64x3072).view.write (Elt F) fd
      (ReadAs.same.apply ((((whole main_v6 : Memref sig .tc .hbm S32x64x3072 .i8).slice (Rect.unit (s := S32x64x3072) oS S1x64x3072.size inbS) (fun _ => rfl)).squeeze S64x3072 squeezes_S1x64x3072_S64x3072).view.read (Elt F) X))
      Finset.univ y = gusLand X e y := by
  subst hD; subst hS
  obtain ⟨-, hy0⟩ := Finset.mem_filter.mp hy
  let p : Fin 64 := y 1
  let q : Fin 3072 := y 2
  have hz : y = (((whole cc0_scratch1 : Memref sig .tc .vmem S2x64x3072 .i8).slice (Rect.unit (s := S2x64x3072) ![s, 0, 0] S1x64x3072.size inbD) (fun _ => rfl)).squeeze S64x3072 squeezes_S1x64x3072_S64x3072).view.emb
      (ix2 p q) := by
    refine Eq.trans ?_ (congrArg (Rect.unit (s := S2x64x3072) ![s, 0, 0] S1x64x3072.size inbD).emb (sq3 squeezes_S1x64x3072_S64x3072.numel_eq p q)).symm
    funext a
    apply Fin.ext
    refine Eq.trans ?_ (Rect.emb_apply _ _ _).symm
    fin_cases a
    · show (y 0).val = s + 1 * 0; omega
    · show (y 1).val = 0 + 1 * (y 1).val; omega
    · show (y 2).val = 0 + 1 * (y 2).val; omega
  refine (congrArg _ hz).trans ((View.write_emb_of_mem _ _ (Finset.mem_univ _)).trans ?_)
  refine congrArg X ((congrArg (Rect.unit (s := S32x64x3072) ![e.val, 0, 0] S1x64x3072.size inbS).emb (sq3 squeezes_S1x64x3072_S64x3072.numel_eq p q)).trans ?_)
  funext a
  apply Fin.ext
  refine (Rect.emb_apply _ _ _).trans ?_
  fin_cases a
  · show e.val + 1 * 0 = e.val; omega
  · show 0 + 1 * (y 1).val = (y 1).val; omega
  · show 0 + 1 * (y 2).val = (y 2).val; omega

/-- What the transfer of expert `e`'s scales into slot `s` delivers. -/
def gusDel (s : ℕ) (e : Fin 32) (X : S32x64x3072.Idx → Elt F .i8) (_ : Fin 1) : sProp 𝕄 :=
  iprop((pt c cc0_scratch1 (gusSlot s) (gusLand X e)) ∗ (pt c main_v6 (gusSrc e.val) X))
instance (s : ℕ) (e : Fin 32) (X : S32x64x3072.Idx → Elt F .i8) (i : Fin 1) : BI.Storable (upEmb : UEmb _ 𝕄) (gusDel c s e X i) := by
  unfold gusDel; infer_instance
/-- Its units. -/
def gusN : ℕ := ((((whole cc0_scratch1 : Memref sig .tc .vmem S2x64x3072 .i8).slice (Rect.unit (s := S2x64x3072) ![0, 0, 0] S1x64x3072.size (by decide)) (fun _ => rfl)).squeeze S64x3072 squeezes_S1x64x3072_S64x3072).view).dmaCredit
theorem gusN_pos : 0 < gusN := View.dmaCredit_pos _ (by decide)

/-! ### The down scales -/

/-- Slot `s`. -/
def dnsSlot (s : ℕ) : Finset S2x48x2048.Idx := Finset.univ.filter fun y => (y 0).val = s
/-- Expert `e`'s scales, -/
def dnsSrc (e : ℕ) : Finset S32x48x2048.Idx := Finset.univ.filter fun y => (y 0).val = e
/-- and the other experts'. -/
def dnsRest (e : ℕ) : Finset S32x48x2048.Idx := Finset.univ.filter fun y => (y 0).val ≠ e

theorem dnsDst_set (s : ℕ) (off : Fin 3 → ℕ) (inb : ∀ a, off a + S1x48x2048.size a ≤ S2x48x2048.size a) (h : off = ![s, 0, 0]) :
    (((whole cc0_scratch3 : Memref sig .tc .vmem S2x48x2048 .i8).slice (Rect.unit (s := S2x48x2048) off S1x48x2048.size inb) (fun _ => rfl)).squeeze S48x2048 squeezes_S1x48x2048_S48x2048).view.set
      = dnsSlot s := by
  subst h
  refine (View.set_reshape _ _).trans ((View.set_slice_whole _ _).trans ?_)
  ext y
  rw [Rect.mem_set_unit, dnsSlot, Finset.mem_filter]
  have h1 : (y 1).val < 48 := (y 1).isLt
  have h2 : (y 2).val < 2048 := (y 2).isLt
  constructor
  · intro H
    have a0 : s ≤ (y 0).val ∧ (y 0).val < s + 1 := H 0
    exact ⟨Finset.mem_univ _, by omega⟩
  · rintro ⟨-, a0⟩ a
    fin_cases a
    · show s ≤ (y 0).val ∧ (y 0).val < s + 1; omega
    · show 0 ≤ (y 1).val ∧ (y 1).val < 0 + 48; omega
    · show 0 ≤ (y 2).val ∧ (y 2).val < 0 + 2048; omega

theorem dnsSrc_set (e : ℕ) (off : Fin 3 → ℕ) (inb : ∀ a, off a + S1x48x2048.size a ≤ S32x48x2048.size a) (h : off = ![e, 0, 0]) :
    (((whole main_v8 : Memref sig .tc .hbm S32x48x2048 .i8).slice (Rect.unit (s := S32x48x2048) off S1x48x2048.size inb) (fun _ => rfl)).squeeze S48x2048 squeezes_S1x48x2048_S48x2048).view.set
      = dnsSrc e := by
  subst h
  refine (View.set_reshape _ _).trans ((View.set_slice_whole _ _).trans ?_)
  ext y
  rw [Rect.mem_set_unit, dnsSrc, Finset.mem_filter]
  have h1 : (y 1).val < 48 := (y 1).isLt
  have h2 : (y 2).val < 2048 := (y 2).isLt
  constructor
  · intro H
    have a0 : e ≤ (y 0).val ∧ (y 0).val < e + 1 := H 0
    exact ⟨Finset.mem_univ _, by omega⟩
  · rintro ⟨-, a0⟩ a
    fin_cases a
    · show e ≤ (y 0).val ∧ (y 0).val < e + 1; omega
    · show 0 ≤ (y 1).val ∧ (y 1).val < 0 + 48; omega
    · show 0 ≤ (y 2).val ∧ (y 2).val < 0 + 2048; omega

/-- What a slot holds once expert `e`'s scales have landed. -/
def dnsLand (X : S32x48x2048.Idx → Elt F .i8) (e : Fin 32) : S2x48x2048.Idx → Elt F .i8 := fun y => X (ix3 e (y 1) (y 2))

theorem dns_land (X : S32x48x2048.Idx → Elt F .i8) (e : Fin 32) (s : ℕ) (oD : Fin 3 → ℕ) (inbD : ∀ a, oD a + S1x48x2048.size a ≤ S2x48x2048.size a)
    (oS : Fin 3 → ℕ) (inbS : ∀ a, oS a + S1x48x2048.size a ≤ S32x48x2048.size a)
    (hD : oD = ![s, 0, 0]) (hS : oS = ![e.val, 0, 0]) (fd : S2x48x2048.Idx → Elt F .i8)
    (y : S2x48x2048.Idx) (hy : y ∈ dnsSlot s) :
    (((whole cc0_scratch3 : Memref sig .tc .vmem S2x48x2048 .i8).slice (Rect.unit (s := S2x48x2048) oD S1x48x2048.size inbD) (fun _ => rfl)).squeeze S48x2048 squeezes_S1x48x2048_S48x2048).view.write (Elt F) fd
      (ReadAs.same.apply ((((whole main_v8 : Memref sig .tc .hbm S32x48x2048 .i8).slice (Rect.unit (s := S32x48x2048) oS S1x48x2048.size inbS) (fun _ => rfl)).squeeze S48x2048 squeezes_S1x48x2048_S48x2048).view.read (Elt F) X))
      Finset.univ y = dnsLand X e y := by
  subst hD; subst hS
  obtain ⟨-, hy0⟩ := Finset.mem_filter.mp hy
  let p : Fin 48 := y 1
  let q : Fin 2048 := y 2
  have hz : y = (((whole cc0_scratch3 : Memref sig .tc .vmem S2x48x2048 .i8).slice (Rect.unit (s := S2x48x2048) ![s, 0, 0] S1x48x2048.size inbD) (fun _ => rfl)).squeeze S48x2048 squeezes_S1x48x2048_S48x2048).view.emb
      (ix2 p q) := by
    refine Eq.trans ?_ (congrArg (Rect.unit (s := S2x48x2048) ![s, 0, 0] S1x48x2048.size inbD).emb (sq3 squeezes_S1x48x2048_S48x2048.numel_eq p q)).symm
    funext a
    apply Fin.ext
    refine Eq.trans ?_ (Rect.emb_apply _ _ _).symm
    fin_cases a
    · show (y 0).val = s + 1 * 0; omega
    · show (y 1).val = 0 + 1 * (y 1).val; omega
    · show (y 2).val = 0 + 1 * (y 2).val; omega
  refine (congrArg _ hz).trans ((View.write_emb_of_mem _ _ (Finset.mem_univ _)).trans ?_)
  refine congrArg X ((congrArg (Rect.unit (s := S32x48x2048) ![e.val, 0, 0] S1x48x2048.size inbS).emb (sq3 squeezes_S1x48x2048_S48x2048.numel_eq p q)).trans ?_)
  funext a
  apply Fin.ext
  refine (Rect.emb_apply _ _ _).trans ?_
  fin_cases a
  · show e.val + 1 * 0 = e.val; omega
  · show 0 + 1 * (y 1).val = (y 1).val; omega
  · show 0 + 1 * (y 2).val = (y 2).val; omega

/-- What the transfer of expert `e`'s scales into slot `s` delivers. -/
def dnsDel (s : ℕ) (e : Fin 32) (X : S32x48x2048.Idx → Elt F .i8) (_ : Fin 1) : sProp 𝕄 :=
  iprop((pt c cc0_scratch3 (dnsSlot s) (dnsLand X e)) ∗ (pt c main_v8 (dnsSrc e.val) X))
instance (s : ℕ) (e : Fin 32) (X : S32x48x2048.Idx → Elt F .i8) (i : Fin 1) : BI.Storable (upEmb : UEmb _ 𝕄) (dnsDel c s e X i) := by
  unfold dnsDel; infer_instance
/-- Its units. -/
def dnsN : ℕ := ((((whole cc0_scratch3 : Memref sig .tc .vmem S2x48x2048 .i8).slice (Rect.unit (s := S2x48x2048) ![0, 0, 0] S1x48x2048.size (by decide)) (fun _ => rfl)).squeeze S48x2048 squeezes_S1x48x2048_S48x2048).view).dmaCredit
theorem dnsN_pos : 0 < dnsN := View.dmaCredit_pos _ (by decide)

end Cert.Kernel.Hand

end
-- ==== Proof.StateK.lean ====
/-
  One expert's weights in flight into one slot: how the buffers are cut up for the transfers and put together again.
-/
module

public import proofs.«01_k».proof.Proof.SlotK
public import Idealize.ShloMosaic.Lib.ValueIdxCore

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem gu_whole (e : ℕ) (X : S32x64x16x3072.Idx → Elt F .i8) :
    (pt c main_v5 Finset.univ X : sProp 𝕄)
      = iprop(bigSep Finset.univ (fun i : Fin 24 => pt c main_v5 (guSrc e i.val) X) ∗ pt c main_v5 (guRest e) X) := by
  have hu : (Finset.univ : Finset S32x64x16x3072.Idx) = (Finset.univ : Finset (Fin 24)).biUnion (fun i => guSrc e i.val) ∪ guRest e := by
    ext y
    have h3 : (y 3).val < 3072 := (y 3).isLt
    simp only [Finset.mem_univ, Finset.mem_union, Finset.mem_biUnion, guSrc, guRest, Finset.mem_filter, true_and, true_iff]
    by_cases h : (y 0).val = e
    · exact Or.inl ⟨⟨(y 3).val / 128, by omega⟩, h, rfl⟩
    · exact Or.inr h
  have hd : Disjoint ((Finset.univ : Finset (Fin 24)).biUnion (fun i => guSrc e i.val)) (guRest e) := by
    rw [Finset.disjoint_left]
    intro y hy hy'
    simp only [Finset.mem_biUnion, guSrc, guRest, Finset.mem_filter, Finset.mem_univ, true_and] at hy hy'
    obtain ⟨i, h, -⟩ := hy
    exact hy' h
  have hb := pointsTo_biUnion (Ix := Unit) (Name := ℕ) (U := Pipeline.UD sig nD τ) (Lvl := ℕ) (Val := Elt F) (ℓ := (c : Thread nD τ).loc main_v5) (q := fullShare) (f := X) Finset.univ (fun i : Fin 24 => guSrc e i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c main_v5 I X) hu).trans ((Idealize.SL.BI.Entails.antisymm (pointsTo_union hd).1 (pointsTo_union hd).2).trans
    (congrArg (fun P => iprop(P ∗ pt c main_v5 (guRest e) X)) hb))

theorem gu_slot (s : ℕ) (g : S2x24x64x16x128.Idx → Elt F .i8) :
    (pt c cc0_scratch0 (guSlot s) g : sProp 𝕄) = bigSep Finset.univ (fun i : Fin 24 => pt c cc0_scratch0 (guDst s i.val) g) := by
  have hu : guSlot s = (Finset.univ : Finset (Fin 24)).biUnion (fun i => guDst s i.val) := by
    ext y
    simp only [Finset.mem_univ, Finset.mem_biUnion, guSlot, guDst, Finset.mem_filter, true_and]
    constructor
    · exact fun h => ⟨y 1, h, rfl⟩
    · exact fun ⟨_, h, _⟩ => h
  have hb := pointsTo_biUnion (Ix := Unit) (Name := ℕ) (U := Pipeline.UD sig nD τ) (Lvl := ℕ) (Val := Elt F) (ℓ := (c : Thread nD τ).loc cc0_scratch0) (q := fullShare) (f := g) Finset.univ (fun i : Fin 24 => guDst s i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c cc0_scratch0 I g) hu).trans hb

theorem gu_pre (s : ℕ) (e : Fin 32) (X : S32x64x16x3072.Idx → Elt F .i8) (g : S2x24x64x16x128.Idx → Elt F .i8) (i : Fin 24) :
    iprop(pt c main_v5 (guSrc e.val i.val) X ∗ pt c cc0_scratch0 (guDst s i.val) g) ⊢ (guPre c s e X i : sProp 𝕄) := by
  unfold guPre
  iintro ⟨H1, H2⟩
  isplitl [H1]; · iexact H1
  iexists g; iexact H2

/-- Everything the transfers of expert `e` into slot `s` need, from the slot and the array. -/
theorem gu_ready (s : ℕ) (e : Fin 32) (X : S32x64x16x3072.Idx → Elt F .i8) :
    iprop((∃ g, pt c cc0_scratch0 (guSlot s) g) ∗ pt c main_v5 Finset.univ X)
      ⊢ (iprop(bigSep Finset.univ (guPre c s e X) ∗ pt c main_v5 (guRest e.val) X) : sProp 𝕄) := by
  rw [gu_whole c e.val X]
  iintro ⟨⟨%g, HG⟩, HS, HR⟩
  isplitl [HG HS]
  · iapply (show iprop(bigSep Finset.univ (fun i : Fin 24 => pt c main_v5 (guSrc e.val i.val) X)
        ∗ bigSep Finset.univ (fun i : Fin 24 => pt c cc0_scratch0 (guDst s i.val) g)) ⊢ (bigSep Finset.univ (guPre c s e X) : sProp 𝕄) from by
      rw [← bigSep_sep']
      exact BI.bigSep_mono fun i _ => gu_pre c s e X g i)
    isplitl [HS]; · iexact HS
    iapply (Entails.of_eq (gu_slot c s g)); iexact HG
  iexact HR

/-- All delivered, the slot holds expert `e` and the array is whole again. -/
theorem gu_done (s : ℕ) (e : Fin 32) (X : S32x64x16x3072.Idx → Elt F .i8) :
    iprop(bigSep Finset.univ (guDel c s e X) ∗ pt c main_v5 (guRest e.val) X)
      ⊢ (iprop(pt c cc0_scratch0 (guSlot s) (guLand X e) ∗ pt c main_v5 Finset.univ X) : sProp 𝕄) := by
  rw [gu_whole c e.val X, gu_slot c s (guLand X e),
    show (bigSep Finset.univ (guDel c s e X) : sProp 𝕄) = iprop(bigSep Finset.univ (fun i : Fin 24 => pt c cc0_scratch0 (guDst s i.val) (guLand X e))
        ∗ bigSep Finset.univ (fun i : Fin 24 => pt c main_v5 (guSrc e.val i.val) X)) from by rw [← bigSep_sep']; rfl]
  iintro ⟨⟨H1, H2⟩, H3⟩
  isplitl [H1]; · iexact H1
  isplitl [H2]; · iexact H2
  iexact H3
/-- A loop that starts the transfers of expert `e` into slot `s`, tile by tile. -/
theorem gu_start (L : Scf.Loop 32) (hL : L.OK) (hT : L.trips = 24) (s : Fin 2) (e : Fin 32) (X : S32x64x16x3072.Idx → Elt F .i8) (sm : DmaSem sig) (hsm : sm = semOf 0 s)
    (oD : Fin L.trips → Fin 5 → ℕ) (inbD : ∀ k a, oD k a + S1x1x64x16x128.size a ≤ S2x24x64x16x128.size a)
    (oS : Fin L.trips → Fin 4 → ℕ) (inbS : ∀ k a, oS k a + S1x64x16x128.size a ≤ S32x64x16x3072.size a)
    (hD : ∀ k, oD k = ![s.val, k.val, 0, 0, 0]) (hS : ∀ k, oS k = ![e.val, 0, 0, 128 * k.val])
    (h1 : ∀ k, (((whole main_v5 : Memref sig .tc .hbm S32x64x16x3072 .i8).slice (Rect.unit (s := S32x64x16x3072) (oS k) S1x64x16x128.size (inbS k)) (fun _ => rfl)).squeeze S64x16x128 squeezes_S1x64x16x128_S64x16x128).view.WordExact)
    (h2 : ∀ k, (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128).view.WordExact) :
    iprop(batch c (.dma (semOf 0 s)) guN (guDel c s.val e X) 0 0 ∗ bigSep Finset.univ (guPre c s.val e X))
      ⊢ wp frame (wpE (defs₀ (F := F)) Variants.none (c : Thread nD τ) none) Set.univ
        (Scf.Loop.for L hL (⟨⟩ : Unit) (fun k _ => do
          Prog.lift (.enqueueDma (((whole main_v5 : Memref sig .tc .hbm S32x64x16x3072 .i8).slice (Rect.unit (s := S32x64x16x3072) (oS k) S1x64x16x128.size (inbS k)) (fun _ => rfl)).squeeze S64x16x128 squeezes_S1x64x16x128_S64x16x128)
            (.here (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128))
            (.dma sm) (h1 k) (h2 k) ⟨Or.inl rfl, trivial⟩)
          pure ⟨⟩)) (fun _ => batch c (.dma (semOf 0 s)) guN (guDel c s.val e X) 24 0) := by
  subst hsm
  refine start_loop c L hL hT _ _ _ h1 h2 (fun k => ⟨Or.inl rfl, trivial⟩) guN (fun k => ?_) (guPre c s.val e X) (guDel c s.val e X) (fun k => X) (fun k => ?_) (fun k fd => ?_)
  · rw [amt]; rfl
  · rw [guSrc_set e.val k.val _ (inbS k) (hS k), guDst_set s.val k.val _ (inbD k) (hD k)]
    exact .rfl
  · rw [guSrc_set e.val k.val _ (inbS k) (hS k), guDst_set s.val k.val _ (inbD k) (hD k)]
    exact sep_mono_left (Entails.of_eq (pointsTo_congr fun y hy => gu_land X e s.val k.val _ (inbD k) _ (inbS k) (hD k) (hS k) fd y hy))

/-- A loop that awaits the transfers of expert `e` into slot `s`, tile by tile. -/
theorem gu_wait (L : Scf.Loop 32) (hL : L.OK) (hT : L.trips = 24) (s : Fin 2) (e : Fin 32) (X : S32x64x16x3072.Idx → Elt F .i8) (sm : DmaSem sig) (hsm : sm = semOf 0 s)
    (oD : Fin L.trips → Fin 5 → ℕ) (inbD : ∀ k a, oD k a + S1x1x64x16x128.size a ≤ S2x24x64x16x128.size a)
    (oS : Fin L.trips → Fin 4 → ℕ) (inbS : ∀ k a, oS k a + S1x64x16x128.size a ≤ S32x64x16x3072.size a)
    (h1 : ∀ k, (((whole main_v5 : Memref sig .tc .hbm S32x64x16x3072 .i8).slice (Rect.unit (s := S32x64x16x3072) (oS k) S1x64x16x128.size (inbS k)) (fun _ => rfl)).squeeze S64x16x128 squeezes_S1x64x16x128_S64x16x128).view.WordExact)
    (h2 : ∀ k, (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128).view.WordExact)
    (W : Waits sig Unit) :
    iprop(batch c (.dma (semOf 0 s)) guN (guDel c s.val e X) 24 0 ∗ owes (c : Thread nD τ) 0 W)
      ⊢ wp frame (wpE (defs₀ (F := F)) Variants.none (c : Thread nD τ) none) Set.univ
        (Scf.Loop.for L hL (⟨⟩ : Unit) (fun k _ => do
          Prog.lift (.waitDma2 sm (((whole main_v5 : Memref sig .tc .hbm S32x64x16x3072 .i8).slice (Rect.unit (s := S32x64x16x3072) (oS k) S1x64x16x128.size (inbS k)) (fun _ => rfl)).squeeze S64x16x128 squeezes_S1x64x16x128_S64x16x128)
            (((whole cc0_scratch0 : Memref sig .tc .vmem S2x24x64x16x128 .i8).slice (Rect.unit (s := S2x24x64x16x128) (oD k) S1x1x64x16x128.size (inbD k)) (fun _ => rfl)).squeeze S64x16x128 squeezes_S1x1x64x16x128_S64x16x128)
            (h1 k) (h2 k))
          pure ⟨⟩)) (fun _ => iprop(cell c (.dma (semOf 0 s)) ∗ bigSep Finset.univ (guDel c s.val e X) ∗ ∃ W, owes (c : Thread nD τ) 0 W)) := by
  subst hsm
  exact wait_loop c L hL hT (by omega) _ _ _ h1 h2 guN (fun k => rfl) guN_pos (guDel c s.val e X) W

theorem dn_whole (e : ℕ) (X : S32x48x16x2048.Idx → Elt F .i8) :
    (pt c main_v7 Finset.univ X : sProp 𝕄)
      = iprop(bigSep Finset.univ (fun i : Fin 16 => pt c main_v7 (dnSrc e i.val) X) ∗ pt c main_v7 (dnRest e) X) := by
  have hu : (Finset.univ : Finset S32x48x16x2048.Idx) = (Finset.univ : Finset (Fin 16)).biUnion (fun i => dnSrc e i.val) ∪ dnRest e := by
    ext y
    have h3 : (y 3).val < 2048 := (y 3).isLt
    simp only [Finset.mem_univ, Finset.mem_union, Finset.mem_biUnion, dnSrc, dnRest, Finset.mem_filter, true_and, true_iff]
    by_cases h : (y 0).val = e
    · exact Or.inl ⟨⟨(y 3).val / 128, by omega⟩, h, rfl⟩
    · exact Or.inr h
  have hd : Disjoint ((Finset.univ : Finset (Fin 16)).biUnion (fun i => dnSrc e i.val)) (dnRest e) := by
    rw [Finset.disjoint_left]
    intro y hy hy'
    simp only [Finset.mem_biUnion, dnSrc, dnRest, Finset.mem_filter, Finset.mem_univ, true_and] at hy hy'
    obtain ⟨i, h, -⟩ := hy
    exact hy' h
  have hb := pointsTo_biUnion (Ix := Unit) (Name := ℕ) (U := Pipeline.UD sig nD τ) (Lvl := ℕ) (Val := Elt F) (ℓ := (c : Thread nD τ).loc main_v7) (q := fullShare) (f := X) Finset.univ (fun i : Fin 16 => dnSrc e i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c main_v7 I X) hu).trans ((Idealize.SL.BI.Entails.antisymm (pointsTo_union hd).1 (pointsTo_union hd).2).trans
    (congrArg (fun P => iprop(P ∗ pt c main_v7 (dnRest e) X)) hb))

theorem dn_slot (s : ℕ) (g : S2x16x48x16x128.Idx → Elt F .i8) :
    (pt c cc0_scratch2 (dnSlot s) g : sProp 𝕄) = bigSep Finset.univ (fun i : Fin 16 => pt c cc0_scratch2 (dnDst s i.val) g) := by
  have hu : dnSlot s = (Finset.univ : Finset (Fin 16)).biUnion (fun i => dnDst s i.val) := by
    ext y
    simp only [Finset.mem_univ, Finset.mem_biUnion, dnSlot, dnDst, Finset.mem_filter, true_and]
    constructor
    · exact fun h => ⟨y 1, h, rfl⟩
    · exact fun ⟨_, h, _⟩ => h
  have hb := pointsTo_biUnion (Ix := Unit) (Name := ℕ) (U := Pipeline.UD sig nD τ) (Lvl := ℕ) (Val := Elt F) (ℓ := (c : Thread nD τ).loc cc0_scratch2) (q := fullShare) (f := g) Finset.univ (fun i : Fin 16 => dnDst s i.val) (fun i _ j _ hij => by
    rw [Finset.disjoint_left]
    intro y hy hy'
    obtain ⟨-, -, h⟩ := Finset.mem_filter.mp hy
    obtain ⟨-, -, h'⟩ := Finset.mem_filter.mp hy'
    exact hij (Fin.ext (by omega)))
  exact (congrArg (fun I => pt c cc0_scratch2 I g) hu).trans hb

theorem dn_pre (s : ℕ) (e : Fin 32) (X : S32x48x16x2048.Idx → Elt F .i8) (g : S2x16x48x16x128.Idx → Elt F .i8) (i : Fin 16) :
    iprop(pt c main_v7 (dnSrc e.val i.val) X ∗ pt c cc0_scratch2 (dnDst s i.val) g) ⊢ (dnPre c s e X i : sProp 𝕄) := by
  unfold dnPre
  iintro ⟨H1, H2⟩
  isplitl [H1]; · iexact H1
  iexists g; iexact H2

/-- Everything the transfers of expert `e` into slot `s` need, from the slot and the array. -/
theorem dn_ready (s : ℕ) (e : Fin 32) (X : S32x48x16x2048.Idx → Elt F .i8) :
    iprop((∃ g, pt c cc0_scratch2 (dnSlot s) g) ∗ pt c main_v7 Finset.univ X)
      ⊢ (iprop(bigSep Finset.univ (dnPre c s e X) ∗ pt c main_v7 (dnRest e.val) X) : sProp 𝕄) := by
  rw [dn_whole c e.val X]
  iintro ⟨⟨%g, HG⟩, HS, HR⟩
  isplitl [HG HS]
  · iapply (show iprop(bigSep Finset.univ (fun i : Fin 16 => pt c main_v7 (dnSrc e.val i.val) X)
        ∗ bigSep Finset.univ (fun i : Fin 16 => pt c cc0_scratch2 (dnDst s i.val) g)) ⊢ (bigSep Finset.univ (dnPre c s e X) : sProp 𝕄) from by
      rw [← bigSep_sep']
      exact BI.bigSep_mono fun i _ => dn_pre c s e X g i)
    isplitl [HS]; · iexact HS
    iapply (Entails.of_eq (dn_slot c s g)); iexact HG
  iexact HR

/-- All delivered, the slot holds expert `e` and the array is whole again. -/
theorem dn_done (s : ℕ) (e : Fin 32) (X : S32x48x16x2048.Idx → Elt F .i8) :
    iprop(bigSep Finset.univ (dnDel c s e X) ∗ pt c main_v7 (dnRest e.val) X)
      ⊢ (iprop(pt c cc0_scratch2 (dnSlot s) (dnLand X e) ∗ pt c main_v7 Finset.univ X) : sProp 𝕄) := by
  rw [dn_whole c e.val X, dn_slot c s (dnLand X e),
    show (bigSep Finset.univ (dnDel c s e X) : sProp 𝕄) = iprop(bigSep Finset.univ (fun i : Fin 16 => pt c cc0_scratch2 (dnDst s i.val) (dnLand X e))
        ∗ bigSep Finset.univ (fun i : Fin 16 => pt c main_v7 (dnSrc e.val i.val) X)) from by rw [← bigSep_sep']; rfl]
  iintro ⟨⟨H1, H2⟩, H3⟩
  isplitl [H1]; · iexact H1
  isplitl [H2]; · iexact H2
  iexact H3
/-- A loop that starts the transfers of expert `e` into slot `s`, tile by tile. -/
theorem dn_start (L : Scf.Loop 32) (hL : L.OK) (hT : L.trips = 16) (s : Fin 2) (e : Fin 32) (X : S32x48x16x2048.Idx → Elt F .i8) (sm : DmaSem sig) (hsm : sm = semOf 2 s)
    (oD : Fin L.trips → Fin 5 → ℕ) (inbD : ∀ k a, oD k a + S1x1x48x16x128.size a ≤ S2x16x48x16x128.size a)
    (oS : Fin L.trips → Fin 4 → ℕ) (inbS : ∀ k a, oS k a + S1x48x16x128.size a ≤ S32x48x16x2048.size a)
    (hD : ∀ k, oD k = ![s.val, k.val, 0, 0, 0]) (hS : ∀ k, oS k = ![e.val, 0, 0, 128 * k.val])
    (h1 : ∀ k, (((whole main_v7 : Memref sig .tc .hbm S32x48x16x2048 .i8).slice (Rect.unit (s := S32x48x16x2048) (oS k) S1x48x16x128.size (inbS k)) (fun _ => rfl)).squeeze S48x16x128 squeezes_S1x48x16x128_S48x16x128).view.WordExact)
    (h2 : ∀ k, (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128).view.WordExact) :
    iprop(batch c (.dma (semOf 2 s)) dnN (dnDel c s.val e X) 0 0 ∗ bigSep Finset.univ (dnPre c s.val e X))
      ⊢ wp frame (wpE (defs₀ (F := F)) Variants.none (c : Thread nD τ) none) Set.univ
        (Scf.Loop.for L hL (⟨⟩ : Unit) (fun k _ => do
          Prog.lift (.enqueueDma (((whole main_v7 : Memref sig .tc .hbm S32x48x16x2048 .i8).slice (Rect.unit (s := S32x48x16x2048) (oS k) S1x48x16x128.size (inbS k)) (fun _ => rfl)).squeeze S48x16x128 squeezes_S1x48x16x128_S48x16x128)
            (.here (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128))
            (.dma sm) (h1 k) (h2 k) ⟨Or.inl rfl, trivial⟩)
          pure ⟨⟩)) (fun _ => batch c (.dma (semOf 2 s)) dnN (dnDel c s.val e X) 16 0) := by
  subst hsm
  refine start_loop c L hL hT _ _ _ h1 h2 (fun k => ⟨Or.inl rfl, trivial⟩) dnN (fun k => ?_) (dnPre c s.val e X) (dnDel c s.val e X) (fun k => X) (fun k => ?_) (fun k fd => ?_)
  · rw [amt]; rfl
  · rw [dnSrc_set e.val k.val _ (inbS k) (hS k), dnDst_set s.val k.val _ (inbD k) (hD k)]
    exact .rfl
  · rw [dnSrc_set e.val k.val _ (inbS k) (hS k), dnDst_set s.val k.val _ (inbD k) (hD k)]
    exact sep_mono_left (Entails.of_eq (pointsTo_congr fun y hy => dn_land X e s.val k.val _ (inbD k) _ (inbS k) (hD k) (hS k) fd y hy))

/-- A loop that awaits the transfers of expert `e` into slot `s`, tile by tile. -/
theorem dn_wait (L : Scf.Loop 32) (hL : L.OK) (hT : L.trips = 16) (s : Fin 2) (e : Fin 32) (X : S32x48x16x2048.Idx → Elt F .i8) (sm : DmaSem sig) (hsm : sm = semOf 2 s)
    (oD : Fin L.trips → Fin 5 → ℕ) (inbD : ∀ k a, oD k a + S1x1x48x16x128.size a ≤ S2x16x48x16x128.size a)
    (oS : Fin L.trips → Fin 4 → ℕ) (inbS : ∀ k a, oS k a + S1x48x16x128.size a ≤ S32x48x16x2048.size a)
    (h1 : ∀ k, (((whole main_v7 : Memref sig .tc .hbm S32x48x16x2048 .i8).slice (Rect.unit (s := S32x48x16x2048) (oS k) S1x48x16x128.size (inbS k)) (fun _ => rfl)).squeeze S48x16x128 squeezes_S1x48x16x128_S48x16x128).view.WordExact)
    (h2 : ∀ k, (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128).view.WordExact)
    (W : Waits sig Unit) :
    iprop(batch c (.dma (semOf 2 s)) dnN (dnDel c s.val e X) 16 0 ∗ owes (c : Thread nD τ) 0 W)
      ⊢ wp frame (wpE (defs₀ (F := F)) Variants.none (c : Thread nD τ) none) Set.univ
        (Scf.Loop.for L hL (⟨⟩ : Unit) (fun k _ => do
          Prog.lift (.waitDma2 sm (((whole main_v7 : Memref sig .tc .hbm S32x48x16x2048 .i8).slice (Rect.unit (s := S32x48x16x2048) (oS k) S1x48x16x128.size (inbS k)) (fun _ => rfl)).squeeze S48x16x128 squeezes_S1x48x16x128_S48x16x128)
            (((whole cc0_scratch2 : Memref sig .tc .vmem S2x16x48x16x128 .i8).slice (Rect.unit (s := S2x16x48x16x128) (oD k) S1x1x48x16x128.size (inbD k)) (fun _ => rfl)).squeeze S48x16x128 squeezes_S1x1x48x16x128_S48x16x128)
            (h1 k) (h2 k))
          pure ⟨⟩)) (fun _ => iprop(cell c (.dma (semOf 2 s)) ∗ bigSep Finset.univ (dnDel c s.val e X) ∗ ∃ W, owes (c : Thread nD τ) 0 W)) := by
  subst hsm
  exact wait_loop c L hL hT (by omega) _ _ _ h1 h2 dnN (fun k => rfl) dnN_pos (dnDel c s.val e X) W

theorem gus_whole (e : ℕ) (X : S32x64x3072.Idx → Elt F .i8) :
    (pt c main_v6 Finset.univ X : sProp 𝕄) = iprop(pt c main_v6 (gusSrc e) X ∗ pt c main_v6 (gusRest e) X) := by
  have hu : (Finset.univ : Finset S32x64x3072.Idx) = gusSrc e ∪ gusRest e := by
    ext y
    simp only [Finset.mem_univ, Finset.mem_union, gusSrc, gusRest, Finset.mem_filter, true_and, true_iff]
    exact em _
  have hd : Disjoint (gusSrc e) (gusRest e) := by
    rw [Finset.disjoint_left]
    intro y hy hy'
    simp only [gusSrc, gusRest, Finset.mem_filter, Finset.mem_univ, true_and] at hy hy'
    exact hy' hy
  exact (congrArg (fun I => pt c main_v6 I X) hu).trans (Idealize.SL.BI.Entails.antisymm (pointsTo_union hd).1 (pointsTo_union hd).2)

/-- All delivered, the slot holds expert `e`'s scales and the array is whole again. -/
theorem gus_done (s : ℕ) (e : Fin 32) (X : S32x64x3072.Idx → Elt F .i8) (t : Fin 1) :
    iprop(gusDel c s e X t ∗ pt c main_v6 (gusRest e.val) X)
      ⊢ (iprop(pt c cc0_scratch1 (gusSlot s) (gusLand X e) ∗ pt c main_v6 Finset.univ X) : sProp 𝕄) := by
  rw [gus_whole c e.val X]
  unfold gusDel
  iintro ⟨⟨H1, H2⟩, H3⟩
  isplitl [H1]; · iexact H1
  isplitl [H2]; · iexact H2
  iexact H3

/-- The transfer of expert `e`'s scales into slot `s`, started. -/
theorem gus_start {α : Type} (s : Fin 2) (e : Fin 32) (X : S32x64x3072.Idx → Elt F .i8) (sm : DmaSem sig) (hsm : sm = semOf 1 s)
    (oD : Fin 3 → ℕ) (inbD : ∀ a, oD a + S1x64x3072.size a ≤ S2x64x3072.size a)
    (oS : Fin 3 → ℕ) (inbS : ∀ a, oS a + S1x64x3072.size a ≤ S32x64x3072.size a)
    (hD : oD = ![s.val, 0, 0]) (hS : oS = ![e.val, 0, 0])
    (h1 : (((whole main_v6 : Memref sig .tc .hbm S32x64x3072 .i8).slice (Rect.unit (s := S32x64x3072) oS S1x64x3072.size inbS) (fun _ => rfl)).squeeze S64x3072 squeezes_S1x64x3072_S64x3072).view.WordExact)
    (h2 : (((whole cc0_scratch1 : Memref sig .tc .vmem S2x64x3072 .i8).slice (Rect.unit (s := S2x64x3072) oD S1x64x3072.size inbD) (fun _ => rfl)).squeeze S64x3072 squeezes_S1x64x3072_S64x3072).view.WordExact)
    (h3 : DmaTarget.Typed (nD := nD) (τ := τ) (p := (.tc : Proc τ)) .hbm (.dma sm)
      (.here (((whole cc0_scratch1 : Memref sig .tc .vmem S2x64x3072 .i8).slice (Rect.unit (s := S2x64x3072) oD S1x64x3072.size inbD) (fun _ => rfl)).squeeze S64x3072 squeezes_S1x64x3072_S64x3072)))
    (k : PUnit → Prog (TpuEff nD τ sig (Elt F) Λ₀ .tc) α) (Q : α → sProp 𝕄) :
    iprop(batch c (.dma (semOf 1 s)) gusN (gusDel c s.val e X) 0 0 ∗ (∃ g, pt c cc0_scratch1 (gusSlot s.val) g) ∗ pt c main_v6 (gusSrc e.val) X
        ∗ (batch c (.dma (semOf 1 s)) gusN (gusDel c s.val e X) 1 0 -∗ wp frame (wpE (defs₀ (F := F)) Variants.none (c : Thread nD τ) none) Set.univ (k ⟨⟩) Q))
      ⊢ wp frame (wpE (defs₀ (F := F)) Variants.none (c : Thread nD τ) none) Set.univ
        (.op (.enqueueDma (((whole main_v6 : Memref sig .tc .hbm S32x64x3072 .i8).slice (Rect.unit (s := S32x64x3072) oS S1x64x3072.size inbS) (fun _ => rfl)).squeeze S64x3072 squeezes_S1x64x3072_S64x3072)
          (.here (((whole cc0_scratch1 : Memref sig .tc .vmem S2x64x3072 .i8).slice (Rect.unit (s := S2x64x3072) oD S1x64x3072.size inbD) (fun _ => rfl)).squeeze S64x3072 squeezes_S1x64x3072_S64x3072))
          (.dma sm) h1 h2 h3) k) Q := by
  subst hsm
  iintro ⟨HB, ⟨%g, Hd⟩, Hs, Hk⟩
  iapply (start_one c _ _ _ h1 h2 h3 gusN ((amt _ _).trans rfl) (gusDel c s.val e X) X g (by
    rw [gusSrc_set e.val _ inbS hS, gusDst_set s.val _ inbD hD]
    exact sep_mono_left (Entails.of_eq (pointsTo_congr fun y hy => gus_land X e s.val _ inbD _ inbS hD hS g y hy))) k Q)
  rw [gusSrc_set e.val _ inbS hS, gusDst_set s.val _ inbD hD]
  isplitl [HB]; · iexact HB
  isplitl [Hs]; · iexact Hs
  isplitl [Hd]; · iexact Hd
  iexact Hk

/-- The transfer of expert `e`'s scales into slot `s`, awaited. -/
theorem gus_wait {α : Type} (s : Fin 2) (e : Fin 32) (X : S32x64x3072.Idx → Elt F .i8) (sm : DmaSem sig) (hsm : sm = semOf 1 s)
    (oD : Fin 3 → ℕ) (inbD : ∀ a, oD a + S1x64x3072.size a ≤ S2x64x3072.size a)
    (oS : Fin 3 → ℕ) (inbS : ∀ a, oS a + S1x64x3072.size a ≤ S32x64x3072.size a)
    (h1 : (((whole main_v6 : Memref sig .tc .hbm S32x64x3072 .i8).slice (Rect.unit (s := S32x64x3072) oS S1x64x3072.size inbS) (fun _ => rfl)).squeeze S64x3072 squeezes_S1x64x3072_S64x3072).view.WordExact)
    (h2 : (((whole cc0_scratch1 : Memref sig .tc .vmem S2x64x3072 .i8).slice (Rect.unit (s := S2x64x3072) oD S1x64x3072.size inbD) (fun _ => rfl)).squeeze S64x3072 squeezes_S1x64x3072_S64x3072).view.WordExact)
    (W : Waits sig Unit) (k : PUnit → Prog (TpuEff nD τ sig (Elt F) Λ₀ .tc) α) (Q : α → sProp 𝕄) :
    iprop(batch c (.dma (semOf 1 s)) gusN (gusDel c s.val e X) 1 0 ∗ owes (c : Thread nD τ) 0 W
        ∗ (iprop(cell c (.dma (semOf 1 s)) ∗ gusDel c s.val e X 0 ∗ ∃ W, owes (c : Thread nD τ) 0 W)
          -∗ wp frame (wpE (defs₀ (F := F)) Variants.none (c : Thread nD τ) none) Set.univ (k ⟨⟩) Q))
      ⊢ wp frame (wpE (defs₀ (F := F)) Variants.none (c : Thread nD τ) none) Set.univ
        (.op (.waitDma2 sm (((whole main_v6 : Memref sig .tc .hbm S32x64x3072 .i8).slice (Rect.unit (s := S32x64x3072) oS S1x64x3072.size inbS) (fun _ => rfl)).squeeze S64x3072 squeezes_S1x64x3072_S64x3072)
          (((whole cc0_scratch1 : Memref sig .tc .vmem S2x64x3072 .i8).slice (Rect.unit (s := S2x64x3072) oD S1x64x3072.size inbD) (fun _ => rfl)).squeeze S64x3072 squeezes_S1x64x3072_S64x3072) h1 h2) k) Q := by
  subst hsm
  exact wait_one c _ _ _ h1 h2 gusN rfl gusN_pos (gusDel c s.val e X) W k Q

theorem dns_whole (e : ℕ) (X : S32x48x2048.Idx → Elt F .i8) :
    (pt c main_v8 Finset.univ X : sProp 𝕄) = iprop(pt c main_v8 (dnsSrc e) X ∗ pt c main_v8 (dnsRest e) X) := by
  have hu : (Finset.univ : Finset S32x48x2048.Idx) = dnsSrc e ∪ dnsRest e := by
    ext y
    simp only [Finset.mem_univ, Finset.mem_union, dnsSrc, dnsRest, Finset.mem_filter, true_and, true_iff]
    exact em _
  have hd : Disjoint (dnsSrc e) (dnsRest e) := by
    rw [Finset.disjoint_left]
    intro y hy hy'
    simp only [dnsSrc, dnsRest, Finset.mem_filter, Finset.mem_univ, true_and] at hy hy'
    exact hy' hy
  exact (congrArg (fun I => pt c main_v8 I X) hu).trans (Idealize.SL.BI.Entails.antisymm (pointsTo_union hd).1 (pointsTo_union hd).2)

/-- All delivered, the slot holds expert `e`'s scales and the array is whole again. -/
theorem dns_done (s : ℕ) (e : Fin 32) (X : S32x48x2048.Idx → Elt F .i8) (t : Fin 1) :
    iprop(dnsDel c s e X t ∗ pt c main_v8 (dnsRest e.val) X)
      ⊢ (iprop(pt c cc0_scratch3 (dnsSlot s) (dnsLand X e) ∗ pt c main_v8 Finset.univ X) : sProp 𝕄) := by
  rw [dns_whole c e.val X]
  unfold dnsDel
  iintro ⟨⟨H1, H2⟩, H3⟩
  isplitl [H1]; · iexact H1
  isplitl [H2]; · iexact H2
  iexact H3

/-- The transfer of expert `e`'s scales into slot `s`, started. -/
theorem dns_start {α : Type} (s : Fin 2) (e : Fin 32) (X : S32x48x2048.Idx → Elt F .i8) (sm : DmaSem sig) (hsm : sm = semOf 3 s)
    (oD : Fin 3 → ℕ) (inbD : ∀ a, oD a + S1x48x2048.size a ≤ S2x48x2048.size a)
    (oS : Fin 3 → ℕ) (inbS : ∀ a, oS a + S1x48x2048.size a ≤ S32x48x2048.size a)
    (hD : oD = ![s.val, 0, 0]) (hS : oS = ![e.val, 0, 0])
    (h1 : (((whole main_v8 : Memref sig .tc .hbm S32x48x2048 .i8).slice (Rect.unit (s := S32x48x2048) oS S1x48x2048.size inbS) (fun _ => rfl)).squeeze S48x2048 squeezes_S1x48x2048_S48x2048).view.WordExact)
    (h2 : (((whole cc0_scratch3 : Memref sig .tc .vmem S2x48x2048 .i8).slice (Rect.unit (s := S2x48x2048) oD S1x48x2048.size inbD) (fun _ => rfl)).squeeze S48x2048 squeezes_S1x48x2048_S48x2048).view.WordExact)
    (h3 : DmaTarget.Typed (nD := nD) (τ := τ) (p := (.tc : Proc τ)) .hbm (.dma sm)
      (.here (((whole cc0_scratch3 : Memref sig .tc .vmem S2x48x2048 .i8).slice (Rect.unit (s := S2x48x2048) oD S1x48x2048.size inbD) (fun _ => rfl)).squeeze S48x2048 squeezes_S1x48x2048_S48x2048)))
    (k : PUnit → Prog (TpuEff nD τ sig (Elt F) Λ₀ .tc) α) (Q : α → sProp 𝕄) :
    iprop(batch c (.dma (semOf 3 s)) dnsN (dnsDel c s.val e X) 0 0 ∗ (∃ g, pt c cc0_scratch3 (dnsSlot s.val) g) ∗ pt c main_v8 (dnsSrc e.val) X
        ∗ (batch c (.dma (semOf 3 s)) dnsN (dnsDel c s.val e X) 1 0 -∗ wp frame (wpE (defs₀ (F := F)) Variants.none (c : Thread nD τ) none) Set.univ (k ⟨⟩) Q))
      ⊢ wp frame (wpE (defs₀ (F := F)) Variants.none (c : Thread nD τ) none) Set.univ
        (.op (.enqueueDma (((whole main_v8 : Memref sig .tc .hbm S32x48x2048 .i8).slice (Rect.unit (s := S32x48x2048) oS S1x48x2048.size inbS) (fun _ => rfl)).squeeze S48x2048 squeezes_S1x48x2048_S48x2048)
          (.here (((whole cc0_scratch3 : Memref sig .tc .vmem S2x48x2048 .i8).slice (Rect.unit (s := S2x48x2048) oD S1x48x2048.size inbD) (fun _ => rfl)).squeeze S48x2048 squeezes_S1x48x2048_S48x2048))
          (.dma sm) h1 h2 h3) k) Q := by
  subst hsm
  iintro ⟨HB, ⟨%g, Hd⟩, Hs, Hk⟩
  iapply (start_one c _ _ _ h1 h2 h3 dnsN ((amt _ _).trans rfl) (dnsDel c s.val e X) X g (by
    rw [dnsSrc_set e.val _ inbS hS, dnsDst_set s.val _ inbD hD]
    exact sep_mono_left (Entails.of_eq (pointsTo_congr fun y hy => dns_land X e s.val _ inbD _ inbS hD hS g y hy))) k Q)
  rw [dnsSrc_set e.val _ inbS hS, dnsDst_set s.val _ inbD hD]
  isplitl [HB]; · iexact HB
  isplitl [Hs]; · iexact Hs
  isplitl [Hd]; · iexact Hd
  iexact Hk

/-- The transfer of expert `e`'s scales into slot `s`, awaited. -/
theorem dns_wait {α : Type} (s : Fin 2) (e : Fin 32) (X : S32x48x2048.Idx → Elt F .i8) (sm : DmaSem sig) (hsm : sm = semOf 3 s)
    (oD : Fin 3 → ℕ) (inbD : ∀ a, oD a + S1x48x2048.size a ≤ S2x48x2048.size a)
    (oS : Fin 3 → ℕ) (inbS : ∀ a, oS a + S1x48x2048.size a ≤ S32x48x2048.size a)
    (h1 : (((whole main_v8 : Memref sig .tc .hbm S32x48x2048 .i8).slice (Rect.unit (s := S32x48x2048) oS S1x48x2048.size inbS) (fun _ => rfl)).squeeze S48x2048 squeezes_S1x48x2048_S48x2048).view.WordExact)
    (h2 : (((whole cc0_scratch3 : Memref sig .tc .vmem S2x48x2048 .i8).slice (Rect.unit (s := S2x48x2048) oD S1x48x2048.size inbD) (fun _ => rfl)).squeeze S48x2048 squeezes_S1x48x2048_S48x2048).view.WordExact)
    (W : Waits sig Unit) (k : PUnit → Prog (TpuEff nD τ sig (Elt F) Λ₀ .tc) α) (Q : α → sProp 𝕄) :
    iprop(batch c (.dma (semOf 3 s)) dnsN (dnsDel c s.val e X) 1 0 ∗ owes (c : Thread nD τ) 0 W
        ∗ (iprop(cell c (.dma (semOf 3 s)) ∗ dnsDel c s.val e X 0 ∗ ∃ W, owes (c : Thread nD τ) 0 W)
          -∗ wp frame (wpE (defs₀ (F := F)) Variants.none (c : Thread nD τ) none) Set.univ (k ⟨⟩) Q))
      ⊢ wp frame (wpE (defs₀ (F := F)) Variants.none (c : Thread nD τ) none) Set.univ
        (.op (.waitDma2 sm (((whole main_v8 : Memref sig .tc .hbm S32x48x2048 .i8).slice (Rect.unit (s := S32x48x2048) oS S1x48x2048.size inbS) (fun _ => rfl)).squeeze S48x2048 squeezes_S1x48x2048_S48x2048)
          (((whole cc0_scratch3 : Memref sig .tc .vmem S2x48x2048 .i8).slice (Rect.unit (s := S2x48x2048) oD S1x48x2048.size inbD) (fun _ => rfl)).squeeze S48x2048 squeezes_S1x48x2048_S48x2048) h1 h2) k) Q := by
  subst hsm
  exact wait_one c _ _ _ h1 h2 dnsN rfl dnsN_pos (dnsDel c s.val e X) W k Q

theorem gu_slots_disj : Disjoint (guSlot 0) (guSlot 1) := by
  rw [Finset.disjoint_left]
  intro y hy hy'
  have h := (Finset.mem_filter.mp hy).2
  have h' := (Finset.mem_filter.mp hy').2
  omega
theorem gu_slots_union : (Finset.univ : Finset S2x24x64x16x128.Idx) = guSlot 0 ∪ guSlot 1 := by
  ext y
  have h0 : (y 0).val < 2 := (y 0).isLt
  simp only [Finset.mem_univ, Finset.mem_union, guSlot, Finset.mem_filter, true_and, true_iff]
  omega
theorem gu_two (g : S2x24x64x16x128.Idx → Elt F .i8) :
    (pt c cc0_scratch0 Finset.univ g : sProp 𝕄) = iprop(pt c cc0_scratch0 (guSlot 0) g ∗ pt c cc0_scratch0 (guSlot 1) g) :=
  (congrArg (fun I => pt c cc0_scratch0 I g) gu_slots_union).trans (Idealize.SL.BI.Entails.antisymm (pointsTo_union gu_slots_disj).1 (pointsTo_union gu_slots_disj).2)
theorem gu_join (g k : S2x24x64x16x128.Idx → Elt F .i8) :
    iprop(pt c cc0_scratch0 (guSlot 0) g ∗ pt c cc0_scratch0 (guSlot 1) k) ⊢ (iprop(∃ g, pt c cc0_scratch0 Finset.univ g) : sProp 𝕄) := by
  refine (pointsTo_join gu_slots_disj).trans ?_
  rw [← gu_slots_union]
  iintro H
  iexists _; iexact H

theorem gus_slots_disj : Disjoint (gusSlot 0) (gusSlot 1) := by
  rw [Finset.disjoint_left]
  intro y hy hy'
  have h := (Finset.mem_filter.mp hy).2
  have h' := (Finset.mem_filter.mp hy').2
  omega
theorem gus_slots_union : (Finset.univ : Finset S2x64x3072.Idx) = gusSlot 0 ∪ gusSlot 1 := by
  ext y
  have h0 : (y 0).val < 2 := (y 0).isLt
  simp only [Finset.mem_univ, Finset.mem_union, gusSlot, Finset.mem_filter, true_and, true_iff]
  omega
theorem gus_two (g : S2x64x3072.Idx → Elt F .i8) :
    (pt c cc0_scratch1 Finset.univ g : sProp 𝕄) = iprop(pt c cc0_scratch1 (gusSlot 0) g ∗ pt c cc0_scratch1 (gusSlot 1) g) :=
  (congrArg (fun I => pt c cc0_scratch1 I g) gus_slots_union).trans (Idealize.SL.BI.Entails.antisymm (pointsTo_union gus_slots_disj).1 (pointsTo_union gus_slots_disj).2)
theorem gus_join (g k : S2x64x3072.Idx → Elt F .i8) :
    iprop(pt c cc0_scratch1 (gusSlot 0) g ∗ pt c cc0_scratch1 (gusSlot 1) k) ⊢ (iprop(∃ g, pt c cc0_scratch1 Finset.univ g) : sProp 𝕄) := by
  refine (pointsTo_join gus_slots_disj).trans ?_
  rw [← gus_slots_union]
  iintro H
  iexists _; iexact H

theorem dn_slots_disj : Disjoint (dnSlot 0) (dnSlot 1) := by
  rw [Finset.disjoint_left]
  intro y hy hy'
  have h := (Finset.mem_filter.mp hy).2
  have h' := (Finset.mem_filter.mp hy').2
  omega
theorem dn_slots_union : (Finset.univ : Finset S2x16x48x16x128.Idx) = dnSlot 0 ∪ dnSlot 1 := by
  ext y
  have h0 : (y 0).val < 2 := (y 0).isLt
  simp only [Finset.mem_univ, Finset.mem_union, dnSlot, Finset.mem_filter, true_and, true_iff]
  omega
theorem dn_two (g : S2x16x48x16x128.Idx → Elt F .i8) :
    (pt c cc0_scratch2 Finset.univ g : sProp 𝕄) = iprop(pt c cc0_scratch2 (dnSlot 0) g ∗ pt c cc0_scratch2 (dnSlot 1) g) :=
  (congrArg (fun I => pt c cc0_scratch2 I g) dn_slots_union).trans (Idealize.SL.BI.Entails.antisymm (pointsTo_union dn_slots_disj).1 (pointsTo_union dn_slots_disj).2)
theorem dn_join (g k : S2x16x48x16x128.Idx → Elt F .i8) :
    iprop(pt c cc0_scratch2 (dnSlot 0) g ∗ pt c cc0_scratch2 (dnSlot 1) k) ⊢ (iprop(∃ g, pt c cc0_scratch2 Finset.univ g) : sProp 𝕄) := by
  refine (pointsTo_join dn_slots_disj).trans ?_
  rw [← dn_slots_union]
  iintro H
  iexists _; iexact H

theorem dns_slots_disj : Disjoint (dnsSlot 0) (dnsSlot 1) := by
  rw [Finset.disjoint_left]
  intro y hy hy'
  have h := (Finset.mem_filter.mp hy).2
  have h' := (Finset.mem_filter.mp hy').2
  omega
theorem dns_slots_union : (Finset.univ : Finset S2x48x2048.Idx) = dnsSlot 0 ∪ dnsSlot 1 := by
  ext y
  have h0 : (y 0).val < 2 := (y 0).isLt
  simp only [Finset.mem_univ, Finset.mem_union, dnsSlot, Finset.mem_filter, true_and, true_iff]
  omega
theorem dns_two (g : S2x48x2048.Idx → Elt F .i8) :
    (pt c cc0_scratch3 Finset.univ g : sProp 𝕄) = iprop(pt c cc0_scratch3 (dnsSlot 0) g ∗ pt c cc0_scratch3 (dnsSlot 1) g) :=
  (congrArg (fun I => pt c cc0_scratch3 I g) dns_slots_union).trans (Idealize.SL.BI.Entails.antisymm (pointsTo_union dns_slots_disj).1 (pointsTo_union dns_slots_disj).2)
theorem dns_join (g k : S2x48x2048.Idx → Elt F .i8) :
    iprop(pt c cc0_scratch3 (dnsSlot 0) g ∗ pt c cc0_scratch3 (dnsSlot 1) k) ⊢ (iprop(∃ g, pt c cc0_scratch3 Finset.univ g) : sProp 𝕄) := by
  refine (pointsTo_join dns_slots_disj).trans ?_
  rw [← dns_slots_union]
  iintro H
  iexists _; iexact H

/-! ### One expert in flight -/

/-- The four weight arrays. -/
structure Wts (F : FTy → Type) where
  gu : S32x64x16x3072.Idx → Elt F .i8
  gus : S32x64x3072.Idx → Elt F .i8
  dn : S32x48x16x2048.Idx → Elt F .i8
  dns : S32x48x2048.Idx → Elt F .i8

/-- The four arrays, whole. -/
def arrays (X : Wts F) : sProp 𝕄 :=
  iprop(pt c main_v5 Finset.univ X.gu ∗ pt c main_v6 Finset.univ X.gus ∗ pt c main_v7 Finset.univ X.dn ∗ pt c main_v8 Finset.univ X.dns)
/-- Slot `s` of the four buffers, at some contents. -/
def slotHeld (s : ℕ) : sProp 𝕄 :=
  iprop((∃ g, pt c cc0_scratch0 (guSlot s) g) ∗ (∃ g, pt c cc0_scratch1 (gusSlot s) g) ∗ (∃ g, pt c cc0_scratch2 (dnSlot s) g) ∗ (∃ g, pt c cc0_scratch3 (dnsSlot s) g))
/-- Slot `s` of the four buffers, holding expert `e`. -/
def slotFull (s : ℕ) (e : Fin 32) (X : Wts F) : sProp 𝕄 :=
  iprop(pt c cc0_scratch0 (guSlot s) (guLand X.gu e) ∗ pt c cc0_scratch1 (gusSlot s) (gusLand X.gus e)
    ∗ pt c cc0_scratch2 (dnSlot s) (dnLand X.dn e) ∗ pt c cc0_scratch3 (dnsSlot s) (dnsLand X.dns e))
/-- The slot's four cells at zero. -/
def cells (s : Fin 2) : sProp 𝕄 :=
  iprop(cell c (.dma (semOf 0 s)) ∗ cell c (.dma (semOf 1 s)) ∗ cell c (.dma (semOf 2 s)) ∗ cell c (.dma (semOf 3 s)))
/-- Expert `e` on its way into slot `s`: all transfers started, none awaited. -/
def inflight (s : Fin 2) (e : Fin 32) (X : Wts F) : sProp 𝕄 :=
  iprop((batch c (.dma (semOf 0 s)) guN (guDel c s.val e X.gu) 24 0 ∗ pt c main_v5 (guRest e.val) X.gu)
    ∗ (batch c (.dma (semOf 1 s)) gusN (gusDel c s.val e X.gus) 1 0 ∗ pt c main_v6 (gusRest e.val) X.gus)
    ∗ (batch c (.dma (semOf 2 s)) dnN (dnDel c s.val e X.dn) 16 0 ∗ pt c main_v7 (dnRest e.val) X.dn)
    ∗ (batch c (.dma (semOf 3 s)) dnsN (dnsDel c s.val e X.dns) 1 0 ∗ pt c main_v8 (dnsRest e.val) X.dns))
/-- Ready to start expert `e` into slot `s`. -/
def ready (s : Fin 2) (e : Fin 32) (X : Wts F) : sProp 𝕄 :=
  iprop((batch c (.dma (semOf 0 s)) guN (guDel c s.val e X.gu) 0 0 ∗ bigSep Finset.univ (guPre c s.val e X.gu) ∗ pt c main_v5 (guRest e.val) X.gu)
    ∗ (batch c (.dma (semOf 1 s)) gusN (gusDel c s.val e X.gus) 0 0 ∗ (∃ g, pt c cc0_scratch1 (gusSlot s.val) g) ∗ pt c main_v6 (gusSrc e.val) X.gus ∗ pt c main_v6 (gusRest e.val) X.gus)
    ∗ (batch c (.dma (semOf 2 s)) dnN (dnDel c s.val e X.dn) 0 0 ∗ bigSep Finset.univ (dnPre c s.val e X.dn) ∗ pt c main_v7 (dnRest e.val) X.dn)
    ∗ (batch c (.dma (semOf 3 s)) dnsN (dnsDel c s.val e X.dns) 0 0 ∗ (∃ g, pt c cc0_scratch3 (dnsSlot s.val) g) ∗ pt c main_v8 (dnsSrc e.val) X.dns ∗ pt c main_v8 (dnsRest e.val) X.dns))

/-- A free slot, its cells and the arrays are ready to start any expert. -/
theorem ready_of (s : Fin 2) (e : Fin 32) (X : Wts F) :
    iprop(slotHeld c s.val ∗ cells c s ∗ arrays c X) ⊢ |={Set.univ}=> (ready c s e X : sProp 𝕄) := by
  unfold slotHeld cells arrays ready
  iintro ⟨⟨G0, G1, G2, G3⟩, ⟨C0, C1, C2, C3⟩, A0, A1, A2, A3⟩
  imod (Transfers.batch_alloc' (Lvl := ℕ) (countersEmb (U := Pipeline.UD sig nD τ)) (c : Thread nD τ) () guN (guDel c s.val e X.gu) (sm := .dma (semOf 0 s)) (E := Set.univ)) $$ C0 with B0
  imod (Transfers.batch_alloc' (Lvl := ℕ) (countersEmb (U := Pipeline.UD sig nD τ)) (c : Thread nD τ) () gusN (gusDel c s.val e X.gus) (sm := .dma (semOf 1 s)) (E := Set.univ)) $$ C1 with B1
  imod (Transfers.batch_alloc' (Lvl := ℕ) (countersEmb (U := Pipeline.UD sig nD τ)) (c : Thread nD τ) () dnN (dnDel c s.val e X.dn) (sm := .dma (semOf 2 s)) (E := Set.univ)) $$ C2 with B2
  imod (Transfers.batch_alloc' (Lvl := ℕ) (countersEmb (U := Pipeline.UD sig nD τ)) (c : Thread nD τ) () dnsN (dnsDel c s.val e X.dns) (sm := .dma (semOf 3 s)) (E := Set.univ)) $$ C3 with B3
  imodintro
  ihave R0 := (gu_ready c s.val e X.gu) $$ [G0 A0]
  · isplitl [G0]; · iexact G0
    iexact A0
  ihave R2 := (dn_ready c s.val e X.dn) $$ [G2 A2]
  · isplitl [G2]; · iexact G2
    iexact A2
  ihave A1 := (Entails.of_eq (gus_whole c e.val X.gus)) $$ A1
  ihave A3 := (Entails.of_eq (dns_whole c e.val X.dns)) $$ A3
  icases A1 with ⟨A1, A1'⟩
  icases A3 with ⟨A3, A3'⟩
  isplitl [B0 R0]
  · isplitl [B0]; · iexact B0
    iexact R0
  isplitl [B1 G1 A1 A1']
  · isplitl [B1]; · iexact B1
    isplitl [G1]; · iexact G1
    isplitl [A1]; · iexact A1
    iexact A1'
  isplitl [B2 R2]
  · isplitl [B2]; · iexact B2
    iexact R2
  isplitl [B3]; · iexact B3
  isplitl [G3]; · iexact G3
  isplitl [A3]; · iexact A3
  iexact A3'

/-- The buffers cut in their two slots. -/
theorem slots_split :
    iprop((∃ g, pt c cc0_scratch0 Finset.univ g) ∗ (∃ g, pt c cc0_scratch1 Finset.univ g) ∗ (∃ g, pt c cc0_scratch2 Finset.univ g) ∗ (∃ g, pt c cc0_scratch3 Finset.univ g))
      ⊢ (iprop(slotHeld c 0 ∗ slotHeld c 1) : sProp 𝕄) := by
  unfold slotHeld
  iintro ⟨⟨%g0, H0⟩, ⟨%g1, H1⟩, ⟨%g2, H2⟩, ⟨%g3, H3⟩⟩
  ihave H0 := (Entails.of_eq (gu_two c g0)) $$ H0
  ihave H1 := (Entails.of_eq (gus_two c g1)) $$ H1
  ihave H2 := (Entails.of_eq (dn_two c g2)) $$ H2
  ihave H3 := (Entails.of_eq (dns_two c g3)) $$ H3
  icases H0 with ⟨H0, H0'⟩
  icases H1 with ⟨H1, H1'⟩
  icases H2 with ⟨H2, H2'⟩
  icases H3 with ⟨H3, H3'⟩
  isplitl [H0 H1 H2 H3]
  · isplitl [H0]; · iexists g0; iexact H0
    isplitl [H1]; · iexists g1; iexact H1
    isplitl [H2]; · iexists g2; iexact H2
    iexists g3; iexact H3
  isplitl [H0']; · iexists g0; iexact H0'
  isplitl [H1']; · iexists g1; iexact H1'
  isplitl [H2']; · iexists g2; iexact H2'
  iexists g3; iexact H3'

/-- And put together again. -/
theorem slots_join :
    iprop(slotHeld c 0 ∗ slotHeld c 1) ⊢ (iprop((∃ g, pt c cc0_scratch0 Finset.univ g) ∗ (∃ g, pt c cc0_scratch1 Finset.univ g) ∗ (∃ g, pt c cc0_scratch2 Finset.univ g)
      ∗ (∃ g, pt c cc0_scratch3 Finset.univ g)) : sProp 𝕄) := by
  unfold slotHeld
  iintro ⟨⟨⟨%g0, H0⟩, ⟨%g1, H1⟩, ⟨%g2, H2⟩, ⟨%g3, H3⟩⟩, ⟨⟨%k0, K0⟩, ⟨%k1, K1⟩, ⟨%k2, K2⟩, ⟨%k3, K3⟩⟩⟩
  isplitl [H0 K0]; · iapply (gu_join c g0 k0); isplitl [H0]; · iexact H0
                     iexact K0
  isplitl [H1 K1]; · iapply (gus_join c g1 k1); isplitl [H1]; · iexact H1
                     iexact K1
  isplitl [H2 K2]; · iapply (dn_join c g2 k2); isplitl [H2]; · iexact H2
                     iexact K2
  iapply (dns_join c g3 k3); isplitl [H3]; · iexact H3
  iexact K3

theorem slotFull_held (s : ℕ) (e : Fin 32) (X : Wts F) : slotFull c s e X ⊢ (slotHeld c s : sProp 𝕄) := by
  unfold slotFull slotHeld
  iintro ⟨H0, H1, H2, H3⟩
  isplitl [H0]; · iexists _; iexact H0
  isplitl [H1]; · iexists _; iexact H1
  isplitl [H2]; · iexists _; iexact H2
  iexists _; iexact H3

end Cert.Kernel.Hand

end
-- ==== Proof.StartK.lean ====
/-
  Starting and awaiting one expert: its four batches in the order the kernel issues them.
-/
module

public import proofs.«01_k».proof.Proof.StateK
public import Idealize.ShloMosaic.Lib.ValueIdxCore

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- One piece of a program, then the rest. -/
theorem wp_seq {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h : P ⊢ wp frame (wpE (defs₀ (F := F)) Variants.none (c : Thread nD τ) none) Set.univ p R) :
    iprop(P ∗ (∀ a, R a -∗ wp frame (wpE (defs₀ (F := F)) Variants.none (c : Thread nD τ) none) Set.univ (k a) Q))
      ⊢ wp frame (wpE (defs₀ (F := F)) Variants.none (c : Thread nD τ) none) Set.univ (p >>= k) Q := by
  rw [wp_bind]
  iintro ⟨HP, HK⟩
  ihave HP := h $$ HP
  iapply (wp_wand_r _ _ _) $$ [HP HK]
  isplitl [HP]; · iexact HP
  iexact HK

/-- Expert `e` started into slot `s`: the four batches, in order. -/
theorem start_all {α : Type} (s : Fin 2) (e : Fin 32) (X : Wts F)
    (L0 : Scf.Loop 32) (hL0 : L0.OK) (hT0 : L0.trips = 24) (sm0 : DmaSem sig) (hsm0 : sm0 = semOf 0 s)
    (oD0 : Fin L0.trips → Fin 5 → ℕ) (inbD0 : ∀ k a, oD0 k a + S1x1x64x16x128.size a ≤ S2x24x64x16x128.size a)
    (oS0 : Fin L0.trips → Fin 4 → ℕ) (inbS0 : ∀ k a, oS0 k a + S1x64x16x128.size a ≤ S32x64x16x3072.size a)
    (hD0 : ∀ k, oD0 k = ![s.val, k.val, 0, 0, 0]) (hS0 : ∀ k, oS0 k = ![e.val, 0, 0, 128 * k.val])
    (hs0 : ∀ k, (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128).view.WordExact)
    (hd0 : ∀ k, (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128).view.WordExact)
    (sm1 : DmaSem sig) (hsm1 : sm1 = semOf 1 s)
    (oD1 : Fin 3 → ℕ) (inbD1 : ∀ a, oD1 a + S1x64x3072.size a ≤ S2x64x3072.size a)
    (oS1 : Fin 3 → ℕ) (inbS1 : ∀ a, oS1 a + S1x64x3072.size a ≤ S32x64x3072.size a)
    (hD1 : oD1 = ![s.val, 0, 0]) (hS1 : oS1 = ![e.val, 0, 0])
    (hs1 : (((whole main_v6 : Memref sig .tc .hbm S32x64x3072 .i8).slice (Rect.unit (s := S32x64x3072) oS1 S1x64x3072.size inbS1) (fun _ => rfl)).squeeze S64x3072 squeezes_S1x64x3072_S64x3072).view.WordExact)
    (hd1 : (((whole cc0_scratch1 : Memref sig .tc .vmem S2x64x3072 .i8).slice (Rect.unit (s := S2x64x3072) oD1 S1x64x3072.size inbD1) (fun _ => rfl)).squeeze S64x3072 squeezes_S1x64x3072_S64x3072).view.WordExact)
    (L2 : Scf.Loop 32) (hL2 : L2.OK) (hT2 : L2.trips = 16) (sm2 : DmaSem sig) (hsm2 : sm2 = semOf 2 s)
    (oD2 : Fin L2.trips → Fin 5 → ℕ) (inbD2 : ∀ k a, oD2 k a + S1x1x48x16x128.size a ≤ S2x16x48x16x128.size a)
    (oS2 : Fin L2.trips → Fin 4 → ℕ) (inbS2 : ∀ k a, oS2 k a + S1x48x16x128.size a ≤ S32x48x16x2048.size a)
    (hD2 : ∀ k, oD2 k = ![s.val, k.val, 0, 0, 0]) (hS2 : ∀ k, oS2 k = ![e.val, 0, 0, 128 * k.val])
    (hs2 : ∀ k, (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128).view.WordExact)
    (hd2 : ∀ k, (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128).view.WordExact)
    (sm3 : DmaSem sig) (hsm3 : sm3 = semOf 3 s)
    (oD3 : Fin 3 → ℕ) (inbD3 : ∀ a, oD3 a + S1x48x2048.size a ≤ S2x48x2048.size a)
    (oS3 : Fin 3 → ℕ) (inbS3 : ∀ a, oS3 a + S1x48x2048.size a ≤ S32x48x2048.size a)
    (hD3 : oD3 = ![s.val, 0, 0]) (hS3 : oS3 = ![e.val, 0, 0])
    (hs3 : (((whole main_v8 : Memref sig .tc .hbm S32x48x2048 .i8).slice (Rect.unit (s := S32x48x2048) oS3 S1x48x2048.size inbS3) (fun _ => rfl)).squeeze S48x2048 squeezes_S1x48x2048_S48x2048).view.WordExact)
    (hd3 : (((whole cc0_scratch3 : Memref sig .tc .vmem S2x48x2048 .i8).slice (Rect.unit (s := S2x48x2048) oD3 S1x48x2048.size inbD3) (fun _ => rfl)).squeeze S48x2048 squeezes_S1x48x2048_S48x2048).view.WordExact)
    (kk : Prog (TpuEff nD τ sig (Elt F) Λ₀ .tc) α) (Q : α → sProp 𝕄) :
    iprop(ready c s e X ∗ (inflight c s e X -∗ wp frame (wpE (defs₀ (F := F)) Variants.none (c : Thread nD τ) none) Set.univ kk Q))
      ⊢ wp frame (wpE (defs₀ (F := F)) Variants.none (c : Thread nD τ) none) Set.univ (do
          Scf.Loop.for L0 hL0 (⟨⟩ : Unit) (fun k _ => do
            Prog.lift (.enqueueDma (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128) (.here (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128)) (.dma sm0) (hs0 k) (hd0 k) ⟨Or.inl rfl, trivial⟩)
            pure ⟨⟩)
          Prog.lift (.enqueueDma (((whole main_v6 : Memref sig .tc .hbm S32x64x3072 .i8).slice (Rect.unit (s := S32x64x3072) oS1 S1x64x3072.size inbS1) (fun _ => rfl)).squeeze S64x3072 squeezes_S1x64x3072_S64x3072) (.here (((whole cc0_scratch1 : Memref sig .tc .vmem S2x64x3072 .i8).slice (Rect.unit (s := S2x64x3072) oD1 S1x64x3072.size inbD1) (fun _ => rfl)).squeeze S64x3072 squeezes_S1x64x3072_S64x3072)) (.dma sm1) (hs1) (hd1) ⟨Or.inl rfl, trivial⟩)
          Scf.Loop.for L2 hL2 (⟨⟩ : Unit) (fun k _ => do
            Prog.lift (.enqueueDma (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128) (.here (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128)) (.dma sm2) (hs2 k) (hd2 k) ⟨Or.inl rfl, trivial⟩)
            pure ⟨⟩)
          Prog.lift (.enqueueDma (((whole main_v8 : Memref sig .tc .hbm S32x48x2048 .i8).slice (Rect.unit (s := S32x48x2048) oS3 S1x48x2048.size inbS3) (fun _ => rfl)).squeeze S48x2048 squeezes_S1x48x2048_S48x2048) (.here (((whole cc0_scratch3 : Memref sig .tc .vmem S2x48x2048 .i8).slice (Rect.unit (s := S2x48x2048) oD3 S1x48x2048.size inbD3) (fun _ => rfl)).squeeze S48x2048 squeezes_S1x48x2048_S48x2048)) (.dma sm3) (hs3) (hd3) ⟨Or.inl rfl, trivial⟩)
          kk) Q := by
  unfold ready inflight
  iintro ⟨⟨⟨B0, P0, R0⟩, ⟨B1, D1, S1, R1⟩, ⟨B2, P2, R2⟩, ⟨B3, D3, S3, R3⟩⟩, HK⟩
  iapply (wp_seq c (gu_start c L0 hL0 hT0 s e X.gu sm0 hsm0 oD0 inbD0 oS0 inbS0 hD0 hS0 hs0 hd0))
  isplitl [B0 P0]
  · isplitl [B0]; · iexact B0
    iexact P0
  iintro %_ B0
  iapply (gus_start c s e X.gus sm1 hsm1 oD1 inbD1 oS1 inbS1 hD1 hS1 hs1 hd1 ⟨Or.inl rfl, trivial⟩ _ Q)
  isplitl [B1]; · iexact B1
  isplitl [D1]; · iexact D1
  isplitl [S1]; · iexact S1
  iintro B1
  iapply (wp_seq c (dn_start c L2 hL2 hT2 s e X.dn sm2 hsm2 oD2 inbD2 oS2 inbS2 hD2 hS2 hs2 hd2))
  isplitl [B2 P2]
  · isplitl [B2]; · iexact B2
    iexact P2
  iintro %_ B2
  iapply (dns_start c s e X.dns sm3 hsm3 oD3 inbD3 oS3 inbS3 hD3 hS3 hs3 hd3 ⟨Or.inl rfl, trivial⟩ _ Q)
  isplitl [B3]; · iexact B3
  isplitl [D3]; · iexact D3
  isplitl [S3]; · iexact S3
  iintro B3
  iapply HK
  isplitl [B0 R0]; · isplitl [B0]; · iexact B0
                     iexact R0
  isplitl [B1 R1]; · isplitl [B1]; · iexact B1
                     iexact R1
  isplitl [B2 R2]; · isplitl [B2]; · iexact B2
                     iexact R2
  isplitl [B3]; · iexact B3
  iexact R3

/-- Expert `e` awaited in slot `s`: the four batches, in order. -/
theorem wait_all {α : Type} (s : Fin 2) (e : Fin 32) (X : Wts F)
    (L0 : Scf.Loop 32) (hL0 : L0.OK) (hT0 : L0.trips = 24) (sm0 : DmaSem sig) (hsm0 : sm0 = semOf 0 s)
    (oD0 : Fin L0.trips → Fin 5 → ℕ) (inbD0 : ∀ k a, oD0 k a + S1x1x64x16x128.size a ≤ S2x24x64x16x128.size a)
    (oS0 : Fin L0.trips → Fin 4 → ℕ) (inbS0 : ∀ k a, oS0 k a + S1x64x16x128.size a ≤ S32x64x16x3072.size a)
    (hs0 : ∀ k, (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128).view.WordExact)
    (hd0 : ∀ k, (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128).view.WordExact)
    (sm1 : DmaSem sig) (hsm1 : sm1 = semOf 1 s)
    (oD1 : Fin 3 → ℕ) (inbD1 : ∀ a, oD1 a + S1x64x3072.size a ≤ S2x64x3072.size a)
    (oS1 : Fin 3 → ℕ) (inbS1 : ∀ a, oS1 a + S1x64x3072.size a ≤ S32x64x3072.size a)
    (hs1 : (((whole main_v6 : Memref sig .tc .hbm S32x64x3072 .i8).slice (Rect.unit (s := S32x64x3072) oS1 S1x64x3072.size inbS1) (fun _ => rfl)).squeeze S64x3072 squeezes_S1x64x3072_S64x3072).view.WordExact)
    (hd1 : (((whole cc0_scratch1 : Memref sig .tc .vmem S2x64x3072 .i8).slice (Rect.unit (s := S2x64x3072) oD1 S1x64x3072.size inbD1) (fun _ => rfl)).squeeze S64x3072 squeezes_S1x64x3072_S64x3072).view.WordExact)
    (L2 : Scf.Loop 32) (hL2 : L2.OK) (hT2 : L2.trips = 16) (sm2 : DmaSem sig) (hsm2 : sm2 = semOf 2 s)
    (oD2 : Fin L2.trips → Fin 5 → ℕ) (inbD2 : ∀ k a, oD2 k a + S1x1x48x16x128.size a ≤ S2x16x48x16x128.size a)
    (oS2 : Fin L2.trips → Fin 4 → ℕ) (inbS2 : ∀ k a, oS2 k a + S1x48x16x128.size a ≤ S32x48x16x2048.size a)
    (hs2 : ∀ k, (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128).view.WordExact)
    (hd2 : ∀ k, (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128).view.WordExact)
    (sm3 : DmaSem sig) (hsm3 : sm3 = semOf 3 s)
    (oD3 : Fin 3 → ℕ) (inbD3 : ∀ a, oD3 a + S1x48x2048.size a ≤ S2x48x2048.size a)
    (oS3 : Fin 3 → ℕ) (inbS3 : ∀ a, oS3 a + S1x48x2048.size a ≤ S32x48x2048.size a)
    (hs3 : (((whole main_v8 : Memref sig .tc .hbm S32x48x2048 .i8).slice (Rect.unit (s := S32x48x2048) oS3 S1x48x2048.size inbS3) (fun _ => rfl)).squeeze S48x2048 squeezes_S1x48x2048_S48x2048).view.WordExact)
    (hd3 : (((whole cc0_scratch3 : Memref sig .tc .vmem S2x48x2048 .i8).slice (Rect.unit (s := S2x48x2048) oD3 S1x48x2048.size inbD3) (fun _ => rfl)).squeeze S48x2048 squeezes_S1x48x2048_S48x2048).view.WordExact)
    (W0 : Waits sig Unit) (kk : Prog (TpuEff nD τ sig (Elt F) Λ₀ .tc) α) (Q : α → sProp 𝕄) :
    iprop(inflight c s e X ∗ owes (c : Thread nD τ) 0 W0
        ∗ (iprop(slotFull c s.val e X ∗ cells c s ∗ arrays c X ∗ ∃ W, owes (c : Thread nD τ) 0 W) -∗ wp frame (wpE (defs₀ (F := F)) Variants.none (c : Thread nD τ) none) Set.univ kk Q))
      ⊢ wp frame (wpE (defs₀ (F := F)) Variants.none (c : Thread nD τ) none) Set.univ (do
          Scf.Loop.for L0 hL0 (⟨⟩ : Unit) (fun k _ => do
            Prog.lift (.waitDma2 sm0 (((whole main_v5 : Memref sig .tc .hbm S32x64x16x3072 .i8).slice (Rect.unit (s := S32x64x16x3072) (oS0 k) S1x64x16x128.size (inbS0 k)) (fun _ => rfl)).squeeze S64x16x128 squeezes_S1x64x16x128_S64x16x128) (((whole cc0_scratch0 : Memref sig .tc .vmem S2x24x64x16x128 .i8).slice (Rect.unit (s := S2x24x64x16x128) (oD0 k) S1x1x64x16x128.size (inbD0 k)) (fun _ => rfl)).squeeze S64x16x128 squeezes_S1x1x64x16x128_S64x16x128) (hs0 k) (hd0 k))
            pure ⟨⟩)
          Prog.lift (.waitDma2 sm1 (((whole main_v6 : Memref sig .tc .hbm S32x64x3072 .i8).slice (Rect.unit (s := S32x64x3072) oS1 S1x64x3072.size inbS1) (fun _ => rfl)).squeeze S64x3072 squeezes_S1x64x3072_S64x3072) (((whole cc0_scratch1 : Memref sig .tc .vmem S2x64x3072 .i8).slice (Rect.unit (s := S2x64x3072) oD1 S1x64x3072.size inbD1) (fun _ => rfl)).squeeze S64x3072 squeezes_S1x64x3072_S64x3072) (hs1) (hd1))
          Scf.Loop.for L2 hL2 (⟨⟩ : Unit) (fun k _ => do
            Prog.lift (.waitDma2 sm2 (((whole main_v7 : Memref sig .tc .hbm S32x48x16x2048 .i8).slice (Rect.unit (s := S32x48x16x2048) (oS2 k) S1x48x16x128.size (inbS2 k)) (fun _ => rfl)).squeeze S48x16x128 squeezes_S1x48x16x128_S48x16x128) (((whole cc0_scratch2 : Memref sig .tc .vmem S2x16x48x16x128 .i8).slice (Rect.unit (s := S2x16x48x16x128) (oD2 k) S1x1x48x16x128.size (inbD2 k)) (fun _ => rfl)).squeeze S48x16x128 squeezes_S1x1x48x16x128_S48x16x128) (hs2 k) (hd2 k))
            pure ⟨⟩)
          Prog.lift (.waitDma2 sm3 (((whole main_v8 : Memref sig .tc .hbm S32x48x2048 .i8).slice (Rect.unit (s := S32x48x2048) oS3 S1x48x2048.size inbS3) (fun _ => rfl)).squeeze S48x2048 squeezes_S1x48x2048_S48x2048) (((whole cc0_scratch3 : Memref sig .tc .vmem S2x48x2048 .i8).slice (Rect.unit (s := S2x48x2048) oD3 S1x48x2048.size inbD3) (fun _ => rfl)).squeeze S48x2048 squeezes_S1x48x2048_S48x2048) (hs3) (hd3))
          kk) Q := by
  unfold inflight slotFull cells arrays
  iintro ⟨⟨⟨B0, R0⟩, ⟨B1, R1⟩, ⟨B2, R2⟩, ⟨B3, R3⟩⟩, HO, HK⟩
  iapply (wp_seq c (gu_wait c L0 hL0 hT0 s e X.gu sm0 hsm0 oD0 inbD0 oS0 inbS0 hs0 hd0 W0))
  isplitl [B0 HO]
  · isplitl [B0]; · iexact B0
    iexact HO
  iintro %_ ⟨C0, D0, ⟨%W1, HO⟩⟩
  iapply (gus_wait c s e X.gus sm1 hsm1 oD1 inbD1 oS1 inbS1 hs1 hd1 W1 _ Q)
  isplitl [B1]; · iexact B1
  isplitl [HO]; · iexact HO
  iintro ⟨C1, D1, ⟨%W2, HO⟩⟩
  iapply (wp_seq c (dn_wait c L2 hL2 hT2 s e X.dn sm2 hsm2 oD2 inbD2 oS2 inbS2 hs2 hd2 W2))
  isplitl [B2 HO]
  · isplitl [B2]; · iexact B2
    iexact HO
  iintro %_ ⟨C2, D2, ⟨%W3, HO⟩⟩
  iapply (dns_wait c s e X.dns sm3 hsm3 oD3 inbD3 oS3 inbS3 hs3 hd3 W3 _ Q)
  isplitl [B3]; · iexact B3
  isplitl [HO]; · iexact HO
  iintro ⟨C3, D3, HO⟩
  ihave D0 := (gu_done c s.val e X.gu) $$ [D0 R0]
  · isplitl [D0]; · iexact D0
    iexact R0
  ihave D1 := (gus_done c s.val e X.gus 0) $$ [D1 R1]
  · isplitl [D1]; · iexact D1
    iexact R1
  ihave D2 := (dn_done c s.val e X.dn) $$ [D2 R2]
  · isplitl [D2]; · iexact D2
    iexact R2
  ihave D3 := (dns_done c s.val e X.dns 0) $$ [D3 R3]
  · isplitl [D3]; · iexact D3
    iexact R3
  icases D0 with ⟨F0, A0⟩
  icases D1 with ⟨F1, A1⟩
  icases D2 with ⟨F2, A2⟩
  icases D3 with ⟨F3, A3⟩
  iapply HK
  isplitl [F0 F1 F2 F3]
  · isplitl [F0]; · iexact F0
    isplitl [F1]; · iexact F1
    isplitl [F2]; · iexact F2
    iexact F3
  isplitl [C0 C1 C2 C3]
  · isplitl [C0]; · iexact C0
    isplitl [C1]; · iexact C1
    isplitl [C2]; · iexact C2
    iexact C3
  isplitl [A0 A1 A2 A3]
  · isplitl [A0]; · iexact A0
    isplitl [A1]; · iexact A1
    isplitl [A2]; · iexact A2
    iexact A3
  iexact HO

end Cert.Kernel.Hand

end
-- ==== Proof.PrologK.lean ====
/-
  The start of the kernel: the first expert started, the used experts marked, their order listed.
-/
module

public import proofs.«01_k».proof.Proof.StartK
public import proofs.«01_k».proof.Proof.Gen.Kernel.Skeleton
public import Idealize.ShloMosaic.Lib.LoopRemainder

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A memref's buffer held whole. -/
abbrev pw {sp : Space} {S : Shape} {e : EltTy} (M : Memref sig .tc sp S e) (f : Buf (Elt F) (M.view.loc (c : Thread nD τ))) : sProp 𝕄 :=
  M.view.loc (c : Thread nD τ) ↦{fullShare} f

/-! ## Words -/

/-- Bit `e` of `1 << v`. -/
theorem bit_one_shl (v : BitVec 32) (hv : v.toNat < 32) (e : ℕ) (he : e < 32) : (Scalar.shli 1#32 v).getLsbD e = true ↔ v.toNat = e := by
  show (IntOp.shli .scalar 1#32 v).getLsbD e = true ↔ _
  unfold IntOp.shli
  rw [if_pos hv, BitVec.shiftLeft_eq', BitVec.getLsbD_shiftLeft]
  by_cases h : v.toNat = e
  · subst h; simp [he]
  · simp only [h, iff_false, Bool.not_eq_true]
    by_cases h2 : e < v.toNat
    · simp [h2]
    · have : e - v.toNat ≠ 0 := by omega
      simp [this, BitVec.getLsbD_one]

/-- Bit `e` of a word, shifted down and masked. -/
theorem bit_shr (v : BitVec 32) (e : ℕ) (he : e < 32) : Scalar.andi (Scalar.shrsi v (BitVec.ofNat 32 e)) 1#32 = if v.getLsbD e then 1#32 else 0#32 := by
  show IntOp.shrsi .scalar v (BitVec.ofNat 32 e) &&& 1#32 = _
  unfold IntOp.shrsi
  have h : (BitVec.ofNat 32 e).toNat = e := by rw [BitVec.toNat_ofNat]; omega
  rw [if_pos (by rw [h]; exact he)]
  apply BitVec.eq_of_getLsbD_eq
  intro i hi
  rw [BitVec.sshiftRight_eq', h, BitVec.getLsbD_and, BitVec.getLsbD_sshiftRight]
  by_cases hi0 : i = 0
  · subst hi0; by_cases hb : v.getLsbD e <;> (rw [BitVec.getLsbD_eq_getElem he] at *; simp [hb, he])
  · by_cases hb : v.getLsbD e <;> simp [hb, hi0, BitVec.getLsbD_one]

/-- Word `y` of the order after one word is written at `n`. -/
theorem order_write (g : S33.Idx → BitVec 32) (n : ℕ) (off : Fin 1 → ℕ) (inb : ∀ a, off a + S1.size a ≤ S33.size a) (hoff : off = ![n]) (v : BitVec 32) (y : S33.Idx) :
    (whole cc0_scratch7 : Memref sig .tc .smem S33 .i32).view.writes (Elt F) g [⟨Rect.unit (s := S33) off S1.size inb, fun _ => v⟩] y
      = if (y 0).val = n then v else g y := by
  subst hoff
  by_cases hy : (y 0).val = n
  · rw [if_pos hy]
    have hz : y = ((whole cc0_scratch7 : Memref sig .tc .smem S33 .i32).view.slice (Rect.unit (s := S33) ![n] S1.size inb)).emb (ix1 0) := by
      funext a
      apply Fin.ext
      refine Eq.trans ?_ (Rect.emb_apply (Rect.unit (s := S33) ![n] S1.size inb) (ix1 0) a).symm
      fin_cases a
      show (y 0).val = n + 1 * 0
      omega
    refine (congrArg _ hz).trans ((View.write_emb_of_mem _ _ (Finset.mem_univ _)).trans rfl)
  · rw [if_neg hy]
    refine View.write_of_not_mem _ _ _ ?_
    rw [View.setOn, Finset.mem_map]
    rintro ⟨x, -, hx⟩
    apply hy
    have := congrArg (fun z : S33.Idx => (z 0).val) hx
    simp only at this
    rw [← this]
    show n + 1 * (x 0).val = n
    have := (x 0).isLt
    have : (x 0).val < 1 := this
    omega

/-! ## The used experts -/

/-- `w`'s bits are the identifiers among the first `n` places. -/
def Marks (d1 : S8x16.Idx → BitVec 32) (n : ℕ) (w : BitVec 32) : Prop :=
  ∀ e, e < 32 → (w.getLsbD e = true ↔ ∃ y : S8x16.Idx, 16 * (y 0).val + (y 1).val < n ∧ (d1 y).toNat = e)

theorem marks_step (d1 : S8x16.Idx → BitVec 32) (hd : ∀ y, (d1 y).toNat < 32) (n : ℕ) (w : BitVec 32) (h : Marks d1 n w) (y : S8x16.Idx) (hy : 16 * (y 0).val + (y 1).val = n) :
    Marks d1 (n + 1) (Scalar.ori w (Scalar.shli 1#32 (d1 y))) := by
  intro e he
  show (w ||| Scalar.shli 1#32 (d1 y)).getLsbD e = true ↔ _
  rw [BitVec.getLsbD_or, Bool.or_eq_true, h e he, bit_one_shl _ (hd y) e he]
  constructor
  · rintro (⟨z, hz, hz'⟩ | h)
    · exact ⟨z, by omega, hz'⟩
    · exact ⟨y, by omega, h⟩
  · rintro ⟨z, hz, hz'⟩
    by_cases hzn : 16 * (z 0).val + (z 1).val < n
    · exact .inl ⟨z, hzn, hz'⟩
    · right
      have : z = y := by
        have hz1 : (z 1).val < 16 := (z 1).isLt
        have hy1 : (y 1).val < 16 := (y 1).isLt
        funext a; apply Fin.ext
        fin_cases a
        · show (z 0).val = (y 0).val; omega
        · show (z 1).val = (y 1).val; omega
      rw [← this]; exact hz'

theorem t3_trips : k0_t3_loop.trips = 8 := by decide
theorem t4_trips : k0_t4_loop.trips = 16 := by decide
theorem t5_trips : k0_t5_loop.trips = 32 := by decide

/-- One row of identifiers marked. -/
theorem used_row (d1 : S8x16.Idx → BitVec 32) (hd : ∀ y, (d1 y).toNat < 32) (k : Fin k0_t3_loop.trips) (w : BitVec 32) (hw : Marks d1 (16 * k.val) w) :
    pw c (whole cc0_stg1_0) d1 ⊢ wp frame (wpE (defs₀ (F := F)) Variants.none (c : Thread nD τ) none) Set.univ (Scf.Loop.for k0_t4_loop k0_t4_ok w (k0_t4_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 k)) (fun r => iprop(⌜Marks d1 (16 * (k.val + 1)) r⌝ ∗ pw c (whole cc0_stg1_0) d1)) := by
  refine BIBase.Entails.trans ?_ (Scf.wp_for frame _ Set.univ _ _ _ k0_t4_ok _ _ (fun t r => iprop(⌜Marks d1 (16 * k.val + t) r⌝ ∗ pw c (whole cc0_stg1_0) d1)) ?_)
  · iintro H
    isplitl [H]
    · isplitr; · ipureintro; exact hw
      iexact H
    iintro %acc H
    iexact H
  intro t acc
  unfold k0_t4_body
  iintro ⟨%hm, H⟩
  sl_exec
  sl_step
  isplitr
  rotate_left
  · iexact H
  ipureintro
  have hk := k.isLt
  have ht := t.isLt
  have e3 := t3_trips
  have e4 : (Scf.trips k0_t4_loop.lb k0_t4_loop.ub k0_t4_loop.st) = 16 := t4_trips
  refine marks_step d1 hd _ acc hm (((Rect.unit (s := S8x16) (k0_off7 k t) S1x1.size (k0_off7_inb k t)).toLoadRect.idx (Shape.Idx.first (show 0 < S1x1.numel by decide)))) ?_
  have h0 : (((Rect.unit (s := S8x16) (k0_off7 k t) S1x1.size (k0_off7_inb k t)).toLoadRect.idx (Shape.Idx.first (show 0 < S1x1.numel by decide))) 0).val = k.val := by
    show k0_off7 k t 0 + 1 * 0 = _
    rw [k0_off7_eq]; rfl
  have h1 : (((Rect.unit (s := S8x16) (k0_off7 k t) S1x1.size (k0_off7_inb k t)).toLoadRect.idx (Shape.Idx.first (show 0 < S1x1.numel by decide))) 1).val = t.val := by
    show k0_off7 k t 1 + 1 * 0 = _
    rw [k0_off7_eq]; rfl
  rw [h0, h1]

/-- All identifiers marked. -/
theorem used_wp (d1 : S8x16.Idx → BitVec 32) (hd : ∀ y, (d1 y).toNat < 32) :
    pw c (whole cc0_stg1_0) d1 ⊢ wp frame (wpE (defs₀ (F := F)) Variants.none (c : Thread nD τ) none) Set.univ (Scf.Loop.for k0_t3_loop k0_t3_ok 0#32 (k0_t3_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8)) (fun r => iprop(⌜Marks d1 128 r⌝ ∗ pw c (whole cc0_stg1_0) d1)) := by
  refine BIBase.Entails.trans ?_ (Scf.wp_for frame _ Set.univ _ _ _ k0_t3_ok _ _ (fun k r => iprop(⌜Marks d1 (16 * k) r⌝ ∗ pw c (whole cc0_stg1_0) d1)) ?_)
  · iintro H
    isplitl [H]
    · isplitr
      · ipureintro
        intro e he
        simp
      iexact H
    iintro %acc H
    iexact H
  intro k acc
  unfold k0_t3_body
  iintro ⟨%hm, H⟩
  iapply (wp_seq c (used_row c d1 hd k acc hm))
  isplitl [H]; · iexact H
  iintro %r H
  dsimp only
  sl_step
  iexact H

/-- The kernel's first part: the first expert on its way, its number in the order's first place. -/
theorem part79_wp (X : Wts F) (d1 : S8x16.Idx → BitVec 32) (hd : ∀ y, (d1 y).toNat < 32) :
    iprop(pw c (whole cc0_stg1_0) d1 ∗ (∃ g, pw c (whole cc0_scratch7) g) ∗ slotHeld c 0 ∗ cells c 0 ∗ arrays c X)
      ⊢ wp frame (wpE (defs₀ (F := F)) Variants.none (c : Thread nD τ) none) Set.univ (k0_part79 (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8)
        (fun r => iprop(∃ (e : Fin 32) (g : S33.Idx → BitVec 32), ⌜Marks d1 128 r.1 ∧ (∃ v : BitVec 32, v.toNat = e.val ∧ r.2 = Scalar.shli 1#32 v) ∧ (g (ix1 0)).toNat = e.val ∧ e.val = (d1 (ix2 0 0)).toNat⌝
          ∗ pw c (whole cc0_stg1_0) d1 ∗ pw c (whole cc0_scratch7) g ∗ inflight c 0 e X)) := by
  rw [k0_part79_eq_skeleton]
  unfold k0_part79_skel
  iintro ⟨H1, ⟨%g, H7⟩, HS, HC, HA⟩
  sl_exec
  have hv : BitVec.toNat (part79_wp.sl.r (F := F) d1) < 32 := by
    unfold part79_wp.sl.r
    exact hd ((Rect.unit (s := S8x16) ![0, 0] S1x1.size inb_S8x16_S1x1_0_0).toLoadRect.idx (Shape.Idx.first (by decide)))
  iapply (wp_assume Variants.none (c : Thread nD τ) none Set.univ (k0_chk1_of _ hv))
  dsimp only
  imod (ready_of c 0 ⟨_, hv⟩ X) $$ [HS HC HA] with HR
  · isplitl [HS]; · iexact HS
    isplitl [HC]; · iexact HC
    iexact HA
  iapply (start_all c 0 ⟨_, hv⟩ X
    k0_t1_loop k0_t1_ok t1_trips _ (sem_eq 0 0 _ _ rfl) (fun k => k0_off1 k) (fun k => k0_off1_inb k) (fun k => k0_off2 (part79_wp.sl.r (F := F) d1) k) (fun k => k0_off2_inb _ (k0_chk1_of _ hv) k)
      (fun k => k0_off1_eq k) (fun k => k0_off2_eq _ k) _ _
    _ (sem_eq 1 0 _ _ rfl) ![0, 0, 0] inb_S2x64x3072_S1x64x3072_0_0_0 (k0_off3 (part79_wp.sl.r (F := F) d1)) (k0_off3_inb _ (k0_chk1_of _ hv)) rfl (k0_off3_eq _) _ _
    k0_t2_loop k0_t2_ok t2_trips _ (sem_eq 2 0 _ _ rfl) (fun k => k0_off4 k) (fun k => k0_off4_inb k) (fun k => k0_off5 (part79_wp.sl.r (F := F) d1) k) (fun k => k0_off5_inb _ (k0_chk1_of _ hv) k)
      (fun k => k0_off4_eq k) (fun k => k0_off5_eq _ k) _ _
    _ (sem_eq 3 0 _ _ rfl) ![0, 0, 0] inb_S2x48x2048_S1x48x2048_0_0_0 (k0_off6 (part79_wp.sl.r (F := F) d1)) (k0_off6_inb _ (k0_chk1_of _ hv)) rfl (k0_off6_eq _) _ _
    _ _)
  isplitl [HR]; · iexact HR
  iintro HI
  iapply (wp_seq c (used_wp c d1 hd))
  isplitl [H1]; · iexact H1
  iintro %v16 ⟨%hm, H1⟩
  sl_exec
  sl_step
  iexists ⟨_, hv⟩
  iexists _
  isplitr
  rotate_left
  · isplitl [H1]; · iexact H1
    isplitl [H7]; · iexact H7
    iexact HI
  ipureintro
  refine ⟨hm, ⟨part79_wp.sl.r (F := F) d1, rfl, rfl⟩, ?_, ?_⟩
  · exact congrArg BitVec.toNat ((order_write (F := F) g 0 _ _ rfl _ (ix1 0)).trans (if_pos rfl))
  · show BitVec.toNat (part79_wp.sl.r (F := F) d1) = _
    unfold part79_wp.sl.r
    refine congrArg (fun z => BitVec.toNat (d1 z)) ?_
    funext a; apply Fin.ext; fin_cases a <;> rfl

end Cert.Kernel.Hand

end
-- ==== Proof.OrderK.lean ====
/-
  The order in which the used experts are taken: the first one, then the others by number.
-/
module

public import proofs.«01_k».proof.Proof.PrologK

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The words of `g` begin with the experts of `l`. -/
def Lists (l : List (Fin 32)) (g : S33.Idx → BitVec 32) : Prop :=
  ∀ (y : S33.Idx) (h : (y 0).val < l.length), (g y).toNat = (l[(y 0).val]'h).val

/-- The first expert and those among the first `k` that `w` marks. -/
def orderOf (e0 : Fin 32) (w : BitVec 32) : ℕ → List (Fin 32)
  | 0 => [e0]
  | k + 1 => if h : k < 32 then (if w.getLsbD k = true then orderOf e0 w k ++ [⟨k, h⟩] else orderOf e0 w k) else orderOf e0 w k

/-- The list after the first `k` experts have been looked at. -/
structure Upto (e0 : Fin 32) (w : BitVec 32) (k : ℕ) (cnt : BitVec 32) (l : List (Fin 32)) : Prop where
  nodup : l.Nodup
  mem : ∀ e, e ∈ l ↔ e = e0 ∨ (e.val < k ∧ w.getLsbD e.val = true)
  len : cnt.toNat = l.length
  hd : ∃ r, l = e0 :: r

theorem Upto.le {e0 w k cnt l} (h : Upto e0 w k cnt l) : cnt.toNat < 33 := by
  have := h.nodup.length_le_card
  rw [Fintype.card_fin] at this
  rw [h.len]; omega

theorem upto_zero (e0 : Fin 32) (w : BitVec 32) : Upto e0 w 0 1#32 [e0] where
  nodup := List.nodup_singleton _
  mem e := by simp
  len := rfl
  hd := ⟨[], rfl⟩

theorem upto_step (e0 : Fin 32) (w : BitVec 32) (hw : w.getLsbD e0.val = false) (k : Fin 32) (cnt : BitVec 32) (l : List (Fin 32)) (g g' : S33.Idx → BitVec 32)
    (h : Upto e0 w k.val cnt l) (hol : l = orderOf e0 w k.val) (hl : Lists l g) (hg : ∀ y, g' y = if (y 0).val = cnt.toNat then BitVec.ofNat 32 k.val else g y) :
    ∃ l', l' = orderOf e0 w (k.val + 1) ∧ Upto e0 w (k.val + 1) (Scalar.addi cnt (Scalar.andi (Scalar.shrsi w (BitVec.ofNat 32 k.val)) 1#32)) l' ∧ Lists l' g' := by
  rw [bit_shr w k.val k.isLt]
  have hle := h.le
  obtain ⟨r, hr⟩ := h.hd
  by_cases hb : w.getLsbD k.val = true
  · refine ⟨l ++ [k], by rw [orderOf, dif_pos k.isLt, if_pos hb, ← hol], ⟨?_, ?_, ?_, ⟨r ++ [k], by rw [hr]; rfl⟩⟩, ?_⟩
    · refine List.nodup_append.mpr ⟨h.nodup, List.nodup_singleton _, ?_⟩
      intro a ha b hb' hab
      rw [List.mem_singleton] at hb'
      subst hb' hab
      rcases (h.mem a).mp ha with h1 | h1
      · rw [h1, hw] at hb; exact absurd hb (by decide)
      · omega
    · intro e
      rw [List.mem_append, List.mem_singleton, h.mem]
      constructor
      · rintro ((h1 | h1) | h1)
        · exact .inl h1
        · exact .inr ⟨by omega, h1.2⟩
        · subst h1; exact .inr ⟨by omega, hb⟩
      · rintro (h1 | h1)
        · exact .inl (.inl h1)
        · by_cases h2 : e.val < k.val
          · exact .inl (.inr ⟨h2, h1.2⟩)
          · exact .inr (Fin.ext (by omega))
    · rw [if_pos hb, List.length_append, List.length_singleton, ← h.len]
      show (cnt + 1#32).toNat = _
      rw [BitVec.toNat_add]
      simp only [BitVec.toNat_ofNat]; omega
    · intro y hy
      rw [hg]
      rw [List.length_append, List.length_singleton] at hy
      by_cases hc : (y 0).val = cnt.toNat
      · rw [if_pos hc]
        have hk := k.isLt
        rw [List.getElem_append_right (by rw [← h.len]; omega), BitVec.toNat_ofNat]
        simp only [List.getElem_singleton]; omega
      · rw [if_neg hc]
        have hc' : (y 0).val < l.length := by rw [h.len] at hc; omega
        rw [List.getElem_append_left hc', hl y hc']
  · refine ⟨l, by rw [orderOf, dif_pos k.isLt, if_neg hb, ← hol], ⟨h.nodup, ?_, ?_, ⟨r, hr⟩⟩, ?_⟩
    · intro e
      rw [h.mem]
      constructor
      · rintro (h1 | h1)
        · exact .inl h1
        · exact .inr ⟨by omega, h1.2⟩
      · rintro (h1 | h1)
        · exact .inl h1
        · refine .inr ⟨?_, h1.2⟩
          by_contra h2
          have : e = k := Fin.ext (by omega)
          rw [this] at h1; exact hb h1.2
    · rw [if_neg hb, ← h.len]
      show (cnt + 0#32).toNat = _
      rw [BitVec.add_zero]
    · intro y hy
      rw [hg, if_neg (by rw [h.len]; omega)]
      exact hl y hy

/-- The list of used experts laid out. -/
theorem order_wp (e0 : Fin 32) (w : BitVec 32) (hw : w.getLsbD e0.val = false) (g : S33.Idx → BitVec 32) (hg : (g (ix1 0)).toNat = e0.val) :
    pw c (whole cc0_scratch7) g ⊢ wp frame (wpE (defs₀ (F := F)) Variants.none (c : Thread nD τ) none) Set.univ (Scf.Loop.for k0_t5_loop k0_t5_ok 1#32 (k0_t5_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 w))
      (fun r => iprop(∃ (g : S33.Idx → BitVec 32) (l : List (Fin 32)), ⌜l = orderOf e0 w 32 ∧ Upto e0 w 32 r l ∧ Lists l g⌝ ∗ pw c (whole cc0_scratch7) g)) := by
  refine BIBase.Entails.trans ?_ (Scf.wp_for frame _ Set.univ _ _ _ k0_t5_ok _ _ (fun k r => iprop(∃ (g : S33.Idx → BitVec 32) (l : List (Fin 32)), ⌜l = orderOf e0 w k ∧ Upto e0 w k r l ∧ Lists l g⌝ ∗ pw c (whole cc0_scratch7) g)) ?_)
  · iintro H
    isplitl [H]
    · iexists g
      iexists [e0]
      isplitr
      · ipureintro
        refine ⟨rfl, upto_zero e0 w, ?_⟩
        intro y hy
        have h0 : (y 0).val = 0 := by simpa using hy
        have : y = ix1 0 := by funext a; apply Fin.ext; fin_cases a; exact h0
        subst this
        rw [hg]; rfl
      iexact H
    iintro %acc H
    iexact H
  intro k acc
  unfold k0_t5_body
  iintro ⟨%g, %l, %hm, H⟩
  have hchk := k0_chk2_of _ hm.2.1.le
  sl_exec (disch := exact hchk)
  sl_step
  have hk : k.val < 32 := by exact lt_of_lt_of_eq k.isLt t5_trips
  obtain ⟨l', h0, h1, h2⟩ := upto_step e0 w hw ⟨k.val, hk⟩ acc l g _ hm.2.1 hm.1 hm.2.2 (fun y => order_write (F := F) g acc.toNat (k0_off8 acc) (k0_off8_inb acc (k0_chk2_of _ hm.2.1.le)) rfl (BitVec.ofNat 32 k.val) y)
  have hiv : Scf.iv 0#32 1#32 k.val = BitVec.ofNat 32 k.val := by
    simp [Scf.iv]
  have harg : order_wp.sl.arg18 k = BitVec.ofNat 32 k.val := hiv
  have h47 : order_wp.sl.v47 w k acc = Scalar.addi acc (Scalar.andi (Scalar.shrsi w (BitVec.ofNat 32 k.val)) 1#32) := by
    show Scalar.addi acc (Scalar.andi (Scalar.shrsi w (Scf.iv 0#32 1#32 k.val)) 1#32) = _
    rw [hiv]
  have h2 : Lists l' ((whole cc0_scratch7 : Memref sig .tc .smem S33 .i32).view.writes (Elt F) g [⟨Rect.unit (s := S33) (k0_off8 acc) S1.size (k0_off8_inb acc hchk), fun _ => order_wp.sl.arg18 k⟩]) := by rw [harg]; exact h2
  rw [← h47] at h1
  iexists _
  iexists l'
  isplitr
  rotate_left
  · iexact H
  ipureintro
  exact ⟨h0, h1, h2⟩

end Cert.Kernel.Hand

end
-- ==== Proof.HeadK.lean ====
/-
  The head of a trip of the main loop: the expert of this trip awaited, the next one started.
-/
module

public import proofs.«01_k».proof.Proof.OrderK

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The slot of trip `k`, -/
def slotOf (k : ℕ) : Fin 2 := ⟨k % 2, Nat.mod_lt _ (by decide)⟩
/-- and the one the next trip's expert goes to. -/
def slotNx (k : ℕ) : Fin 2 := ⟨1 - k % 2, by have := Nat.mod_lt k (show 0 < 2 by decide); omega⟩
theorem slotNx_eq (k : ℕ) : slotNx k = slotOf (k + 1) := Fin.ext (by show 1 - k % 2 = (k + 1) % 2; omega)
theorem slotOf_two (k : ℕ) : slotNx (k + 1) = slotOf k := Fin.ext (by show 1 - (k + 1) % 2 = k % 2; omega)

/-- What is on its way when trip `k` starts: its expert, or nothing after the last. -/
def coming (l : List (Fin 32)) (k : ℕ) (X : Wts F) : sProp 𝕄 :=
  if h : k < l.length then inflight c (slotOf k) (l[k]'h) X else iprop(slotHeld c (slotOf k).val ∗ cells c (slotOf k) ∗ arrays c X)

/-- The word read at place `k`. -/
theorem order_read (l : List (Fin 32)) (g : S33.Idx → BitVec 32) (hg : Lists l g) (k : ℕ) (h : k < l.length) (y : S33.Idx) (hy : (y 0).val = k) :
    (g y).toNat = (l[k]'h).val := by
  subst hy; exact hg y h

set_option maxHeartbeats 4000000 in
/-- The next trip's expert started, if there is one. -/
theorem next_wp (X : Wts F) (v22 : BitVec 32) (hw3 : k0_chk3 v22) (l : List (Fin 32)) (hl : (k0_t6_loop v22).trips = l.length) (g : S33.Idx → BitVec 32) (hg : Lists l g)
    (k : Fin (k0_t6_loop v22).trips) {α : Type} (kk : Prog (TpuEff nD τ sig (Elt F) Λ₀ .tc) α) (QQ : α → sProp 𝕄) :
    iprop(pw c (whole cc0_scratch7) g ∗ slotHeld c (slotNx k.val).val ∗ cells c (slotNx k.val) ∗ arrays c X ∗ (iprop(pw c (whole cc0_scratch7) g ∗ coming c l (k.val + 1) X) -∗ wp frame (wpE (defs₀ (F := F)) Variants.none (c : Thread nD τ) none) Set.univ kk QQ))
      ⊢ wp frame (wpE (defs₀ (F := F)) Variants.none (c : Thread nD τ) none) Set.univ (do
          if k0_h1 : k0_cond1 v22 k = 1#1 then do
            let v1594 : Elt F .i32 ← smemLoad (whole cc0_scratch7) (Rect.unit (s := S33) (k0_off22 v22 k) S1.size (k0_off22_inb v22 hw3 k k0_h1)) numel1_S1 rfl
            have k0_hw5 : k0_chk5 v22 k v1594 := (← Prog.lift (TpuEff.assume (k0_chk5 v22 k v1594) (k0_chk5.dec v22 k v1594))).down
            Scf.Loop.for k0_t9_loop k0_t9_ok ⟨⟩ (k0_t9_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 0#32 1#32 k k0_h1 v1594 k0_hw5)
            let v1597 : DmaSems sig S1x1 := cc0_scratch8.slice (Rect.unit (s := S4x2) (k0_off26 v22 k) S1x1.size (k0_off26_inb v22 hw3 k k0_h1))
            let v1598 : DmaSems sig S_ := v1597.squeeze S_ squeezes_S1x1_S_
            let v1599 : Memref sig .tc .vmem S1x64x3072 .i8 := (whole cc0_scratch1).slice (Rect.unit (s := S2x64x3072) (k0_off27 v22 k) S1x64x3072.size (k0_off27_inb v22 hw3 k k0_h1)) (fun _ => rfl)
            let v1600 : Memref sig .tc .vmem S64x3072 .i8 := v1599.squeeze S64x3072 squeezes_S1x64x3072_S64x3072
            let v1601 : Memref sig .tc .hbm S1x64x3072 .i8 := (whole main_v6).slice (Rect.unit (s := S32x64x3072) (k0_off28 v1594) S1x64x3072.size (k0_off28_inb v22 k v1594 k0_hw5 k0_h1)) (fun _ => rfl)
            let v1602 : Memref sig .tc .hbm S64x3072 .i8 := v1601.squeeze S64x3072 squeezes_S1x64x3072_S64x3072
            Prog.lift (.enqueueDma v1602 (.here v1600) (.dma v1598.sem) (((isWhole_whole main_v6).wordExact_slice rfl _ (k0_off28_wordsi8 v22 k v1594 k0_hw5 k0_h1)).reshape _ _) (((isWhole_whole cc0_scratch1).wordExact_slice rfl _ (k0_off27_wordsi8 v22 hw3 k k0_h1)).reshape _ _) ⟨Or.inl rfl, trivial⟩)
            Scf.Loop.for k0_t10_loop k0_t10_ok ⟨⟩ (k0_t10_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 0#32 1#32 k k0_h1 v1594 k0_hw5)
            let v1604 : DmaSems sig S1x1 := cc0_scratch8.slice (Rect.unit (s := S4x2) (k0_off32 v22 k) S1x1.size (k0_off32_inb v22 hw3 k k0_h1))
            let v1605 : DmaSems sig S_ := v1604.squeeze S_ squeezes_S1x1_S_
            let v1606 : Memref sig .tc .vmem S1x48x2048 .i8 := (whole cc0_scratch3).slice (Rect.unit (s := S2x48x2048) (k0_off33 v22 k) S1x48x2048.size (k0_off33_inb v22 hw3 k k0_h1)) (fun _ => rfl)
            let v1607 : Memref sig .tc .vmem S48x2048 .i8 := v1606.squeeze S48x2048 squeezes_S1x48x2048_S48x2048
            let v1608 : Memref sig .tc .hbm S1x48x2048 .i8 := (whole main_v8).slice (Rect.unit (s := S32x48x2048) (k0_off34 v1594) S1x48x2048.size (k0_off34_inb v22 k v1594 k0_hw5 k0_h1)) (fun _ => rfl)
            let v1609 : Memref sig .tc .hbm S48x2048 .i8 := v1608.squeeze S48x2048 squeezes_S1x48x2048_S48x2048
            Prog.lift (.enqueueDma v1609 (.here v1607) (.dma v1605.sem) (((isWhole_whole main_v8).wordExact_slice rfl _ (k0_off34_wordsi8 v22 k v1594 k0_hw5 k0_h1)).reshape _ _) (((isWhole_whole cc0_scratch3).wordExact_slice rfl _ (k0_off33_wordsi8 v22 hw3 k k0_h1)).reshape _ _) ⟨Or.inl rfl, trivial⟩)
            pure ⟨⟩
          else do
            pure ⟨⟩
          kk) QQ := by
  by_cases h : k0_cond1 v22 k = 1#1
  · have hlt : k.val + 1 < l.length := lt_of_lt_of_eq (cond1_lt h) hl
    rw [dif_pos h]
    iintro ⟨H7, HS, HC, HA, HK⟩
    sl_exec
    have hv : (next_wp.sl.r (F := F) v22 hw3 g k h).toNat = (l[k.val + 1]'hlt).val := by
      unfold next_wp.sl.r
      refine order_read l g hg _ hlt _ ?_
      show k0_off22 v22 k 0 + 1 * 0 = _
      rw [k0_off22_eq]; rfl
    have he : (next_wp.sl.r (F := F) v22 hw3 g k h).toNat < 32 := by rw [hv]; exact (l[k.val + 1]'hlt).isLt
    have hee : (⟨_, he⟩ : Fin 32) = l[k.val + 1]'hlt := Fin.ext hv
    have hc5 := k0_chk5_of v22 k (next_wp.sl.r (F := F) v22 hw3 g k h) he
    iapply (wp_assume Variants.none (c : Thread nD τ) none Set.univ hc5)
    dsimp only
    imod (ready_of c (slotNx k.val) ⟨_, he⟩ X) $$ [HS HC HA] with HR
    · isplitl [HS]; · iexact HS
      isplitl [HC]; · iexact HC
      iexact HA
    iapply (start_all c (slotNx k.val) ⟨_, he⟩ X
      k0_t9_loop k0_t9_ok t9_trips _ (sem_eq 0 (slotNx k.val) _ (k0_off23_inb v22 hw3 k h) (k0_off23_eq v22 k)) (fun t => k0_off24 v22 k t) (fun t => k0_off24_inb v22 hw3 k t h) (fun t => k0_off25 (next_wp.sl.r (F := F) v22 hw3 g k h) t) (fun t => k0_off25_inb v22 k _ hc5 t h)
        (fun t => k0_off24_eq v22 k t) (fun t => k0_off25_eq _ t) _ _
      _ (sem_eq 1 (slotNx k.val) _ (k0_off26_inb v22 hw3 k h) (k0_off26_eq v22 k)) (k0_off27 v22 k) (k0_off27_inb v22 hw3 k h) (k0_off28 (next_wp.sl.r (F := F) v22 hw3 g k h)) (k0_off28_inb v22 k _ hc5 h) (k0_off27_eq v22 k) (k0_off28_eq _) _ _
      k0_t10_loop k0_t10_ok t10_trips _ (sem_eq 2 (slotNx k.val) _ (k0_off29_inb v22 hw3 k h) (k0_off29_eq v22 k)) (fun t => k0_off30 v22 k t) (fun t => k0_off30_inb v22 hw3 k t h) (fun t => k0_off31 (next_wp.sl.r (F := F) v22 hw3 g k h) t) (fun t => k0_off31_inb v22 k _ hc5 t h)
        (fun t => k0_off30_eq v22 k t) (fun t => k0_off31_eq _ t) _ _
      _ (sem_eq 3 (slotNx k.val) _ (k0_off32_inb v22 hw3 k h) (k0_off32_eq v22 k)) (k0_off33 v22 k) (k0_off33_inb v22 hw3 k h) (k0_off34 (next_wp.sl.r (F := F) v22 hw3 g k h)) (k0_off34_inb v22 k _ hc5 h) (k0_off33_eq v22 k) (k0_off34_eq _) _ _
      _ _)
    isplitl [HR]; · iexact HR
    iintro HI
    iapply HK
    isplitl [H7]; · iexact H7
    unfold coming
    rw [dif_pos hlt, ← slotNx_eq, ← hee]
    iexact HI
  · have hlt : ¬ k.val + 1 < l.length := fun h' => h ((cond1_iff v22 k).mpr (lt_of_lt_of_eq h' hl.symm))
    rw [dif_neg h]
    iintro ⟨H7, HS, HC, HA, HK⟩
    dsimp only
    iapply HK
    isplitl [H7]; · iexact H7
    unfold coming
    rw [dif_neg hlt, ← slotNx_eq]
    isplitl [HS]; · iexact HS
    isplitl [HC]; · iexact HC
    iexact HA

/-! ## The slots by rectangles -/

theorem guSlot_inb {s : ℕ} (hs : s < 2) : ∀ a, (![s, 0, 0, 0, 0] : Fin 5 → ℕ) a + (![1, 24, 64, 16, 128] : Fin 5 → ℕ) a ≤ S2x24x64x16x128.size a := by
  intro a
  fin_cases a
  · show s + 1 ≤ 2; omega
  · show 0 + 24 ≤ 24; decide
  · show 0 + 64 ≤ 64; decide
  · show 0 + 16 ≤ 16; decide
  · show 0 + 128 ≤ 128; decide

theorem guSlot_setOn (s : ℕ) (inb : ∀ a, (![s, 0, 0, 0, 0] : Fin 5 → ℕ) a + (![1, 24, 64, 16, 128] : Fin 5 → ℕ) a ≤ S2x24x64x16x128.size a) :
    guSlot s = (whole cc0_scratch0 : Memref sig .tc .vmem S2x24x64x16x128 .i8).view.setOn (Rect.unit (s := S2x24x64x16x128) ![s, 0, 0, 0, 0] ![1, 24, 64, 16, 128] inb).set := by
  rw [View.setOn]
  refine Eq.trans ?_ (Eq.trans (View.set_slice_whole cc0_scratch0 (Rect.unit (s := S2x24x64x16x128) ![s, 0, 0, 0, 0] ![1, 24, 64, 16, 128] inb)).symm (View.set_slice _ _))
  ext y
  rw [Rect.mem_set_unit, guSlot, Finset.mem_filter]
  have h1 : (y 1).val < 24 := (y 1).isLt
  have h2 : (y 2).val < 64 := (y 2).isLt
  have h3 : (y 3).val < 16 := (y 3).isLt
  have h4 : (y 4).val < 128 := (y 4).isLt
  constructor
  · rintro ⟨-, a0⟩ a
    fin_cases a
    · show s ≤ (y 0).val ∧ (y 0).val < s + 1; omega
    · show 0 ≤ (y 1).val ∧ (y 1).val < 0 + 24; omega
    · show 0 ≤ (y 2).val ∧ (y 2).val < 0 + 64; omega
    · show 0 ≤ (y 3).val ∧ (y 3).val < 0 + 16; omega
    · show 0 ≤ (y 4).val ∧ (y 4).val < 0 + 128; omega
  · intro H
    have a0 : s ≤ (y 0).val ∧ (y 0).val < s + 1 := H 0
    exact ⟨Finset.mem_univ _, by omega⟩

theorem gusSlot_inb {s : ℕ} (hs : s < 2) : ∀ a, (![s, 0, 0] : Fin 3 → ℕ) a + (![1, 64, 3072] : Fin 3 → ℕ) a ≤ S2x64x3072.size a := by
  intro a
  fin_cases a
  · show s + 1 ≤ 2; omega
  · show 0 + 64 ≤ 64; decide
  · show 0 + 3072 ≤ 3072; decide

theorem gusSlot_setOn (s : ℕ) (inb : ∀ a, (![s, 0, 0] : Fin 3 → ℕ) a + (![1, 64, 3072] : Fin 3 → ℕ) a ≤ S2x64x3072.size a) :
    gusSlot s = (whole cc0_scratch1 : Memref sig .tc .vmem S2x64x3072 .i8).view.setOn (Rect.unit (s := S2x64x3072) ![s, 0, 0] ![1, 64, 3072] inb).set := by
  rw [View.setOn]
  refine Eq.trans ?_ (Eq.trans (View.set_slice_whole cc0_scratch1 (Rect.unit (s := S2x64x3072) ![s, 0, 0] ![1, 64, 3072] inb)).symm (View.set_slice _ _))
  ext y
  rw [Rect.mem_set_unit, gusSlot, Finset.mem_filter]
  have h1 : (y 1).val < 64 := (y 1).isLt
  have h2 : (y 2).val < 3072 := (y 2).isLt
  constructor
  · rintro ⟨-, a0⟩ a
    fin_cases a
    · show s ≤ (y 0).val ∧ (y 0).val < s + 1; omega
    · show 0 ≤ (y 1).val ∧ (y 1).val < 0 + 64; omega
    · show 0 ≤ (y 2).val ∧ (y 2).val < 0 + 3072; omega
  · intro H
    have a0 : s ≤ (y 0).val ∧ (y 0).val < s + 1 := H 0
    exact ⟨Finset.mem_univ _, by omega⟩

theorem dnSlot_inb {s : ℕ} (hs : s < 2) : ∀ a, (![s, 0, 0, 0, 0] : Fin 5 → ℕ) a + (![1, 16, 48, 16, 128] : Fin 5 → ℕ) a ≤ S2x16x48x16x128.size a := by
  intro a
  fin_cases a
  · show s + 1 ≤ 2; omega
  · show 0 + 16 ≤ 16; decide
  · show 0 + 48 ≤ 48; decide
  · show 0 + 16 ≤ 16; decide
  · show 0 + 128 ≤ 128; decide

theorem dnSlot_setOn (s : ℕ) (inb : ∀ a, (![s, 0, 0, 0, 0] : Fin 5 → ℕ) a + (![1, 16, 48, 16, 128] : Fin 5 → ℕ) a ≤ S2x16x48x16x128.size a) :
    dnSlot s = (whole cc0_scratch2 : Memref sig .tc .vmem S2x16x48x16x128 .i8).view.setOn (Rect.unit (s := S2x16x48x16x128) ![s, 0, 0, 0, 0] ![1, 16, 48, 16, 128] inb).set := by
  rw [View.setOn]
  refine Eq.trans ?_ (Eq.trans (View.set_slice_whole cc0_scratch2 (Rect.unit (s := S2x16x48x16x128) ![s, 0, 0, 0, 0] ![1, 16, 48, 16, 128] inb)).symm (View.set_slice _ _))
  ext y
  rw [Rect.mem_set_unit, dnSlot, Finset.mem_filter]
  have h1 : (y 1).val < 16 := (y 1).isLt
  have h2 : (y 2).val < 48 := (y 2).isLt
  have h3 : (y 3).val < 16 := (y 3).isLt
  have h4 : (y 4).val < 128 := (y 4).isLt
  constructor
  · rintro ⟨-, a0⟩ a
    fin_cases a
    · show s ≤ (y 0).val ∧ (y 0).val < s + 1; omega
    · show 0 ≤ (y 1).val ∧ (y 1).val < 0 + 16; omega
    · show 0 ≤ (y 2).val ∧ (y 2).val < 0 + 48; omega
    · show 0 ≤ (y 3).val ∧ (y 3).val < 0 + 16; omega
    · show 0 ≤ (y 4).val ∧ (y 4).val < 0 + 128; omega
  · intro H
    have a0 : s ≤ (y 0).val ∧ (y 0).val < s + 1 := H 0
    exact ⟨Finset.mem_univ _, by omega⟩

theorem dnsSlot_inb {s : ℕ} (hs : s < 2) : ∀ a, (![s, 0, 0] : Fin 3 → ℕ) a + (![1, 48, 2048] : Fin 3 → ℕ) a ≤ S2x48x2048.size a := by
  intro a
  fin_cases a
  · show s + 1 ≤ 2; omega
  · show 0 + 48 ≤ 48; decide
  · show 0 + 2048 ≤ 2048; decide

theorem dnsSlot_setOn (s : ℕ) (inb : ∀ a, (![s, 0, 0] : Fin 3 → ℕ) a + (![1, 48, 2048] : Fin 3 → ℕ) a ≤ S2x48x2048.size a) :
    dnsSlot s = (whole cc0_scratch3 : Memref sig .tc .vmem S2x48x2048 .i8).view.setOn (Rect.unit (s := S2x48x2048) ![s, 0, 0] ![1, 48, 2048] inb).set := by
  rw [View.setOn]
  refine Eq.trans ?_ (Eq.trans (View.set_slice_whole cc0_scratch3 (Rect.unit (s := S2x48x2048) ![s, 0, 0] ![1, 48, 2048] inb)).symm (View.set_slice _ _))
  ext y
  rw [Rect.mem_set_unit, dnsSlot, Finset.mem_filter]
  have h1 : (y 1).val < 48 := (y 1).isLt
  have h2 : (y 2).val < 2048 := (y 2).isLt
  constructor
  · rintro ⟨-, a0⟩ a
    fin_cases a
    · show s ≤ (y 0).val ∧ (y 0).val < s + 1; omega
    · show 0 ≤ (y 1).val ∧ (y 1).val < 0 + 48; omega
    · show 0 ≤ (y 2).val ∧ (y 2).val < 0 + 2048; omega
  · intro H
    have a0 : s ≤ (y 0).val ∧ (y 0).val < s + 1 := H 0
    exact ⟨Finset.mem_univ _, by omega⟩

/-- Slot `s` held by rectangles. -/
def slotV (s : ℕ) (hs : s < 2) (e : Fin 32) (X : Wts F) : sProp 𝕄 :=
  iprop(((whole cc0_scratch0 : Memref sig .tc .vmem S2x24x64x16x128 .i8).view.loc (c : Thread nD τ) ↦[(whole cc0_scratch0 : Memref sig .tc .vmem S2x24x64x16x128 .i8).view.setOn (Rect.unit (s := S2x24x64x16x128) ![s, 0, 0, 0, 0] ![1, 24, 64, 16, 128] (guSlot_inb hs)).set]{fullShare} (guLand X.gu e))
    ∗ ((whole cc0_scratch1 : Memref sig .tc .vmem S2x64x3072 .i8).view.loc (c : Thread nD τ) ↦[(whole cc0_scratch1 : Memref sig .tc .vmem S2x64x3072 .i8).view.setOn (Rect.unit (s := S2x64x3072) ![s, 0, 0] ![1, 64, 3072] (gusSlot_inb hs)).set]{fullShare} (gusLand X.gus e))
    ∗ ((whole cc0_scratch2 : Memref sig .tc .vmem S2x16x48x16x128 .i8).view.loc (c : Thread nD τ) ↦[(whole cc0_scratch2 : Memref sig .tc .vmem S2x16x48x16x128 .i8).view.setOn (Rect.unit (s := S2x16x48x16x128) ![s, 0, 0, 0, 0] ![1, 16, 48, 16, 128] (dnSlot_inb hs)).set]{fullShare} (dnLand X.dn e))
    ∗ ((whole cc0_scratch3 : Memref sig .tc .vmem S2x48x2048 .i8).view.loc (c : Thread nD τ) ↦[(whole cc0_scratch3 : Memref sig .tc .vmem S2x48x2048 .i8).view.setOn (Rect.unit (s := S2x48x2048) ![s, 0, 0] ![1, 48, 2048] (dnsSlot_inb hs)).set]{fullShare} (dnsLand X.dns e)))
theorem slotV_eq (s : ℕ) (hs : s < 2) (e : Fin 32) (X : Wts F) : slotFull c s e X = slotV c s hs e X := by
  unfold slotFull slotV
  rw [guSlot_setOn s (guSlot_inb hs), gusSlot_setOn s (gusSlot_inb hs), dnSlot_setOn s (dnSlot_inb hs), dnsSlot_setOn s (dnsSlot_inb hs)]

theorem slot_lt (k : ℕ) : k % 2 < 2 := Nat.mod_lt _ (by decide)

/-! ## The head of a trip -/

set_option maxHeartbeats 4000000 in
/-- A trip's first part: its expert's weights in their slot, the next expert on its way. -/
theorem part1_wp (X : Wts F) (v22 : BitVec 32) (hw3 : k0_chk3 v22) (l : List (Fin 32)) (hl : (k0_t6_loop v22).trips = l.length) (g : S33.Idx → BitVec 32) (hg : Lists l g)
    (k : Fin (k0_t6_loop v22).trips) (hk : k.val < l.length) (e : Fin 32) (hle : l[k.val]'hk = e) :
    iprop(pw c (whole cc0_scratch7) g ∗ inflight c (slotOf k.val) e X ∗ slotHeld c (slotNx k.val).val ∗ cells c (slotNx k.val) ∗ (∃ W, owes (c : Thread nD τ) 0 W))
      ⊢ wp frame (wpE (defs₀ (F := F)) Variants.none (c : Thread nD τ) none) Set.univ (k0_part1 (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 0#32 1#32 k)
        (fun r => iprop(⌜r = ⟨Scalar.andi (Scf.iv 0#32 1#32 k.val) 1#32, BitVec.ofNat 32 e.val, k0_pay7 (fun x => gusLand X.gus e ((Rect.unit (s := S2x64x3072) (k0_off35 v22 k) S1x64x256.size (k0_off35_inb v22 hw3 k)).emb x)),
              k0_pay8 (fun x => gusLand X.gus e ((Rect.unit (s := S2x64x3072) (k0_off35 v22 k) S1x64x256.size (k0_off35_inb v22 hw3 k)).emb x))⟩⌝
          ∗ pw c (whole cc0_scratch7) g ∗ slotV c (k.val % 2) (slot_lt _) e X ∗ cells c (slotOf k.val) ∗ coming c l (k.val + 1) X ∗ (∃ W, owes (c : Thread nD τ) 0 W))) := by
  rw [k0_part1_eq_skeleton]
  unfold k0_part1_skel
  subst hle
  iintro ⟨H7, HI, HS, HC, %W0, HO⟩
  sl_exec
  have hv : (part1_wp.sl.r (F := F) v22 hw3 g k).toNat = (l[k.val]'hk).val := by
    unfold part1_wp.sl.r
    refine order_read l g hg _ hk _ ?_
    show k0_off9 v22 k 0 + 1 * 0 = _
    rw [k0_off9_eq]; rfl
  have he : (part1_wp.sl.r (F := F) v22 hw3 g k).toNat < 32 := by rw [hv]; exact (l[k.val]'hk).isLt
  have hc4 := k0_chk4_of (part1_wp.sl.r (F := F) v22 hw3 g k) he
  iapply (wp_assume Variants.none (c : Thread nD τ) none Set.univ hc4)
  dsimp only
  iapply (wait_all c (slotOf k.val) (l[k.val]'hk) X
      k0_t7_loop k0_t7_ok t7_trips _ (sem_eq 0 (slotOf k.val) _ (k0_off10_inb v22 hw3 k) (k0_off10_eq v22 k)) (fun t => k0_off11 v22 k t) (fun t => k0_off11_inb v22 hw3 k t) (fun t => k0_off12 (part1_wp.sl.r (F := F) v22 hw3 g k) t) (fun t => k0_off12_inb _ hc4 t)
        _ _
      _ (sem_eq 1 (slotOf k.val) _ (k0_off13_inb v22 hw3 k) (k0_off13_eq v22 k)) (k0_off14 v22 k) (k0_off14_inb v22 hw3 k) (k0_off15 (part1_wp.sl.r (F := F) v22 hw3 g k)) (k0_off15_inb _ hc4) _ _
      k0_t8_loop k0_t8_ok t8_trips _ (sem_eq 2 (slotOf k.val) _ (k0_off16_inb v22 hw3 k) (k0_off16_eq v22 k)) (fun t => k0_off17 v22 k t) (fun t => k0_off17_inb v22 hw3 k t) (fun t => k0_off18 (part1_wp.sl.r (F := F) v22 hw3 g k) t) (fun t => k0_off18_inb _ hc4 t)
        _ _
      _ (sem_eq 3 (slotOf k.val) _ (k0_off19_inb v22 hw3 k) (k0_off19_eq v22 k)) (k0_off20 v22 k) (k0_off20_inb v22 hw3 k) (k0_off21 (part1_wp.sl.r (F := F) v22 hw3 g k)) (k0_off21_inb _ hc4) _ _
      W0 _ _)
  isplitl [HI]; · iexact HI
  isplitl [HO]; · iexact HO
  iintro ⟨HF, HC', HA, HO⟩
  iapply (next_wp c X v22 hw3 l hl g hg k _ _)
  isplitl [H7]; · iexact H7
  isplitl [HS]; · iexact HS
  isplitl [HC]; · iexact HC
  isplitl [HA]; · iexact HA
  iintro ⟨H7, HN⟩
  ihave HF := (show slotFull c (slotOf k.val).val (l[k.val]'hk) X ⊢ slotV c (k.val % 2) (slot_lt _) (l[k.val]'hk) X from Entails.of_eq (slotV_eq c (k.val % 2) (slot_lt _) (l[k.val]'hk) X)) $$ HF
  unfold slotV
  icases HF with ⟨F0, F1, F2, F3⟩
  sl_exec
  sl_step
  isplitr
  · ipureintro
    have hvv : part1_wp.sl.r (F := F) v22 hw3 g k = BitVec.ofNat 32 (l[k.val]'hk).val := BitVec.eq_of_toNat_eq (by rw [hv, BitVec.toNat_ofNat]; have := (l[k.val]'hk).isLt; omega)
    rw [← hvv]; rfl
  isplitl [H7]; · iexact H7
  isplitl [F0 F1 F2 F3]
  · isplitl [F0]; · iexact F0
    isplitl [F1]; · iexact F1
    isplitl [F2]; · iexact F2
    iexact F3
  isplitl [HC']; · iexact HC'
  isplitl [HN]; · iexact HN
  iexact HO

end Cert.Kernel.Hand

end
-- ==== Proof.TripK.lean ====
/-
  A trip of the main loop: its expert awaited, the next one started, its contribution added.
-/
module

public import proofs.«01_k».proof.Proof.HeadK

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem Wp_bind {α β : Type} (p : Prog (TpuEff nD τ sig (Elt F) Λ₀ .tc) α) (k : α → Prog (TpuEff nD τ sig (Elt F) Λ₀ .tc) β) (Q : β → sProp 𝕄) :
    wp frame (wpE (defs₀ (F := F)) Variants.none (c : Thread nD τ) none) Set.univ p (fun a => wp frame (wpE (defs₀ (F := F)) Variants.none (c : Thread nD τ) none) Set.univ (k a) Q) ⊢ wp frame (wpE (defs₀ (F := F)) Variants.none (c : Thread nD τ) none) Set.univ (p >>= k) Q := Entails.of_eq (wp_bind ..).symm

set_option maxHeartbeats 40000000 in
/-- A trip and the accumulator it leaves. -/
def trip_run (X : Wts F) (v22 : BitVec 32) (hw3 : k0_chk3 v22) (k : Fin (k0_t6_loop v22).trips) (e : Fin 32) (d0 : S16x2048.Idx → Elt F .bf16) (v27 : Vec F S8x16 .i32) (v30 : Vec F S8x16 .f32)
    (acc : S16x2048.Idx → Elt F .f32) : { acc' : S16x2048.Idx → Elt F .f32 //
    ∀ (c : Dev nD) (l : List (Fin 32)) (hl : (k0_t6_loop v22).trips = l.length) (g : S33.Idx → BitVec 32) (hg : Lists l g) (hk : k.val < l.length) (hle : l[k.val]'hk = e) (a : BitVec 32)
      (g4 : S64x3072.Idx → Elt F .i32) (g5 : S48x2048.Idx → Elt F .i32),
    iprop(pw c (whole cc0_scratch7) g ∗ pw c (whole cc0_stg0_0) d0 ∗ pw c (whole cc0_scratch4) g4 ∗ pw c (whole cc0_scratch5) g5 ∗ pw c (whole cc0_scratch6) acc ∗ inflight c (slotOf k.val) e X ∗ slotHeld c (slotNx k.val).val ∗ cells c (slotNx k.val) ∗ (∃ W, owes (c : Thread nD τ) 0 W))
      ⊢ wp frame (wpE (defs₀ (F := F)) Variants.none (c : Thread nD τ) none) Set.univ (k0_t6_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 v27 v30 k a)
        (fun r => iprop(pw c (whole cc0_scratch7) g ∗ pw c (whole cc0_stg0_0) d0 ∗ (∃ g4, pw c (whole cc0_scratch4) g4) ∗ (∃ g5, pw c (whole cc0_scratch5) g5) ∗ pw c (whole cc0_scratch6) acc' ∗ slotFull c (slotOf k.val).val e X ∗ cells c (slotOf k.val) ∗ coming c l (k.val + 1) X ∗ (∃ W, owes (c : Thread nD τ) 0 W))) } := by
  apply Subtype.mk
  intro c l hl g hg hk hle a g4 g5
  unfold k0_t6_body
  refine BIBase.Entails.trans ?_ (Wp_bind c _ _ _)
  rw [k0_part39_eq_skeleton]
  unfold k0_part39_skel
  iintro ⟨H7, H0, H4, H5, H6, HI, HS, HC, HO⟩
  iapply (wp_seq c (part1_wp c X v22 hw3 l hl g hg k hk e hle))
  isplitl [H7 HI HS HC HO]
  · isplitl [H7]; · iexact H7
    isplitl [HI]; · iexact HI
    isplitl [HS]; · iexact HS
    isplitl [HC]; · iexact HC
    iexact HO
  iintro %r ⟨%hr, H7, HF, HC, HN, HO⟩
  subst hr
  dsimp only
  unfold slotV
  icases HF with ⟨F0, F1, F2, F3⟩
  sl_exec
  sl_step
  isplitl [H7]; · iexact H7
  isplitl [H0]; · iexact H0
  isplitl [H4]; · iexists _; iexact H4
  isplitl [H5]; · iexists _; iexact H5
  isplitl [H6]; · iexact H6
  isplitl [F0 F1 F2 F3]
  · iapply (show slotV c (k.val % 2) (slot_lt _) e X ⊢ slotFull c (slotOf k.val).val e X from Entails.of_eq (slotV_eq c (k.val % 2) (slot_lt _) e X).symm)
    unfold slotV
    isplitl [F0]; · iexact F0
    isplitl [F1]; · iexact F1
    isplitl [F2]; · iexact F2
    iexact F3
  isplitl [HC]; · iexact HC
  isplitl [HN]; · iexact HN
  iexact HO

end Cert.Kernel.Hand

end
-- ==== Proof.LoopK.lean ====
/-
  The kernel: its main loop over the listed experts, and the whole body.
-/
module

public import proofs.«01_k».proof.Proof.TripK

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The first expert, -/
def firstOf (d1 : S8x16.Idx → BitVec 32) : Fin 32 := Fin.ofNat 32 (d1 (ix2 0 0)).toNat
/-- the word marking the used ones, -/
def markOf (d1 : S8x16.Idx → BitVec 32) : BitVec 32 := by
  classical exact if h : ∃ w, Marks d1 128 w then h.choose else 0#32
/-- that word without the first, -/
def restOf (d1 : S8x16.Idx → BitVec 32) : BitVec 32 := Scalar.andi (markOf d1) (Scalar.xori (Scalar.shli 1#32 (BitVec.ofNat 32 (firstOf d1).val)) 4294967295#32)
/-- the order in which they are taken, -/
def ordOf (d1 : S8x16.Idx → BitVec 32) : List (Fin 32) := orderOf (firstOf d1) (restOf d1) 32
/-- and their number. -/
def cntOf (d1 : S8x16.Idx → BitVec 32) : BitVec 32 := BitVec.ofNat 32 (ordOf d1).length

theorem marks_unique (d1 : S8x16.Idx → BitVec 32) (w w' : BitVec 32) (h : Marks d1 128 w) (h' : Marks d1 128 w') : w = w' := by
  apply BitVec.eq_of_getLsbD_eq
  intro e he
  exact Bool.eq_iff_iff.mpr ((h e he).trans (h' e he).symm)
theorem markOf_eq (d1 : S8x16.Idx → BitVec 32) (w : BitVec 32) (h : Marks d1 128 w) : markOf d1 = w := by
  have hex : ∃ w, Marks d1 128 w := ⟨w, h⟩
  unfold markOf
  rw [dif_pos hex]
  exact marks_unique d1 _ _ hex.choose_spec h

theorem rest_bit (w : BitVec 32) (e0 e : Fin 32) :
    (Scalar.andi w (Scalar.xori (Scalar.shli 1#32 (BitVec.ofNat 32 e0.val)) 4294967295#32)).getLsbD e.val = (w.getLsbD e.val && !decide (e0 = e)) := by
  show (w &&& (Scalar.shli 1#32 (BitVec.ofNat 32 e0.val) ^^^ 4294967295#32)).getLsbD e.val = _
  have h0 : (BitVec.ofNat 32 e0.val).toNat = e0.val := by rw [BitVec.toNat_ofNat]; have := e0.isLt; omega
  have h := bit_one_shl (BitVec.ofNat 32 e0.val) (by rw [h0]; exact e0.isLt) e.val e.isLt
  have h1 : (4294967295#32).getLsbD e.val = true := by clear h h0; revert e; decide
  rw [BitVec.getLsbD_and, BitVec.getLsbD_xor, h1, Bool.xor_true]
  congr 2
  rw [h0] at h
  by_cases he : e0 = e
  · subst he; simpa using h.mpr rfl
  · have : ¬ e0.val = e.val := fun h => he (Fin.ext h)
    rw [decide_eq_false he]
    exact Bool.eq_false_iff.mpr fun h' => this (h.mp h')

/-! ## The main loop -/

/-- The accumulator when trip `k` starts. -/
def accN (X : Wts F) (v22 : BitVec 32) (hw3 : k0_chk3 v22) (l : List (Fin 32)) (d0 : S16x2048.Idx → Elt F .bf16) (v27 : Vec F S8x16 .i32) (v30 : Vec F S8x16 .f32) : ℕ → (S16x2048.Idx → Elt F .f32)
  | 0 => k0_pay1 (F := F)
  | k + 1 => if h : k < (k0_t6_loop v22).trips ∧ k < l.length then (trip_run X v22 hw3 ⟨k, h.1⟩ (l[k]'h.2) d0 v27 v30 (accN X v22 hw3 l d0 v27 v30 k)).1 else accN X v22 hw3 l d0 v27 v30 k

/-- What the main loop keeps. -/
def loopInv (X : Wts F) (v22 : BitVec 32) (hw3 : k0_chk3 v22) (l : List (Fin 32)) (g : S33.Idx → BitVec 32) (d0 : S16x2048.Idx → Elt F .bf16) (v27 : Vec F S8x16 .i32) (v30 : Vec F S8x16 .f32) (k : ℕ) : sProp 𝕄 :=
  iprop(pw c (whole cc0_scratch7) g ∗ pw c (whole cc0_stg0_0) d0 ∗ (∃ g4, pw c (whole cc0_scratch4) g4) ∗ (∃ g5, pw c (whole cc0_scratch5) g5) ∗ pw c (whole cc0_scratch6) (accN X v22 hw3 l d0 v27 v30 k) ∗ coming c l k X ∗ slotHeld c (slotNx k).val ∗ cells c (slotNx k) ∗ (∃ W, owes (c : Thread nD τ) 0 W))

theorem main_wp (X : Wts F) (v22 : BitVec 32) (hw3 : k0_chk3 v22) (l : List (Fin 32)) (hl : (k0_t6_loop v22).trips = l.length) (g : S33.Idx → BitVec 32) (hg : Lists l g)
    (d0 : S16x2048.Idx → Elt F .bf16) (v27 : Vec F S8x16 .i32) (v30 : Vec F S8x16 .f32) :
    loopInv c X v22 hw3 l g d0 v27 v30 0 ⊢ wp frame (wpE (defs₀ (F := F)) Variants.none (c : Thread nD τ) none) Set.univ (Scf.Loop.for (k0_t6_loop v22) (k0_t6_ok v22 hw3) 0#32 (k0_t6_body (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8 v22 hw3 v27 v30))
      (fun _ => loopInv c X v22 hw3 l g d0 v27 v30 l.length) := by
  refine BIBase.Entails.trans ?_ (Scf.wp_for frame _ Set.univ _ _ _ (k0_t6_ok v22 hw3) _ _ (fun k _ => loopInv c X v22 hw3 l g d0 v27 v30 k) ?_)
  · iintro H
    isplitl [H]; · iexact H
    iintro %acc H
    iapply (show loopInv c X v22 hw3 l g d0 v27 v30 (Scf.trips (k0_t6_loop v22).lb (k0_t6_loop v22).ub (k0_t6_loop v22).st) ⊢ loopInv c X v22 hw3 l g d0 v27 v30 l.length from Entails.of_eq (congrArg _ hl))
    iexact H
  intro k a
  have hk : k.val < l.length := lt_of_lt_of_eq k.isLt hl
  unfold loopInv
  refine BIBase.Entails.trans ?_ (wp_mono _ _ _ (fun r => ?_) (Q := fun _ => iprop(pw c (whole cc0_scratch7) g ∗ pw c (whole cc0_stg0_0) d0 ∗ (∃ g4, pw c (whole cc0_scratch4) g4) ∗ (∃ g5, pw c (whole cc0_scratch5) g5) ∗ pw c (whole cc0_scratch6) (trip_run X v22 hw3 k (l[k.val]'hk) d0 v27 v30 (accN X v22 hw3 l d0 v27 v30 k.val)).1 ∗ slotFull c (slotOf k.val).val (l[k.val]'hk) X ∗ cells c (slotOf k.val) ∗ coming c l (k.val+1) X ∗ (∃ W, owes (c : Thread nD τ) 0 W))))
  · iintro ⟨H7, H0, ⟨%g4, H4⟩, ⟨%g5, H5⟩, H6, HI, HS, HC, HO⟩
    iapply ((trip_run X v22 hw3 k (l[k.val]'hk) d0 v27 v30 (accN X v22 hw3 l d0 v27 v30 k.val)).2 c l hl g hg hk rfl a g4 g5)
    isplitl [H7]; · iexact H7
    isplitl [H0]; · iexact H0
    isplitl [H4]; · iexact H4
    isplitl [H5]; · iexact H5
    isplitl [H6]; · iexact H6
    isplitl [HI]
    · iapply (show coming c l k.val X ⊢ inflight c (slotOf k.val) (l[k.val]'hk) X from Entails.of_eq (by unfold coming; rw [dif_pos hk]))
      iexact HI
    isplitl [HS]; · iexact HS
    isplitl [HC]; · iexact HC
    iexact HO
  iintro ⟨H7, H0, H4, H5, H6, HF, HC, HN, HO⟩
  isplitl [H7]; · iexact H7
  isplitl [H0]; · iexact H0
  isplitl [H4]; · iexact H4
  isplitl [H5]; · iexact H5
  isplitl [H6]
  · iapply (show pw c (whole cc0_scratch6) (trip_run X v22 hw3 k (l[k.val]'hk) d0 v27 v30 (accN X v22 hw3 l d0 v27 v30 k.val)).1 ⊢ pw c (whole cc0_scratch6) (accN X v22 hw3 l d0 v27 v30 (k.val + 1)) from Entails.of_eq (by rw [accN, dif_pos ⟨k.isLt, hk⟩]))
    iexact H6
  isplitl [HN]; · iexact HN
  isplitl [HF]
  · iapply (show slotFull c (slotOf k.val).val (l[k.val]'hk) X ⊢ slotHeld c (slotNx (k.val + 1)).val from by rw [slotOf_two]; exact slotFull_held c _ _ X)
    iexact HF
  isplitl [HC]
  · iapply (show cells c (slotOf k.val) ⊢ cells c (slotNx (k.val + 1)) from by rw [slotOf_two])
    iexact HC
  iexact HO

end Cert.Kernel.Hand

end
-- ==== Proof.BodyK.lean ====
/-
  The whole body of the kernel.
-/
module

public import proofs.«01_k».proof.Proof.LoopK
public import Idealize.ShloMosaic.Lib.VecWindow

@[expose] public section

noncomputable section

namespace Cert.Kernel.Hand

open Cert.Kernel Cert.Kernel.Gen
open Idealize.ShloMosaic.Memref (whole isWhole_whole)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- What the kernel leaves in its result. -/
def outOf (X : Wts F) (d0 : S16x2048.Idx → Elt F .bf16) (d1 : S8x16.Idx → BitVec 32) (d2 : Vec F S8x16 .i32) (d3 : Vec F S8x16 .f32) : S16x2048.Idx → Elt F .bf16 := by
  classical exact if h : k0_chk3 (cntOf d1) then k0_pay6 (accN X (cntOf d1) h (ordOf d1) d0 d2 d3 (ordOf d1).length) else k0_pay6 (k0_pay1 (F := F))

theorem outOf_eq (X : Wts F) (d0 : S16x2048.Idx → Elt F .bf16) (d1 : S8x16.Idx → BitVec 32) (d2 : Vec F S8x16 .i32) (d3 : Vec F S8x16 .f32)
    (w v v22 : BitVec 32) (e : Fin 32) (l : List (Fin 32)) (hm : Marks d1 128 w) (hv : v.toNat = e.val) (he : e.val = (d1 (ix2 0 0)).toNat)
    (hl : l = orderOf e (Scalar.andi w (Scalar.xori (Scalar.shli 1#32 v) 4294967295#32)) 32) (hn : v22.toNat = l.length) (hw3 : k0_chk3 v22) :
    outOf X d0 d1 d2 d3 = k0_pay6 (accN X v22 hw3 l d0 d2 d3 l.length) := by
  have e1 : firstOf d1 = e := by
    apply Fin.ext
    show (d1 (ix2 0 0)).toNat % 32 = e.val
    rw [← he]; exact Nat.mod_eq_of_lt e.isLt
  have e2 : markOf d1 = w := markOf_eq d1 w hm
  have e3 : v = BitVec.ofNat 32 e.val := BitVec.eq_of_toNat_eq (by rw [hv, BitVec.toNat_ofNat]; have := e.isLt; omega)
  have e4 : l = ordOf d1 := by rw [hl]; unfold ordOf restOf; rw [e1, e2, e3]
  have e5 : v22 = cntOf d1 := BitVec.eq_of_toNat_eq (by unfold cntOf; rw [hn, e4, BitVec.toNat_ofNat]; have := v22.isLt; rw [hn, e4] at this; omega)
  subst e5
  clear hl
  subst e4
  unfold outOf
  rw [dif_pos hw3]

theorem slots_all (n : ℕ) : iprop(slotHeld c (slotOf n).val ∗ slotHeld c (slotNx n).val) ⊢ (iprop((∃ g, pt c cc0_scratch0 Finset.univ g) ∗ (∃ g, pt c cc0_scratch1 Finset.univ g) ∗ (∃ g, pt c cc0_scratch2 Finset.univ g) ∗ (∃ g, pt c cc0_scratch3 Finset.univ g)) : sProp 𝕄) := by
  rcases Nat.mod_two_eq_zero_or_one n with h | h
  · have e1 : (slotOf n).val = 0 := h
    have e2 : (slotNx n).val = 1 := by show 1 - n % 2 = 1; omega
    rw [e1, e2]; exact slots_join c
  · have e1 : (slotOf n).val = 1 := h
    have e2 : (slotNx n).val = 0 := by show 1 - n % 2 = 0; omega
    rw [e1, e2]
    iintro ⟨A, B⟩
    iapply (slots_join c)
    isplitl [B]; · iexact B
    iexact A
theorem cells_all (n : ℕ) : iprop(cells c (slotOf n) ∗ cells c (slotNx n)) ⊢ (iprop(cells c 0 ∗ cells c 1) : sProp 𝕄) := by
  rcases Nat.mod_two_eq_zero_or_one n with h | h
  · have e1 : slotOf n = 0 := Fin.ext h
    have e2 : slotNx n = 1 := Fin.ext (by show 1 - n % 2 = 1; omega)
    rw [e1, e2]
  · have e1 : slotOf n = 1 := Fin.ext h
    have e2 : slotNx n = 0 := Fin.ext (by show 1 - n % 2 = 0; omega)
    rw [e1, e2]
    iintro ⟨A, B⟩
    isplitl [B]; · iexact B
    iexact A

/-- What the body is given besides its operands: the buffers, the counters and the four arrays. -/
def outside (X : Wts F) : sProp 𝕄 :=
  iprop(((∃ g, pt c cc0_scratch0 Finset.univ g) ∗ (∃ g, pt c cc0_scratch1 Finset.univ g) ∗ (∃ g, pt c cc0_scratch2 Finset.univ g) ∗ (∃ g, pt c cc0_scratch3 Finset.univ g)) ∗ (∃ g, pw c (whole cc0_scratch4) g) ∗ (∃ g, pw c (whole cc0_scratch5) g) ∗ (∃ g, pw c (whole cc0_scratch6) g) ∗ (∃ g, pw c (whole cc0_scratch7) g) ∗ cells c 0 ∗ cells c 1 ∗ arrays c X ∗ (∃ W, owes (c : Thread nD τ) 0 W))

theorem ld6 (f : S16x2048.Idx → Elt F .f32) : (View.readAt (Elt F) (whole cc0_scratch6 : Memref sig .tc .vmem S16x2048 .f32).view (Rect.unit (s := S16x2048) ![0, 0] S16x2048.size inb_S16x2048_S16x2048_0_0).toLoadRect f) = f :=
  (View.readAt_full (whole cc0_scratch6 : Memref sig .tc .vmem S16x2048 .f32).view f inb_S16x2048_S16x2048_0_0).trans (View.read_whole cc0_scratch6 f)
theorem ld2 (f : S8x16.Idx → Elt F .i32) : (View.readAt (Elt F) (whole cc0_stg2_0 : Memref sig .tc .vmem S8x16 .i32).view (Rect.unit (s := S8x16) ![0, 0] S8x16.size inb_S8x16_S8x16_0_0).toLoadRect f) = f :=
  (View.readAt_full (whole cc0_stg2_0 : Memref sig .tc .vmem S8x16 .i32).view f inb_S8x16_S8x16_0_0).trans (View.read_whole cc0_stg2_0 f)
theorem ld3 (f : S8x16.Idx → Elt F .f32) : (View.readAt (Elt F) (whole cc0_stg3_0 : Memref sig .tc .vmem S8x16 .f32).view (Rect.unit (s := S8x16) ![0, 0] S8x16.size inb_S8x16_S8x16_0_0).toLoadRect f) = f :=
  (View.readAt_full (whole cc0_stg3_0 : Memref sig .tc .vmem S8x16 .f32).view f inb_S8x16_S8x16_0_0).trans (View.read_whole cc0_stg3_0 f)
theorem acc_full (f : S16x2048.Idx → Elt F .f32) (w : S16x2048.Idx → Elt F .f32) (L : List (View.Piece (Elt F) S16x2048 .f32)) :
    (whole cc0_scratch6 : Memref sig .tc .vmem S16x2048 .f32).view.writes (Elt F) f (⟨Rect.unit (s := S16x2048) ![0, 0] S16x2048.size inb_S16x2048_S16x2048_0_0, w⟩ :: L) = w :=
  (View.read_whole cc0_scratch6 _).symm.trans (View.read_writes_full (whole cc0_scratch6 : Memref sig .tc .vmem S16x2048 .f32).view f inb_S16x2048_S16x2048_0_0 w L)
theorem out_full (f : S16x2048.Idx → Elt F .bf16) (w : S16x2048.Idx → Elt F .bf16) (L : List (View.Piece (Elt F) S16x2048 .bf16)) :
    (whole cc0_stg4_0 : Memref sig .tc .vmem S16x2048 .bf16).view.writes (Elt F) f (⟨Rect.unit (s := S16x2048) ![0, 0] S16x2048.size inb_S16x2048_S16x2048_0_0, w⟩ :: L) = w :=
  (View.read_whole cc0_stg4_0 _).symm.trans (View.read_writes_full (whole cc0_stg4_0 : Memref sig .tc .vmem S16x2048 .bf16).view f inb_S16x2048_S16x2048_0_0 w L)

set_option maxHeartbeats 400000 in
/-- The body: from its operands to its result. -/
theorem body_wp (X : Wts F) (d0 : S16x2048.Idx → Elt F .bf16) (d1 : S8x16.Idx → BitVec 32) (d2 : Vec F S8x16 .i32) (d3 : Vec F S8x16 .f32) (hd : ∀ y, (d1 y).toNat < 32) :
    iprop(pw c (whole cc0_stg0_0) d0 ∗ pw c (whole cc0_stg1_0) d1 ∗ pw c (whole cc0_stg2_0) d2 ∗ pw c (whole cc0_stg3_0) d3 ∗ (∃ g, pw c (whole cc0_stg4_0) g) ∗ outside c X)
      ⊢ wp frame (wpE (defs₀ (F := F)) Variants.none (c : Thread nD τ) none) Set.univ (cc0_moe_mxfp4 (F := F) (whole cc0_stg0_0) (isWhole_whole _) (whole cc0_stg1_0) (isWhole_whole _) (whole cc0_stg2_0) (isWhole_whole _) (whole cc0_stg3_0) (isWhole_whole _) (whole main_v5) (isWhole_whole _) (whole main_v6) (isWhole_whole _) (whole main_v7) (isWhole_whole _) (whole main_v8) (isWhole_whole _) (whole cc0_stg4_0) (isWhole_whole _) (whole cc0_scratch0) (isWhole_whole _) (whole cc0_scratch1) (isWhole_whole _) (whole cc0_scratch2) (isWhole_whole _) (whole cc0_scratch3) (isWhole_whole _) (whole cc0_scratch4) (isWhole_whole _) (whole cc0_scratch5) (isWhole_whole _) (whole cc0_scratch6) (isWhole_whole _) (whole cc0_scratch7) (isWhole_whole _) cc0_scratch8)
        (fun _ => iprop(pw c (whole cc0_stg0_0) d0 ∗ pw c (whole cc0_stg1_0) d1 ∗ pw c (whole cc0_stg2_0) d2 ∗ pw c (whole cc0_stg3_0) d3 ∗ pw c (whole cc0_stg4_0) (outOf X d0 d1 d2 d3) ∗ outside c X)) := by
  rw [cc0_moe_mxfp4_eq_skeleton]
  unfold cc0_moe_mxfp4_skel outside
  iintro ⟨H0, H1, H2, H3, ⟨%g8, H8⟩, ⟨S0, S1, S2, S3⟩, ⟨%g4, K4⟩, ⟨%g5, K5⟩, ⟨%g6, K6⟩, K7, C0, C1, HA, HO⟩
  ihave HS := (slots_split c) $$ [S0 S1 S2 S3]
  · isplitl [S0]; · iexact S0
    isplitl [S1]; · iexact S1
    isplitl [S2]; · iexact S2
    iexact S3
  icases HS with ⟨L0, L1⟩
  iapply (wp_seq c (part79_wp c X d1 hd))
  isplitl [H1 K7 L0 C0 HA]
  · isplitl [H1]; · iexact H1
    isplitl [K7]; · iexact K7
    isplitl [L0]; · iexact L0
    isplitl [C0]; · iexact C0
    iexact HA
  iintro %r ⟨%e, %g, %hr, H1, K7, HI⟩
  obtain ⟨w, q⟩ := r
  obtain ⟨hm, ⟨v, hv, hq⟩, hg, he⟩ := hr
  dsimp only at hm hq
  subst hq
  dsimp only
  have hb : (Scalar.andi w (Scalar.xori (Scalar.shli 1#32 v) 4294967295#32)).getLsbD e.val = false := by
    have e3 : v = BitVec.ofNat 32 e.val := BitVec.eq_of_toNat_eq (by rw [hv, BitVec.toNat_ofNat]; have := e.isLt; omega)
    rw [e3, rest_bit]; simp
  iapply (wp_seq c (order_wp c e _ hb g hg))
  isplitl [K7]; · iexact K7
  iintro %v22 ⟨%g7, %l, %hl, K7⟩
  obtain ⟨hl, hu, hL⟩ := hl
  have hn : v22.toNat = l.length := hu.len
  have hlt := hu.le
  have hw3 := k0_chk3_of v22 (by omega)
  have htr : (k0_t6_loop v22).trips = l.length := by rw [t6_trips_nat v22 (by omega), hn]
  sl_exec (disch := exact hw3)
  iapply (wp_seq c (main_wp c X v22 hw3 l htr g7 hL d0 (View.readAt (Elt F) (whole cc0_stg2_0 : Memref sig .tc .vmem S8x16 .i32).view (Rect.unit (s := S8x16) ![0, 0] S8x16.size inb_S8x16_S8x16_0_0).toLoadRect d2) (View.readAt (Elt F) (whole cc0_stg3_0 : Memref sig .tc .vmem S8x16 .f32).view (Rect.unit (s := S8x16) ![0, 0] S8x16.size inb_S8x16_S8x16_0_0).toLoadRect d3)))
  isplitl [K7 H0 K4 K5 K6 HI L1 C1 HO]
  · unfold loopInv
    isplitl [K7]; · iexact K7
    isplitl [H0]; · iexact H0
    isplitl [K4]; · iexists _; iexact K4
    isplitl [K5]; · iexists _; iexact K5
    isplitl [K6]
    · iapply (show pw c (whole cc0_scratch6) ((whole cc0_scratch6 : Memref sig .tc .vmem S16x2048 .f32).view.writes (Elt F) (whole cc0_scratch6).view.junk body_wp.sl.K6_1) ⊢ pw c (whole cc0_scratch6) (k0_pay1 (F := F)) from
        Entails.of_eq (congrArg (pw c (whole cc0_scratch6)) (by unfold body_wp.sl.K6_1; exact acc_full _ _ _)))
      iexact K6
    isplitl [HI]
    · iapply (show inflight c 0 e X ⊢ coming c l 0 X from by
        obtain ⟨r, hr⟩ := hu.hd
        subst hr
        exact Entails.of_eq (by unfold coming; rw [dif_pos (show 0 < (e :: r).length from Nat.succ_pos _)]; rfl))
      iexact HI
    isplitl [L1]; · iexact L1
    isplitl [C1]; · iexact C1
    iexact HO
  iintro %v38 HL
  unfold loopInv
  icases HL with ⟨K7, H0, ⟨%g4, K4⟩, ⟨%g5, K5⟩, K6, HI, HS, HC, HO⟩
  ihave HI := (show coming c l l.length X ⊢ iprop(slotHeld c (slotOf l.length).val ∗ cells c (slotOf l.length) ∗ arrays c X) from Entails.of_eq (by unfold coming; rw [dif_neg (Nat.lt_irrefl _)])) $$ HI
  icases HI with ⟨HT, HD, HA⟩
  sl_exec
  sl_step
  isplitl [H0]; · iexact H0
  isplitl [H1]; · iexact H1
  isplitl [H2]; · iexact H2
  isplitl [H3]; · iexact H3
  isplitl [H8]
  · iapply (show pw c (whole cc0_stg4_0) ((whole cc0_stg4_0 : Memref sig .tc .vmem S16x2048 .bf16).view.writes (Elt F) g8 [⟨Rect.unit (s := S16x2048) ![0, 0] S16x2048.size inb_S16x2048_S16x2048_0_0, k0_pay6 (body_wp.sl.v40 X d0 d2 d3 v22 l hw3)⟩]) ⊢ pw c (whole cc0_stg4_0) (outOf X d0 d1 d2 d3) from
      Entails.of_eq (congrArg (pw c (whole cc0_stg4_0)) ((out_full _ _ _).trans (by
        unfold body_wp.sl.v40
        rw [ld6, ld2, ld3, outOf_eq X d0 d1 d2 d3 w v v22 e l hm hv he hl hn hw3]))))
    iexact H8
  isplitl [HS HT]
  · iapply (slots_all c l.length)
    isplitl [HT]; · iexact HT
    iexact HS
  isplitl [K4]; · iexists _; iexact K4
  isplitl [K5]; · iexists _; iexact K5
  isplitl [K6]; · iexists _; iexact K6
  isplitl [K7]; · iexists _; iexact K7
  ihave HC := (cells_all c l.length) $$ [HC HD]
  · isplitl [HD]; · iexact HD
    iexact HC
  icases HC with ⟨C0, C1⟩
  isplitl [C0]; · iexact C0
  isplitl [C1]; · iexact C1
  isplitl [HA]; · iexact HA
  iexact HO

end Cert.Kernel.Hand

end
-- ==== Proof.FrameK.lean ====
/-
  The frame of the kernel, and what its run leaves.
-/
module

public import proofs.«01_k».proof.Proof.BodyK
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-! ## @main around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays the body's transfers read. -/
def H0 : Finset (Ref sig .tc) := {main_v5, main_v6, main_v7, main_v8}
theorem H0_sub : H0 ⊆ Pipeline.restRefs sig spec0 := by decide
theorem sfx_subH : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb hmem
  rw [StableHlo.reshape_bufs] at hmem
  simp only [Finset.mem_insert, Finset.mem_singleton] at hmem
  simp only [H0, Finset.mem_insert, Finset.mem_singleton] at hb
  rcases hb with rfl | rfl | rfl | rfl <;> rcases hmem with h | h <;> exact absurd h (StableHlo.devRef_ne_of_ne (by decide))

theorem W_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
theorem W_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
theorem W_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
theorem W_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
theorem W_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The invariant -/

/-- The body's eight counters. -/
abbrev osem0 : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl
theorem hbmPts0_eq (c : Dev nD) :
    (bigSep H0 (fun b => ((c : Thread nD τ).loc b) ↦{fullShare} V m c b) : sProp 𝕄) = iprop((((c : Thread nD τ).loc main_v5) ↦{fullShare} V m c main_v5) ∗ (((c : Thread nD τ).loc main_v6) ↦{fullShare} V m c main_v6) ∗ (((c : Thread nD τ).loc main_v7) ↦{fullShare} V m c main_v7) ∗ (((c : Thread nD τ).loc main_v8) ↦{fullShare} V m c main_v8)) := by
  rw [BI.bigSep_eq_bigSepL_of_eq [main_v5, main_v6, main_v7, main_v8] (by decide) (by decide)]; rfl

/-- The four arrays as the body finds them. -/
def wts (c : Dev nD) : Wts F := ⟨V m c main_v5, V m c main_v6, V m c main_v7, V m c main_v8⟩

theorem cells_list (c : Dev nD) : (iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) : sProp 𝕄) ⊢ iprop(cells c 0 ∗ cells c 1) := by
  unfold cells
  iintro ⟨H5, H6, H7, H8, H9, H10, H11, H12⟩
  isplitl [H5 H7 H9 H11]
  · isplitl [H5]; · iexact H5
    isplitl [H7]; · iexact H7
    isplitl [H9]; · iexact H9
    iexact H11
  isplitl [H6]; · iexact H6
  isplitl [H8]; · iexact H8
  isplitl [H10]; · iexact H10
  iexact H12
theorem list_cells (c : Dev nD) : iprop(cells c 0 ∗ cells c 1) ⊢ (iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) : sProp 𝕄) := by
  unfold cells
  iintro ⟨⟨H5, H7, H9, H11⟩, ⟨H6, H8, H10, H12⟩⟩
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem PhiD_out (c : Dev nD) : (iprop(Pipeline.ΦD osem0 spec0 H0 (V m) c ∗ (∃ W, owes (c : Thread nD τ) 0 W)) : sProp 𝕄) ⊢ iprop((∃ r, prngReg c r) ∗ outside c (wts m c)) := by
  rw [Pipeline.ΦD_eq, scopedRest0_eq, ownSems00_eq, hbmPts0_eq]
  unfold outside arrays
  iintro ⟨⟨⟨S0, S1, S2, S3, S4, S5, S6, S7⟩, Hg, HQ, HA⟩, HW⟩
  isplitl [Hg]; · iexact Hg
  isplitl [S0 S1 S2 S3]
  · isplitl [S0]; · iexact S0
    isplitl [S1]; · iexact S1
    isplitl [S2]; · iexact S2
    iexact S3
  isplitl [S4]; · iexact S4
  isplitl [S5]; · iexact S5
  isplitl [S6]; · iexact S6
  isplitl [S7]; · iexact S7
  ihave HQ := (cells_list c) $$ HQ
  icases HQ with ⟨C0, C1⟩
  isplitl [C0]; · iexact C0
  isplitl [C1]; · iexact C1
  isplitl [HA]; · iexact HA
  iexact HW
theorem out_PhiD (c : Dev nD) : iprop((∃ r, prngReg c r) ∗ outside c (wts m c)) ⊢ (iprop(Pipeline.ΦD osem0 spec0 H0 (V m) c ∗ (∃ W, owes (c : Thread nD τ) 0 W)) : sProp 𝕄) := by
  rw [Pipeline.ΦD_eq, scopedRest0_eq, ownSems00_eq, hbmPts0_eq]
  unfold outside arrays
  iintro ⟨Hg, ⟨S0, S1, S2, S3⟩, S4, S5, S6, S7, C0, C1, HA, HW⟩
  isplitr [HW]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Hg]; · iexact Hg
    isplitl [C0 C1]
    · iapply (list_cells c)
      isplitl [C0]; · iexact C0
      iexact C1
    iexact HA
  iexact HW

/-! ## The body at its point -/

/-- What the body leaves in its result, on core `c`. -/
def outAt (c : Dev nD) (t : Fin cfg0.N) : Vec F S16x2048 .bf16 :=
  outOf (wts m c) (iblk m c 0 t) (iblk m c 1 t) (iblk m c 2 t) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t := before_0 m (dats m 0 c) (A_eq m c 0) (after_0 m c) t d
theorem bef_1 (c : Dev nD) (t : Fin cfg0.N) (d) : (dats m 0 c).before 1 t d = iblk m c 1 t := before_1 m (dats m 0 c) (A_eq m c 1) (after_1 m c) t d
theorem bef_2 (c : Dev nD) (t : Fin cfg0.N) (d) : (dats m 0 c).before 2 t d = iblk m c 2 t := before_2 m (dats m 0 c) (A_eq m c 2) (after_2 m c) t d
theorem bef_3 (c : Dev nD) (t : Fin cfg0.N) (d) : (dats m 0 c).before 3 t d = iblk m c 3 t := before_3 m (dats m 0 c) (A_eq m c 3) (after_3 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

theorem own_0 (c : Dev nD) (t : Fin cfg0.N) (f : S16x2048.Idx → Elt F .bf16) : (owns (c : Thread nD τ) (st0_0 t) fullShare f : sProp 𝕄) = pw c (Memref.whole cc0_stg0_0) f :=
  owns_whole (c : Thread nD τ) cc0_stg0_0 fullShare f
theorem own_1 (c : Dev nD) (t : Fin cfg0.N) (f : S8x16.Idx → Elt F .i32) : (owns (c : Thread nD τ) (st0_1 t) fullShare f : sProp 𝕄) = pw c (Memref.whole cc0_stg1_0) f :=
  owns_whole (c : Thread nD τ) cc0_stg1_0 fullShare f
theorem own_2 (c : Dev nD) (t : Fin cfg0.N) (f : S8x16.Idx → Elt F .i32) : (owns (c : Thread nD τ) (st0_2 t) fullShare f : sProp 𝕄) = pw c (Memref.whole cc0_stg2_0) f :=
  owns_whole (c : Thread nD τ) cc0_stg2_0 fullShare f
theorem own_3 (c : Dev nD) (t : Fin cfg0.N) (f : S8x16.Idx → Elt F .f32) : (owns (c : Thread nD τ) (st0_3 t) fullShare f : sProp 𝕄) = pw c (Memref.whole cc0_stg3_0) f :=
  owns_whole (c : Thread nD τ) cc0_stg3_0 fullShare f
theorem own_4 (c : Dev nD) (t : Fin cfg0.N) (f : S16x2048.Idx → Elt F .bf16) : (owns (c : Thread nD τ) (st0_4 t) fullShare f : sProp 𝕄) = pw c (Memref.whole cc0_stg4_0) f :=
  owns_whole (c : Thread nD τ) cc0_stg4_0 fullShare f

theorem sound_body (hids : ∀ c t y, (iblk m c 1 t y : BitVec 32).toNat < 32) (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl,
    after_0, after_1, after_2, after_3, after_4]
  simp only [bef_0, bef_1, bef_2, bef_3]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩⟩
  ihave HO := (PhiD_out m c) $$ [HP HW]
  · isplitl [HP]; · iexact HP
    iexists W; iexact HW
  icases HO with ⟨Hg, HO⟩
  ihave H0 := (Entails.of_eq (own_0 c t _)) $$ H0
  ihave H1 := (Entails.of_eq (own_1 c t _)) $$ H1
  ihave H2 := (Entails.of_eq (own_2 c t _)) $$ H2
  ihave H3 := (Entails.of_eq (own_3 c t _)) $$ H3
  ihave H4 := (Entails.of_eq (own_4 c t _)) $$ H4
  iapply (wp_wand_r frame (wpE (defs₀ (F := F)) Variants.none (c : Thread nD τ) none) Set.univ)
  isplitl [H0 H1 H2 H3 H4 HO]
  · iapply (body_wp c (wts m c) (iblk m c 0 t) (iblk m c 1 t) (iblk m c 2 t) (iblk m c 3 t) (hids c t))
    isplitl [H0]; · iexact H0
    isplitl [H1]; · iexact H1
    isplitl [H2]; · iexact H2
    isplitl [H3]; · iexact H3
    isplitl [H4]; · iexists _; iexact H4
    iexact HO
  iintro %_ ⟨H0, H1, H2, H3, H4, HO⟩
  ihave HP := (out_PhiD m c) $$ [Hg HO]
  · isplitl [Hg]; · iexact Hg
    iexact HO
  icases HP with ⟨HP, ⟨%W', HW⟩⟩
  isplitl [HP]; · iexact HP
  isplitl [HW]
  · iexists W'; isplitr; · ipureintro; exact fun _ _ => Or.inl trivial
    iexact HW
  isplitl [H0]; · iapply (Entails.of_eq (own_0 c t _).symm); iexact H0
  isplitl [H1]; · iapply (Entails.of_eq (own_1 c t _).symm); iexact H1
  isplitl [H2]; · iapply (Entails.of_eq (own_2 c t _).symm); iexact H2
  isplitl [H3]; · iapply (Entails.of_eq (own_3 c t _).symm); iexact H3
  iapply (Entails.of_eq (own_4 c t _).symm); iexact H4

theorem defs₀_row (t : Fin cfg0.N) :
    defs₀ (F := F) .tc cfg0.body (cfg0.bodyArgs t (cfg0.slots t)) = bodyAt0 t := by
  unfold defs₀; rw [Defs.onTc_tc]

theorem body_obligation (hids : ∀ c t y, (iblk m c 1 t y : BitVec 32).toNat < 32) (c : Dev nD) : BodyObligation (dats (F := F) m 0 c) (defs₀ (F := F)) Variants.none () Set.univ := fun t => by
  rw [bigSep_W0, bigSep_W0, defs₀_row]
  exact triple_restated (sound_body m hids c t) rfl .rfl fun _ => .rfl

/-! ## The run and the frame -/

set_option backward.isDefEq.respectTransparency.types false in
theorem run_main (hids : ∀ c t y, (iblk m c 1 t y : BitVec 32).toNat < 32) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m hids c).loose) (hq := fun _ _ _ => rfl)
    (howed := fun _ _ => rfl) (V₀ := V0 m) (opss := [hostOps1]) (hsub := sfx_subH) (hfresh := sfx_fresh) (hkeep := sfx_keeps)
    (hmain := hmainD m Variants.none) (hA := A_eq m)
    (hin := fun _ => .rfl) (hout := fun _ => .rfl)

theorem frame_run (hids : ∀ c t y, (iblk m c 1 t y : BitVec 32).toNat < 32) :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Pipeline.mem_restRefs_of main_arg0 (by decide) (by decide))).trans (W_arg0 m (dats m) c),
      ((h.1 c).2 main_arg1 (Pipeline.mem_restRefs_of main_arg1 (by decide) (by decide))).trans (W_arg1 m (dats m) c),
      ((h.1 c).2 main_arg2 (Pipeline.mem_restRefs_of main_arg2 (by decide) (by decide))).trans (W_arg2 m (dats m) c),
      ((h.1 c).2 main_arg3 (Pipeline.mem_restRefs_of main_arg3 (by decide) (by decide))).trans (W_arg3 m (dats m) c),
      ((h.1 c).2 main_arg4 (Pipeline.mem_restRefs_of main_arg4 (by decide) (by decide))).trans (W_arg4 m (dats m) c),
      ((h.1 c).2 main_arg5 (Pipeline.mem_restRefs_of main_arg5 (by decide) (by decide))).trans (W_arg5 m (dats m) c),
      ((h.1 c).2 main_arg6 (Pipeline.mem_restRefs_of main_arg6 (by decide) (by decide))).trans (W_arg6 m (dats m) c)⟩, h.2⟩) (run_main m ρ hids)

/-- The result a core is left with. -/
def resultOf (c : Dev nD) : Buf (Elt F) ((c : Thread nD τ).loc main_v10) := Pipeline.afterTail₀ cfgs (dats m) 0 (V0 m) [hostOps1] c main_v10
theorem value_run (hids : ∀ c t y, (iblk m c 1 t y : BitVec 32).toNat < 32) :
    θ_run defs (onTc (τ := τ) (main (F := F))) ⟨m, fun _ => 0, ρ⟩ (fun r => ∀ c : Dev nD, r.2.mem ((c.tc : Thread nD τ).loc main_v10) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).2 main_v10 (Pipeline.mem_restRefs_of main_v10 (by decide) (by decide)), ((h.1 c).2 main_arg0 (Pipeline.mem_restRefs_of main_arg0 (by decide) (by decide))).trans (W_arg0 m (dats m) c),
      ((h.1 c).2 main_arg1 (Pipeline.mem_restRefs_of main_arg1 (by decide) (by decide))).trans (W_arg1 m (dats m) c),
      ((h.1 c).2 main_arg2 (Pipeline.mem_restRefs_of main_arg2 (by decide) (by decide))).trans (W_arg2 m (dats m) c),
      ((h.1 c).2 main_arg3 (Pipeline.mem_restRefs_of main_arg3 (by decide) (by decide))).trans (W_arg3 m (dats m) c),
      ((h.1 c).2 main_arg4 (Pipeline.mem_restRefs_of main_arg4 (by decide) (by decide))).trans (W_arg4 m (dats m) c),
      ((h.1 c).2 main_arg5 (Pipeline.mem_restRefs_of main_arg5 (by decide) (by decide))).trans (W_arg5 m (dats m) c),
      ((h.1 c).2 main_arg6 (Pipeline.mem_restRefs_of main_arg6 (by decide) (by decide))).trans (W_arg6 m (dats m) c)⟩) (run_main m ρ hids)

end Cert.Kernel.Hand

end
-- ==== Proof.IdsK.lean ====
/-
  What the precondition says of the expert numbers, and the windows as the arrays they stage.
-/
module

public import proofs.«01_k».proof.Proof.FrameK
public import proofs.«01_k».proof.Proof.Gen.Pre_ids_in_range
public import Idealize.ShloMosaic.Lib.ReduceAll
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

theorem iblk_0 (c : Dev nD) (t : Fin cfg0.N) : iblk m c 0 t = V m c main_v0 := by
  funext j
  refine congrArg (V m c main_v0) (funext fun a => Fin.ext ?_)
  show 0 * _ + 1 * (j a).val = (j a).val
  omega
theorem iblk_1 (c : Dev nD) (t : Fin cfg0.N) : iblk m c 1 t = V m c main_v2 := by
  funext j
  refine congrArg (V m c main_v2) (funext fun a => Fin.ext ?_)
  show 0 * _ + 1 * (j a).val = (j a).val
  omega
theorem iblk_2 (c : Dev nD) (t : Fin cfg0.N) : iblk m c 2 t = V m c main_v2 := by
  funext j
  refine congrArg (V m c main_v2) (funext fun a => Fin.ext ?_)
  show 0 * _ + 1 * (j a).val = (j a).val
  omega
theorem iblk_3 (c : Dev nD) (t : Fin cfg0.N) : iblk m c 3 t = V m c main_v4 := by
  funext j
  refine congrArg (V m c main_v4) (funext fun a => Fin.ext ?_)
  show 0 * _ + 1 * (j a).val = (j a).val
  omega

theorem V_v2 (c : Dev nD) : V m c main_v2 = transpose S8x16 [1, 0] (shapeCast S16x8 (m ((c : Thread nD τ).loc main_arg1)) shapeCasts_S16x1x8_S16x8) transposes_S16x8_S8x16_1_0 := by
  simp only [V, V0, List.flatten_cons, List.flatten_nil, List.append_nil, hostOps0]
  after_results
  try rfl

/-- An expert number that is at least nought and less than thirty two, read signed, is less than thirty two. -/
theorem id_lt (w : BitVec 32) (h : IntOp.andi (IntOp.cmpi .sge w 0#32) (IntOp.cmpi .slt w 32#32) = 1#1) : w.toNat < 32 := by
  have hb : ∀ a b : Bool, BitVec.ofBool a &&& BitVec.ofBool b = 1#1 → a = true ∧ b = true := by decide
  obtain ⟨h1, h2⟩ := hb _ _ h
  have h1 : (0#32 : BitVec 32).toInt ≤ w.toInt := by simpa [BitVec.sle] using h1
  have h2 : w.toInt < (32#32 : BitVec 32).toInt := by simpa [BitVec.slt] using h2
  have e0 : (0#32 : BitVec 32).toInt = 0 := by decide
  have e1 : (32#32 : BitVec 32).toInt = 32 := by decide
  rw [e0] at h1
  rw [e1] at h2
  rw [BitVec.toInt_eq_toNat_cond] at h1 h2
  have := w.isLt
  split at h1 <;> omega

theorem ids_of_pre (hPre : Cert.Pre_ids_in_range.Facts) (c : Dev nD)
    (h : Cert.Pre_ids_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)
    (i : S16x1x8.Idx) : (m ((c.tc : Thread nD τ).loc main_arg1) i : BitVec 32).toNat < 32 := by
  have h0 := congrFun h (fun a => a.elim0)
  unfold Cert.Pre_ids_in_range.fn at h0
  haveI : Subsingleton Cert.Pre_ids_in_range.S_.Idx := ⟨fun a b => funext fun k => k.elim0⟩
  exact id_lt _ (Host.reduce_andi_all _ _ _ _ _ h0 i)

theorem hids (h : ∀ (c : Dev nD) i, (m ((c.tc : Thread nD τ).loc main_arg1) i : BitVec 32).toNat < 32) (c : Dev nD) (t : Fin cfg0.N) (y) : (iblk m c 1 t y : BitVec 32).toNat < 32 := by
  rw [iblk_1, V_v2]
  exact h c _

end Cert.Kernel.Hand

end
-- ==== Proof.PreI.lean ====
/-
  What the precondition of the value claim says of the expert numbers and of the scales.
-/
module

public import proofs.«01_k».proof.Proof.IdsI
public import proofs.«01_k».proof.Proof.Gen.Pre_ids_and_scales_in_range
public import Idealize.ShloMosaic.Lib.ReduceAll
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- A conjunction of two truth values that is true has both of them true. -/
theorem and_both (a b : BitVec 1) (h : IntOp.andi a b = 1#1) : a = 1#1 ∧ b = 1#1 := by
  revert a b; decide

/-- A byte, widened, read signed between two and two hundred and fifty two. -/
theorem scale_in (w : BitVec 8) (h : IntOp.andi (IntOp.cmpi .sge (w.setWidth 32) 2#32) (IntOp.cmpi .sle (w.setWidth 32) 252#32) = 1#1) : 2 ≤ w.toNat ∧ w.toNat ≤ 252 := by
  revert w; decide

/-- The precondition says that ids and scales are in range, entry by entry. -/
theorem of_pre2 (hPre : Cert.Pre_ids_and_scales_in_range.Facts) (c : Dev nD)
    (h : Cert.Pre_ids_and_scales_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) :
    (∀ i, (m ((c.tc : Thread nD τ).loc main_arg1) i : BitVec 32).toNat < 32)
    ∧ (∀ i, 2 ≤ (m ((c.tc : Thread nD τ).loc main_arg4) i : BitVec 8).toNat ∧ (m ((c.tc : Thread nD τ).loc main_arg4) i : BitVec 8).toNat ≤ 252)
    ∧ (∀ i, 2 ≤ (m ((c.tc : Thread nD τ).loc main_arg6) i : BitVec 8).toNat ∧ (m ((c.tc : Thread nD τ).loc main_arg6) i : BitVec 8).toNat ≤ 252) := by
  have h0 := congrFun h (fun a => a.elim0)
  unfold Cert.Pre_ids_and_scales_in_range.fn Cert.Pre_ids_and_scales_in_range.fn_part1 at h0
  haveI : Subsingleton Cert.Pre_ids_and_scales_in_range.S_.Idx := ⟨fun a b => funext fun k => k.elim0⟩
  obtain ⟨h1, h3⟩ := and_both _ _ h0
  obtain ⟨h1, h2⟩ := and_both _ _ h1
  exact ⟨fun i => id_lt _ (Host.reduce_andi_all _ _ _ _ _ h1 i), fun i => scale_in _ (Host.reduce_andi_all _ _ _ _ _ h2 i),
    fun i => scale_in _ (Host.reduce_andi_all _ _ _ _ _ h3 i)⟩

end Cert.KernelIdeal.Hand

end
-- ==== Proof.WeightI.lean ====
/-
  What a trip's arithmetic is, with no buffer in it: a piece of a weight matrix from its bytes and its scales, a piece of
  the hidden row from two of them, and a piece of the output.
-/
module

public import proofs.«01_k».proof.Proof.TripI

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- The bf16 word of a four-bit code. -/
def codeW {s : Shape} (c : IVec s 32) : IVec s 32 :=
  ori (shli (andi c (broadcast s 8#32)) (broadcast s 12#32))
    (select (cmpi .sgt (andi c (broadcast s 7#32)) (broadcast s 1#32))
      (addi (shli (andi c (broadcast s 7#32)) (broadcast s 6#32)) (broadcast s 16128#32))
      (muli (andi c (broadcast s 7#32)) (broadcast s 16128#32)))

/-- The two words of a byte, side by side. -/
def pairW {s : Shape} (b : IVec s 32) : IVec s 32 :=
  ori (codeW (andi b (broadcast s 15#32))) (shli (codeW (shrsi b (broadcast s 4#32))) (broadcast s 16#32))

/-- The word of a scale, twice. -/
def scaleW {s : Shape} (w : IVec s 32) : IVec s 32 :=
  ori (shli w (broadcast s 7#32)) (shli w (broadcast s 23#32))

/-- A tile's bytes as a matrix: 1024 rows of 128. -/
def flatG (t : Vec F S1x1x64x16x128 .i8) : IVec S1024x128 8 :=
  shapeCast S1024x128 (shapeCast S64x16x128 t shapeCasts_S1x1x64x16x128_S64x16x128) shapeCasts_S64x16x128_S1024x128

/-- Two tiles' bytes side by side, widened. -/
def bytesG (ta tb : Vec F S1x1x64x16x128 .i8) : IVec S1024x256 32 :=
  extui 32 (concatenate S1024x256 1 [⟨S1024x128, flatG ta⟩, ⟨S1024x128, flatG tb⟩] concatenates_S1024x128_S1024x128_S1024x256_d1) natLt_8_32

/-- A block's scale word for each of its rows. -/
def rowsG (sc : IVec S64x256 32) : IVec S1024x256 32 :=
  shapeCast S1024x256 (broadcastTo S64x16x256 (shapeCast S64x1x256 (shapeCast S64x1x256 sc shapeCasts_S64x256_S64x1x256) shapeCasts_S64x1x256_S64x1x256) broadcasts_S64x1x256_S64x16x256) shapeCasts_S64x16x256_S1024x256

/-- A piece of a weight matrix: its codes' values times its scales. -/
def wG (ta tb : Vec F S1x1x64x16x128 .i8) (sc : IVec S64x256 32) : FVec F S2048x256 .bf16 :=
  mulf (bitcastToFloat .bf16 (bitcast S2048x256 16 (pairW (bytesG (F := F) ta tb)) bitcasts_S1024x256_w32_S2048x256_w16))
    (bitcastToFloat .bf16 (bitcast S2048x256 16 (rowsG sc) bitcasts_S1024x256_w32_S2048x256_w16))

/-- A tile's bytes as a matrix: 768 rows of 128. -/
def flatD (t : Vec F S1x1x48x16x128 .i8) : IVec S768x128 8 :=
  shapeCast S768x128 (shapeCast S48x16x128 t shapeCasts_S1x1x48x16x128_S48x16x128) shapeCasts_S48x16x128_S768x128

/-- Two tiles' bytes side by side, widened. -/
def bytesD (ta tb : Vec F S1x1x48x16x128 .i8) : IVec S768x256 32 :=
  extui 32 (concatenate S768x256 1 [⟨S768x128, flatD ta⟩, ⟨S768x128, flatD tb⟩] concatenates_S768x128_S768x128_S768x256_d1) natLt_8_32

/-- A block's scale word for each of its rows. -/
def rowsD (sc : IVec S48x256 32) : IVec S768x256 32 :=
  shapeCast S768x256 (broadcastTo S48x16x256 (shapeCast S48x1x256 (shapeCast S48x1x256 sc shapeCasts_S48x256_S48x1x256) shapeCasts_S48x1x256_S48x1x256) broadcasts_S48x1x256_S48x16x256) shapeCasts_S48x16x256_S768x256

/-- A piece of a weight matrix: its codes' values times its scales. -/
def wD (ta tb : Vec F S1x1x48x16x128 .i8) (sc : IVec S48x256 32) : FVec F S1536x256 .bf16 :=
  mulf (bitcastToFloat .bf16 (bitcast S1536x256 16 (pairW (bytesD (F := F) ta tb)) bitcasts_S768x256_w32_S1536x256_w16))
    (bitcastToFloat .bf16 (bitcast S1536x256 16 (rowsD sc) bitcasts_S768x256_w32_S1536x256_w16))

/-- A piece of the hidden row. -/
def hG (x : FVec F S16x2048 .bf16) (wg wu : FVec F S2048x256 .bf16) : FVec F S16x256 .bf16 :=
  have g : FVec F S16x256 .f32 := matmul dot_S16x2048_S2048x256_S16x256_1_0_0_1_n_n none x wg (constant S16x256 .f32 0x00000000#32)
  have u : FVec F S16x256 .f32 := matmul dot_S16x2048_S2048x256_S16x256_1_0_0_1_n_n none x wu (constant S16x256 .f32 0x00000000#32)
  truncf .bf16 (mulf (mulf g (logistic g)) u) bitsLt_bf16_f32

/-- A piece of the output, its expert's share added. -/
def pD (h : FVec F S16x1536 .bf16) (wd : FVec F S16x1 .f32) (mask : IVec S16x1 1) (w : FVec F S1536x256 .bf16) (a : Vec F S16x256 .f32) : FVec F S16x256 .f32 :=
  have y : FVec F S16x256 .f32 := matmul dot_S16x1536_S1536x256_S16x256_1_0_0_1_n_n none h w (constant S16x256 .f32 0x00000000#32)
  shapeCast S16x256 (addf a (select (broadcastTo S16x256 (shapeCast S16x1 mask shapeCasts_S16x1_S16x1) broadcasts_S16x1_S16x256)
    (mulf (broadcastTo S16x256 wd broadcasts_S16x1_S16x256) y) (broadcast S16x256 (Scalar.ofBits .f32 0x00000000#32)))) shapeCasts_S16x256_S16x256

variable (X : Wts F) (v22 : BitVec 32) (hw3 : k0_chk3 v22) (k : Fin (k0_t6_loop v22).trips) (e : Fin 32) (d0 : S16x2048.Idx → Elt F .bf16) (v27 : Vec F S8x16 .i32) (v30 : Vec F S8x16 .f32)
    (acc : S16x2048.Idx → Elt F .f32)

/-- A tile's bytes, straight from the array. -/
def tG (i : Fin 24) : Vec F S1x1x64x16x128 .i8 := fun y => X.gu (ix4 e (y 2) (y 3) ⟨128 * i.val + (y 4).val, by have h4 : (y 4).val < 128 := (y 4).isLt; have := i.isLt; show _ < 3072; omega⟩)
def tD (i : Fin 16) : Vec F S1x1x48x16x128 .i8 := fun y => X.dn (ix4 e (y 2) (y 3) ⟨128 * i.val + (y 4).val, by have h4 : (y 4).val < 128 := (y 4).isLt; have := i.isLt; show _ < 2048; omega⟩)
/-- A piece's scale words, straight from the array. -/
def sG (i : Fin 12) : IVec S64x256 32 := scaleW (extui 32 (fun y => X.gus (ix3 e (y 0) ⟨256 * i.val + (y 1).val, by have h4 : (y 1).val < 256 := (y 1).isLt; have := i.isLt; show _ < 3072; omega⟩) : IVec S64x256 8) natLt_8_32)
def sD (i : Fin 8) : IVec S48x256 32 := scaleW (extui 32 (fun y => X.dns (ix3 e (y 0) ⟨256 * i.val + (y 1).val, by have h4 : (y 1).val < 256 := (y 1).isLt; have := i.isLt; show _ < 2048; omega⟩) : IVec S48x256 8) natLt_8_32)

/-- A tile as a trip reads it. -/
def rdG (off : Fin 5 → ℕ) (inb : ∀ a, off a + S1x1x64x16x128.size a ≤ S2x24x64x16x128.size a) : Vec F S1x1x64x16x128 .i8 :=
  View.readAt (Elt F) (Memref.whole cc0_scratch0).view (Rect.unit (s := S2x24x64x16x128) off S1x1x64x16x128.size inb).toLoadRect (guLand X.gu e)
def rdD (off : Fin 5 → ℕ) (inb : ∀ a, off a + S1x1x48x16x128.size a ≤ S2x16x48x16x128.size a) : Vec F S1x1x48x16x128 .i8 :=
  View.readAt (Elt F) (Memref.whole cc0_scratch2).view (Rect.unit (s := S2x16x48x16x128) off S1x1x48x16x128.size inb).toLoadRect (dnLand X.dn e)
/-- A piece of the accumulator. -/
def rdA (off : Fin 2 → ℕ) (inb : ∀ a, off a + S16x256.size a ≤ S16x2048.size a) : Vec F S16x256 .f32 :=
  View.readAt (Elt F) (Memref.whole cc0_scratch6).view (Rect.unit (s := S16x2048) off S16x256.size inb).toLoadRect acc

theorem rdG_eq (s : ℕ) (i : Fin 24) (off : Fin 5 → ℕ) (inb : ∀ a, off a + S1x1x64x16x128.size a ≤ S2x24x64x16x128.size a) (h : off = ![s, i.val, 0, 0, 0]) :
    rdG X e off inb = tG X e i := by
  subst h
  funext y
  refine congrArg X.gu (funext fun a => Fin.ext ?_)
  have h1 : (y 1).val = 0 := by have : (y 1).val < 1 := (y 1).isLt; omega
  fin_cases a
  · rfl
  · show 0 + 1 * (y 2).val = (y 2).val; omega
  · show 0 + 1 * (y 3).val = (y 3).val; omega
  · show 128 * (i.val + 1 * (y 1).val) + (0 + 1 * (y 4).val) = 128 * i.val + (y 4).val; omega

theorem rdD_eq (s : ℕ) (i : Fin 16) (off : Fin 5 → ℕ) (inb : ∀ a, off a + S1x1x48x16x128.size a ≤ S2x16x48x16x128.size a) (h : off = ![s, i.val, 0, 0, 0]) :
    rdD X e off inb = tD X e i := by
  subst h
  funext y
  refine congrArg X.dn (funext fun a => Fin.ext ?_)
  have h1 : (y 1).val = 0 := by have : (y 1).val < 1 := (y 1).isLt; omega
  fin_cases a
  · rfl
  · show 0 + 1 * (y 2).val = (y 2).val; omega
  · show 0 + 1 * (y 3).val = (y 3).val; omega
  · show 128 * (i.val + 1 * (y 1).val) + (0 + 1 * (y 4).val) = 128 * i.val + (y 4).val; omega

open trip_run.sl in
theorem hcat_reads : trip_run.sl.r_47 X v22 hw3 k e d0 = concatenate S16x1536 1 [⟨S16x256, hG (v305 d0) (wG (rdG X e (k0_off55 v22 k) (k0_off55_inb v22 hw3 k)) (rdG X e (k0_off56 v22 k) (k0_off56_inb v22 hw3 k)) (v356 X v22 hw3 k e)) (wG (rdG X e (k0_off57 v22 k) (k0_off57_inb v22 hw3 k)) (rdG X e (k0_off58 v22 k) (k0_off58_inb v22 hw3 k)) (v413 X v22 hw3 k e))⟩,
    ⟨S16x256, hG (v305 d0) (wG (rdG X e (k0_off59 v22 k) (k0_off59_inb v22 hw3 k)) (rdG X e (k0_off60 v22 k) (k0_off60_inb v22 hw3 k)) (v476 X v22 hw3 k e)) (wG (rdG X e (k0_off61 v22 k) (k0_off61_inb v22 hw3 k)) (rdG X e (k0_off62 v22 k) (k0_off62_inb v22 hw3 k)) (v533 X v22 hw3 k e))⟩,
    ⟨S16x256, hG (v305 d0) (wG (rdG X e (k0_off63 v22 k) (k0_off63_inb v22 hw3 k)) (rdG X e (k0_off64 v22 k) (k0_off64_inb v22 hw3 k)) (v596 X v22 hw3 k e)) (wG (rdG X e (k0_off65 v22 k) (k0_off65_inb v22 hw3 k)) (rdG X e (k0_off66 v22 k) (k0_off66_inb v22 hw3 k)) (v653 X v22 hw3 k e))⟩,
    ⟨S16x256, hG (v305 d0) (wG (rdG X e (k0_off67 v22 k) (k0_off67_inb v22 hw3 k)) (rdG X e (k0_off68 v22 k) (k0_off68_inb v22 hw3 k)) (v716 X v22 hw3 k e)) (wG (rdG X e (k0_off69 v22 k) (k0_off69_inb v22 hw3 k)) (rdG X e (k0_off70 v22 k) (k0_off70_inb v22 hw3 k)) (v773 X v22 hw3 k e))⟩,
    ⟨S16x256, hG (v305 d0) (wG (rdG X e (k0_off71 v22 k) (k0_off71_inb v22 hw3 k)) (rdG X e (k0_off72 v22 k) (k0_off72_inb v22 hw3 k)) (v836 X v22 hw3 k e)) (wG (rdG X e (k0_off73 v22 k) (k0_off73_inb v22 hw3 k)) (rdG X e (k0_off74 v22 k) (k0_off74_inb v22 hw3 k)) (v893 X v22 hw3 k e))⟩,
    ⟨S16x256, hG (v305 d0) (wG (rdG X e (k0_off75 v22 k) (k0_off75_inb v22 hw3 k)) (rdG X e (k0_off76 v22 k) (k0_off76_inb v22 hw3 k)) (v956 X v22 hw3 k e)) (wG (rdG X e (k0_off77 v22 k) (k0_off77_inb v22 hw3 k)) (rdG X e (k0_off78 v22 k) (k0_off78_inb v22 hw3 k)) (v1013 X v22 hw3 k e))⟩] concatenates_S16x256_S16x256_S16x256_S16x256_S16x256_S16x256_S16x1536_d1 := rfl

open trip_run.sl in
set_option maxHeartbeats 4000000 in
/-- The accumulator a trip leaves: eight pieces written over it. -/
theorem trip_reads : (trip_run X v22 hw3 k e d0 v27 v30 acc).1 = (Memref.whole cc0_scratch6).view.writes (Elt F) acc [
    ⟨Rect.unit (s := S16x2048) ![0, 1792] S16x256.size inb_S16x2048_S16x256_0_1792, pD (r_47 X v22 hw3 k e d0) (r_49 e v27 v30) (r_50 e v27) (wD (rdD X e (k0_off93 v22 k) (k0_off93_inb v22 hw3 k)) (rdD X e (k0_off94 v22 k) (k0_off94_inb v22 hw3 k)) (v1573 X v22 hw3 k e)) (rdA acc ![0, 1792] inb_S16x2048_S16x256_0_1792)⟩,
    ⟨Rect.unit (s := S16x2048) ![0, 1536] S16x256.size inb_S16x2048_S16x256_0_1536, pD (r_47 X v22 hw3 k e d0) (r_49 e v27 v30) (r_50 e v27) (wD (rdD X e (k0_off91 v22 k) (k0_off91_inb v22 hw3 k)) (rdD X e (k0_off92 v22 k) (k0_off92_inb v22 hw3 k)) (v1504 X v22 hw3 k e)) (rdA acc ![0, 1536] inb_S16x2048_S16x256_0_1536)⟩,
    ⟨Rect.unit (s := S16x2048) ![0, 1280] S16x256.size inb_S16x2048_S16x256_0_1280, pD (r_47 X v22 hw3 k e d0) (r_49 e v27 v30) (r_50 e v27) (wD (rdD X e (k0_off89 v22 k) (k0_off89_inb v22 hw3 k)) (rdD X e (k0_off90 v22 k) (k0_off90_inb v22 hw3 k)) (v1435 X v22 hw3 k e)) (rdA acc ![0, 1280] inb_S16x2048_S16x256_0_1280)⟩,
    ⟨Rect.unit (s := S16x2048) ![0, 1024] S16x256.size inb_S16x2048_S16x256_0_1024, pD (r_47 X v22 hw3 k e d0) (r_49 e v27 v30) (r_50 e v27) (wD (rdD X e (k0_off87 v22 k) (k0_off87_inb v22 hw3 k)) (rdD X e (k0_off88 v22 k) (k0_off88_inb v22 hw3 k)) (v1366 X v22 hw3 k e)) (rdA acc ![0, 1024] inb_S16x2048_S16x256_0_1024)⟩,
    ⟨Rect.unit (s := S16x2048) ![0, 768] S16x256.size inb_S16x2048_S16x256_0_768, pD (r_47 X v22 hw3 k e d0) (r_49 e v27 v30) (r_50 e v27) (wD (rdD X e (k0_off85 v22 k) (k0_off85_inb v22 hw3 k)) (rdD X e (k0_off86 v22 k) (k0_off86_inb v22 hw3 k)) (v1297 X v22 hw3 k e)) (rdA acc ![0, 768] inb_S16x2048_S16x256_0_768)⟩,
    ⟨Rect.unit (s := S16x2048) ![0, 512] S16x256.size inb_S16x2048_S16x256_0_512, pD (r_47 X v22 hw3 k e d0) (r_49 e v27 v30) (r_50 e v27) (wD (rdD X e (k0_off83 v22 k) (k0_off83_inb v22 hw3 k)) (rdD X e (k0_off84 v22 k) (k0_off84_inb v22 hw3 k)) (v1228 X v22 hw3 k e)) (rdA acc ![0, 512] inb_S16x2048_S16x256_0_512)⟩,
    ⟨Rect.unit (s := S16x2048) ![0, 256] S16x256.size inb_S16x2048_S16x256_0_256, pD (r_47 X v22 hw3 k e d0) (r_49 e v27 v30) (r_50 e v27) (wD (rdD X e (k0_off81 v22 k) (k0_off81_inb v22 hw3 k)) (rdD X e (k0_off82 v22 k) (k0_off82_inb v22 hw3 k)) (v1159 X v22 hw3 k e)) (rdA acc ![0, 256] inb_S16x2048_S16x256_0_256)⟩,
    ⟨Rect.unit (s := S16x2048) ![0, 0] S16x256.size inb_S16x2048_S16x256_0_0, pD (r_47 X v22 hw3 k e d0) (r_49 e v27 v30) (r_50 e v27) (wD (rdD X e (k0_off79 v22 k) (k0_off79_inb v22 hw3 k)) (rdD X e (k0_off80 v22 k) (k0_off80_inb v22 hw3 k)) (v1090 X v22 hw3 k e)) (rdA acc ![0, 0] inb_S16x2048_S16x256_0_0)⟩] := rfl

end Cert.KernelIdeal.Hand
-- ==== Proof.ScaleI.lean ====
/-
  The scales a trip widens, piece by piece: what is read back is the expert's scales.
-/
module

public import proofs.«01_k».proof.Proof.WeightI
public import Idealize.ShloMosaic.Lib.Pipeline.ReadBack
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]
variable (X : Wts F) (v22 : BitVec 32) (hw3 : k0_chk3 v22) (k : Fin (k0_t6_loop v22).trips) (e : Fin 32)

/-- Scale bytes as a trip reads them, as words. -/
def rdSG (off : Fin 3 → ℕ) (inb : ∀ a, off a + S1x64x256.size a ≤ S2x64x3072.size a) : IVec S64x256 32 :=
  shapeCast S64x256 (scaleW (extui 32 (shapeCast S64x256 (fun x => gusLand X.gus e ((Rect.unit (s := S2x64x3072) off S1x64x256.size inb).emb x) : IVec S1x64x256 8) shapeCasts_S1x64x256_S64x256) natLt_8_32)) shapeCasts_S64x256_S64x256
def rdSD (off : Fin 3 → ℕ) (inb : ∀ a, off a + S1x48x256.size a ≤ S2x48x2048.size a) : IVec S48x256 32 :=
  shapeCast S48x256 (scaleW (extui 32 (shapeCast S48x256 (fun x => dnsLand X.dns e ((Rect.unit (s := S2x48x2048) off S1x48x256.size inb).emb x) : IVec S1x48x256 8) shapeCasts_S1x48x256_S48x256) natLt_8_32)) shapeCasts_S48x256_S48x256

/-- A piece of the gate-up scales as loaded is that piece of the expert's scales. -/
theorem rdSG_eq (s : ℕ) (i : Fin 12) (off : Fin 3 → ℕ) (inb : ∀ a, off a + S1x64x256.size a ≤ S2x64x3072.size a) (h : off = ![s, 0, 256 * i.val]) :
    rdSG X e off inb = sG X e i := by
  subst h
  unfold rdSG sG
  rw [shapeCast_id]
  refine congrArg scaleW (congrArg (fun t => extui 32 t natLt_8_32) (funext fun y => ?_))
  pointwise
  refine congrArg X.gus (funext fun a => Fin.ext ?_)
  fin_cases a
  · rfl
  · show 0 + 1 * (y 0).val = (y 0).val; omega
  · show 256 * i.val + 1 * (y 1).val = 256 * i.val + (y 1).val; omega

/-- A piece of the down scales as loaded is that piece of the expert's scales. -/
theorem rdSD_eq (s : ℕ) (i : Fin 8) (off : Fin 3 → ℕ) (inb : ∀ a, off a + S1x48x256.size a ≤ S2x48x2048.size a) (h : off = ![s, 0, 256 * i.val]) :
    rdSD X e off inb = sD X e i := by
  subst h
  unfold rdSD sD
  rw [shapeCast_id]
  refine congrArg scaleW (congrArg (fun t => extui 32 t natLt_8_32) (funext fun y => ?_))
  pointwise
  refine congrArg X.dns (funext fun a => Fin.ext ?_)
  fin_cases a
  · rfl
  · show 0 + 1 * (y 0).val = (y 0).val; omega
  · show 256 * i.val + 1 * (y 1).val = 256 * i.val + (y 1).val; omega

theorem scaleG0 : trip_run.sl.v356 X v22 hw3 k e = sG X e 0 := by
  unfold trip_run.sl.v356 trip_run.sl.H4_12
  simp (disch := decide) only [↓ View.readCov_skip, ↓ View.readCov_cons_toLoadRect]
  exact (show _ = rdSG X e (k0_off35 v22 k) (k0_off35_inb v22 hw3 k) from rfl).trans (rdSG_eq X e _ 0 _ _ (k0_off35_eq v22 k))

theorem scaleG1 : trip_run.sl.v476 X v22 hw3 k e = sG X e 1 := by
  unfold trip_run.sl.v476 trip_run.sl.H4_12
  simp (disch := decide) only [↓ View.readCov_skip, ↓ View.readCov_cons_toLoadRect]
  exact (show _ = rdSG X e (k0_off36 v22 k) (k0_off36_inb v22 hw3 k) from rfl).trans (rdSG_eq X e _ 1 _ _ (k0_off36_eq v22 k))

theorem scaleG2 : trip_run.sl.v596 X v22 hw3 k e = sG X e 2 := by
  unfold trip_run.sl.v596 trip_run.sl.H4_12
  simp (disch := decide) only [↓ View.readCov_skip, ↓ View.readCov_cons_toLoadRect]
  exact (show _ = rdSG X e (k0_off37 v22 k) (k0_off37_inb v22 hw3 k) from rfl).trans (rdSG_eq X e _ 2 _ _ (k0_off37_eq v22 k))

theorem scaleG3 : trip_run.sl.v716 X v22 hw3 k e = sG X e 3 := by
  unfold trip_run.sl.v716 trip_run.sl.H4_12
  simp (disch := decide) only [↓ View.readCov_skip, ↓ View.readCov_cons_toLoadRect]
  exact (show _ = rdSG X e (k0_off38 v22 k) (k0_off38_inb v22 hw3 k) from rfl).trans (rdSG_eq X e _ 3 _ _ (k0_off38_eq v22 k))

theorem scaleG4 : trip_run.sl.v836 X v22 hw3 k e = sG X e 4 := by
  unfold trip_run.sl.v836 trip_run.sl.H4_12
  simp (disch := decide) only [↓ View.readCov_skip, ↓ View.readCov_cons_toLoadRect]
  exact (show _ = rdSG X e (k0_off39 v22 k) (k0_off39_inb v22 hw3 k) from rfl).trans (rdSG_eq X e _ 4 _ _ (k0_off39_eq v22 k))

theorem scaleG5 : trip_run.sl.v956 X v22 hw3 k e = sG X e 5 := by
  unfold trip_run.sl.v956 trip_run.sl.H4_12
  simp (disch := decide) only [↓ View.readCov_skip, ↓ View.readCov_cons_toLoadRect]
  exact (show _ = rdSG X e (k0_off40 v22 k) (k0_off40_inb v22 hw3 k) from rfl).trans (rdSG_eq X e _ 5 _ _ (k0_off40_eq v22 k))

theorem scaleG6 : trip_run.sl.v413 X v22 hw3 k e = sG X e 6 := by
  unfold trip_run.sl.v413 trip_run.sl.H4_12
  simp (disch := decide) only [↓ View.readCov_skip, ↓ View.readCov_cons_toLoadRect]
  exact (show _ = rdSG X e (k0_off41 v22 k) (k0_off41_inb v22 hw3 k) from rfl).trans (rdSG_eq X e _ 6 _ _ (k0_off41_eq v22 k))

theorem scaleG7 : trip_run.sl.v533 X v22 hw3 k e = sG X e 7 := by
  unfold trip_run.sl.v533 trip_run.sl.H4_12
  simp (disch := decide) only [↓ View.readCov_skip, ↓ View.readCov_cons_toLoadRect]
  exact (show _ = rdSG X e (k0_off42 v22 k) (k0_off42_inb v22 hw3 k) from rfl).trans (rdSG_eq X e _ 7 _ _ (k0_off42_eq v22 k))

theorem scaleG8 : trip_run.sl.v653 X v22 hw3 k e = sG X e 8 := by
  unfold trip_run.sl.v653 trip_run.sl.H4_12
  simp (disch := decide) only [↓ View.readCov_skip, ↓ View.readCov_cons_toLoadRect]
  exact (show _ = rdSG X e (k0_off43 v22 k) (k0_off43_inb v22 hw3 k) from rfl).trans (rdSG_eq X e _ 8 _ _ (k0_off43_eq v22 k))

theorem scaleG9 : trip_run.sl.v773 X v22 hw3 k e = sG X e 9 := by
  unfold trip_run.sl.v773 trip_run.sl.H4_12
  simp (disch := decide) only [↓ View.readCov_skip, ↓ View.readCov_cons_toLoadRect]
  exact (show _ = rdSG X e (k0_off44 v22 k) (k0_off44_inb v22 hw3 k) from rfl).trans (rdSG_eq X e _ 9 _ _ (k0_off44_eq v22 k))

theorem scaleG10 : trip_run.sl.v893 X v22 hw3 k e = sG X e 10 := by
  unfold trip_run.sl.v893 trip_run.sl.H4_12
  simp (disch := decide) only [↓ View.readCov_skip, ↓ View.readCov_cons_toLoadRect]
  exact (show _ = rdSG X e (k0_off45 v22 k) (k0_off45_inb v22 hw3 k) from rfl).trans (rdSG_eq X e _ 10 _ _ (k0_off45_eq v22 k))

theorem scaleG11 : trip_run.sl.v1013 X v22 hw3 k e = sG X e 11 := by
  unfold trip_run.sl.v1013 trip_run.sl.H4_12
  simp (disch := decide) only [↓ View.readCov_skip, ↓ View.readCov_cons_toLoadRect]
  exact (show _ = rdSG X e (k0_off46 v22 k) (k0_off46_inb v22 hw3 k) from rfl).trans (rdSG_eq X e _ 11 _ _ (k0_off46_eq v22 k))

theorem scaleD0 : trip_run.sl.v1090 X v22 hw3 k e = sD X e 0 := by
  unfold trip_run.sl.v1090 trip_run.sl.H5_8
  simp (disch := decide) only [↓ View.readCov_skip, ↓ View.readCov_cons_toLoadRect]
  exact (show _ = rdSD X e (k0_off47 v22 k) (k0_off47_inb v22 hw3 k) from rfl).trans (rdSD_eq X e _ 0 _ _ (k0_off47_eq v22 k))

theorem scaleD1 : trip_run.sl.v1159 X v22 hw3 k e = sD X e 1 := by
  unfold trip_run.sl.v1159 trip_run.sl.H5_8
  simp (disch := decide) only [↓ View.readCov_skip, ↓ View.readCov_cons_toLoadRect]
  exact (show _ = rdSD X e (k0_off48 v22 k) (k0_off48_inb v22 hw3 k) from rfl).trans (rdSD_eq X e _ 1 _ _ (k0_off48_eq v22 k))

theorem scaleD2 : trip_run.sl.v1228 X v22 hw3 k e = sD X e 2 := by
  unfold trip_run.sl.v1228 trip_run.sl.H5_8
  simp (disch := decide) only [↓ View.readCov_skip, ↓ View.readCov_cons_toLoadRect]
  exact (show _ = rdSD X e (k0_off49 v22 k) (k0_off49_inb v22 hw3 k) from rfl).trans (rdSD_eq X e _ 2 _ _ (k0_off49_eq v22 k))

theorem scaleD3 : trip_run.sl.v1297 X v22 hw3 k e = sD X e 3 := by
  unfold trip_run.sl.v1297 trip_run.sl.H5_8
  simp (disch := decide) only [↓ View.readCov_skip, ↓ View.readCov_cons_toLoadRect]
  exact (show _ = rdSD X e (k0_off50 v22 k) (k0_off50_inb v22 hw3 k) from rfl).trans (rdSD_eq X e _ 3 _ _ (k0_off50_eq v22 k))

theorem scaleD4 : trip_run.sl.v1366 X v22 hw3 k e = sD X e 4 := by
  unfold trip_run.sl.v1366 trip_run.sl.H5_8
  simp (disch := decide) only [↓ View.readCov_skip, ↓ View.readCov_cons_toLoadRect]
  exact (show _ = rdSD X e (k0_off51 v22 k) (k0_off51_inb v22 hw3 k) from rfl).trans (rdSD_eq X e _ 4 _ _ (k0_off51_eq v22 k))

theorem scaleD5 : trip_run.sl.v1435 X v22 hw3 k e = sD X e 5 := by
  unfold trip_run.sl.v1435 trip_run.sl.H5_8
  simp (disch := decide) only [↓ View.readCov_skip, ↓ View.readCov_cons_toLoadRect]
  exact (show _ = rdSD X e (k0_off52 v22 k) (k0_off52_inb v22 hw3 k) from rfl).trans (rdSD_eq X e _ 5 _ _ (k0_off52_eq v22 k))

theorem scaleD6 : trip_run.sl.v1504 X v22 hw3 k e = sD X e 6 := by
  unfold trip_run.sl.v1504 trip_run.sl.H5_8
  simp (disch := decide) only [↓ View.readCov_skip, ↓ View.readCov_cons_toLoadRect]
  exact (show _ = rdSD X e (k0_off53 v22 k) (k0_off53_inb v22 hw3 k) from rfl).trans (rdSD_eq X e _ 6 _ _ (k0_off53_eq v22 k))

theorem scaleD7 : trip_run.sl.v1573 X v22 hw3 k e = sD X e 7 := by
  unfold trip_run.sl.v1573 trip_run.sl.H5_8
  simp (disch := decide) only [↓ View.readCov_skip, ↓ View.readCov_cons_toLoadRect]
  exact (show _ = rdSD X e (k0_off54 v22 k) (k0_off54_inb v22 hw3 k) from rfl).trans (rdSD_eq X e _ 7 _ _ (k0_off54_eq v22 k))

end Cert.KernelIdeal.Hand
-- ==== Proof.WordI.lean ====
/-
  A four-bit code's value times a scale's, on the words: the kernel multiplies the bf16 words of the two, the reference adds
  the scale to the code's exponent. Over the reals they are one number for scales from 2 to 252.
-/
module

public import Idealize.ShloMosaic.Lib.Pointwise
public import Idealize.ShloMosaic.PureOps.Ideal.Laws

@[expose] public section

noncomputable section

namespace Cert.KernelIdeal.Hand

open Idealize.ShloMosaic

/-- The bf16 word of a code, as the kernel has it. -/
def code1 (c : BitVec 32) : BitVec 32 :=
  IntOp.ori (IntOp.shli .vector (IntOp.andi c 8#32) 12#32)
    (Scalar.select (IntOp.cmpi .sgt (IntOp.andi c 7#32) 1#32)
      (IntOp.addi (IntOp.shli .vector (IntOp.andi c 7#32) 6#32) 16128#32)
      (IntOp.muli (IntOp.andi c 7#32) 16128#32))
/-- A byte's two words. -/
def pair1 (b : BitVec 32) : BitVec 32 :=
  IntOp.ori (code1 (IntOp.andi b 15#32)) (IntOp.shli .vector (code1 (IntOp.shrsi .vector b 4#32)) 16#32)
/-- A scale's word, twice. -/
def scale1 (w : BitVec 32) : BitVec 32 := IntOp.ori (IntOp.shli .vector w 7#32) (IntOp.shli .vector w 23#32)

/-- The word the reference builds of a code and a scale. -/
def refW (c s : BitVec 32) : BitVec 16 :=
  (IntOp.ori (IntOp.shli .host (IntOp.andi (IntOp.shrsi .host c 3#32) 1#32) 15#32)
    (Scalar.select (IntOp.cmpi .ne (IntOp.andi c 7#32) 0#32)
      (IntOp.ori
        (IntOp.shli .host
          (Scalar.select (IntOp.cmpi .eq (IntOp.andi (IntOp.shrsi .host c 1#32) 3#32) 0#32) (IntOp.subi s 1#32)
            (IntOp.subi (IntOp.addi s (IntOp.andi (IntOp.shrsi .host c 1#32) 3#32)) 1#32)) 7#32)
        (Scalar.select (IntOp.cmpi .eq (IntOp.andi (IntOp.shrsi .host c 1#32) 3#32) 0#32) 0#32
          (IntOp.shli .host (IntOp.andi c 1#32) 6#32))) 0#32)).setWidth 16
def refLo (b s : BitVec 8) : BitVec 16 := refW (IntOp.andi (b.setWidth 32) 15#32) (s.setWidth 32)
def refHi (b s : BitVec 8) : BitVec 16 := refW (IntOp.shrsi .host (b.setWidth 32) 4#32) (s.setWidth 32)

/-- A word's fields. -/
abbrev sg (w : BitVec 16) : ℕ := (w.extractLsb' 15 1).toNat
abbrev ex (w : BitVec 16) : ℕ := (w.extractLsb' 7 8).toNat
abbrev fr (w : BitVec 16) : ℕ := (w.extractLsb' 0 7).toNat

/-- What makes three words a product: the signs and the fractions are the first's, the exponents add. -/
def IsMul (a w r : BitVec 16) : Bool :=
  (sg w == 0 && fr w == 0 && decide (0 < ex w) && decide (ex w < 255)) &&
  ((ex a == 0 && fr a == 0 && ex r == 0 && fr r == 0) ||
   (sg r == sg a && fr r == fr a && decide (0 < ex a) && decide (ex a < 255) && decide (0 < ex r) && decide (ex r < 255) && ex r + 127 == ex a + ex w))

/-- The number of a word whose exponent field is neither nought nor full. -/
theorem normal (w : BitVec 16) (h : 0 < ex w) (h' : ex w < 255) :
    Ideal.ofBits .bf16 w = (((if (w.extractLsb' 15 1 == 1#1) = true then -1 else 1 : ℝ) * (2 ^ 7 + fr w : ℕ) * (2 : ℝ) ^ ((ex w : ℤ) - 127 - 7) : ℝ) : EReal) := by
  simp only [Ideal.ofBits, Ideal.ieee]
  rw [if_neg (show ¬ (w.extractLsb' 7 8).toNat = 2 ^ 8 - 1 from fun e => by have e' : ex w = 255 := e; omega),
    if_neg (show ¬ (w.extractLsb' 7 8).toNat = 0 from fun e => by have e' : ex w = 0 := e; omega)]
  norm_num

theorem zeroWord (w : BitVec 16) (h : ex w = 0) (h' : fr w = 0) : Ideal.ofBits .bf16 w = 0 := by
  simp only [ex, fr] at h h'
  simp [Ideal.ofBits, Ideal.ieee, h, h']

/-- If the words' fields say so, one number is the product of two. -/
theorem isMul (a w r : BitVec 16) (h : IsMul a w r = true) : Ideal.ofBits .bf16 a * Ideal.ofBits .bf16 w = Ideal.ofBits .bf16 r := by
  simp only [IsMul, Bool.and_eq_true, Bool.or_eq_true, beq_iff_eq, decide_eq_true_eq] at h
  obtain ⟨⟨⟨⟨sw, fw⟩, ew⟩, ew'⟩, h | ⟨⟨⟨⟨⟨⟨hs, hf⟩, ea⟩, ea'⟩, er⟩, er'⟩, hx⟩⟩ := h
  · obtain ⟨⟨⟨ea, fa⟩, er⟩, fr⟩ := h
    rw [zeroWord a ea fa, zeroWord r er fr, zero_mul]
  · have hs' : r.extractLsb' 15 1 = a.extractLsb' 15 1 := BitVec.eq_of_toNat_eq hs
    have hw' : w.extractLsb' 15 1 = 0#1 := BitVec.eq_of_toNat_eq sw
    rw [normal a ea ea', normal w ew ew', normal r er er', hs', hw', hf, fw, ← EReal.coe_mul]
    refine congrArg _ ?_
    have hz : ((ex r : ℤ) - 127 - 7) = ((ex a : ℤ) - 127 - 7) + 7 + ((ex w : ℤ) - 127 - 7) := by omega
    rw [hz, zpow_add₀ (by norm_num), zpow_add₀ (by norm_num), if_neg (show ¬ (((0#1 : BitVec 1) == 1#1) = true) by decide)]
    norm_num
    ring_nf

/-- The code's word times the scale's is the reference's word. -/
theorem words_mul : ∀ c : Fin 16, ∀ s : Fin 256, 2 ≤ s.val → s.val ≤ 252 →
    IsMul ((code1 (BitVec.ofNat 32 c.val)).setWidth 16) (BitVec.ofNat 16 (128 * s.val)) (refW (BitVec.ofNat 32 c.val) (BitVec.ofNat 32 s.val)) = true := by
  decide +kernel

/-- The two halves of a byte's word are the words of its two codes. -/
theorem pair_words : ∀ b : Fin 256, (pair1 (BitVec.ofNat 32 b.val)).extractLsb' 0 16 = (code1 (BitVec.ofNat 32 (b.val % 16))).setWidth 16 ∧
    (pair1 (BitVec.ofNat 32 b.val)).extractLsb' 16 16 = (code1 (BitVec.ofNat 32 (b.val / 16))).setWidth 16 ∧
    IntOp.andi (BitVec.ofNat 32 b.val) 15#32 = BitVec.ofNat 32 (b.val % 16) ∧ IntOp.shrsi .host (BitVec.ofNat 32 b.val) 4#32 = BitVec.ofNat 32 (b.val / 16) := by
  decide +kernel

/-- Both halves of a scale's word are the scale in the exponent field. -/
theorem scale_words : ∀ s : Fin 256, (scale1 (BitVec.ofNat 32 s.val)).extractLsb' 0 16 = BitVec.ofNat 16 (128 * s.val) ∧ (scale1 (BitVec.ofNat 32 s.val)).extractLsb' 16 16 = BitVec.ofNat 16 (128 * s.val) := by
  decide +kernel

theorem widen (b : BitVec 8) : b.setWidth 32 = BitVec.ofNat 32 b.toNat := by
  apply BitVec.eq_of_toNat_eq; simp

/-- The low code of a byte times the scale. -/
theorem lo_mul (b s : BitVec 8) (h : 2 ≤ s.toNat) (h' : s.toNat ≤ 252) :
    Ideal.ofBits .bf16 ((pair1 (b.setWidth 32)).extractLsb' 0 16) * Ideal.ofBits .bf16 ((scale1 (s.setWidth 32)).extractLsb' 0 16) = Ideal.ofBits .bf16 (refLo b s) := by
  unfold refLo
  rw [widen b, widen s]
  have hb := pair_words ⟨b.toNat, b.isLt⟩
  have hs := scale_words ⟨s.toNat, s.isLt⟩
  rw [hb.1, hb.2.2.1, hs.1]
  exact isMul _ _ _ (words_mul ⟨b.toNat % 16, Nat.mod_lt _ (by decide)⟩ ⟨s.toNat, s.isLt⟩ h h')

/-- The high code of a byte times the scale. -/
theorem hi_mul (b s : BitVec 8) (h : 2 ≤ s.toNat) (h' : s.toNat ≤ 252) :
    Ideal.ofBits .bf16 ((pair1 (b.setWidth 32)).extractLsb' 16 16) * Ideal.ofBits .bf16 ((scale1 (s.setWidth 32)).extractLsb' 16 16) = Ideal.ofBits .bf16 (refHi b s) := by
  unfold refHi
  rw [widen b, widen s]
  have hb := pair_words ⟨b.toNat, b.isLt⟩
  have hs := scale_words ⟨s.toNat, s.isLt⟩
  rw [hb.2.1, hb.2.2.2, hs.2]
  exact isMul _ _ _ (words_mul ⟨b.toNat / 16, by have := b.isLt; omega⟩ ⟨s.toNat, s.isLt⟩ h h')

end Cert.KernelIdeal.Hand
-- ==== Proof.EntryI.lean ====
/-
  A weight matrix's piece at a row and a column, over the reals: the reference's weight there.
-/
module

public import proofs.«01_k».proof.Proof.ScaleI
public import proofs.«01_k».proof.Proof.WordI
public import Idealize.ShloMosaic.Lib.BitcastPair

@[expose] public section

noncomputable section

namespace Cert.KernelIdeal.Hand

open Cert.KernelIdeal Cert.KernelIdeal.Gen
open Idealize.ShloMosaic Idealize.ShloMosaic.TcCoe Idealize.ShloMosaic.Tactic

theorem wordsG (v : IVec S1024x256 32) (r : Fin 1024) (n : Fin 256) (q : ℕ) (hq : q < 2) (hr : 2 * r.val + q < 2048) :
    bitcast S2048x256 16 v bitcasts_S1024x256_w32_S2048x256_w16 (ix2 ⟨2 * r.val + q, hr⟩ n) = (v (ix2 r n)).extractLsb' (16 * q) 16 := by
  rw [bitcast_32_16]
  have e : Shape.row S2048x256 (ix2 ⟨2 * r.val + q, hr⟩ n) = 2 * r.val + q := rfl
  have e1 : (2 * r.val + q) / 2 = r.val := by omega
  have e2 : (2 * r.val + q) % 2 = q := by omega
  refine congrArg₂ (fun k (x : BitVec 32) => x.extractLsb' (16 * k) 16) e2 (congrArg v (funext fun a => Fin.ext ?_))
  fin_cases a
  · exact e1
  · rfl

theorem rowsG_apply (sc : IVec S64x256 32) (r : Fin 1024) (n : Fin 256) :
    rowsG sc (ix2 r n) = sc (ix2 ⟨r.val / 16, by have := r.isLt; omega⟩ n) := by
  unfold rowsG
  pointwise

theorem bytesG_apply (X : Wts Ideal) (e : Fin 32) (m : Fin 12) (r : Fin 1024) (n : Fin 256) :
    bytesG (F := Ideal) (tG X e ⟨2 * m.val, by have := m.isLt; omega⟩) (tG X e ⟨2 * m.val + 1, by have := m.isLt; omega⟩) (ix2 r n)
      = (X.gu (ix4 e ⟨r.val / 16, by have := r.isLt; omega⟩ ⟨r.val % 16, Nat.mod_lt _ (by decide)⟩ ⟨256 * m.val + n.val, by have := m.isLt; have := n.isLt; omega⟩)).setWidth 32 := by
  unfold bytesG flatG
  pointwise
  refine congrArg (BitVec.setWidth 32) ?_
  split
  · refine congrArg X.gu (funext fun a => Fin.ext ?_)
    fin_cases a
    · rfl
    · rfl
    · rfl
    · show 128 * (2 * m.val) + n.val = 256 * m.val + n.val; omega
  · refine congrArg X.gu (funext fun a => Fin.ext ?_)
    fin_cases a
    · rfl
    · rfl
    · rfl
    · show 128 * (2 * m.val + 1) + (n.val - 128) = 256 * m.val + n.val; omega

/-- Row `2r + q` of a gate-up piece, from its byte and its scale. -/
theorem wG_even (X : Wts Ideal) (e : Fin 32) (m : Fin 12) (r : Fin 1024) (n : Fin 256) (q : ℕ) (hq : q < 2) (hr : 2 * r.val + q < 2048) (h : ∀ i, 2 ≤ (X.gus i).toNat ∧ (X.gus i).toNat ≤ 252) :
    wG (F := Ideal) (tG X e ⟨2 * m.val, by have := m.isLt; omega⟩) (tG X e ⟨2 * m.val + 1, by have := m.isLt; omega⟩) (sG X e m) (ix2 ⟨2 * r.val + q, hr⟩ n)
      = Ideal.ofBits .bf16 ((if q = 0 then refLo else refHi)
          (X.gu (ix4 e ⟨r.val / 16, by have := r.isLt; omega⟩ ⟨r.val % 16, Nat.mod_lt _ (by decide)⟩ ⟨256 * m.val + n.val, by have := m.isLt; have := n.isLt; omega⟩))
          (X.gus (ix3 e ⟨r.val / 16, by have := r.isLt; omega⟩ ⟨256 * m.val + n.val, by have := m.isLt; have := n.isLt; omega⟩))) := by
  unfold wG
  rw [ValueIdx.mulf_apply]
  show Ideal.ofBits .bf16 (bitcast S2048x256 16 _ bitcasts_S1024x256_w32_S2048x256_w16 _) * Ideal.ofBits .bf16 (bitcast S2048x256 16 _ bitcasts_S1024x256_w32_S2048x256_w16 _) = _
  rw [wordsG _ r n q hq hr, wordsG _ r n q hq hr, rowsG_apply]
  show Ideal.ofBits .bf16 ((pair1 (bytesG (F := Ideal) _ _ (ix2 r n))).extractLsb' (16 * q) 16) * Ideal.ofBits .bf16 ((scale1 ((X.gus (ix3 e ⟨r.val / 16, by have := r.isLt; omega⟩ ⟨256 * m.val + n.val, by have := m.isLt; have := n.isLt; omega⟩)).setWidth 32)).extractLsb' (16 * q) 16) = _
  rw [bytesG_apply]
  obtain rfl | rfl : q = 0 ∨ q = 1 := by omega
  · exact lo_mul _ _ (h _).1 (h _).2
  · exact hi_mul _ _ (h _).1 (h _).2

theorem wordsD (v : IVec S768x256 32) (r : Fin 768) (n : Fin 256) (q : ℕ) (hq : q < 2) (hr : 2 * r.val + q < 1536) :
    bitcast S1536x256 16 v bitcasts_S768x256_w32_S1536x256_w16 (ix2 ⟨2 * r.val + q, hr⟩ n) = (v (ix2 r n)).extractLsb' (16 * q) 16 := by
  rw [bitcast_32_16]
  have e : Shape.row S1536x256 (ix2 ⟨2 * r.val + q, hr⟩ n) = 2 * r.val + q := rfl
  have e1 : (2 * r.val + q) / 2 = r.val := by omega
  have e2 : (2 * r.val + q) % 2 = q := by omega
  refine congrArg₂ (fun k (x : BitVec 32) => x.extractLsb' (16 * k) 16) e2 (congrArg v (funext fun a => Fin.ext ?_))
  fin_cases a
  · exact e1
  · rfl

theorem rowsD_apply (sc : IVec S48x256 32) (r : Fin 768) (n : Fin 256) :
    rowsD sc (ix2 r n) = sc (ix2 ⟨r.val / 16, by have := r.isLt; omega⟩ n) := by
  unfold rowsD
  pointwise

theorem bytesD_apply (X : Wts Ideal) (e : Fin 32) (m : Fin 8) (r : Fin 768) (n : Fin 256) :
    bytesD (F := Ideal) (tD X e ⟨2 * m.val, by have := m.isLt; omega⟩) (tD X e ⟨2 * m.val + 1, by have := m.isLt; omega⟩) (ix2 r n)
      = (X.dn (ix4 e ⟨r.val / 16, by have := r.isLt; omega⟩ ⟨r.val % 16, Nat.mod_lt _ (by decide)⟩ ⟨256 * m.val + n.val, by have := m.isLt; have := n.isLt; omega⟩)).setWidth 32 := by
  unfold bytesD flatD
  pointwise
  refine congrArg (BitVec.setWidth 32) ?_
  split
  · refine congrArg X.dn (funext fun a => Fin.ext ?_)
    fin_cases a
    · rfl
    · rfl
    · rfl
    · show 128 * (2 * m.val) + n.val = 256 * m.val + n.val; omega
  · refine congrArg X.dn (funext fun a => Fin.ext ?_)
    fin_cases a
    · rfl
    · rfl
    · rfl
    · show 128 * (2 * m.val + 1) + (n.val - 128) = 256 * m.val + n.val; omega

/-- Row `2r + q` of a down piece, from its byte and its scale. -/
theorem wD_even (X : Wts Ideal) (e : Fin 32) (m : Fin 8) (r : Fin 768) (n : Fin 256) (q : ℕ) (hq : q < 2) (hr : 2 * r.val + q < 1536) (h : ∀ i, 2 ≤ (X.dns i).toNat ∧ (X.dns i).toNat ≤ 252) :
    wD (F := Ideal) (tD X e ⟨2 * m.val, by have := m.isLt; omega⟩) (tD X e ⟨2 * m.val + 1, by have := m.isLt; omega⟩) (sD X e m) (ix2 ⟨2 * r.val + q, hr⟩ n)
      = Ideal.ofBits .bf16 ((if q = 0 then refLo else refHi)
          (X.dn (ix4 e ⟨r.val / 16, by have := r.isLt; omega⟩ ⟨r.val % 16, Nat.mod_lt _ (by decide)⟩ ⟨256 * m.val + n.val, by have := m.isLt; have := n.isLt; omega⟩))
          (X.dns (ix3 e ⟨r.val / 16, by have := r.isLt; omega⟩ ⟨256 * m.val + n.val, by have := m.isLt; have := n.isLt; omega⟩))) := by
  unfold wD
  rw [ValueIdx.mulf_apply]
  show Ideal.ofBits .bf16 (bitcast S1536x256 16 _ bitcasts_S768x256_w32_S1536x256_w16 _) * Ideal.ofBits .bf16 (bitcast S1536x256 16 _ bitcasts_S768x256_w32_S1536x256_w16 _) = _
  rw [wordsD _ r n q hq hr, wordsD _ r n q hq hr, rowsD_apply]
  show Ideal.ofBits .bf16 ((pair1 (bytesD (F := Ideal) _ _ (ix2 r n))).extractLsb' (16 * q) 16) * Ideal.ofBits .bf16 ((scale1 ((X.dns (ix3 e ⟨r.val / 16, by have := r.isLt; omega⟩ ⟨256 * m.val + n.val, by have := m.isLt; have := n.isLt; omega⟩)).setWidth 32)).extractLsb' (16 * q) 16) = _
  rw [bytesD_apply]
  obtain rfl | rfl : q = 0 ∨ q = 1 := by omega
  · exact lo_mul _ _ (h _).1 (h _).2
  · exact hi_mul _ _ (h _).1 (h _).2

end Cert.KernelIdeal.Hand
-- ==== Proof.AddI.lean ====
/-
  What one trip adds to the accumulator, over the reals: its expert's share, as sums over the even and the odd rows.
-/
module

public import proofs.«01_k».proof.Proof.EntryI
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.Tactic

/-- A sum over the rows: the even ones and the odd ones. -/
theorem sum_halves {M : Type} [AddCommMonoid M] (n N : ℕ) (hN : N = 2 * n) (f : Fin N → M) :
    ∑ k, f k = (∑ r : Fin n, f ⟨2 * r.val + 0, by have := r.isLt; omega⟩) + ∑ r : Fin n, f ⟨2 * r.val + 1, by have := r.isLt; omega⟩ := by
  have hN' : n * 2 = N := by omega
  subst hN'
  rw [← finProdFinEquiv.sum_comp, Fintype.sum_prod_type, ← Finset.sum_add_distrib]
  refine Finset.sum_congr rfl fun r _ => ?_
  rw [Fin.sum_univ_two]
  refine congrArg₂ (· + ·) (congrArg f (Fin.ext ?_)) (congrArg f (Fin.ext ?_))
  · show 0 + 2 * r.val = 2 * r.val + 0; omega
  · show 1 + 2 * r.val = 2 * r.val + 1; omega

variable (X : Wts Ideal) (e : Fin 32)

/-- An expert's gate and up weights: row `2r + q` of column `C`. -/
def gE (q : ℕ) (r : Fin 1024) (C : Fin 3072) : EReal :=
  Ideal.ofBits .bf16 ((if q = 0 then refLo else refHi) (X.gu (ix4 e ⟨r.val / 16, by have := r.isLt; omega⟩ ⟨r.val % 16, Nat.mod_lt _ (by decide)⟩ C)) (X.gus (ix3 e ⟨r.val / 16, by have := r.isLt; omega⟩ C)))
/-- An expert's down weights. -/
def dE (q : ℕ) (r : Fin 768) (C : Fin 2048) : EReal :=
  Ideal.ofBits .bf16 ((if q = 0 then refLo else refHi) (X.dn (ix4 e ⟨r.val / 16, by have := r.isLt; omega⟩ ⟨r.val % 16, Nat.mod_lt _ (by decide)⟩ C)) (X.dns (ix3 e ⟨r.val / 16, by have := r.isLt; omega⟩ C)))

variable (d0 : FVec Ideal S16x2048 .bf16) (t : Fin 16)

/-- The gate and the up products, -/
def guE (C : Fin 3072) : EReal :=
  (∑ r : Fin 1024, d0 (ix2 t ⟨2 * r.val + 0, by have := r.isLt; omega⟩) * gE X e 0 r C) + ∑ r : Fin 1024, d0 (ix2 t ⟨2 * r.val + 1, by have := r.isLt; omega⟩) * gE X e 1 r C
/-- the hidden row, -/
def hE (n : Fin 1536) : EReal :=
  guE X e d0 t ⟨n.val, by have := n.isLt; omega⟩ * Ideal.logistic (guE X e d0 t ⟨n.val, by have := n.isLt; omega⟩) * guE X e d0 t ⟨1536 + n.val, by have := n.isLt; omega⟩
/-- and the down product. -/
def yE (C : Fin 2048) : EReal :=
  (∑ r : Fin 768, hE X e d0 t ⟨2 * r.val + 0, by have := r.isLt; omega⟩ * dE X e 0 r C) + ∑ r : Fin 768, hE X e d0 t ⟨2 * r.val + 1, by have := r.isLt; omega⟩ * dE X e 1 r C

/-- The two matrices' pieces from the arrays. -/
def wGt (m : Fin 12) : FVec Ideal S2048x256 .bf16 := wG (F := Ideal) (tG X e ⟨2 * m.val, by have := m.isLt; omega⟩) (tG X e ⟨2 * m.val + 1, by have := m.isLt; omega⟩) (sG X e m)
def wDt (m : Fin 8) : FVec Ideal S1536x256 .bf16 := wD (F := Ideal) (tD X e ⟨2 * m.val, by have := m.isLt; omega⟩) (tD X e ⟨2 * m.val + 1, by have := m.isLt; omega⟩) (sD X e m)
/-- A piece of the hidden row from them. -/
def hP (j : Fin 6) : FVec Ideal S16x256 .bf16 := hG (F := Ideal) d0 (wGt X e ⟨j.val, by have := j.isLt; omega⟩) (wGt X e ⟨6 + j.val, by have := j.isLt; omega⟩)

/-- An entry of the gate and up rows, as sums over the even and the odd rows. -/
theorem gu_apply (hs : ∀ i, 2 ≤ (X.gus i).toNat ∧ (X.gus i).toNat ≤ 252) (m : Fin 12) (n : Fin 256) :
    ∑ k : Fin 2048, d0 (ix2 t k) * wGt X e m (ix2 k n) = guE X e d0 t ⟨256 * m.val + n.val, by have := m.isLt; have := n.isLt; omega⟩ := by
  rw [sum_halves 1024 2048 rfl]
  unfold guE wGt
  refine congrArg₂ (· + ·) (Finset.sum_congr rfl fun r _ => ?_) (Finset.sum_congr rfl fun r _ => ?_)
  · rw [wG_even X e m r n 0 (by decide) _ hs]; rfl
  · rw [wG_even X e m r n 1 (by decide) _ hs]; rfl

/-- An entry of a piece of the hidden row. -/
theorem hP_apply (hs : ∀ i, 2 ≤ (X.gus i).toNat ∧ (X.gus i).toNat ≤ 252) (j : Fin 6) (n : Fin 256) :
    hP X e d0 j (ix2 t n) = hE X e d0 t ⟨256 * j.val + n.val, by have := j.isLt; have := n.isLt; omega⟩ := by
  unfold hP hG
  pointwise
  rw [gu_apply X e d0 t hs, gu_apply X e d0 t hs]
  unfold hE
  refine congrArg₂ (· * ·) rfl (congrArg _ (Fin.ext ?_))
  show 256 * (6 + j.val) + n.val = 1536 + (256 * j.val + n.val)
  omega

/-- An entry of the six pieces of the hidden row, joined. -/
theorem hcat_apply (p : Fin 6 → FVec Ideal S16x256 .bf16) (t : Fin 16) (j : Fin 6) (n : Fin 256) :
    concatenate S16x1536 1 [⟨S16x256, p 0⟩, ⟨S16x256, p 1⟩, ⟨S16x256, p 2⟩, ⟨S16x256, p 3⟩, ⟨S16x256, p 4⟩, ⟨S16x256, p 5⟩] concatenates_S16x256_S16x256_S16x256_S16x256_S16x256_S16x256_S16x1536_d1 (ix2 t ⟨256 * j.val + n.val, by have := j.isLt; have := n.isLt; omega⟩) = p j (ix2 t n) := by
  pointwise
  have hn := n.isLt
  fin_cases j
  · dsimp only; rw [dif_pos (by omega)]; exact congrArg (p 0) (congrArg (ix2 t) (Fin.ext (by dsimp only; omega)))
  · dsimp only; rw [dif_neg (by omega)]; rw [dif_pos (by omega)]; exact congrArg (p 1) (congrArg (ix2 t) (Fin.ext (by dsimp only; omega)))
  · dsimp only; rw [dif_neg (by omega)]; rw [dif_neg (by omega)]; rw [dif_pos (by omega)]; exact congrArg (p 2) (congrArg (ix2 t) (Fin.ext (by dsimp only; omega)))
  · dsimp only; rw [dif_neg (by omega)]; rw [dif_neg (by omega)]; rw [dif_neg (by omega)]; rw [dif_pos (by omega)]; exact congrArg (p 3) (congrArg (ix2 t) (Fin.ext (by dsimp only; omega)))
  · dsimp only; rw [dif_neg (by omega)]; rw [dif_neg (by omega)]; rw [dif_neg (by omega)]; rw [dif_neg (by omega)]; rw [dif_pos (by omega)]; exact congrArg (p 4) (congrArg (ix2 t) (Fin.ext (by dsimp only; omega)))
  · dsimp only; rw [dif_neg (by omega)]; rw [dif_neg (by omega)]; rw [dif_neg (by omega)]; rw [dif_neg (by omega)]; rw [dif_neg (by omega)]; exact congrArg (p 5) (congrArg (ix2 t) (Fin.ext (by dsimp only; omega)))

theorem wr8 (acc : S16x2048.Idx → Elt Ideal .f32) (p : Fin 8 → FVec Ideal S16x256 .f32) (t : Fin 16) (j : Fin 8) (n : Fin 256) :
    (Memref.whole cc0_scratch6).view.writes (Elt Ideal) acc [⟨Rect.unit (s := S16x2048) ![0, 1792] S16x256.size inb_S16x2048_S16x256_0_1792, p 7⟩, ⟨Rect.unit (s := S16x2048) ![0, 1536] S16x256.size inb_S16x2048_S16x256_0_1536, p 6⟩, ⟨Rect.unit (s := S16x2048) ![0, 1280] S16x256.size inb_S16x2048_S16x256_0_1280, p 5⟩, ⟨Rect.unit (s := S16x2048) ![0, 1024] S16x256.size inb_S16x2048_S16x256_0_1024, p 4⟩, ⟨Rect.unit (s := S16x2048) ![0, 768] S16x256.size inb_S16x2048_S16x256_0_768, p 3⟩, ⟨Rect.unit (s := S16x2048) ![0, 512] S16x256.size inb_S16x2048_S16x256_0_512, p 2⟩, ⟨Rect.unit (s := S16x2048) ![0, 256] S16x256.size inb_S16x2048_S16x256_0_256, p 1⟩, ⟨Rect.unit (s := S16x2048) ![0, 0] S16x256.size inb_S16x2048_S16x256_0_0, p 0⟩] (ix2 t ⟨256 * j.val + n.val, by have := j.isLt; have := n.isLt; omega⟩) = p j (ix2 t n) := by
  have hn := n.isLt
  have hr : ∀ f : S16x2048.Idx → Elt Ideal .f32, (Memref.whole cc0_scratch6).view.read (Elt Ideal) f = f := fun f => rfl
  refine (congrFun (hr _).symm _).trans ?_
  fin_cases j
  · refine (View.read_writes_cons_unit_of_not_mem _ _ _ _ _ _ rfl 1 (Or.inl (by show _ < 1792; show 256 * 0 + n.val < 1792; omega))).trans ?_; refine (View.read_writes_cons_unit_of_not_mem _ _ _ _ _ _ rfl 1 (Or.inl (by show _ < 1536; show 256 * 0 + n.val < 1536; omega))).trans ?_; refine (View.read_writes_cons_unit_of_not_mem _ _ _ _ _ _ rfl 1 (Or.inl (by show _ < 1280; show 256 * 0 + n.val < 1280; omega))).trans ?_; refine (View.read_writes_cons_unit_of_not_mem _ _ _ _ _ _ rfl 1 (Or.inl (by show _ < 1024; show 256 * 0 + n.val < 1024; omega))).trans ?_; refine (View.read_writes_cons_unit_of_not_mem _ _ _ _ _ _ rfl 1 (Or.inl (by show _ < 768; show 256 * 0 + n.val < 768; omega))).trans ?_; refine (View.read_writes_cons_unit_of_not_mem _ _ _ _ _ _ rfl 1 (Or.inl (by show _ < 512; show 256 * 0 + n.val < 512; omega))).trans ?_; refine (View.read_writes_cons_unit_of_not_mem _ _ _ _ _ _ rfl 1 (Or.inl (by show _ < 256; show 256 * 0 + n.val < 256; omega))).trans ?_; refine View.read_writes_cons_unit_of_mem _ _ _ _ _ _ _ rfl fun a => ?_
    fin_cases a
    · show t.val = 0 + t.val; omega
    · show 256 * 0 + n.val = 0 + n.val; omega
  · refine (View.read_writes_cons_unit_of_not_mem _ _ _ _ _ _ rfl 1 (Or.inl (by show _ < 1792; show 256 * 1 + n.val < 1792; omega))).trans ?_; refine (View.read_writes_cons_unit_of_not_mem _ _ _ _ _ _ rfl 1 (Or.inl (by show _ < 1536; show 256 * 1 + n.val < 1536; omega))).trans ?_; refine (View.read_writes_cons_unit_of_not_mem _ _ _ _ _ _ rfl 1 (Or.inl (by show _ < 1280; show 256 * 1 + n.val < 1280; omega))).trans ?_; refine (View.read_writes_cons_unit_of_not_mem _ _ _ _ _ _ rfl 1 (Or.inl (by show _ < 1024; show 256 * 1 + n.val < 1024; omega))).trans ?_; refine (View.read_writes_cons_unit_of_not_mem _ _ _ _ _ _ rfl 1 (Or.inl (by show _ < 768; show 256 * 1 + n.val < 768; omega))).trans ?_; refine (View.read_writes_cons_unit_of_not_mem _ _ _ _ _ _ rfl 1 (Or.inl (by show _ < 512; show 256 * 1 + n.val < 512; omega))).trans ?_; refine View.read_writes_cons_unit_of_mem _ _ _ _ _ _ _ rfl fun a => ?_
    fin_cases a
    · show t.val = 0 + t.val; omega
    · show 256 * 1 + n.val = 256 + n.val; omega
  · refine (View.read_writes_cons_unit_of_not_mem _ _ _ _ _ _ rfl 1 (Or.inl (by show _ < 1792; show 256 * 2 + n.val < 1792; omega))).trans ?_; refine (View.read_writes_cons_unit_of_not_mem _ _ _ _ _ _ rfl 1 (Or.inl (by show _ < 1536; show 256 * 2 + n.val < 1536; omega))).trans ?_; refine (View.read_writes_cons_unit_of_not_mem _ _ _ _ _ _ rfl 1 (Or.inl (by show _ < 1280; show 256 * 2 + n.val < 1280; omega))).trans ?_; refine (View.read_writes_cons_unit_of_not_mem _ _ _ _ _ _ rfl 1 (Or.inl (by show _ < 1024; show 256 * 2 + n.val < 1024; omega))).trans ?_; refine (View.read_writes_cons_unit_of_not_mem _ _ _ _ _ _ rfl 1 (Or.inl (by show _ < 768; show 256 * 2 + n.val < 768; omega))).trans ?_; refine View.read_writes_cons_unit_of_mem _ _ _ _ _ _ _ rfl fun a => ?_
    fin_cases a
    · show t.val = 0 + t.val; omega
    · show 256 * 2 + n.val = 512 + n.val; omega
  · refine (View.read_writes_cons_unit_of_not_mem _ _ _ _ _ _ rfl 1 (Or.inl (by show _ < 1792; show 256 * 3 + n.val < 1792; omega))).trans ?_; refine (View.read_writes_cons_unit_of_not_mem _ _ _ _ _ _ rfl 1 (Or.inl (by show _ < 1536; show 256 * 3 + n.val < 1536; omega))).trans ?_; refine (View.read_writes_cons_unit_of_not_mem _ _ _ _ _ _ rfl 1 (Or.inl (by show _ < 1280; show 256 * 3 + n.val < 1280; omega))).trans ?_; refine (View.read_writes_cons_unit_of_not_mem _ _ _ _ _ _ rfl 1 (Or.inl (by show _ < 1024; show 256 * 3 + n.val < 1024; omega))).trans ?_; refine View.read_writes_cons_unit_of_mem _ _ _ _ _ _ _ rfl fun a => ?_
    fin_cases a
    · show t.val = 0 + t.val; omega
    · show 256 * 3 + n.val = 768 + n.val; omega
  · refine (View.read_writes_cons_unit_of_not_mem _ _ _ _ _ _ rfl 1 (Or.inl (by show _ < 1792; show 256 * 4 + n.val < 1792; omega))).trans ?_; refine (View.read_writes_cons_unit_of_not_mem _ _ _ _ _ _ rfl 1 (Or.inl (by show _ < 1536; show 256 * 4 + n.val < 1536; omega))).trans ?_; refine (View.read_writes_cons_unit_of_not_mem _ _ _ _ _ _ rfl 1 (Or.inl (by show _ < 1280; show 256 * 4 + n.val < 1280; omega))).trans ?_; refine View.read_writes_cons_unit_of_mem _ _ _ _ _ _ _ rfl fun a => ?_
    fin_cases a
    · show t.val = 0 + t.val; omega
    · show 256 * 4 + n.val = 1024 + n.val; omega
  · refine (View.read_writes_cons_unit_of_not_mem _ _ _ _ _ _ rfl 1 (Or.inl (by show _ < 1792; show 256 * 5 + n.val < 1792; omega))).trans ?_; refine (View.read_writes_cons_unit_of_not_mem _ _ _ _ _ _ rfl 1 (Or.inl (by show _ < 1536; show 256 * 5 + n.val < 1536; omega))).trans ?_; refine View.read_writes_cons_unit_of_mem _ _ _ _ _ _ _ rfl fun a => ?_
    fin_cases a
    · show t.val = 0 + t.val; omega
    · show 256 * 5 + n.val = 1280 + n.val; omega
  · refine (View.read_writes_cons_unit_of_not_mem _ _ _ _ _ _ rfl 1 (Or.inl (by show _ < 1792; show 256 * 6 + n.val < 1792; omega))).trans ?_; refine View.read_writes_cons_unit_of_mem _ _ _ _ _ _ _ rfl fun a => ?_
    fin_cases a
    · show t.val = 0 + t.val; omega
    · show 256 * 6 + n.val = 1536 + n.val; omega
  · refine View.read_writes_cons_unit_of_mem _ _ _ _ _ _ _ rfl fun a => ?_
    fin_cases a
    · show t.val = 0 + t.val; omega
    · show 256 * 7 + n.val = 1792 + n.val; omega

variable (v22 : BitVec 32) (hw3 : k0_chk3 v22) (k : Fin (k0_t6_loop v22).trips) (v27 : Vec Ideal S8x16 .i32) (v30 : Vec Ideal S8x16 .f32) (acc : S16x2048.Idx → Elt Ideal .f32)

theorem x_read : trip_run.sl.v305 (F := Ideal) d0 = d0 := by
  unfold trip_run.sl.v305
  rw [shapeCast_id]
  funext y
  refine congrArg d0 (funext fun a => Fin.ext ?_)
  fin_cases a
  · show 0 + 1 * (y 0).val = (y 0).val; omega
  · show 0 + 1 * (y 1).val = (y 1).val; omega

set_option maxHeartbeats 4000000 in
theorem hcat_eq : trip_run.sl.r_47 X v22 hw3 k e d0 = concatenate S16x1536 1 [⟨S16x256, hP X e d0 0⟩, ⟨S16x256, hP X e d0 1⟩, ⟨S16x256, hP X e d0 2⟩, ⟨S16x256, hP X e d0 3⟩, ⟨S16x256, hP X e d0 4⟩, ⟨S16x256, hP X e d0 5⟩] concatenates_S16x256_S16x256_S16x256_S16x256_S16x256_S16x256_S16x1536_d1 := by
  refine (hcat_reads X v22 hw3 k e d0).trans ?_
  rw [x_read]
  rw [rdG_eq X e (k.val % 2) 0 (k0_off55 v22 k) (k0_off55_inb v22 hw3 k) (k0_off55_eq v22 k),
    rdG_eq X e (k.val % 2) 1 (k0_off56 v22 k) (k0_off56_inb v22 hw3 k) (k0_off56_eq v22 k),
    rdG_eq X e (k.val % 2) 12 (k0_off57 v22 k) (k0_off57_inb v22 hw3 k) (k0_off57_eq v22 k),
    rdG_eq X e (k.val % 2) 13 (k0_off58 v22 k) (k0_off58_inb v22 hw3 k) (k0_off58_eq v22 k),
    rdG_eq X e (k.val % 2) 2 (k0_off59 v22 k) (k0_off59_inb v22 hw3 k) (k0_off59_eq v22 k),
    rdG_eq X e (k.val % 2) 3 (k0_off60 v22 k) (k0_off60_inb v22 hw3 k) (k0_off60_eq v22 k),
    rdG_eq X e (k.val % 2) 14 (k0_off61 v22 k) (k0_off61_inb v22 hw3 k) (k0_off61_eq v22 k),
    rdG_eq X e (k.val % 2) 15 (k0_off62 v22 k) (k0_off62_inb v22 hw3 k) (k0_off62_eq v22 k),
    rdG_eq X e (k.val % 2) 4 (k0_off63 v22 k) (k0_off63_inb v22 hw3 k) (k0_off63_eq v22 k),
    rdG_eq X e (k.val % 2) 5 (k0_off64 v22 k) (k0_off64_inb v22 hw3 k) (k0_off64_eq v22 k),
    rdG_eq X e (k.val % 2) 16 (k0_off65 v22 k) (k0_off65_inb v22 hw3 k) (k0_off65_eq v22 k),
    rdG_eq X e (k.val % 2) 17 (k0_off66 v22 k) (k0_off66_inb v22 hw3 k) (k0_off66_eq v22 k),
    rdG_eq X e (k.val % 2) 6 (k0_off67 v22 k) (k0_off67_inb v22 hw3 k) (k0_off67_eq v22 k),
    rdG_eq X e (k.val % 2) 7 (k0_off68 v22 k) (k0_off68_inb v22 hw3 k) (k0_off68_eq v22 k),
    rdG_eq X e (k.val % 2) 18 (k0_off69 v22 k) (k0_off69_inb v22 hw3 k) (k0_off69_eq v22 k),
    rdG_eq X e (k.val % 2) 19 (k0_off70 v22 k) (k0_off70_inb v22 hw3 k) (k0_off70_eq v22 k),
    rdG_eq X e (k.val % 2) 8 (k0_off71 v22 k) (k0_off71_inb v22 hw3 k) (k0_off71_eq v22 k),
    rdG_eq X e (k.val % 2) 9 (k0_off72 v22 k) (k0_off72_inb v22 hw3 k) (k0_off72_eq v22 k),
    rdG_eq X e (k.val % 2) 20 (k0_off73 v22 k) (k0_off73_inb v22 hw3 k) (k0_off73_eq v22 k),
    rdG_eq X e (k.val % 2) 21 (k0_off74 v22 k) (k0_off74_inb v22 hw3 k) (k0_off74_eq v22 k),
    rdG_eq X e (k.val % 2) 10 (k0_off75 v22 k) (k0_off75_inb v22 hw3 k) (k0_off75_eq v22 k),
    rdG_eq X e (k.val % 2) 11 (k0_off76 v22 k) (k0_off76_inb v22 hw3 k) (k0_off76_eq v22 k),
    rdG_eq X e (k.val % 2) 22 (k0_off77 v22 k) (k0_off77_inb v22 hw3 k) (k0_off77_eq v22 k),
    rdG_eq X e (k.val % 2) 23 (k0_off78 v22 k) (k0_off78_inb v22 hw3 k) (k0_off78_eq v22 k)]
  rw [scaleG0, scaleG1, scaleG2, scaleG3, scaleG4, scaleG5, scaleG6, scaleG7, scaleG8, scaleG9, scaleG10, scaleG11]
  rfl

/-- A piece of the accumulator after a trip. -/
def aP (j : Fin 8) (a : Vec Ideal S16x256 .f32) : FVec Ideal S16x256 .f32 :=
  pD (F := Ideal) (trip_run.sl.r_47 X v22 hw3 k e d0) (trip_run.sl.r_49 e v27 v30) (trip_run.sl.r_50 (F := Ideal) e v27) (wDt X e j) a
/-- A piece before it. -/
def aR (j : Fin 8) : Vec Ideal S16x256 .f32 := fun y => acc (ix2 (y 0) ⟨256 * j.val + (y 1).val, by have := j.isLt; have h : (y 1).val < 256 := (y 1).isLt; show _ < 2048; omega⟩)

theorem rdA_eq (j : Fin 8) (off : Fin 2 → ℕ) (inb : ∀ a, off a + S16x256.size a ≤ S16x2048.size a) (h : off = ![0, 256 * j.val]) : rdA acc off inb = aR acc j := by
  subst h
  funext y
  refine congrArg acc (funext fun a => Fin.ext ?_)
  fin_cases a
  · show 0 + 1 * (y 0).val = (y 0).val; omega
  · show 256 * j.val + 1 * (y 1).val = 256 * j.val + (y 1).val; omega

set_option maxHeartbeats 4000000 in
theorem trip_eq : (trip_run X v22 hw3 k e d0 v27 v30 acc).1 = (Memref.whole cc0_scratch6).view.writes (Elt Ideal) acc [
    ⟨Rect.unit (s := S16x2048) ![0, 1792] S16x256.size inb_S16x2048_S16x256_0_1792, (fun j => aP X e d0 v22 hw3 k v27 v30 j (aR acc j)) 7⟩, ⟨Rect.unit (s := S16x2048) ![0, 1536] S16x256.size inb_S16x2048_S16x256_0_1536, (fun j => aP X e d0 v22 hw3 k v27 v30 j (aR acc j)) 6⟩, ⟨Rect.unit (s := S16x2048) ![0, 1280] S16x256.size inb_S16x2048_S16x256_0_1280, (fun j => aP X e d0 v22 hw3 k v27 v30 j (aR acc j)) 5⟩, ⟨Rect.unit (s := S16x2048) ![0, 1024] S16x256.size inb_S16x2048_S16x256_0_1024, (fun j => aP X e d0 v22 hw3 k v27 v30 j (aR acc j)) 4⟩, ⟨Rect.unit (s := S16x2048) ![0, 768] S16x256.size inb_S16x2048_S16x256_0_768, (fun j => aP X e d0 v22 hw3 k v27 v30 j (aR acc j)) 3⟩, ⟨Rect.unit (s := S16x2048) ![0, 512] S16x256.size inb_S16x2048_S16x256_0_512, (fun j => aP X e d0 v22 hw3 k v27 v30 j (aR acc j)) 2⟩, ⟨Rect.unit (s := S16x2048) ![0, 256] S16x256.size inb_S16x2048_S16x256_0_256, (fun j => aP X e d0 v22 hw3 k v27 v30 j (aR acc j)) 1⟩, ⟨Rect.unit (s := S16x2048) ![0, 0] S16x256.size inb_S16x2048_S16x256_0_0, (fun j => aP X e d0 v22 hw3 k v27 v30 j (aR acc j)) 0⟩] := by
  refine (trip_reads X v22 hw3 k e d0 v27 v30 acc).trans ?_
  rw [rdD_eq X e (k.val % 2) 0 (k0_off79 v22 k) (k0_off79_inb v22 hw3 k) (k0_off79_eq v22 k),
    rdD_eq X e (k.val % 2) 1 (k0_off80 v22 k) (k0_off80_inb v22 hw3 k) (k0_off80_eq v22 k),
    rdD_eq X e (k.val % 2) 2 (k0_off81 v22 k) (k0_off81_inb v22 hw3 k) (k0_off81_eq v22 k),
    rdD_eq X e (k.val % 2) 3 (k0_off82 v22 k) (k0_off82_inb v22 hw3 k) (k0_off82_eq v22 k),
    rdD_eq X e (k.val % 2) 4 (k0_off83 v22 k) (k0_off83_inb v22 hw3 k) (k0_off83_eq v22 k),
    rdD_eq X e (k.val % 2) 5 (k0_off84 v22 k) (k0_off84_inb v22 hw3 k) (k0_off84_eq v22 k),
    rdD_eq X e (k.val % 2) 6 (k0_off85 v22 k) (k0_off85_inb v22 hw3 k) (k0_off85_eq v22 k),
    rdD_eq X e (k.val % 2) 7 (k0_off86 v22 k) (k0_off86_inb v22 hw3 k) (k0_off86_eq v22 k),
    rdD_eq X e (k.val % 2) 8 (k0_off87 v22 k) (k0_off87_inb v22 hw3 k) (k0_off87_eq v22 k),
    rdD_eq X e (k.val % 2) 9 (k0_off88 v22 k) (k0_off88_inb v22 hw3 k) (k0_off88_eq v22 k),
    rdD_eq X e (k.val % 2) 10 (k0_off89 v22 k) (k0_off89_inb v22 hw3 k) (k0_off89_eq v22 k),
    rdD_eq X e (k.val % 2) 11 (k0_off90 v22 k) (k0_off90_inb v22 hw3 k) (k0_off90_eq v22 k),
    rdD_eq X e (k.val % 2) 12 (k0_off91 v22 k) (k0_off91_inb v22 hw3 k) (k0_off91_eq v22 k),
    rdD_eq X e (k.val % 2) 13 (k0_off92 v22 k) (k0_off92_inb v22 hw3 k) (k0_off92_eq v22 k),
    rdD_eq X e (k.val % 2) 14 (k0_off93 v22 k) (k0_off93_inb v22 hw3 k) (k0_off93_eq v22 k),
    rdD_eq X e (k.val % 2) 15 (k0_off94 v22 k) (k0_off94_inb v22 hw3 k) (k0_off94_eq v22 k)]
  rw [scaleD0, scaleD1, scaleD2, scaleD3, scaleD4, scaleD5, scaleD6, scaleD7,
    rdA_eq acc 0 _ inb_S16x2048_S16x256_0_0 rfl, rdA_eq acc 1 _ inb_S16x2048_S16x256_0_256 rfl, rdA_eq acc 2 _ inb_S16x2048_S16x256_0_512 rfl, rdA_eq acc 3 _ inb_S16x2048_S16x256_0_768 rfl, rdA_eq acc 4 _ inb_S16x2048_S16x256_0_1024 rfl, rdA_eq acc 5 _ inb_S16x2048_S16x256_0_1280 rfl, rdA_eq acc 6 _ inb_S16x2048_S16x256_0_1536 rfl, rdA_eq acc 7 _ inb_S16x2048_S16x256_0_1792 rfl]
  rfl

/-- Whether a token chose the expert, -/
def maskE : BitVec 1 := BitVec.ofBool (decide ((0 : EReal) < ∑ j : Fin 8, Scalar.select (IntOp.cmpi .eq (v27 (ix2 j t)) (BitVec.ofNat 32 e.val)) 1 0))
/-- and with what weight. -/
def wdE : EReal := ∑ j : Fin 8, Scalar.select (IntOp.cmpi .eq (v27 (ix2 j t)) (BitVec.ofNat 32 e.val)) (v30 (ix2 j t)) (0 : EReal)

/-- The kernel's mask of an expert. -/
theorem mask_apply : trip_run.sl.r_50 (F := Ideal) e v27 (ix2 t (0 : Fin 1)) = maskE e t v27 := by
  unfold trip_run.sl.r_50 trip_run.sl.r_48 k0_pay115 k0_pay113 k0_pay2
  pointwise
  rfl
/-- The kernel's routing weight of an expert. -/
theorem wd_apply : trip_run.sl.r_49 (F := Ideal) e v27 v30 (ix2 t (0 : Fin 1)) = wdE e t v27 v30 := by
  unfold trip_run.sl.r_49 k0_pay114 k0_pay113 k0_pay2 k0_pay3
  pointwise
  rfl

theorem h_apply (hs : ∀ i, 2 ≤ (X.gus i).toNat ∧ (X.gus i).toNat ≤ 252) (n : Fin 1536) : trip_run.sl.r_47 X v22 hw3 k e d0 (ix2 t n) = hE X e d0 t n := by
  rw [hcat_eq]
  have hn := n.isLt
  have := (hcat_apply (hP X e d0) t ⟨n.val / 256, by omega⟩ ⟨n.val % 256, Nat.mod_lt _ (by decide)⟩).trans (hP_apply X e d0 t hs _ _)
  have hz : (⟨256 * (n.val / 256) + n.val % 256, by omega⟩ : Fin 1536) = n := Fin.ext (Nat.div_add_mod n.val 256)
  dsimp only at this
  rw [hz] at this
  exact this

/-- A trip adds its expert's share to the accumulator. -/
theorem trip_apply (hs : ∀ i, 2 ≤ (X.gus i).toNat ∧ (X.gus i).toNat ≤ 252) (hd : ∀ i, 2 ≤ (X.dns i).toNat ∧ (X.dns i).toNat ≤ 252) (C : Fin 2048) :
    (trip_run X v22 hw3 k e d0 v27 v30 acc).1 (ix2 t C) = acc (ix2 t C) + Scalar.select (maskE e t v27) (wdE e t v27 v30 * yE X e d0 t C) (0 : EReal) := by
  rw [trip_eq]
  have hC := C.isLt
  have := wr8 acc (fun j => aP X e d0 v22 hw3 k v27 v30 j (aR acc j)) t ⟨C.val / 256, by omega⟩ ⟨C.val % 256, Nat.mod_lt _ (by decide)⟩
  have hz : (⟨256 * (C.val / 256) + C.val % 256, by omega⟩ : Fin 2048) = C := Fin.ext (Nat.div_add_mod C.val 256)
  dsimp only at this
  rw [hz] at this
  refine this.trans ?_
  unfold aP pD
  pointwise
  rw [mask_apply, wd_apply]
  refine congrArg₂ (· + ·) ?_ (congrArg (fun z => Scalar.select (maskE e t v27) (wdE e t v27 v30 * z) (0 : EReal)) ?_)
  · exact congrArg acc (congrArg (ix2 t) hz)
  · rw [sum_halves 768 1536 rfl]
    unfold yE wDt
    refine congrArg₂ (· + ·) (Finset.sum_congr rfl fun r _ => ?_) (Finset.sum_congr rfl fun r _ => ?_)
    · rw [h_apply X e d0 t v22 hw3 k hs, wD_even X e _ r _ 0 (by decide) _ hd]; dsimp only; rw [hz]; rfl
    · rw [h_apply X e d0 t v22 hw3 k hs, wD_even X e _ r _ 1 (by decide) _ hd]; dsimp only; rw [hz]; rfl

end Cert.KernelIdeal.Hand
-- ==== Proof.SumI.lean ====
/-
  The kernel's result over the reals: every expert's share, those nobody chose sharing nothing.
-/
module

public import proofs.«01_k».proof.Proof.AddI
public import proofs.«01_k».proof.Proof.IdsI
public import proofs.«01_k».proof.Proof.ChkI
public import proofs.«01_k».proof.Proof.OffI

@[expose] public section

noncomputable section

namespace Cert.KernelIdeal.Hand

open Cert.KernelIdeal Cert.KernelIdeal.Gen
open Idealize.ShloMosaic Idealize.ShloMosaic.TcCoe Idealize.ShloMosaic.Tactic

/-- An expert is in the order if it is the first one or one of the marked ones below `k`. -/
theorem mem_orderOf (e0 : Fin 32) (w : BitVec 32) (k : ℕ) (hk : k ≤ 32) (e : Fin 32) : e ∈ orderOf e0 w k ↔ e = e0 ∨ (e.val < k ∧ w.getLsbD e.val = true) := by
  induction k with
  | zero => simp [orderOf]
  | succ k ih =>
    have ih := ih (by omega)
    rw [orderOf, dif_pos (by omega : k < 32)]
    by_cases hb : w.getLsbD k = true
    · rw [if_pos hb, List.mem_append, List.mem_singleton, ih]
      constructor
      · rintro ((h | h) | h)
        · exact .inl h
        · exact .inr ⟨by omega, h.2⟩
        · subst h; exact .inr ⟨Nat.lt_succ_self _, hb⟩
      · rintro (h | h)
        · exact .inl (.inl h)
        · by_cases h2 : e.val < k
          · exact .inl (.inr ⟨h2, h.2⟩)
          · exact .inr (Fin.ext (by have := h.1; show e.val = k; omega))
    · rw [if_neg hb, ih]
      constructor
      · rintro (h | h)
        · exact .inl h
        · exact .inr ⟨by omega, h.2⟩
      · rintro (h | h)
        · exact .inl h
        · refine .inr ⟨?_, h.2⟩
          by_contra h2
          have : e.val = k := by have := h.1; omega
          rw [this] at h; exact hb h.2

/-- No expert is in the order twice. -/
theorem nodup_orderOf (e0 : Fin 32) (w : BitVec 32) (hw : w.getLsbD e0.val = false) (k : ℕ) (hk : k ≤ 32) : (orderOf e0 w k).Nodup := by
  induction k with
  | zero => exact List.nodup_singleton _
  | succ k ih =>
    have ih := ih (by omega)
    rw [orderOf, dif_pos (by omega : k < 32)]
    by_cases hb : w.getLsbD k = true
    · rw [if_pos hb]
      refine List.nodup_append.mpr ⟨ih, List.nodup_singleton _, ?_⟩
      intro a ha b hb' hab
      rw [List.mem_singleton] at hb'
      subst hb' hab
      rcases (mem_orderOf e0 w k (by omega) _).mp ha with h1 | h1
      · rw [← h1] at hw; rw [show (⟨k, by omega⟩ : Fin 32).val = k from rfl] at hw; rw [hb] at hw; exact absurd hw (by decide)
      · have := h1.1; exact absurd this (Nat.lt_irrefl k)
    · rw [if_neg hb]; exact ih

variable (d1 : S8x16.Idx → BitVec 32) (hd : ∀ y, (d1 y).toNat < 32)

include hd in
/-- There is a word that marks the experts of the first `n` choices. -/
theorem marks_exists (n : ℕ) (hn : n ≤ 128) : ∃ w, Marks d1 n w := by
  induction n with
  | zero =>
    refine ⟨0#32, fun e he => ⟨fun h => absurd h (by simp), ?_⟩⟩
    rintro ⟨y, h, -⟩; omega
  | succ n ih =>
    obtain ⟨w, hw⟩ := ih (by omega)
    exact ⟨_, marks_step d1 hd n w hw (ix2 ⟨n / 16, by omega⟩ ⟨n % 16, Nat.mod_lt _ (by decide)⟩) (Nat.div_add_mod n 16)⟩

include hd in
/-- The chosen word marks the experts of all the choices. -/
theorem markOf_marks : Marks d1 128 (markOf d1) := by
  obtain ⟨w, hw⟩ := marks_exists d1 hd 128 (le_refl _)
  rw [markOf_eq d1 w hw]; exact hw

/-- No expert is visited twice. -/
theorem nodup_ordOf : (ordOf d1).Nodup := by
  refine nodup_orderOf _ _ ?_ 32 (le_refl _)
  unfold restOf
  rw [rest_bit]; simp

include hd in
/-- An expert that a token chose is taken. -/
theorem mem_ordOf (y : S8x16.Idx) (e : Fin 32) (h : (d1 y).toNat = e.val) : e ∈ ordOf d1 := by
  refine (mem_orderOf _ _ 32 (le_refl _) e).mpr ?_
  by_cases he : e = firstOf d1
  · exact .inl he
  · refine .inr ⟨e.isLt, ?_⟩
    unfold restOf
    rw [rest_bit, (markOf_marks d1 hd e.val e.isLt).mpr ⟨y, ?_, h⟩]
    · simp [Ne.symm he]
    · have h0 : (y 0).val < 8 := (y 0).isLt
      have h1 : (y 1).val < 16 := (y 1).isLt
      omega

/-- At most 32 experts are visited. -/
theorem len_ordOf : (ordOf d1).length ≤ 32 := by
  have := (nodup_ordOf d1).length_le_card
  rwa [Fintype.card_fin] at this

variable (X : Wts Ideal) (d0 : FVec Ideal S16x2048 .bf16) (d3 : Vec Ideal S8x16 .f32) (t : Fin 16)

/-- An expert's share. -/
def shareE (e : Fin 32) (C : Fin 2048) : EReal := Scalar.select (maskE e t d1) (wdE e t d1 d3 * yE X e d0 t C) (0 : EReal)

/-- After the visits to a list of experts the accumulator holds the sum of their shares. -/
theorem accN_apply (hs : ∀ i, 2 ≤ (X.gus i).toNat ∧ (X.gus i).toNat ≤ 252) (hds : ∀ i, 2 ≤ (X.dns i).toNat ∧ (X.dns i).toNat ≤ 252) (v22 : BitVec 32) (hw3 : k0_chk3 v22) (l : List (Fin 32)) (k : ℕ) (hk : k ≤ l.length) (ht : l.length ≤ (k0_t6_loop v22).trips) (C : Fin 2048) :
    accN X v22 hw3 l d0 d1 d3 k (ix2 t C) = ((l.take k).map fun e => shareE d1 X d0 d3 t e C).sum := by
  induction k with
  | zero =>
    rw [accN, k0_pay1]
    pointwise
    simp
  | succ k ih =>
    have ih := ih (by omega)
    rw [accN, dif_pos ⟨by omega, by omega⟩, trip_apply X _ d0 t v22 hw3 ⟨k, by omega⟩ d1 d3 _ hs hds C, ih, List.take_succ_eq_append_getElem (by omega), List.map_append, List.sum_append]
    refine congrArg (_ + ·) ?_
    rw [List.map_singleton, List.sum_singleton]
    rfl

include hd in
/-- An expert that is not visited has no share. -/
theorem share_zero (e : Fin 32) (he : e ∉ ordOf d1) (C : Fin 2048) : shareE d1 X d0 d3 t e C = 0 := by
  have hz : ∀ j : Fin 8, IntOp.cmpi .eq (d1 (ix2 j t)) (BitVec.ofNat 32 e.val) = 0#1 := by
    intro j
    have hne : d1 (ix2 j t) ≠ BitVec.ofNat 32 e.val := by
      intro h
      refine he (mem_ordOf d1 hd (ix2 j t) e ?_)
      rw [h, BitVec.toNat_ofNat]; have := e.isLt; omega
    show BitVec.ofBool (d1 (ix2 j t) == BitVec.ofNat 32 e.val) = 0#1
    rw [beq_eq_false_iff_ne.mpr hne]; rfl
  have hm : maskE e t d1 = 0#1 := by
    unfold maskE
    have : (∑ j : Fin 8, Scalar.select (IntOp.cmpi .eq (d1 (ix2 j t)) (BitVec.ofNat 32 e.val)) (1 : EReal) 0) = 0 :=
      Finset.sum_eq_zero fun j _ => by rw [hz j]; rfl
    rw [this]; simp
  unfold shareE
  rw [hm]; rfl

include hd in
/-- The kernel's output is the sum of the shares of all 32 experts. -/
theorem outOf_apply (hs : ∀ i, 2 ≤ (X.gus i).toNat ∧ (X.gus i).toNat ≤ 252) (hds : ∀ i, 2 ≤ (X.dns i).toNat ∧ (X.dns i).toNat ≤ 252) (C : Fin 2048) :
    outOf X d0 d1 d1 d3 (ix2 t C) = ∑ e : Fin 32, shareE d1 X d0 d3 t e C := by
  have hl := len_ordOf d1
  have hc : (cntOf d1).toNat = (ordOf d1).length := by unfold cntOf; rw [BitVec.toNat_ofNat]; omega
  have hchk : k0_chk3 (cntOf d1) := k0_chk3_of _ (by omega)
  have htr : (k0_t6_loop (cntOf d1)).trips = (ordOf d1).length := by rw [t6_trips_nat _ (by omega), hc]
  unfold outOf
  rw [dif_pos hchk]
  refine (?_ : _ = accN X (cntOf d1) hchk (ordOf d1) d0 d1 d3 (ordOf d1).length (ix2 t C)).trans ?_
  · unfold k0_pay6; rfl
  rw [accN_apply d1 X d0 d3 t hs hds _ _ _ _ (le_refl _) (by omega), List.take_length, ← List.sum_toFinset _ (nodup_ordOf d1)]
  refine Finset.sum_subset (Finset.subset_univ _) fun e _ he => ?_
  exact share_zero d1 hd X d0 d3 t e (fun h => he (List.mem_toFinset.mpr h)) C

end Cert.KernelIdeal.Hand
-- ==== Proof.RefI.lean ====
/-
  The reference's result over the reals, read at an index, in the kernel's terms.
-/
module

public import proofs.«01_k».proof.Proof.SumI
public import proofs.«01_k».proof.Proof.Gen.ReferenceIdeal.Read
public import Idealize.ShloMosaic.Lib.IdealHost

@[expose] public section

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (refLo refHi refW gE dE guE hE yE maskE wdE shareE Wts)

/-- A reduction by `or` is one when an element of it is. -/
theorem foldl_ori {ι : Type} (f : ι → BitVec 1) : ∀ (l : List ι) (r : BitVec 1), l.foldl (fun r n => IntOp.ori r (f n)) r = 1#1 ↔ r = 1#1 ∨ ∃ n ∈ l, f n = 1#1
  | [], r => by simp
  | a :: l, r => by
    have h : ∀ x y : BitVec 1, IntOp.ori x y = 1#1 ↔ x = 1#1 ∨ y = 1#1 := by decide
    rw [List.foldl_cons, foldl_ori f l, h]
    simp [or_assoc]

/-- A disjunction over an axis is true if one of its members is. -/
theorem reduce_ori {s t u : Shape} {axes : List (Fin s.rank)} (x : s.Idx → BitVec 1) (init : u.Idx → BitVec 1) (h : s.ReducesTo axes t) (hu : 0 < u.numel) (j : t.Idx)
    (hi : init (Shape.Idx.first hu) = 0#1) : Host.reduce IntOp.ori x init h hu j = 1#1 ↔ ∃ i, h.drop i = j ∧ x i = 1#1 := by
  unfold Host.reduce
  rw [foldl_ori (fun n => x (s.rowMajor.symm n)), hi]
  constructor
  · rintro (h0 | ⟨n, hn, hx⟩)
    · exact absurd h0 (by decide)
    · exact ⟨_, by simpa using (List.mem_filter.mp hn).2, hx⟩
  · rintro ⟨i, hd, hx⟩
    refine .inr ⟨s.rowMajor i, List.mem_filter.mpr ⟨List.mem_finRange _, ?_⟩, ?_⟩
    · simpa using hd
    · simpa using hx

variable (x0 : (⟨S16x1x2048, .bf16⟩ : BufTy).Contents (Elt Ideal)) (x1 : (⟨S16x1x8, .i32⟩ : BufTy).Contents (Elt Ideal)) (x2 : (⟨S16x1x8, .f32⟩ : BufTy).Contents (Elt Ideal)) (x3 : (⟨S32x3072x64x16, .i8⟩ : BufTy).Contents (Elt Ideal)) (x4 : (⟨S32x3072x64, .i8⟩ : BufTy).Contents (Elt Ideal)) (x5 : (⟨S32x2048x48x16, .i8⟩ : BufTy).Contents (Elt Ideal)) (x6 : (⟨S32x2048x48, .i8⟩ : BufTy).Contents (Elt Ideal))

set_option maxHeartbeats 4000000 in
/-- The reference's gate-up weight of the low code of a byte. -/
theorem v56_eq (e : Fin 32) (C : Fin 3072) (a : Fin 64) (b : Fin 16) : val_main_v56 (F := Ideal) x3 x4 (ix4 e C a b) = Ideal.ofBits .bf16 (refLo (x3 (ix4 e C a b)) (x4 (ix3 e C a))) := by
  have e1 : idx_main_v17 (idx_main_v34 (ix4 e C a b)) = ix3 e C a := by funext k; fin_cases k <;> rfl
  have e2 : idx_main_v17 (idx_main_call1_v0 (ix4 e C a b)) = ix3 e C a := by funext k; fin_cases k <;> rfl
  simp only [val_main_v15_apply, val_main_v16_apply, val_main_v17_apply, val_main_c_1_apply, val_main_v18_apply, val_main_v19_apply, val_main_c_2_apply, val_main_v20_apply, val_main_v21_apply, val_main_c_3_apply, val_main_v22_apply, val_main_v23_apply, val_main_c_4_apply, val_main_v24_apply, val_main_v25_apply, val_main_c_5_apply, val_main_v26_apply, val_main_v27_apply, val_main_c_6_apply, val_main_v28_apply, val_main_v29_apply, val_main_c_7_apply, val_main_v30_apply, val_main_v31_apply, val_main_c_8_apply, val_main_v32_apply, val_main_v33_apply, val_main_v34_apply, val_main_v35_apply, val_main_c_9_apply, val_main_v36_apply, val_main_v37_apply, val_main_call1_v0_apply, val_main_v38_apply, val_main_c_10_apply, val_main_v39_apply, val_main_v40_apply, val_main_c_11_apply, val_main_v41_apply, val_main_v42_apply, val_main_c_12_apply, val_main_call2_v0_apply, val_main_call2_v1_apply, val_main_v43_apply, val_main_c_13_apply, val_main_v44_apply, val_main_v45_apply, val_main_c_14_apply, val_main_v46_apply, val_main_v47_apply, val_main_c_15_apply, val_main_v48_apply, val_main_v49_apply, val_main_c_16_apply, val_main_v50_apply, val_main_v51_apply, val_main_v52_apply, val_main_c_17_apply, val_main_call3_v0_apply, val_main_call3_v1_apply, val_main_v53_apply, val_main_v54_apply, val_main_v55_apply, val_main_v56_apply]
  rw [e1]
  rfl

/-- The same by row. -/
theorem v57_eq (e : Fin 32) (C : Fin 3072) (r : Fin 1024) : val_main_v57 (F := Ideal) x3 x4 (ix3 e C r) = Ideal.ofBits .bf16 (refLo (x3 (ix4 e C ⟨r.val / 16, by have := r.isLt; omega⟩ ⟨r.val % 16, Nat.mod_lt _ (by decide)⟩)) (x4 (ix3 e C ⟨r.val / 16, by have := r.isLt; omega⟩))) := by
  rw [val_main_v57_apply, ← v56_eq]
  refine congrArg _ (funext fun k => Fin.ext ?_)
  have h0 := e.isLt
  have h1 := C.isLt
  have h2 := r.isLt
  fin_cases k
  · show ((e.val * 3072 + C.val) * 1024 + r.val) / 3145728 = e.val; omega
  · show ((e.val * 3072 + C.val) * 1024 + r.val) / 1024 % 3072 = C.val; omega
  · show ((e.val * 3072 + C.val) * 1024 + r.val) / 16 % 64 = r.val / 16; omega
  · show ((e.val * 3072 + C.val) * 1024 + r.val) % 16 = r.val % 16; omega

set_option maxHeartbeats 4000000 in
/-- The reference's gate-up weight of the high code of a byte. -/
theorem v96_eq (e : Fin 32) (C : Fin 3072) (a : Fin 64) (b : Fin 16) : val_main_v96 (F := Ideal) x3 x4 (ix4 e C a b) = Ideal.ofBits .bf16 (refHi (x3 (ix4 e C a b)) (x4 (ix3 e C a))) := by
  have e1 : idx_main_v17 (idx_main_v74 (ix4 e C a b)) = ix3 e C a := by funext k; fin_cases k <;> rfl
  have e2 : idx_main_v17 (idx_main_call4_v0 (ix4 e C a b)) = ix3 e C a := by funext k; fin_cases k <;> rfl
  simp only [val_main_v15_apply, val_main_v16_apply, val_main_v17_apply, val_main_c_18_apply, val_main_v58_apply, val_main_v59_apply, val_main_c_19_apply, val_main_v60_apply, val_main_v61_apply, val_main_c_20_apply, val_main_v62_apply, val_main_v63_apply, val_main_c_21_apply, val_main_v64_apply, val_main_v65_apply, val_main_c_22_apply, val_main_v66_apply, val_main_v67_apply, val_main_c_23_apply, val_main_v68_apply, val_main_v69_apply, val_main_c_24_apply, val_main_v70_apply, val_main_v71_apply, val_main_c_25_apply, val_main_v72_apply, val_main_v73_apply, val_main_v74_apply, val_main_v75_apply, val_main_c_26_apply, val_main_v76_apply, val_main_v77_apply, val_main_call4_v0_apply, val_main_v78_apply, val_main_c_27_apply, val_main_v79_apply, val_main_v80_apply, val_main_c_28_apply, val_main_v81_apply, val_main_v82_apply, val_main_c_29_apply, val_main_call5_v0_apply, val_main_call5_v1_apply, val_main_v83_apply, val_main_c_30_apply, val_main_v84_apply, val_main_v85_apply, val_main_c_31_apply, val_main_v86_apply, val_main_v87_apply, val_main_c_32_apply, val_main_v88_apply, val_main_v89_apply, val_main_c_33_apply, val_main_v90_apply, val_main_v91_apply, val_main_v92_apply, val_main_c_34_apply, val_main_call6_v0_apply, val_main_call6_v1_apply, val_main_v93_apply, val_main_v94_apply, val_main_v95_apply, val_main_v96_apply]
  rw [e1]
  rfl

/-- The same by row. -/
theorem v97_eq (e : Fin 32) (C : Fin 3072) (r : Fin 1024) : val_main_v97 (F := Ideal) x3 x4 (ix3 e C r) = Ideal.ofBits .bf16 (refHi (x3 (ix4 e C ⟨r.val / 16, by have := r.isLt; omega⟩ ⟨r.val % 16, Nat.mod_lt _ (by decide)⟩)) (x4 (ix3 e C ⟨r.val / 16, by have := r.isLt; omega⟩))) := by
  rw [val_main_v97_apply, ← v96_eq]
  refine congrArg _ (funext fun k => Fin.ext ?_)
  have h0 := e.isLt
  have h1 := C.isLt
  have h2 := r.isLt
  fin_cases k
  · show ((e.val * 3072 + C.val) * 1024 + r.val) / 3145728 = e.val; omega
  · show ((e.val * 3072 + C.val) * 1024 + r.val) / 1024 % 3072 = C.val; omega
  · show ((e.val * 3072 + C.val) * 1024 + r.val) / 16 % 64 = r.val / 16; omega
  · show ((e.val * 3072 + C.val) * 1024 + r.val) % 16 = r.val % 16; omega

set_option maxHeartbeats 4000000 in
/-- The reference's down weight of the low code of a byte. -/
theorem v139_eq (e : Fin 32) (C : Fin 2048) (a : Fin 48) (b : Fin 16) : val_main_v139 (F := Ideal) x5 x6 (ix4 e C a b) = Ideal.ofBits .bf16 (refLo (x5 (ix4 e C a b)) (x6 (ix3 e C a))) := by
  have e1 : idx_main_v100 (idx_main_v117 (ix4 e C a b)) = ix3 e C a := by funext k; fin_cases k <;> rfl
  have e2 : idx_main_v100 (idx_main_call7_v0 (ix4 e C a b)) = ix3 e C a := by funext k; fin_cases k <;> rfl
  simp only [val_main_v98_apply, val_main_v99_apply, val_main_v100_apply, val_main_c_35_apply, val_main_v101_apply, val_main_v102_apply, val_main_c_36_apply, val_main_v103_apply, val_main_v104_apply, val_main_c_37_apply, val_main_v105_apply, val_main_v106_apply, val_main_c_38_apply, val_main_v107_apply, val_main_v108_apply, val_main_c_39_apply, val_main_v109_apply, val_main_v110_apply, val_main_c_40_apply, val_main_v111_apply, val_main_v112_apply, val_main_c_41_apply, val_main_v113_apply, val_main_v114_apply, val_main_c_42_apply, val_main_v115_apply, val_main_v116_apply, val_main_v117_apply, val_main_v118_apply, val_main_c_43_apply, val_main_v119_apply, val_main_v120_apply, val_main_call7_v0_apply, val_main_v121_apply, val_main_c_44_apply, val_main_v122_apply, val_main_v123_apply, val_main_c_45_apply, val_main_v124_apply, val_main_v125_apply, val_main_c_46_apply, val_main_call8_v0_apply, val_main_call8_v1_apply, val_main_v126_apply, val_main_c_47_apply, val_main_v127_apply, val_main_v128_apply, val_main_c_48_apply, val_main_v129_apply, val_main_v130_apply, val_main_c_49_apply, val_main_v131_apply, val_main_v132_apply, val_main_c_50_apply, val_main_v133_apply, val_main_v134_apply, val_main_v135_apply, val_main_c_51_apply, val_main_call9_v0_apply, val_main_call9_v1_apply, val_main_v136_apply, val_main_v137_apply, val_main_v138_apply, val_main_v139_apply]
  rw [e1]
  rfl

/-- The same by row. -/
theorem v140_eq (e : Fin 32) (C : Fin 2048) (r : Fin 768) : val_main_v140 (F := Ideal) x5 x6 (ix3 e C r) = Ideal.ofBits .bf16 (refLo (x5 (ix4 e C ⟨r.val / 16, by have := r.isLt; omega⟩ ⟨r.val % 16, Nat.mod_lt _ (by decide)⟩)) (x6 (ix3 e C ⟨r.val / 16, by have := r.isLt; omega⟩))) := by
  rw [val_main_v140_apply, ← v139_eq]
  refine congrArg _ (funext fun k => Fin.ext ?_)
  have h0 := e.isLt
  have h1 := C.isLt
  have h2 := r.isLt
  fin_cases k
  · show ((e.val * 2048 + C.val) * 768 + r.val) / 1572864 = e.val; omega
  · show ((e.val * 2048 + C.val) * 768 + r.val) / 768 % 2048 = C.val; omega
  · show ((e.val * 2048 + C.val) * 768 + r.val) / 16 % 48 = r.val / 16; omega
  · show ((e.val * 2048 + C.val) * 768 + r.val) % 16 = r.val % 16; omega

set_option maxHeartbeats 4000000 in
/-- The reference's down weight of the high code of a byte. -/
theorem v179_eq (e : Fin 32) (C : Fin 2048) (a : Fin 48) (b : Fin 16) : val_main_v179 (F := Ideal) x5 x6 (ix4 e C a b) = Ideal.ofBits .bf16 (refHi (x5 (ix4 e C a b)) (x6 (ix3 e C a))) := by
  have e1 : idx_main_v100 (idx_main_v157 (ix4 e C a b)) = ix3 e C a := by funext k; fin_cases k <;> rfl
  have e2 : idx_main_v100 (idx_main_call10_v0 (ix4 e C a b)) = ix3 e C a := by funext k; fin_cases k <;> rfl
  simp only [val_main_v98_apply, val_main_v99_apply, val_main_v100_apply, val_main_c_52_apply, val_main_v141_apply, val_main_v142_apply, val_main_c_53_apply, val_main_v143_apply, val_main_v144_apply, val_main_c_54_apply, val_main_v145_apply, val_main_v146_apply, val_main_c_55_apply, val_main_v147_apply, val_main_v148_apply, val_main_c_56_apply, val_main_v149_apply, val_main_v150_apply, val_main_c_57_apply, val_main_v151_apply, val_main_v152_apply, val_main_c_58_apply, val_main_v153_apply, val_main_v154_apply, val_main_c_59_apply, val_main_v155_apply, val_main_v156_apply, val_main_v157_apply, val_main_v158_apply, val_main_c_60_apply, val_main_v159_apply, val_main_v160_apply, val_main_call10_v0_apply, val_main_v161_apply, val_main_c_61_apply, val_main_v162_apply, val_main_v163_apply, val_main_c_62_apply, val_main_v164_apply, val_main_v165_apply, val_main_c_63_apply, val_main_call11_v0_apply, val_main_call11_v1_apply, val_main_v166_apply, val_main_c_64_apply, val_main_v167_apply, val_main_v168_apply, val_main_c_65_apply, val_main_v169_apply, val_main_v170_apply, val_main_c_66_apply, val_main_v171_apply, val_main_v172_apply, val_main_c_67_apply, val_main_v173_apply, val_main_v174_apply, val_main_v175_apply, val_main_c_68_apply, val_main_call12_v0_apply, val_main_call12_v1_apply, val_main_v176_apply, val_main_v177_apply, val_main_v178_apply, val_main_v179_apply]
  rw [e1]
  rfl

/-- The same by row. -/
theorem v180_eq (e : Fin 32) (C : Fin 2048) (r : Fin 768) : val_main_v180 (F := Ideal) x5 x6 (ix3 e C r) = Ideal.ofBits .bf16 (refHi (x5 (ix4 e C ⟨r.val / 16, by have := r.isLt; omega⟩ ⟨r.val % 16, Nat.mod_lt _ (by decide)⟩)) (x6 (ix3 e C ⟨r.val / 16, by have := r.isLt; omega⟩))) := by
  rw [val_main_v180_apply, ← v179_eq]
  refine congrArg _ (funext fun k => Fin.ext ?_)
  have h0 := e.isLt
  have h1 := C.isLt
  have h2 := r.isLt
  fin_cases k
  · show ((e.val * 2048 + C.val) * 768 + r.val) / 1572864 = e.val; omega
  · show ((e.val * 2048 + C.val) * 768 + r.val) / 768 % 2048 = C.val; omega
  · show ((e.val * 2048 + C.val) * 768 + r.val) / 16 % 48 = r.val / 16; omega
  · show ((e.val * 2048 + C.val) * 768 + r.val) % 16 = r.val % 16; omega

/-- The even columns of the activations. -/
theorem v181_eq (t : Fin 16) (r : Fin 1024) : val_main_v181 (F := Ideal) x0 (ix2 t r) = x0 (ix3 t 0 ⟨2 * r.val + 0, by have := r.isLt; omega⟩) := by
  unfold val_main_v181 Host.slice
  rw [val_main_v0_apply]
  refine congrArg x0 (funext fun k => Fin.ext ?_)
  have h0 := t.isLt
  have h2 := r.isLt
  fin_cases k
  · show ((0 + 1 * t.val) * 2048 + (0 + 2 * r.val)) / 2048 = t.val; omega
  · rfl
  · show ((0 + 1 * t.val) * 2048 + (0 + 2 * r.val)) % 2048 = 2 * r.val + 0; omega

/-- The odd columns of the activations. -/
theorem v184_eq (t : Fin 16) (r : Fin 1024) : val_main_v184 (F := Ideal) x0 (ix2 t r) = x0 (ix3 t 0 ⟨2 * r.val + 1, by have := r.isLt; omega⟩) := by
  unfold val_main_v184 Host.slice
  rw [val_main_v0_apply]
  refine congrArg x0 (funext fun k => Fin.ext ?_)
  have h0 := t.isLt
  have h2 := r.isLt
  fin_cases k
  · show ((0 + 1 * t.val) * 2048 + (1 + 2 * r.val)) / 2048 = t.val; omega
  · rfl
  · show ((0 + 1 * t.val) * 2048 + (1 + 2 * r.val)) % 2048 = 2 * r.val + 1; omega

variable (X : Wts Ideal) (d0 : FVec Ideal Cert.KernelIdeal.S16x2048 .bf16) (d1 : Cert.KernelIdeal.S8x16.Idx → BitVec 32) (d3 : Vec Ideal Cert.KernelIdeal.S8x16 .f32)
/-- The kernel's arrays are the arguments, their axes in another order. -/
structure Same : Prop where
  x : ∀ (t : Fin 16) (k : Fin 2048), d0 (ix2 t k) = x0 (ix3 t 0 k)
  id : ∀ (t : Fin 16) (j : Fin 8), d1 (ix2 j t) = x1 (ix3 t 0 j)
  wd : ∀ (t : Fin 16) (j : Fin 8), d3 (ix2 j t) = x2 (ix3 t 0 j)
  gu : ∀ (e : Fin 32) (C : Fin 3072) (a : Fin 64) (b : Fin 16), X.gu (ix4 e a b C) = x3 (ix4 e C a b)
  gus : ∀ (e : Fin 32) (C : Fin 3072) (a : Fin 64), X.gus (ix3 e a C) = x4 (ix3 e C a)
  dn : ∀ (e : Fin 32) (C : Fin 2048) (a : Fin 48) (b : Fin 16), X.dn (ix4 e a b C) = x5 (ix4 e C a b)
  dns : ∀ (e : Fin 32) (C : Fin 2048) (a : Fin 48), X.dns (ix3 e a C) = x6 (ix3 e C a)

variable {X d0 d1 d3 x0 x1 x2 x3 x4 x5 x6} (hS : Same x0 x1 x2 x3 x4 x5 x6 X d0 d1 d3)

include hS
/-- The reference's gate and up rows are the kernel's. -/
theorem v187_eq (e : Fin 32) (t : Fin 16) (C : Fin 3072) : val_main_v187 (F := Ideal) x0 x3 x4 (ix3 e t C) = guE X e d0 t C := by
  rw [val_main_v187_apply, val_main_v183_apply, val_main_v186_apply, val_main_v182_apply, val_main_v185_apply]
  unfold guE gE
  refine congrArg₂ (· + ·) (Finset.sum_congr rfl fun r _ => ?_) (Finset.sum_congr rfl fun r _ => ?_)
  · rw [show lidx_main_v182 (idx_main_v183 (ix3 e t C)) r = ix3 e C r from by funext k; fin_cases k <;> rfl, show ridx_main_v182 (idx_main_v183 (ix3 e t C)) r = ix2 t r from by funext k; fin_cases k <;> rfl]
    rw [v57_eq, v181_eq, hS.x, hS.gu, hS.gus, mul_comm]; rfl
  · rw [show lidx_main_v185 (idx_main_v186 (ix3 e t C)) r = ix3 e C r from by funext k; fin_cases k <;> rfl, show ridx_main_v185 (idx_main_v186 (ix3 e t C)) r = ix2 t r from by funext k; fin_cases k <;> rfl]
    rw [v97_eq, v184_eq, hS.x, hS.gu, hS.gus, mul_comm]; rfl

/-- The reference's hidden row is the kernel's. -/
theorem v192_eq (e : Fin 32) (t : Fin 16) (n : Fin 1536) : val_main_v192 (F := Ideal) x0 x3 x4 (ix3 e t n) = hE X e d0 t n := by
  have e1 : idx_main_v188 (ix3 e t n) = ix3 e t ⟨n.val, by have := n.isLt; omega⟩ := by funext k; fin_cases k <;> rfl
  have e2 : idx_main_v189 (ix3 e t n) = ix3 e t ⟨1536 + n.val, by have := n.isLt; omega⟩ := by funext k; fin_cases k <;> rfl
  simp only [val_main_v188_apply, val_main_v189_apply, val_main_call13_v0_apply, val_main_call13_v1_apply, val_main_call13_cst_apply, val_main_call13_v2_apply, val_main_call13_v3_apply, val_main_call13_cst_0_apply, val_main_call13_v4_apply, val_main_call13_v5_apply, val_main_v190_apply, val_main_v191_apply, val_main_v192_apply]
  rw [e1, e2, v187_eq hS, v187_eq hS]
  unfold hE Ideal.logistic
  have h1 : Ideal.ofBits .f32 0x3F800000#32 = 1 := Ideal.ofBits_one_f32
  show _ * Ideal.div (Ideal.ofBits .f32 0x3F800000#32) (Ideal.ofBits .f32 0x3F800000#32 + Ideal.exp (- _)) * _ = _
  rw [h1]

/-- The reference's expert output is the kernel's. -/
theorem v197_eq (e : Fin 32) (t : Fin 16) (C : Fin 2048) : val_main_v197 (F := Ideal) x0 x3 x4 x5 x6 (ix3 e t C) = yE X e d0 t C := by
  rw [val_main_v197_apply, val_main_v194_apply, val_main_v196_apply]
  unfold yE dE
  refine congrArg₂ (· + ·) (Finset.sum_congr rfl fun r _ => ?_) (Finset.sum_congr rfl fun r _ => ?_)
  · rw [show lidx_main_v194 (ix3 e t C) r = ix3 e t r from by funext k; fin_cases k <;> rfl, show ridx_main_v194 (ix3 e t C) r = ix3 e C r from by funext k; fin_cases k <;> rfl]
    rw [v140_eq, hS.dn, hS.dns, ← v192_eq hS]
    refine congrArg₂ (· * ·) ?_ rfl
    unfold val_main_v193 Host.slice
    refine congrArg _ (funext fun k => Fin.ext ?_)
    fin_cases k
    · show 0 + 1 * e.val = e.val; omega
    · show 0 + 1 * t.val = t.val; omega
    · show 0 + 2 * r.val = 2 * r.val + 0; omega
  · rw [show lidx_main_v196 (ix3 e t C) r = ix3 e t r from by funext k; fin_cases k <;> rfl, show ridx_main_v196 (ix3 e t C) r = ix3 e C r from by funext k; fin_cases k <;> rfl]
    rw [v180_eq, hS.dn, hS.dns, ← v192_eq hS]
    refine congrArg₂ (· * ·) ?_ rfl
    unfold val_main_v195 Host.slice
    refine congrArg _ (funext fun k => Fin.ext ?_)
    fin_cases k
    · show 0 + 1 * e.val = e.val; omega
    · show 0 + 1 * t.val = t.val; omega
    · show 1 + 2 * r.val = 2 * r.val + 1; omega

/-- A choice is of an expert if its number is the expert's. -/
theorem v8_eq (t : Fin 16) (j : Fin 8) (e : Fin 32) : val_main_v8 (F := Ideal) x1 (ix3 t j e) = IntOp.cmpi .eq (d1 (ix2 j t)) (BitVec.ofNat 32 e.val) := by
  rw [hS.id]
  simp only [val_main_v1_apply, val_main_v2_apply, val_main_v3_apply, val_main_v4_apply, val_main_v5_apply, val_main_v6_apply, val_main_v7_apply, val_main_v8_apply]
  refine congrArg (fun z => IntOp.cmpi .eq (x1 z) (BitVec.ofNat 32 e.val)) (funext fun k => Fin.ext ?_)
  have h0 := t.isLt
  have h2 := j.isLt
  fin_cases k
  · show (t.val * 8 + j.val) / 8 = t.val; omega
  · rfl
  · show (t.val * 8 + j.val) % 8 = j.val; omega

/-- The reference's routing weight is the kernel's. -/
theorem v11_eq (t : Fin 16) (e : Fin 32) : val_main_v11 (F := Ideal) x1 x2 (ix2 t e) = wdE e t d1 d3 := by
  rw [val_main_v11_apply, show val_main_cst_0 (F := Ideal) (Shape.Idx.first h_S_) = (0 : EReal) from Ideal.ofBits_zero_f32, zero_add]
  unfold wdE
  refine Finset.sum_congr rfl fun j _ => ?_
  rw [show idx_main_v11 (ix2 t e) j = ix3 t j e from by funext k; fin_cases k <;> rfl, val_main_v10_apply, v8_eq hS, hS.wd]
  simp only [val_main_call0_v0_apply, val_main_call0_v1_apply, val_main_call0_v2_apply, val_main_v9_apply, val_main_v2_apply, val_main_cst_apply]
  refine congrArg₂ (Scalar.select _) (congrArg x2 (funext fun k => Fin.ext ?_)) (Ideal.ofBits_zero_f32)
  have h0 := t.isLt
  have h2 := j.isLt
  fin_cases k
  · show (t.val * 8 + j.val) / 8 = t.val; omega
  · rfl
  · show (t.val * 8 + j.val) % 8 = j.val; omega

/-- The reference's mask is the kernel's. -/
theorem v13_eq (t : Fin 16) (e : Fin 32) : val_main_v13 (F := Ideal) x1 (ix2 t e) = maskE e t d1 := by
  have hb : ∀ a b : BitVec 1, (a = 1#1 ↔ b = 1#1) → a = b := by decide
  refine hb _ _ ?_
  unfold val_main_v13
  rw [reduce_ori _ _ _ _ _ (by rfl)]
  have hbit : ∀ (w : BitVec 1), Scalar.select w (1 : EReal) 0 = if w = 1#1 then 1 else 0 := fun w => rfl
  have hpos : ∀ (w : BitVec 1), (0 : EReal) ≤ Scalar.select w (1 : EReal) 0 := fun w => by
    rw [hbit]; split
    · exact zero_le_one
    · exact le_refl _
  unfold maskE
  have hof : ∀ b : Bool, BitVec.ofBool b = 1#1 ↔ b = true := by decide
  rw [hof, decide_eq_true_iff]
  constructor
  · rintro ⟨i, hd, hx⟩
    obtain ⟨k, hk⟩ := (Shape.ReducesTo.fiber_r3_a1 reducesTo_S16x8x32_S16x32_d1 (ix2 t e) i).mp hd
    have hi : i = ix3 t k e := hk.symm
    rw [hi, v8_eq hS] at hx
    refine lt_of_lt_of_le ?_ (Finset.single_le_sum (fun j _ => hpos _) (Finset.mem_univ k))
    rw [hbit, if_pos hx]
    exact zero_lt_one
  · intro h
    by_contra hn
    refine absurd h (not_lt.mpr (le_of_eq (Finset.sum_eq_zero fun j _ => ?_)))
    rw [hbit, if_neg]
    intro hj
    refine hn ⟨ix3 t j e, (Shape.ReducesTo.fiber_r3_a1 reducesTo_S16x8x32_S16x32_d1 (ix2 t e) _).mpr ⟨j, rfl⟩, ?_⟩
    rw [v8_eq hS]; exact hj

/-- The reference's term of an expert is the expert's share. -/
theorem v202_eq (e : Fin 32) (t : Fin 16) (C : Fin 2048) : val_main_v202 (F := Ideal) x0 x1 x2 x3 x4 x5 x6 (ix3 e t C) = shareE d1 X d0 d3 t e C := by
  simp only [val_main_v202_apply, val_main_call14_v0_apply, val_main_call14_v1_apply, val_main_call14_v2_apply, val_main_v198_apply, val_main_v14_apply, val_main_v201_apply, val_main_v200_apply, val_main_v199_apply, val_main_v12_apply, val_main_cst_69_apply]
  rw [v197_eq hS, show idx_main_v14 (idx_main_v198 (idx_main_call14_v1 (ix3 e t C))) = ix2 t e from by funext k; fin_cases k <;> rfl, show idx_main_v12 (idx_main_v199 (idx_main_v200 (ix3 e t C))) = ix2 t e from by funext k; fin_cases k <;> rfl, v11_eq hS, v13_eq hS]
  unfold shareE
  exact congrArg (Scalar.select _ _) (Ideal.ofBits_zero_f32)

/-- The reference's result is the sum of the shares of all 32 experts. -/
theorem v205_eq (t : Fin 16) (C : Fin 2048) : val_main_v205 (F := Ideal) x0 x1 x2 x3 x4 x5 x6 (ix3 t 0 C) = ∑ e : Fin 32, shareE d1 X d0 d3 t e C := by
  have h0 := t.isLt
  have h2 := C.isLt
  have e1 : idx_main_v205 (ix3 t 0 C) = ix2 t C := by
    funext k; refine Fin.ext ?_
    fin_cases k
    · show ((t.val * 1 + 0) * 2048 + C.val) / 2048 = t.val; omega
    · show ((t.val * 1 + 0) * 2048 + C.val) % 2048 = C.val; omega
  rw [val_main_v205_apply, e1, val_main_v204_apply]
  refine (val_main_v203_apply x0 x1 x2 x3 x4 x5 x6 (ix2 t C)).trans ?_
  rw [show val_main_cst_70 (F := Ideal) (Shape.Idx.first h_S_) = (0 : EReal) from Ideal.ofBits_zero_f32, zero_add]
  refine Finset.sum_congr rfl fun e _ => ?_
  rw [show idx_main_v203 (ix2 t C) e = ix3 e t C from by funext k; fin_cases k <;> rfl, v202_eq hS]

end Cert.ReferenceIdeal.Hand
-- ==== Proof.ResI.lean ====
/-
  The kernel's result in its arguments: the arrays it is handed are the arguments, the result is what its one point leaves.
-/
module

public import proofs.«01_k».proof.Proof.RefI

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ) (c : Dev nD)

theorem V_v0' : V m c main_v0 = shapeCast S16x2048 (m ((c : Thread nD τ).loc main_arg0)) shapeCasts_S16x1x2048_S16x2048 := by
  simp only [V, V0, List.flatten_cons, List.flatten_nil, List.append_nil, hostOps0]
  after_results
  try rfl
theorem V_v4' : V m c main_v4 = transpose S8x16 [1, 0] (shapeCast S16x8 (m ((c : Thread nD τ).loc main_arg2)) shapeCasts_S16x1x8_S16x8) transposes_S16x8_S8x16_1_0 := by
  simp only [V, V0, List.flatten_cons, List.flatten_nil, List.append_nil, hostOps0]
  after_results
  try rfl
theorem V_v5' : V m c main_v5 = transpose S32x64x16x3072 [0, 2, 3, 1] (m ((c : Thread nD τ).loc main_arg3)) transposes_S32x3072x64x16_S32x64x16x3072_0_2_3_1 := by
  simp only [V, V0, List.flatten_cons, List.flatten_nil, List.append_nil, hostOps0]
  after_results
  try rfl
theorem V_v6' : V m c main_v6 = transpose S32x64x3072 [0, 2, 1] (m ((c : Thread nD τ).loc main_arg4)) transposes_S32x3072x64_S32x64x3072_0_2_1 := by
  simp only [V, V0, List.flatten_cons, List.flatten_nil, List.append_nil, hostOps0]
  after_results
  try rfl
theorem V_v7' : V m c main_v7 = transpose S32x48x16x2048 [0, 2, 3, 1] (m ((c : Thread nD τ).loc main_arg5)) transposes_S32x2048x48x16_S32x48x16x2048_0_2_3_1 := by
  simp only [V, V0, List.flatten_cons, List.flatten_nil, List.append_nil, hostOps0]
  after_results
  try rfl
theorem V_v8' : V m c main_v8 = transpose S32x48x2048 [0, 2, 1] (m ((c : Thread nD τ).loc main_arg6)) transposes_S32x2048x48_S32x48x2048_0_2_1 := by
  simp only [V, V0, List.flatten_cons, List.flatten_nil, List.append_nil, hostOps0]
  after_results
  try rfl

/-- The arrays the kernel is handed hold what the reference's arguments hold. -/
theorem same : Cert.ReferenceIdeal.Hand.Same (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (wts m c) (V m c main_v0) (V m c main_v2) (V m c main_v4) where
  x t k := by
    rw [V_v0']
    refine Idealize.ShloMosaic.shapeCast_apply _ shapeCasts_S16x1x2048_S16x2048 _ (ix3 t 0 k) ?_
    rw [Shape.rowMajor_val_three, Shape.rowMajor_val_two]
    show (t.val * 1 + 0) * 2048 + k.val = t.val * 2048 + k.val; omega
  id t j := by
    rw [V_v2]
    pointwise
  wd t j := by
    rw [V_v4']
    pointwise
  gu e C a b := by
    show V m c main_v5 _ = _
    rw [V_v5']
    pointwise
  gus e C a := by
    show V m c main_v6 _ = _
    rw [V_v6']
    pointwise
  dn e C a b := by
    show V m c main_v7 _ = _
    rw [V_v7']
    pointwise
  dns e C a := by
    show V m c main_v8 _ = _
    rw [V_v8']
    pointwise

/-- What the one point leaves. -/
def outV : Buf (Elt Ideal) ((c : Thread nD τ).loc main_v9) := outOf (wts m c) (V m c main_v0) (V m c main_v2) (V m c main_v2) (V m c main_v4)

theorem emb_4 (t : Fin cfg0.N) (j : S16x2048.Idx) : ((cfg0.win 4).blk t).view.emb j = j := by
  refine funext fun a => Fin.ext ?_
  show 0 * _ + 1 * (j a).val = (j a).val
  omega

theorem cut_4 (t : Fin cfg0.N) (Y : Vec Ideal S16x2048 .bf16) : (cfg0.win 4).cut (grid0.coords t) Y = ((cfg0.win 4).blk t).view.read (Elt Ideal) Y := by
  funext j
  show Y j = Y (((cfg0.win 4).blk t).view.emb j)
  rw [emb_4]

theorem out_4 (t : Fin cfg0.N) : outAt m c t = outV m c := by
  unfold outAt
  rw [iblk_0, iblk_1, iblk_2, iblk_3]
  rfl

theorem flushed_4 (t : Fin cfg0.N) : (dats m 0 c).flushed 4 t = ((cfg0.win 4).blk t).view.read (Elt Ideal) (outV m c) := by
  show (cfg0.win 4).cut (grid0.coords t) ((dats m 0 c).after 4 t) = _
  rw [after_4, out_4]
  exact cut_4 t _

theorem cover_4 (i : S16x2048.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb_4] at h⟩

/-- The output array ends as what the kernel's one point leaves. -/
theorem arr_out : (dats m 0 c).arrAt 4 cfg0.N = outV m c :=
  (dats m 0 c).arrAt_eq_of_cover 4 (outV m c) (fun t _ => flushed_4 m c t) cover_4

/-- The kernel's result is that array, reshaped. -/
theorem result_eq : resultOf m c = shapeCast S16x1x2048 (outV m c) shapeCasts_S16x2048_S16x1x2048 := by
  unfold resultOf Pipeline.afterTail₀
  simp only [List.flatten_cons, List.flatten_nil, List.append_nil, hostOps1]
  after_results
  have h := (Pipeline.Dat.withArrays_arrAt (dats m 0 c) sharedIn0 (V0 m c) (A_eq m c) 4).trans (arr_out m c)
  funext i
  exact congrArg (fun z => shapeCast S16x1x2048 z shapeCasts_S16x2048_S16x1x2048 i) h

/-- The kernel's result is the reference's of the same arguments. -/
theorem result_ref (hid : ∀ i, (m ((c : Thread nD τ).loc main_arg1) i : BitVec 32).toNat < 32)
    (h4 : ∀ i, 2 ≤ (m ((c : Thread nD τ).loc main_arg4) i : BitVec 8).toNat ∧ (m ((c : Thread nD τ).loc main_arg4) i : BitVec 8).toNat ≤ 252)
    (h6 : ∀ i, 2 ≤ (m ((c : Thread nD τ).loc main_arg6) i : BitVec 8).toNat ∧ (m ((c : Thread nD τ).loc main_arg6) i : BitVec 8).toNat ≤ 252) :
    resultOf m c = Cert.ReferenceIdeal.Read.val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [result_eq]
  funext i
  have hS := same m c
  obtain ⟨t, C, rfl⟩ : ∃ (t : Fin 16) (C : Fin 2048), i = ix3 t 0 C := by
    refine ⟨⟨(i 0).val, (i 0).isLt⟩, ⟨(i 2).val, (i 2).isLt⟩, ?_⟩
    funext a
    fin_cases a
    · rfl
    · exact Subsingleton.elim (α := Fin 1) _ _
    · rfl
  have hgus : ∀ y, 2 ≤ ((wts m c).gus y : BitVec 8).toNat ∧ ((wts m c).gus y : BitVec 8).toNat ≤ 252 := by
    intro y
    show 2 ≤ (V m c main_v6 y : BitVec 8).toNat ∧ (V m c main_v6 y : BitVec 8).toNat ≤ 252
    rw [V_v6']; exact h4 _
  have hdns : ∀ y, 2 ≤ ((wts m c).dns y : BitVec 8).toNat ∧ ((wts m c).dns y : BitVec 8).toNat ≤ 252 := by
    intro y
    show 2 ≤ (V m c main_v8 y : BitVec 8).toNat ∧ (V m c main_v8 y : BitVec 8).toNat ≤ 252
    rw [V_v8']; exact h6 _
  have hd : ∀ y, (V m c main_v2 y : BitVec 32).toNat < 32 := by
    intro y; rw [V_v2]; exact hid _
  refine Eq.trans ?_ (Cert.ReferenceIdeal.Hand.v205_eq hS t C).symm
  refine (Idealize.ShloMosaic.shapeCast_apply _ shapeCasts_S16x2048_S16x1x2048 _ (ix2 t C) ?_).trans ?_
  · rw [Shape.rowMajor_val_three, Shape.rowMajor_val_two]
    show t.val * 2048 + C.val = (t.val * 1 + 0) * 2048 + C.val; omega
  · exact outOf_apply (V m c main_v2) hd (wts m c) (V m c main_v0) (V m c main_v4) t hgus hdns C

end Cert.KernelIdeal.Hand
-- ==== Proof.lean ====
module

public import proofs.«01_k».proof.Defs
public import proofs.«01_k».proof.Proof.IdsI
public import proofs.«01_k».proof.Proof.IdsK
public import proofs.«01_k».proof.Proof.PreI
public import proofs.«01_k».proof.Proof.ResI
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_range
public import proofs.«01_k».proof.Proof.Gen.Pre_ids_and_scales_in_range
public import Idealize.ShloMosaic.Lib.Quiescent

@[expose] public section

noncomputable section

namespace Cert.Proof

open Idealize.ShloMosaic Idealize.ShloMosaic.TcCoe Idealize.SL.Sem

/-- Over the reals the kernel and the reference leave the same result: the kernel's is what its run leaves, which is the
    reference's at the same arguments. -/
theorem same_result (hPre : Cert.Pre_ids_and_scales_in_range.Facts) :
    algebraic_KernelIdeal_ReferenceIdeal_pre_ids_and_scales_in_range (hKernelIdeal := Cert.KernelIdeal.Gen.facts) (hReferenceIdeal := Cert.ReferenceIdeal.Gen.facts) (hPre_ids_and_scales_in_range := hPre) := by
  intro m g m' g' hpre hagree
  refine ⟨fun c => Cert.KernelIdeal.Hand.resultOf m c,
    Cert.KernelIdeal.Hand.value_run m g (Cert.KernelIdeal.Hand.hids m fun c i => (Cert.KernelIdeal.Hand.of_pre2 m hPre c (hpre c)).1 i), ?_⟩
  refine (θ_run (Cert.ReferenceIdeal.defs (F := Ideal)) _ _).mono (fun r h c => And.intro ?_ (h c).2) (Cert.ReferenceIdeal.Value.run m' g')
  refine (h c).1.trans ((Cert.ReferenceIdeal.Read.val_main_v205_eq (StableHlo.launchContents m' c)).trans ?_)
  obtain ⟨hi, h4, h6⟩ := Cert.KernelIdeal.Hand.of_pre2 m hPre c (hpre c)
  obtain ⟨e0, e1, e2, e3, e4, e5, e6⟩ := hagree c
  show Cert.ReferenceIdeal.Read.val_main_v205 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [e0, e1, e2, e3, e4, e5, e6]
  exact (Cert.KernelIdeal.Hand.result_ref m c hi h4 h6).symm

/-- The kernel, as printed and over the reals, runs to its end, leaves its arguments as they were and every counter at
    nought: its runs say so once the expert numbers name experts. So does the reference; and over the reals the two leave the
    same result. -/
theorem claim : Cert.Claim :=
  ⟨Cert.Kernel.Gen.facts, Cert.KernelIdeal.Gen.facts, Cert.ReferenceIdeal.Gen.facts, Cert.Pre_ids_in_range.Gen.facts, Cert.Pre_ids_and_scales_in_range.Gen.facts,
    fun m g h => Cert.Kernel.Hand.frame_run m g (Cert.Kernel.Hand.hids m fun c i => Cert.Kernel.Hand.ids_of_pre m _ c (h c) i),
    fun m g h => Cert.KernelIdeal.Hand.frame_run m g
      (Cert.KernelIdeal.Hand.hids m fun c i => Cert.KernelIdeal.Hand.ids_of_pre m _ c (h c) i),
    fun m g h => Cert.KernelIdeal.Hand.frame_run m g
      (Cert.KernelIdeal.Hand.hids m fun c i => (Cert.KernelIdeal.Hand.of_pre2 m _ c (h c)).1 i),
    fun m g _ => (θ_run (Cert.ReferenceIdeal.defs (F := Ideal)) _ _).mono
      (fun r h => And.intro (fun c => (h c).2) (sem_eq_zero_of_no_sems rfl r.2)) (Cert.ReferenceIdeal.Value.run m g),
    fun m g _ => (θ_run (Cert.ReferenceIdeal.defs (F := Ideal)) _ _).mono
      (fun r h => And.intro (fun c => (h c).2) (sem_eq_zero_of_no_sems rfl r.2)) (Cert.ReferenceIdeal.Value.run m g),
    trivial,
    same_result _⟩

end Cert.Proof

end
